-- ==== Defs.lean ====
def Pre_Kernel [hPre_words_in_range : Cert.Pre_words_in_range.Facts] (m : (ℓ : Loc Cert.Kernel.nD Cert.Kernel.τ Cert.Kernel.sig) → Buf (Elt Bits) ℓ) : Prop :=
  ∀ c : Dev Cert.Kernel.nD,
    (Cert.Pre_words_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_words_in_range : Cert.Pre_words_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_in_range [hPre_words_in_range : Cert.Pre_words_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_words_in_range : Cert.Pre_words_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_words_in_range : Cert.Pre_words_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_words_in_range [hReferenceIdeal : Cert.ReferenceIdeal.Facts] [hPre_words_in_range : Cert.Pre_words_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_words_in_range : Cert.Pre_words_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_words_in_range : Cert.Pre_words_in_range.Facts),
    quiescent_Kernel (hKernel := hKernel) (hPre_words_in_range := hPre_words_in_range)
    ∧ quiescent_KernelIdeal (hKernelIdeal := hKernelIdeal) (hPre_words_in_range := hPre_words_in_range)
    ∧ quiescent_ReferenceIdeal (hReferenceIdeal := hReferenceIdeal)
    ∧ quiescent_ReferenceIdeal_pre_words_in_range (hReferenceIdeal := hReferenceIdeal) (hPre_words_in_range := hPre_words_in_range)
    ∧ preserves_Kernel_KernelIdeal
    ∧ algebraic_KernelIdeal_ReferenceIdeal (hKernelIdeal := hKernelIdeal) (hReferenceIdeal := hReferenceIdeal) (hPre_words_in_range := hPre_words_in_range)
-- ==== Pre_words_in_range.lean ====
abbrev S200 : Shape := ⟨1, ![200]⟩
abbrev S1000000x64 : Shape := ⟨2, ![1000000, 64]⟩
abbrev S1000000 : Shape := ⟨1, ![1000000]⟩
abbrev S_ : Shape := ⟨0, ![]⟩

class Facts : Prop where
  bcast_S_S200 : S_.BroadcastsInDim S200 (![] : Fin 0 → Fin S200.rank)
  reducesTo_S200_S_d0 : S200.ReducesTo [0] S_
  h_S_ : 0 < S_.numel

variable [Facts]

def fn {F : FTy → Type} [FloatOps F] (main_arg0 : IVec S200 32) (main_arg1 : FVec F S1000000x64 .f32) (main_arg2 : FVec F S1000000x64 .f32) (main_arg3 : FVec F S1000000 .f32) : IVec S_ 1 :=
  let main_c : IVec S_ 32 := constantI S_ 32 0#32
  let main_v0 : IVec S200 32 := broadcastInDim S200 ![] bcast_S_S200 main_c
  let main_v1 : IVec S200 1 := cmpi .sge main_arg0 main_v0
  let main_c_0 : IVec S_ 32 := constantI S_ 32 999936#32
  let main_v2 : IVec S200 32 := broadcastInDim S200 ![] bcast_S_S200 main_c_0
  let main_v3 : IVec S200 1 := cmpi .slt main_arg0 main_v2
  let main_v4 : IVec S200 1 := andi main_v1 main_v3
  let main_c_1 : IVec S_ 1 := constantI S_ 1 1#1
  let main_v5 : IVec S_ 1 := (fun x v => Host.reduce IntOp.andi x v reducesTo_S200_S_d0 h_S_) main_v4 main_c_1
  main_v5
-- ==== Kernel.lean ====
abbrev S200 : Shape := ⟨1, ![200]⟩
abbrev S1000000x64 : Shape := ⟨2, ![1000000, 64]⟩
abbrev S1000000 : Shape := ⟨1, ![1000000]⟩
abbrev S_ : Shape := ⟨0, ![]⟩
abbrev S25600 : Shape := ⟨1, ![25600]⟩
abbrev S200x1 : Shape := ⟨2, ![200, 1]⟩
abbrev S1x25600 : Shape := ⟨2, ![1, 25600]⟩
abbrev S64x1000000 : Shape := ⟨2, ![64, 1000000]⟩
abbrev S1015808 : Shape := ⟨1, ![1015808]⟩
abbrev S1x1000000 : Shape := ⟨2, ![1, 1000000]⟩
abbrev S64x32768 : Shape := ⟨2, ![64, 32768]⟩
abbrev S1x32768 : Shape := ⟨2, ![1, 32768]⟩
abbrev S64x25600 : Shape := ⟨2, ![64, 25600]⟩
abbrev S1x64 : Shape := ⟨2, ![1, 64]⟩
abbrev S1 : Shape := ⟨1, ![1]⟩
abbrev S64x128 : Shape := ⟨2, ![64, 128]⟩
abbrev S32768 : Shape := ⟨1, ![32768]⟩

abbrev nBuf : Space → Nat
  | .hbm => 50
  | .vmem => 8
  | .smem => 1
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000, .f32⟩
  | .hbm, ⟨3, _⟩ => ⟨S200, .i32⟩
  | .hbm, ⟨4, _⟩ => ⟨S_, .i32⟩
  | .hbm, ⟨5, _⟩ => ⟨S200, .i32⟩
  | .hbm, ⟨6, _⟩ => ⟨S200, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S200, .i32⟩
  | .hbm, ⟨14, _⟩ => ⟨S200, .i32⟩
  | .hbm, ⟨15, _⟩ => ⟨S_, .i32⟩
  | .hbm, ⟨16, _⟩ => ⟨S200, .i32⟩
  | .hbm, ⟨17, _⟩ => ⟨S200, .i1⟩
  | .hbm, ⟨18, _⟩ => ⟨S_, .i32⟩
  | .hbm, ⟨19, _⟩ => ⟨S200, .i32⟩
  | .hbm, ⟨20, _⟩ => ⟨S200, .i1⟩
  | .hbm, ⟨21, _⟩ => ⟨S_, .i32⟩
  | .hbm, ⟨22, _⟩ => ⟨S_, .i1⟩
  | .hbm, ⟨23, _⟩ => ⟨S200, .i1⟩
  | .hbm, ⟨24, _⟩ => ⟨S200, .i1⟩
  | .hbm, ⟨25, _⟩ => ⟨S200, .i1⟩
  | .hbm, ⟨26, _⟩ => ⟨S200, .i32⟩
  | .hbm, ⟨27, _⟩ => ⟨S200, .i32⟩
  | .hbm, ⟨28, _⟩ => ⟨S200, .i32⟩
  | .hbm, ⟨29, _⟩ => ⟨S200, .i32⟩
  | .hbm, ⟨30, _⟩ => ⟨S_, .f32⟩
  | .hbm, ⟨31, _⟩ => ⟨S25600, .f32⟩
  | .hbm, ⟨32, _⟩ => ⟨S_, .i32⟩
  | .hbm, ⟨33, _⟩ => ⟨S200, .i32⟩
  | .hbm, ⟨34, _⟩ => ⟨S200, .i1⟩
  | .hbm, ⟨35, _⟩ => ⟨S_, .i32⟩
  | .hbm, ⟨36, _⟩ => ⟨S200, .i32⟩
  | .hbm, ⟨37, _⟩ => ⟨S200, .i32⟩
  | .hbm, ⟨38, _⟩ => ⟨S200, .i32⟩
  | .hbm, ⟨39, _⟩ => ⟨S200x1, .i32⟩
  | .hbm, ⟨40, _⟩ => ⟨S_, .f32⟩
  | .hbm, ⟨41, _⟩ => ⟨S200, .f32⟩
  | .hbm, ⟨42, _⟩ => ⟨S25600, .f32⟩
  | .hbm, ⟨43, _⟩ => ⟨S1x25600, .f32⟩
  | .hbm, ⟨44, _⟩ => ⟨S64x1000000, .f32⟩
  | .hbm, ⟨45, _⟩ => ⟨S64x1000000, .f32⟩
  | .hbm, ⟨46, _⟩ => ⟨S_, .i32⟩
  | .hbm, ⟨47, _⟩ => ⟨S_, .f32⟩
  | .hbm, ⟨48, _⟩ => ⟨S1015808, .f32⟩
  | .hbm, ⟨49, _⟩ => ⟨S1x1000000, .f32⟩
  | .local _ .vmem, ⟨0, _⟩ => ⟨S1x25600, .f32⟩
  | .local _ .vmem, ⟨1, _⟩ => ⟨S64x32768, .f32⟩
  | .local _ .vmem, ⟨2, _⟩ => ⟨S64x32768, .f32⟩
  | .local _ .vmem, ⟨3, _⟩ => ⟨S1x32768, .f32⟩
  | .local _ .vmem, ⟨4, _⟩ => ⟨S1x32768, .f32⟩
  | .local _ .vmem, ⟨5, _⟩ => ⟨S64x25600, .f32⟩
  | .local _ .vmem, ⟨6, _⟩ => ⟨S1x64, .f32⟩
  | .local _ .vmem, ⟨7, _⟩ => ⟨S1015808, .f32⟩
  | .local _ .smem, ⟨0, _⟩ => ⟨S200, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_c_1 : Ref sig .tc := ⟨.hbm, 32, rfl⟩
abbrev main_v6 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_call1_v0 : Ref sig .tc := ⟨.hbm, 47, rfl⟩
abbrev main_v17 : Ref sig .tc := ⟨.hbm, 48, rfl⟩
abbrev main_v18 : Ref sig .tc := ⟨.hbm, 49, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (v6 : BitVec 32) : BitVec 32 :=
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c128_i32 : BitVec 32 := 128#32
  let c0_i32_5 : BitVec 32 := 0#32
  let v13 : BitVec 1 := Scalar.cmpi .sgt c128_i32 c0_i32_5
  let v14 : BitVec 32 := Scalar.extui v13
  let c0_i32_6 : BitVec 32 := 0#32
  let v15 : BitVec 1 := Scalar.cmpi .slt c128_i32 c0_i32_6
  let v16 : BitVec 32 := Scalar.extui v15
  let v17 : BitVec 32 := Scalar.subi v14 v16
  let v18 : BitVec 1 := Scalar.cmpi .ne v12 v17
  let v19 : BitVec 32 := Scalar.remsi v6 c128_i32
  let c0_i32_7 : BitVec 32 := 0#32
  let v20 : BitVec 1 := Scalar.cmpi .ne v19 c0_i32_7
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let c128_i32_8 : BitVec 32 := 128#32
  let v24 : BitVec 32 := Scalar.muli v23 c128_i32_8
  v24

def k0_mult2 (v26 : BitVec 32) : BitVec 32 :=
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c128_i32_9 : BitVec 32 := 128#32
  let c0_i32_12 : BitVec 32 := 0#32
  let v33 : BitVec 1 := Scalar.cmpi .sgt c128_i32_9 c0_i32_12
  let v34 : BitVec 32 := Scalar.extui v33
  let c0_i32_13 : BitVec 32 := 0#32
  let v35 : BitVec 1 := Scalar.cmpi .slt c128_i32_9 c0_i32_13
  let v36 : BitVec 32 := Scalar.extui v35
  let v37 : BitVec 32 := Scalar.subi v34 v36
  let v38 : BitVec 1 := Scalar.cmpi .ne v32 v37
  let v39 : BitVec 32 := Scalar.remsi v26 c128_i32_9
  let c0_i32_14 : BitVec 32 := 0#32
  let v40 : BitVec 1 := Scalar.cmpi .ne v39 c0_i32_14
  let v41 : BitVec 1 := Scalar.andi v38 v40
  let v27 : BitVec 32 := Scalar.divsi v26 c128_i32_9
  let c1_i32_15 : BitVec 32 := 1#32
  let v42 : BitVec 32 := Scalar.subi v27 c1_i32_15
  let v43 : BitVec 32 := Scalar.select v41 v42 v27
  let c128_i32_16 : BitVec 32 := 128#32
  let v44 : BitVec 32 := Scalar.muli v43 c128_i32_16
  v44

def k0_mult3 (v46 : BitVec 32) : BitVec 32 :=
  let c0_i32_18 : BitVec 32 := 0#32
  let v48 : BitVec 1 := Scalar.cmpi .sgt v46 c0_i32_18
  let v49 : BitVec 32 := Scalar.extui v48
  let c0_i32_19 : BitVec 32 := 0#32
  let v50 : BitVec 1 := Scalar.cmpi .slt v46 c0_i32_19
  let v51 : BitVec 32 := Scalar.extui v50
  let v52 : BitVec 32 := Scalar.subi v49 v51
  let c128_i32_17 : BitVec 32 := 128#32
  let c0_i32_20 : BitVec 32 := 0#32
  let v53 : BitVec 1 := Scalar.cmpi .sgt c128_i32_17 c0_i32_20
  let v54 : BitVec 32 := Scalar.extui v53
  let c0_i32_21 : BitVec 32 := 0#32
  let v55 : BitVec 1 := Scalar.cmpi .slt c128_i32_17 c0_i32_21
  let v56 : BitVec 32 := Scalar.extui v55
  let v57 : BitVec 32 := Scalar.subi v54 v56
  let v58 : BitVec 1 := Scalar.cmpi .ne v52 v57
  let v59 : BitVec 32 := Scalar.remsi v46 c128_i32_17
  let c0_i32_22 : BitVec 32 := 0#32
  let v60 : BitVec 1 := Scalar.cmpi .ne v59 c0_i32_22
  let v61 : BitVec 1 := Scalar.andi v58 v60
  let v47 : BitVec 32 := Scalar.divsi v46 c128_i32_17
  let c1_i32_23 : BitVec 32 := 1#32
  let v62 : BitVec 32 := Scalar.subi v47 c1_i32_23
  let v63 : BitVec 32 := Scalar.select v61 v62 v47
  let c128_i32_24 : BitVec 32 := 128#32
  let v64 : BitVec 32 := Scalar.muli v63 c128_i32_24
  v64

def k0_mult4 (v66 : BitVec 32) : BitVec 32 :=
  let c0_i32_26 : BitVec 32 := 0#32
  let v68 : BitVec 1 := Scalar.cmpi .sgt v66 c0_i32_26
  let v69 : BitVec 32 := Scalar.extui v68
  let c0_i32_27 : BitVec 32 := 0#32
  let v70 : BitVec 1 := Scalar.cmpi .slt v66 c0_i32_27
  let v71 : BitVec 32 := Scalar.extui v70
  let v72 : BitVec 32 := Scalar.subi v69 v71
  let c128_i32_25 : BitVec 32 := 128#32
  let c0_i32_28 : BitVec 32 := 0#32
  let v73 : BitVec 1 := Scalar.cmpi .sgt c128_i32_25 c0_i32_28
  let v74 : BitVec 32 := Scalar.extui v73
  let c0_i32_29 : BitVec 32 := 0#32
  let v75 : BitVec 1 := Scalar.cmpi .slt c128_i32_25 c0_i32_29
  let v76 : BitVec 32 := Scalar.extui v75
  let v77 : BitVec 32 := Scalar.subi v74 v76
  let v78 : BitVec 1 := Scalar.cmpi .ne v72 v77
  let v79 : BitVec 32 := Scalar.remsi v66 c128_i32_25
  let c0_i32_30 : BitVec 32 := 0#32
  let v80 : BitVec 1 := Scalar.cmpi .ne v79 c0_i32_30
  let v81 : BitVec 1 := Scalar.andi v78 v80
  let v67 : BitVec 32 := Scalar.divsi v66 c128_i32_25
  let c1_i32_31 : BitVec 32 := 1#32
  let v82 : BitVec 32 := Scalar.subi v67 c1_i32_31
  let v83 : BitVec 32 := Scalar.select v81 v82 v67
  let c128_i32_32 : BitVec 32 := 128#32
  let v84 : BitVec 32 := Scalar.muli v83 c128_i32_32
  v84

def k0_mult5 (v86 : BitVec 32) : BitVec 32 :=
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c128_i32_33 : BitVec 32 := 128#32
  let c0_i32_36 : BitVec 32 := 0#32
  let v93 : BitVec 1 := Scalar.cmpi .sgt c128_i32_33 c0_i32_36
  let v94 : BitVec 32 := Scalar.extui v93
  let c0_i32_37 : BitVec 32 := 0#32
  let v95 : BitVec 1 := Scalar.cmpi .slt c128_i32_33 c0_i32_37
  let v96 : BitVec 32 := Scalar.extui v95
  let v97 : BitVec 32 := Scalar.subi v94 v96
  let v98 : BitVec 1 := Scalar.cmpi .ne v92 v97
  let v99 : BitVec 32 := Scalar.remsi v86 c128_i32_33
  let c0_i32_38 : BitVec 32 := 0#32
  let v100 : BitVec 1 := Scalar.cmpi .ne v99 c0_i32_38
  let v101 : BitVec 1 := Scalar.andi v98 v100
  let v87 : BitVec 32 := Scalar.divsi v86 c128_i32_33
  let c1_i32_39 : BitVec 32 := 1#32
  let v102 : BitVec 32 := Scalar.subi v87 c1_i32_39
  let v103 : BitVec 32 := Scalar.select v101 v102 v87
  let c128_i32_40 : BitVec 32 := 128#32
  let v104 : BitVec 32 := Scalar.muli v103 c128_i32_40
  v104

def k0_mult6 (v106 : BitVec 32) : BitVec 32 :=
  let c0_i32_42 : BitVec 32 := 0#32
  let v108 : BitVec 1 := Scalar.cmpi .sgt v106 c0_i32_42
  let v109 : BitVec 32 := Scalar.extui v108
  let c0_i32_43 : BitVec 32 := 0#32
  let v110 : BitVec 1 := Scalar.cmpi .slt v106 c0_i32_43
  let v111 : BitVec 32 := Scalar.extui v110
  let v112 : BitVec 32 := Scalar.subi v109 v111
  let c128_i32_41 : BitVec 32 := 128#32
  let c0_i32_44 : BitVec 32 := 0#32
  let v113 : BitVec 1 := Scalar.cmpi .sgt c128_i32_41 c0_i32_44
  let v114 : BitVec 32 := Scalar.extui v113
  let c0_i32_45 : BitVec 32 := 0#32
  let v115 : BitVec 1 := Scalar.cmpi .slt c128_i32_41 c0_i32_45
  let v116 : BitVec 32 := Scalar.extui v115
  let v117 : BitVec 32 := Scalar.subi v114 v116
  let v118 : BitVec 1 := Scalar.cmpi .ne v112 v117
  let v119 : BitVec 32 := Scalar.remsi v106 c128_i32_41
  let c0_i32_46 : BitVec 32 := 0#32
  let v120 : BitVec 1 := Scalar.cmpi .ne v119 c0_i32_46
  let v121 : BitVec 1 := Scalar.andi v118 v120
  let v107 : BitVec 32 := Scalar.divsi v106 c128_i32_41
  let c1_i32_47 : BitVec 32 := 1#32
  let v122 : BitVec 32 := Scalar.subi v107 c1_i32_47
  let v123 : BitVec 32 := Scalar.select v121 v122 v107
  let c128_i32_48 : BitVec 32 := 128#32
  let v124 : BitVec 32 := Scalar.muli v123 c128_i32_48
  v124

def k0_mult7 (v126 : BitVec 32) : BitVec 32 :=
  let c0_i32_50 : BitVec 32 := 0#32
  let v128 : BitVec 1 := Scalar.cmpi .sgt v126 c0_i32_50
  let v129 : BitVec 32 := Scalar.extui v128
  let c0_i32_51 : BitVec 32 := 0#32
  let v130 : BitVec 1 := Scalar.cmpi .slt v126 c0_i32_51
  let v131 : BitVec 32 := Scalar.extui v130
  let v132 : BitVec 32 := Scalar.subi v129 v131
  let c128_i32_49 : BitVec 32 := 128#32
  let c0_i32_52 : BitVec 32 := 0#32
  let v133 : BitVec 1 := Scalar.cmpi .sgt c128_i32_49 c0_i32_52
  let v134 : BitVec 32 := Scalar.extui v133
  let c0_i32_53 : BitVec 32 := 0#32
  let v135 : BitVec 1 := Scalar.cmpi .slt c128_i32_49 c0_i32_53
  let v136 : BitVec 32 := Scalar.extui v135
  let v137 : BitVec 32 := Scalar.subi v134 v136
  let v138 : BitVec 1 := Scalar.cmpi .ne v132 v137
  let v139 : BitVec 32 := Scalar.remsi v126 c128_i32_49
  let c0_i32_54 : BitVec 32 := 0#32
  let v140 : BitVec 1 := Scalar.cmpi .ne v139 c0_i32_54
  let v141 : BitVec 1 := Scalar.andi v138 v140
  let v127 : BitVec 32 := Scalar.divsi v126 c128_i32_49
  let c1_i32_55 : BitVec 32 := 1#32
  let v142 : BitVec 32 := Scalar.subi v127 c1_i32_55
  let v143 : BitVec 32 := Scalar.select v141 v142 v127
  let c128_i32_56 : BitVec 32 := 128#32
  let v144 : BitVec 32 := Scalar.muli v143 c128_i32_56
  v144

def k0_mult8 (v146 : BitVec 32) : BitVec 32 :=
  let c0_i32_58 : BitVec 32 := 0#32
  let v148 : BitVec 1 := Scalar.cmpi .sgt v146 c0_i32_58
  let v149 : BitVec 32 := Scalar.extui v148
  let c0_i32_59 : BitVec 32 := 0#32
  let v150 : BitVec 1 := Scalar.cmpi .slt v146 c0_i32_59
  let v151 : BitVec 32 := Scalar.extui v150
  let v152 : BitVec 32 := Scalar.subi v149 v151
  let c128_i32_57 : BitVec 32 := 128#32
  let c0_i32_60 : BitVec 32 := 0#32
  let v153 : BitVec 1 := Scalar.cmpi .sgt c128_i32_57 c0_i32_60
  let v154 : BitVec 32 := Scalar.extui v153
  let c0_i32_61 : BitVec 32 := 0#32
  let v155 : BitVec 1 := Scalar.cmpi .slt c128_i32_57 c0_i32_61
  let v156 : BitVec 32 := Scalar.extui v155
  let v157 : BitVec 32 := Scalar.subi v154 v156
  let v158 : BitVec 1 := Scalar.cmpi .ne v152 v157
  let v159 : BitVec 32 := Scalar.remsi v146 c128_i32_57
  let c0_i32_62 : BitVec 32 := 0#32
  let v160 : BitVec 1 := Scalar.cmpi .ne v159 c0_i32_62
  let v161 : BitVec 1 := Scalar.andi v158 v160
  let v147 : BitVec 32 := Scalar.divsi v146 c128_i32_57
  let c1_i32_63 : BitVec 32 := 1#32
  let v162 : BitVec 32 := Scalar.subi v147 c1_i32_63
  let v163 : BitVec 32 := Scalar.select v161 v162 v147
  let c128_i32_64 : BitVec 32 := 128#32
  let v164 : BitVec 32 := Scalar.muli v163 c128_i32_64
  v164

def k0_mult9 (v166 : BitVec 32) : BitVec 32 :=
  let c0_i32_66 : BitVec 32 := 0#32
  let v168 : BitVec 1 := Scalar.cmpi .sgt v166 c0_i32_66
  let v169 : BitVec 32 := Scalar.extui v168
  let c0_i32_67 : BitVec 32 := 0#32
  let v170 : BitVec 1 := Scalar.cmpi .slt v166 c0_i32_67
  let v171 : BitVec 32 := Scalar.extui v170
  let v172 : BitVec 32 := Scalar.subi v169 v171
  let c128_i32_65 : BitVec 32 := 128#32
  let c0_i32_68 : BitVec 32 := 0#32
  let v173 : BitVec 1 := Scalar.cmpi .sgt c128_i32_65 c0_i32_68
  let v174 : BitVec 32 := Scalar.extui v173
  let c0_i32_69 : BitVec 32 := 0#32
  let v175 : BitVec 1 := Scalar.cmpi .slt c128_i32_65 c0_i32_69
  let v176 : BitVec 32 := Scalar.extui v175
  let v177 : BitVec 32 := Scalar.subi v174 v176
  let v178 : BitVec 1 := Scalar.cmpi .ne v172 v177
  let v179 : BitVec 32 := Scalar.remsi v166 c128_i32_65
  let c0_i32_70 : BitVec 32 := 0#32
  let v180 : BitVec 1 := Scalar.cmpi .ne v179 c0_i32_70
  let v181 : BitVec 1 := Scalar.andi v178 v180
  let v167 : BitVec 32 := Scalar.divsi v166 c128_i32_65
  let c1_i32_71 : BitVec 32 := 1#32
  let v182 : BitVec 32 := Scalar.subi v167 c1_i32_71
  let v183 : BitVec 32 := Scalar.select v181 v182 v167
  let c128_i32_72 : BitVec 32 := 128#32
  let v184 : BitVec 32 := Scalar.muli v183 c128_i32_72
  v184

def k0_mult10 (v186 : BitVec 32) : BitVec 32 :=
  let c0_i32_74 : BitVec 32 := 0#32
  let v188 : BitVec 1 := Scalar.cmpi .sgt v186 c0_i32_74
  let v189 : BitVec 32 := Scalar.extui v188
  let c0_i32_75 : BitVec 32 := 0#32
  let v190 : BitVec 1 := Scalar.cmpi .slt v186 c0_i32_75
  let v191 : BitVec 32 := Scalar.extui v190
  let v192 : BitVec 32 := Scalar.subi v189 v191
  let c128_i32_73 : BitVec 32 := 128#32
  let c0_i32_76 : BitVec 32 := 0#32
  let v193 : BitVec 1 := Scalar.cmpi .sgt c128_i32_73 c0_i32_76
  let v194 : BitVec 32 := Scalar.extui v193
  let c0_i32_77 : BitVec 32 := 0#32
  let v195 : BitVec 1 := Scalar.cmpi .slt c128_i32_73 c0_i32_77
  let v196 : BitVec 32 := Scalar.extui v195
  let v197 : BitVec 32 := Scalar.subi v194 v196
  let v198 : BitVec 1 := Scalar.cmpi .ne v192 v197
  let v199 : BitVec 32 := Scalar.remsi v186 c128_i32_73
  let c0_i32_78 : BitVec 32 := 0#32
  let v200 : BitVec 1 := Scalar.cmpi .ne v199 c0_i32_78
  let v201 : BitVec 1 := Scalar.andi v198 v200
  let v187 : BitVec 32 := Scalar.divsi v186 c128_i32_73
  let c1_i32_79 : BitVec 32 := 1#32
  let v202 : BitVec 32 := Scalar.subi v187 c1_i32_79
  let v203 : BitVec 32 := Scalar.select v201 v202 v187
  let c128_i32_80 : BitVec 32 := 128#32
  let v204 : BitVec 32 := Scalar.muli v203 c128_i32_80
  v204

def k0_mult11 (v206 : BitVec 32) : BitVec 32 :=
  let c0_i32_82 : BitVec 32 := 0#32
  let v208 : BitVec 1 := Scalar.cmpi .sgt v206 c0_i32_82
  let v209 : BitVec 32 := Scalar.extui v208
  let c0_i32_83 : BitVec 32 := 0#32
  let v210 : BitVec 1 := Scalar.cmpi .slt v206 c0_i32_83
  let v211 : BitVec 32 := Scalar.extui v210
  let v212 : BitVec 32 := Scalar.subi v209 v211
  let c128_i32_81 : BitVec 32 := 128#32
  let c0_i32_84 : BitVec 32 := 0#32
  let v213 : BitVec 1 := Scalar.cmpi .sgt c128_i32_81 c0_i32_84
  let v214 : BitVec 32 := Scalar.extui v213
  let c0_i32_85 : BitVec 32 := 0#32
  let v215 : BitVec 1 := Scalar.cmpi .slt c128_i32_81 c0_i32_85
  let v216 : BitVec 32 := Scalar.extui v215
  let v217 : BitVec 32 := Scalar.subi v214 v216
  let v218 : BitVec 1 := Scalar.cmpi .ne v212 v217
  let v219 : BitVec 32 := Scalar.remsi v206 c128_i32_81
  let c0_i32_86 : BitVec 32 := 0#32
  let v220 : BitVec 1 := Scalar.cmpi .ne v219 c0_i32_86
  let v221 : BitVec 1 := Scalar.andi v218 v220
  let v207 : BitVec 32 := Scalar.divsi v206 c128_i32_81
  let c1_i32_87 : BitVec 32 := 1#32
  let v222 : BitVec 32 := Scalar.subi v207 c1_i32_87
  let v223 : BitVec 32 := Scalar.select v221 v222 v207
  let c128_i32_88 : BitVec 32 := 128#32
  let v224 : BitVec 32 := Scalar.muli v223 c128_i32_88
  v224

def k0_mult12 (v226 : BitVec 32) : BitVec 32 :=
  let c0_i32_90 : BitVec 32 := 0#32
  let v228 : BitVec 1 := Scalar.cmpi .sgt v226 c0_i32_90
  let v229 : BitVec 32 := Scalar.extui v228
  let c0_i32_91 : BitVec 32 := 0#32
  let v230 : BitVec 1 := Scalar.cmpi .slt v226 c0_i32_91
  let v231 : BitVec 32 := Scalar.extui v230
  let v232 : BitVec 32 := Scalar.subi v229 v231
  let c128_i32_89 : BitVec 32 := 128#32
  let c0_i32_92 : BitVec 32 := 0#32
  let v233 : BitVec 1 := Scalar.cmpi .sgt c128_i32_89 c0_i32_92
  let v234 : BitVec 32 := Scalar.extui v233
  let c0_i32_93 : BitVec 32 := 0#32
  let v235 : BitVec 1 := Scalar.cmpi .slt c128_i32_89 c0_i32_93
  let v236 : BitVec 32 := Scalar.extui v235
  let v237 : BitVec 32 := Scalar.subi v234 v236
  let v238 : BitVec 1 := Scalar.cmpi .ne v232 v237
  let v239 : BitVec 32 := Scalar.remsi v226 c128_i32_89
  let c0_i32_94 : BitVec 32 := 0#32
  let v240 : BitVec 1 := Scalar.cmpi .ne v239 c0_i32_94
  let v241 : BitVec 1 := Scalar.andi v238 v240
  let v227 : BitVec 32 := Scalar.divsi v226 c128_i32_89
  let c1_i32_95 : BitVec 32 := 1#32
  let v242 : BitVec 32 := Scalar.subi v227 c1_i32_95
  let v243 : BitVec 32 := Scalar.select v241 v242 v227
  let c128_i32_96 : BitVec 32 := 128#32
  let v244 : BitVec 32 := Scalar.muli v243 c128_i32_96
  v244

def k0_mult13 (v246 : BitVec 32) : BitVec 32 :=
  let c0_i32_98 : BitVec 32 := 0#32
  let v248 : BitVec 1 := Scalar.cmpi .sgt v246 c0_i32_98
  let v249 : BitVec 32 := Scalar.extui v248
  let c0_i32_99 : BitVec 32 := 0#32
  let v250 : BitVec 1 := Scalar.cmpi .slt v246 c0_i32_99
  let v251 : BitVec 32 := Scalar.extui v250
  let v252 : BitVec 32 := Scalar.subi v249 v251
  let c128_i32_97 : BitVec 32 := 128#32
  let c0_i32_100 : BitVec 32 := 0#32
  let v253 : BitVec 1 := Scalar.cmpi .sgt c128_i32_97 c0_i32_100
  let v254 : BitVec 32 := Scalar.extui v253
  let c0_i32_101 : BitVec 32 := 0#32
  let v255 : BitVec 1 := Scalar.cmpi .slt c128_i32_97 c0_i32_101
  let v256 : BitVec 32 := Scalar.extui v255
  let v257 : BitVec 32 := Scalar.subi v254 v256
  let v258 : BitVec 1 := Scalar.cmpi .ne v252 v257
  let v259 : BitVec 32 := Scalar.remsi v246 c128_i32_97
  let c0_i32_102 : BitVec 32 := 0#32
  let v260 : BitVec 1 := Scalar.cmpi .ne v259 c0_i32_102
  let v261 : BitVec 1 := Scalar.andi v258 v260
  let v247 : BitVec 32 := Scalar.divsi v246 c128_i32_97
  let c1_i32_103 : BitVec 32 := 1#32
  let v262 : BitVec 32 := Scalar.subi v247 c1_i32_103
  let v263 : BitVec 32 := Scalar.select v261 v262 v247
  let c128_i32_104 : BitVec 32 := 128#32
  let v264 : BitVec 32 := Scalar.muli v263 c128_i32_104
  v264

def k0_mult14 (v266 : BitVec 32) : BitVec 32 :=
  let c0_i32_106 : BitVec 32 := 0#32
  let v268 : BitVec 1 := Scalar.cmpi .sgt v266 c0_i32_106
  let v269 : BitVec 32 := Scalar.extui v268
  let c0_i32_107 : BitVec 32 := 0#32
  let v270 : BitVec 1 := Scalar.cmpi .slt v266 c0_i32_107
  let v271 : BitVec 32 := Scalar.extui v270
  let v272 : BitVec 32 := Scalar.subi v269 v271
  let c128_i32_105 : BitVec 32 := 128#32
  let c0_i32_108 : BitVec 32 := 0#32
  let v273 : BitVec 1 := Scalar.cmpi .sgt c128_i32_105 c0_i32_108
  let v274 : BitVec 32 := Scalar.extui v273
  let c0_i32_109 : BitVec 32 := 0#32
  let v275 : BitVec 1 := Scalar.cmpi .slt c128_i32_105 c0_i32_109
  let v276 : BitVec 32 := Scalar.extui v275
  let v277 : BitVec 32 := Scalar.subi v274 v276
  let v278 : BitVec 1 := Scalar.cmpi .ne v272 v277
  let v279 : BitVec 32 := Scalar.remsi v266 c128_i32_105
  let c0_i32_110 : BitVec 32 := 0#32
  let v280 : BitVec 1 := Scalar.cmpi .ne v279 c0_i32_110
  let v281 : BitVec 1 := Scalar.andi v278 v280
  let v267 : BitVec 32 := Scalar.divsi v266 c128_i32_105
  let c1_i32_111 : BitVec 32 := 1#32
  let v282 : BitVec 32 := Scalar.subi v267 c1_i32_111
  let v283 : BitVec 32 := Scalar.select v281 v282 v267
  let c128_i32_112 : BitVec 32 := 128#32
  let v284 : BitVec 32 := Scalar.muli v283 c128_i32_112
  v284

def k0_mult15 (v286 : BitVec 32) : BitVec 32 :=
  let c0_i32_114 : BitVec 32 := 0#32
  let v288 : BitVec 1 := Scalar.cmpi .sgt v286 c0_i32_114
  let v289 : BitVec 32 := Scalar.extui v288
  let c0_i32_115 : BitVec 32 := 0#32
  let v290 : BitVec 1 := Scalar.cmpi .slt v286 c0_i32_115
  let v291 : BitVec 32 := Scalar.extui v290
  let v292 : BitVec 32 := Scalar.subi v289 v291
  let c128_i32_113 : BitVec 32 := 128#32
  let c0_i32_116 : BitVec 32 := 0#32
  let v293 : BitVec 1 := Scalar.cmpi .sgt c128_i32_113 c0_i32_116
  let v294 : BitVec 32 := Scalar.extui v293
  let c0_i32_117 : BitVec 32 := 0#32
  let v295 : BitVec 1 := Scalar.cmpi .slt c128_i32_113 c0_i32_117
  let v296 : BitVec 32 := Scalar.extui v295
  let v297 : BitVec 32 := Scalar.subi v294 v296
  let v298 : BitVec 1 := Scalar.cmpi .ne v292 v297
  let v299 : BitVec 32 := Scalar.remsi v286 c128_i32_113
  let c0_i32_118 : BitVec 32 := 0#32
  let v300 : BitVec 1 := Scalar.cmpi .ne v299 c0_i32_118
  let v301 : BitVec 1 := Scalar.andi v298 v300
  let v287 : BitVec 32 := Scalar.divsi v286 c128_i32_113
  let c1_i32_119 : BitVec 32 := 1#32
  let v302 : BitVec 32 := Scalar.subi v287 c1_i32_119
  let v303 : BitVec 32 := Scalar.select v301 v302 v287
  let c128_i32_120 : BitVec 32 := 128#32
  let v304 : BitVec 32 := Scalar.muli v303 c128_i32_120
  v304

def k0_mult16 (v306 : BitVec 32) : BitVec 32 :=
  let c0_i32_122 : BitVec 32 := 0#32
  let v308 : BitVec 1 := Scalar.cmpi .sgt v306 c0_i32_122
  let v309 : BitVec 32 := Scalar.extui v308
  let c0_i32_123 : BitVec 32 := 0#32
  let v310 : BitVec 1 := Scalar.cmpi .slt v306 c0_i32_123
  let v311 : BitVec 32 := Scalar.extui v310
  let v312 : BitVec 32 := Scalar.subi v309 v311
  let c128_i32_121 : BitVec 32 := 128#32
  let c0_i32_124 : BitVec 32 := 0#32
  let v313 : BitVec 1 := Scalar.cmpi .sgt c128_i32_121 c0_i32_124
  let v314 : BitVec 32 := Scalar.extui v313
  let c0_i32_125 : BitVec 32 := 0#32
  let v315 : BitVec 1 := Scalar.cmpi .slt c128_i32_121 c0_i32_125
  let v316 : BitVec 32 := Scalar.extui v315
  let v317 : BitVec 32 := Scalar.subi v314 v316
  let v318 : BitVec 1 := Scalar.cmpi .ne v312 v317
  let v319 : BitVec 32 := Scalar.remsi v306 c128_i32_121
  let c0_i32_126 : BitVec 32 := 0#32
  let v320 : BitVec 1 := Scalar.cmpi .ne v319 c0_i32_126
  let v321 : BitVec 1 := Scalar.andi v318 v320
  let v307 : BitVec 32 := Scalar.divsi v306 c128_i32_121
  let c1_i32_127 : BitVec 32 := 1#32
  let v322 : BitVec 32 := Scalar.subi v307 c1_i32_127
  let v323 : BitVec 32 := Scalar.select v321 v322 v307
  let c128_i32_128 : BitVec 32 := 128#32
  let v324 : BitVec 32 := Scalar.muli v323 c128_i32_128
  v324

def k0_mult17 (v326 : BitVec 32) : BitVec 32 :=
  let c0_i32_130 : BitVec 32 := 0#32
  let v328 : BitVec 1 := Scalar.cmpi .sgt v326 c0_i32_130
  let v329 : BitVec 32 := Scalar.extui v328
  let c0_i32_131 : BitVec 32 := 0#32
  let v330 : BitVec 1 := Scalar.cmpi .slt v326 c0_i32_131
  let v331 : BitVec 32 := Scalar.extui v330
  let v332 : BitVec 32 := Scalar.subi v329 v331
  let c128_i32_129 : BitVec 32 := 128#32
  let c0_i32_132 : BitVec 32 := 0#32
  let v333 : BitVec 1 := Scalar.cmpi .sgt c128_i32_129 c0_i32_132
  let v334 : BitVec 32 := Scalar.extui v333
  let c0_i32_133 : BitVec 32 := 0#32
  let v335 : BitVec 1 := Scalar.cmpi .slt c128_i32_129 c0_i32_133
  let v336 : BitVec 32 := Scalar.extui v335
  let v337 : BitVec 32 := Scalar.subi v334 v336
  let v338 : BitVec 1 := Scalar.cmpi .ne v332 v337
  let v339 : BitVec 32 := Scalar.remsi v326 c128_i32_129
  let c0_i32_134 : BitVec 32 := 0#32
  let v340 : BitVec 1 := Scalar.cmpi .ne v339 c0_i32_134
  let v341 : BitVec 1 := Scalar.andi v338 v340
  let v327 : BitVec 32 := Scalar.divsi v326 c128_i32_129
  let c1_i32_135 : BitVec 32 := 1#32
  let v342 : BitVec 32 := Scalar.subi v327 c1_i32_135
  let v343 : BitVec 32 := Scalar.select v341 v342 v327
  let c128_i32_136 : BitVec 32 := 128#32
  let v344 : BitVec 32 := Scalar.muli v343 c128_i32_136
  v344

def k0_mult18 (v346 : BitVec 32) : BitVec 32 :=
  let c0_i32_138 : BitVec 32 := 0#32
  let v348 : BitVec 1 := Scalar.cmpi .sgt v346 c0_i32_138
  let v349 : BitVec 32 := Scalar.extui v348
  let c0_i32_139 : BitVec 32 := 0#32
  let v350 : BitVec 1 := Scalar.cmpi .slt v346 c0_i32_139
  let v351 : BitVec 32 := Scalar.extui v350
  let v352 : BitVec 32 := Scalar.subi v349 v351
  let c128_i32_137 : BitVec 32 := 128#32
  let c0_i32_140 : BitVec 32 := 0#32
  let v353 : BitVec 1 := Scalar.cmpi .sgt c128_i32_137 c0_i32_140
  let v354 : BitVec 32 := Scalar.extui v353
  let c0_i32_141 : BitVec 32 := 0#32
  let v355 : BitVec 1 := Scalar.cmpi .slt c128_i32_137 c0_i32_141
  let v356 : BitVec 32 := Scalar.extui v355
  let v357 : BitVec 32 := Scalar.subi v354 v356
  let v358 : BitVec 1 := Scalar.cmpi .ne v352 v357
  let v359 : BitVec 32 := Scalar.remsi v346 c128_i32_137
  let c0_i32_142 : BitVec 32 := 0#32
  let v360 : BitVec 1 := Scalar.cmpi .ne v359 c0_i32_142
  let v361 : BitVec 1 := Scalar.andi v358 v360
  let v347 : BitVec 32 := Scalar.divsi v346 c128_i32_137
  let c1_i32_143 : BitVec 32 := 1#32
  let v362 : BitVec 32 := Scalar.subi v347 c1_i32_143
  let v363 : BitVec 32 := Scalar.select v361 v362 v347
  let c128_i32_144 : BitVec 32 := 128#32
  let v364 : BitVec 32 := Scalar.muli v363 c128_i32_144
  v364

def k0_mult19 (v366 : BitVec 32) : BitVec 32 :=
  let c0_i32_146 : BitVec 32 := 0#32
  let v368 : BitVec 1 := Scalar.cmpi .sgt v366 c0_i32_146
  let v369 : BitVec 32 := Scalar.extui v368
  let c0_i32_147 : BitVec 32 := 0#32
  let v370 : BitVec 1 := Scalar.cmpi .slt v366 c0_i32_147
  let v371 : BitVec 32 := Scalar.extui v370
  let v372 : BitVec 32 := Scalar.subi v369 v371
  let c128_i32_145 : BitVec 32 := 128#32
  let c0_i32_148 : BitVec 32 := 0#32
  let v373 : BitVec 1 := Scalar.cmpi .sgt c128_i32_145 c0_i32_148
  let v374 : BitVec 32 := Scalar.extui v373
  let c0_i32_149 : BitVec 32 := 0#32
  let v375 : BitVec 1 := Scalar.cmpi .slt c128_i32_145 c0_i32_149
  let v376 : BitVec 32 := Scalar.extui v375
  let v377 : BitVec 32 := Scalar.subi v374 v376
  let v378 : BitVec 1 := Scalar.cmpi .ne v372 v377
  let v379 : BitVec 32 := Scalar.remsi v366 c128_i32_145
  let c0_i32_150 : BitVec 32 := 0#32
  let v380 : BitVec 1 := Scalar.cmpi .ne v379 c0_i32_150
  let v381 : BitVec 1 := Scalar.andi v378 v380
  let v367 : BitVec 32 := Scalar.divsi v366 c128_i32_145
  let c1_i32_151 : BitVec 32 := 1#32
  let v382 : BitVec 32 := Scalar.subi v367 c1_i32_151
  let v383 : BitVec 32 := Scalar.select v381 v382 v367
  let c128_i32_152 : BitVec 32 := 128#32
  let v384 : BitVec 32 := Scalar.muli v383 c128_i32_152
  v384

def k0_mult20 (v386 : BitVec 32) : BitVec 32 :=
  let c0_i32_154 : BitVec 32 := 0#32
  let v388 : BitVec 1 := Scalar.cmpi .sgt v386 c0_i32_154
  let v389 : BitVec 32 := Scalar.extui v388
  let c0_i32_155 : BitVec 32 := 0#32
  let v390 : BitVec 1 := Scalar.cmpi .slt v386 c0_i32_155
  let v391 : BitVec 32 := Scalar.extui v390
  let v392 : BitVec 32 := Scalar.subi v389 v391
  let c128_i32_153 : BitVec 32 := 128#32
  let c0_i32_156 : BitVec 32 := 0#32
  let v393 : BitVec 1 := Scalar.cmpi .sgt c128_i32_153 c0_i32_156
  let v394 : BitVec 32 := Scalar.extui v393
  let c0_i32_157 : BitVec 32 := 0#32
  let v395 : BitVec 1 := Scalar.cmpi .slt c128_i32_153 c0_i32_157
  let v396 : BitVec 32 := Scalar.extui v395
  let v397 : BitVec 32 := Scalar.subi v394 v396
  let v398 : BitVec 1 := Scalar.cmpi .ne v392 v397
  let v399 : BitVec 32 := Scalar.remsi v386 c128_i32_153
  let c0_i32_158 : BitVec 32 := 0#32
  let v400 : BitVec 1 := Scalar.cmpi .ne v399 c0_i32_158
  let v401 : BitVec 1 := Scalar.andi v398 v400
  let v387 : BitVec 32 := Scalar.divsi v386 c128_i32_153
  let c1_i32_159 : BitVec 32 := 1#32
  let v402 : BitVec 32 := Scalar.subi v387 c1_i32_159
  let v403 : BitVec 32 := Scalar.select v401 v402 v387
  let c128_i32_160 : BitVec 32 := 128#32
  let v404 : BitVec 32 := Scalar.muli v403 c128_i32_160
  v404

def k0_mult21 (v406 : BitVec 32) : BitVec 32 :=
  let c0_i32_162 : BitVec 32 := 0#32
  let v408 : BitVec 1 := Scalar.cmpi .sgt v406 c0_i32_162
  let v409 : BitVec 32 := Scalar.extui v408
  let c0_i32_163 : BitVec 32 := 0#32
  let v410 : BitVec 1 := Scalar.cmpi .slt v406 c0_i32_163
  let v411 : BitVec 32 := Scalar.extui v410
  let v412 : BitVec 32 := Scalar.subi v409 v411
  let c128_i32_161 : BitVec 32 := 128#32
  let c0_i32_164 : BitVec 32 := 0#32
  let v413 : BitVec 1 := Scalar.cmpi .sgt c128_i32_161 c0_i32_164
  let v414 : BitVec 32 := Scalar.extui v413
  let c0_i32_165 : BitVec 32 := 0#32
  let v415 : BitVec 1 := Scalar.cmpi .slt c128_i32_161 c0_i32_165
  let v416 : BitVec 32 := Scalar.extui v415
  let v417 : BitVec 32 := Scalar.subi v414 v416
  let v418 : BitVec 1 := Scalar.cmpi .ne v412 v417
  let v419 : BitVec 32 := Scalar.remsi v406 c128_i32_161
  let c0_i32_166 : BitVec 32 := 0#32
  let v420 : BitVec 1 := Scalar.cmpi .ne v419 c0_i32_166
  let v421 : BitVec 1 := Scalar.andi v418 v420
  let v407 : BitVec 32 := Scalar.divsi v406 c128_i32_161
  let c1_i32_167 : BitVec 32 := 1#32
  let v422 : BitVec 32 := Scalar.subi v407 c1_i32_167
  let v423 : BitVec 32 := Scalar.select v421 v422 v407
  let c128_i32_168 : BitVec 32 := 128#32
  let v424 : BitVec 32 := Scalar.muli v423 c128_i32_168
  v424

def k0_mult22 (v426 : BitVec 32) : BitVec 32 :=
  let c0_i32_170 : BitVec 32 := 0#32
  let v428 : BitVec 1 := Scalar.cmpi .sgt v426 c0_i32_170
  let v429 : BitVec 32 := Scalar.extui v428
  let c0_i32_171 : BitVec 32 := 0#32
  let v430 : BitVec 1 := Scalar.cmpi .slt v426 c0_i32_171
  let v431 : BitVec 32 := Scalar.extui v430
  let v432 : BitVec 32 := Scalar.subi v429 v431
  let c128_i32_169 : BitVec 32 := 128#32
  let c0_i32_172 : BitVec 32 := 0#32
  let v433 : BitVec 1 := Scalar.cmpi .sgt c128_i32_169 c0_i32_172
  let v434 : BitVec 32 := Scalar.extui v433
  let c0_i32_173 : BitVec 32 := 0#32
  let v435 : BitVec 1 := Scalar.cmpi .slt c128_i32_169 c0_i32_173
  let v436 : BitVec 32 := Scalar.extui v435
  let v437 : BitVec 32 := Scalar.subi v434 v436
  let v438 : BitVec 1 := Scalar.cmpi .ne v432 v437
  let v439 : BitVec 32 := Scalar.remsi v426 c128_i32_169
  let c0_i32_174 : BitVec 32 := 0#32
  let v440 : BitVec 1 := Scalar.cmpi .ne v439 c0_i32_174
  let v441 : BitVec 1 := Scalar.andi v438 v440
  let v427 : BitVec 32 := Scalar.divsi v426 c128_i32_169
  let c1_i32_175 : BitVec 32 := 1#32
  let v442 : BitVec 32 := Scalar.subi v427 c1_i32_175
  let v443 : BitVec 32 := Scalar.select v441 v442 v427
  let c128_i32_176 : BitVec 32 := 128#32
  let v444 : BitVec 32 := Scalar.muli v443 c128_i32_176
  v444

def k0_mult23 (v446 : BitVec 32) : BitVec 32 :=
  let c0_i32_178 : BitVec 32 := 0#32
  let v448 : BitVec 1 := Scalar.cmpi .sgt v446 c0_i32_178
  let v449 : BitVec 32 := Scalar.extui v448
  let c0_i32_179 : BitVec 32 := 0#32
  let v450 : BitVec 1 := Scalar.cmpi .slt v446 c0_i32_179
  let v451 : BitVec 32 := Scalar.extui v450
  let v452 : BitVec 32 := Scalar.subi v449 v451
  let c128_i32_177 : BitVec 32 := 128#32
  let c0_i32_180 : BitVec 32 := 0#32
  let v453 : BitVec 1 := Scalar.cmpi .sgt c128_i32_177 c0_i32_180
  let v454 : BitVec 32 := Scalar.extui v453
  let c0_i32_181 : BitVec 32 := 0#32
  let v455 : BitVec 1 := Scalar.cmpi .slt c128_i32_177 c0_i32_181
  let v456 : BitVec 32 := Scalar.extui v455
  let v457 : BitVec 32 := Scalar.subi v454 v456
  let v458 : BitVec 1 := Scalar.cmpi .ne v452 v457
  let v459 : BitVec 32 := Scalar.remsi v446 c128_i32_177
  let c0_i32_182 : BitVec 32 := 0#32
  let v460 : BitVec 1 := Scalar.cmpi .ne v459 c0_i32_182
  let v461 : BitVec 1 := Scalar.andi v458 v460
  let v447 : BitVec 32 := Scalar.divsi v446 c128_i32_177
  let c1_i32_183 : BitVec 32 := 1#32
  let v462 : BitVec 32 := Scalar.subi v447 c1_i32_183
  let v463 : BitVec 32 := Scalar.select v461 v462 v447
  let c128_i32_184 : BitVec 32 := 128#32
  let v464 : BitVec 32 := Scalar.muli v463 c128_i32_184
  v464

def k0_mult24 (v466 : BitVec 32) : BitVec 32 :=
  let c0_i32_186 : BitVec 32 := 0#32
  let v468 : BitVec 1 := Scalar.cmpi .sgt v466 c0_i32_186
  let v469 : BitVec 32 := Scalar.extui v468
  let c0_i32_187 : BitVec 32 := 0#32
  let v470 : BitVec 1 := Scalar.cmpi .slt v466 c0_i32_187
  let v471 : BitVec 32 := Scalar.extui v470
  let v472 : BitVec 32 := Scalar.subi v469 v471
  let c128_i32_185 : BitVec 32 := 128#32
  let c0_i32_188 : BitVec 32 := 0#32
  let v473 : BitVec 1 := Scalar.cmpi .sgt c128_i32_185 c0_i32_188
  let v474 : BitVec 32 := Scalar.extui v473
  let c0_i32_189 : BitVec 32 := 0#32
  let v475 : BitVec 1 := Scalar.cmpi .slt c128_i32_185 c0_i32_189
  let v476 : BitVec 32 := Scalar.extui v475
  let v477 : BitVec 32 := Scalar.subi v474 v476
  let v478 : BitVec 1 := Scalar.cmpi .ne v472 v477
  let v479 : BitVec 32 := Scalar.remsi v466 c128_i32_185
  let c0_i32_190 : BitVec 32 := 0#32
  let v480 : BitVec 1 := Scalar.cmpi .ne v479 c0_i32_190
  let v481 : BitVec 1 := Scalar.andi v478 v480
  let v467 : BitVec 32 := Scalar.divsi v466 c128_i32_185
  let c1_i32_191 : BitVec 32 := 1#32
  let v482 : BitVec 32 := Scalar.subi v467 c1_i32_191
  let v483 : BitVec 32 := Scalar.select v481 v482 v467
  let c128_i32_192 : BitVec 32 := 128#32
  let v484 : BitVec 32 := Scalar.muli v483 c128_i32_192
  v484

def k0_mult25 (v486 : BitVec 32) : BitVec 32 :=
  let c0_i32_194 : BitVec 32 := 0#32
  let v488 : BitVec 1 := Scalar.cmpi .sgt v486 c0_i32_194
  let v489 : BitVec 32 := Scalar.extui v488
  let c0_i32_195 : BitVec 32 := 0#32
  let v490 : BitVec 1 := Scalar.cmpi .slt v486 c0_i32_195
  let v491 : BitVec 32 := Scalar.extui v490
  let v492 : BitVec 32 := Scalar.subi v489 v491
  let c128_i32_193 : BitVec 32 := 128#32
  let c0_i32_196 : BitVec 32 := 0#32
  let v493 : BitVec 1 := Scalar.cmpi .sgt c128_i32_193 c0_i32_196
  let v494 : BitVec 32 := Scalar.extui v493
  let c0_i32_197 : BitVec 32 := 0#32
  let v495 : BitVec 1 := Scalar.cmpi .slt c128_i32_193 c0_i32_197
  let v496 : BitVec 32 := Scalar.extui v495
  let v497 : BitVec 32 := Scalar.subi v494 v496
  let v498 : BitVec 1 := Scalar.cmpi .ne v492 v497
  let v499 : BitVec 32 := Scalar.remsi v486 c128_i32_193
  let c0_i32_198 : BitVec 32 := 0#32
  let v500 : BitVec 1 := Scalar.cmpi .ne v499 c0_i32_198
  let v501 : BitVec 1 := Scalar.andi v498 v500
  let v487 : BitVec 32 := Scalar.divsi v486 c128_i32_193
  let c1_i32_199 : BitVec 32 := 1#32
  let v502 : BitVec 32 := Scalar.subi v487 c1_i32_199
  let v503 : BitVec 32 := Scalar.select v501 v502 v487
  let c128_i32_200 : BitVec 32 := 128#32
  let v504 : BitVec 32 := Scalar.muli v503 c128_i32_200
  v504

def k0_mult26 (v506 : BitVec 32) : BitVec 32 :=
  let c0_i32_202 : BitVec 32 := 0#32
  let v508 : BitVec 1 := Scalar.cmpi .sgt v506 c0_i32_202
  let v509 : BitVec 32 := Scalar.extui v508
  let c0_i32_203 : BitVec 32 := 0#32
  let v510 : BitVec 1 := Scalar.cmpi .slt v506 c0_i32_203
  let v511 : BitVec 32 := Scalar.extui v510
  let v512 : BitVec 32 := Scalar.subi v509 v511
  let c128_i32_201 : BitVec 32 := 128#32
  let c0_i32_204 : BitVec 32 := 0#32
  let v513 : BitVec 1 := Scalar.cmpi .sgt c128_i32_201 c0_i32_204
  let v514 : BitVec 32 := Scalar.extui v513
  let c0_i32_205 : BitVec 32 := 0#32
  let v515 : BitVec 1 := Scalar.cmpi .slt c128_i32_201 c0_i32_205
  let v516 : BitVec 32 := Scalar.extui v515
  let v517 : BitVec 32 := Scalar.subi v514 v516
  let v518 : BitVec 1 := Scalar.cmpi .ne v512 v517
  let v519 : BitVec 32 := Scalar.remsi v506 c128_i32_201
  let c0_i32_206 : BitVec 32 := 0#32
  let v520 : BitVec 1 := Scalar.cmpi .ne v519 c0_i32_206
  let v521 : BitVec 1 := Scalar.andi v518 v520
  let v507 : BitVec 32 := Scalar.divsi v506 c128_i32_201
  let c1_i32_207 : BitVec 32 := 1#32
  let v522 : BitVec 32 := Scalar.subi v507 c1_i32_207
  let v523 : BitVec 32 := Scalar.select v521 v522 v507
  let c128_i32_208 : BitVec 32 := 128#32
  let v524 : BitVec 32 := Scalar.muli v523 c128_i32_208
  v524

def k0_mult27 (v526 : BitVec 32) : BitVec 32 :=
  let c0_i32_210 : BitVec 32 := 0#32
  let v528 : BitVec 1 := Scalar.cmpi .sgt v526 c0_i32_210
  let v529 : BitVec 32 := Scalar.extui v528
  let c0_i32_211 : BitVec 32 := 0#32
  let v530 : BitVec 1 := Scalar.cmpi .slt v526 c0_i32_211
  let v531 : BitVec 32 := Scalar.extui v530
  let v532 : BitVec 32 := Scalar.subi v529 v531
  let c128_i32_209 : BitVec 32 := 128#32
  let c0_i32_212 : BitVec 32 := 0#32
  let v533 : BitVec 1 := Scalar.cmpi .sgt c128_i32_209 c0_i32_212
  let v534 : BitVec 32 := Scalar.extui v533
  let c0_i32_213 : BitVec 32 := 0#32
  let v535 : BitVec 1 := Scalar.cmpi .slt c128_i32_209 c0_i32_213
  let v536 : BitVec 32 := Scalar.extui v535
  let v537 : BitVec 32 := Scalar.subi v534 v536
  let v538 : BitVec 1 := Scalar.cmpi .ne v532 v537
  let v539 : BitVec 32 := Scalar.remsi v526 c128_i32_209
  let c0_i32_214 : BitVec 32 := 0#32
  let v540 : BitVec 1 := Scalar.cmpi .ne v539 c0_i32_214
  let v541 : BitVec 1 := Scalar.andi v538 v540
  let v527 : BitVec 32 := Scalar.divsi v526 c128_i32_209
  let c1_i32_215 : BitVec 32 := 1#32
  let v542 : BitVec 32 := Scalar.subi v527 c1_i32_215
  let v543 : BitVec 32 := Scalar.select v541 v542 v527
  let c128_i32_216 : BitVec 32 := 128#32
  let v544 : BitVec 32 := Scalar.muli v543 c128_i32_216
  v544

def k0_mult28 (v546 : BitVec 32) : BitVec 32 :=
  let c0_i32_218 : BitVec 32 := 0#32
  let v548 : BitVec 1 := Scalar.cmpi .sgt v546 c0_i32_218
  let v549 : BitVec 32 := Scalar.extui v548
  let c0_i32_219 : BitVec 32 := 0#32
  let v550 : BitVec 1 := Scalar.cmpi .slt v546 c0_i32_219
  let v551 : BitVec 32 := Scalar.extui v550
  let v552 : BitVec 32 := Scalar.subi v549 v551
  let c128_i32_217 : BitVec 32 := 128#32
  let c0_i32_220 : BitVec 32 := 0#32
  let v553 : BitVec 1 := Scalar.cmpi .sgt c128_i32_217 c0_i32_220
  let v554 : BitVec 32 := Scalar.extui v553
  let c0_i32_221 : BitVec 32 := 0#32
  let v555 : BitVec 1 := Scalar.cmpi .slt c128_i32_217 c0_i32_221
  let v556 : BitVec 32 := Scalar.extui v555
  let v557 : BitVec 32 := Scalar.subi v554 v556
  let v558 : BitVec 1 := Scalar.cmpi .ne v552 v557
  let v559 : BitVec 32 := Scalar.remsi v546 c128_i32_217
  let c0_i32_222 : BitVec 32 := 0#32
  let v560 : BitVec 1 := Scalar.cmpi .ne v559 c0_i32_222
  let v561 : BitVec 1 := Scalar.andi v558 v560
  let v547 : BitVec 32 := Scalar.divsi v546 c128_i32_217
  let c1_i32_223 : BitVec 32 := 1#32
  let v562 : BitVec 32 := Scalar.subi v547 c1_i32_223
  let v563 : BitVec 32 := Scalar.select v561 v562 v547
  let c128_i32_224 : BitVec 32 := 128#32
  let v564 : BitVec 32 := Scalar.muli v563 c128_i32_224
  v564

def k0_mult29 (v566 : BitVec 32) : BitVec 32 :=
  let c0_i32_226 : BitVec 32 := 0#32
  let v568 : BitVec 1 := Scalar.cmpi .sgt v566 c0_i32_226
  let v569 : BitVec 32 := Scalar.extui v568
  let c0_i32_227 : BitVec 32 := 0#32
  let v570 : BitVec 1 := Scalar.cmpi .slt v566 c0_i32_227
  let v571 : BitVec 32 := Scalar.extui v570
  let v572 : BitVec 32 := Scalar.subi v569 v571
  let c128_i32_225 : BitVec 32 := 128#32
  let c0_i32_228 : BitVec 32 := 0#32
  let v573 : BitVec 1 := Scalar.cmpi .sgt c128_i32_225 c0_i32_228
  let v574 : BitVec 32 := Scalar.extui v573
  let c0_i32_229 : BitVec 32 := 0#32
  let v575 : BitVec 1 := Scalar.cmpi .slt c128_i32_225 c0_i32_229
  let v576 : BitVec 32 := Scalar.extui v575
  let v577 : BitVec 32 := Scalar.subi v574 v576
  let v578 : BitVec 1 := Scalar.cmpi .ne v572 v577
  let v579 : BitVec 32 := Scalar.remsi v566 c128_i32_225
  let c0_i32_230 : BitVec 32 := 0#32
  let v580 : BitVec 1 := Scalar.cmpi .ne v579 c0_i32_230
  let v581 : BitVec 1 := Scalar.andi v578 v580
  let v567 : BitVec 32 := Scalar.divsi v566 c128_i32_225
  let c1_i32_231 : BitVec 32 := 1#32
  let v582 : BitVec 32 := Scalar.subi v567 c1_i32_231
  let v583 : BitVec 32 := Scalar.select v581 v582 v567
  let c128_i32_232 : BitVec 32 := 128#32
  let v584 : BitVec 32 := Scalar.muli v583 c128_i32_232
  v584

def k0_mult30 (v586 : BitVec 32) : BitVec 32 :=
  let c0_i32_234 : BitVec 32 := 0#32
  let v588 : BitVec 1 := Scalar.cmpi .sgt v586 c0_i32_234
  let v589 : BitVec 32 := Scalar.extui v588
  let c0_i32_235 : BitVec 32 := 0#32
  let v590 : BitVec 1 := Scalar.cmpi .slt v586 c0_i32_235
  let v591 : BitVec 32 := Scalar.extui v590
  let v592 : BitVec 32 := Scalar.subi v589 v591
  let c128_i32_233 : BitVec 32 := 128#32
  let c0_i32_236 : BitVec 32 := 0#32
  let v593 : BitVec 1 := Scalar.cmpi .sgt c128_i32_233 c0_i32_236
  let v594 : BitVec 32 := Scalar.extui v593
  let c0_i32_237 : BitVec 32 := 0#32
  let v595 : BitVec 1 := Scalar.cmpi .slt c128_i32_233 c0_i32_237
  let v596 : BitVec 32 := Scalar.extui v595
  let v597 : BitVec 32 := Scalar.subi v594 v596
  let v598 : BitVec 1 := Scalar.cmpi .ne v592 v597
  let v599 : BitVec 32 := Scalar.remsi v586 c128_i32_233
  let c0_i32_238 : BitVec 32 := 0#32
  let v600 : BitVec 1 := Scalar.cmpi .ne v599 c0_i32_238
  let v601 : BitVec 1 := Scalar.andi v598 v600
  let v587 : BitVec 32 := Scalar.divsi v586 c128_i32_233
  let c1_i32_239 : BitVec 32 := 1#32
  let v602 : BitVec 32 := Scalar.subi v587 c1_i32_239
  let v603 : BitVec 32 := Scalar.select v601 v602 v587
  let c128_i32_240 : BitVec 32 := 128#32
  let v604 : BitVec 32 := Scalar.muli v603 c128_i32_240
  v604

def k0_mult31 (v606 : BitVec 32) : BitVec 32 :=
  let c0_i32_242 : BitVec 32 := 0#32
  let v608 : BitVec 1 := Scalar.cmpi .sgt v606 c0_i32_242
  let v609 : BitVec 32 := Scalar.extui v608
  let c0_i32_243 : BitVec 32 := 0#32
  let v610 : BitVec 1 := Scalar.cmpi .slt v606 c0_i32_243
  let v611 : BitVec 32 := Scalar.extui v610
  let v612 : BitVec 32 := Scalar.subi v609 v611
  let c128_i32_241 : BitVec 32 := 128#32
  let c0_i32_244 : BitVec 32 := 0#32
  let v613 : BitVec 1 := Scalar.cmpi .sgt c128_i32_241 c0_i32_244
  let v614 : BitVec 32 := Scalar.extui v613
  let c0_i32_245 : BitVec 32 := 0#32
  let v615 : BitVec 1 := Scalar.cmpi .slt c128_i32_241 c0_i32_245
  let v616 : BitVec 32 := Scalar.extui v615
  let v617 : BitVec 32 := Scalar.subi v614 v616
  let v618 : BitVec 1 := Scalar.cmpi .ne v612 v617
  let v619 : BitVec 32 := Scalar.remsi v606 c128_i32_241
  let c0_i32_246 : BitVec 32 := 0#32
  let v620 : BitVec 1 := Scalar.cmpi .ne v619 c0_i32_246
  let v621 : BitVec 1 := Scalar.andi v618 v620
  let v607 : BitVec 32 := Scalar.divsi v606 c128_i32_241
  let c1_i32_247 : BitVec 32 := 1#32
  let v622 : BitVec 32 := Scalar.subi v607 c1_i32_247
  let v623 : BitVec 32 := Scalar.select v621 v622 v607
  let c128_i32_248 : BitVec 32 := 128#32
  let v624 : BitVec 32 := Scalar.muli v623 c128_i32_248
  v624

def k0_mult32 (v626 : BitVec 32) : BitVec 32 :=
  let c0_i32_250 : BitVec 32 := 0#32
  let v628 : BitVec 1 := Scalar.cmpi .sgt v626 c0_i32_250
  let v629 : BitVec 32 := Scalar.extui v628
  let c0_i32_251 : BitVec 32 := 0#32
  let v630 : BitVec 1 := Scalar.cmpi .slt v626 c0_i32_251
  let v631 : BitVec 32 := Scalar.extui v630
  let v632 : BitVec 32 := Scalar.subi v629 v631
  let c128_i32_249 : BitVec 32 := 128#32
  let c0_i32_252 : BitVec 32 := 0#32
  let v633 : BitVec 1 := Scalar.cmpi .sgt c128_i32_249 c0_i32_252
  let v634 : BitVec 32 := Scalar.extui v633
  let c0_i32_253 : BitVec 32 := 0#32
  let v635 : BitVec 1 := Scalar.cmpi .slt c128_i32_249 c0_i32_253
  let v636 : BitVec 32 := Scalar.extui v635
  let v637 : BitVec 32 := Scalar.subi v634 v636
  let v638 : BitVec 1 := Scalar.cmpi .ne v632 v637
  let v639 : BitVec 32 := Scalar.remsi v626 c128_i32_249
  let c0_i32_254 : BitVec 32 := 0#32
  let v640 : BitVec 1 := Scalar.cmpi .ne v639 c0_i32_254
  let v641 : BitVec 1 := Scalar.andi v638 v640
  let v627 : BitVec 32 := Scalar.divsi v626 c128_i32_249
  let c1_i32_255 : BitVec 32 := 1#32
  let v642 : BitVec 32 := Scalar.subi v627 c1_i32_255
  let v643 : BitVec 32 := Scalar.select v641 v642 v627
  let c128_i32_256 : BitVec 32 := 128#32
  let v644 : BitVec 32 := Scalar.muli v643 c128_i32_256
  v644

def k0_mult33 (v646 : BitVec 32) : BitVec 32 :=
  let c0_i32_258 : BitVec 32 := 0#32
  let v648 : BitVec 1 := Scalar.cmpi .sgt v646 c0_i32_258
  let v649 : BitVec 32 := Scalar.extui v648
  let c0_i32_259 : BitVec 32 := 0#32
  let v650 : BitVec 1 := Scalar.cmpi .slt v646 c0_i32_259
  let v651 : BitVec 32 := Scalar.extui v650
  let v652 : BitVec 32 := Scalar.subi v649 v651
  let c128_i32_257 : BitVec 32 := 128#32
  let c0_i32_260 : BitVec 32 := 0#32
  let v653 : BitVec 1 := Scalar.cmpi .sgt c128_i32_257 c0_i32_260
  let v654 : BitVec 32 := Scalar.extui v653
  let c0_i32_261 : BitVec 32 := 0#32
  let v655 : BitVec 1 := Scalar.cmpi .slt c128_i32_257 c0_i32_261
  let v656 : BitVec 32 := Scalar.extui v655
  let v657 : BitVec 32 := Scalar.subi v654 v656
  let v658 : BitVec 1 := Scalar.cmpi .ne v652 v657
  let v659 : BitVec 32 := Scalar.remsi v646 c128_i32_257
  let c0_i32_262 : BitVec 32 := 0#32
  let v660 : BitVec 1 := Scalar.cmpi .ne v659 c0_i32_262
  let v661 : BitVec 1 := Scalar.andi v658 v660
  let v647 : BitVec 32 := Scalar.divsi v646 c128_i32_257
  let c1_i32_263 : BitVec 32 := 1#32
  let v662 : BitVec 32 := Scalar.subi v647 c1_i32_263
  let v663 : BitVec 32 := Scalar.select v661 v662 v647
  let c128_i32_264 : BitVec 32 := 128#32
  let v664 : BitVec 32 := Scalar.muli v663 c128_i32_264
  v664

def k0_mult34 (v666 : BitVec 32) : BitVec 32 :=
  let c0_i32_266 : BitVec 32 := 0#32
  let v668 : BitVec 1 := Scalar.cmpi .sgt v666 c0_i32_266
  let v669 : BitVec 32 := Scalar.extui v668
  let c0_i32_267 : BitVec 32 := 0#32
  let v670 : BitVec 1 := Scalar.cmpi .slt v666 c0_i32_267
  let v671 : BitVec 32 := Scalar.extui v670
  let v672 : BitVec 32 := Scalar.subi v669 v671
  let c128_i32_265 : BitVec 32 := 128#32
  let c0_i32_268 : BitVec 32 := 0#32
  let v673 : BitVec 1 := Scalar.cmpi .sgt c128_i32_265 c0_i32_268
  let v674 : BitVec 32 := Scalar.extui v673
  let c0_i32_269 : BitVec 32 := 0#32
  let v675 : BitVec 1 := Scalar.cmpi .slt c128_i32_265 c0_i32_269
  let v676 : BitVec 32 := Scalar.extui v675
  let v677 : BitVec 32 := Scalar.subi v674 v676
  let v678 : BitVec 1 := Scalar.cmpi .ne v672 v677
  let v679 : BitVec 32 := Scalar.remsi v666 c128_i32_265
  let c0_i32_270 : BitVec 32 := 0#32
  let v680 : BitVec 1 := Scalar.cmpi .ne v679 c0_i32_270
  let v681 : BitVec 1 := Scalar.andi v678 v680
  let v667 : BitVec 32 := Scalar.divsi v666 c128_i32_265
  let c1_i32_271 : BitVec 32 := 1#32
  let v682 : BitVec 32 := Scalar.subi v667 c1_i32_271
  let v683 : BitVec 32 := Scalar.select v681 v682 v667
  let c128_i32_272 : BitVec 32 := 128#32
  let v684 : BitVec 32 := Scalar.muli v683 c128_i32_272
  v684

def k0_mult35 (v686 : BitVec 32) : BitVec 32 :=
  let c0_i32_274 : BitVec 32 := 0#32
  let v688 : BitVec 1 := Scalar.cmpi .sgt v686 c0_i32_274
  let v689 : BitVec 32 := Scalar.extui v688
  let c0_i32_275 : BitVec 32 := 0#32
  let v690 : BitVec 1 := Scalar.cmpi .slt v686 c0_i32_275
  let v691 : BitVec 32 := Scalar.extui v690
  let v692 : BitVec 32 := Scalar.subi v689 v691
  let c128_i32_273 : BitVec 32 := 128#32
  let c0_i32_276 : BitVec 32 := 0#32
  let v693 : BitVec 1 := Scalar.cmpi .sgt c128_i32_273 c0_i32_276
  let v694 : BitVec 32 := Scalar.extui v693
  let c0_i32_277 : BitVec 32 := 0#32
  let v695 : BitVec 1 := Scalar.cmpi .slt c128_i32_273 c0_i32_277
  let v696 : BitVec 32 := Scalar.extui v695
  let v697 : BitVec 32 := Scalar.subi v694 v696
  let v698 : BitVec 1 := Scalar.cmpi .ne v692 v697
  let v699 : BitVec 32 := Scalar.remsi v686 c128_i32_273
  let c0_i32_278 : BitVec 32 := 0#32
  let v700 : BitVec 1 := Scalar.cmpi .ne v699 c0_i32_278
  let v701 : BitVec 1 := Scalar.andi v698 v700
  let v687 : BitVec 32 := Scalar.divsi v686 c128_i32_273
  let c1_i32_279 : BitVec 32 := 1#32
  let v702 : BitVec 32 := Scalar.subi v687 c1_i32_279
  let v703 : BitVec 32 := Scalar.select v701 v702 v687
  let c128_i32_280 : BitVec 32 := 128#32
  let v704 : BitVec 32 := Scalar.muli v703 c128_i32_280
  v704

def k0_mult36 (v706 : BitVec 32) : BitVec 32 :=
  let c0_i32_282 : BitVec 32 := 0#32
  let v708 : BitVec 1 := Scalar.cmpi .sgt v706 c0_i32_282
  let v709 : BitVec 32 := Scalar.extui v708
  let c0_i32_283 : BitVec 32 := 0#32
  let v710 : BitVec 1 := Scalar.cmpi .slt v706 c0_i32_283
  let v711 : BitVec 32 := Scalar.extui v710
  let v712 : BitVec 32 := Scalar.subi v709 v711
  let c128_i32_281 : BitVec 32 := 128#32
  let c0_i32_284 : BitVec 32 := 0#32
  let v713 : BitVec 1 := Scalar.cmpi .sgt c128_i32_281 c0_i32_284
  let v714 : BitVec 32 := Scalar.extui v713
  let c0_i32_285 : BitVec 32 := 0#32
  let v715 : BitVec 1 := Scalar.cmpi .slt c128_i32_281 c0_i32_285
  let v716 : BitVec 32 := Scalar.extui v715
  let v717 : BitVec 32 := Scalar.subi v714 v716
  let v718 : BitVec 1 := Scalar.cmpi .ne v712 v717
  let v719 : BitVec 32 := Scalar.remsi v706 c128_i32_281
  let c0_i32_286 : BitVec 32 := 0#32
  let v720 : BitVec 1 := Scalar.cmpi .ne v719 c0_i32_286
  let v721 : BitVec 1 := Scalar.andi v718 v720
  let v707 : BitVec 32 := Scalar.divsi v706 c128_i32_281
  let c1_i32_287 : BitVec 32 := 1#32
  let v722 : BitVec 32 := Scalar.subi v707 c1_i32_287
  let v723 : BitVec 32 := Scalar.select v721 v722 v707
  let c128_i32_288 : BitVec 32 := 128#32
  let v724 : BitVec 32 := Scalar.muli v723 c128_i32_288
  v724

def k0_mult37 (v726 : BitVec 32) : BitVec 32 :=
  let c0_i32_290 : BitVec 32 := 0#32
  let v728 : BitVec 1 := Scalar.cmpi .sgt v726 c0_i32_290
  let v729 : BitVec 32 := Scalar.extui v728
  let c0_i32_291 : BitVec 32 := 0#32
  let v730 : BitVec 1 := Scalar.cmpi .slt v726 c0_i32_291
  let v731 : BitVec 32 := Scalar.extui v730
  let v732 : BitVec 32 := Scalar.subi v729 v731
  let c128_i32_289 : BitVec 32 := 128#32
  let c0_i32_292 : BitVec 32 := 0#32
  let v733 : BitVec 1 := Scalar.cmpi .sgt c128_i32_289 c0_i32_292
  let v734 : BitVec 32 := Scalar.extui v733
  let c0_i32_293 : BitVec 32 := 0#32
  let v735 : BitVec 1 := Scalar.cmpi .slt c128_i32_289 c0_i32_293
  let v736 : BitVec 32 := Scalar.extui v735
  let v737 : BitVec 32 := Scalar.subi v734 v736
  let v738 : BitVec 1 := Scalar.cmpi .ne v732 v737
  let v739 : BitVec 32 := Scalar.remsi v726 c128_i32_289
  let c0_i32_294 : BitVec 32 := 0#32
  let v740 : BitVec 1 := Scalar.cmpi .ne v739 c0_i32_294
  let v741 : BitVec 1 := Scalar.andi v738 v740
  let v727 : BitVec 32 := Scalar.divsi v726 c128_i32_289
  let c1_i32_295 : BitVec 32 := 1#32
  let v742 : BitVec 32 := Scalar.subi v727 c1_i32_295
  let v743 : BitVec 32 := Scalar.select v741 v742 v727
  let c128_i32_296 : BitVec 32 := 128#32
  let v744 : BitVec 32 := Scalar.muli v743 c128_i32_296
  v744

def k0_mult38 (v746 : BitVec 32) : BitVec 32 :=
  let c0_i32_298 : BitVec 32 := 0#32
  let v748 : BitVec 1 := Scalar.cmpi .sgt v746 c0_i32_298
  let v749 : BitVec 32 := Scalar.extui v748
  let c0_i32_299 : BitVec 32 := 0#32
  let v750 : BitVec 1 := Scalar.cmpi .slt v746 c0_i32_299
  let v751 : BitVec 32 := Scalar.extui v750
  let v752 : BitVec 32 := Scalar.subi v749 v751
  let c128_i32_297 : BitVec 32 := 128#32
  let c0_i32_300 : BitVec 32 := 0#32
  let v753 : BitVec 1 := Scalar.cmpi .sgt c128_i32_297 c0_i32_300
  let v754 : BitVec 32 := Scalar.extui v753
  let c0_i32_301 : BitVec 32 := 0#32
  let v755 : BitVec 1 := Scalar.cmpi .slt c128_i32_297 c0_i32_301
  let v756 : BitVec 32 := Scalar.extui v755
  let v757 : BitVec 32 := Scalar.subi v754 v756
  let v758 : BitVec 1 := Scalar.cmpi .ne v752 v757
  let v759 : BitVec 32 := Scalar.remsi v746 c128_i32_297
  let c0_i32_302 : BitVec 32 := 0#32
  let v760 : BitVec 1 := Scalar.cmpi .ne v759 c0_i32_302
  let v761 : BitVec 1 := Scalar.andi v758 v760
  let v747 : BitVec 32 := Scalar.divsi v746 c128_i32_297
  let c1_i32_303 : BitVec 32 := 1#32
  let v762 : BitVec 32 := Scalar.subi v747 c1_i32_303
  let v763 : BitVec 32 := Scalar.select v761 v762 v747
  let c128_i32_304 : BitVec 32 := 128#32
  let v764 : BitVec 32 := Scalar.muli v763 c128_i32_304
  v764

def k0_mult39 (v766 : BitVec 32) : BitVec 32 :=
  let c0_i32_306 : BitVec 32 := 0#32
  let v768 : BitVec 1 := Scalar.cmpi .sgt v766 c0_i32_306
  let v769 : BitVec 32 := Scalar.extui v768
  let c0_i32_307 : BitVec 32 := 0#32
  let v770 : BitVec 1 := Scalar.cmpi .slt v766 c0_i32_307
  let v771 : BitVec 32 := Scalar.extui v770
  let v772 : BitVec 32 := Scalar.subi v769 v771
  let c128_i32_305 : BitVec 32 := 128#32
  let c0_i32_308 : BitVec 32 := 0#32
  let v773 : BitVec 1 := Scalar.cmpi .sgt c128_i32_305 c0_i32_308
  let v774 : BitVec 32 := Scalar.extui v773
  let c0_i32_309 : BitVec 32 := 0#32
  let v775 : BitVec 1 := Scalar.cmpi .slt c128_i32_305 c0_i32_309
  let v776 : BitVec 32 := Scalar.extui v775
  let v777 : BitVec 32 := Scalar.subi v774 v776
  let v778 : BitVec 1 := Scalar.cmpi .ne v772 v777
  let v779 : BitVec 32 := Scalar.remsi v766 c128_i32_305
  let c0_i32_310 : BitVec 32 := 0#32
  let v780 : BitVec 1 := Scalar.cmpi .ne v779 c0_i32_310
  let v781 : BitVec 1 := Scalar.andi v778 v780
  let v767 : BitVec 32 := Scalar.divsi v766 c128_i32_305
  let c1_i32_311 : BitVec 32 := 1#32
  let v782 : BitVec 32 := Scalar.subi v767 c1_i32_311
  let v783 : BitVec 32 := Scalar.select v781 v782 v767
  let c128_i32_312 : BitVec 32 := 128#32
  let v784 : BitVec 32 := Scalar.muli v783 c128_i32_312
  v784

def k0_mult40 (v786 : BitVec 32) : BitVec 32 :=
  let c0_i32_314 : BitVec 32 := 0#32
  let v788 : BitVec 1 := Scalar.cmpi .sgt v786 c0_i32_314
  let v789 : BitVec 32 := Scalar.extui v788
  let c0_i32_315 : BitVec 32 := 0#32
  let v790 : BitVec 1 := Scalar.cmpi .slt v786 c0_i32_315
  let v791 : BitVec 32 := Scalar.extui v790
  let v792 : BitVec 32 := Scalar.subi v789 v791
  let c128_i32_313 : BitVec 32 := 128#32
  let c0_i32_316 : BitVec 32 := 0#32
  let v793 : BitVec 1 := Scalar.cmpi .sgt c128_i32_313 c0_i32_316
  let v794 : BitVec 32 := Scalar.extui v793
  let c0_i32_317 : BitVec 32 := 0#32
  let v795 : BitVec 1 := Scalar.cmpi .slt c128_i32_313 c0_i32_317
  let v796 : BitVec 32 := Scalar.extui v795
  let v797 : BitVec 32 := Scalar.subi v794 v796
  let v798 : BitVec 1 := Scalar.cmpi .ne v792 v797
  let v799 : BitVec 32 := Scalar.remsi v786 c128_i32_313
  let c0_i32_318 : BitVec 32 := 0#32
  let v800 : BitVec 1 := Scalar.cmpi .ne v799 c0_i32_318
  let v801 : BitVec 1 := Scalar.andi v798 v800
  let v787 : BitVec 32 := Scalar.divsi v786 c128_i32_313
  let c1_i32_319 : BitVec 32 := 1#32
  let v802 : BitVec 32 := Scalar.subi v787 c1_i32_319
  let v803 : BitVec 32 := Scalar.select v801 v802 v787
  let c128_i32_320 : BitVec 32 := 128#32
  let v804 : BitVec 32 := Scalar.muli v803 c128_i32_320
  v804

def k0_mult41 (v806 : BitVec 32) : BitVec 32 :=
  let c0_i32_322 : BitVec 32 := 0#32
  let v808 : BitVec 1 := Scalar.cmpi .sgt v806 c0_i32_322
  let v809 : BitVec 32 := Scalar.extui v808
  let c0_i32_323 : BitVec 32 := 0#32
  let v810 : BitVec 1 := Scalar.cmpi .slt v806 c0_i32_323
  let v811 : BitVec 32 := Scalar.extui v810
  let v812 : BitVec 32 := Scalar.subi v809 v811
  let c128_i32_321 : BitVec 32 := 128#32
  let c0_i32_324 : BitVec 32 := 0#32
  let v813 : BitVec 1 := Scalar.cmpi .sgt c128_i32_321 c0_i32_324
  let v814 : BitVec 32 := Scalar.extui v813
  let c0_i32_325 : BitVec 32 := 0#32
  let v815 : BitVec 1 := Scalar.cmpi .slt c128_i32_321 c0_i32_325
  let v816 : BitVec 32 := Scalar.extui v815
  let v817 : BitVec 32 := Scalar.subi v814 v816
  let v818 : BitVec 1 := Scalar.cmpi .ne v812 v817
  let v819 : BitVec 32 := Scalar.remsi v806 c128_i32_321
  let c0_i32_326 : BitVec 32 := 0#32
  let v820 : BitVec 1 := Scalar.cmpi .ne v819 c0_i32_326
  let v821 : BitVec 1 := Scalar.andi v818 v820
  let v807 : BitVec 32 := Scalar.divsi v806 c128_i32_321
  let c1_i32_327 : BitVec 32 := 1#32
  let v822 : BitVec 32 := Scalar.subi v807 c1_i32_327
  let v823 : BitVec 32 := Scalar.select v821 v822 v807
  let c128_i32_328 : BitVec 32 := 128#32
  let v824 : BitVec 32 := Scalar.muli v823 c128_i32_328
  v824

def k0_mult42 (v826 : BitVec 32) : BitVec 32 :=
  let c0_i32_330 : BitVec 32 := 0#32
  let v828 : BitVec 1 := Scalar.cmpi .sgt v826 c0_i32_330
  let v829 : BitVec 32 := Scalar.extui v828
  let c0_i32_331 : BitVec 32 := 0#32
  let v830 : BitVec 1 := Scalar.cmpi .slt v826 c0_i32_331
  let v831 : BitVec 32 := Scalar.extui v830
  let v832 : BitVec 32 := Scalar.subi v829 v831
  let c128_i32_329 : BitVec 32 := 128#32
  let c0_i32_332 : BitVec 32 := 0#32
  let v833 : BitVec 1 := Scalar.cmpi .sgt c128_i32_329 c0_i32_332
  let v834 : BitVec 32 := Scalar.extui v833
  let c0_i32_333 : BitVec 32 := 0#32
  let v835 : BitVec 1 := Scalar.cmpi .slt c128_i32_329 c0_i32_333
  let v836 : BitVec 32 := Scalar.extui v835
  let v837 : BitVec 32 := Scalar.subi v834 v836
  let v838 : BitVec 1 := Scalar.cmpi .ne v832 v837
  let v839 : BitVec 32 := Scalar.remsi v826 c128_i32_329
  let c0_i32_334 : BitVec 32 := 0#32
  let v840 : BitVec 1 := Scalar.cmpi .ne v839 c0_i32_334
  let v841 : BitVec 1 := Scalar.andi v838 v840
  let v827 : BitVec 32 := Scalar.divsi v826 c128_i32_329
  let c1_i32_335 : BitVec 32 := 1#32
  let v842 : BitVec 32 := Scalar.subi v827 c1_i32_335
  let v843 : BitVec 32 := Scalar.select v841 v842 v827
  let c128_i32_336 : BitVec 32 := 128#32
  let v844 : BitVec 32 := Scalar.muli v843 c128_i32_336
  v844

def k0_mult43 (v846 : BitVec 32) : BitVec 32 :=
  let c0_i32_338 : BitVec 32 := 0#32
  let v848 : BitVec 1 := Scalar.cmpi .sgt v846 c0_i32_338
  let v849 : BitVec 32 := Scalar.extui v848
  let c0_i32_339 : BitVec 32 := 0#32
  let v850 : BitVec 1 := Scalar.cmpi .slt v846 c0_i32_339
  let v851 : BitVec 32 := Scalar.extui v850
  let v852 : BitVec 32 := Scalar.subi v849 v851
  let c128_i32_337 : BitVec 32 := 128#32
  let c0_i32_340 : BitVec 32 := 0#32
  let v853 : BitVec 1 := Scalar.cmpi .sgt c128_i32_337 c0_i32_340
  let v854 : BitVec 32 := Scalar.extui v853
  let c0_i32_341 : BitVec 32 := 0#32
  let v855 : BitVec 1 := Scalar.cmpi .slt c128_i32_337 c0_i32_341
  let v856 : BitVec 32 := Scalar.extui v855
  let v857 : BitVec 32 := Scalar.subi v854 v856
  let v858 : BitVec 1 := Scalar.cmpi .ne v852 v857
  let v859 : BitVec 32 := Scalar.remsi v846 c128_i32_337
  let c0_i32_342 : BitVec 32 := 0#32
  let v860 : BitVec 1 := Scalar.cmpi .ne v859 c0_i32_342
  let v861 : BitVec 1 := Scalar.andi v858 v860
  let v847 : BitVec 32 := Scalar.divsi v846 c128_i32_337
  let c1_i32_343 : BitVec 32 := 1#32
  let v862 : BitVec 32 := Scalar.subi v847 c1_i32_343
  let v863 : BitVec 32 := Scalar.select v861 v862 v847
  let c128_i32_344 : BitVec 32 := 128#32
  let v864 : BitVec 32 := Scalar.muli v863 c128_i32_344
  v864

def k0_mult44 (v866 : BitVec 32) : BitVec 32 :=
  let c0_i32_346 : BitVec 32 := 0#32
  let v868 : BitVec 1 := Scalar.cmpi .sgt v866 c0_i32_346
  let v869 : BitVec 32 := Scalar.extui v868
  let c0_i32_347 : BitVec 32 := 0#32
  let v870 : BitVec 1 := Scalar.cmpi .slt v866 c0_i32_347
  let v871 : BitVec 32 := Scalar.extui v870
  let v872 : BitVec 32 := Scalar.subi v869 v871
  let c128_i32_345 : BitVec 32 := 128#32
  let c0_i32_348 : BitVec 32 := 0#32
  let v873 : BitVec 1 := Scalar.cmpi .sgt c128_i32_345 c0_i32_348
  let v874 : BitVec 32 := Scalar.extui v873
  let c0_i32_349 : BitVec 32 := 0#32
  let v875 : BitVec 1 := Scalar.cmpi .slt c128_i32_345 c0_i32_349
  let v876 : BitVec 32 := Scalar.extui v875
  let v877 : BitVec 32 := Scalar.subi v874 v876
  let v878 : BitVec 1 := Scalar.cmpi .ne v872 v877
  let v879 : BitVec 32 := Scalar.remsi v866 c128_i32_345
  let c0_i32_350 : BitVec 32 := 0#32
  let v880 : BitVec 1 := Scalar.cmpi .ne v879 c0_i32_350
  let v881 : BitVec 1 := Scalar.andi v878 v880
  let v867 : BitVec 32 := Scalar.divsi v866 c128_i32_345
  let c1_i32_351 : BitVec 32 := 1#32
  let v882 : BitVec 32 := Scalar.subi v867 c1_i32_351
  let v883 : BitVec 32 := Scalar.select v881 v882 v867
  let c128_i32_352 : BitVec 32 := 128#32
  let v884 : BitVec 32 := Scalar.muli v883 c128_i32_352
  v884

def k0_mult45 (v886 : BitVec 32) : BitVec 32 :=
  let c0_i32_354 : BitVec 32 := 0#32
  let v888 : BitVec 1 := Scalar.cmpi .sgt v886 c0_i32_354
  let v889 : BitVec 32 := Scalar.extui v888
  let c0_i32_355 : BitVec 32 := 0#32
  let v890 : BitVec 1 := Scalar.cmpi .slt v886 c0_i32_355
  let v891 : BitVec 32 := Scalar.extui v890
  let v892 : BitVec 32 := Scalar.subi v889 v891
  let c128_i32_353 : BitVec 32 := 128#32
  let c0_i32_356 : BitVec 32 := 0#32
  let v893 : BitVec 1 := Scalar.cmpi .sgt c128_i32_353 c0_i32_356
  let v894 : BitVec 32 := Scalar.extui v893
  let c0_i32_357 : BitVec 32 := 0#32
  let v895 : BitVec 1 := Scalar.cmpi .slt c128_i32_353 c0_i32_357
  let v896 : BitVec 32 := Scalar.extui v895
  let v897 : BitVec 32 := Scalar.subi v894 v896
  let v898 : BitVec 1 := Scalar.cmpi .ne v892 v897
  let v899 : BitVec 32 := Scalar.remsi v886 c128_i32_353
  let c0_i32_358 : BitVec 32 := 0#32
  let v900 : BitVec 1 := Scalar.cmpi .ne v899 c0_i32_358
  let v901 : BitVec 1 := Scalar.andi v898 v900
  let v887 : BitVec 32 := Scalar.divsi v886 c128_i32_353
  let c1_i32_359 : BitVec 32 := 1#32
  let v902 : BitVec 32 := Scalar.subi v887 c1_i32_359
  let v903 : BitVec 32 := Scalar.select v901 v902 v887
  let c128_i32_360 : BitVec 32 := 128#32
  let v904 : BitVec 32 := Scalar.muli v903 c128_i32_360
  v904

def k0_mult46 (v906 : BitVec 32) : BitVec 32 :=
  let c0_i32_362 : BitVec 32 := 0#32
  let v908 : BitVec 1 := Scalar.cmpi .sgt v906 c0_i32_362
  let v909 : BitVec 32 := Scalar.extui v908
  let c0_i32_363 : BitVec 32 := 0#32
  let v910 : BitVec 1 := Scalar.cmpi .slt v906 c0_i32_363
  let v911 : BitVec 32 := Scalar.extui v910
  let v912 : BitVec 32 := Scalar.subi v909 v911
  let c128_i32_361 : BitVec 32 := 128#32
  let c0_i32_364 : BitVec 32 := 0#32
  let v913 : BitVec 1 := Scalar.cmpi .sgt c128_i32_361 c0_i32_364
  let v914 : BitVec 32 := Scalar.extui v913
  let c0_i32_365 : BitVec 32 := 0#32
  let v915 : BitVec 1 := Scalar.cmpi .slt c128_i32_361 c0_i32_365
  let v916 : BitVec 32 := Scalar.extui v915
  let v917 : BitVec 32 := Scalar.subi v914 v916
  let v918 : BitVec 1 := Scalar.cmpi .ne v912 v917
  let v919 : BitVec 32 := Scalar.remsi v906 c128_i32_361
  let c0_i32_366 : BitVec 32 := 0#32
  let v920 : BitVec 1 := Scalar.cmpi .ne v919 c0_i32_366
  let v921 : BitVec 1 := Scalar.andi v918 v920
  let v907 : BitVec 32 := Scalar.divsi v906 c128_i32_361
  let c1_i32_367 : BitVec 32 := 1#32
  let v922 : BitVec 32 := Scalar.subi v907 c1_i32_367
  let v923 : BitVec 32 := Scalar.select v921 v922 v907
  let c128_i32_368 : BitVec 32 := 128#32
  let v924 : BitVec 32 := Scalar.muli v923 c128_i32_368
  v924

def k0_mult47 (v926 : BitVec 32) : BitVec 32 :=
  let c0_i32_370 : BitVec 32 := 0#32
  let v928 : BitVec 1 := Scalar.cmpi .sgt v926 c0_i32_370
  let v929 : BitVec 32 := Scalar.extui v928
  let c0_i32_371 : BitVec 32 := 0#32
  let v930 : BitVec 1 := Scalar.cmpi .slt v926 c0_i32_371
  let v931 : BitVec 32 := Scalar.extui v930
  let v932 : BitVec 32 := Scalar.subi v929 v931
  let c128_i32_369 : BitVec 32 := 128#32
  let c0_i32_372 : BitVec 32 := 0#32
  let v933 : BitVec 1 := Scalar.cmpi .sgt c128_i32_369 c0_i32_372
  let v934 : BitVec 32 := Scalar.extui v933
  let c0_i32_373 : BitVec 32 := 0#32
  let v935 : BitVec 1 := Scalar.cmpi .slt c128_i32_369 c0_i32_373
  let v936 : BitVec 32 := Scalar.extui v935
  let v937 : BitVec 32 := Scalar.subi v934 v936
  let v938 : BitVec 1 := Scalar.cmpi .ne v932 v937
  let v939 : BitVec 32 := Scalar.remsi v926 c128_i32_369
  let c0_i32_374 : BitVec 32 := 0#32
  let v940 : BitVec 1 := Scalar.cmpi .ne v939 c0_i32_374
  let v941 : BitVec 1 := Scalar.andi v938 v940
  let v927 : BitVec 32 := Scalar.divsi v926 c128_i32_369
  let c1_i32_375 : BitVec 32 := 1#32
  let v942 : BitVec 32 := Scalar.subi v927 c1_i32_375
  let v943 : BitVec 32 := Scalar.select v941 v942 v927
  let c128_i32_376 : BitVec 32 := 128#32
  let v944 : BitVec 32 := Scalar.muli v943 c128_i32_376
  v944

def k0_mult48 (v946 : BitVec 32) : BitVec 32 :=
  let c0_i32_378 : BitVec 32 := 0#32
  let v948 : BitVec 1 := Scalar.cmpi .sgt v946 c0_i32_378
  let v949 : BitVec 32 := Scalar.extui v948
  let c0_i32_379 : BitVec 32 := 0#32
  let v950 : BitVec 1 := Scalar.cmpi .slt v946 c0_i32_379
  let v951 : BitVec 32 := Scalar.extui v950
  let v952 : BitVec 32 := Scalar.subi v949 v951
  let c128_i32_377 : BitVec 32 := 128#32
  let c0_i32_380 : BitVec 32 := 0#32
  let v953 : BitVec 1 := Scalar.cmpi .sgt c128_i32_377 c0_i32_380
  let v954 : BitVec 32 := Scalar.extui v953
  let c0_i32_381 : BitVec 32 := 0#32
  let v955 : BitVec 1 := Scalar.cmpi .slt c128_i32_377 c0_i32_381
  let v956 : BitVec 32 := Scalar.extui v955
  let v957 : BitVec 32 := Scalar.subi v954 v956
  let v958 : BitVec 1 := Scalar.cmpi .ne v952 v957
  let v959 : BitVec 32 := Scalar.remsi v946 c128_i32_377
  let c0_i32_382 : BitVec 32 := 0#32
  let v960 : BitVec 1 := Scalar.cmpi .ne v959 c0_i32_382
  let v961 : BitVec 1 := Scalar.andi v958 v960
  let v947 : BitVec 32 := Scalar.divsi v946 c128_i32_377
  let c1_i32_383 : BitVec 32 := 1#32
  let v962 : BitVec 32 := Scalar.subi v947 c1_i32_383
  let v963 : BitVec 32 := Scalar.select v961 v962 v947
  let c128_i32_384 : BitVec 32 := 128#32
  let v964 : BitVec 32 := Scalar.muli v963 c128_i32_384
  v964

def k0_mult49 (v966 : BitVec 32) : BitVec 32 :=
  let c0_i32_386 : BitVec 32 := 0#32
  let v968 : BitVec 1 := Scalar.cmpi .sgt v966 c0_i32_386
  let v969 : BitVec 32 := Scalar.extui v968
  let c0_i32_387 : BitVec 32 := 0#32
  let v970 : BitVec 1 := Scalar.cmpi .slt v966 c0_i32_387
  let v971 : BitVec 32 := Scalar.extui v970
  let v972 : BitVec 32 := Scalar.subi v969 v971
  let c128_i32_385 : BitVec 32 := 128#32
  let c0_i32_388 : BitVec 32 := 0#32
  let v973 : BitVec 1 := Scalar.cmpi .sgt c128_i32_385 c0_i32_388
  let v974 : BitVec 32 := Scalar.extui v973
  let c0_i32_389 : BitVec 32 := 0#32
  let v975 : BitVec 1 := Scalar.cmpi .slt c128_i32_385 c0_i32_389
  let v976 : BitVec 32 := Scalar.extui v975
  let v977 : BitVec 32 := Scalar.subi v974 v976
  let v978 : BitVec 1 := Scalar.cmpi .ne v972 v977
  let v979 : BitVec 32 := Scalar.remsi v966 c128_i32_385
  let c0_i32_390 : BitVec 32 := 0#32
  let v980 : BitVec 1 := Scalar.cmpi .ne v979 c0_i32_390
  let v981 : BitVec 1 := Scalar.andi v978 v980
  let v967 : BitVec 32 := Scalar.divsi v966 c128_i32_385
  let c1_i32_391 : BitVec 32 := 1#32
  let v982 : BitVec 32 := Scalar.subi v967 c1_i32_391
  let v983 : BitVec 32 := Scalar.select v981 v982 v967
  let c128_i32_392 : BitVec 32 := 128#32
  let v984 : BitVec 32 := Scalar.muli v983 c128_i32_392
  v984

def k0_mult50 (v986 : BitVec 32) : BitVec 32 :=
  let c0_i32_394 : BitVec 32 := 0#32
  let v988 : BitVec 1 := Scalar.cmpi .sgt v986 c0_i32_394
  let v989 : BitVec 32 := Scalar.extui v988
  let c0_i32_395 : BitVec 32 := 0#32
  let v990 : BitVec 1 := Scalar.cmpi .slt v986 c0_i32_395
  let v991 : BitVec 32 := Scalar.extui v990
  let v992 : BitVec 32 := Scalar.subi v989 v991
  let c128_i32_393 : BitVec 32 := 128#32
  let c0_i32_396 : BitVec 32 := 0#32
  let v993 : BitVec 1 := Scalar.cmpi .sgt c128_i32_393 c0_i32_396
  let v994 : BitVec 32 := Scalar.extui v993
  let c0_i32_397 : BitVec 32 := 0#32
  let v995 : BitVec 1 := Scalar.cmpi .slt c128_i32_393 c0_i32_397
  let v996 : BitVec 32 := Scalar.extui v995
  let v997 : BitVec 32 := Scalar.subi v994 v996
  let v998 : BitVec 1 := Scalar.cmpi .ne v992 v997
  let v999 : BitVec 32 := Scalar.remsi v986 c128_i32_393
  let c0_i32_398 : BitVec 32 := 0#32
  let v1000 : BitVec 1 := Scalar.cmpi .ne v999 c0_i32_398
  let v1001 : BitVec 1 := Scalar.andi v998 v1000
  let v987 : BitVec 32 := Scalar.divsi v986 c128_i32_393
  let c1_i32_399 : BitVec 32 := 1#32
  let v1002 : BitVec 32 := Scalar.subi v987 c1_i32_399
  let v1003 : BitVec 32 := Scalar.select v1001 v1002 v987
  let c128_i32_400 : BitVec 32 := 128#32
  let v1004 : BitVec 32 := Scalar.muli v1003 c128_i32_400
  v1004

def k0_mult51 (v1006 : BitVec 32) : BitVec 32 :=
  let c0_i32_402 : BitVec 32 := 0#32
  let v1008 : BitVec 1 := Scalar.cmpi .sgt v1006 c0_i32_402
  let v1009 : BitVec 32 := Scalar.extui v1008
  let c0_i32_403 : BitVec 32 := 0#32
  let v1010 : BitVec 1 := Scalar.cmpi .slt v1006 c0_i32_403
  let v1011 : BitVec 32 := Scalar.extui v1010
  let v1012 : BitVec 32 := Scalar.subi v1009 v1011
  let c128_i32_401 : BitVec 32 := 128#32
  let c0_i32_404 : BitVec 32 := 0#32
  let v1013 : BitVec 1 := Scalar.cmpi .sgt c128_i32_401 c0_i32_404
  let v1014 : BitVec 32 := Scalar.extui v1013
  let c0_i32_405 : BitVec 32 := 0#32
  let v1015 : BitVec 1 := Scalar.cmpi .slt c128_i32_401 c0_i32_405
  let v1016 : BitVec 32 := Scalar.extui v1015
  let v1017 : BitVec 32 := Scalar.subi v1014 v1016
  let v1018 : BitVec 1 := Scalar.cmpi .ne v1012 v1017
  let v1019 : BitVec 32 := Scalar.remsi v1006 c128_i32_401
  let c0_i32_406 : BitVec 32 := 0#32
  let v1020 : BitVec 1 := Scalar.cmpi .ne v1019 c0_i32_406
  let v1021 : BitVec 1 := Scalar.andi v1018 v1020
  let v1007 : BitVec 32 := Scalar.divsi v1006 c128_i32_401
  let c1_i32_407 : BitVec 32 := 1#32
  let v1022 : BitVec 32 := Scalar.subi v1007 c1_i32_407
  let v1023 : BitVec 32 := Scalar.select v1021 v1022 v1007
  let c128_i32_408 : BitVec 32 := 128#32
  let v1024 : BitVec 32 := Scalar.muli v1023 c128_i32_408
  v1024

def k0_mult52 (v1026 : BitVec 32) : BitVec 32 :=
  let c0_i32_410 : BitVec 32 := 0#32
  let v1028 : BitVec 1 := Scalar.cmpi .sgt v1026 c0_i32_410
  let v1029 : BitVec 32 := Scalar.extui v1028
  let c0_i32_411 : BitVec 32 := 0#32
  let v1030 : BitVec 1 := Scalar.cmpi .slt v1026 c0_i32_411
  let v1031 : BitVec 32 := Scalar.extui v1030
  let v1032 : BitVec 32 := Scalar.subi v1029 v1031
  let c128_i32_409 : BitVec 32 := 128#32
  let c0_i32_412 : BitVec 32 := 0#32
  let v1033 : BitVec 1 := Scalar.cmpi .sgt c128_i32_409 c0_i32_412
  let v1034 : BitVec 32 := Scalar.extui v1033
  let c0_i32_413 : BitVec 32 := 0#32
  let v1035 : BitVec 1 := Scalar.cmpi .slt c128_i32_409 c0_i32_413
  let v1036 : BitVec 32 := Scalar.extui v1035
  let v1037 : BitVec 32 := Scalar.subi v1034 v1036
  let v1038 : BitVec 1 := Scalar.cmpi .ne v1032 v1037
  let v1039 : BitVec 32 := Scalar.remsi v1026 c128_i32_409
  let c0_i32_414 : BitVec 32 := 0#32
  let v1040 : BitVec 1 := Scalar.cmpi .ne v1039 c0_i32_414
  let v1041 : BitVec 1 := Scalar.andi v1038 v1040
  let v1027 : BitVec 32 := Scalar.divsi v1026 c128_i32_409
  let c1_i32_415 : BitVec 32 := 1#32
  let v1042 : BitVec 32 := Scalar.subi v1027 c1_i32_415
  let v1043 : BitVec 32 := Scalar.select v1041 v1042 v1027
  let c128_i32_416 : BitVec 32 := 128#32
  let v1044 : BitVec 32 := Scalar.muli v1043 c128_i32_416
  v1044

def k0_mult53 (v1046 : BitVec 32) : BitVec 32 :=
  let c0_i32_418 : BitVec 32 := 0#32
  let v1048 : BitVec 1 := Scalar.cmpi .sgt v1046 c0_i32_418
  let v1049 : BitVec 32 := Scalar.extui v1048
  let c0_i32_419 : BitVec 32 := 0#32
  let v1050 : BitVec 1 := Scalar.cmpi .slt v1046 c0_i32_419
  let v1051 : BitVec 32 := Scalar.extui v1050
  let v1052 : BitVec 32 := Scalar.subi v1049 v1051
  let c128_i32_417 : BitVec 32 := 128#32
  let c0_i32_420 : BitVec 32 := 0#32
  let v1053 : BitVec 1 := Scalar.cmpi .sgt c128_i32_417 c0_i32_420
  let v1054 : BitVec 32 := Scalar.extui v1053
  let c0_i32_421 : BitVec 32 := 0#32
  let v1055 : BitVec 1 := Scalar.cmpi .slt c128_i32_417 c0_i32_421
  let v1056 : BitVec 32 := Scalar.extui v1055
  let v1057 : BitVec 32 := Scalar.subi v1054 v1056
  let v1058 : BitVec 1 := Scalar.cmpi .ne v1052 v1057
  let v1059 : BitVec 32 := Scalar.remsi v1046 c128_i32_417
  let c0_i32_422 : BitVec 32 := 0#32
  let v1060 : BitVec 1 := Scalar.cmpi .ne v1059 c0_i32_422
  let v1061 : BitVec 1 := Scalar.andi v1058 v1060
  let v1047 : BitVec 32 := Scalar.divsi v1046 c128_i32_417
  let c1_i32_423 : BitVec 32 := 1#32
  let v1062 : BitVec 32 := Scalar.subi v1047 c1_i32_423
  let v1063 : BitVec 32 := Scalar.select v1061 v1062 v1047
  let c128_i32_424 : BitVec 32 := 128#32
  let v1064 : BitVec 32 := Scalar.muli v1063 c128_i32_424
  v1064

def k0_mult54 (v1066 : BitVec 32) : BitVec 32 :=
  let c0_i32_426 : BitVec 32 := 0#32
  let v1068 : BitVec 1 := Scalar.cmpi .sgt v1066 c0_i32_426
  let v1069 : BitVec 32 := Scalar.extui v1068
  let c0_i32_427 : BitVec 32 := 0#32
  let v1070 : BitVec 1 := Scalar.cmpi .slt v1066 c0_i32_427
  let v1071 : BitVec 32 := Scalar.extui v1070
  let v1072 : BitVec 32 := Scalar.subi v1069 v1071
  let c128_i32_425 : BitVec 32 := 128#32
  let c0_i32_428 : BitVec 32 := 0#32
  let v1073 : BitVec 1 := Scalar.cmpi .sgt c128_i32_425 c0_i32_428
  let v1074 : BitVec 32 := Scalar.extui v1073
  let c0_i32_429 : BitVec 32 := 0#32
  let v1075 : BitVec 1 := Scalar.cmpi .slt c128_i32_425 c0_i32_429
  let v1076 : BitVec 32 := Scalar.extui v1075
  let v1077 : BitVec 32 := Scalar.subi v1074 v1076
  let v1078 : BitVec 1 := Scalar.cmpi .ne v1072 v1077
  let v1079 : BitVec 32 := Scalar.remsi v1066 c128_i32_425
  let c0_i32_430 : BitVec 32 := 0#32
  let v1080 : BitVec 1 := Scalar.cmpi .ne v1079 c0_i32_430
  let v1081 : BitVec 1 := Scalar.andi v1078 v1080
  let v1067 : BitVec 32 := Scalar.divsi v1066 c128_i32_425
  let c1_i32_431 : BitVec 32 := 1#32
  let v1082 : BitVec 32 := Scalar.subi v1067 c1_i32_431
  let v1083 : BitVec 32 := Scalar.select v1081 v1082 v1067
  let c128_i32_432 : BitVec 32 := 128#32
  let v1084 : BitVec 32 := Scalar.muli v1083 c128_i32_432
  v1084

def k0_mult55 (v1086 : BitVec 32) : BitVec 32 :=
  let c0_i32_434 : BitVec 32 := 0#32
  let v1088 : BitVec 1 := Scalar.cmpi .sgt v1086 c0_i32_434
  let v1089 : BitVec 32 := Scalar.extui v1088
  let c0_i32_435 : BitVec 32 := 0#32
  let v1090 : BitVec 1 := Scalar.cmpi .slt v1086 c0_i32_435
  let v1091 : BitVec 32 := Scalar.extui v1090
  let v1092 : BitVec 32 := Scalar.subi v1089 v1091
  let c128_i32_433 : BitVec 32 := 128#32
  let c0_i32_436 : BitVec 32 := 0#32
  let v1093 : BitVec 1 := Scalar.cmpi .sgt c128_i32_433 c0_i32_436
  let v1094 : BitVec 32 := Scalar.extui v1093
  let c0_i32_437 : BitVec 32 := 0#32
  let v1095 : BitVec 1 := Scalar.cmpi .slt c128_i32_433 c0_i32_437
  let v1096 : BitVec 32 := Scalar.extui v1095
  let v1097 : BitVec 32 := Scalar.subi v1094 v1096
  let v1098 : BitVec 1 := Scalar.cmpi .ne v1092 v1097
  let v1099 : BitVec 32 := Scalar.remsi v1086 c128_i32_433
  let c0_i32_438 : BitVec 32 := 0#32
  let v1100 : BitVec 1 := Scalar.cmpi .ne v1099 c0_i32_438
  let v1101 : BitVec 1 := Scalar.andi v1098 v1100
  let v1087 : BitVec 32 := Scalar.divsi v1086 c128_i32_433
  let c1_i32_439 : BitVec 32 := 1#32
  let v1102 : BitVec 32 := Scalar.subi v1087 c1_i32_439
  let v1103 : BitVec 32 := Scalar.select v1101 v1102 v1087
  let c128_i32_440 : BitVec 32 := 128#32
  let v1104 : BitVec 32 := Scalar.muli v1103 c128_i32_440
  v1104

def k0_mult56 (v1106 : BitVec 32) : BitVec 32 :=
  let c0_i32_442 : BitVec 32 := 0#32
  let v1108 : BitVec 1 := Scalar.cmpi .sgt v1106 c0_i32_442
  let v1109 : BitVec 32 := Scalar.extui v1108
  let c0_i32_443 : BitVec 32 := 0#32
  let v1110 : BitVec 1 := Scalar.cmpi .slt v1106 c0_i32_443
  let v1111 : BitVec 32 := Scalar.extui v1110
  let v1112 : BitVec 32 := Scalar.subi v1109 v1111
  let c128_i32_441 : BitVec 32 := 128#32
  let c0_i32_444 : BitVec 32 := 0#32
  let v1113 : BitVec 1 := Scalar.cmpi .sgt c128_i32_441 c0_i32_444
  let v1114 : BitVec 32 := Scalar.extui v1113
  let c0_i32_445 : BitVec 32 := 0#32
  let v1115 : BitVec 1 := Scalar.cmpi .slt c128_i32_441 c0_i32_445
  let v1116 : BitVec 32 := Scalar.extui v1115
  let v1117 : BitVec 32 := Scalar.subi v1114 v1116
  let v1118 : BitVec 1 := Scalar.cmpi .ne v1112 v1117
  let v1119 : BitVec 32 := Scalar.remsi v1106 c128_i32_441
  let c0_i32_446 : BitVec 32 := 0#32
  let v1120 : BitVec 1 := Scalar.cmpi .ne v1119 c0_i32_446
  let v1121 : BitVec 1 := Scalar.andi v1118 v1120
  let v1107 : BitVec 32 := Scalar.divsi v1106 c128_i32_441
  let c1_i32_447 : BitVec 32 := 1#32
  let v1122 : BitVec 32 := Scalar.subi v1107 c1_i32_447
  let v1123 : BitVec 32 := Scalar.select v1121 v1122 v1107
  let c128_i32_448 : BitVec 32 := 128#32
  let v1124 : BitVec 32 := Scalar.muli v1123 c128_i32_448
  v1124

def k0_mult57 (v1126 : BitVec 32) : BitVec 32 :=
  let c0_i32_450 : BitVec 32 := 0#32
  let v1128 : BitVec 1 := Scalar.cmpi .sgt v1126 c0_i32_450
  let v1129 : BitVec 32 := Scalar.extui v1128
  let c0_i32_451 : BitVec 32 := 0#32
  let v1130 : BitVec 1 := Scalar.cmpi .slt v1126 c0_i32_451
  let v1131 : BitVec 32 := Scalar.extui v1130
  let v1132 : BitVec 32 := Scalar.subi v1129 v1131
  let c128_i32_449 : BitVec 32 := 128#32
  let c0_i32_452 : BitVec 32 := 0#32
  let v1133 : BitVec 1 := Scalar.cmpi .sgt c128_i32_449 c0_i32_452
  let v1134 : BitVec 32 := Scalar.extui v1133
  let c0_i32_453 : BitVec 32 := 0#32
  let v1135 : BitVec 1 := Scalar.cmpi .slt c128_i32_449 c0_i32_453
  let v1136 : BitVec 32 := Scalar.extui v1135
  let v1137 : BitVec 32 := Scalar.subi v1134 v1136
  let v1138 : BitVec 1 := Scalar.cmpi .ne v1132 v1137
  let v1139 : BitVec 32 := Scalar.remsi v1126 c128_i32_449
  let c0_i32_454 : BitVec 32 := 0#32
  let v1140 : BitVec 1 := Scalar.cmpi .ne v1139 c0_i32_454
  let v1141 : BitVec 1 := Scalar.andi v1138 v1140
  let v1127 : BitVec 32 := Scalar.divsi v1126 c128_i32_449
  let c1_i32_455 : BitVec 32 := 1#32
  let v1142 : BitVec 32 := Scalar.subi v1127 c1_i32_455
  let v1143 : BitVec 32 := Scalar.select v1141 v1142 v1127
  let c128_i32_456 : BitVec 32 := 128#32
  let v1144 : BitVec 32 := Scalar.muli v1143 c128_i32_456
  v1144

def k0_mult58 (v1146 : BitVec 32) : BitVec 32 :=
  let c0_i32_458 : BitVec 32 := 0#32
  let v1148 : BitVec 1 := Scalar.cmpi .sgt v1146 c0_i32_458
  let v1149 : BitVec 32 := Scalar.extui v1148
  let c0_i32_459 : BitVec 32 := 0#32
  let v1150 : BitVec 1 := Scalar.cmpi .slt v1146 c0_i32_459
  let v1151 : BitVec 32 := Scalar.extui v1150
  let v1152 : BitVec 32 := Scalar.subi v1149 v1151
  let c128_i32_457 : BitVec 32 := 128#32
  let c0_i32_460 : BitVec 32 := 0#32
  let v1153 : BitVec 1 := Scalar.cmpi .sgt c128_i32_457 c0_i32_460
  let v1154 : BitVec 32 := Scalar.extui v1153
  let c0_i32_461 : BitVec 32 := 0#32
  let v1155 : BitVec 1 := Scalar.cmpi .slt c128_i32_457 c0_i32_461
  let v1156 : BitVec 32 := Scalar.extui v1155
  let v1157 : BitVec 32 := Scalar.subi v1154 v1156
  let v1158 : BitVec 1 := Scalar.cmpi .ne v1152 v1157
  let v1159 : BitVec 32 := Scalar.remsi v1146 c128_i32_457
  let c0_i32_462 : BitVec 32 := 0#32
  let v1160 : BitVec 1 := Scalar.cmpi .ne v1159 c0_i32_462
  let v1161 : BitVec 1 := Scalar.andi v1158 v1160
  let v1147 : BitVec 32 := Scalar.divsi v1146 c128_i32_457
  let c1_i32_463 : BitVec 32 := 1#32
  let v1162 : BitVec 32 := Scalar.subi v1147 c1_i32_463
  let v1163 : BitVec 32 := Scalar.select v1161 v1162 v1147
  let c128_i32_464 : BitVec 32 := 128#32
  let v1164 : BitVec 32 := Scalar.muli v1163 c128_i32_464
  v1164

def k0_mult59 (v1166 : BitVec 32) : BitVec 32 :=
  let c0_i32_466 : BitVec 32 := 0#32
  let v1168 : BitVec 1 := Scalar.cmpi .sgt v1166 c0_i32_466
  let v1169 : BitVec 32 := Scalar.extui v1168
  let c0_i32_467 : BitVec 32 := 0#32
  let v1170 : BitVec 1 := Scalar.cmpi .slt v1166 c0_i32_467
  let v1171 : BitVec 32 := Scalar.extui v1170
  let v1172 : BitVec 32 := Scalar.subi v1169 v1171
  let c128_i32_465 : BitVec 32 := 128#32
  let c0_i32_468 : BitVec 32 := 0#32
  let v1173 : BitVec 1 := Scalar.cmpi .sgt c128_i32_465 c0_i32_468
  let v1174 : BitVec 32 := Scalar.extui v1173
  let c0_i32_469 : BitVec 32 := 0#32
  let v1175 : BitVec 1 := Scalar.cmpi .slt c128_i32_465 c0_i32_469
  let v1176 : BitVec 32 := Scalar.extui v1175
  let v1177 : BitVec 32 := Scalar.subi v1174 v1176
  let v1178 : BitVec 1 := Scalar.cmpi .ne v1172 v1177
  let v1179 : BitVec 32 := Scalar.remsi v1166 c128_i32_465
  let c0_i32_470 : BitVec 32 := 0#32
  let v1180 : BitVec 1 := Scalar.cmpi .ne v1179 c0_i32_470
  let v1181 : BitVec 1 := Scalar.andi v1178 v1180
  let v1167 : BitVec 32 := Scalar.divsi v1166 c128_i32_465
  let c1_i32_471 : BitVec 32 := 1#32
  let v1182 : BitVec 32 := Scalar.subi v1167 c1_i32_471
  let v1183 : BitVec 32 := Scalar.select v1181 v1182 v1167
  let c128_i32_472 : BitVec 32 := 128#32
  let v1184 : BitVec 32 := Scalar.muli v1183 c128_i32_472
  v1184

def k0_mult60 (v1186 : BitVec 32) : BitVec 32 :=
  let c0_i32_474 : BitVec 32 := 0#32
  let v1188 : BitVec 1 := Scalar.cmpi .sgt v1186 c0_i32_474
  let v1189 : BitVec 32 := Scalar.extui v1188
  let c0_i32_475 : BitVec 32 := 0#32
  let v1190 : BitVec 1 := Scalar.cmpi .slt v1186 c0_i32_475
  let v1191 : BitVec 32 := Scalar.extui v1190
  let v1192 : BitVec 32 := Scalar.subi v1189 v1191
  let c128_i32_473 : BitVec 32 := 128#32
  let c0_i32_476 : BitVec 32 := 0#32
  let v1193 : BitVec 1 := Scalar.cmpi .sgt c128_i32_473 c0_i32_476
  let v1194 : BitVec 32 := Scalar.extui v1193
  let c0_i32_477 : BitVec 32 := 0#32
  let v1195 : BitVec 1 := Scalar.cmpi .slt c128_i32_473 c0_i32_477
  let v1196 : BitVec 32 := Scalar.extui v1195
  let v1197 : BitVec 32 := Scalar.subi v1194 v1196
  let v1198 : BitVec 1 := Scalar.cmpi .ne v1192 v1197
  let v1199 : BitVec 32 := Scalar.remsi v1186 c128_i32_473
  let c0_i32_478 : BitVec 32 := 0#32
  let v1200 : BitVec 1 := Scalar.cmpi .ne v1199 c0_i32_478
  let v1201 : BitVec 1 := Scalar.andi v1198 v1200
  let v1187 : BitVec 32 := Scalar.divsi v1186 c128_i32_473
  let c1_i32_479 : BitVec 32 := 1#32
  let v1202 : BitVec 32 := Scalar.subi v1187 c1_i32_479
  let v1203 : BitVec 32 := Scalar.select v1201 v1202 v1187
  let c128_i32_480 : BitVec 32 := 128#32
  let v1204 : BitVec 32 := Scalar.muli v1203 c128_i32_480
  v1204

def k0_mult61 (v1206 : BitVec 32) : BitVec 32 :=
  let c0_i32_482 : BitVec 32 := 0#32
  let v1208 : BitVec 1 := Scalar.cmpi .sgt v1206 c0_i32_482
  let v1209 : BitVec 32 := Scalar.extui v1208
  let c0_i32_483 : BitVec 32 := 0#32
  let v1210 : BitVec 1 := Scalar.cmpi .slt v1206 c0_i32_483
  let v1211 : BitVec 32 := Scalar.extui v1210
  let v1212 : BitVec 32 := Scalar.subi v1209 v1211
  let c128_i32_481 : BitVec 32 := 128#32
  let c0_i32_484 : BitVec 32 := 0#32
  let v1213 : BitVec 1 := Scalar.cmpi .sgt c128_i32_481 c0_i32_484
  let v1214 : BitVec 32 := Scalar.extui v1213
  let c0_i32_485 : BitVec 32 := 0#32
  let v1215 : BitVec 1 := Scalar.cmpi .slt c128_i32_481 c0_i32_485
  let v1216 : BitVec 32 := Scalar.extui v1215
  let v1217 : BitVec 32 := Scalar.subi v1214 v1216
  let v1218 : BitVec 1 := Scalar.cmpi .ne v1212 v1217
  let v1219 : BitVec 32 := Scalar.remsi v1206 c128_i32_481
  let c0_i32_486 : BitVec 32 := 0#32
  let v1220 : BitVec 1 := Scalar.cmpi .ne v1219 c0_i32_486
  let v1221 : BitVec 1 := Scalar.andi v1218 v1220
  let v1207 : BitVec 32 := Scalar.divsi v1206 c128_i32_481
  let c1_i32_487 : BitVec 32 := 1#32
  let v1222 : BitVec 32 := Scalar.subi v1207 c1_i32_487
  let v1223 : BitVec 32 := Scalar.select v1221 v1222 v1207
  let c128_i32_488 : BitVec 32 := 128#32
  let v1224 : BitVec 32 := Scalar.muli v1223 c128_i32_488
  v1224

def k0_mult62 (v1226 : BitVec 32) : BitVec 32 :=
  let c0_i32_490 : BitVec 32 := 0#32
  let v1228 : BitVec 1 := Scalar.cmpi .sgt v1226 c0_i32_490
  let v1229 : BitVec 32 := Scalar.extui v1228
  let c0_i32_491 : BitVec 32 := 0#32
  let v1230 : BitVec 1 := Scalar.cmpi .slt v1226 c0_i32_491
  let v1231 : BitVec 32 := Scalar.extui v1230
  let v1232 : BitVec 32 := Scalar.subi v1229 v1231
  let c128_i32_489 : BitVec 32 := 128#32
  let c0_i32_492 : BitVec 32 := 0#32
  let v1233 : BitVec 1 := Scalar.cmpi .sgt c128_i32_489 c0_i32_492
  let v1234 : BitVec 32 := Scalar.extui v1233
  let c0_i32_493 : BitVec 32 := 0#32
  let v1235 : BitVec 1 := Scalar.cmpi .slt c128_i32_489 c0_i32_493
  let v1236 : BitVec 32 := Scalar.extui v1235
  let v1237 : BitVec 32 := Scalar.subi v1234 v1236
  let v1238 : BitVec 1 := Scalar.cmpi .ne v1232 v1237
  let v1239 : BitVec 32 := Scalar.remsi v1226 c128_i32_489
  let c0_i32_494 : BitVec 32 := 0#32
  let v1240 : BitVec 1 := Scalar.cmpi .ne v1239 c0_i32_494
  let v1241 : BitVec 1 := Scalar.andi v1238 v1240
  let v1227 : BitVec 32 := Scalar.divsi v1226 c128_i32_489
  let c1_i32_495 : BitVec 32 := 1#32
  let v1242 : BitVec 32 := Scalar.subi v1227 c1_i32_495
  let v1243 : BitVec 32 := Scalar.select v1241 v1242 v1227
  let c128_i32_496 : BitVec 32 := 128#32
  let v1244 : BitVec 32 := Scalar.muli v1243 c128_i32_496
  v1244

def k0_mult63 (v1246 : BitVec 32) : BitVec 32 :=
  let c0_i32_498 : BitVec 32 := 0#32
  let v1248 : BitVec 1 := Scalar.cmpi .sgt v1246 c0_i32_498
  let v1249 : BitVec 32 := Scalar.extui v1248
  let c0_i32_499 : BitVec 32 := 0#32
  let v1250 : BitVec 1 := Scalar.cmpi .slt v1246 c0_i32_499
  let v1251 : BitVec 32 := Scalar.extui v1250
  let v1252 : BitVec 32 := Scalar.subi v1249 v1251
  let c128_i32_497 : BitVec 32 := 128#32
  let c0_i32_500 : BitVec 32 := 0#32
  let v1253 : BitVec 1 := Scalar.cmpi .sgt c128_i32_497 c0_i32_500
  let v1254 : BitVec 32 := Scalar.extui v1253
  let c0_i32_501 : BitVec 32 := 0#32
  let v1255 : BitVec 1 := Scalar.cmpi .slt c128_i32_497 c0_i32_501
  let v1256 : BitVec 32 := Scalar.extui v1255
  let v1257 : BitVec 32 := Scalar.subi v1254 v1256
  let v1258 : BitVec 1 := Scalar.cmpi .ne v1252 v1257
  let v1259 : BitVec 32 := Scalar.remsi v1246 c128_i32_497
  let c0_i32_502 : BitVec 32 := 0#32
  let v1260 : BitVec 1 := Scalar.cmpi .ne v1259 c0_i32_502
  let v1261 : BitVec 1 := Scalar.andi v1258 v1260
  let v1247 : BitVec 32 := Scalar.divsi v1246 c128_i32_497
  let c1_i32_503 : BitVec 32 := 1#32
  let v1262 : BitVec 32 := Scalar.subi v1247 c1_i32_503
  let v1263 : BitVec 32 := Scalar.select v1261 v1262 v1247
  let c128_i32_504 : BitVec 32 := 128#32
  let v1264 : BitVec 32 := Scalar.muli v1263 c128_i32_504
  v1264

def k0_mult64 (v1266 : BitVec 32) : BitVec 32 :=
  let c0_i32_506 : BitVec 32 := 0#32
  let v1268 : BitVec 1 := Scalar.cmpi .sgt v1266 c0_i32_506
  let v1269 : BitVec 32 := Scalar.extui v1268
  let c0_i32_507 : BitVec 32 := 0#32
  let v1270 : BitVec 1 := Scalar.cmpi .slt v1266 c0_i32_507
  let v1271 : BitVec 32 := Scalar.extui v1270
  let v1272 : BitVec 32 := Scalar.subi v1269 v1271
  let c128_i32_505 : BitVec 32 := 128#32
  let c0_i32_508 : BitVec 32 := 0#32
  let v1273 : BitVec 1 := Scalar.cmpi .sgt c128_i32_505 c0_i32_508
  let v1274 : BitVec 32 := Scalar.extui v1273
  let c0_i32_509 : BitVec 32 := 0#32
  let v1275 : BitVec 1 := Scalar.cmpi .slt c128_i32_505 c0_i32_509
  let v1276 : BitVec 32 := Scalar.extui v1275
  let v1277 : BitVec 32 := Scalar.subi v1274 v1276
  let v1278 : BitVec 1 := Scalar.cmpi .ne v1272 v1277
  let v1279 : BitVec 32 := Scalar.remsi v1266 c128_i32_505
  let c0_i32_510 : BitVec 32 := 0#32
  let v1280 : BitVec 1 := Scalar.cmpi .ne v1279 c0_i32_510
  let v1281 : BitVec 1 := Scalar.andi v1278 v1280
  let v1267 : BitVec 32 := Scalar.divsi v1266 c128_i32_505
  let c1_i32_511 : BitVec 32 := 1#32
  let v1282 : BitVec 32 := Scalar.subi v1267 c1_i32_511
  let v1283 : BitVec 32 := Scalar.select v1281 v1282 v1267
  let c128_i32_512 : BitVec 32 := 128#32
  let v1284 : BitVec 32 := Scalar.muli v1283 c128_i32_512
  v1284

def k0_mult65 (v1286 : BitVec 32) : BitVec 32 :=
  let c0_i32_514 : BitVec 32 := 0#32
  let v1288 : BitVec 1 := Scalar.cmpi .sgt v1286 c0_i32_514
  let v1289 : BitVec 32 := Scalar.extui v1288
  let c0_i32_515 : BitVec 32 := 0#32
  let v1290 : BitVec 1 := Scalar.cmpi .slt v1286 c0_i32_515
  let v1291 : BitVec 32 := Scalar.extui v1290
  let v1292 : BitVec 32 := Scalar.subi v1289 v1291
  let c128_i32_513 : BitVec 32 := 128#32
  let c0_i32_516 : BitVec 32 := 0#32
  let v1293 : BitVec 1 := Scalar.cmpi .sgt c128_i32_513 c0_i32_516
  let v1294 : BitVec 32 := Scalar.extui v1293
  let c0_i32_517 : BitVec 32 := 0#32
  let v1295 : BitVec 1 := Scalar.cmpi .slt c128_i32_513 c0_i32_517
  let v1296 : BitVec 32 := Scalar.extui v1295
  let v1297 : BitVec 32 := Scalar.subi v1294 v1296
  let v1298 : BitVec 1 := Scalar.cmpi .ne v1292 v1297
  let v1299 : BitVec 32 := Scalar.remsi v1286 c128_i32_513
  let c0_i32_518 : BitVec 32 := 0#32
  let v1300 : BitVec 1 := Scalar.cmpi .ne v1299 c0_i32_518
  let v1301 : BitVec 1 := Scalar.andi v1298 v1300
  let v1287 : BitVec 32 := Scalar.divsi v1286 c128_i32_513
  let c1_i32_519 : BitVec 32 := 1#32
  let v1302 : BitVec 32 := Scalar.subi v1287 c1_i32_519
  let v1303 : BitVec 32 := Scalar.select v1301 v1302 v1287
  let c128_i32_520 : BitVec 32 := 128#32
  let v1304 : BitVec 32 := Scalar.muli v1303 c128_i32_520
  v1304

def k0_mult66 (v1306 : BitVec 32) : BitVec 32 :=
  let c0_i32_522 : BitVec 32 := 0#32
  let v1308 : BitVec 1 := Scalar.cmpi .sgt v1306 c0_i32_522
  let v1309 : BitVec 32 := Scalar.extui v1308
  let c0_i32_523 : BitVec 32 := 0#32
  let v1310 : BitVec 1 := Scalar.cmpi .slt v1306 c0_i32_523
  let v1311 : BitVec 32 := Scalar.extui v1310
  let v1312 : BitVec 32 := Scalar.subi v1309 v1311
  let c128_i32_521 : BitVec 32 := 128#32
  let c0_i32_524 : BitVec 32 := 0#32
  let v1313 : BitVec 1 := Scalar.cmpi .sgt c128_i32_521 c0_i32_524
  let v1314 : BitVec 32 := Scalar.extui v1313
  let c0_i32_525 : BitVec 32 := 0#32
  let v1315 : BitVec 1 := Scalar.cmpi .slt c128_i32_521 c0_i32_525
  let v1316 : BitVec 32 := Scalar.extui v1315
  let v1317 : BitVec 32 := Scalar.subi v1314 v1316
  let v1318 : BitVec 1 := Scalar.cmpi .ne v1312 v1317
  let v1319 : BitVec 32 := Scalar.remsi v1306 c128_i32_521
  let c0_i32_526 : BitVec 32 := 0#32
  let v1320 : BitVec 1 := Scalar.cmpi .ne v1319 c0_i32_526
  let v1321 : BitVec 1 := Scalar.andi v1318 v1320
  let v1307 : BitVec 32 := Scalar.divsi v1306 c128_i32_521
  let c1_i32_527 : BitVec 32 := 1#32
  let v1322 : BitVec 32 := Scalar.subi v1307 c1_i32_527
  let v1323 : BitVec 32 := Scalar.select v1321 v1322 v1307
  let c128_i32_528 : BitVec 32 := 128#32
  let v1324 : BitVec 32 := Scalar.muli v1323 c128_i32_528
  v1324

def k0_mult67 (v1326 : BitVec 32) : BitVec 32 :=
  let c0_i32_530 : BitVec 32 := 0#32
  let v1328 : BitVec 1 := Scalar.cmpi .sgt v1326 c0_i32_530
  let v1329 : BitVec 32 := Scalar.extui v1328
  let c0_i32_531 : BitVec 32 := 0#32
  let v1330 : BitVec 1 := Scalar.cmpi .slt v1326 c0_i32_531
  let v1331 : BitVec 32 := Scalar.extui v1330
  let v1332 : BitVec 32 := Scalar.subi v1329 v1331
  let c128_i32_529 : BitVec 32 := 128#32
  let c0_i32_532 : BitVec 32 := 0#32
  let v1333 : BitVec 1 := Scalar.cmpi .sgt c128_i32_529 c0_i32_532
  let v1334 : BitVec 32 := Scalar.extui v1333
  let c0_i32_533 : BitVec 32 := 0#32
  let v1335 : BitVec 1 := Scalar.cmpi .slt c128_i32_529 c0_i32_533
  let v1336 : BitVec 32 := Scalar.extui v1335
  let v1337 : BitVec 32 := Scalar.subi v1334 v1336
  let v1338 : BitVec 1 := Scalar.cmpi .ne v1332 v1337
  let v1339 : BitVec 32 := Scalar.remsi v1326 c128_i32_529
  let c0_i32_534 : BitVec 32 := 0#32
  let v1340 : BitVec 1 := Scalar.cmpi .ne v1339 c0_i32_534
  let v1341 : BitVec 1 := Scalar.andi v1338 v1340
  let v1327 : BitVec 32 := Scalar.divsi v1326 c128_i32_529
  let c1_i32_535 : BitVec 32 := 1#32
  let v1342 : BitVec 32 := Scalar.subi v1327 c1_i32_535
  let v1343 : BitVec 32 := Scalar.select v1341 v1342 v1327
  let c128_i32_536 : BitVec 32 := 128#32
  let v1344 : BitVec 32 := Scalar.muli v1343 c128_i32_536
  v1344

def k0_mult68 (v1346 : BitVec 32) : BitVec 32 :=
  let c0_i32_538 : BitVec 32 := 0#32
  let v1348 : BitVec 1 := Scalar.cmpi .sgt v1346 c0_i32_538
  let v1349 : BitVec 32 := Scalar.extui v1348
  let c0_i32_539 : BitVec 32 := 0#32
  let v1350 : BitVec 1 := Scalar.cmpi .slt v1346 c0_i32_539
  let v1351 : BitVec 32 := Scalar.extui v1350
  let v1352 : BitVec 32 := Scalar.subi v1349 v1351
  let c128_i32_537 : BitVec 32 := 128#32
  let c0_i32_540 : BitVec 32 := 0#32
  let v1353 : BitVec 1 := Scalar.cmpi .sgt c128_i32_537 c0_i32_540
  let v1354 : BitVec 32 := Scalar.extui v1353
  let c0_i32_541 : BitVec 32 := 0#32
  let v1355 : BitVec 1 := Scalar.cmpi .slt c128_i32_537 c0_i32_541
  let v1356 : BitVec 32 := Scalar.extui v1355
  let v1357 : BitVec 32 := Scalar.subi v1354 v1356
  let v1358 : BitVec 1 := Scalar.cmpi .ne v1352 v1357
  let v1359 : BitVec 32 := Scalar.remsi v1346 c128_i32_537
  let c0_i32_542 : BitVec 32 := 0#32
  let v1360 : BitVec 1 := Scalar.cmpi .ne v1359 c0_i32_542
  let v1361 : BitVec 1 := Scalar.andi v1358 v1360
  let v1347 : BitVec 32 := Scalar.divsi v1346 c128_i32_537
  let c1_i32_543 : BitVec 32 := 1#32
  let v1362 : BitVec 32 := Scalar.subi v1347 c1_i32_543
  let v1363 : BitVec 32 := Scalar.select v1361 v1362 v1347
  let c128_i32_544 : BitVec 32 := 128#32
  let v1364 : BitVec 32 := Scalar.muli v1363 c128_i32_544
  v1364

def k0_mult69 (v1366 : BitVec 32) : BitVec 32 :=
  let c0_i32_546 : BitVec 32 := 0#32
  let v1368 : BitVec 1 := Scalar.cmpi .sgt v1366 c0_i32_546
  let v1369 : BitVec 32 := Scalar.extui v1368
  let c0_i32_547 : BitVec 32 := 0#32
  let v1370 : BitVec 1 := Scalar.cmpi .slt v1366 c0_i32_547
  let v1371 : BitVec 32 := Scalar.extui v1370
  let v1372 : BitVec 32 := Scalar.subi v1369 v1371
  let c128_i32_545 : BitVec 32 := 128#32
  let c0_i32_548 : BitVec 32 := 0#32
  let v1373 : BitVec 1 := Scalar.cmpi .sgt c128_i32_545 c0_i32_548
  let v1374 : BitVec 32 := Scalar.extui v1373
  let c0_i32_549 : BitVec 32 := 0#32
  let v1375 : BitVec 1 := Scalar.cmpi .slt c128_i32_545 c0_i32_549
  let v1376 : BitVec 32 := Scalar.extui v1375
  let v1377 : BitVec 32 := Scalar.subi v1374 v1376
  let v1378 : BitVec 1 := Scalar.cmpi .ne v1372 v1377
  let v1379 : BitVec 32 := Scalar.remsi v1366 c128_i32_545
  let c0_i32_550 : BitVec 32 := 0#32
  let v1380 : BitVec 1 := Scalar.cmpi .ne v1379 c0_i32_550
  let v1381 : BitVec 1 := Scalar.andi v1378 v1380
  let v1367 : BitVec 32 := Scalar.divsi v1366 c128_i32_545
  let c1_i32_551 : BitVec 32 := 1#32
  let v1382 : BitVec 32 := Scalar.subi v1367 c1_i32_551
  let v1383 : BitVec 32 := Scalar.select v1381 v1382 v1367
  let c128_i32_552 : BitVec 32 := 128#32
  let v1384 : BitVec 32 := Scalar.muli v1383 c128_i32_552
  v1384

def k0_mult70 (v1386 : BitVec 32) : BitVec 32 :=
  let c0_i32_554 : BitVec 32 := 0#32
  let v1388 : BitVec 1 := Scalar.cmpi .sgt v1386 c0_i32_554
  let v1389 : BitVec 32 := Scalar.extui v1388
  let c0_i32_555 : BitVec 32 := 0#32
  let v1390 : BitVec 1 := Scalar.cmpi .slt v1386 c0_i32_555
  let v1391 : BitVec 32 := Scalar.extui v1390
  let v1392 : BitVec 32 := Scalar.subi v1389 v1391
  let c128_i32_553 : BitVec 32 := 128#32
  let c0_i32_556 : BitVec 32 := 0#32
  let v1393 : BitVec 1 := Scalar.cmpi .sgt c128_i32_553 c0_i32_556
  let v1394 : BitVec 32 := Scalar.extui v1393
  let c0_i32_557 : BitVec 32 := 0#32
  let v1395 : BitVec 1 := Scalar.cmpi .slt c128_i32_553 c0_i32_557
  let v1396 : BitVec 32 := Scalar.extui v1395
  let v1397 : BitVec 32 := Scalar.subi v1394 v1396
  let v1398 : BitVec 1 := Scalar.cmpi .ne v1392 v1397
  let v1399 : BitVec 32 := Scalar.remsi v1386 c128_i32_553
  let c0_i32_558 : BitVec 32 := 0#32
  let v1400 : BitVec 1 := Scalar.cmpi .ne v1399 c0_i32_558
  let v1401 : BitVec 1 := Scalar.andi v1398 v1400
  let v1387 : BitVec 32 := Scalar.divsi v1386 c128_i32_553
  let c1_i32_559 : BitVec 32 := 1#32
  let v1402 : BitVec 32 := Scalar.subi v1387 c1_i32_559
  let v1403 : BitVec 32 := Scalar.select v1401 v1402 v1387
  let c128_i32_560 : BitVec 32 := 128#32
  let v1404 : BitVec 32 := Scalar.muli v1403 c128_i32_560
  v1404

def k0_mult71 (v1406 : BitVec 32) : BitVec 32 :=
  let c0_i32_562 : BitVec 32 := 0#32
  let v1408 : BitVec 1 := Scalar.cmpi .sgt v1406 c0_i32_562
  let v1409 : BitVec 32 := Scalar.extui v1408
  let c0_i32_563 : BitVec 32 := 0#32
  let v1410 : BitVec 1 := Scalar.cmpi .slt v1406 c0_i32_563
  let v1411 : BitVec 32 := Scalar.extui v1410
  let v1412 : BitVec 32 := Scalar.subi v1409 v1411
  let c128_i32_561 : BitVec 32 := 128#32
  let c0_i32_564 : BitVec 32 := 0#32
  let v1413 : BitVec 1 := Scalar.cmpi .sgt c128_i32_561 c0_i32_564
  let v1414 : BitVec 32 := Scalar.extui v1413
  let c0_i32_565 : BitVec 32 := 0#32
  let v1415 : BitVec 1 := Scalar.cmpi .slt c128_i32_561 c0_i32_565
  let v1416 : BitVec 32 := Scalar.extui v1415
  let v1417 : BitVec 32 := Scalar.subi v1414 v1416
  let v1418 : BitVec 1 := Scalar.cmpi .ne v1412 v1417
  let v1419 : BitVec 32 := Scalar.remsi v1406 c128_i32_561
  let c0_i32_566 : BitVec 32 := 0#32
  let v1420 : BitVec 1 := Scalar.cmpi .ne v1419 c0_i32_566
  let v1421 : BitVec 1 := Scalar.andi v1418 v1420
  let v1407 : BitVec 32 := Scalar.divsi v1406 c128_i32_561
  let c1_i32_567 : BitVec 32 := 1#32
  let v1422 : BitVec 32 := Scalar.subi v1407 c1_i32_567
  let v1423 : BitVec 32 := Scalar.select v1421 v1422 v1407
  let c128_i32_568 : BitVec 32 := 128#32
  let v1424 : BitVec 32 := Scalar.muli v1423 c128_i32_568
  v1424

def k0_mult72 (v1426 : BitVec 32) : BitVec 32 :=
  let c0_i32_570 : BitVec 32 := 0#32
  let v1428 : BitVec 1 := Scalar.cmpi .sgt v1426 c0_i32_570
  let v1429 : BitVec 32 := Scalar.extui v1428
  let c0_i32_571 : BitVec 32 := 0#32
  let v1430 : BitVec 1 := Scalar.cmpi .slt v1426 c0_i32_571
  let v1431 : BitVec 32 := Scalar.extui v1430
  let v1432 : BitVec 32 := Scalar.subi v1429 v1431
  let c128_i32_569 : BitVec 32 := 128#32
  let c0_i32_572 : BitVec 32 := 0#32
  let v1433 : BitVec 1 := Scalar.cmpi .sgt c128_i32_569 c0_i32_572
  let v1434 : BitVec 32 := Scalar.extui v1433
  let c0_i32_573 : BitVec 32 := 0#32
  let v1435 : BitVec 1 := Scalar.cmpi .slt c128_i32_569 c0_i32_573
  let v1436 : BitVec 32 := Scalar.extui v1435
  let v1437 : BitVec 32 := Scalar.subi v1434 v1436
  let v1438 : BitVec 1 := Scalar.cmpi .ne v1432 v1437
  let v1439 : BitVec 32 := Scalar.remsi v1426 c128_i32_569
  let c0_i32_574 : BitVec 32 := 0#32
  let v1440 : BitVec 1 := Scalar.cmpi .ne v1439 c0_i32_574
  let v1441 : BitVec 1 := Scalar.andi v1438 v1440
  let v1427 : BitVec 32 := Scalar.divsi v1426 c128_i32_569
  let c1_i32_575 : BitVec 32 := 1#32
  let v1442 : BitVec 32 := Scalar.subi v1427 c1_i32_575
  let v1443 : BitVec 32 := Scalar.select v1441 v1442 v1427
  let c128_i32_576 : BitVec 32 := 128#32
  let v1444 : BitVec 32 := Scalar.muli v1443 c128_i32_576
  v1444

def k0_mult73 (v1446 : BitVec 32) : BitVec 32 :=
  let c0_i32_578 : BitVec 32 := 0#32
  let v1448 : BitVec 1 := Scalar.cmpi .sgt v1446 c0_i32_578
  let v1449 : BitVec 32 := Scalar.extui v1448
  let c0_i32_579 : BitVec 32 := 0#32
  let v1450 : BitVec 1 := Scalar.cmpi .slt v1446 c0_i32_579
  let v1451 : BitVec 32 := Scalar.extui v1450
  let v1452 : BitVec 32 := Scalar.subi v1449 v1451
  let c128_i32_577 : BitVec 32 := 128#32
  let c0_i32_580 : BitVec 32 := 0#32
  let v1453 : BitVec 1 := Scalar.cmpi .sgt c128_i32_577 c0_i32_580
  let v1454 : BitVec 32 := Scalar.extui v1453
  let c0_i32_581 : BitVec 32 := 0#32
  let v1455 : BitVec 1 := Scalar.cmpi .slt c128_i32_577 c0_i32_581
  let v1456 : BitVec 32 := Scalar.extui v1455
  let v1457 : BitVec 32 := Scalar.subi v1454 v1456
  let v1458 : BitVec 1 := Scalar.cmpi .ne v1452 v1457
  let v1459 : BitVec 32 := Scalar.remsi v1446 c128_i32_577
  let c0_i32_582 : BitVec 32 := 0#32
  let v1460 : BitVec 1 := Scalar.cmpi .ne v1459 c0_i32_582
  let v1461 : BitVec 1 := Scalar.andi v1458 v1460
  let v1447 : BitVec 32 := Scalar.divsi v1446 c128_i32_577
  let c1_i32_583 : BitVec 32 := 1#32
  let v1462 : BitVec 32 := Scalar.subi v1447 c1_i32_583
  let v1463 : BitVec 32 := Scalar.select v1461 v1462 v1447
  let c128_i32_584 : BitVec 32 := 128#32
  let v1464 : BitVec 32 := Scalar.muli v1463 c128_i32_584
  v1464

def k0_mult74 (v1466 : BitVec 32) : BitVec 32 :=
  let c0_i32_586 : BitVec 32 := 0#32
  let v1468 : BitVec 1 := Scalar.cmpi .sgt v1466 c0_i32_586
  let v1469 : BitVec 32 := Scalar.extui v1468
  let c0_i32_587 : BitVec 32 := 0#32
  let v1470 : BitVec 1 := Scalar.cmpi .slt v1466 c0_i32_587
  let v1471 : BitVec 32 := Scalar.extui v1470
  let v1472 : BitVec 32 := Scalar.subi v1469 v1471
  let c128_i32_585 : BitVec 32 := 128#32
  let c0_i32_588 : BitVec 32 := 0#32
  let v1473 : BitVec 1 := Scalar.cmpi .sgt c128_i32_585 c0_i32_588
  let v1474 : BitVec 32 := Scalar.extui v1473
  let c0_i32_589 : BitVec 32 := 0#32
  let v1475 : BitVec 1 := Scalar.cmpi .slt c128_i32_585 c0_i32_589
  let v1476 : BitVec 32 := Scalar.extui v1475
  let v1477 : BitVec 32 := Scalar.subi v1474 v1476
  let v1478 : BitVec 1 := Scalar.cmpi .ne v1472 v1477
  let v1479 : BitVec 32 := Scalar.remsi v1466 c128_i32_585
  let c0_i32_590 : BitVec 32 := 0#32
  let v1480 : BitVec 1 := Scalar.cmpi .ne v1479 c0_i32_590
  let v1481 : BitVec 1 := Scalar.andi v1478 v1480
  let v1467 : BitVec 32 := Scalar.divsi v1466 c128_i32_585
  let c1_i32_591 : BitVec 32 := 1#32
  let v1482 : BitVec 32 := Scalar.subi v1467 c1_i32_591
  let v1483 : BitVec 32 := Scalar.select v1481 v1482 v1467
  let c128_i32_592 : BitVec 32 := 128#32
  let v1484 : BitVec 32 := Scalar.muli v1483 c128_i32_592
  v1484

def k0_mult75 (v1486 : BitVec 32) : BitVec 32 :=
  let c0_i32_594 : BitVec 32 := 0#32
  let v1488 : BitVec 1 := Scalar.cmpi .sgt v1486 c0_i32_594
  let v1489 : BitVec 32 := Scalar.extui v1488
  let c0_i32_595 : BitVec 32 := 0#32
  let v1490 : BitVec 1 := Scalar.cmpi .slt v1486 c0_i32_595
  let v1491 : BitVec 32 := Scalar.extui v1490
  let v1492 : BitVec 32 := Scalar.subi v1489 v1491
  let c128_i32_593 : BitVec 32 := 128#32
  let c0_i32_596 : BitVec 32 := 0#32
  let v1493 : BitVec 1 := Scalar.cmpi .sgt c128_i32_593 c0_i32_596
  let v1494 : BitVec 32 := Scalar.extui v1493
  let c0_i32_597 : BitVec 32 := 0#32
  let v1495 : BitVec 1 := Scalar.cmpi .slt c128_i32_593 c0_i32_597
  let v1496 : BitVec 32 := Scalar.extui v1495
  let v1497 : BitVec 32 := Scalar.subi v1494 v1496
  let v1498 : BitVec 1 := Scalar.cmpi .ne v1492 v1497
  let v1499 : BitVec 32 := Scalar.remsi v1486 c128_i32_593
  let c0_i32_598 : BitVec 32 := 0#32
  let v1500 : BitVec 1 := Scalar.cmpi .ne v1499 c0_i32_598
  let v1501 : BitVec 1 := Scalar.andi v1498 v1500
  let v1487 : BitVec 32 := Scalar.divsi v1486 c128_i32_593
  let c1_i32_599 : BitVec 32 := 1#32
  let v1502 : BitVec 32 := Scalar.subi v1487 c1_i32_599
  let v1503 : BitVec 32 := Scalar.select v1501 v1502 v1487
  let c128_i32_600 : BitVec 32 := 128#32
  let v1504 : BitVec 32 := Scalar.muli v1503 c128_i32_600
  v1504

def k0_mult76 (v1506 : BitVec 32) : BitVec 32 :=
  let c0_i32_602 : BitVec 32 := 0#32
  let v1508 : BitVec 1 := Scalar.cmpi .sgt v1506 c0_i32_602
  let v1509 : BitVec 32 := Scalar.extui v1508
  let c0_i32_603 : BitVec 32 := 0#32
  let v1510 : BitVec 1 := Scalar.cmpi .slt v1506 c0_i32_603
  let v1511 : BitVec 32 := Scalar.extui v1510
  let v1512 : BitVec 32 := Scalar.subi v1509 v1511
  let c128_i32_601 : BitVec 32 := 128#32
  let c0_i32_604 : BitVec 32 := 0#32
  let v1513 : BitVec 1 := Scalar.cmpi .sgt c128_i32_601 c0_i32_604
  let v1514 : BitVec 32 := Scalar.extui v1513
  let c0_i32_605 : BitVec 32 := 0#32
  let v1515 : BitVec 1 := Scalar.cmpi .slt c128_i32_601 c0_i32_605
  let v1516 : BitVec 32 := Scalar.extui v1515
  let v1517 : BitVec 32 := Scalar.subi v1514 v1516
  let v1518 : BitVec 1 := Scalar.cmpi .ne v1512 v1517
  let v1519 : BitVec 32 := Scalar.remsi v1506 c128_i32_601
  let c0_i32_606 : BitVec 32 := 0#32
  let v1520 : BitVec 1 := Scalar.cmpi .ne v1519 c0_i32_606
  let v1521 : BitVec 1 := Scalar.andi v1518 v1520
  let v1507 : BitVec 32 := Scalar.divsi v1506 c128_i32_601
  let c1_i32_607 : BitVec 32 := 1#32
  let v1522 : BitVec 32 := Scalar.subi v1507 c1_i32_607
  let v1523 : BitVec 32 := Scalar.select v1521 v1522 v1507
  let c128_i32_608 : BitVec 32 := 128#32
  let v1524 : BitVec 32 := Scalar.muli v1523 c128_i32_608
  v1524

def k0_mult77 (v1526 : BitVec 32) : BitVec 32 :=
  let c0_i32_610 : BitVec 32 := 0#32
  let v1528 : BitVec 1 := Scalar.cmpi .sgt v1526 c0_i32_610
  let v1529 : BitVec 32 := Scalar.extui v1528
  let c0_i32_611 : BitVec 32 := 0#32
  let v1530 : BitVec 1 := Scalar.cmpi .slt v1526 c0_i32_611
  let v1531 : BitVec 32 := Scalar.extui v1530
  let v1532 : BitVec 32 := Scalar.subi v1529 v1531
  let c128_i32_609 : BitVec 32 := 128#32
  let c0_i32_612 : BitVec 32 := 0#32
  let v1533 : BitVec 1 := Scalar.cmpi .sgt c128_i32_609 c0_i32_612
  let v1534 : BitVec 32 := Scalar.extui v1533
  let c0_i32_613 : BitVec 32 := 0#32
  let v1535 : BitVec 1 := Scalar.cmpi .slt c128_i32_609 c0_i32_613
  let v1536 : BitVec 32 := Scalar.extui v1535
  let v1537 : BitVec 32 := Scalar.subi v1534 v1536
  let v1538 : BitVec 1 := Scalar.cmpi .ne v1532 v1537
  let v1539 : BitVec 32 := Scalar.remsi v1526 c128_i32_609
  let c0_i32_614 : BitVec 32 := 0#32
  let v1540 : BitVec 1 := Scalar.cmpi .ne v1539 c0_i32_614
  let v1541 : BitVec 1 := Scalar.andi v1538 v1540
  let v1527 : BitVec 32 := Scalar.divsi v1526 c128_i32_609
  let c1_i32_615 : BitVec 32 := 1#32
  let v1542 : BitVec 32 := Scalar.subi v1527 c1_i32_615
  let v1543 : BitVec 32 := Scalar.select v1541 v1542 v1527
  let c128_i32_616 : BitVec 32 := 128#32
  let v1544 : BitVec 32 := Scalar.muli v1543 c128_i32_616
  v1544

def k0_mult78 (v1546 : BitVec 32) : BitVec 32 :=
  let c0_i32_618 : BitVec 32 := 0#32
  let v1548 : BitVec 1 := Scalar.cmpi .sgt v1546 c0_i32_618
  let v1549 : BitVec 32 := Scalar.extui v1548
  let c0_i32_619 : BitVec 32 := 0#32
  let v1550 : BitVec 1 := Scalar.cmpi .slt v1546 c0_i32_619
  let v1551 : BitVec 32 := Scalar.extui v1550
  let v1552 : BitVec 32 := Scalar.subi v1549 v1551
  let c128_i32_617 : BitVec 32 := 128#32
  let c0_i32_620 : BitVec 32 := 0#32
  let v1553 : BitVec 1 := Scalar.cmpi .sgt c128_i32_617 c0_i32_620
  let v1554 : BitVec 32 := Scalar.extui v1553
  let c0_i32_621 : BitVec 32 := 0#32
  let v1555 : BitVec 1 := Scalar.cmpi .slt c128_i32_617 c0_i32_621
  let v1556 : BitVec 32 := Scalar.extui v1555
  let v1557 : BitVec 32 := Scalar.subi v1554 v1556
  let v1558 : BitVec 1 := Scalar.cmpi .ne v1552 v1557
  let v1559 : BitVec 32 := Scalar.remsi v1546 c128_i32_617
  let c0_i32_622 : BitVec 32 := 0#32
  let v1560 : BitVec 1 := Scalar.cmpi .ne v1559 c0_i32_622
  let v1561 : BitVec 1 := Scalar.andi v1558 v1560
  let v1547 : BitVec 32 := Scalar.divsi v1546 c128_i32_617
  let c1_i32_623 : BitVec 32 := 1#32
  let v1562 : BitVec 32 := Scalar.subi v1547 c1_i32_623
  let v1563 : BitVec 32 := Scalar.select v1561 v1562 v1547
  let c128_i32_624 : BitVec 32 := 128#32
  let v1564 : BitVec 32 := Scalar.muli v1563 c128_i32_624
  v1564

def k0_mult79 (v1566 : BitVec 32) : BitVec 32 :=
  let c0_i32_626 : BitVec 32 := 0#32
  let v1568 : BitVec 1 := Scalar.cmpi .sgt v1566 c0_i32_626
  let v1569 : BitVec 32 := Scalar.extui v1568
  let c0_i32_627 : BitVec 32 := 0#32
  let v1570 : BitVec 1 := Scalar.cmpi .slt v1566 c0_i32_627
  let v1571 : BitVec 32 := Scalar.extui v1570
  let v1572 : BitVec 32 := Scalar.subi v1569 v1571
  let c128_i32_625 : BitVec 32 := 128#32
  let c0_i32_628 : BitVec 32 := 0#32
  let v1573 : BitVec 1 := Scalar.cmpi .sgt c128_i32_625 c0_i32_628
  let v1574 : BitVec 32 := Scalar.extui v1573
  let c0_i32_629 : BitVec 32 := 0#32
  let v1575 : BitVec 1 := Scalar.cmpi .slt c128_i32_625 c0_i32_629
  let v1576 : BitVec 32 := Scalar.extui v1575
  let v1577 : BitVec 32 := Scalar.subi v1574 v1576
  let v1578 : BitVec 1 := Scalar.cmpi .ne v1572 v1577
  let v1579 : BitVec 32 := Scalar.remsi v1566 c128_i32_625
  let c0_i32_630 : BitVec 32 := 0#32
  let v1580 : BitVec 1 := Scalar.cmpi .ne v1579 c0_i32_630
  let v1581 : BitVec 1 := Scalar.andi v1578 v1580
  let v1567 : BitVec 32 := Scalar.divsi v1566 c128_i32_625
  let c1_i32_631 : BitVec 32 := 1#32
  let v1582 : BitVec 32 := Scalar.subi v1567 c1_i32_631
  let v1583 : BitVec 32 := Scalar.select v1581 v1582 v1567
  let c128_i32_632 : BitVec 32 := 128#32
  let v1584 : BitVec 32 := Scalar.muli v1583 c128_i32_632
  v1584

def k0_mult80 (v1586 : BitVec 32) : BitVec 32 :=
  let c0_i32_634 : BitVec 32 := 0#32
  let v1588 : BitVec 1 := Scalar.cmpi .sgt v1586 c0_i32_634
  let v1589 : BitVec 32 := Scalar.extui v1588
  let c0_i32_635 : BitVec 32 := 0#32
  let v1590 : BitVec 1 := Scalar.cmpi .slt v1586 c0_i32_635
  let v1591 : BitVec 32 := Scalar.extui v1590
  let v1592 : BitVec 32 := Scalar.subi v1589 v1591
  let c128_i32_633 : BitVec 32 := 128#32
  let c0_i32_636 : BitVec 32 := 0#32
  let v1593 : BitVec 1 := Scalar.cmpi .sgt c128_i32_633 c0_i32_636
  let v1594 : BitVec 32 := Scalar.extui v1593
  let c0_i32_637 : BitVec 32 := 0#32
  let v1595 : BitVec 1 := Scalar.cmpi .slt c128_i32_633 c0_i32_637
  let v1596 : BitVec 32 := Scalar.extui v1595
  let v1597 : BitVec 32 := Scalar.subi v1594 v1596
  let v1598 : BitVec 1 := Scalar.cmpi .ne v1592 v1597
  let v1599 : BitVec 32 := Scalar.remsi v1586 c128_i32_633
  let c0_i32_638 : BitVec 32 := 0#32
  let v1600 : BitVec 1 := Scalar.cmpi .ne v1599 c0_i32_638
  let v1601 : BitVec 1 := Scalar.andi v1598 v1600
  let v1587 : BitVec 32 := Scalar.divsi v1586 c128_i32_633
  let c1_i32_639 : BitVec 32 := 1#32
  let v1602 : BitVec 32 := Scalar.subi v1587 c1_i32_639
  let v1603 : BitVec 32 := Scalar.select v1601 v1602 v1587
  let c128_i32_640 : BitVec 32 := 128#32
  let v1604 : BitVec 32 := Scalar.muli v1603 c128_i32_640
  v1604

def k0_mult81 (v1606 : BitVec 32) : BitVec 32 :=
  let c0_i32_642 : BitVec 32 := 0#32
  let v1608 : BitVec 1 := Scalar.cmpi .sgt v1606 c0_i32_642
  let v1609 : BitVec 32 := Scalar.extui v1608
  let c0_i32_643 : BitVec 32 := 0#32
  let v1610 : BitVec 1 := Scalar.cmpi .slt v1606 c0_i32_643
  let v1611 : BitVec 32 := Scalar.extui v1610
  let v1612 : BitVec 32 := Scalar.subi v1609 v1611
  let c128_i32_641 : BitVec 32 := 128#32
  let c0_i32_644 : BitVec 32 := 0#32
  let v1613 : BitVec 1 := Scalar.cmpi .sgt c128_i32_641 c0_i32_644
  let v1614 : BitVec 32 := Scalar.extui v1613
  let c0_i32_645 : BitVec 32 := 0#32
  let v1615 : BitVec 1 := Scalar.cmpi .slt c128_i32_641 c0_i32_645
  let v1616 : BitVec 32 := Scalar.extui v1615
  let v1617 : BitVec 32 := Scalar.subi v1614 v1616
  let v1618 : BitVec 1 := Scalar.cmpi .ne v1612 v1617
  let v1619 : BitVec 32 := Scalar.remsi v1606 c128_i32_641
  let c0_i32_646 : BitVec 32 := 0#32
  let v1620 : BitVec 1 := Scalar.cmpi .ne v1619 c0_i32_646
  let v1621 : BitVec 1 := Scalar.andi v1618 v1620
  let v1607 : BitVec 32 := Scalar.divsi v1606 c128_i32_641
  let c1_i32_647 : BitVec 32 := 1#32
  let v1622 : BitVec 32 := Scalar.subi v1607 c1_i32_647
  let v1623 : BitVec 32 := Scalar.select v1621 v1622 v1607
  let c128_i32_648 : BitVec 32 := 128#32
  let v1624 : BitVec 32 := Scalar.muli v1623 c128_i32_648
  v1624

def k0_mult82 (v1626 : BitVec 32) : BitVec 32 :=
  let c0_i32_650 : BitVec 32 := 0#32
  let v1628 : BitVec 1 := Scalar.cmpi .sgt v1626 c0_i32_650
  let v1629 : BitVec 32 := Scalar.extui v1628
  let c0_i32_651 : BitVec 32 := 0#32
  let v1630 : BitVec 1 := Scalar.cmpi .slt v1626 c0_i32_651
  let v1631 : BitVec 32 := Scalar.extui v1630
  let v1632 : BitVec 32 := Scalar.subi v1629 v1631
  let c128_i32_649 : BitVec 32 := 128#32
  let c0_i32_652 : BitVec 32 := 0#32
  let v1633 : BitVec 1 := Scalar.cmpi .sgt c128_i32_649 c0_i32_652
  let v1634 : BitVec 32 := Scalar.extui v1633
  let c0_i32_653 : BitVec 32 := 0#32
  let v1635 : BitVec 1 := Scalar.cmpi .slt c128_i32_649 c0_i32_653
  let v1636 : BitVec 32 := Scalar.extui v1635
  let v1637 : BitVec 32 := Scalar.subi v1634 v1636
  let v1638 : BitVec 1 := Scalar.cmpi .ne v1632 v1637
  let v1639 : BitVec 32 := Scalar.remsi v1626 c128_i32_649
  let c0_i32_654 : BitVec 32 := 0#32
  let v1640 : BitVec 1 := Scalar.cmpi .ne v1639 c0_i32_654
  let v1641 : BitVec 1 := Scalar.andi v1638 v1640
  let v1627 : BitVec 32 := Scalar.divsi v1626 c128_i32_649
  let c1_i32_655 : BitVec 32 := 1#32
  let v1642 : BitVec 32 := Scalar.subi v1627 c1_i32_655
  let v1643 : BitVec 32 := Scalar.select v1641 v1642 v1627
  let c128_i32_656 : BitVec 32 := 128#32
  let v1644 : BitVec 32 := Scalar.muli v1643 c128_i32_656
  v1644

def k0_mult83 (v1646 : BitVec 32) : BitVec 32 :=
  let c0_i32_658 : BitVec 32 := 0#32
  let v1648 : BitVec 1 := Scalar.cmpi .sgt v1646 c0_i32_658
  let v1649 : BitVec 32 := Scalar.extui v1648
  let c0_i32_659 : BitVec 32 := 0#32
  let v1650 : BitVec 1 := Scalar.cmpi .slt v1646 c0_i32_659
  let v1651 : BitVec 32 := Scalar.extui v1650
  let v1652 : BitVec 32 := Scalar.subi v1649 v1651
  let c128_i32_657 : BitVec 32 := 128#32
  let c0_i32_660 : BitVec 32 := 0#32
  let v1653 : BitVec 1 := Scalar.cmpi .sgt c128_i32_657 c0_i32_660
  let v1654 : BitVec 32 := Scalar.extui v1653
  let c0_i32_661 : BitVec 32 := 0#32
  let v1655 : BitVec 1 := Scalar.cmpi .slt c128_i32_657 c0_i32_661
  let v1656 : BitVec 32 := Scalar.extui v1655
  let v1657 : BitVec 32 := Scalar.subi v1654 v1656
  let v1658 : BitVec 1 := Scalar.cmpi .ne v1652 v1657
  let v1659 : BitVec 32 := Scalar.remsi v1646 c128_i32_657
  let c0_i32_662 : BitVec 32 := 0#32
  let v1660 : BitVec 1 := Scalar.cmpi .ne v1659 c0_i32_662
  let v1661 : BitVec 1 := Scalar.andi v1658 v1660
  let v1647 : BitVec 32 := Scalar.divsi v1646 c128_i32_657
  let c1_i32_663 : BitVec 32 := 1#32
  let v1662 : BitVec 32 := Scalar.subi v1647 c1_i32_663
  let v1663 : BitVec 32 := Scalar.select v1661 v1662 v1647
  let c128_i32_664 : BitVec 32 := 128#32
  let v1664 : BitVec 32 := Scalar.muli v1663 c128_i32_664
  v1664

def k0_mult84 (v1666 : BitVec 32) : BitVec 32 :=
  let c0_i32_666 : BitVec 32 := 0#32
  let v1668 : BitVec 1 := Scalar.cmpi .sgt v1666 c0_i32_666
  let v1669 : BitVec 32 := Scalar.extui v1668
  let c0_i32_667 : BitVec 32 := 0#32
  let v1670 : BitVec 1 := Scalar.cmpi .slt v1666 c0_i32_667
  let v1671 : BitVec 32 := Scalar.extui v1670
  let v1672 : BitVec 32 := Scalar.subi v1669 v1671
  let c128_i32_665 : BitVec 32 := 128#32
  let c0_i32_668 : BitVec 32 := 0#32
  let v1673 : BitVec 1 := Scalar.cmpi .sgt c128_i32_665 c0_i32_668
  let v1674 : BitVec 32 := Scalar.extui v1673
  let c0_i32_669 : BitVec 32 := 0#32
  let v1675 : BitVec 1 := Scalar.cmpi .slt c128_i32_665 c0_i32_669
  let v1676 : BitVec 32 := Scalar.extui v1675
  let v1677 : BitVec 32 := Scalar.subi v1674 v1676
  let v1678 : BitVec 1 := Scalar.cmpi .ne v1672 v1677
  let v1679 : BitVec 32 := Scalar.remsi v1666 c128_i32_665
  let c0_i32_670 : BitVec 32 := 0#32
  let v1680 : BitVec 1 := Scalar.cmpi .ne v1679 c0_i32_670
  let v1681 : BitVec 1 := Scalar.andi v1678 v1680
  let v1667 : BitVec 32 := Scalar.divsi v1666 c128_i32_665
  let c1_i32_671 : BitVec 32 := 1#32
  let v1682 : BitVec 32 := Scalar.subi v1667 c1_i32_671
  let v1683 : BitVec 32 := Scalar.select v1681 v1682 v1667
  let c128_i32_672 : BitVec 32 := 128#32
  let v1684 : BitVec 32 := Scalar.muli v1683 c128_i32_672
  v1684

def k0_mult85 (v1686 : BitVec 32) : BitVec 32 :=
  let c0_i32_674 : BitVec 32 := 0#32
  let v1688 : BitVec 1 := Scalar.cmpi .sgt v1686 c0_i32_674
  let v1689 : BitVec 32 := Scalar.extui v1688
  let c0_i32_675 : BitVec 32 := 0#32
  let v1690 : BitVec 1 := Scalar.cmpi .slt v1686 c0_i32_675
  let v1691 : BitVec 32 := Scalar.extui v1690
  let v1692 : BitVec 32 := Scalar.subi v1689 v1691
  let c128_i32_673 : BitVec 32 := 128#32
  let c0_i32_676 : BitVec 32 := 0#32
  let v1693 : BitVec 1 := Scalar.cmpi .sgt c128_i32_673 c0_i32_676
  let v1694 : BitVec 32 := Scalar.extui v1693
  let c0_i32_677 : BitVec 32 := 0#32
  let v1695 : BitVec 1 := Scalar.cmpi .slt c128_i32_673 c0_i32_677
  let v1696 : BitVec 32 := Scalar.extui v1695
  let v1697 : BitVec 32 := Scalar.subi v1694 v1696
  let v1698 : BitVec 1 := Scalar.cmpi .ne v1692 v1697
  let v1699 : BitVec 32 := Scalar.remsi v1686 c128_i32_673
  let c0_i32_678 : BitVec 32 := 0#32
  let v1700 : BitVec 1 := Scalar.cmpi .ne v1699 c0_i32_678
  let v1701 : BitVec 1 := Scalar.andi v1698 v1700
  let v1687 : BitVec 32 := Scalar.divsi v1686 c128_i32_673
  let c1_i32_679 : BitVec 32 := 1#32
  let v1702 : BitVec 32 := Scalar.subi v1687 c1_i32_679
  let v1703 : BitVec 32 := Scalar.select v1701 v1702 v1687
  let c128_i32_680 : BitVec 32 := 128#32
  let v1704 : BitVec 32 := Scalar.muli v1703 c128_i32_680
  v1704

def k0_mult86 (v1706 : BitVec 32) : BitVec 32 :=
  let c0_i32_682 : BitVec 32 := 0#32
  let v1708 : BitVec 1 := Scalar.cmpi .sgt v1706 c0_i32_682
  let v1709 : BitVec 32 := Scalar.extui v1708
  let c0_i32_683 : BitVec 32 := 0#32
  let v1710 : BitVec 1 := Scalar.cmpi .slt v1706 c0_i32_683
  let v1711 : BitVec 32 := Scalar.extui v1710
  let v1712 : BitVec 32 := Scalar.subi v1709 v1711
  let c128_i32_681 : BitVec 32 := 128#32
  let c0_i32_684 : BitVec 32 := 0#32
  let v1713 : BitVec 1 := Scalar.cmpi .sgt c128_i32_681 c0_i32_684
  let v1714 : BitVec 32 := Scalar.extui v1713
  let c0_i32_685 : BitVec 32 := 0#32
  let v1715 : BitVec 1 := Scalar.cmpi .slt c128_i32_681 c0_i32_685
  let v1716 : BitVec 32 := Scalar.extui v1715
  let v1717 : BitVec 32 := Scalar.subi v1714 v1716
  let v1718 : BitVec 1 := Scalar.cmpi .ne v1712 v1717
  let v1719 : BitVec 32 := Scalar.remsi v1706 c128_i32_681
  let c0_i32_686 : BitVec 32 := 0#32
  let v1720 : BitVec 1 := Scalar.cmpi .ne v1719 c0_i32_686
  let v1721 : BitVec 1 := Scalar.andi v1718 v1720
  let v1707 : BitVec 32 := Scalar.divsi v1706 c128_i32_681
  let c1_i32_687 : BitVec 32 := 1#32
  let v1722 : BitVec 32 := Scalar.subi v1707 c1_i32_687
  let v1723 : BitVec 32 := Scalar.select v1721 v1722 v1707
  let c128_i32_688 : BitVec 32 := 128#32
  let v1724 : BitVec 32 := Scalar.muli v1723 c128_i32_688
  v1724

def k0_mult87 (v1726 : BitVec 32) : BitVec 32 :=
  let c0_i32_690 : BitVec 32 := 0#32
  let v1728 : BitVec 1 := Scalar.cmpi .sgt v1726 c0_i32_690
  let v1729 : BitVec 32 := Scalar.extui v1728
  let c0_i32_691 : BitVec 32 := 0#32
  let v1730 : BitVec 1 := Scalar.cmpi .slt v1726 c0_i32_691
  let v1731 : BitVec 32 := Scalar.extui v1730
  let v1732 : BitVec 32 := Scalar.subi v1729 v1731
  let c128_i32_689 : BitVec 32 := 128#32
  let c0_i32_692 : BitVec 32 := 0#32
  let v1733 : BitVec 1 := Scalar.cmpi .sgt c128_i32_689 c0_i32_692
  let v1734 : BitVec 32 := Scalar.extui v1733
  let c0_i32_693 : BitVec 32 := 0#32
  let v1735 : BitVec 1 := Scalar.cmpi .slt c128_i32_689 c0_i32_693
  let v1736 : BitVec 32 := Scalar.extui v1735
  let v1737 : BitVec 32 := Scalar.subi v1734 v1736
  let v1738 : BitVec 1 := Scalar.cmpi .ne v1732 v1737
  let v1739 : BitVec 32 := Scalar.remsi v1726 c128_i32_689
  let c0_i32_694 : BitVec 32 := 0#32
  let v1740 : BitVec 1 := Scalar.cmpi .ne v1739 c0_i32_694
  let v1741 : BitVec 1 := Scalar.andi v1738 v1740
  let v1727 : BitVec 32 := Scalar.divsi v1726 c128_i32_689
  let c1_i32_695 : BitVec 32 := 1#32
  let v1742 : BitVec 32 := Scalar.subi v1727 c1_i32_695
  let v1743 : BitVec 32 := Scalar.select v1741 v1742 v1727
  let c128_i32_696 : BitVec 32 := 128#32
  let v1744 : BitVec 32 := Scalar.muli v1743 c128_i32_696
  v1744

def k0_mult88 (v1746 : BitVec 32) : BitVec 32 :=
  let c0_i32_698 : BitVec 32 := 0#32
  let v1748 : BitVec 1 := Scalar.cmpi .sgt v1746 c0_i32_698
  let v1749 : BitVec 32 := Scalar.extui v1748
  let c0_i32_699 : BitVec 32 := 0#32
  let v1750 : BitVec 1 := Scalar.cmpi .slt v1746 c0_i32_699
  let v1751 : BitVec 32 := Scalar.extui v1750
  let v1752 : BitVec 32 := Scalar.subi v1749 v1751
  let c128_i32_697 : BitVec 32 := 128#32
  let c0_i32_700 : BitVec 32 := 0#32
  let v1753 : BitVec 1 := Scalar.cmpi .sgt c128_i32_697 c0_i32_700
  let v1754 : BitVec 32 := Scalar.extui v1753
  let c0_i32_701 : BitVec 32 := 0#32
  let v1755 : BitVec 1 := Scalar.cmpi .slt c128_i32_697 c0_i32_701
  let v1756 : BitVec 32 := Scalar.extui v1755
  let v1757 : BitVec 32 := Scalar.subi v1754 v1756
  let v1758 : BitVec 1 := Scalar.cmpi .ne v1752 v1757
  let v1759 : BitVec 32 := Scalar.remsi v1746 c128_i32_697
  let c0_i32_702 : BitVec 32 := 0#32
  let v1760 : BitVec 1 := Scalar.cmpi .ne v1759 c0_i32_702
  let v1761 : BitVec 1 := Scalar.andi v1758 v1760
  let v1747 : BitVec 32 := Scalar.divsi v1746 c128_i32_697
  let c1_i32_703 : BitVec 32 := 1#32
  let v1762 : BitVec 32 := Scalar.subi v1747 c1_i32_703
  let v1763 : BitVec 32 := Scalar.select v1761 v1762 v1747
  let c128_i32_704 : BitVec 32 := 128#32
  let v1764 : BitVec 32 := Scalar.muli v1763 c128_i32_704
  v1764

def k0_mult89 (v1766 : BitVec 32) : BitVec 32 :=
  let c0_i32_706 : BitVec 32 := 0#32
  let v1768 : BitVec 1 := Scalar.cmpi .sgt v1766 c0_i32_706
  let v1769 : BitVec 32 := Scalar.extui v1768
  let c0_i32_707 : BitVec 32 := 0#32
  let v1770 : BitVec 1 := Scalar.cmpi .slt v1766 c0_i32_707
  let v1771 : BitVec 32 := Scalar.extui v1770
  let v1772 : BitVec 32 := Scalar.subi v1769 v1771
  let c128_i32_705 : BitVec 32 := 128#32
  let c0_i32_708 : BitVec 32 := 0#32
  let v1773 : BitVec 1 := Scalar.cmpi .sgt c128_i32_705 c0_i32_708
  let v1774 : BitVec 32 := Scalar.extui v1773
  let c0_i32_709 : BitVec 32 := 0#32
  let v1775 : BitVec 1 := Scalar.cmpi .slt c128_i32_705 c0_i32_709
  let v1776 : BitVec 32 := Scalar.extui v1775
  let v1777 : BitVec 32 := Scalar.subi v1774 v1776
  let v1778 : BitVec 1 := Scalar.cmpi .ne v1772 v1777
  let v1779 : BitVec 32 := Scalar.remsi v1766 c128_i32_705
  let c0_i32_710 : BitVec 32 := 0#32
  let v1780 : BitVec 1 := Scalar.cmpi .ne v1779 c0_i32_710
  let v1781 : BitVec 1 := Scalar.andi v1778 v1780
  let v1767 : BitVec 32 := Scalar.divsi v1766 c128_i32_705
  let c1_i32_711 : BitVec 32 := 1#32
  let v1782 : BitVec 32 := Scalar.subi v1767 c1_i32_711
  let v1783 : BitVec 32 := Scalar.select v1781 v1782 v1767
  let c128_i32_712 : BitVec 32 := 128#32
  let v1784 : BitVec 32 := Scalar.muli v1783 c128_i32_712
  v1784

def k0_mult90 (v1786 : BitVec 32) : BitVec 32 :=
  let c0_i32_714 : BitVec 32 := 0#32
  let v1788 : BitVec 1 := Scalar.cmpi .sgt v1786 c0_i32_714
  let v1789 : BitVec 32 := Scalar.extui v1788
  let c0_i32_715 : BitVec 32 := 0#32
  let v1790 : BitVec 1 := Scalar.cmpi .slt v1786 c0_i32_715
  let v1791 : BitVec 32 := Scalar.extui v1790
  let v1792 : BitVec 32 := Scalar.subi v1789 v1791
  let c128_i32_713 : BitVec 32 := 128#32
  let c0_i32_716 : BitVec 32 := 0#32
  let v1793 : BitVec 1 := Scalar.cmpi .sgt c128_i32_713 c0_i32_716
  let v1794 : BitVec 32 := Scalar.extui v1793
  let c0_i32_717 : BitVec 32 := 0#32
  let v1795 : BitVec 1 := Scalar.cmpi .slt c128_i32_713 c0_i32_717
  let v1796 : BitVec 32 := Scalar.extui v1795
  let v1797 : BitVec 32 := Scalar.subi v1794 v1796
  let v1798 : BitVec 1 := Scalar.cmpi .ne v1792 v1797
  let v1799 : BitVec 32 := Scalar.remsi v1786 c128_i32_713
  let c0_i32_718 : BitVec 32 := 0#32
  let v1800 : BitVec 1 := Scalar.cmpi .ne v1799 c0_i32_718
  let v1801 : BitVec 1 := Scalar.andi v1798 v1800
  let v1787 : BitVec 32 := Scalar.divsi v1786 c128_i32_713
  let c1_i32_719 : BitVec 32 := 1#32
  let v1802 : BitVec 32 := Scalar.subi v1787 c1_i32_719
  let v1803 : BitVec 32 := Scalar.select v1801 v1802 v1787
  let c128_i32_720 : BitVec 32 := 128#32
  let v1804 : BitVec 32 := Scalar.muli v1803 c128_i32_720
  v1804

def k0_mult91 (v1806 : BitVec 32) : BitVec 32 :=
  let c0_i32_722 : BitVec 32 := 0#32
  let v1808 : BitVec 1 := Scalar.cmpi .sgt v1806 c0_i32_722
  let v1809 : BitVec 32 := Scalar.extui v1808
  let c0_i32_723 : BitVec 32 := 0#32
  let v1810 : BitVec 1 := Scalar.cmpi .slt v1806 c0_i32_723
  let v1811 : BitVec 32 := Scalar.extui v1810
  let v1812 : BitVec 32 := Scalar.subi v1809 v1811
  let c128_i32_721 : BitVec 32 := 128#32
  let c0_i32_724 : BitVec 32 := 0#32
  let v1813 : BitVec 1 := Scalar.cmpi .sgt c128_i32_721 c0_i32_724
  let v1814 : BitVec 32 := Scalar.extui v1813
  let c0_i32_725 : BitVec 32 := 0#32
  let v1815 : BitVec 1 := Scalar.cmpi .slt c128_i32_721 c0_i32_725
  let v1816 : BitVec 32 := Scalar.extui v1815
  let v1817 : BitVec 32 := Scalar.subi v1814 v1816
  let v1818 : BitVec 1 := Scalar.cmpi .ne v1812 v1817
  let v1819 : BitVec 32 := Scalar.remsi v1806 c128_i32_721
  let c0_i32_726 : BitVec 32 := 0#32
  let v1820 : BitVec 1 := Scalar.cmpi .ne v1819 c0_i32_726
  let v1821 : BitVec 1 := Scalar.andi v1818 v1820
  let v1807 : BitVec 32 := Scalar.divsi v1806 c128_i32_721
  let c1_i32_727 : BitVec 32 := 1#32
  let v1822 : BitVec 32 := Scalar.subi v1807 c1_i32_727
  let v1823 : BitVec 32 := Scalar.select v1821 v1822 v1807
  let c128_i32_728 : BitVec 32 := 128#32
  let v1824 : BitVec 32 := Scalar.muli v1823 c128_i32_728
  v1824

def k0_mult92 (v1826 : BitVec 32) : BitVec 32 :=
  let c0_i32_730 : BitVec 32 := 0#32
  let v1828 : BitVec 1 := Scalar.cmpi .sgt v1826 c0_i32_730
  let v1829 : BitVec 32 := Scalar.extui v1828
  let c0_i32_731 : BitVec 32 := 0#32
  let v1830 : BitVec 1 := Scalar.cmpi .slt v1826 c0_i32_731
  let v1831 : BitVec 32 := Scalar.extui v1830
  let v1832 : BitVec 32 := Scalar.subi v1829 v1831
  let c128_i32_729 : BitVec 32 := 128#32
  let c0_i32_732 : BitVec 32 := 0#32
  let v1833 : BitVec 1 := Scalar.cmpi .sgt c128_i32_729 c0_i32_732
  let v1834 : BitVec 32 := Scalar.extui v1833
  let c0_i32_733 : BitVec 32 := 0#32
  let v1835 : BitVec 1 := Scalar.cmpi .slt c128_i32_729 c0_i32_733
  let v1836 : BitVec 32 := Scalar.extui v1835
  let v1837 : BitVec 32 := Scalar.subi v1834 v1836
  let v1838 : BitVec 1 := Scalar.cmpi .ne v1832 v1837
  let v1839 : BitVec 32 := Scalar.remsi v1826 c128_i32_729
  let c0_i32_734 : BitVec 32 := 0#32
  let v1840 : BitVec 1 := Scalar.cmpi .ne v1839 c0_i32_734
  let v1841 : BitVec 1 := Scalar.andi v1838 v1840
  let v1827 : BitVec 32 := Scalar.divsi v1826 c128_i32_729
  let c1_i32_735 : BitVec 32 := 1#32
  let v1842 : BitVec 32 := Scalar.subi v1827 c1_i32_735
  let v1843 : BitVec 32 := Scalar.select v1841 v1842 v1827
  let c128_i32_736 : BitVec 32 := 128#32
  let v1844 : BitVec 32 := Scalar.muli v1843 c128_i32_736
  v1844

def k0_mult93 (v1846 : BitVec 32) : BitVec 32 :=
  let c0_i32_738 : BitVec 32 := 0#32
  let v1848 : BitVec 1 := Scalar.cmpi .sgt v1846 c0_i32_738
  let v1849 : BitVec 32 := Scalar.extui v1848
  let c0_i32_739 : BitVec 32 := 0#32
  let v1850 : BitVec 1 := Scalar.cmpi .slt v1846 c0_i32_739
  let v1851 : BitVec 32 := Scalar.extui v1850
  let v1852 : BitVec 32 := Scalar.subi v1849 v1851
  let c128_i32_737 : BitVec 32 := 128#32
  let c0_i32_740 : BitVec 32 := 0#32
  let v1853 : BitVec 1 := Scalar.cmpi .sgt c128_i32_737 c0_i32_740
  let v1854 : BitVec 32 := Scalar.extui v1853
  let c0_i32_741 : BitVec 32 := 0#32
  let v1855 : BitVec 1 := Scalar.cmpi .slt c128_i32_737 c0_i32_741
  let v1856 : BitVec 32 := Scalar.extui v1855
  let v1857 : BitVec 32 := Scalar.subi v1854 v1856
  let v1858 : BitVec 1 := Scalar.cmpi .ne v1852 v1857
  let v1859 : BitVec 32 := Scalar.remsi v1846 c128_i32_737
  let c0_i32_742 : BitVec 32 := 0#32
  let v1860 : BitVec 1 := Scalar.cmpi .ne v1859 c0_i32_742
  let v1861 : BitVec 1 := Scalar.andi v1858 v1860
  let v1847 : BitVec 32 := Scalar.divsi v1846 c128_i32_737
  let c1_i32_743 : BitVec 32 := 1#32
  let v1862 : BitVec 32 := Scalar.subi v1847 c1_i32_743
  let v1863 : BitVec 32 := Scalar.select v1861 v1862 v1847
  let c128_i32_744 : BitVec 32 := 128#32
  let v1864 : BitVec 32 := Scalar.muli v1863 c128_i32_744
  v1864

def k0_mult94 (v1866 : BitVec 32) : BitVec 32 :=
  let c0_i32_746 : BitVec 32 := 0#32
  let v1868 : BitVec 1 := Scalar.cmpi .sgt v1866 c0_i32_746
  let v1869 : BitVec 32 := Scalar.extui v1868
  let c0_i32_747 : BitVec 32 := 0#32
  let v1870 : BitVec 1 := Scalar.cmpi .slt v1866 c0_i32_747
  let v1871 : BitVec 32 := Scalar.extui v1870
  let v1872 : BitVec 32 := Scalar.subi v1869 v1871
  let c128_i32_745 : BitVec 32 := 128#32
  let c0_i32_748 : BitVec 32 := 0#32
  let v1873 : BitVec 1 := Scalar.cmpi .sgt c128_i32_745 c0_i32_748
  let v1874 : BitVec 32 := Scalar.extui v1873
  let c0_i32_749 : BitVec 32 := 0#32
  let v1875 : BitVec 1 := Scalar.cmpi .slt c128_i32_745 c0_i32_749
  let v1876 : BitVec 32 := Scalar.extui v1875
  let v1877 : BitVec 32 := Scalar.subi v1874 v1876
  let v1878 : BitVec 1 := Scalar.cmpi .ne v1872 v1877
  let v1879 : BitVec 32 := Scalar.remsi v1866 c128_i32_745
  let c0_i32_750 : BitVec 32 := 0#32
  let v1880 : BitVec 1 := Scalar.cmpi .ne v1879 c0_i32_750
  let v1881 : BitVec 1 := Scalar.andi v1878 v1880
  let v1867 : BitVec 32 := Scalar.divsi v1866 c128_i32_745
  let c1_i32_751 : BitVec 32 := 1#32
  let v1882 : BitVec 32 := Scalar.subi v1867 c1_i32_751
  let v1883 : BitVec 32 := Scalar.select v1881 v1882 v1867
  let c128_i32_752 : BitVec 32 := 128#32
  let v1884 : BitVec 32 := Scalar.muli v1883 c128_i32_752
  v1884

def k0_mult95 (v1886 : BitVec 32) : BitVec 32 :=
  let c0_i32_754 : BitVec 32 := 0#32
  let v1888 : BitVec 1 := Scalar.cmpi .sgt v1886 c0_i32_754
  let v1889 : BitVec 32 := Scalar.extui v1888
  let c0_i32_755 : BitVec 32 := 0#32
  let v1890 : BitVec 1 := Scalar.cmpi .slt v1886 c0_i32_755
  let v1891 : BitVec 32 := Scalar.extui v1890
  let v1892 : BitVec 32 := Scalar.subi v1889 v1891
  let c128_i32_753 : BitVec 32 := 128#32
  let c0_i32_756 : BitVec 32 := 0#32
  let v1893 : BitVec 1 := Scalar.cmpi .sgt c128_i32_753 c0_i32_756
  let v1894 : BitVec 32 := Scalar.extui v1893
  let c0_i32_757 : BitVec 32 := 0#32
  let v1895 : BitVec 1 := Scalar.cmpi .slt c128_i32_753 c0_i32_757
  let v1896 : BitVec 32 := Scalar.extui v1895
  let v1897 : BitVec 32 := Scalar.subi v1894 v1896
  let v1898 : BitVec 1 := Scalar.cmpi .ne v1892 v1897
  let v1899 : BitVec 32 := Scalar.remsi v1886 c128_i32_753
  let c0_i32_758 : BitVec 32 := 0#32
  let v1900 : BitVec 1 := Scalar.cmpi .ne v1899 c0_i32_758
  let v1901 : BitVec 1 := Scalar.andi v1898 v1900
  let v1887 : BitVec 32 := Scalar.divsi v1886 c128_i32_753
  let c1_i32_759 : BitVec 32 := 1#32
  let v1902 : BitVec 32 := Scalar.subi v1887 c1_i32_759
  let v1903 : BitVec 32 := Scalar.select v1901 v1902 v1887
  let c128_i32_760 : BitVec 32 := 128#32
  let v1904 : BitVec 32 := Scalar.muli v1903 c128_i32_760
  v1904

def k0_mult96 (v1906 : BitVec 32) : BitVec 32 :=
  let c0_i32_762 : BitVec 32 := 0#32
  let v1908 : BitVec 1 := Scalar.cmpi .sgt v1906 c0_i32_762
  let v1909 : BitVec 32 := Scalar.extui v1908
  let c0_i32_763 : BitVec 32 := 0#32
  let v1910 : BitVec 1 := Scalar.cmpi .slt v1906 c0_i32_763
  let v1911 : BitVec 32 := Scalar.extui v1910
  let v1912 : BitVec 32 := Scalar.subi v1909 v1911
  let c128_i32_761 : BitVec 32 := 128#32
  let c0_i32_764 : BitVec 32 := 0#32
  let v1913 : BitVec 1 := Scalar.cmpi .sgt c128_i32_761 c0_i32_764
  let v1914 : BitVec 32 := Scalar.extui v1913
  let c0_i32_765 : BitVec 32 := 0#32
  let v1915 : BitVec 1 := Scalar.cmpi .slt c128_i32_761 c0_i32_765
  let v1916 : BitVec 32 := Scalar.extui v1915
  let v1917 : BitVec 32 := Scalar.subi v1914 v1916
  let v1918 : BitVec 1 := Scalar.cmpi .ne v1912 v1917
  let v1919 : BitVec 32 := Scalar.remsi v1906 c128_i32_761
  let c0_i32_766 : BitVec 32 := 0#32
  let v1920 : BitVec 1 := Scalar.cmpi .ne v1919 c0_i32_766
  let v1921 : BitVec 1 := Scalar.andi v1918 v1920
  let v1907 : BitVec 32 := Scalar.divsi v1906 c128_i32_761
  let c1_i32_767 : BitVec 32 := 1#32
  let v1922 : BitVec 32 := Scalar.subi v1907 c1_i32_767
  let v1923 : BitVec 32 := Scalar.select v1921 v1922 v1907
  let c128_i32_768 : BitVec 32 := 128#32
  let v1924 : BitVec 32 := Scalar.muli v1923 c128_i32_768
  v1924

def k0_mult97 (v1926 : BitVec 32) : BitVec 32 :=
  let c0_i32_770 : BitVec 32 := 0#32
  let v1928 : BitVec 1 := Scalar.cmpi .sgt v1926 c0_i32_770
  let v1929 : BitVec 32 := Scalar.extui v1928
  let c0_i32_771 : BitVec 32 := 0#32
  let v1930 : BitVec 1 := Scalar.cmpi .slt v1926 c0_i32_771
  let v1931 : BitVec 32 := Scalar.extui v1930
  let v1932 : BitVec 32 := Scalar.subi v1929 v1931
  let c128_i32_769 : BitVec 32 := 128#32
  let c0_i32_772 : BitVec 32 := 0#32
  let v1933 : BitVec 1 := Scalar.cmpi .sgt c128_i32_769 c0_i32_772
  let v1934 : BitVec 32 := Scalar.extui v1933
  let c0_i32_773 : BitVec 32 := 0#32
  let v1935 : BitVec 1 := Scalar.cmpi .slt c128_i32_769 c0_i32_773
  let v1936 : BitVec 32 := Scalar.extui v1935
  let v1937 : BitVec 32 := Scalar.subi v1934 v1936
  let v1938 : BitVec 1 := Scalar.cmpi .ne v1932 v1937
  let v1939 : BitVec 32 := Scalar.remsi v1926 c128_i32_769
  let c0_i32_774 : BitVec 32 := 0#32
  let v1940 : BitVec 1 := Scalar.cmpi .ne v1939 c0_i32_774
  let v1941 : BitVec 1 := Scalar.andi v1938 v1940
  let v1927 : BitVec 32 := Scalar.divsi v1926 c128_i32_769
  let c1_i32_775 : BitVec 32 := 1#32
  let v1942 : BitVec 32 := Scalar.subi v1927 c1_i32_775
  let v1943 : BitVec 32 := Scalar.select v1941 v1942 v1927
  let c128_i32_776 : BitVec 32 := 128#32
  let v1944 : BitVec 32 := Scalar.muli v1943 c128_i32_776
  v1944

def k0_mult98 (v1946 : BitVec 32) : BitVec 32 :=
  let c0_i32_778 : BitVec 32 := 0#32
  let v1948 : BitVec 1 := Scalar.cmpi .sgt v1946 c0_i32_778
  let v1949 : BitVec 32 := Scalar.extui v1948
  let c0_i32_779 : BitVec 32 := 0#32
  let v1950 : BitVec 1 := Scalar.cmpi .slt v1946 c0_i32_779
  let v1951 : BitVec 32 := Scalar.extui v1950
  let v1952 : BitVec 32 := Scalar.subi v1949 v1951
  let c128_i32_777 : BitVec 32 := 128#32
  let c0_i32_780 : BitVec 32 := 0#32
  let v1953 : BitVec 1 := Scalar.cmpi .sgt c128_i32_777 c0_i32_780
  let v1954 : BitVec 32 := Scalar.extui v1953
  let c0_i32_781 : BitVec 32 := 0#32
  let v1955 : BitVec 1 := Scalar.cmpi .slt c128_i32_777 c0_i32_781
  let v1956 : BitVec 32 := Scalar.extui v1955
  let v1957 : BitVec 32 := Scalar.subi v1954 v1956
  let v1958 : BitVec 1 := Scalar.cmpi .ne v1952 v1957
  let v1959 : BitVec 32 := Scalar.remsi v1946 c128_i32_777
  let c0_i32_782 : BitVec 32 := 0#32
  let v1960 : BitVec 1 := Scalar.cmpi .ne v1959 c0_i32_782
  let v1961 : BitVec 1 := Scalar.andi v1958 v1960
  let v1947 : BitVec 32 := Scalar.divsi v1946 c128_i32_777
  let c1_i32_783 : BitVec 32 := 1#32
  let v1962 : BitVec 32 := Scalar.subi v1947 c1_i32_783
  let v1963 : BitVec 32 := Scalar.select v1961 v1962 v1947
  let c128_i32_784 : BitVec 32 := 128#32
  let v1964 : BitVec 32 := Scalar.muli v1963 c128_i32_784
  v1964

def k0_mult99 (v1966 : BitVec 32) : BitVec 32 :=
  let c0_i32_786 : BitVec 32 := 0#32
  let v1968 : BitVec 1 := Scalar.cmpi .sgt v1966 c0_i32_786
  let v1969 : BitVec 32 := Scalar.extui v1968
  let c0_i32_787 : BitVec 32 := 0#32
  let v1970 : BitVec 1 := Scalar.cmpi .slt v1966 c0_i32_787
  let v1971 : BitVec 32 := Scalar.extui v1970
  let v1972 : BitVec 32 := Scalar.subi v1969 v1971
  let c128_i32_785 : BitVec 32 := 128#32
  let c0_i32_788 : BitVec 32 := 0#32
  let v1973 : BitVec 1 := Scalar.cmpi .sgt c128_i32_785 c0_i32_788
  let v1974 : BitVec 32 := Scalar.extui v1973
  let c0_i32_789 : BitVec 32 := 0#32
  let v1975 : BitVec 1 := Scalar.cmpi .slt c128_i32_785 c0_i32_789
  let v1976 : BitVec 32 := Scalar.extui v1975
  let v1977 : BitVec 32 := Scalar.subi v1974 v1976
  let v1978 : BitVec 1 := Scalar.cmpi .ne v1972 v1977
  let v1979 : BitVec 32 := Scalar.remsi v1966 c128_i32_785
  let c0_i32_790 : BitVec 32 := 0#32
  let v1980 : BitVec 1 := Scalar.cmpi .ne v1979 c0_i32_790
  let v1981 : BitVec 1 := Scalar.andi v1978 v1980
  let v1967 : BitVec 32 := Scalar.divsi v1966 c128_i32_785
  let c1_i32_791 : BitVec 32 := 1#32
  let v1982 : BitVec 32 := Scalar.subi v1967 c1_i32_791
  let v1983 : BitVec 32 := Scalar.select v1981 v1982 v1967
  let c128_i32_792 : BitVec 32 := 128#32
  let v1984 : BitVec 32 := Scalar.muli v1983 c128_i32_792
  v1984

def k0_mult100 (v1986 : BitVec 32) : BitVec 32 :=
  let c0_i32_794 : BitVec 32 := 0#32
  let v1988 : BitVec 1 := Scalar.cmpi .sgt v1986 c0_i32_794
  let v1989 : BitVec 32 := Scalar.extui v1988
  let c0_i32_795 : BitVec 32 := 0#32
  let v1990 : BitVec 1 := Scalar.cmpi .slt v1986 c0_i32_795
  let v1991 : BitVec 32 := Scalar.extui v1990
  let v1992 : BitVec 32 := Scalar.subi v1989 v1991
  let c128_i32_793 : BitVec 32 := 128#32
  let c0_i32_796 : BitVec 32 := 0#32
  let v1993 : BitVec 1 := Scalar.cmpi .sgt c128_i32_793 c0_i32_796
  let v1994 : BitVec 32 := Scalar.extui v1993
  let c0_i32_797 : BitVec 32 := 0#32
  let v1995 : BitVec 1 := Scalar.cmpi .slt c128_i32_793 c0_i32_797
  let v1996 : BitVec 32 := Scalar.extui v1995
  let v1997 : BitVec 32 := Scalar.subi v1994 v1996
  let v1998 : BitVec 1 := Scalar.cmpi .ne v1992 v1997
  let v1999 : BitVec 32 := Scalar.remsi v1986 c128_i32_793
  let c0_i32_798 : BitVec 32 := 0#32
  let v2000 : BitVec 1 := Scalar.cmpi .ne v1999 c0_i32_798
  let v2001 : BitVec 1 := Scalar.andi v1998 v2000
  let v1987 : BitVec 32 := Scalar.divsi v1986 c128_i32_793
  let c1_i32_799 : BitVec 32 := 1#32
  let v2002 : BitVec 32 := Scalar.subi v1987 c1_i32_799
  let v2003 : BitVec 32 := Scalar.select v2001 v2002 v1987
  let c128_i32_800 : BitVec 32 := 128#32
  let v2004 : BitVec 32 := Scalar.muli v2003 c128_i32_800
  v2004

def k0_mult101 (v2006 : BitVec 32) : BitVec 32 :=
  let c0_i32_802 : BitVec 32 := 0#32
  let v2008 : BitVec 1 := Scalar.cmpi .sgt v2006 c0_i32_802
  let v2009 : BitVec 32 := Scalar.extui v2008
  let c0_i32_803 : BitVec 32 := 0#32
  let v2010 : BitVec 1 := Scalar.cmpi .slt v2006 c0_i32_803
  let v2011 : BitVec 32 := Scalar.extui v2010
  let v2012 : BitVec 32 := Scalar.subi v2009 v2011
  let c128_i32_801 : BitVec 32 := 128#32
  let c0_i32_804 : BitVec 32 := 0#32
  let v2013 : BitVec 1 := Scalar.cmpi .sgt c128_i32_801 c0_i32_804
  let v2014 : BitVec 32 := Scalar.extui v2013
  let c0_i32_805 : BitVec 32 := 0#32
  let v2015 : BitVec 1 := Scalar.cmpi .slt c128_i32_801 c0_i32_805
  let v2016 : BitVec 32 := Scalar.extui v2015
  let v2017 : BitVec 32 := Scalar.subi v2014 v2016
  let v2018 : BitVec 1 := Scalar.cmpi .ne v2012 v2017
  let v2019 : BitVec 32 := Scalar.remsi v2006 c128_i32_801
  let c0_i32_806 : BitVec 32 := 0#32
  let v2020 : BitVec 1 := Scalar.cmpi .ne v2019 c0_i32_806
  let v2021 : BitVec 1 := Scalar.andi v2018 v2020
  let v2007 : BitVec 32 := Scalar.divsi v2006 c128_i32_801
  let c1_i32_807 : BitVec 32 := 1#32
  let v2022 : BitVec 32 := Scalar.subi v2007 c1_i32_807
  let v2023 : BitVec 32 := Scalar.select v2021 v2022 v2007
  let c128_i32_808 : BitVec 32 := 128#32
  let v2024 : BitVec 32 := Scalar.muli v2023 c128_i32_808
  v2024

def k0_mult102 (v2026 : BitVec 32) : BitVec 32 :=
  let c0_i32_810 : BitVec 32 := 0#32
  let v2028 : BitVec 1 := Scalar.cmpi .sgt v2026 c0_i32_810
  let v2029 : BitVec 32 := Scalar.extui v2028
  let c0_i32_811 : BitVec 32 := 0#32
  let v2030 : BitVec 1 := Scalar.cmpi .slt v2026 c0_i32_811
  let v2031 : BitVec 32 := Scalar.extui v2030
  let v2032 : BitVec 32 := Scalar.subi v2029 v2031
  let c128_i32_809 : BitVec 32 := 128#32
  let c0_i32_812 : BitVec 32 := 0#32
  let v2033 : BitVec 1 := Scalar.cmpi .sgt c128_i32_809 c0_i32_812
  let v2034 : BitVec 32 := Scalar.extui v2033
  let c0_i32_813 : BitVec 32 := 0#32
  let v2035 : BitVec 1 := Scalar.cmpi .slt c128_i32_809 c0_i32_813
  let v2036 : BitVec 32 := Scalar.extui v2035
  let v2037 : BitVec 32 := Scalar.subi v2034 v2036
  let v2038 : BitVec 1 := Scalar.cmpi .ne v2032 v2037
  let v2039 : BitVec 32 := Scalar.remsi v2026 c128_i32_809
  let c0_i32_814 : BitVec 32 := 0#32
  let v2040 : BitVec 1 := Scalar.cmpi .ne v2039 c0_i32_814
  let v2041 : BitVec 1 := Scalar.andi v2038 v2040
  let v2027 : BitVec 32 := Scalar.divsi v2026 c128_i32_809
  let c1_i32_815 : BitVec 32 := 1#32
  let v2042 : BitVec 32 := Scalar.subi v2027 c1_i32_815
  let v2043 : BitVec 32 := Scalar.select v2041 v2042 v2027
  let c128_i32_816 : BitVec 32 := 128#32
  let v2044 : BitVec 32 := Scalar.muli v2043 c128_i32_816
  v2044

def k0_mult103 (v2046 : BitVec 32) : BitVec 32 :=
  let c0_i32_818 : BitVec 32 := 0#32
  let v2048 : BitVec 1 := Scalar.cmpi .sgt v2046 c0_i32_818
  let v2049 : BitVec 32 := Scalar.extui v2048
  let c0_i32_819 : BitVec 32 := 0#32
  let v2050 : BitVec 1 := Scalar.cmpi .slt v2046 c0_i32_819
  let v2051 : BitVec 32 := Scalar.extui v2050
  let v2052 : BitVec 32 := Scalar.subi v2049 v2051
  let c128_i32_817 : BitVec 32 := 128#32
  let c0_i32_820 : BitVec 32 := 0#32
  let v2053 : BitVec 1 := Scalar.cmpi .sgt c128_i32_817 c0_i32_820
  let v2054 : BitVec 32 := Scalar.extui v2053
  let c0_i32_821 : BitVec 32 := 0#32
  let v2055 : BitVec 1 := Scalar.cmpi .slt c128_i32_817 c0_i32_821
  let v2056 : BitVec 32 := Scalar.extui v2055
  let v2057 : BitVec 32 := Scalar.subi v2054 v2056
  let v2058 : BitVec 1 := Scalar.cmpi .ne v2052 v2057
  let v2059 : BitVec 32 := Scalar.remsi v2046 c128_i32_817
  let c0_i32_822 : BitVec 32 := 0#32
  let v2060 : BitVec 1 := Scalar.cmpi .ne v2059 c0_i32_822
  let v2061 : BitVec 1 := Scalar.andi v2058 v2060
  let v2047 : BitVec 32 := Scalar.divsi v2046 c128_i32_817
  let c1_i32_823 : BitVec 32 := 1#32
  let v2062 : BitVec 32 := Scalar.subi v2047 c1_i32_823
  let v2063 : BitVec 32 := Scalar.select v2061 v2062 v2047
  let c128_i32_824 : BitVec 32 := 128#32
  let v2064 : BitVec 32 := Scalar.muli v2063 c128_i32_824
  v2064

def k0_mult104 (v2066 : BitVec 32) : BitVec 32 :=
  let c0_i32_826 : BitVec 32 := 0#32
  let v2068 : BitVec 1 := Scalar.cmpi .sgt v2066 c0_i32_826
  let v2069 : BitVec 32 := Scalar.extui v2068
  let c0_i32_827 : BitVec 32 := 0#32
  let v2070 : BitVec 1 := Scalar.cmpi .slt v2066 c0_i32_827
  let v2071 : BitVec 32 := Scalar.extui v2070
  let v2072 : BitVec 32 := Scalar.subi v2069 v2071
  let c128_i32_825 : BitVec 32 := 128#32
  let c0_i32_828 : BitVec 32 := 0#32
  let v2073 : BitVec 1 := Scalar.cmpi .sgt c128_i32_825 c0_i32_828
  let v2074 : BitVec 32 := Scalar.extui v2073
  let c0_i32_829 : BitVec 32 := 0#32
  let v2075 : BitVec 1 := Scalar.cmpi .slt c128_i32_825 c0_i32_829
  let v2076 : BitVec 32 := Scalar.extui v2075
  let v2077 : BitVec 32 := Scalar.subi v2074 v2076
  let v2078 : BitVec 1 := Scalar.cmpi .ne v2072 v2077
  let v2079 : BitVec 32 := Scalar.remsi v2066 c128_i32_825
  let c0_i32_830 : BitVec 32 := 0#32
  let v2080 : BitVec 1 := Scalar.cmpi .ne v2079 c0_i32_830
  let v2081 : BitVec 1 := Scalar.andi v2078 v2080
  let v2067 : BitVec 32 := Scalar.divsi v2066 c128_i32_825
  let c1_i32_831 : BitVec 32 := 1#32
  let v2082 : BitVec 32 := Scalar.subi v2067 c1_i32_831
  let v2083 : BitVec 32 := Scalar.select v2081 v2082 v2067
  let c128_i32_832 : BitVec 32 := 128#32
  let v2084 : BitVec 32 := Scalar.muli v2083 c128_i32_832
  v2084

def k0_mult105 (v2086 : BitVec 32) : BitVec 32 :=
  let c0_i32_834 : BitVec 32 := 0#32
  let v2088 : BitVec 1 := Scalar.cmpi .sgt v2086 c0_i32_834
  let v2089 : BitVec 32 := Scalar.extui v2088
  let c0_i32_835 : BitVec 32 := 0#32
  let v2090 : BitVec 1 := Scalar.cmpi .slt v2086 c0_i32_835
  let v2091 : BitVec 32 := Scalar.extui v2090
  let v2092 : BitVec 32 := Scalar.subi v2089 v2091
  let c128_i32_833 : BitVec 32 := 128#32
  let c0_i32_836 : BitVec 32 := 0#32
  let v2093 : BitVec 1 := Scalar.cmpi .sgt c128_i32_833 c0_i32_836
  let v2094 : BitVec 32 := Scalar.extui v2093
  let c0_i32_837 : BitVec 32 := 0#32
  let v2095 : BitVec 1 := Scalar.cmpi .slt c128_i32_833 c0_i32_837
  let v2096 : BitVec 32 := Scalar.extui v2095
  let v2097 : BitVec 32 := Scalar.subi v2094 v2096
  let v2098 : BitVec 1 := Scalar.cmpi .ne v2092 v2097
  let v2099 : BitVec 32 := Scalar.remsi v2086 c128_i32_833
  let c0_i32_838 : BitVec 32 := 0#32
  let v2100 : BitVec 1 := Scalar.cmpi .ne v2099 c0_i32_838
  let v2101 : BitVec 1 := Scalar.andi v2098 v2100
  let v2087 : BitVec 32 := Scalar.divsi v2086 c128_i32_833
  let c1_i32_839 : BitVec 32 := 1#32
  let v2102 : BitVec 32 := Scalar.subi v2087 c1_i32_839
  let v2103 : BitVec 32 := Scalar.select v2101 v2102 v2087
  let c128_i32_840 : BitVec 32 := 128#32
  let v2104 : BitVec 32 := Scalar.muli v2103 c128_i32_840
  v2104

def k0_mult106 (v2106 : BitVec 32) : BitVec 32 :=
  let c0_i32_842 : BitVec 32 := 0#32
  let v2108 : BitVec 1 := Scalar.cmpi .sgt v2106 c0_i32_842
  let v2109 : BitVec 32 := Scalar.extui v2108
  let c0_i32_843 : BitVec 32 := 0#32
  let v2110 : BitVec 1 := Scalar.cmpi .slt v2106 c0_i32_843
  let v2111 : BitVec 32 := Scalar.extui v2110
  let v2112 : BitVec 32 := Scalar.subi v2109 v2111
  let c128_i32_841 : BitVec 32 := 128#32
  let c0_i32_844 : BitVec 32 := 0#32
  let v2113 : BitVec 1 := Scalar.cmpi .sgt c128_i32_841 c0_i32_844
  let v2114 : BitVec 32 := Scalar.extui v2113
  let c0_i32_845 : BitVec 32 := 0#32
  let v2115 : BitVec 1 := Scalar.cmpi .slt c128_i32_841 c0_i32_845
  let v2116 : BitVec 32 := Scalar.extui v2115
  let v2117 : BitVec 32 := Scalar.subi v2114 v2116
  let v2118 : BitVec 1 := Scalar.cmpi .ne v2112 v2117
  let v2119 : BitVec 32 := Scalar.remsi v2106 c128_i32_841
  let c0_i32_846 : BitVec 32 := 0#32
  let v2120 : BitVec 1 := Scalar.cmpi .ne v2119 c0_i32_846
  let v2121 : BitVec 1 := Scalar.andi v2118 v2120
  let v2107 : BitVec 32 := Scalar.divsi v2106 c128_i32_841
  let c1_i32_847 : BitVec 32 := 1#32
  let v2122 : BitVec 32 := Scalar.subi v2107 c1_i32_847
  let v2123 : BitVec 32 := Scalar.select v2121 v2122 v2107
  let c128_i32_848 : BitVec 32 := 128#32
  let v2124 : BitVec 32 := Scalar.muli v2123 c128_i32_848
  v2124

def k0_mult107 (v2126 : BitVec 32) : BitVec 32 :=
  let c0_i32_850 : BitVec 32 := 0#32
  let v2128 : BitVec 1 := Scalar.cmpi .sgt v2126 c0_i32_850
  let v2129 : BitVec 32 := Scalar.extui v2128
  let c0_i32_851 : BitVec 32 := 0#32
  let v2130 : BitVec 1 := Scalar.cmpi .slt v2126 c0_i32_851
  let v2131 : BitVec 32 := Scalar.extui v2130
  let v2132 : BitVec 32 := Scalar.subi v2129 v2131
  let c128_i32_849 : BitVec 32 := 128#32
  let c0_i32_852 : BitVec 32 := 0#32
  let v2133 : BitVec 1 := Scalar.cmpi .sgt c128_i32_849 c0_i32_852
  let v2134 : BitVec 32 := Scalar.extui v2133
  let c0_i32_853 : BitVec 32 := 0#32
  let v2135 : BitVec 1 := Scalar.cmpi .slt c128_i32_849 c0_i32_853
  let v2136 : BitVec 32 := Scalar.extui v2135
  let v2137 : BitVec 32 := Scalar.subi v2134 v2136
  let v2138 : BitVec 1 := Scalar.cmpi .ne v2132 v2137
  let v2139 : BitVec 32 := Scalar.remsi v2126 c128_i32_849
  let c0_i32_854 : BitVec 32 := 0#32
  let v2140 : BitVec 1 := Scalar.cmpi .ne v2139 c0_i32_854
  let v2141 : BitVec 1 := Scalar.andi v2138 v2140
  let v2127 : BitVec 32 := Scalar.divsi v2126 c128_i32_849
  let c1_i32_855 : BitVec 32 := 1#32
  let v2142 : BitVec 32 := Scalar.subi v2127 c1_i32_855
  let v2143 : BitVec 32 := Scalar.select v2141 v2142 v2127
  let c128_i32_856 : BitVec 32 := 128#32
  let v2144 : BitVec 32 := Scalar.muli v2143 c128_i32_856
  v2144

def k0_mult108 (v2146 : BitVec 32) : BitVec 32 :=
  let c0_i32_858 : BitVec 32 := 0#32
  let v2148 : BitVec 1 := Scalar.cmpi .sgt v2146 c0_i32_858
  let v2149 : BitVec 32 := Scalar.extui v2148
  let c0_i32_859 : BitVec 32 := 0#32
  let v2150 : BitVec 1 := Scalar.cmpi .slt v2146 c0_i32_859
  let v2151 : BitVec 32 := Scalar.extui v2150
  let v2152 : BitVec 32 := Scalar.subi v2149 v2151
  let c128_i32_857 : BitVec 32 := 128#32
  let c0_i32_860 : BitVec 32 := 0#32
  let v2153 : BitVec 1 := Scalar.cmpi .sgt c128_i32_857 c0_i32_860
  let v2154 : BitVec 32 := Scalar.extui v2153
  let c0_i32_861 : BitVec 32 := 0#32
  let v2155 : BitVec 1 := Scalar.cmpi .slt c128_i32_857 c0_i32_861
  let v2156 : BitVec 32 := Scalar.extui v2155
  let v2157 : BitVec 32 := Scalar.subi v2154 v2156
  let v2158 : BitVec 1 := Scalar.cmpi .ne v2152 v2157
  let v2159 : BitVec 32 := Scalar.remsi v2146 c128_i32_857
  let c0_i32_862 : BitVec 32 := 0#32
  let v2160 : BitVec 1 := Scalar.cmpi .ne v2159 c0_i32_862
  let v2161 : BitVec 1 := Scalar.andi v2158 v2160
  let v2147 : BitVec 32 := Scalar.divsi v2146 c128_i32_857
  let c1_i32_863 : BitVec 32 := 1#32
  let v2162 : BitVec 32 := Scalar.subi v2147 c1_i32_863
  let v2163 : BitVec 32 := Scalar.select v2161 v2162 v2147
  let c128_i32_864 : BitVec 32 := 128#32
  let v2164 : BitVec 32 := Scalar.muli v2163 c128_i32_864
  v2164

def k0_mult109 (v2166 : BitVec 32) : BitVec 32 :=
  let c0_i32_866 : BitVec 32 := 0#32
  let v2168 : BitVec 1 := Scalar.cmpi .sgt v2166 c0_i32_866
  let v2169 : BitVec 32 := Scalar.extui v2168
  let c0_i32_867 : BitVec 32 := 0#32
  let v2170 : BitVec 1 := Scalar.cmpi .slt v2166 c0_i32_867
  let v2171 : BitVec 32 := Scalar.extui v2170
  let v2172 : BitVec 32 := Scalar.subi v2169 v2171
  let c128_i32_865 : BitVec 32 := 128#32
  let c0_i32_868 : BitVec 32 := 0#32
  let v2173 : BitVec 1 := Scalar.cmpi .sgt c128_i32_865 c0_i32_868
  let v2174 : BitVec 32 := Scalar.extui v2173
  let c0_i32_869 : BitVec 32 := 0#32
  let v2175 : BitVec 1 := Scalar.cmpi .slt c128_i32_865 c0_i32_869
  let v2176 : BitVec 32 := Scalar.extui v2175
  let v2177 : BitVec 32 := Scalar.subi v2174 v2176
  let v2178 : BitVec 1 := Scalar.cmpi .ne v2172 v2177
  let v2179 : BitVec 32 := Scalar.remsi v2166 c128_i32_865
  let c0_i32_870 : BitVec 32 := 0#32
  let v2180 : BitVec 1 := Scalar.cmpi .ne v2179 c0_i32_870
  let v2181 : BitVec 1 := Scalar.andi v2178 v2180
  let v2167 : BitVec 32 := Scalar.divsi v2166 c128_i32_865
  let c1_i32_871 : BitVec 32 := 1#32
  let v2182 : BitVec 32 := Scalar.subi v2167 c1_i32_871
  let v2183 : BitVec 32 := Scalar.select v2181 v2182 v2167
  let c128_i32_872 : BitVec 32 := 128#32
  let v2184 : BitVec 32 := Scalar.muli v2183 c128_i32_872
  v2184

def k0_mult110 (v2186 : BitVec 32) : BitVec 32 :=
  let c0_i32_874 : BitVec 32 := 0#32
  let v2188 : BitVec 1 := Scalar.cmpi .sgt v2186 c0_i32_874
  let v2189 : BitVec 32 := Scalar.extui v2188
  let c0_i32_875 : BitVec 32 := 0#32
  let v2190 : BitVec 1 := Scalar.cmpi .slt v2186 c0_i32_875
  let v2191 : BitVec 32 := Scalar.extui v2190
  let v2192 : BitVec 32 := Scalar.subi v2189 v2191
  let c128_i32_873 : BitVec 32 := 128#32
  let c0_i32_876 : BitVec 32 := 0#32
  let v2193 : BitVec 1 := Scalar.cmpi .sgt c128_i32_873 c0_i32_876
  let v2194 : BitVec 32 := Scalar.extui v2193
  let c0_i32_877 : BitVec 32 := 0#32
  let v2195 : BitVec 1 := Scalar.cmpi .slt c128_i32_873 c0_i32_877
  let v2196 : BitVec 32 := Scalar.extui v2195
  let v2197 : BitVec 32 := Scalar.subi v2194 v2196
  let v2198 : BitVec 1 := Scalar.cmpi .ne v2192 v2197
  let v2199 : BitVec 32 := Scalar.remsi v2186 c128_i32_873
  let c0_i32_878 : BitVec 32 := 0#32
  let v2200 : BitVec 1 := Scalar.cmpi .ne v2199 c0_i32_878
  let v2201 : BitVec 1 := Scalar.andi v2198 v2200
  let v2187 : BitVec 32 := Scalar.divsi v2186 c128_i32_873
  let c1_i32_879 : BitVec 32 := 1#32
  let v2202 : BitVec 32 := Scalar.subi v2187 c1_i32_879
  let v2203 : BitVec 32 := Scalar.select v2201 v2202 v2187
  let c128_i32_880 : BitVec 32 := 128#32
  let v2204 : BitVec 32 := Scalar.muli v2203 c128_i32_880
  v2204

def k0_mult111 (v2206 : BitVec 32) : BitVec 32 :=
  let c0_i32_882 : BitVec 32 := 0#32
  let v2208 : BitVec 1 := Scalar.cmpi .sgt v2206 c0_i32_882
  let v2209 : BitVec 32 := Scalar.extui v2208
  let c0_i32_883 : BitVec 32 := 0#32
  let v2210 : BitVec 1 := Scalar.cmpi .slt v2206 c0_i32_883
  let v2211 : BitVec 32 := Scalar.extui v2210
  let v2212 : BitVec 32 := Scalar.subi v2209 v2211
  let c128_i32_881 : BitVec 32 := 128#32
  let c0_i32_884 : BitVec 32 := 0#32
  let v2213 : BitVec 1 := Scalar.cmpi .sgt c128_i32_881 c0_i32_884
  let v2214 : BitVec 32 := Scalar.extui v2213
  let c0_i32_885 : BitVec 32 := 0#32
  let v2215 : BitVec 1 := Scalar.cmpi .slt c128_i32_881 c0_i32_885
  let v2216 : BitVec 32 := Scalar.extui v2215
  let v2217 : BitVec 32 := Scalar.subi v2214 v2216
  let v2218 : BitVec 1 := Scalar.cmpi .ne v2212 v2217
  let v2219 : BitVec 32 := Scalar.remsi v2206 c128_i32_881
  let c0_i32_886 : BitVec 32 := 0#32
  let v2220 : BitVec 1 := Scalar.cmpi .ne v2219 c0_i32_886
  let v2221 : BitVec 1 := Scalar.andi v2218 v2220
  let v2207 : BitVec 32 := Scalar.divsi v2206 c128_i32_881
  let c1_i32_887 : BitVec 32 := 1#32
  let v2222 : BitVec 32 := Scalar.subi v2207 c1_i32_887
  let v2223 : BitVec 32 := Scalar.select v2221 v2222 v2207
  let c128_i32_888 : BitVec 32 := 128#32
  let v2224 : BitVec 32 := Scalar.muli v2223 c128_i32_888
  v2224

def k0_mult112 (v2226 : BitVec 32) : BitVec 32 :=
  let c0_i32_890 : BitVec 32 := 0#32
  let v2228 : BitVec 1 := Scalar.cmpi .sgt v2226 c0_i32_890
  let v2229 : BitVec 32 := Scalar.extui v2228
  let c0_i32_891 : BitVec 32 := 0#32
  let v2230 : BitVec 1 := Scalar.cmpi .slt v2226 c0_i32_891
  let v2231 : BitVec 32 := Scalar.extui v2230
  let v2232 : BitVec 32 := Scalar.subi v2229 v2231
  let c128_i32_889 : BitVec 32 := 128#32
  let c0_i32_892 : BitVec 32 := 0#32
  let v2233 : BitVec 1 := Scalar.cmpi .sgt c128_i32_889 c0_i32_892
  let v2234 : BitVec 32 := Scalar.extui v2233
  let c0_i32_893 : BitVec 32 := 0#32
  let v2235 : BitVec 1 := Scalar.cmpi .slt c128_i32_889 c0_i32_893
  let v2236 : BitVec 32 := Scalar.extui v2235
  let v2237 : BitVec 32 := Scalar.subi v2234 v2236
  let v2238 : BitVec 1 := Scalar.cmpi .ne v2232 v2237
  let v2239 : BitVec 32 := Scalar.remsi v2226 c128_i32_889
  let c0_i32_894 : BitVec 32 := 0#32
  let v2240 : BitVec 1 := Scalar.cmpi .ne v2239 c0_i32_894
  let v2241 : BitVec 1 := Scalar.andi v2238 v2240
  let v2227 : BitVec 32 := Scalar.divsi v2226 c128_i32_889
  let c1_i32_895 : BitVec 32 := 1#32
  let v2242 : BitVec 32 := Scalar.subi v2227 c1_i32_895
  let v2243 : BitVec 32 := Scalar.select v2241 v2242 v2227
  let c128_i32_896 : BitVec 32 := 128#32
  let v2244 : BitVec 32 := Scalar.muli v2243 c128_i32_896
  v2244

def k0_mult113 (v2246 : BitVec 32) : BitVec 32 :=
  let c0_i32_898 : BitVec 32 := 0#32
  let v2248 : BitVec 1 := Scalar.cmpi .sgt v2246 c0_i32_898
  let v2249 : BitVec 32 := Scalar.extui v2248
  let c0_i32_899 : BitVec 32 := 0#32
  let v2250 : BitVec 1 := Scalar.cmpi .slt v2246 c0_i32_899
  let v2251 : BitVec 32 := Scalar.extui v2250
  let v2252 : BitVec 32 := Scalar.subi v2249 v2251
  let c128_i32_897 : BitVec 32 := 128#32
  let c0_i32_900 : BitVec 32 := 0#32
  let v2253 : BitVec 1 := Scalar.cmpi .sgt c128_i32_897 c0_i32_900
  let v2254 : BitVec 32 := Scalar.extui v2253
  let c0_i32_901 : BitVec 32 := 0#32
  let v2255 : BitVec 1 := Scalar.cmpi .slt c128_i32_897 c0_i32_901
  let v2256 : BitVec 32 := Scalar.extui v2255
  let v2257 : BitVec 32 := Scalar.subi v2254 v2256
  let v2258 : BitVec 1 := Scalar.cmpi .ne v2252 v2257
  let v2259 : BitVec 32 := Scalar.remsi v2246 c128_i32_897
  let c0_i32_902 : BitVec 32 := 0#32
  let v2260 : BitVec 1 := Scalar.cmpi .ne v2259 c0_i32_902
  let v2261 : BitVec 1 := Scalar.andi v2258 v2260
  let v2247 : BitVec 32 := Scalar.divsi v2246 c128_i32_897
  let c1_i32_903 : BitVec 32 := 1#32
  let v2262 : BitVec 32 := Scalar.subi v2247 c1_i32_903
  let v2263 : BitVec 32 := Scalar.select v2261 v2262 v2247
  let c128_i32_904 : BitVec 32 := 128#32
  let v2264 : BitVec 32 := Scalar.muli v2263 c128_i32_904
  v2264

def k0_mult114 (v2266 : BitVec 32) : BitVec 32 :=
  let c0_i32_906 : BitVec 32 := 0#32
  let v2268 : BitVec 1 := Scalar.cmpi .sgt v2266 c0_i32_906
  let v2269 : BitVec 32 := Scalar.extui v2268
  let c0_i32_907 : BitVec 32 := 0#32
  let v2270 : BitVec 1 := Scalar.cmpi .slt v2266 c0_i32_907
  let v2271 : BitVec 32 := Scalar.extui v2270
  let v2272 : BitVec 32 := Scalar.subi v2269 v2271
  let c128_i32_905 : BitVec 32 := 128#32
  let c0_i32_908 : BitVec 32 := 0#32
  let v2273 : BitVec 1 := Scalar.cmpi .sgt c128_i32_905 c0_i32_908
  let v2274 : BitVec 32 := Scalar.extui v2273
  let c0_i32_909 : BitVec 32 := 0#32
  let v2275 : BitVec 1 := Scalar.cmpi .slt c128_i32_905 c0_i32_909
  let v2276 : BitVec 32 := Scalar.extui v2275
  let v2277 : BitVec 32 := Scalar.subi v2274 v2276
  let v2278 : BitVec 1 := Scalar.cmpi .ne v2272 v2277
  let v2279 : BitVec 32 := Scalar.remsi v2266 c128_i32_905
  let c0_i32_910 : BitVec 32 := 0#32
  let v2280 : BitVec 1 := Scalar.cmpi .ne v2279 c0_i32_910
  let v2281 : BitVec 1 := Scalar.andi v2278 v2280
  let v2267 : BitVec 32 := Scalar.divsi v2266 c128_i32_905
  let c1_i32_911 : BitVec 32 := 1#32
  let v2282 : BitVec 32 := Scalar.subi v2267 c1_i32_911
  let v2283 : BitVec 32 := Scalar.select v2281 v2282 v2267
  let c128_i32_912 : BitVec 32 := 128#32
  let v2284 : BitVec 32 := Scalar.muli v2283 c128_i32_912
  v2284

def k0_mult115 (v2286 : BitVec 32) : BitVec 32 :=
  let c0_i32_914 : BitVec 32 := 0#32
  let v2288 : BitVec 1 := Scalar.cmpi .sgt v2286 c0_i32_914
  let v2289 : BitVec 32 := Scalar.extui v2288
  let c0_i32_915 : BitVec 32 := 0#32
  let v2290 : BitVec 1 := Scalar.cmpi .slt v2286 c0_i32_915
  let v2291 : BitVec 32 := Scalar.extui v2290
  let v2292 : BitVec 32 := Scalar.subi v2289 v2291
  let c128_i32_913 : BitVec 32 := 128#32
  let c0_i32_916 : BitVec 32 := 0#32
  let v2293 : BitVec 1 := Scalar.cmpi .sgt c128_i32_913 c0_i32_916
  let v2294 : BitVec 32 := Scalar.extui v2293
  let c0_i32_917 : BitVec 32 := 0#32
  let v2295 : BitVec 1 := Scalar.cmpi .slt c128_i32_913 c0_i32_917
  let v2296 : BitVec 32 := Scalar.extui v2295
  let v2297 : BitVec 32 := Scalar.subi v2294 v2296
  let v2298 : BitVec 1 := Scalar.cmpi .ne v2292 v2297
  let v2299 : BitVec 32 := Scalar.remsi v2286 c128_i32_913
  let c0_i32_918 : BitVec 32 := 0#32
  let v2300 : BitVec 1 := Scalar.cmpi .ne v2299 c0_i32_918
  let v2301 : BitVec 1 := Scalar.andi v2298 v2300
  let v2287 : BitVec 32 := Scalar.divsi v2286 c128_i32_913
  let c1_i32_919 : BitVec 32 := 1#32
  let v2302 : BitVec 32 := Scalar.subi v2287 c1_i32_919
  let v2303 : BitVec 32 := Scalar.select v2301 v2302 v2287
  let c128_i32_920 : BitVec 32 := 128#32
  let v2304 : BitVec 32 := Scalar.muli v2303 c128_i32_920
  v2304

def k0_mult116 (v2306 : BitVec 32) : BitVec 32 :=
  let c0_i32_922 : BitVec 32 := 0#32
  let v2308 : BitVec 1 := Scalar.cmpi .sgt v2306 c0_i32_922
  let v2309 : BitVec 32 := Scalar.extui v2308
  let c0_i32_923 : BitVec 32 := 0#32
  let v2310 : BitVec 1 := Scalar.cmpi .slt v2306 c0_i32_923
  let v2311 : BitVec 32 := Scalar.extui v2310
  let v2312 : BitVec 32 := Scalar.subi v2309 v2311
  let c128_i32_921 : BitVec 32 := 128#32
  let c0_i32_924 : BitVec 32 := 0#32
  let v2313 : BitVec 1 := Scalar.cmpi .sgt c128_i32_921 c0_i32_924
  let v2314 : BitVec 32 := Scalar.extui v2313
  let c0_i32_925 : BitVec 32 := 0#32
  let v2315 : BitVec 1 := Scalar.cmpi .slt c128_i32_921 c0_i32_925
  let v2316 : BitVec 32 := Scalar.extui v2315
  let v2317 : BitVec 32 := Scalar.subi v2314 v2316
  let v2318 : BitVec 1 := Scalar.cmpi .ne v2312 v2317
  let v2319 : BitVec 32 := Scalar.remsi v2306 c128_i32_921
  let c0_i32_926 : BitVec 32 := 0#32
  let v2320 : BitVec 1 := Scalar.cmpi .ne v2319 c0_i32_926
  let v2321 : BitVec 1 := Scalar.andi v2318 v2320
  let v2307 : BitVec 32 := Scalar.divsi v2306 c128_i32_921
  let c1_i32_927 : BitVec 32 := 1#32
  let v2322 : BitVec 32 := Scalar.subi v2307 c1_i32_927
  let v2323 : BitVec 32 := Scalar.select v2321 v2322 v2307
  let c128_i32_928 : BitVec 32 := 128#32
  let v2324 : BitVec 32 := Scalar.muli v2323 c128_i32_928
  v2324

def k0_mult117 (v2326 : BitVec 32) : BitVec 32 :=
  let c0_i32_930 : BitVec 32 := 0#32
  let v2328 : BitVec 1 := Scalar.cmpi .sgt v2326 c0_i32_930
  let v2329 : BitVec 32 := Scalar.extui v2328
  let c0_i32_931 : BitVec 32 := 0#32
  let v2330 : BitVec 1 := Scalar.cmpi .slt v2326 c0_i32_931
  let v2331 : BitVec 32 := Scalar.extui v2330
  let v2332 : BitVec 32 := Scalar.subi v2329 v2331
  let c128_i32_929 : BitVec 32 := 128#32
  let c0_i32_932 : BitVec 32 := 0#32
  let v2333 : BitVec 1 := Scalar.cmpi .sgt c128_i32_929 c0_i32_932
  let v2334 : BitVec 32 := Scalar.extui v2333
  let c0_i32_933 : BitVec 32 := 0#32
  let v2335 : BitVec 1 := Scalar.cmpi .slt c128_i32_929 c0_i32_933
  let v2336 : BitVec 32 := Scalar.extui v2335
  let v2337 : BitVec 32 := Scalar.subi v2334 v2336
  let v2338 : BitVec 1 := Scalar.cmpi .ne v2332 v2337
  let v2339 : BitVec 32 := Scalar.remsi v2326 c128_i32_929
  let c0_i32_934 : BitVec 32 := 0#32
  let v2340 : BitVec 1 := Scalar.cmpi .ne v2339 c0_i32_934
  let v2341 : BitVec 1 := Scalar.andi v2338 v2340
  let v2327 : BitVec 32 := Scalar.divsi v2326 c128_i32_929
  let c1_i32_935 : BitVec 32 := 1#32
  let v2342 : BitVec 32 := Scalar.subi v2327 c1_i32_935
  let v2343 : BitVec 32 := Scalar.select v2341 v2342 v2327
  let c128_i32_936 : BitVec 32 := 128#32
  let v2344 : BitVec 32 := Scalar.muli v2343 c128_i32_936
  v2344

def k0_mult118 (v2346 : BitVec 32) : BitVec 32 :=
  let c0_i32_938 : BitVec 32 := 0#32
  let v2348 : BitVec 1 := Scalar.cmpi .sgt v2346 c0_i32_938
  let v2349 : BitVec 32 := Scalar.extui v2348
  let c0_i32_939 : BitVec 32 := 0#32
  let v2350 : BitVec 1 := Scalar.cmpi .slt v2346 c0_i32_939
  let v2351 : BitVec 32 := Scalar.extui v2350
  let v2352 : BitVec 32 := Scalar.subi v2349 v2351
  let c128_i32_937 : BitVec 32 := 128#32
  let c0_i32_940 : BitVec 32 := 0#32
  let v2353 : BitVec 1 := Scalar.cmpi .sgt c128_i32_937 c0_i32_940
  let v2354 : BitVec 32 := Scalar.extui v2353
  let c0_i32_941 : BitVec 32 := 0#32
  let v2355 : BitVec 1 := Scalar.cmpi .slt c128_i32_937 c0_i32_941
  let v2356 : BitVec 32 := Scalar.extui v2355
  let v2357 : BitVec 32 := Scalar.subi v2354 v2356
  let v2358 : BitVec 1 := Scalar.cmpi .ne v2352 v2357
  let v2359 : BitVec 32 := Scalar.remsi v2346 c128_i32_937
  let c0_i32_942 : BitVec 32 := 0#32
  let v2360 : BitVec 1 := Scalar.cmpi .ne v2359 c0_i32_942
  let v2361 : BitVec 1 := Scalar.andi v2358 v2360
  let v2347 : BitVec 32 := Scalar.divsi v2346 c128_i32_937
  let c1_i32_943 : BitVec 32 := 1#32
  let v2362 : BitVec 32 := Scalar.subi v2347 c1_i32_943
  let v2363 : BitVec 32 := Scalar.select v2361 v2362 v2347
  let c128_i32_944 : BitVec 32 := 128#32
  let v2364 : BitVec 32 := Scalar.muli v2363 c128_i32_944
  v2364

def k0_mult119 (v2366 : BitVec 32) : BitVec 32 :=
  let c0_i32_946 : BitVec 32 := 0#32
  let v2368 : BitVec 1 := Scalar.cmpi .sgt v2366 c0_i32_946
  let v2369 : BitVec 32 := Scalar.extui v2368
  let c0_i32_947 : BitVec 32 := 0#32
  let v2370 : BitVec 1 := Scalar.cmpi .slt v2366 c0_i32_947
  let v2371 : BitVec 32 := Scalar.extui v2370
  let v2372 : BitVec 32 := Scalar.subi v2369 v2371
  let c128_i32_945 : BitVec 32 := 128#32
  let c0_i32_948 : BitVec 32 := 0#32
  let v2373 : BitVec 1 := Scalar.cmpi .sgt c128_i32_945 c0_i32_948
  let v2374 : BitVec 32 := Scalar.extui v2373
  let c0_i32_949 : BitVec 32 := 0#32
  let v2375 : BitVec 1 := Scalar.cmpi .slt c128_i32_945 c0_i32_949
  let v2376 : BitVec 32 := Scalar.extui v2375
  let v2377 : BitVec 32 := Scalar.subi v2374 v2376
  let v2378 : BitVec 1 := Scalar.cmpi .ne v2372 v2377
  let v2379 : BitVec 32 := Scalar.remsi v2366 c128_i32_945
  let c0_i32_950 : BitVec 32 := 0#32
  let v2380 : BitVec 1 := Scalar.cmpi .ne v2379 c0_i32_950
  let v2381 : BitVec 1 := Scalar.andi v2378 v2380
  let v2367 : BitVec 32 := Scalar.divsi v2366 c128_i32_945
  let c1_i32_951 : BitVec 32 := 1#32
  let v2382 : BitVec 32 := Scalar.subi v2367 c1_i32_951
  let v2383 : BitVec 32 := Scalar.select v2381 v2382 v2367
  let c128_i32_952 : BitVec 32 := 128#32
  let v2384 : BitVec 32 := Scalar.muli v2383 c128_i32_952
  v2384

def k0_mult120 (v2386 : BitVec 32) : BitVec 32 :=
  let c0_i32_954 : BitVec 32 := 0#32
  let v2388 : BitVec 1 := Scalar.cmpi .sgt v2386 c0_i32_954
  let v2389 : BitVec 32 := Scalar.extui v2388
  let c0_i32_955 : BitVec 32 := 0#32
  let v2390 : BitVec 1 := Scalar.cmpi .slt v2386 c0_i32_955
  let v2391 : BitVec 32 := Scalar.extui v2390
  let v2392 : BitVec 32 := Scalar.subi v2389 v2391
  let c128_i32_953 : BitVec 32 := 128#32
  let c0_i32_956 : BitVec 32 := 0#32
  let v2393 : BitVec 1 := Scalar.cmpi .sgt c128_i32_953 c0_i32_956
  let v2394 : BitVec 32 := Scalar.extui v2393
  let c0_i32_957 : BitVec 32 := 0#32
  let v2395 : BitVec 1 := Scalar.cmpi .slt c128_i32_953 c0_i32_957
  let v2396 : BitVec 32 := Scalar.extui v2395
  let v2397 : BitVec 32 := Scalar.subi v2394 v2396
  let v2398 : BitVec 1 := Scalar.cmpi .ne v2392 v2397
  let v2399 : BitVec 32 := Scalar.remsi v2386 c128_i32_953
  let c0_i32_958 : BitVec 32 := 0#32
  let v2400 : BitVec 1 := Scalar.cmpi .ne v2399 c0_i32_958
  let v2401 : BitVec 1 := Scalar.andi v2398 v2400
  let v2387 : BitVec 32 := Scalar.divsi v2386 c128_i32_953
  let c1_i32_959 : BitVec 32 := 1#32
  let v2402 : BitVec 32 := Scalar.subi v2387 c1_i32_959
  let v2403 : BitVec 32 := Scalar.select v2401 v2402 v2387
  let c128_i32_960 : BitVec 32 := 128#32
  let v2404 : BitVec 32 := Scalar.muli v2403 c128_i32_960
  v2404

def k0_mult121 (v2406 : BitVec 32) : BitVec 32 :=
  let c0_i32_962 : BitVec 32 := 0#32
  let v2408 : BitVec 1 := Scalar.cmpi .sgt v2406 c0_i32_962
  let v2409 : BitVec 32 := Scalar.extui v2408
  let c0_i32_963 : BitVec 32 := 0#32
  let v2410 : BitVec 1 := Scalar.cmpi .slt v2406 c0_i32_963
  let v2411 : BitVec 32 := Scalar.extui v2410
  let v2412 : BitVec 32 := Scalar.subi v2409 v2411
  let c128_i32_961 : BitVec 32 := 128#32
  let c0_i32_964 : BitVec 32 := 0#32
  let v2413 : BitVec 1 := Scalar.cmpi .sgt c128_i32_961 c0_i32_964
  let v2414 : BitVec 32 := Scalar.extui v2413
  let c0_i32_965 : BitVec 32 := 0#32
  let v2415 : BitVec 1 := Scalar.cmpi .slt c128_i32_961 c0_i32_965
  let v2416 : BitVec 32 := Scalar.extui v2415
  let v2417 : BitVec 32 := Scalar.subi v2414 v2416
  let v2418 : BitVec 1 := Scalar.cmpi .ne v2412 v2417
  let v2419 : BitVec 32 := Scalar.remsi v2406 c128_i32_961
  let c0_i32_966 : BitVec 32 := 0#32
  let v2420 : BitVec 1 := Scalar.cmpi .ne v2419 c0_i32_966
  let v2421 : BitVec 1 := Scalar.andi v2418 v2420
  let v2407 : BitVec 32 := Scalar.divsi v2406 c128_i32_961
  let c1_i32_967 : BitVec 32 := 1#32
  let v2422 : BitVec 32 := Scalar.subi v2407 c1_i32_967
  let v2423 : BitVec 32 := Scalar.select v2421 v2422 v2407
  let c128_i32_968 : BitVec 32 := 128#32
  let v2424 : BitVec 32 := Scalar.muli v2423 c128_i32_968
  v2424

def k0_mult122 (v2426 : BitVec 32) : BitVec 32 :=
  let c0_i32_970 : BitVec 32 := 0#32
  let v2428 : BitVec 1 := Scalar.cmpi .sgt v2426 c0_i32_970
  let v2429 : BitVec 32 := Scalar.extui v2428
  let c0_i32_971 : BitVec 32 := 0#32
  let v2430 : BitVec 1 := Scalar.cmpi .slt v2426 c0_i32_971
  let v2431 : BitVec 32 := Scalar.extui v2430
  let v2432 : BitVec 32 := Scalar.subi v2429 v2431
  let c128_i32_969 : BitVec 32 := 128#32
  let c0_i32_972 : BitVec 32 := 0#32
  let v2433 : BitVec 1 := Scalar.cmpi .sgt c128_i32_969 c0_i32_972
  let v2434 : BitVec 32 := Scalar.extui v2433
  let c0_i32_973 : BitVec 32 := 0#32
  let v2435 : BitVec 1 := Scalar.cmpi .slt c128_i32_969 c0_i32_973
  let v2436 : BitVec 32 := Scalar.extui v2435
  let v2437 : BitVec 32 := Scalar.subi v2434 v2436
  let v2438 : BitVec 1 := Scalar.cmpi .ne v2432 v2437
  let v2439 : BitVec 32 := Scalar.remsi v2426 c128_i32_969
  let c0_i32_974 : BitVec 32 := 0#32
  let v2440 : BitVec 1 := Scalar.cmpi .ne v2439 c0_i32_974
  let v2441 : BitVec 1 := Scalar.andi v2438 v2440
  let v2427 : BitVec 32 := Scalar.divsi v2426 c128_i32_969
  let c1_i32_975 : BitVec 32 := 1#32
  let v2442 : BitVec 32 := Scalar.subi v2427 c1_i32_975
  let v2443 : BitVec 32 := Scalar.select v2441 v2442 v2427
  let c128_i32_976 : BitVec 32 := 128#32
  let v2444 : BitVec 32 := Scalar.muli v2443 c128_i32_976
  v2444

def k0_mult123 (v2446 : BitVec 32) : BitVec 32 :=
  let c0_i32_978 : BitVec 32 := 0#32
  let v2448 : BitVec 1 := Scalar.cmpi .sgt v2446 c0_i32_978
  let v2449 : BitVec 32 := Scalar.extui v2448
  let c0_i32_979 : BitVec 32 := 0#32
  let v2450 : BitVec 1 := Scalar.cmpi .slt v2446 c0_i32_979
  let v2451 : BitVec 32 := Scalar.extui v2450
  let v2452 : BitVec 32 := Scalar.subi v2449 v2451
  let c128_i32_977 : BitVec 32 := 128#32
  let c0_i32_980 : BitVec 32 := 0#32
  let v2453 : BitVec 1 := Scalar.cmpi .sgt c128_i32_977 c0_i32_980
  let v2454 : BitVec 32 := Scalar.extui v2453
  let c0_i32_981 : BitVec 32 := 0#32
  let v2455 : BitVec 1 := Scalar.cmpi .slt c128_i32_977 c0_i32_981
  let v2456 : BitVec 32 := Scalar.extui v2455
  let v2457 : BitVec 32 := Scalar.subi v2454 v2456
  let v2458 : BitVec 1 := Scalar.cmpi .ne v2452 v2457
  let v2459 : BitVec 32 := Scalar.remsi v2446 c128_i32_977
  let c0_i32_982 : BitVec 32 := 0#32
  let v2460 : BitVec 1 := Scalar.cmpi .ne v2459 c0_i32_982
  let v2461 : BitVec 1 := Scalar.andi v2458 v2460
  let v2447 : BitVec 32 := Scalar.divsi v2446 c128_i32_977
  let c1_i32_983 : BitVec 32 := 1#32
  let v2462 : BitVec 32 := Scalar.subi v2447 c1_i32_983
  let v2463 : BitVec 32 := Scalar.select v2461 v2462 v2447
  let c128_i32_984 : BitVec 32 := 128#32
  let v2464 : BitVec 32 := Scalar.muli v2463 c128_i32_984
  v2464

def k0_mult124 (v2466 : BitVec 32) : BitVec 32 :=
  let c0_i32_986 : BitVec 32 := 0#32
  let v2468 : BitVec 1 := Scalar.cmpi .sgt v2466 c0_i32_986
  let v2469 : BitVec 32 := Scalar.extui v2468
  let c0_i32_987 : BitVec 32 := 0#32
  let v2470 : BitVec 1 := Scalar.cmpi .slt v2466 c0_i32_987
  let v2471 : BitVec 32 := Scalar.extui v2470
  let v2472 : BitVec 32 := Scalar.subi v2469 v2471
  let c128_i32_985 : BitVec 32 := 128#32
  let c0_i32_988 : BitVec 32 := 0#32
  let v2473 : BitVec 1 := Scalar.cmpi .sgt c128_i32_985 c0_i32_988
  let v2474 : BitVec 32 := Scalar.extui v2473
  let c0_i32_989 : BitVec 32 := 0#32
  let v2475 : BitVec 1 := Scalar.cmpi .slt c128_i32_985 c0_i32_989
  let v2476 : BitVec 32 := Scalar.extui v2475
  let v2477 : BitVec 32 := Scalar.subi v2474 v2476
  let v2478 : BitVec 1 := Scalar.cmpi .ne v2472 v2477
  let v2479 : BitVec 32 := Scalar.remsi v2466 c128_i32_985
  let c0_i32_990 : BitVec 32 := 0#32
  let v2480 : BitVec 1 := Scalar.cmpi .ne v2479 c0_i32_990
  let v2481 : BitVec 1 := Scalar.andi v2478 v2480
  let v2467 : BitVec 32 := Scalar.divsi v2466 c128_i32_985
  let c1_i32_991 : BitVec 32 := 1#32
  let v2482 : BitVec 32 := Scalar.subi v2467 c1_i32_991
  let v2483 : BitVec 32 := Scalar.select v2481 v2482 v2467
  let c128_i32_992 : BitVec 32 := 128#32
  let v2484 : BitVec 32 := Scalar.muli v2483 c128_i32_992
  v2484

def k0_mult125 (v2486 : BitVec 32) : BitVec 32 :=
  let c0_i32_994 : BitVec 32 := 0#32
  let v2488 : BitVec 1 := Scalar.cmpi .sgt v2486 c0_i32_994
  let v2489 : BitVec 32 := Scalar.extui v2488
  let c0_i32_995 : BitVec 32 := 0#32
  let v2490 : BitVec 1 := Scalar.cmpi .slt v2486 c0_i32_995
  let v2491 : BitVec 32 := Scalar.extui v2490
  let v2492 : BitVec 32 := Scalar.subi v2489 v2491
  let c128_i32_993 : BitVec 32 := 128#32
  let c0_i32_996 : BitVec 32 := 0#32
  let v2493 : BitVec 1 := Scalar.cmpi .sgt c128_i32_993 c0_i32_996
  let v2494 : BitVec 32 := Scalar.extui v2493
  let c0_i32_997 : BitVec 32 := 0#32
  let v2495 : BitVec 1 := Scalar.cmpi .slt c128_i32_993 c0_i32_997
  let v2496 : BitVec 32 := Scalar.extui v2495
  let v2497 : BitVec 32 := Scalar.subi v2494 v2496
  let v2498 : BitVec 1 := Scalar.cmpi .ne v2492 v2497
  let v2499 : BitVec 32 := Scalar.remsi v2486 c128_i32_993
  let c0_i32_998 : BitVec 32 := 0#32
  let v2500 : BitVec 1 := Scalar.cmpi .ne v2499 c0_i32_998
  let v2501 : BitVec 1 := Scalar.andi v2498 v2500
  let v2487 : BitVec 32 := Scalar.divsi v2486 c128_i32_993
  let c1_i32_999 : BitVec 32 := 1#32
  let v2502 : BitVec 32 := Scalar.subi v2487 c1_i32_999
  let v2503 : BitVec 32 := Scalar.select v2501 v2502 v2487
  let c128_i32_1000 : BitVec 32 := 128#32
  let v2504 : BitVec 32 := Scalar.muli v2503 c128_i32_1000
  v2504

def k0_mult126 (v2506 : BitVec 32) : BitVec 32 :=
  let c0_i32_1002 : BitVec 32 := 0#32
  let v2508 : BitVec 1 := Scalar.cmpi .sgt v2506 c0_i32_1002
  let v2509 : BitVec 32 := Scalar.extui v2508
  let c0_i32_1003 : BitVec 32 := 0#32
  let v2510 : BitVec 1 := Scalar.cmpi .slt v2506 c0_i32_1003
  let v2511 : BitVec 32 := Scalar.extui v2510
  let v2512 : BitVec 32 := Scalar.subi v2509 v2511
  let c128_i32_1001 : BitVec 32 := 128#32
  let c0_i32_1004 : BitVec 32 := 0#32
  let v2513 : BitVec 1 := Scalar.cmpi .sgt c128_i32_1001 c0_i32_1004
  let v2514 : BitVec 32 := Scalar.extui v2513
  let c0_i32_1005 : BitVec 32 := 0#32
  let v2515 : BitVec 1 := Scalar.cmpi .slt c128_i32_1001 c0_i32_1005
  let v2516 : BitVec 32 := Scalar.extui v2515
  let v2517 : BitVec 32 := Scalar.subi v2514 v2516
  let v2518 : BitVec 1 := Scalar.cmpi .ne v2512 v2517
  let v2519 : BitVec 32 := Scalar.remsi v2506 c128_i32_1001
  let c0_i32_1006 : BitVec 32 := 0#32
  let v2520 : BitVec 1 := Scalar.cmpi .ne v2519 c0_i32_1006
  let v2521 : BitVec 1 := Scalar.andi v2518 v2520
  let v2507 : BitVec 32 := Scalar.divsi v2506 c128_i32_1001
  let c1_i32_1007 : BitVec 32 := 1#32
  let v2522 : BitVec 32 := Scalar.subi v2507 c1_i32_1007
  let v2523 : BitVec 32 := Scalar.select v2521 v2522 v2507
  let c128_i32_1008 : BitVec 32 := 128#32
  let v2524 : BitVec 32 := Scalar.muli v2523 c128_i32_1008
  v2524

def k0_mult127 (v2526 : BitVec 32) : BitVec 32 :=
  let c0_i32_1010 : BitVec 32 := 0#32
  let v2528 : BitVec 1 := Scalar.cmpi .sgt v2526 c0_i32_1010
  let v2529 : BitVec 32 := Scalar.extui v2528
  let c0_i32_1011 : BitVec 32 := 0#32
  let v2530 : BitVec 1 := Scalar.cmpi .slt v2526 c0_i32_1011
  let v2531 : BitVec 32 := Scalar.extui v2530
  let v2532 : BitVec 32 := Scalar.subi v2529 v2531
  let c128_i32_1009 : BitVec 32 := 128#32
  let c0_i32_1012 : BitVec 32 := 0#32
  let v2533 : BitVec 1 := Scalar.cmpi .sgt c128_i32_1009 c0_i32_1012
  let v2534 : BitVec 32 := Scalar.extui v2533
  let c0_i32_1013 : BitVec 32 := 0#32
  let v2535 : BitVec 1 := Scalar.cmpi .slt c128_i32_1009 c0_i32_1013
  let v2536 : BitVec 32 := Scalar.extui v2535
  let v2537 : BitVec 32 := Scalar.subi v2534 v2536
  let v2538 : BitVec 1 := Scalar.cmpi .ne v2532 v2537
  let v2539 : BitVec 32 := Scalar.remsi v2526 c128_i32_1009
  let c0_i32_1014 : BitVec 32 := 0#32
  let v2540 : BitVec 1 := Scalar.cmpi .ne v2539 c0_i32_1014
  let v2541 : BitVec 1 := Scalar.andi v2538 v2540
  let v2527 : BitVec 32 := Scalar.divsi v2526 c128_i32_1009
  let c1_i32_1015 : BitVec 32 := 1#32
  let v2542 : BitVec 32 := Scalar.subi v2527 c1_i32_1015
  let v2543 : BitVec 32 := Scalar.select v2541 v2542 v2527
  let c128_i32_1016 : BitVec 32 := 128#32
  let v2544 : BitVec 32 := Scalar.muli v2543 c128_i32_1016
  v2544

def k0_mult128 (v2546 : BitVec 32) : BitVec 32 :=
  let c0_i32_1018 : BitVec 32 := 0#32
  let v2548 : BitVec 1 := Scalar.cmpi .sgt v2546 c0_i32_1018
  let v2549 : BitVec 32 := Scalar.extui v2548
  let c0_i32_1019 : BitVec 32 := 0#32
  let v2550 : BitVec 1 := Scalar.cmpi .slt v2546 c0_i32_1019
  let v2551 : BitVec 32 := Scalar.extui v2550
  let v2552 : BitVec 32 := Scalar.subi v2549 v2551
  let c128_i32_1017 : BitVec 32 := 128#32
  let c0_i32_1020 : BitVec 32 := 0#32
  let v2553 : BitVec 1 := Scalar.cmpi .sgt c128_i32_1017 c0_i32_1020
  let v2554 : BitVec 32 := Scalar.extui v2553
  let c0_i32_1021 : BitVec 32 := 0#32
  let v2555 : BitVec 1 := Scalar.cmpi .slt c128_i32_1017 c0_i32_1021
  let v2556 : BitVec 32 := Scalar.extui v2555
  let v2557 : BitVec 32 := Scalar.subi v2554 v2556
  let v2558 : BitVec 1 := Scalar.cmpi .ne v2552 v2557
  let v2559 : BitVec 32 := Scalar.remsi v2546 c128_i32_1017
  let c0_i32_1022 : BitVec 32 := 0#32
  let v2560 : BitVec 1 := Scalar.cmpi .ne v2559 c0_i32_1022
  let v2561 : BitVec 1 := Scalar.andi v2558 v2560
  let v2547 : BitVec 32 := Scalar.divsi v2546 c128_i32_1017
  let c1_i32_1023 : BitVec 32 := 1#32
  let v2562 : BitVec 32 := Scalar.subi v2547 c1_i32_1023
  let v2563 : BitVec 32 := Scalar.select v2561 v2562 v2547
  let c128_i32_1024 : BitVec 32 := 128#32
  let v2564 : BitVec 32 := Scalar.muli v2563 c128_i32_1024
  v2564

def k0_mult129 (v2566 : BitVec 32) : BitVec 32 :=
  let c0_i32_1026 : BitVec 32 := 0#32
  let v2568 : BitVec 1 := Scalar.cmpi .sgt v2566 c0_i32_1026
  let v2569 : BitVec 32 := Scalar.extui v2568
  let c0_i32_1027 : BitVec 32 := 0#32
  let v2570 : BitVec 1 := Scalar.cmpi .slt v2566 c0_i32_1027
  let v2571 : BitVec 32 := Scalar.extui v2570
  let v2572 : BitVec 32 := Scalar.subi v2569 v2571
  let c128_i32_1025 : BitVec 32 := 128#32
  let c0_i32_1028 : BitVec 32 := 0#32
  let v2573 : BitVec 1 := Scalar.cmpi .sgt c128_i32_1025 c0_i32_1028
  let v2574 : BitVec 32 := Scalar.extui v2573
  let c0_i32_1029 : BitVec 32 := 0#32
  let v2575 : BitVec 1 := Scalar.cmpi .slt c128_i32_1025 c0_i32_1029
  let v2576 : BitVec 32 := Scalar.extui v2575
  let v2577 : BitVec 32 := Scalar.subi v2574 v2576
  let v2578 : BitVec 1 := Scalar.cmpi .ne v2572 v2577
  let v2579 : BitVec 32 := Scalar.remsi v2566 c128_i32_1025
  let c0_i32_1030 : BitVec 32 := 0#32
  let v2580 : BitVec 1 := Scalar.cmpi .ne v2579 c0_i32_1030
  let v2581 : BitVec 1 := Scalar.andi v2578 v2580
  let v2567 : BitVec 32 := Scalar.divsi v2566 c128_i32_1025
  let c1_i32_1031 : BitVec 32 := 1#32
  let v2582 : BitVec 32 := Scalar.subi v2567 c1_i32_1031
  let v2583 : BitVec 32 := Scalar.select v2581 v2582 v2567
  let c128_i32_1032 : BitVec 32 := 128#32
  let v2584 : BitVec 32 := Scalar.muli v2583 c128_i32_1032
  v2584

def k0_mult130 (v2586 : BitVec 32) : BitVec 32 :=
  let c0_i32_1034 : BitVec 32 := 0#32
  let v2588 : BitVec 1 := Scalar.cmpi .sgt v2586 c0_i32_1034
  let v2589 : BitVec 32 := Scalar.extui v2588
  let c0_i32_1035 : BitVec 32 := 0#32
  let v2590 : BitVec 1 := Scalar.cmpi .slt v2586 c0_i32_1035
  let v2591 : BitVec 32 := Scalar.extui v2590
  let v2592 : BitVec 32 := Scalar.subi v2589 v2591
  let c128_i32_1033 : BitVec 32 := 128#32
  let c0_i32_1036 : BitVec 32 := 0#32
  let v2593 : BitVec 1 := Scalar.cmpi .sgt c128_i32_1033 c0_i32_1036
  let v2594 : BitVec 32 := Scalar.extui v2593
  let c0_i32_1037 : BitVec 32 := 0#32
  let v2595 : BitVec 1 := Scalar.cmpi .slt c128_i32_1033 c0_i32_1037
  let v2596 : BitVec 32 := Scalar.extui v2595
  let v2597 : BitVec 32 := Scalar.subi v2594 v2596
  let v2598 : BitVec 1 := Scalar.cmpi .ne v2592 v2597
  let v2599 : BitVec 32 := Scalar.remsi v2586 c128_i32_1033
  let c0_i32_1038 : BitVec 32 := 0#32
  let v2600 : BitVec 1 := Scalar.cmpi .ne v2599 c0_i32_1038
  let v2601 : BitVec 1 := Scalar.andi v2598 v2600
  let v2587 : BitVec 32 := Scalar.divsi v2586 c128_i32_1033
  let c1_i32_1039 : BitVec 32 := 1#32
  let v2602 : BitVec 32 := Scalar.subi v2587 c1_i32_1039
  let v2603 : BitVec 32 := Scalar.select v2601 v2602 v2587
  let c128_i32_1040 : BitVec 32 := 128#32
  let v2604 : BitVec 32 := Scalar.muli v2603 c128_i32_1040
  v2604

def k0_mult131 (v2606 : BitVec 32) : BitVec 32 :=
  let c0_i32_1042 : BitVec 32 := 0#32
  let v2608 : BitVec 1 := Scalar.cmpi .sgt v2606 c0_i32_1042
  let v2609 : BitVec 32 := Scalar.extui v2608
  let c0_i32_1043 : BitVec 32 := 0#32
  let v2610 : BitVec 1 := Scalar.cmpi .slt v2606 c0_i32_1043
  let v2611 : BitVec 32 := Scalar.extui v2610
  let v2612 : BitVec 32 := Scalar.subi v2609 v2611
  let c128_i32_1041 : BitVec 32 := 128#32
  let c0_i32_1044 : BitVec 32 := 0#32
  let v2613 : BitVec 1 := Scalar.cmpi .sgt c128_i32_1041 c0_i32_1044
  let v2614 : BitVec 32 := Scalar.extui v2613
  let c0_i32_1045 : BitVec 32 := 0#32
  let v2615 : BitVec 1 := Scalar.cmpi .slt c128_i32_1041 c0_i32_1045
  let v2616 : BitVec 32 := Scalar.extui v2615
  let v2617 : BitVec 32 := Scalar.subi v2614 v2616
  let v2618 : BitVec 1 := Scalar.cmpi .ne v2612 v2617
  let v2619 : BitVec 32 := Scalar.remsi v2606 c128_i32_1041
  let c0_i32_1046 : BitVec 32 := 0#32
  let v2620 : BitVec 1 := Scalar.cmpi .ne v2619 c0_i32_1046
  let v2621 : BitVec 1 := Scalar.andi v2618 v2620
  let v2607 : BitVec 32 := Scalar.divsi v2606 c128_i32_1041
  let c1_i32_1047 : BitVec 32 := 1#32
  let v2622 : BitVec 32 := Scalar.subi v2607 c1_i32_1047
  let v2623 : BitVec 32 := Scalar.select v2621 v2622 v2607
  let c128_i32_1048 : BitVec 32 := 128#32
  let v2624 : BitVec 32 := Scalar.muli v2623 c128_i32_1048
  v2624

def k0_mult132 (v2626 : BitVec 32) : BitVec 32 :=
  let c0_i32_1050 : BitVec 32 := 0#32
  let v2628 : BitVec 1 := Scalar.cmpi .sgt v2626 c0_i32_1050
  let v2629 : BitVec 32 := Scalar.extui v2628
  let c0_i32_1051 : BitVec 32 := 0#32
  let v2630 : BitVec 1 := Scalar.cmpi .slt v2626 c0_i32_1051
  let v2631 : BitVec 32 := Scalar.extui v2630
  let v2632 : BitVec 32 := Scalar.subi v2629 v2631
  let c128_i32_1049 : BitVec 32 := 128#32
  let c0_i32_1052 : BitVec 32 := 0#32
  let v2633 : BitVec 1 := Scalar.cmpi .sgt c128_i32_1049 c0_i32_1052
  let v2634 : BitVec 32 := Scalar.extui v2633
  let c0_i32_1053 : BitVec 32 := 0#32
  let v2635 : BitVec 1 := Scalar.cmpi .slt c128_i32_1049 c0_i32_1053
  let v2636 : BitVec 32 := Scalar.extui v2635
  let v2637 : BitVec 32 := Scalar.subi v2634 v2636
  let v2638 : BitVec 1 := Scalar.cmpi .ne v2632 v2637
  let v2639 : BitVec 32 := Scalar.remsi v2626 c128_i32_1049
  let c0_i32_1054 : BitVec 32 := 0#32
  let v2640 : BitVec 1 := Scalar.cmpi .ne v2639 c0_i32_1054
  let v2641 : BitVec 1 := Scalar.andi v2638 v2640
  let v2627 : BitVec 32 := Scalar.divsi v2626 c128_i32_1049
  let c1_i32_1055 : BitVec 32 := 1#32
  let v2642 : BitVec 32 := Scalar.subi v2627 c1_i32_1055
  let v2643 : BitVec 32 := Scalar.select v2641 v2642 v2627
  let c128_i32_1056 : BitVec 32 := 128#32
  let v2644 : BitVec 32 := Scalar.muli v2643 c128_i32_1056
  v2644

def k0_mult133 (v2646 : BitVec 32) : BitVec 32 :=
  let c0_i32_1058 : BitVec 32 := 0#32
  let v2648 : BitVec 1 := Scalar.cmpi .sgt v2646 c0_i32_1058
  let v2649 : BitVec 32 := Scalar.extui v2648
  let c0_i32_1059 : BitVec 32 := 0#32
  let v2650 : BitVec 1 := Scalar.cmpi .slt v2646 c0_i32_1059
  let v2651 : BitVec 32 := Scalar.extui v2650
  let v2652 : BitVec 32 := Scalar.subi v2649 v2651
  let c128_i32_1057 : BitVec 32 := 128#32
  let c0_i32_1060 : BitVec 32 := 0#32
  let v2653 : BitVec 1 := Scalar.cmpi .sgt c128_i32_1057 c0_i32_1060
  let v2654 : BitVec 32 := Scalar.extui v2653
  let c0_i32_1061 : BitVec 32 := 0#32
  let v2655 : BitVec 1 := Scalar.cmpi .slt c128_i32_1057 c0_i32_1061
  let v2656 : BitVec 32 := Scalar.extui v2655
  let v2657 : BitVec 32 := Scalar.subi v2654 v2656
  let v2658 : BitVec 1 := Scalar.cmpi .ne v2652 v2657
  let v2659 : BitVec 32 := Scalar.remsi v2646 c128_i32_1057
  let c0_i32_1062 : BitVec 32 := 0#32
  let v2660 : BitVec 1 := Scalar.cmpi .ne v2659 c0_i32_1062
  let v2661 : BitVec 1 := Scalar.andi v2658 v2660
  let v2647 : BitVec 32 := Scalar.divsi v2646 c128_i32_1057
  let c1_i32_1063 : BitVec 32 := 1#32
  let v2662 : BitVec 32 := Scalar.subi v2647 c1_i32_1063
  let v2663 : BitVec 32 := Scalar.select v2661 v2662 v2647
  let c128_i32_1064 : BitVec 32 := 128#32
  let v2664 : BitVec 32 := Scalar.muli v2663 c128_i32_1064
  v2664

def k0_mult134 (v2666 : BitVec 32) : BitVec 32 :=
  let c0_i32_1066 : BitVec 32 := 0#32
  let v2668 : BitVec 1 := Scalar.cmpi .sgt v2666 c0_i32_1066
  let v2669 : BitVec 32 := Scalar.extui v2668
  let c0_i32_1067 : BitVec 32 := 0#32
  let v2670 : BitVec 1 := Scalar.cmpi .slt v2666 c0_i32_1067
  let v2671 : BitVec 32 := Scalar.extui v2670
  let v2672 : BitVec 32 := Scalar.subi v2669 v2671
  let c128_i32_1065 : BitVec 32 := 128#32
  let c0_i32_1068 : BitVec 32 := 0#32
  let v2673 : BitVec 1 := Scalar.cmpi .sgt c128_i32_1065 c0_i32_1068
  let v2674 : BitVec 32 := Scalar.extui v2673
  let c0_i32_1069 : BitVec 32 := 0#32
  let v2675 : BitVec 1 := Scalar.cmpi .slt c128_i32_1065 c0_i32_1069
  let v2676 : BitVec 32 := Scalar.extui v2675
  let v2677 : BitVec 32 := Scalar.subi v2674 v2676
  let v2678 : BitVec 1 := Scalar.cmpi .ne v2672 v2677
  let v2679 : BitVec 32 := Scalar.remsi v2666 c128_i32_1065
  let c0_i32_1070 : BitVec 32 := 0#32
  let v2680 : BitVec 1 := Scalar.cmpi .ne v2679 c0_i32_1070
  let v2681 : BitVec 1 := Scalar.andi v2678 v2680
  let v2667 : BitVec 32 := Scalar.divsi v2666 c128_i32_1065
  let c1_i32_1071 : BitVec 32 := 1#32
  let v2682 : BitVec 32 := Scalar.subi v2667 c1_i32_1071
  let v2683 : BitVec 32 := Scalar.select v2681 v2682 v2667
  let c128_i32_1072 : BitVec 32 := 128#32
  let v2684 : BitVec 32 := Scalar.muli v2683 c128_i32_1072
  v2684

def k0_mult135 (v2686 : BitVec 32) : BitVec 32 :=
  let c0_i32_1074 : BitVec 32 := 0#32
  let v2688 : BitVec 1 := Scalar.cmpi .sgt v2686 c0_i32_1074
  let v2689 : BitVec 32 := Scalar.extui v2688
  let c0_i32_1075 : BitVec 32 := 0#32
  let v2690 : BitVec 1 := Scalar.cmpi .slt v2686 c0_i32_1075
  let v2691 : BitVec 32 := Scalar.extui v2690
  let v2692 : BitVec 32 := Scalar.subi v2689 v2691
  let c128_i32_1073 : BitVec 32 := 128#32
  let c0_i32_1076 : BitVec 32 := 0#32
  let v2693 : BitVec 1 := Scalar.cmpi .sgt c128_i32_1073 c0_i32_1076
  let v2694 : BitVec 32 := Scalar.extui v2693
  let c0_i32_1077 : BitVec 32 := 0#32
  let v2695 : BitVec 1 := Scalar.cmpi .slt c128_i32_1073 c0_i32_1077
  let v2696 : BitVec 32 := Scalar.extui v2695
  let v2697 : BitVec 32 := Scalar.subi v2694 v2696
  let v2698 : BitVec 1 := Scalar.cmpi .ne v2692 v2697
  let v2699 : BitVec 32 := Scalar.remsi v2686 c128_i32_1073
  let c0_i32_1078 : BitVec 32 := 0#32
  let v2700 : BitVec 1 := Scalar.cmpi .ne v2699 c0_i32_1078
  let v2701 : BitVec 1 := Scalar.andi v2698 v2700
  let v2687 : BitVec 32 := Scalar.divsi v2686 c128_i32_1073
  let c1_i32_1079 : BitVec 32 := 1#32
  let v2702 : BitVec 32 := Scalar.subi v2687 c1_i32_1079
  let v2703 : BitVec 32 := Scalar.select v2701 v2702 v2687
  let c128_i32_1080 : BitVec 32 := 128#32
  let v2704 : BitVec 32 := Scalar.muli v2703 c128_i32_1080
  v2704

def k0_mult136 (v2706 : BitVec 32) : BitVec 32 :=
  let c0_i32_1082 : BitVec 32 := 0#32
  let v2708 : BitVec 1 := Scalar.cmpi .sgt v2706 c0_i32_1082
  let v2709 : BitVec 32 := Scalar.extui v2708
  let c0_i32_1083 : BitVec 32 := 0#32
  let v2710 : BitVec 1 := Scalar.cmpi .slt v2706 c0_i32_1083
  let v2711 : BitVec 32 := Scalar.extui v2710
  let v2712 : BitVec 32 := Scalar.subi v2709 v2711
  let c128_i32_1081 : BitVec 32 := 128#32
  let c0_i32_1084 : BitVec 32 := 0#32
  let v2713 : BitVec 1 := Scalar.cmpi .sgt c128_i32_1081 c0_i32_1084
  let v2714 : BitVec 32 := Scalar.extui v2713
  let c0_i32_1085 : BitVec 32 := 0#32
  let v2715 : BitVec 1 := Scalar.cmpi .slt c128_i32_1081 c0_i32_1085
  let v2716 : BitVec 32 := Scalar.extui v2715
  let v2717 : BitVec 32 := Scalar.subi v2714 v2716
  let v2718 : BitVec 1 := Scalar.cmpi .ne v2712 v2717
  let v2719 : BitVec 32 := Scalar.remsi v2706 c128_i32_1081
  let c0_i32_1086 : BitVec 32 := 0#32
  let v2720 : BitVec 1 := Scalar.cmpi .ne v2719 c0_i32_1086
  let v2721 : BitVec 1 := Scalar.andi v2718 v2720
  let v2707 : BitVec 32 := Scalar.divsi v2706 c128_i32_1081
  let c1_i32_1087 : BitVec 32 := 1#32
  let v2722 : BitVec 32 := Scalar.subi v2707 c1_i32_1087
  let v2723 : BitVec 32 := Scalar.select v2721 v2722 v2707
  let c128_i32_1088 : BitVec 32 := 128#32
  let v2724 : BitVec 32 := Scalar.muli v2723 c128_i32_1088
  v2724

def k0_mult137 (v2726 : BitVec 32) : BitVec 32 :=
  let c0_i32_1090 : BitVec 32 := 0#32
  let v2728 : BitVec 1 := Scalar.cmpi .sgt v2726 c0_i32_1090
  let v2729 : BitVec 32 := Scalar.extui v2728
  let c0_i32_1091 : BitVec 32 := 0#32
  let v2730 : BitVec 1 := Scalar.cmpi .slt v2726 c0_i32_1091
  let v2731 : BitVec 32 := Scalar.extui v2730
  let v2732 : BitVec 32 := Scalar.subi v2729 v2731
  let c128_i32_1089 : BitVec 32 := 128#32
  let c0_i32_1092 : BitVec 32 := 0#32
  let v2733 : BitVec 1 := Scalar.cmpi .sgt c128_i32_1089 c0_i32_1092
  let v2734 : BitVec 32 := Scalar.extui v2733
  let c0_i32_1093 : BitVec 32 := 0#32
  let v2735 : BitVec 1 := Scalar.cmpi .slt c128_i32_1089 c0_i32_1093
  let v2736 : BitVec 32 := Scalar.extui v2735
  let v2737 : BitVec 32 := Scalar.subi v2734 v2736
  let v2738 : BitVec 1 := Scalar.cmpi .ne v2732 v2737
  let v2739 : BitVec 32 := Scalar.remsi v2726 c128_i32_1089
  let c0_i32_1094 : BitVec 32 := 0#32
  let v2740 : BitVec 1 := Scalar.cmpi .ne v2739 c0_i32_1094
  let v2741 : BitVec 1 := Scalar.andi v2738 v2740
  let v2727 : BitVec 32 := Scalar.divsi v2726 c128_i32_1089
  let c1_i32_1095 : BitVec 32 := 1#32
  let v2742 : BitVec 32 := Scalar.subi v2727 c1_i32_1095
  let v2743 : BitVec 32 := Scalar.select v2741 v2742 v2727
  let c128_i32_1096 : BitVec 32 := 128#32
  let v2744 : BitVec 32 := Scalar.muli v2743 c128_i32_1096
  v2744

def k0_mult138 (v2746 : BitVec 32) : BitVec 32 :=
  let c0_i32_1098 : BitVec 32 := 0#32
  let v2748 : BitVec 1 := Scalar.cmpi .sgt v2746 c0_i32_1098
  let v2749 : BitVec 32 := Scalar.extui v2748
  let c0_i32_1099 : BitVec 32 := 0#32
  let v2750 : BitVec 1 := Scalar.cmpi .slt v2746 c0_i32_1099
  let v2751 : BitVec 32 := Scalar.extui v2750
  let v2752 : BitVec 32 := Scalar.subi v2749 v2751
  let c128_i32_1097 : BitVec 32 := 128#32
  let c0_i32_1100 : BitVec 32 := 0#32
  let v2753 : BitVec 1 := Scalar.cmpi .sgt c128_i32_1097 c0_i32_1100
  let v2754 : BitVec 32 := Scalar.extui v2753
  let c0_i32_1101 : BitVec 32 := 0#32
  let v2755 : BitVec 1 := Scalar.cmpi .slt c128_i32_1097 c0_i32_1101
  let v2756 : BitVec 32 := Scalar.extui v2755
  let v2757 : BitVec 32 := Scalar.subi v2754 v2756
  let v2758 : BitVec 1 := Scalar.cmpi .ne v2752 v2757
  let v2759 : BitVec 32 := Scalar.remsi v2746 c128_i32_1097
  let c0_i32_1102 : BitVec 32 := 0#32
  let v2760 : BitVec 1 := Scalar.cmpi .ne v2759 c0_i32_1102
  let v2761 : BitVec 1 := Scalar.andi v2758 v2760
  let v2747 : BitVec 32 := Scalar.divsi v2746 c128_i32_1097
  let c1_i32_1103 : BitVec 32 := 1#32
  let v2762 : BitVec 32 := Scalar.subi v2747 c1_i32_1103
  let v2763 : BitVec 32 := Scalar.select v2761 v2762 v2747
  let c128_i32_1104 : BitVec 32 := 128#32
  let v2764 : BitVec 32 := Scalar.muli v2763 c128_i32_1104
  v2764

def k0_mult139 (v2766 : BitVec 32) : BitVec 32 :=
  let c0_i32_1106 : BitVec 32 := 0#32
  let v2768 : BitVec 1 := Scalar.cmpi .sgt v2766 c0_i32_1106
  let v2769 : BitVec 32 := Scalar.extui v2768
  let c0_i32_1107 : BitVec 32 := 0#32
  let v2770 : BitVec 1 := Scalar.cmpi .slt v2766 c0_i32_1107
  let v2771 : BitVec 32 := Scalar.extui v2770
  let v2772 : BitVec 32 := Scalar.subi v2769 v2771
  let c128_i32_1105 : BitVec 32 := 128#32
  let c0_i32_1108 : BitVec 32 := 0#32
  let v2773 : BitVec 1 := Scalar.cmpi .sgt c128_i32_1105 c0_i32_1108
  let v2774 : BitVec 32 := Scalar.extui v2773
  let c0_i32_1109 : BitVec 32 := 0#32
  let v2775 : BitVec 1 := Scalar.cmpi .slt c128_i32_1105 c0_i32_1109
  let v2776 : BitVec 32 := Scalar.extui v2775
  let v2777 : BitVec 32 := Scalar.subi v2774 v2776
  let v2778 : BitVec 1 := Scalar.cmpi .ne v2772 v2777
  let v2779 : BitVec 32 := Scalar.remsi v2766 c128_i32_1105
  let c0_i32_1110 : BitVec 32 := 0#32
  let v2780 : BitVec 1 := Scalar.cmpi .ne v2779 c0_i32_1110
  let v2781 : BitVec 1 := Scalar.andi v2778 v2780
  let v2767 : BitVec 32 := Scalar.divsi v2766 c128_i32_1105
  let c1_i32_1111 : BitVec 32 := 1#32
  let v2782 : BitVec 32 := Scalar.subi v2767 c1_i32_1111
  let v2783 : BitVec 32 := Scalar.select v2781 v2782 v2767
  let c128_i32_1112 : BitVec 32 := 128#32
  let v2784 : BitVec 32 := Scalar.muli v2783 c128_i32_1112
  v2784

def k0_mult140 (v2786 : BitVec 32) : BitVec 32 :=
  let c0_i32_1114 : BitVec 32 := 0#32
  let v2788 : BitVec 1 := Scalar.cmpi .sgt v2786 c0_i32_1114
  let v2789 : BitVec 32 := Scalar.extui v2788
  let c0_i32_1115 : BitVec 32 := 0#32
  let v2790 : BitVec 1 := Scalar.cmpi .slt v2786 c0_i32_1115
  let v2791 : BitVec 32 := Scalar.extui v2790
  let v2792 : BitVec 32 := Scalar.subi v2789 v2791
  let c128_i32_1113 : BitVec 32 := 128#32
  let c0_i32_1116 : BitVec 32 := 0#32
  let v2793 : BitVec 1 := Scalar.cmpi .sgt c128_i32_1113 c0_i32_1116
  let v2794 : BitVec 32 := Scalar.extui v2793
  let c0_i32_1117 : BitVec 32 := 0#32
  let v2795 : BitVec 1 := Scalar.cmpi .slt c128_i32_1113 c0_i32_1117
  let v2796 : BitVec 32 := Scalar.extui v2795
  let v2797 : BitVec 32 := Scalar.subi v2794 v2796
  let v2798 : BitVec 1 := Scalar.cmpi .ne v2792 v2797
  let v2799 : BitVec 32 := Scalar.remsi v2786 c128_i32_1113
  let c0_i32_1118 : BitVec 32 := 0#32
  let v2800 : BitVec 1 := Scalar.cmpi .ne v2799 c0_i32_1118
  let v2801 : BitVec 1 := Scalar.andi v2798 v2800
  let v2787 : BitVec 32 := Scalar.divsi v2786 c128_i32_1113
  let c1_i32_1119 : BitVec 32 := 1#32
  let v2802 : BitVec 32 := Scalar.subi v2787 c1_i32_1119
  let v2803 : BitVec 32 := Scalar.select v2801 v2802 v2787
  let c128_i32_1120 : BitVec 32 := 128#32
  let v2804 : BitVec 32 := Scalar.muli v2803 c128_i32_1120
  v2804

def k0_mult141 (v2806 : BitVec 32) : BitVec 32 :=
  let c0_i32_1122 : BitVec 32 := 0#32
  let v2808 : BitVec 1 := Scalar.cmpi .sgt v2806 c0_i32_1122
  let v2809 : BitVec 32 := Scalar.extui v2808
  let c0_i32_1123 : BitVec 32 := 0#32
  let v2810 : BitVec 1 := Scalar.cmpi .slt v2806 c0_i32_1123
  let v2811 : BitVec 32 := Scalar.extui v2810
  let v2812 : BitVec 32 := Scalar.subi v2809 v2811
  let c128_i32_1121 : BitVec 32 := 128#32
  let c0_i32_1124 : BitVec 32 := 0#32
  let v2813 : BitVec 1 := Scalar.cmpi .sgt c128_i32_1121 c0_i32_1124
  let v2814 : BitVec 32 := Scalar.extui v2813
  let c0_i32_1125 : BitVec 32 := 0#32
  let v2815 : BitVec 1 := Scalar.cmpi .slt c128_i32_1121 c0_i32_1125
  let v2816 : BitVec 32 := Scalar.extui v2815
  let v2817 : BitVec 32 := Scalar.subi v2814 v2816
  let v2818 : BitVec 1 := Scalar.cmpi .ne v2812 v2817
  let v2819 : BitVec 32 := Scalar.remsi v2806 c128_i32_1121
  let c0_i32_1126 : BitVec 32 := 0#32
  let v2820 : BitVec 1 := Scalar.cmpi .ne v2819 c0_i32_1126
  let v2821 : BitVec 1 := Scalar.andi v2818 v2820
  let v2807 : BitVec 32 := Scalar.divsi v2806 c128_i32_1121
  let c1_i32_1127 : BitVec 32 := 1#32
  let v2822 : BitVec 32 := Scalar.subi v2807 c1_i32_1127
  let v2823 : BitVec 32 := Scalar.select v2821 v2822 v2807
  let c128_i32_1128 : BitVec 32 := 128#32
  let v2824 : BitVec 32 := Scalar.muli v2823 c128_i32_1128
  v2824

def k0_mult142 (v2826 : BitVec 32) : BitVec 32 :=
  let c0_i32_1130 : BitVec 32 := 0#32
  let v2828 : BitVec 1 := Scalar.cmpi .sgt v2826 c0_i32_1130
  let v2829 : BitVec 32 := Scalar.extui v2828
  let c0_i32_1131 : BitVec 32 := 0#32
  let v2830 : BitVec 1 := Scalar.cmpi .slt v2826 c0_i32_1131
  let v2831 : BitVec 32 := Scalar.extui v2830
  let v2832 : BitVec 32 := Scalar.subi v2829 v2831
  let c128_i32_1129 : BitVec 32 := 128#32
  let c0_i32_1132 : BitVec 32 := 0#32
  let v2833 : BitVec 1 := Scalar.cmpi .sgt c128_i32_1129 c0_i32_1132
  let v2834 : BitVec 32 := Scalar.extui v2833
  let c0_i32_1133 : BitVec 32 := 0#32
  let v2835 : BitVec 1 := Scalar.cmpi .slt c128_i32_1129 c0_i32_1133
  let v2836 : BitVec 32 := Scalar.extui v2835
  let v2837 : BitVec 32 := Scalar.subi v2834 v2836
  let v2838 : BitVec 1 := Scalar.cmpi .ne v2832 v2837
  let v2839 : BitVec 32 := Scalar.remsi v2826 c128_i32_1129
  let c0_i32_1134 : BitVec 32 := 0#32
  let v2840 : BitVec 1 := Scalar.cmpi .ne v2839 c0_i32_1134
  let v2841 : BitVec 1 := Scalar.andi v2838 v2840
  let v2827 : BitVec 32 := Scalar.divsi v2826 c128_i32_1129
  let c1_i32_1135 : BitVec 32 := 1#32
  let v2842 : BitVec 32 := Scalar.subi v2827 c1_i32_1135
  let v2843 : BitVec 32 := Scalar.select v2841 v2842 v2827
  let c128_i32_1136 : BitVec 32 := 128#32
  let v2844 : BitVec 32 := Scalar.muli v2843 c128_i32_1136
  v2844

def k0_mult143 (v2846 : BitVec 32) : BitVec 32 :=
  let c0_i32_1138 : BitVec 32 := 0#32
  let v2848 : BitVec 1 := Scalar.cmpi .sgt v2846 c0_i32_1138
  let v2849 : BitVec 32 := Scalar.extui v2848
  let c0_i32_1139 : BitVec 32 := 0#32
  let v2850 : BitVec 1 := Scalar.cmpi .slt v2846 c0_i32_1139
  let v2851 : BitVec 32 := Scalar.extui v2850
  let v2852 : BitVec 32 := Scalar.subi v2849 v2851
  let c128_i32_1137 : BitVec 32 := 128#32
  let c0_i32_1140 : BitVec 32 := 0#32
  let v2853 : BitVec 1 := Scalar.cmpi .sgt c128_i32_1137 c0_i32_1140
  let v2854 : BitVec 32 := Scalar.extui v2853
  let c0_i32_1141 : BitVec 32 := 0#32
  let v2855 : BitVec 1 := Scalar.cmpi .slt c128_i32_1137 c0_i32_1141
  let v2856 : BitVec 32 := Scalar.extui v2855
  let v2857 : BitVec 32 := Scalar.subi v2854 v2856
  let v2858 : BitVec 1 := Scalar.cmpi .ne v2852 v2857
  let v2859 : BitVec 32 := Scalar.remsi v2846 c128_i32_1137
  let c0_i32_1142 : BitVec 32 := 0#32
  let v2860 : BitVec 1 := Scalar.cmpi .ne v2859 c0_i32_1142
  let v2861 : BitVec 1 := Scalar.andi v2858 v2860
  let v2847 : BitVec 32 := Scalar.divsi v2846 c128_i32_1137
  let c1_i32_1143 : BitVec 32 := 1#32
  let v2862 : BitVec 32 := Scalar.subi v2847 c1_i32_1143
  let v2863 : BitVec 32 := Scalar.select v2861 v2862 v2847
  let c128_i32_1144 : BitVec 32 := 128#32
  let v2864 : BitVec 32 := Scalar.muli v2863 c128_i32_1144
  v2864

def k0_mult144 (v2866 : BitVec 32) : BitVec 32 :=
  let c0_i32_1146 : BitVec 32 := 0#32
  let v2868 : BitVec 1 := Scalar.cmpi .sgt v2866 c0_i32_1146
  let v2869 : BitVec 32 := Scalar.extui v2868
  let c0_i32_1147 : BitVec 32 := 0#32
  let v2870 : BitVec 1 := Scalar.cmpi .slt v2866 c0_i32_1147
  let v2871 : BitVec 32 := Scalar.extui v2870
  let v2872 : BitVec 32 := Scalar.subi v2869 v2871
  let c128_i32_1145 : BitVec 32 := 128#32
  let c0_i32_1148 : BitVec 32 := 0#32
  let v2873 : BitVec 1 := Scalar.cmpi .sgt c128_i32_1145 c0_i32_1148
  let v2874 : BitVec 32 := Scalar.extui v2873
  let c0_i32_1149 : BitVec 32 := 0#32
  let v2875 : BitVec 1 := Scalar.cmpi .slt c128_i32_1145 c0_i32_1149
  let v2876 : BitVec 32 := Scalar.extui v2875
  let v2877 : BitVec 32 := Scalar.subi v2874 v2876
  let v2878 : BitVec 1 := Scalar.cmpi .ne v2872 v2877
  let v2879 : BitVec 32 := Scalar.remsi v2866 c128_i32_1145
  let c0_i32_1150 : BitVec 32 := 0#32
  let v2880 : BitVec 1 := Scalar.cmpi .ne v2879 c0_i32_1150
  let v2881 : BitVec 1 := Scalar.andi v2878 v2880
  let v2867 : BitVec 32 := Scalar.divsi v2866 c128_i32_1145
  let c1_i32_1151 : BitVec 32 := 1#32
  let v2882 : BitVec 32 := Scalar.subi v2867 c1_i32_1151
  let v2883 : BitVec 32 := Scalar.select v2881 v2882 v2867
  let c128_i32_1152 : BitVec 32 := 128#32
  let v2884 : BitVec 32 := Scalar.muli v2883 c128_i32_1152
  v2884

def k0_mult145 (v2886 : BitVec 32) : BitVec 32 :=
  let c0_i32_1154 : BitVec 32 := 0#32
  let v2888 : BitVec 1 := Scalar.cmpi .sgt v2886 c0_i32_1154
  let v2889 : BitVec 32 := Scalar.extui v2888
  let c0_i32_1155 : BitVec 32 := 0#32
  let v2890 : BitVec 1 := Scalar.cmpi .slt v2886 c0_i32_1155
  let v2891 : BitVec 32 := Scalar.extui v2890
  let v2892 : BitVec 32 := Scalar.subi v2889 v2891
  let c128_i32_1153 : BitVec 32 := 128#32
  let c0_i32_1156 : BitVec 32 := 0#32
  let v2893 : BitVec 1 := Scalar.cmpi .sgt c128_i32_1153 c0_i32_1156
  let v2894 : BitVec 32 := Scalar.extui v2893
  let c0_i32_1157 : BitVec 32 := 0#32
  let v2895 : BitVec 1 := Scalar.cmpi .slt c128_i32_1153 c0_i32_1157
  let v2896 : BitVec 32 := Scalar.extui v2895
  let v2897 : BitVec 32 := Scalar.subi v2894 v2896
  let v2898 : BitVec 1 := Scalar.cmpi .ne v2892 v2897
  let v2899 : BitVec 32 := Scalar.remsi v2886 c128_i32_1153
  let c0_i32_1158 : BitVec 32 := 0#32
  let v2900 : BitVec 1 := Scalar.cmpi .ne v2899 c0_i32_1158
  let v2901 : BitVec 1 := Scalar.andi v2898 v2900
  let v2887 : BitVec 32 := Scalar.divsi v2886 c128_i32_1153
  let c1_i32_1159 : BitVec 32 := 1#32
  let v2902 : BitVec 32 := Scalar.subi v2887 c1_i32_1159
  let v2903 : BitVec 32 := Scalar.select v2901 v2902 v2887
  let c128_i32_1160 : BitVec 32 := 128#32
  let v2904 : BitVec 32 := Scalar.muli v2903 c128_i32_1160
  v2904

def k0_mult146 (v2906 : BitVec 32) : BitVec 32 :=
  let c0_i32_1162 : BitVec 32 := 0#32
  let v2908 : BitVec 1 := Scalar.cmpi .sgt v2906 c0_i32_1162
  let v2909 : BitVec 32 := Scalar.extui v2908
  let c0_i32_1163 : BitVec 32 := 0#32
  let v2910 : BitVec 1 := Scalar.cmpi .slt v2906 c0_i32_1163
  let v2911 : BitVec 32 := Scalar.extui v2910
  let v2912 : BitVec 32 := Scalar.subi v2909 v2911
  let c128_i32_1161 : BitVec 32 := 128#32
  let c0_i32_1164 : BitVec 32 := 0#32
  let v2913 : BitVec 1 := Scalar.cmpi .sgt c128_i32_1161 c0_i32_1164
  let v2914 : BitVec 32 := Scalar.extui v2913
  let c0_i32_1165 : BitVec 32 := 0#32
  let v2915 : BitVec 1 := Scalar.cmpi .slt c128_i32_1161 c0_i32_1165
  let v2916 : BitVec 32 := Scalar.extui v2915
  let v2917 : BitVec 32 := Scalar.subi v2914 v2916
  let v2918 : BitVec 1 := Scalar.cmpi .ne v2912 v2917
  let v2919 : BitVec 32 := Scalar.remsi v2906 c128_i32_1161
  let c0_i32_1166 : BitVec 32 := 0#32
  let v2920 : BitVec 1 := Scalar.cmpi .ne v2919 c0_i32_1166
  let v2921 : BitVec 1 := Scalar.andi v2918 v2920
  let v2907 : BitVec 32 := Scalar.divsi v2906 c128_i32_1161
  let c1_i32_1167 : BitVec 32 := 1#32
  let v2922 : BitVec 32 := Scalar.subi v2907 c1_i32_1167
  let v2923 : BitVec 32 := Scalar.select v2921 v2922 v2907
  let c128_i32_1168 : BitVec 32 := 128#32
  let v2924 : BitVec 32 := Scalar.muli v2923 c128_i32_1168
  v2924

def k0_mult147 (v2926 : BitVec 32) : BitVec 32 :=
  let c0_i32_1170 : BitVec 32 := 0#32
  let v2928 : BitVec 1 := Scalar.cmpi .sgt v2926 c0_i32_1170
  let v2929 : BitVec 32 := Scalar.extui v2928
  let c0_i32_1171 : BitVec 32 := 0#32
  let v2930 : BitVec 1 := Scalar.cmpi .slt v2926 c0_i32_1171
  let v2931 : BitVec 32 := Scalar.extui v2930
  let v2932 : BitVec 32 := Scalar.subi v2929 v2931
  let c128_i32_1169 : BitVec 32 := 128#32
  let c0_i32_1172 : BitVec 32 := 0#32
  let v2933 : BitVec 1 := Scalar.cmpi .sgt c128_i32_1169 c0_i32_1172
  let v2934 : BitVec 32 := Scalar.extui v2933
  let c0_i32_1173 : BitVec 32 := 0#32
  let v2935 : BitVec 1 := Scalar.cmpi .slt c128_i32_1169 c0_i32_1173
  let v2936 : BitVec 32 := Scalar.extui v2935
  let v2937 : BitVec 32 := Scalar.subi v2934 v2936
  let v2938 : BitVec 1 := Scalar.cmpi .ne v2932 v2937
  let v2939 : BitVec 32 := Scalar.remsi v2926 c128_i32_1169
  let c0_i32_1174 : BitVec 32 := 0#32
  let v2940 : BitVec 1 := Scalar.cmpi .ne v2939 c0_i32_1174
  let v2941 : BitVec 1 := Scalar.andi v2938 v2940
  let v2927 : BitVec 32 := Scalar.divsi v2926 c128_i32_1169
  let c1_i32_1175 : BitVec 32 := 1#32
  let v2942 : BitVec 32 := Scalar.subi v2927 c1_i32_1175
  let v2943 : BitVec 32 := Scalar.select v2941 v2942 v2927
  let c128_i32_1176 : BitVec 32 := 128#32
  let v2944 : BitVec 32 := Scalar.muli v2943 c128_i32_1176
  v2944

def k0_mult148 (v2946 : BitVec 32) : BitVec 32 :=
  let c0_i32_1178 : BitVec 32 := 0#32
  let v2948 : BitVec 1 := Scalar.cmpi .sgt v2946 c0_i32_1178
  let v2949 : BitVec 32 := Scalar.extui v2948
  let c0_i32_1179 : BitVec 32 := 0#32
  let v2950 : BitVec 1 := Scalar.cmpi .slt v2946 c0_i32_1179
  let v2951 : BitVec 32 := Scalar.extui v2950
  let v2952 : BitVec 32 := Scalar.subi v2949 v2951
  let c128_i32_1177 : BitVec 32 := 128#32
  let c0_i32_1180 : BitVec 32 := 0#32
  let v2953 : BitVec 1 := Scalar.cmpi .sgt c128_i32_1177 c0_i32_1180
  let v2954 : BitVec 32 := Scalar.extui v2953
  let c0_i32_1181 : BitVec 32 := 0#32
  let v2955 : BitVec 1 := Scalar.cmpi .slt c128_i32_1177 c0_i32_1181
  let v2956 : BitVec 32 := Scalar.extui v2955
  let v2957 : BitVec 32 := Scalar.subi v2954 v2956
  let v2958 : BitVec 1 := Scalar.cmpi .ne v2952 v2957
  let v2959 : BitVec 32 := Scalar.remsi v2946 c128_i32_1177
  let c0_i32_1182 : BitVec 32 := 0#32
  let v2960 : BitVec 1 := Scalar.cmpi .ne v2959 c0_i32_1182
  let v2961 : BitVec 1 := Scalar.andi v2958 v2960
  let v2947 : BitVec 32 := Scalar.divsi v2946 c128_i32_1177
  let c1_i32_1183 : BitVec 32 := 1#32
  let v2962 : BitVec 32 := Scalar.subi v2947 c1_i32_1183
  let v2963 : BitVec 32 := Scalar.select v2961 v2962 v2947
  let c128_i32_1184 : BitVec 32 := 128#32
  let v2964 : BitVec 32 := Scalar.muli v2963 c128_i32_1184
  v2964

def k0_mult149 (v2966 : BitVec 32) : BitVec 32 :=
  let c0_i32_1186 : BitVec 32 := 0#32
  let v2968 : BitVec 1 := Scalar.cmpi .sgt v2966 c0_i32_1186
  let v2969 : BitVec 32 := Scalar.extui v2968
  let c0_i32_1187 : BitVec 32 := 0#32
  let v2970 : BitVec 1 := Scalar.cmpi .slt v2966 c0_i32_1187
  let v2971 : BitVec 32 := Scalar.extui v2970
  let v2972 : BitVec 32 := Scalar.subi v2969 v2971
  let c128_i32_1185 : BitVec 32 := 128#32
  let c0_i32_1188 : BitVec 32 := 0#32
  let v2973 : BitVec 1 := Scalar.cmpi .sgt c128_i32_1185 c0_i32_1188
  let v2974 : BitVec 32 := Scalar.extui v2973
  let c0_i32_1189 : BitVec 32 := 0#32
  let v2975 : BitVec 1 := Scalar.cmpi .slt c128_i32_1185 c0_i32_1189
  let v2976 : BitVec 32 := Scalar.extui v2975
  let v2977 : BitVec 32 := Scalar.subi v2974 v2976
  let v2978 : BitVec 1 := Scalar.cmpi .ne v2972 v2977
  let v2979 : BitVec 32 := Scalar.remsi v2966 c128_i32_1185
  let c0_i32_1190 : BitVec 32 := 0#32
  let v2980 : BitVec 1 := Scalar.cmpi .ne v2979 c0_i32_1190
  let v2981 : BitVec 1 := Scalar.andi v2978 v2980
  let v2967 : BitVec 32 := Scalar.divsi v2966 c128_i32_1185
  let c1_i32_1191 : BitVec 32 := 1#32
  let v2982 : BitVec 32 := Scalar.subi v2967 c1_i32_1191
  let v2983 : BitVec 32 := Scalar.select v2981 v2982 v2967
  let c128_i32_1192 : BitVec 32 := 128#32
  let v2984 : BitVec 32 := Scalar.muli v2983 c128_i32_1192
  v2984

def k0_mult150 (v2986 : BitVec 32) : BitVec 32 :=
  let c0_i32_1194 : BitVec 32 := 0#32
  let v2988 : BitVec 1 := Scalar.cmpi .sgt v2986 c0_i32_1194
  let v2989 : BitVec 32 := Scalar.extui v2988
  let c0_i32_1195 : BitVec 32 := 0#32
  let v2990 : BitVec 1 := Scalar.cmpi .slt v2986 c0_i32_1195
  let v2991 : BitVec 32 := Scalar.extui v2990
  let v2992 : BitVec 32 := Scalar.subi v2989 v2991
  let c128_i32_1193 : BitVec 32 := 128#32
  let c0_i32_1196 : BitVec 32 := 0#32
  let v2993 : BitVec 1 := Scalar.cmpi .sgt c128_i32_1193 c0_i32_1196
  let v2994 : BitVec 32 := Scalar.extui v2993
  let c0_i32_1197 : BitVec 32 := 0#32
  let v2995 : BitVec 1 := Scalar.cmpi .slt c128_i32_1193 c0_i32_1197
  let v2996 : BitVec 32 := Scalar.extui v2995
  let v2997 : BitVec 32 := Scalar.subi v2994 v2996
  let v2998 : BitVec 1 := Scalar.cmpi .ne v2992 v2997
  let v2999 : BitVec 32 := Scalar.remsi v2986 c128_i32_1193
  let c0_i32_1198 : BitVec 32 := 0#32
  let v3000 : BitVec 1 := Scalar.cmpi .ne v2999 c0_i32_1198
  let v3001 : BitVec 1 := Scalar.andi v2998 v3000
  let v2987 : BitVec 32 := Scalar.divsi v2986 c128_i32_1193
  let c1_i32_1199 : BitVec 32 := 1#32
  let v3002 : BitVec 32 := Scalar.subi v2987 c1_i32_1199
  let v3003 : BitVec 32 := Scalar.select v3001 v3002 v2987
  let c128_i32_1200 : BitVec 32 := 128#32
  let v3004 : BitVec 32 := Scalar.muli v3003 c128_i32_1200
  v3004

def k0_mult151 (v3006 : BitVec 32) : BitVec 32 :=
  let c0_i32_1202 : BitVec 32 := 0#32
  let v3008 : BitVec 1 := Scalar.cmpi .sgt v3006 c0_i32_1202
  let v3009 : BitVec 32 := Scalar.extui v3008
  let c0_i32_1203 : BitVec 32 := 0#32
  let v3010 : BitVec 1 := Scalar.cmpi .slt v3006 c0_i32_1203
  let v3011 : BitVec 32 := Scalar.extui v3010
  let v3012 : BitVec 32 := Scalar.subi v3009 v3011
  let c128_i32_1201 : BitVec 32 := 128#32
  let c0_i32_1204 : BitVec 32 := 0#32
  let v3013 : BitVec 1 := Scalar.cmpi .sgt c128_i32_1201 c0_i32_1204
  let v3014 : BitVec 32 := Scalar.extui v3013
  let c0_i32_1205 : BitVec 32 := 0#32
  let v3015 : BitVec 1 := Scalar.cmpi .slt c128_i32_1201 c0_i32_1205
  let v3016 : BitVec 32 := Scalar.extui v3015
  let v3017 : BitVec 32 := Scalar.subi v3014 v3016
  let v3018 : BitVec 1 := Scalar.cmpi .ne v3012 v3017
  let v3019 : BitVec 32 := Scalar.remsi v3006 c128_i32_1201
  let c0_i32_1206 : BitVec 32 := 0#32
  let v3020 : BitVec 1 := Scalar.cmpi .ne v3019 c0_i32_1206
  let v3021 : BitVec 1 := Scalar.andi v3018 v3020
  let v3007 : BitVec 32 := Scalar.divsi v3006 c128_i32_1201
  let c1_i32_1207 : BitVec 32 := 1#32
  let v3022 : BitVec 32 := Scalar.subi v3007 c1_i32_1207
  let v3023 : BitVec 32 := Scalar.select v3021 v3022 v3007
  let c128_i32_1208 : BitVec 32 := 128#32
  let v3024 : BitVec 32 := Scalar.muli v3023 c128_i32_1208
  v3024

def k0_mult152 (v3026 : BitVec 32) : BitVec 32 :=
  let c0_i32_1210 : BitVec 32 := 0#32
  let v3028 : BitVec 1 := Scalar.cmpi .sgt v3026 c0_i32_1210
  let v3029 : BitVec 32 := Scalar.extui v3028
  let c0_i32_1211 : BitVec 32 := 0#32
  let v3030 : BitVec 1 := Scalar.cmpi .slt v3026 c0_i32_1211
  let v3031 : BitVec 32 := Scalar.extui v3030
  let v3032 : BitVec 32 := Scalar.subi v3029 v3031
  let c128_i32_1209 : BitVec 32 := 128#32
  let c0_i32_1212 : BitVec 32 := 0#32
  let v3033 : BitVec 1 := Scalar.cmpi .sgt c128_i32_1209 c0_i32_1212
  let v3034 : BitVec 32 := Scalar.extui v3033
  let c0_i32_1213 : BitVec 32 := 0#32
  let v3035 : BitVec 1 := Scalar.cmpi .slt c128_i32_1209 c0_i32_1213
  let v3036 : BitVec 32 := Scalar.extui v3035
  let v3037 : BitVec 32 := Scalar.subi v3034 v3036
  let v3038 : BitVec 1 := Scalar.cmpi .ne v3032 v3037
  let v3039 : BitVec 32 := Scalar.remsi v3026 c128_i32_1209
  let c0_i32_1214 : BitVec 32 := 0#32
  let v3040 : BitVec 1 := Scalar.cmpi .ne v3039 c0_i32_1214
  let v3041 : BitVec 1 := Scalar.andi v3038 v3040
  let v3027 : BitVec 32 := Scalar.divsi v3026 c128_i32_1209
  let c1_i32_1215 : BitVec 32 := 1#32
  let v3042 : BitVec 32 := Scalar.subi v3027 c1_i32_1215
  let v3043 : BitVec 32 := Scalar.select v3041 v3042 v3027
  let c128_i32_1216 : BitVec 32 := 128#32
  let v3044 : BitVec 32 := Scalar.muli v3043 c128_i32_1216
  v3044

def k0_mult153 (v3046 : BitVec 32) : BitVec 32 :=
  let c0_i32_1218 : BitVec 32 := 0#32
  let v3048 : BitVec 1 := Scalar.cmpi .sgt v3046 c0_i32_1218
  let v3049 : BitVec 32 := Scalar.extui v3048
  let c0_i32_1219 : BitVec 32 := 0#32
  let v3050 : BitVec 1 := Scalar.cmpi .slt v3046 c0_i32_1219
  let v3051 : BitVec 32 := Scalar.extui v3050
  let v3052 : BitVec 32 := Scalar.subi v3049 v3051
  let c128_i32_1217 : BitVec 32 := 128#32
  let c0_i32_1220 : BitVec 32 := 0#32
  let v3053 : BitVec 1 := Scalar.cmpi .sgt c128_i32_1217 c0_i32_1220
  let v3054 : BitVec 32 := Scalar.extui v3053
  let c0_i32_1221 : BitVec 32 := 0#32
  let v3055 : BitVec 1 := Scalar.cmpi .slt c128_i32_1217 c0_i32_1221
  let v3056 : BitVec 32 := Scalar.extui v3055
  let v3057 : BitVec 32 := Scalar.subi v3054 v3056
  let v3058 : BitVec 1 := Scalar.cmpi .ne v3052 v3057
  let v3059 : BitVec 32 := Scalar.remsi v3046 c128_i32_1217
  let c0_i32_1222 : BitVec 32 := 0#32
  let v3060 : BitVec 1 := Scalar.cmpi .ne v3059 c0_i32_1222
  let v3061 : BitVec 1 := Scalar.andi v3058 v3060
  let v3047 : BitVec 32 := Scalar.divsi v3046 c128_i32_1217
  let c1_i32_1223 : BitVec 32 := 1#32
  let v3062 : BitVec 32 := Scalar.subi v3047 c1_i32_1223
  let v3063 : BitVec 32 := Scalar.select v3061 v3062 v3047
  let c128_i32_1224 : BitVec 32 := 128#32
  let v3064 : BitVec 32 := Scalar.muli v3063 c128_i32_1224
  v3064

def k0_mult154 (v3066 : BitVec 32) : BitVec 32 :=
  let c0_i32_1226 : BitVec 32 := 0#32
  let v3068 : BitVec 1 := Scalar.cmpi .sgt v3066 c0_i32_1226
  let v3069 : BitVec 32 := Scalar.extui v3068
  let c0_i32_1227 : BitVec 32 := 0#32
  let v3070 : BitVec 1 := Scalar.cmpi .slt v3066 c0_i32_1227
  let v3071 : BitVec 32 := Scalar.extui v3070
  let v3072 : BitVec 32 := Scalar.subi v3069 v3071
  let c128_i32_1225 : BitVec 32 := 128#32
  let c0_i32_1228 : BitVec 32 := 0#32
  let v3073 : BitVec 1 := Scalar.cmpi .sgt c128_i32_1225 c0_i32_1228
  let v3074 : BitVec 32 := Scalar.extui v3073
  let c0_i32_1229 : BitVec 32 := 0#32
  let v3075 : BitVec 1 := Scalar.cmpi .slt c128_i32_1225 c0_i32_1229
  let v3076 : BitVec 32 := Scalar.extui v3075
  let v3077 : BitVec 32 := Scalar.subi v3074 v3076
  let v3078 : BitVec 1 := Scalar.cmpi .ne v3072 v3077
  let v3079 : BitVec 32 := Scalar.remsi v3066 c128_i32_1225
  let c0_i32_1230 : BitVec 32 := 0#32
  let v3080 : BitVec 1 := Scalar.cmpi .ne v3079 c0_i32_1230
  let v3081 : BitVec 1 := Scalar.andi v3078 v3080
  let v3067 : BitVec 32 := Scalar.divsi v3066 c128_i32_1225
  let c1_i32_1231 : BitVec 32 := 1#32
  let v3082 : BitVec 32 := Scalar.subi v3067 c1_i32_1231
  let v3083 : BitVec 32 := Scalar.select v3081 v3082 v3067
  let c128_i32_1232 : BitVec 32 := 128#32
  let v3084 : BitVec 32 := Scalar.muli v3083 c128_i32_1232
  v3084

def k0_mult155 (v3086 : BitVec 32) : BitVec 32 :=
  let c0_i32_1234 : BitVec 32 := 0#32
  let v3088 : BitVec 1 := Scalar.cmpi .sgt v3086 c0_i32_1234
  let v3089 : BitVec 32 := Scalar.extui v3088
  let c0_i32_1235 : BitVec 32 := 0#32
  let v3090 : BitVec 1 := Scalar.cmpi .slt v3086 c0_i32_1235
  let v3091 : BitVec 32 := Scalar.extui v3090
  let v3092 : BitVec 32 := Scalar.subi v3089 v3091
  let c128_i32_1233 : BitVec 32 := 128#32
  let c0_i32_1236 : BitVec 32 := 0#32
  let v3093 : BitVec 1 := Scalar.cmpi .sgt c128_i32_1233 c0_i32_1236
  let v3094 : BitVec 32 := Scalar.extui v3093
  let c0_i32_1237 : BitVec 32 := 0#32
  let v3095 : BitVec 1 := Scalar.cmpi .slt c128_i32_1233 c0_i32_1237
  let v3096 : BitVec 32 := Scalar.extui v3095
  let v3097 : BitVec 32 := Scalar.subi v3094 v3096
  let v3098 : BitVec 1 := Scalar.cmpi .ne v3092 v3097
  let v3099 : BitVec 32 := Scalar.remsi v3086 c128_i32_1233
  let c0_i32_1238 : BitVec 32 := 0#32
  let v3100 : BitVec 1 := Scalar.cmpi .ne v3099 c0_i32_1238
  let v3101 : BitVec 1 := Scalar.andi v3098 v3100
  let v3087 : BitVec 32 := Scalar.divsi v3086 c128_i32_1233
  let c1_i32_1239 : BitVec 32 := 1#32
  let v3102 : BitVec 32 := Scalar.subi v3087 c1_i32_1239
  let v3103 : BitVec 32 := Scalar.select v3101 v3102 v3087
  let c128_i32_1240 : BitVec 32 := 128#32
  let v3104 : BitVec 32 := Scalar.muli v3103 c128_i32_1240
  v3104

def k0_mult156 (v3106 : BitVec 32) : BitVec 32 :=
  let c0_i32_1242 : BitVec 32 := 0#32
  let v3108 : BitVec 1 := Scalar.cmpi .sgt v3106 c0_i32_1242
  let v3109 : BitVec 32 := Scalar.extui v3108
  let c0_i32_1243 : BitVec 32 := 0#32
  let v3110 : BitVec 1 := Scalar.cmpi .slt v3106 c0_i32_1243
  let v3111 : BitVec 32 := Scalar.extui v3110
  let v3112 : BitVec 32 := Scalar.subi v3109 v3111
  let c128_i32_1241 : BitVec 32 := 128#32
  let c0_i32_1244 : BitVec 32 := 0#32
  let v3113 : BitVec 1 := Scalar.cmpi .sgt c128_i32_1241 c0_i32_1244
  let v3114 : BitVec 32 := Scalar.extui v3113
  let c0_i32_1245 : BitVec 32 := 0#32
  let v3115 : BitVec 1 := Scalar.cmpi .slt c128_i32_1241 c0_i32_1245
  let v3116 : BitVec 32 := Scalar.extui v3115
  let v3117 : BitVec 32 := Scalar.subi v3114 v3116
  let v3118 : BitVec 1 := Scalar.cmpi .ne v3112 v3117
  let v3119 : BitVec 32 := Scalar.remsi v3106 c128_i32_1241
  let c0_i32_1246 : BitVec 32 := 0#32
  let v3120 : BitVec 1 := Scalar.cmpi .ne v3119 c0_i32_1246
  let v3121 : BitVec 1 := Scalar.andi v3118 v3120
  let v3107 : BitVec 32 := Scalar.divsi v3106 c128_i32_1241
  let c1_i32_1247 : BitVec 32 := 1#32
  let v3122 : BitVec 32 := Scalar.subi v3107 c1_i32_1247
  let v3123 : BitVec 32 := Scalar.select v3121 v3122 v3107
  let c128_i32_1248 : BitVec 32 := 128#32
  let v3124 : BitVec 32 := Scalar.muli v3123 c128_i32_1248
  v3124

def k0_mult157 (v3126 : BitVec 32) : BitVec 32 :=
  let c0_i32_1250 : BitVec 32 := 0#32
  let v3128 : BitVec 1 := Scalar.cmpi .sgt v3126 c0_i32_1250
  let v3129 : BitVec 32 := Scalar.extui v3128
  let c0_i32_1251 : BitVec 32 := 0#32
  let v3130 : BitVec 1 := Scalar.cmpi .slt v3126 c0_i32_1251
  let v3131 : BitVec 32 := Scalar.extui v3130
  let v3132 : BitVec 32 := Scalar.subi v3129 v3131
  let c128_i32_1249 : BitVec 32 := 128#32
  let c0_i32_1252 : BitVec 32 := 0#32
  let v3133 : BitVec 1 := Scalar.cmpi .sgt c128_i32_1249 c0_i32_1252
  let v3134 : BitVec 32 := Scalar.extui v3133
  let c0_i32_1253 : BitVec 32 := 0#32
  let v3135 : BitVec 1 := Scalar.cmpi .slt c128_i32_1249 c0_i32_1253
  let v3136 : BitVec 32 := Scalar.extui v3135
  let v3137 : BitVec 32 := Scalar.subi v3134 v3136
  let v3138 : BitVec 1 := Scalar.cmpi .ne v3132 v3137
  let v3139 : BitVec 32 := Scalar.remsi v3126 c128_i32_1249
  let c0_i32_1254 : BitVec 32 := 0#32
  let v3140 : BitVec 1 := Scalar.cmpi .ne v3139 c0_i32_1254
  let v3141 : BitVec 1 := Scalar.andi v3138 v3140
  let v3127 : BitVec 32 := Scalar.divsi v3126 c128_i32_1249
  let c1_i32_1255 : BitVec 32 := 1#32
  let v3142 : BitVec 32 := Scalar.subi v3127 c1_i32_1255
  let v3143 : BitVec 32 := Scalar.select v3141 v3142 v3127
  let c128_i32_1256 : BitVec 32 := 128#32
  let v3144 : BitVec 32 := Scalar.muli v3143 c128_i32_1256
  v3144

def k0_mult158 (v3146 : BitVec 32) : BitVec 32 :=
  let c0_i32_1258 : BitVec 32 := 0#32
  let v3148 : BitVec 1 := Scalar.cmpi .sgt v3146 c0_i32_1258
  let v3149 : BitVec 32 := Scalar.extui v3148
  let c0_i32_1259 : BitVec 32 := 0#32
  let v3150 : BitVec 1 := Scalar.cmpi .slt v3146 c0_i32_1259
  let v3151 : BitVec 32 := Scalar.extui v3150
  let v3152 : BitVec 32 := Scalar.subi v3149 v3151
  let c128_i32_1257 : BitVec 32 := 128#32
  let c0_i32_1260 : BitVec 32 := 0#32
  let v3153 : BitVec 1 := Scalar.cmpi .sgt c128_i32_1257 c0_i32_1260
  let v3154 : BitVec 32 := Scalar.extui v3153
  let c0_i32_1261 : BitVec 32 := 0#32
  let v3155 : BitVec 1 := Scalar.cmpi .slt c128_i32_1257 c0_i32_1261
  let v3156 : BitVec 32 := Scalar.extui v3155
  let v3157 : BitVec 32 := Scalar.subi v3154 v3156
  let v3158 : BitVec 1 := Scalar.cmpi .ne v3152 v3157
  let v3159 : BitVec 32 := Scalar.remsi v3146 c128_i32_1257
  let c0_i32_1262 : BitVec 32 := 0#32
  let v3160 : BitVec 1 := Scalar.cmpi .ne v3159 c0_i32_1262
  let v3161 : BitVec 1 := Scalar.andi v3158 v3160
  let v3147 : BitVec 32 := Scalar.divsi v3146 c128_i32_1257
  let c1_i32_1263 : BitVec 32 := 1#32
  let v3162 : BitVec 32 := Scalar.subi v3147 c1_i32_1263
  let v3163 : BitVec 32 := Scalar.select v3161 v3162 v3147
  let c128_i32_1264 : BitVec 32 := 128#32
  let v3164 : BitVec 32 := Scalar.muli v3163 c128_i32_1264
  v3164

def k0_mult159 (v3166 : BitVec 32) : BitVec 32 :=
  let c0_i32_1266 : BitVec 32 := 0#32
  let v3168 : BitVec 1 := Scalar.cmpi .sgt v3166 c0_i32_1266
  let v3169 : BitVec 32 := Scalar.extui v3168
  let c0_i32_1267 : BitVec 32 := 0#32
  let v3170 : BitVec 1 := Scalar.cmpi .slt v3166 c0_i32_1267
  let v3171 : BitVec 32 := Scalar.extui v3170
  let v3172 : BitVec 32 := Scalar.subi v3169 v3171
  let c128_i32_1265 : BitVec 32 := 128#32
  let c0_i32_1268 : BitVec 32 := 0#32
  let v3173 : BitVec 1 := Scalar.cmpi .sgt c128_i32_1265 c0_i32_1268
  let v3174 : BitVec 32 := Scalar.extui v3173
  let c0_i32_1269 : BitVec 32 := 0#32
  let v3175 : BitVec 1 := Scalar.cmpi .slt c128_i32_1265 c0_i32_1269
  let v3176 : BitVec 32 := Scalar.extui v3175
  let v3177 : BitVec 32 := Scalar.subi v3174 v3176
  let v3178 : BitVec 1 := Scalar.cmpi .ne v3172 v3177
  let v3179 : BitVec 32 := Scalar.remsi v3166 c128_i32_1265
  let c0_i32_1270 : BitVec 32 := 0#32
  let v3180 : BitVec 1 := Scalar.cmpi .ne v3179 c0_i32_1270
  let v3181 : BitVec 1 := Scalar.andi v3178 v3180
  let v3167 : BitVec 32 := Scalar.divsi v3166 c128_i32_1265
  let c1_i32_1271 : BitVec 32 := 1#32
  let v3182 : BitVec 32 := Scalar.subi v3167 c1_i32_1271
  let v3183 : BitVec 32 := Scalar.select v3181 v3182 v3167
  let c128_i32_1272 : BitVec 32 := 128#32
  let v3184 : BitVec 32 := Scalar.muli v3183 c128_i32_1272
  v3184

def k0_mult160 (v3186 : BitVec 32) : BitVec 32 :=
  let c0_i32_1274 : BitVec 32 := 0#32
  let v3188 : BitVec 1 := Scalar.cmpi .sgt v3186 c0_i32_1274
  let v3189 : BitVec 32 := Scalar.extui v3188
  let c0_i32_1275 : BitVec 32 := 0#32
  let v3190 : BitVec 1 := Scalar.cmpi .slt v3186 c0_i32_1275
  let v3191 : BitVec 32 := Scalar.extui v3190
  let v3192 : BitVec 32 := Scalar.subi v3189 v3191
  let c128_i32_1273 : BitVec 32 := 128#32
  let c0_i32_1276 : BitVec 32 := 0#32
  let v3193 : BitVec 1 := Scalar.cmpi .sgt c128_i32_1273 c0_i32_1276
  let v3194 : BitVec 32 := Scalar.extui v3193
  let c0_i32_1277 : BitVec 32 := 0#32
  let v3195 : BitVec 1 := Scalar.cmpi .slt c128_i32_1273 c0_i32_1277
  let v3196 : BitVec 32 := Scalar.extui v3195
  let v3197 : BitVec 32 := Scalar.subi v3194 v3196
  let v3198 : BitVec 1 := Scalar.cmpi .ne v3192 v3197
  let v3199 : BitVec 32 := Scalar.remsi v3186 c128_i32_1273
  let c0_i32_1278 : BitVec 32 := 0#32
  let v3200 : BitVec 1 := Scalar.cmpi .ne v3199 c0_i32_1278
  let v3201 : BitVec 1 := Scalar.andi v3198 v3200
  let v3187 : BitVec 32 := Scalar.divsi v3186 c128_i32_1273
  let c1_i32_1279 : BitVec 32 := 1#32
  let v3202 : BitVec 32 := Scalar.subi v3187 c1_i32_1279
  let v3203 : BitVec 32 := Scalar.select v3201 v3202 v3187
  let c128_i32_1280 : BitVec 32 := 128#32
  let v3204 : BitVec 32 := Scalar.muli v3203 c128_i32_1280
  v3204

def k0_mult161 (v3206 : BitVec 32) : BitVec 32 :=
  let c0_i32_1282 : BitVec 32 := 0#32
  let v3208 : BitVec 1 := Scalar.cmpi .sgt v3206 c0_i32_1282
  let v3209 : BitVec 32 := Scalar.extui v3208
  let c0_i32_1283 : BitVec 32 := 0#32
  let v3210 : BitVec 1 := Scalar.cmpi .slt v3206 c0_i32_1283
  let v3211 : BitVec 32 := Scalar.extui v3210
  let v3212 : BitVec 32 := Scalar.subi v3209 v3211
  let c128_i32_1281 : BitVec 32 := 128#32
  let c0_i32_1284 : BitVec 32 := 0#32
  let v3213 : BitVec 1 := Scalar.cmpi .sgt c128_i32_1281 c0_i32_1284
  let v3214 : BitVec 32 := Scalar.extui v3213
  let c0_i32_1285 : BitVec 32 := 0#32
  let v3215 : BitVec 1 := Scalar.cmpi .slt c128_i32_1281 c0_i32_1285
  let v3216 : BitVec 32 := Scalar.extui v3215
  let v3217 : BitVec 32 := Scalar.subi v3214 v3216
  let v3218 : BitVec 1 := Scalar.cmpi .ne v3212 v3217
  let v3219 : BitVec 32 := Scalar.remsi v3206 c128_i32_1281
  let c0_i32_1286 : BitVec 32 := 0#32
  let v3220 : BitVec 1 := Scalar.cmpi .ne v3219 c0_i32_1286
  let v3221 : BitVec 1 := Scalar.andi v3218 v3220
  let v3207 : BitVec 32 := Scalar.divsi v3206 c128_i32_1281
  let c1_i32_1287 : BitVec 32 := 1#32
  let v3222 : BitVec 32 := Scalar.subi v3207 c1_i32_1287
  let v3223 : BitVec 32 := Scalar.select v3221 v3222 v3207
  let c128_i32_1288 : BitVec 32 := 128#32
  let v3224 : BitVec 32 := Scalar.muli v3223 c128_i32_1288
  v3224

def k0_mult162 (v3226 : BitVec 32) : BitVec 32 :=
  let c0_i32_1290 : BitVec 32 := 0#32
  let v3228 : BitVec 1 := Scalar.cmpi .sgt v3226 c0_i32_1290
  let v3229 : BitVec 32 := Scalar.extui v3228
  let c0_i32_1291 : BitVec 32 := 0#32
  let v3230 : BitVec 1 := Scalar.cmpi .slt v3226 c0_i32_1291
  let v3231 : BitVec 32 := Scalar.extui v3230
  let v3232 : BitVec 32 := Scalar.subi v3229 v3231
  let c128_i32_1289 : BitVec 32 := 128#32
  let c0_i32_1292 : BitVec 32 := 0#32
  let v3233 : BitVec 1 := Scalar.cmpi .sgt c128_i32_1289 c0_i32_1292
  let v3234 : BitVec 32 := Scalar.extui v3233
  let c0_i32_1293 : BitVec 32 := 0#32
  let v3235 : BitVec 1 := Scalar.cmpi .slt c128_i32_1289 c0_i32_1293
  let v3236 : BitVec 32 := Scalar.extui v3235
  let v3237 : BitVec 32 := Scalar.subi v3234 v3236
  let v3238 : BitVec 1 := Scalar.cmpi .ne v3232 v3237
  let v3239 : BitVec 32 := Scalar.remsi v3226 c128_i32_1289
  let c0_i32_1294 : BitVec 32 := 0#32
  let v3240 : BitVec 1 := Scalar.cmpi .ne v3239 c0_i32_1294
  let v3241 : BitVec 1 := Scalar.andi v3238 v3240
  let v3227 : BitVec 32 := Scalar.divsi v3226 c128_i32_1289
  let c1_i32_1295 : BitVec 32 := 1#32
  let v3242 : BitVec 32 := Scalar.subi v3227 c1_i32_1295
  let v3243 : BitVec 32 := Scalar.select v3241 v3242 v3227
  let c128_i32_1296 : BitVec 32 := 128#32
  let v3244 : BitVec 32 := Scalar.muli v3243 c128_i32_1296
  v3244

def k0_mult163 (v3246 : BitVec 32) : BitVec 32 :=
  let c0_i32_1298 : BitVec 32 := 0#32
  let v3248 : BitVec 1 := Scalar.cmpi .sgt v3246 c0_i32_1298
  let v3249 : BitVec 32 := Scalar.extui v3248
  let c0_i32_1299 : BitVec 32 := 0#32
  let v3250 : BitVec 1 := Scalar.cmpi .slt v3246 c0_i32_1299
  let v3251 : BitVec 32 := Scalar.extui v3250
  let v3252 : BitVec 32 := Scalar.subi v3249 v3251
  let c128_i32_1297 : BitVec 32 := 128#32
  let c0_i32_1300 : BitVec 32 := 0#32
  let v3253 : BitVec 1 := Scalar.cmpi .sgt c128_i32_1297 c0_i32_1300
  let v3254 : BitVec 32 := Scalar.extui v3253
  let c0_i32_1301 : BitVec 32 := 0#32
  let v3255 : BitVec 1 := Scalar.cmpi .slt c128_i32_1297 c0_i32_1301
  let v3256 : BitVec 32 := Scalar.extui v3255
  let v3257 : BitVec 32 := Scalar.subi v3254 v3256
  let v3258 : BitVec 1 := Scalar.cmpi .ne v3252 v3257
  let v3259 : BitVec 32 := Scalar.remsi v3246 c128_i32_1297
  let c0_i32_1302 : BitVec 32 := 0#32
  let v3260 : BitVec 1 := Scalar.cmpi .ne v3259 c0_i32_1302
  let v3261 : BitVec 1 := Scalar.andi v3258 v3260
  let v3247 : BitVec 32 := Scalar.divsi v3246 c128_i32_1297
  let c1_i32_1303 : BitVec 32 := 1#32
  let v3262 : BitVec 32 := Scalar.subi v3247 c1_i32_1303
  let v3263 : BitVec 32 := Scalar.select v3261 v3262 v3247
  let c128_i32_1304 : BitVec 32 := 128#32
  let v3264 : BitVec 32 := Scalar.muli v3263 c128_i32_1304
  v3264

def k0_mult164 (v3266 : BitVec 32) : BitVec 32 :=
  let c0_i32_1306 : BitVec 32 := 0#32
  let v3268 : BitVec 1 := Scalar.cmpi .sgt v3266 c0_i32_1306
  let v3269 : BitVec 32 := Scalar.extui v3268
  let c0_i32_1307 : BitVec 32 := 0#32
  let v3270 : BitVec 1 := Scalar.cmpi .slt v3266 c0_i32_1307
  let v3271 : BitVec 32 := Scalar.extui v3270
  let v3272 : BitVec 32 := Scalar.subi v3269 v3271
  let c128_i32_1305 : BitVec 32 := 128#32
  let c0_i32_1308 : BitVec 32 := 0#32
  let v3273 : BitVec 1 := Scalar.cmpi .sgt c128_i32_1305 c0_i32_1308
  let v3274 : BitVec 32 := Scalar.extui v3273
  let c0_i32_1309 : BitVec 32 := 0#32
  let v3275 : BitVec 1 := Scalar.cmpi .slt c128_i32_1305 c0_i32_1309
  let v3276 : BitVec 32 := Scalar.extui v3275
  let v3277 : BitVec 32 := Scalar.subi v3274 v3276
  let v3278 : BitVec 1 := Scalar.cmpi .ne v3272 v3277
  let v3279 : BitVec 32 := Scalar.remsi v3266 c128_i32_1305
  let c0_i32_1310 : BitVec 32 := 0#32
  let v3280 : BitVec 1 := Scalar.cmpi .ne v3279 c0_i32_1310
  let v3281 : BitVec 1 := Scalar.andi v3278 v3280
  let v3267 : BitVec 32 := Scalar.divsi v3266 c128_i32_1305
  let c1_i32_1311 : BitVec 32 := 1#32
  let v3282 : BitVec 32 := Scalar.subi v3267 c1_i32_1311
  let v3283 : BitVec 32 := Scalar.select v3281 v3282 v3267
  let c128_i32_1312 : BitVec 32 := 128#32
  let v3284 : BitVec 32 := Scalar.muli v3283 c128_i32_1312
  v3284

def k0_mult165 (v3286 : BitVec 32) : BitVec 32 :=
  let c0_i32_1314 : BitVec 32 := 0#32
  let v3288 : BitVec 1 := Scalar.cmpi .sgt v3286 c0_i32_1314
  let v3289 : BitVec 32 := Scalar.extui v3288
  let c0_i32_1315 : BitVec 32 := 0#32
  let v3290 : BitVec 1 := Scalar.cmpi .slt v3286 c0_i32_1315
  let v3291 : BitVec 32 := Scalar.extui v3290
  let v3292 : BitVec 32 := Scalar.subi v3289 v3291
  let c128_i32_1313 : BitVec 32 := 128#32
  let c0_i32_1316 : BitVec 32 := 0#32
  let v3293 : BitVec 1 := Scalar.cmpi .sgt c128_i32_1313 c0_i32_1316
  let v3294 : BitVec 32 := Scalar.extui v3293
  let c0_i32_1317 : BitVec 32 := 0#32
  let v3295 : BitVec 1 := Scalar.cmpi .slt c128_i32_1313 c0_i32_1317
  let v3296 : BitVec 32 := Scalar.extui v3295
  let v3297 : BitVec 32 := Scalar.subi v3294 v3296
  let v3298 : BitVec 1 := Scalar.cmpi .ne v3292 v3297
  let v3299 : BitVec 32 := Scalar.remsi v3286 c128_i32_1313
  let c0_i32_1318 : BitVec 32 := 0#32
  let v3300 : BitVec 1 := Scalar.cmpi .ne v3299 c0_i32_1318
  let v3301 : BitVec 1 := Scalar.andi v3298 v3300
  let v3287 : BitVec 32 := Scalar.divsi v3286 c128_i32_1313
  let c1_i32_1319 : BitVec 32 := 1#32
  let v3302 : BitVec 32 := Scalar.subi v3287 c1_i32_1319
  let v3303 : BitVec 32 := Scalar.select v3301 v3302 v3287
  let c128_i32_1320 : BitVec 32 := 128#32
  let v3304 : BitVec 32 := Scalar.muli v3303 c128_i32_1320
  v3304

def k0_mult166 (v3306 : BitVec 32) : BitVec 32 :=
  let c0_i32_1322 : BitVec 32 := 0#32
  let v3308 : BitVec 1 := Scalar.cmpi .sgt v3306 c0_i32_1322
  let v3309 : BitVec 32 := Scalar.extui v3308
  let c0_i32_1323 : BitVec 32 := 0#32
  let v3310 : BitVec 1 := Scalar.cmpi .slt v3306 c0_i32_1323
  let v3311 : BitVec 32 := Scalar.extui v3310
  let v3312 : BitVec 32 := Scalar.subi v3309 v3311
  let c128_i32_1321 : BitVec 32 := 128#32
  let c0_i32_1324 : BitVec 32 := 0#32
  let v3313 : BitVec 1 := Scalar.cmpi .sgt c128_i32_1321 c0_i32_1324
  let v3314 : BitVec 32 := Scalar.extui v3313
  let c0_i32_1325 : BitVec 32 := 0#32
  let v3315 : BitVec 1 := Scalar.cmpi .slt c128_i32_1321 c0_i32_1325
  let v3316 : BitVec 32 := Scalar.extui v3315
  let v3317 : BitVec 32 := Scalar.subi v3314 v3316
  let v3318 : BitVec 1 := Scalar.cmpi .ne v3312 v3317
  let v3319 : BitVec 32 := Scalar.remsi v3306 c128_i32_1321
  let c0_i32_1326 : BitVec 32 := 0#32
  let v3320 : BitVec 1 := Scalar.cmpi .ne v3319 c0_i32_1326
  let v3321 : BitVec 1 := Scalar.andi v3318 v3320
  let v3307 : BitVec 32 := Scalar.divsi v3306 c128_i32_1321
  let c1_i32_1327 : BitVec 32 := 1#32
  let v3322 : BitVec 32 := Scalar.subi v3307 c1_i32_1327
  let v3323 : BitVec 32 := Scalar.select v3321 v3322 v3307
  let c128_i32_1328 : BitVec 32 := 128#32
  let v3324 : BitVec 32 := Scalar.muli v3323 c128_i32_1328
  v3324

def k0_mult167 (v3326 : BitVec 32) : BitVec 32 :=
  let c0_i32_1330 : BitVec 32 := 0#32
  let v3328 : BitVec 1 := Scalar.cmpi .sgt v3326 c0_i32_1330
  let v3329 : BitVec 32 := Scalar.extui v3328
  let c0_i32_1331 : BitVec 32 := 0#32
  let v3330 : BitVec 1 := Scalar.cmpi .slt v3326 c0_i32_1331
  let v3331 : BitVec 32 := Scalar.extui v3330
  let v3332 : BitVec 32 := Scalar.subi v3329 v3331
  let c128_i32_1329 : BitVec 32 := 128#32
  let c0_i32_1332 : BitVec 32 := 0#32
  let v3333 : BitVec 1 := Scalar.cmpi .sgt c128_i32_1329 c0_i32_1332
  let v3334 : BitVec 32 := Scalar.extui v3333
  let c0_i32_1333 : BitVec 32 := 0#32
  let v3335 : BitVec 1 := Scalar.cmpi .slt c128_i32_1329 c0_i32_1333
  let v3336 : BitVec 32 := Scalar.extui v3335
  let v3337 : BitVec 32 := Scalar.subi v3334 v3336
  let v3338 : BitVec 1 := Scalar.cmpi .ne v3332 v3337
  let v3339 : BitVec 32 := Scalar.remsi v3326 c128_i32_1329
  let c0_i32_1334 : BitVec 32 := 0#32
  let v3340 : BitVec 1 := Scalar.cmpi .ne v3339 c0_i32_1334
  let v3341 : BitVec 1 := Scalar.andi v3338 v3340
  let v3327 : BitVec 32 := Scalar.divsi v3326 c128_i32_1329
  let c1_i32_1335 : BitVec 32 := 1#32
  let v3342 : BitVec 32 := Scalar.subi v3327 c1_i32_1335
  let v3343 : BitVec 32 := Scalar.select v3341 v3342 v3327
  let c128_i32_1336 : BitVec 32 := 128#32
  let v3344 : BitVec 32 := Scalar.muli v3343 c128_i32_1336
  v3344

def k0_mult168 (v3346 : BitVec 32) : BitVec 32 :=
  let c0_i32_1338 : BitVec 32 := 0#32
  let v3348 : BitVec 1 := Scalar.cmpi .sgt v3346 c0_i32_1338
  let v3349 : BitVec 32 := Scalar.extui v3348
  let c0_i32_1339 : BitVec 32 := 0#32
  let v3350 : BitVec 1 := Scalar.cmpi .slt v3346 c0_i32_1339
  let v3351 : BitVec 32 := Scalar.extui v3350
  let v3352 : BitVec 32 := Scalar.subi v3349 v3351
  let c128_i32_1337 : BitVec 32 := 128#32
  let c0_i32_1340 : BitVec 32 := 0#32
  let v3353 : BitVec 1 := Scalar.cmpi .sgt c128_i32_1337 c0_i32_1340
  let v3354 : BitVec 32 := Scalar.extui v3353
  let c0_i32_1341 : BitVec 32 := 0#32
  let v3355 : BitVec 1 := Scalar.cmpi .slt c128_i32_1337 c0_i32_1341
  let v3356 : BitVec 32 := Scalar.extui v3355
  let v3357 : BitVec 32 := Scalar.subi v3354 v3356
  let v3358 : BitVec 1 := Scalar.cmpi .ne v3352 v3357
  let v3359 : BitVec 32 := Scalar.remsi v3346 c128_i32_1337
  let c0_i32_1342 : BitVec 32 := 0#32
  let v3360 : BitVec 1 := Scalar.cmpi .ne v3359 c0_i32_1342
  let v3361 : BitVec 1 := Scalar.andi v3358 v3360
  let v3347 : BitVec 32 := Scalar.divsi v3346 c128_i32_1337
  let c1_i32_1343 : BitVec 32 := 1#32
  let v3362 : BitVec 32 := Scalar.subi v3347 c1_i32_1343
  let v3363 : BitVec 32 := Scalar.select v3361 v3362 v3347
  let c128_i32_1344 : BitVec 32 := 128#32
  let v3364 : BitVec 32 := Scalar.muli v3363 c128_i32_1344
  v3364

def k0_mult169 (v3366 : BitVec 32) : BitVec 32 :=
  let c0_i32_1346 : BitVec 32 := 0#32
  let v3368 : BitVec 1 := Scalar.cmpi .sgt v3366 c0_i32_1346
  let v3369 : BitVec 32 := Scalar.extui v3368
  let c0_i32_1347 : BitVec 32 := 0#32
  let v3370 : BitVec 1 := Scalar.cmpi .slt v3366 c0_i32_1347
  let v3371 : BitVec 32 := Scalar.extui v3370
  let v3372 : BitVec 32 := Scalar.subi v3369 v3371
  let c128_i32_1345 : BitVec 32 := 128#32
  let c0_i32_1348 : BitVec 32 := 0#32
  let v3373 : BitVec 1 := Scalar.cmpi .sgt c128_i32_1345 c0_i32_1348
  let v3374 : BitVec 32 := Scalar.extui v3373
  let c0_i32_1349 : BitVec 32 := 0#32
  let v3375 : BitVec 1 := Scalar.cmpi .slt c128_i32_1345 c0_i32_1349
  let v3376 : BitVec 32 := Scalar.extui v3375
  let v3377 : BitVec 32 := Scalar.subi v3374 v3376
  let v3378 : BitVec 1 := Scalar.cmpi .ne v3372 v3377
  let v3379 : BitVec 32 := Scalar.remsi v3366 c128_i32_1345
  let c0_i32_1350 : BitVec 32 := 0#32
  let v3380 : BitVec 1 := Scalar.cmpi .ne v3379 c0_i32_1350
  let v3381 : BitVec 1 := Scalar.andi v3378 v3380
  let v3367 : BitVec 32 := Scalar.divsi v3366 c128_i32_1345
  let c1_i32_1351 : BitVec 32 := 1#32
  let v3382 : BitVec 32 := Scalar.subi v3367 c1_i32_1351
  let v3383 : BitVec 32 := Scalar.select v3381 v3382 v3367
  let c128_i32_1352 : BitVec 32 := 128#32
  let v3384 : BitVec 32 := Scalar.muli v3383 c128_i32_1352
  v3384

def k0_mult170 (v3386 : BitVec 32) : BitVec 32 :=
  let c0_i32_1354 : BitVec 32 := 0#32
  let v3388 : BitVec 1 := Scalar.cmpi .sgt v3386 c0_i32_1354
  let v3389 : BitVec 32 := Scalar.extui v3388
  let c0_i32_1355 : BitVec 32 := 0#32
  let v3390 : BitVec 1 := Scalar.cmpi .slt v3386 c0_i32_1355
  let v3391 : BitVec 32 := Scalar.extui v3390
  let v3392 : BitVec 32 := Scalar.subi v3389 v3391
  let c128_i32_1353 : BitVec 32 := 128#32
  let c0_i32_1356 : BitVec 32 := 0#32
  let v3393 : BitVec 1 := Scalar.cmpi .sgt c128_i32_1353 c0_i32_1356
  let v3394 : BitVec 32 := Scalar.extui v3393
  let c0_i32_1357 : BitVec 32 := 0#32
  let v3395 : BitVec 1 := Scalar.cmpi .slt c128_i32_1353 c0_i32_1357
  let v3396 : BitVec 32 := Scalar.extui v3395
  let v3397 : BitVec 32 := Scalar.subi v3394 v3396
  let v3398 : BitVec 1 := Scalar.cmpi .ne v3392 v3397
  let v3399 : BitVec 32 := Scalar.remsi v3386 c128_i32_1353
  let c0_i32_1358 : BitVec 32 := 0#32
  let v3400 : BitVec 1 := Scalar.cmpi .ne v3399 c0_i32_1358
  let v3401 : BitVec 1 := Scalar.andi v3398 v3400
  let v3387 : BitVec 32 := Scalar.divsi v3386 c128_i32_1353
  let c1_i32_1359 : BitVec 32 := 1#32
  let v3402 : BitVec 32 := Scalar.subi v3387 c1_i32_1359
  let v3403 : BitVec 32 := Scalar.select v3401 v3402 v3387
  let c128_i32_1360 : BitVec 32 := 128#32
  let v3404 : BitVec 32 := Scalar.muli v3403 c128_i32_1360
  v3404

def k0_mult171 (v3406 : BitVec 32) : BitVec 32 :=
  let c0_i32_1362 : BitVec 32 := 0#32
  let v3408 : BitVec 1 := Scalar.cmpi .sgt v3406 c0_i32_1362
  let v3409 : BitVec 32 := Scalar.extui v3408
  let c0_i32_1363 : BitVec 32 := 0#32
  let v3410 : BitVec 1 := Scalar.cmpi .slt v3406 c0_i32_1363
  let v3411 : BitVec 32 := Scalar.extui v3410
  let v3412 : BitVec 32 := Scalar.subi v3409 v3411
  let c128_i32_1361 : BitVec 32 := 128#32
  let c0_i32_1364 : BitVec 32 := 0#32
  let v3413 : BitVec 1 := Scalar.cmpi .sgt c128_i32_1361 c0_i32_1364
  let v3414 : BitVec 32 := Scalar.extui v3413
  let c0_i32_1365 : BitVec 32 := 0#32
  let v3415 : BitVec 1 := Scalar.cmpi .slt c128_i32_1361 c0_i32_1365
  let v3416 : BitVec 32 := Scalar.extui v3415
  let v3417 : BitVec 32 := Scalar.subi v3414 v3416
  let v3418 : BitVec 1 := Scalar.cmpi .ne v3412 v3417
  let v3419 : BitVec 32 := Scalar.remsi v3406 c128_i32_1361
  let c0_i32_1366 : BitVec 32 := 0#32
  let v3420 : BitVec 1 := Scalar.cmpi .ne v3419 c0_i32_1366
  let v3421 : BitVec 1 := Scalar.andi v3418 v3420
  let v3407 : BitVec 32 := Scalar.divsi v3406 c128_i32_1361
  let c1_i32_1367 : BitVec 32 := 1#32
  let v3422 : BitVec 32 := Scalar.subi v3407 c1_i32_1367
  let v3423 : BitVec 32 := Scalar.select v3421 v3422 v3407
  let c128_i32_1368 : BitVec 32 := 128#32
  let v3424 : BitVec 32 := Scalar.muli v3423 c128_i32_1368
  v3424

def k0_mult172 (v3426 : BitVec 32) : BitVec 32 :=
  let c0_i32_1370 : BitVec 32 := 0#32
  let v3428 : BitVec 1 := Scalar.cmpi .sgt v3426 c0_i32_1370
  let v3429 : BitVec 32 := Scalar.extui v3428
  let c0_i32_1371 : BitVec 32 := 0#32
  let v3430 : BitVec 1 := Scalar.cmpi .slt v3426 c0_i32_1371
  let v3431 : BitVec 32 := Scalar.extui v3430
  let v3432 : BitVec 32 := Scalar.subi v3429 v3431
  let c128_i32_1369 : BitVec 32 := 128#32
  let c0_i32_1372 : BitVec 32 := 0#32
  let v3433 : BitVec 1 := Scalar.cmpi .sgt c128_i32_1369 c0_i32_1372
  let v3434 : BitVec 32 := Scalar.extui v3433
  let c0_i32_1373 : BitVec 32 := 0#32
  let v3435 : BitVec 1 := Scalar.cmpi .slt c128_i32_1369 c0_i32_1373
  let v3436 : BitVec 32 := Scalar.extui v3435
  let v3437 : BitVec 32 := Scalar.subi v3434 v3436
  let v3438 : BitVec 1 := Scalar.cmpi .ne v3432 v3437
  let v3439 : BitVec 32 := Scalar.remsi v3426 c128_i32_1369
  let c0_i32_1374 : BitVec 32 := 0#32
  let v3440 : BitVec 1 := Scalar.cmpi .ne v3439 c0_i32_1374
  let v3441 : BitVec 1 := Scalar.andi v3438 v3440
  let v3427 : BitVec 32 := Scalar.divsi v3426 c128_i32_1369
  let c1_i32_1375 : BitVec 32 := 1#32
  let v3442 : BitVec 32 := Scalar.subi v3427 c1_i32_1375
  let v3443 : BitVec 32 := Scalar.select v3441 v3442 v3427
  let c128_i32_1376 : BitVec 32 := 128#32
  let v3444 : BitVec 32 := Scalar.muli v3443 c128_i32_1376
  v3444

def k0_mult173 (v3446 : BitVec 32) : BitVec 32 :=
  let c0_i32_1378 : BitVec 32 := 0#32
  let v3448 : BitVec 1 := Scalar.cmpi .sgt v3446 c0_i32_1378
  let v3449 : BitVec 32 := Scalar.extui v3448
  let c0_i32_1379 : BitVec 32 := 0#32
  let v3450 : BitVec 1 := Scalar.cmpi .slt v3446 c0_i32_1379
  let v3451 : BitVec 32 := Scalar.extui v3450
  let v3452 : BitVec 32 := Scalar.subi v3449 v3451
  let c128_i32_1377 : BitVec 32 := 128#32
  let c0_i32_1380 : BitVec 32 := 0#32
  let v3453 : BitVec 1 := Scalar.cmpi .sgt c128_i32_1377 c0_i32_1380
  let v3454 : BitVec 32 := Scalar.extui v3453
  let c0_i32_1381 : BitVec 32 := 0#32
  let v3455 : BitVec 1 := Scalar.cmpi .slt c128_i32_1377 c0_i32_1381
  let v3456 : BitVec 32 := Scalar.extui v3455
  let v3457 : BitVec 32 := Scalar.subi v3454 v3456
  let v3458 : BitVec 1 := Scalar.cmpi .ne v3452 v3457
  let v3459 : BitVec 32 := Scalar.remsi v3446 c128_i32_1377
  let c0_i32_1382 : BitVec 32 := 0#32
  let v3460 : BitVec 1 := Scalar.cmpi .ne v3459 c0_i32_1382
  let v3461 : BitVec 1 := Scalar.andi v3458 v3460
  let v3447 : BitVec 32 := Scalar.divsi v3446 c128_i32_1377
  let c1_i32_1383 : BitVec 32 := 1#32
  let v3462 : BitVec 32 := Scalar.subi v3447 c1_i32_1383
  let v3463 : BitVec 32 := Scalar.select v3461 v3462 v3447
  let c128_i32_1384 : BitVec 32 := 128#32
  let v3464 : BitVec 32 := Scalar.muli v3463 c128_i32_1384
  v3464

def k0_mult174 (v3466 : BitVec 32) : BitVec 32 :=
  let c0_i32_1386 : BitVec 32 := 0#32
  let v3468 : BitVec 1 := Scalar.cmpi .sgt v3466 c0_i32_1386
  let v3469 : BitVec 32 := Scalar.extui v3468
  let c0_i32_1387 : BitVec 32 := 0#32
  let v3470 : BitVec 1 := Scalar.cmpi .slt v3466 c0_i32_1387
  let v3471 : BitVec 32 := Scalar.extui v3470
  let v3472 : BitVec 32 := Scalar.subi v3469 v3471
  let c128_i32_1385 : BitVec 32 := 128#32
  let c0_i32_1388 : BitVec 32 := 0#32
  let v3473 : BitVec 1 := Scalar.cmpi .sgt c128_i32_1385 c0_i32_1388
  let v3474 : BitVec 32 := Scalar.extui v3473
  let c0_i32_1389 : BitVec 32 := 0#32
  let v3475 : BitVec 1 := Scalar.cmpi .slt c128_i32_1385 c0_i32_1389
  let v3476 : BitVec 32 := Scalar.extui v3475
  let v3477 : BitVec 32 := Scalar.subi v3474 v3476
  let v3478 : BitVec 1 := Scalar.cmpi .ne v3472 v3477
  let v3479 : BitVec 32 := Scalar.remsi v3466 c128_i32_1385
  let c0_i32_1390 : BitVec 32 := 0#32
  let v3480 : BitVec 1 := Scalar.cmpi .ne v3479 c0_i32_1390
  let v3481 : BitVec 1 := Scalar.andi v3478 v3480
  let v3467 : BitVec 32 := Scalar.divsi v3466 c128_i32_1385
  let c1_i32_1391 : BitVec 32 := 1#32
  let v3482 : BitVec 32 := Scalar.subi v3467 c1_i32_1391
  let v3483 : BitVec 32 := Scalar.select v3481 v3482 v3467
  let c128_i32_1392 : BitVec 32 := 128#32
  let v3484 : BitVec 32 := Scalar.muli v3483 c128_i32_1392
  v3484

def k0_mult175 (v3486 : BitVec 32) : BitVec 32 :=
  let c0_i32_1394 : BitVec 32 := 0#32
  let v3488 : BitVec 1 := Scalar.cmpi .sgt v3486 c0_i32_1394
  let v3489 : BitVec 32 := Scalar.extui v3488
  let c0_i32_1395 : BitVec 32 := 0#32
  let v3490 : BitVec 1 := Scalar.cmpi .slt v3486 c0_i32_1395
  let v3491 : BitVec 32 := Scalar.extui v3490
  let v3492 : BitVec 32 := Scalar.subi v3489 v3491
  let c128_i32_1393 : BitVec 32 := 128#32
  let c0_i32_1396 : BitVec 32 := 0#32
  let v3493 : BitVec 1 := Scalar.cmpi .sgt c128_i32_1393 c0_i32_1396
  let v3494 : BitVec 32 := Scalar.extui v3493
  let c0_i32_1397 : BitVec 32 := 0#32
  let v3495 : BitVec 1 := Scalar.cmpi .slt c128_i32_1393 c0_i32_1397
  let v3496 : BitVec 32 := Scalar.extui v3495
  let v3497 : BitVec 32 := Scalar.subi v3494 v3496
  let v3498 : BitVec 1 := Scalar.cmpi .ne v3492 v3497
  let v3499 : BitVec 32 := Scalar.remsi v3486 c128_i32_1393
  let c0_i32_1398 : BitVec 32 := 0#32
  let v3500 : BitVec 1 := Scalar.cmpi .ne v3499 c0_i32_1398
  let v3501 : BitVec 1 := Scalar.andi v3498 v3500
  let v3487 : BitVec 32 := Scalar.divsi v3486 c128_i32_1393
  let c1_i32_1399 : BitVec 32 := 1#32
  let v3502 : BitVec 32 := Scalar.subi v3487 c1_i32_1399
  let v3503 : BitVec 32 := Scalar.select v3501 v3502 v3487
  let c128_i32_1400 : BitVec 32 := 128#32
  let v3504 : BitVec 32 := Scalar.muli v3503 c128_i32_1400
  v3504

def k0_mult176 (v3506 : BitVec 32) : BitVec 32 :=
  let c0_i32_1402 : BitVec 32 := 0#32
  let v3508 : BitVec 1 := Scalar.cmpi .sgt v3506 c0_i32_1402
  let v3509 : BitVec 32 := Scalar.extui v3508
  let c0_i32_1403 : BitVec 32 := 0#32
  let v3510 : BitVec 1 := Scalar.cmpi .slt v3506 c0_i32_1403
  let v3511 : BitVec 32 := Scalar.extui v3510
  let v3512 : BitVec 32 := Scalar.subi v3509 v3511
  let c128_i32_1401 : BitVec 32 := 128#32
  let c0_i32_1404 : BitVec 32 := 0#32
  let v3513 : BitVec 1 := Scalar.cmpi .sgt c128_i32_1401 c0_i32_1404
  let v3514 : BitVec 32 := Scalar.extui v3513
  let c0_i32_1405 : BitVec 32 := 0#32
  let v3515 : BitVec 1 := Scalar.cmpi .slt c128_i32_1401 c0_i32_1405
  let v3516 : BitVec 32 := Scalar.extui v3515
  let v3517 : BitVec 32 := Scalar.subi v3514 v3516
  let v3518 : BitVec 1 := Scalar.cmpi .ne v3512 v3517
  let v3519 : BitVec 32 := Scalar.remsi v3506 c128_i32_1401
  let c0_i32_1406 : BitVec 32 := 0#32
  let v3520 : BitVec 1 := Scalar.cmpi .ne v3519 c0_i32_1406
  let v3521 : BitVec 1 := Scalar.andi v3518 v3520
  let v3507 : BitVec 32 := Scalar.divsi v3506 c128_i32_1401
  let c1_i32_1407 : BitVec 32 := 1#32
  let v3522 : BitVec 32 := Scalar.subi v3507 c1_i32_1407
  let v3523 : BitVec 32 := Scalar.select v3521 v3522 v3507
  let c128_i32_1408 : BitVec 32 := 128#32
  let v3524 : BitVec 32 := Scalar.muli v3523 c128_i32_1408
  v3524

def k0_mult177 (v3526 : BitVec 32) : BitVec 32 :=
  let c0_i32_1410 : BitVec 32 := 0#32
  let v3528 : BitVec 1 := Scalar.cmpi .sgt v3526 c0_i32_1410
  let v3529 : BitVec 32 := Scalar.extui v3528
  let c0_i32_1411 : BitVec 32 := 0#32
  let v3530 : BitVec 1 := Scalar.cmpi .slt v3526 c0_i32_1411
  let v3531 : BitVec 32 := Scalar.extui v3530
  let v3532 : BitVec 32 := Scalar.subi v3529 v3531
  let c128_i32_1409 : BitVec 32 := 128#32
  let c0_i32_1412 : BitVec 32 := 0#32
  let v3533 : BitVec 1 := Scalar.cmpi .sgt c128_i32_1409 c0_i32_1412
  let v3534 : BitVec 32 := Scalar.extui v3533
  let c0_i32_1413 : BitVec 32 := 0#32
  let v3535 : BitVec 1 := Scalar.cmpi .slt c128_i32_1409 c0_i32_1413
  let v3536 : BitVec 32 := Scalar.extui v3535
  let v3537 : BitVec 32 := Scalar.subi v3534 v3536
  let v3538 : BitVec 1 := Scalar.cmpi .ne v3532 v3537
  let v3539 : BitVec 32 := Scalar.remsi v3526 c128_i32_1409
  let c0_i32_1414 : BitVec 32 := 0#32
  let v3540 : BitVec 1 := Scalar.cmpi .ne v3539 c0_i32_1414
  let v3541 : BitVec 1 := Scalar.andi v3538 v3540
  let v3527 : BitVec 32 := Scalar.divsi v3526 c128_i32_1409
  let c1_i32_1415 : BitVec 32 := 1#32
  let v3542 : BitVec 32 := Scalar.subi v3527 c1_i32_1415
  let v3543 : BitVec 32 := Scalar.select v3541 v3542 v3527
  let c128_i32_1416 : BitVec 32 := 128#32
  let v3544 : BitVec 32 := Scalar.muli v3543 c128_i32_1416
  v3544

def k0_mult178 (v3546 : BitVec 32) : BitVec 32 :=
  let c0_i32_1418 : BitVec 32 := 0#32
  let v3548 : BitVec 1 := Scalar.cmpi .sgt v3546 c0_i32_1418
  let v3549 : BitVec 32 := Scalar.extui v3548
  let c0_i32_1419 : BitVec 32 := 0#32
  let v3550 : BitVec 1 := Scalar.cmpi .slt v3546 c0_i32_1419
  let v3551 : BitVec 32 := Scalar.extui v3550
  let v3552 : BitVec 32 := Scalar.subi v3549 v3551
  let c128_i32_1417 : BitVec 32 := 128#32
  let c0_i32_1420 : BitVec 32 := 0#32
  let v3553 : BitVec 1 := Scalar.cmpi .sgt c128_i32_1417 c0_i32_1420
  let v3554 : BitVec 32 := Scalar.extui v3553
  let c0_i32_1421 : BitVec 32 := 0#32
  let v3555 : BitVec 1 := Scalar.cmpi .slt c128_i32_1417 c0_i32_1421
  let v3556 : BitVec 32 := Scalar.extui v3555
  let v3557 : BitVec 32 := Scalar.subi v3554 v3556
  let v3558 : BitVec 1 := Scalar.cmpi .ne v3552 v3557
  let v3559 : BitVec 32 := Scalar.remsi v3546 c128_i32_1417
  let c0_i32_1422 : BitVec 32 := 0#32
  let v3560 : BitVec 1 := Scalar.cmpi .ne v3559 c0_i32_1422
  let v3561 : BitVec 1 := Scalar.andi v3558 v3560
  let v3547 : BitVec 32 := Scalar.divsi v3546 c128_i32_1417
  let c1_i32_1423 : BitVec 32 := 1#32
  let v3562 : BitVec 32 := Scalar.subi v3547 c1_i32_1423
  let v3563 : BitVec 32 := Scalar.select v3561 v3562 v3547
  let c128_i32_1424 : BitVec 32 := 128#32
  let v3564 : BitVec 32 := Scalar.muli v3563 c128_i32_1424
  v3564

def k0_mult179 (v3566 : BitVec 32) : BitVec 32 :=
  let c0_i32_1426 : BitVec 32 := 0#32
  let v3568 : BitVec 1 := Scalar.cmpi .sgt v3566 c0_i32_1426
  let v3569 : BitVec 32 := Scalar.extui v3568
  let c0_i32_1427 : BitVec 32 := 0#32
  let v3570 : BitVec 1 := Scalar.cmpi .slt v3566 c0_i32_1427
  let v3571 : BitVec 32 := Scalar.extui v3570
  let v3572 : BitVec 32 := Scalar.subi v3569 v3571
  let c128_i32_1425 : BitVec 32 := 128#32
  let c0_i32_1428 : BitVec 32 := 0#32
  let v3573 : BitVec 1 := Scalar.cmpi .sgt c128_i32_1425 c0_i32_1428
  let v3574 : BitVec 32 := Scalar.extui v3573
  let c0_i32_1429 : BitVec 32 := 0#32
  let v3575 : BitVec 1 := Scalar.cmpi .slt c128_i32_1425 c0_i32_1429
  let v3576 : BitVec 32 := Scalar.extui v3575
  let v3577 : BitVec 32 := Scalar.subi v3574 v3576
  let v3578 : BitVec 1 := Scalar.cmpi .ne v3572 v3577
  let v3579 : BitVec 32 := Scalar.remsi v3566 c128_i32_1425
  let c0_i32_1430 : BitVec 32 := 0#32
  let v3580 : BitVec 1 := Scalar.cmpi .ne v3579 c0_i32_1430
  let v3581 : BitVec 1 := Scalar.andi v3578 v3580
  let v3567 : BitVec 32 := Scalar.divsi v3566 c128_i32_1425
  let c1_i32_1431 : BitVec 32 := 1#32
  let v3582 : BitVec 32 := Scalar.subi v3567 c1_i32_1431
  let v3583 : BitVec 32 := Scalar.select v3581 v3582 v3567
  let c128_i32_1432 : BitVec 32 := 128#32
  let v3584 : BitVec 32 := Scalar.muli v3583 c128_i32_1432
  v3584

def k0_mult180 (v3586 : BitVec 32) : BitVec 32 :=
  let c0_i32_1434 : BitVec 32 := 0#32
  let v3588 : BitVec 1 := Scalar.cmpi .sgt v3586 c0_i32_1434
  let v3589 : BitVec 32 := Scalar.extui v3588
  let c0_i32_1435 : BitVec 32 := 0#32
  let v3590 : BitVec 1 := Scalar.cmpi .slt v3586 c0_i32_1435
  let v3591 : BitVec 32 := Scalar.extui v3590
  let v3592 : BitVec 32 := Scalar.subi v3589 v3591
  let c128_i32_1433 : BitVec 32 := 128#32
  let c0_i32_1436 : BitVec 32 := 0#32
  let v3593 : BitVec 1 := Scalar.cmpi .sgt c128_i32_1433 c0_i32_1436
  let v3594 : BitVec 32 := Scalar.extui v3593
  let c0_i32_1437 : BitVec 32 := 0#32
  let v3595 : BitVec 1 := Scalar.cmpi .slt c128_i32_1433 c0_i32_1437
  let v3596 : BitVec 32 := Scalar.extui v3595
  let v3597 : BitVec 32 := Scalar.subi v3594 v3596
  let v3598 : BitVec 1 := Scalar.cmpi .ne v3592 v3597
  let v3599 : BitVec 32 := Scalar.remsi v3586 c128_i32_1433
  let c0_i32_1438 : BitVec 32 := 0#32
  let v3600 : BitVec 1 := Scalar.cmpi .ne v3599 c0_i32_1438
  let v3601 : BitVec 1 := Scalar.andi v3598 v3600
  let v3587 : BitVec 32 := Scalar.divsi v3586 c128_i32_1433
  let c1_i32_1439 : BitVec 32 := 1#32
  let v3602 : BitVec 32 := Scalar.subi v3587 c1_i32_1439
  let v3603 : BitVec 32 := Scalar.select v3601 v3602 v3587
  let c128_i32_1440 : BitVec 32 := 128#32
  let v3604 : BitVec 32 := Scalar.muli v3603 c128_i32_1440
  v3604

def k0_mult181 (v3606 : BitVec 32) : BitVec 32 :=
  let c0_i32_1442 : BitVec 32 := 0#32
  let v3608 : BitVec 1 := Scalar.cmpi .sgt v3606 c0_i32_1442
  let v3609 : BitVec 32 := Scalar.extui v3608
  let c0_i32_1443 : BitVec 32 := 0#32
  let v3610 : BitVec 1 := Scalar.cmpi .slt v3606 c0_i32_1443
  let v3611 : BitVec 32 := Scalar.extui v3610
  let v3612 : BitVec 32 := Scalar.subi v3609 v3611
  let c128_i32_1441 : BitVec 32 := 128#32
  let c0_i32_1444 : BitVec 32 := 0#32
  let v3613 : BitVec 1 := Scalar.cmpi .sgt c128_i32_1441 c0_i32_1444
  let v3614 : BitVec 32 := Scalar.extui v3613
  let c0_i32_1445 : BitVec 32 := 0#32
  let v3615 : BitVec 1 := Scalar.cmpi .slt c128_i32_1441 c0_i32_1445
  let v3616 : BitVec 32 := Scalar.extui v3615
  let v3617 : BitVec 32 := Scalar.subi v3614 v3616
  let v3618 : BitVec 1 := Scalar.cmpi .ne v3612 v3617
  let v3619 : BitVec 32 := Scalar.remsi v3606 c128_i32_1441
  let c0_i32_1446 : BitVec 32 := 0#32
  let v3620 : BitVec 1 := Scalar.cmpi .ne v3619 c0_i32_1446
  let v3621 : BitVec 1 := Scalar.andi v3618 v3620
  let v3607 : BitVec 32 := Scalar.divsi v3606 c128_i32_1441
  let c1_i32_1447 : BitVec 32 := 1#32
  let v3622 : BitVec 32 := Scalar.subi v3607 c1_i32_1447
  let v3623 : BitVec 32 := Scalar.select v3621 v3622 v3607
  let c128_i32_1448 : BitVec 32 := 128#32
  let v3624 : BitVec 32 := Scalar.muli v3623 c128_i32_1448
  v3624

def k0_mult182 (v3626 : BitVec 32) : BitVec 32 :=
  let c0_i32_1450 : BitVec 32 := 0#32
  let v3628 : BitVec 1 := Scalar.cmpi .sgt v3626 c0_i32_1450
  let v3629 : BitVec 32 := Scalar.extui v3628
  let c0_i32_1451 : BitVec 32 := 0#32
  let v3630 : BitVec 1 := Scalar.cmpi .slt v3626 c0_i32_1451
  let v3631 : BitVec 32 := Scalar.extui v3630
  let v3632 : BitVec 32 := Scalar.subi v3629 v3631
  let c128_i32_1449 : BitVec 32 := 128#32
  let c0_i32_1452 : BitVec 32 := 0#32
  let v3633 : BitVec 1 := Scalar.cmpi .sgt c128_i32_1449 c0_i32_1452
  let v3634 : BitVec 32 := Scalar.extui v3633
  let c0_i32_1453 : BitVec 32 := 0#32
  let v3635 : BitVec 1 := Scalar.cmpi .slt c128_i32_1449 c0_i32_1453
  let v3636 : BitVec 32 := Scalar.extui v3635
  let v3637 : BitVec 32 := Scalar.subi v3634 v3636
  let v3638 : BitVec 1 := Scalar.cmpi .ne v3632 v3637
  let v3639 : BitVec 32 := Scalar.remsi v3626 c128_i32_1449
  let c0_i32_1454 : BitVec 32 := 0#32
  let v3640 : BitVec 1 := Scalar.cmpi .ne v3639 c0_i32_1454
  let v3641 : BitVec 1 := Scalar.andi v3638 v3640
  let v3627 : BitVec 32 := Scalar.divsi v3626 c128_i32_1449
  let c1_i32_1455 : BitVec 32 := 1#32
  let v3642 : BitVec 32 := Scalar.subi v3627 c1_i32_1455
  let v3643 : BitVec 32 := Scalar.select v3641 v3642 v3627
  let c128_i32_1456 : BitVec 32 := 128#32
  let v3644 : BitVec 32 := Scalar.muli v3643 c128_i32_1456
  v3644

def k0_mult183 (v3646 : BitVec 32) : BitVec 32 :=
  let c0_i32_1458 : BitVec 32 := 0#32
  let v3648 : BitVec 1 := Scalar.cmpi .sgt v3646 c0_i32_1458
  let v3649 : BitVec 32 := Scalar.extui v3648
  let c0_i32_1459 : BitVec 32 := 0#32
  let v3650 : BitVec 1 := Scalar.cmpi .slt v3646 c0_i32_1459
  let v3651 : BitVec 32 := Scalar.extui v3650
  let v3652 : BitVec 32 := Scalar.subi v3649 v3651
  let c128_i32_1457 : BitVec 32 := 128#32
  let c0_i32_1460 : BitVec 32 := 0#32
  let v3653 : BitVec 1 := Scalar.cmpi .sgt c128_i32_1457 c0_i32_1460
  let v3654 : BitVec 32 := Scalar.extui v3653
  let c0_i32_1461 : BitVec 32 := 0#32
  let v3655 : BitVec 1 := Scalar.cmpi .slt c128_i32_1457 c0_i32_1461
  let v3656 : BitVec 32 := Scalar.extui v3655
  let v3657 : BitVec 32 := Scalar.subi v3654 v3656
  let v3658 : BitVec 1 := Scalar.cmpi .ne v3652 v3657
  let v3659 : BitVec 32 := Scalar.remsi v3646 c128_i32_1457
  let c0_i32_1462 : BitVec 32 := 0#32
  let v3660 : BitVec 1 := Scalar.cmpi .ne v3659 c0_i32_1462
  let v3661 : BitVec 1 := Scalar.andi v3658 v3660
  let v3647 : BitVec 32 := Scalar.divsi v3646 c128_i32_1457
  let c1_i32_1463 : BitVec 32 := 1#32
  let v3662 : BitVec 32 := Scalar.subi v3647 c1_i32_1463
  let v3663 : BitVec 32 := Scalar.select v3661 v3662 v3647
  let c128_i32_1464 : BitVec 32 := 128#32
  let v3664 : BitVec 32 := Scalar.muli v3663 c128_i32_1464
  v3664

def k0_mult184 (v3666 : BitVec 32) : BitVec 32 :=
  let c0_i32_1466 : BitVec 32 := 0#32
  let v3668 : BitVec 1 := Scalar.cmpi .sgt v3666 c0_i32_1466
  let v3669 : BitVec 32 := Scalar.extui v3668
  let c0_i32_1467 : BitVec 32 := 0#32
  let v3670 : BitVec 1 := Scalar.cmpi .slt v3666 c0_i32_1467
  let v3671 : BitVec 32 := Scalar.extui v3670
  let v3672 : BitVec 32 := Scalar.subi v3669 v3671
  let c128_i32_1465 : BitVec 32 := 128#32
  let c0_i32_1468 : BitVec 32 := 0#32
  let v3673 : BitVec 1 := Scalar.cmpi .sgt c128_i32_1465 c0_i32_1468
  let v3674 : BitVec 32 := Scalar.extui v3673
  let c0_i32_1469 : BitVec 32 := 0#32
  let v3675 : BitVec 1 := Scalar.cmpi .slt c128_i32_1465 c0_i32_1469
  let v3676 : BitVec 32 := Scalar.extui v3675
  let v3677 : BitVec 32 := Scalar.subi v3674 v3676
  let v3678 : BitVec 1 := Scalar.cmpi .ne v3672 v3677
  let v3679 : BitVec 32 := Scalar.remsi v3666 c128_i32_1465
  let c0_i32_1470 : BitVec 32 := 0#32
  let v3680 : BitVec 1 := Scalar.cmpi .ne v3679 c0_i32_1470
  let v3681 : BitVec 1 := Scalar.andi v3678 v3680
  let v3667 : BitVec 32 := Scalar.divsi v3666 c128_i32_1465
  let c1_i32_1471 : BitVec 32 := 1#32
  let v3682 : BitVec 32 := Scalar.subi v3667 c1_i32_1471
  let v3683 : BitVec 32 := Scalar.select v3681 v3682 v3667
  let c128_i32_1472 : BitVec 32 := 128#32
  let v3684 : BitVec 32 := Scalar.muli v3683 c128_i32_1472
  v3684

def k0_mult185 (v3686 : BitVec 32) : BitVec 32 :=
  let c0_i32_1474 : BitVec 32 := 0#32
  let v3688 : BitVec 1 := Scalar.cmpi .sgt v3686 c0_i32_1474
  let v3689 : BitVec 32 := Scalar.extui v3688
  let c0_i32_1475 : BitVec 32 := 0#32
  let v3690 : BitVec 1 := Scalar.cmpi .slt v3686 c0_i32_1475
  let v3691 : BitVec 32 := Scalar.extui v3690
  let v3692 : BitVec 32 := Scalar.subi v3689 v3691
  let c128_i32_1473 : BitVec 32 := 128#32
  let c0_i32_1476 : BitVec 32 := 0#32
  let v3693 : BitVec 1 := Scalar.cmpi .sgt c128_i32_1473 c0_i32_1476
  let v3694 : BitVec 32 := Scalar.extui v3693
  let c0_i32_1477 : BitVec 32 := 0#32
  let v3695 : BitVec 1 := Scalar.cmpi .slt c128_i32_1473 c0_i32_1477
  let v3696 : BitVec 32 := Scalar.extui v3695
  let v3697 : BitVec 32 := Scalar.subi v3694 v3696
  let v3698 : BitVec 1 := Scalar.cmpi .ne v3692 v3697
  let v3699 : BitVec 32 := Scalar.remsi v3686 c128_i32_1473
  let c0_i32_1478 : BitVec 32 := 0#32
  let v3700 : BitVec 1 := Scalar.cmpi .ne v3699 c0_i32_1478
  let v3701 : BitVec 1 := Scalar.andi v3698 v3700
  let v3687 : BitVec 32 := Scalar.divsi v3686 c128_i32_1473
  let c1_i32_1479 : BitVec 32 := 1#32
  let v3702 : BitVec 32 := Scalar.subi v3687 c1_i32_1479
  let v3703 : BitVec 32 := Scalar.select v3701 v3702 v3687
  let c128_i32_1480 : BitVec 32 := 128#32
  let v3704 : BitVec 32 := Scalar.muli v3703 c128_i32_1480
  v3704

def k0_mult186 (v3706 : BitVec 32) : BitVec 32 :=
  let c0_i32_1482 : BitVec 32 := 0#32
  let v3708 : BitVec 1 := Scalar.cmpi .sgt v3706 c0_i32_1482
  let v3709 : BitVec 32 := Scalar.extui v3708
  let c0_i32_1483 : BitVec 32 := 0#32
  let v3710 : BitVec 1 := Scalar.cmpi .slt v3706 c0_i32_1483
  let v3711 : BitVec 32 := Scalar.extui v3710
  let v3712 : BitVec 32 := Scalar.subi v3709 v3711
  let c128_i32_1481 : BitVec 32 := 128#32
  let c0_i32_1484 : BitVec 32 := 0#32
  let v3713 : BitVec 1 := Scalar.cmpi .sgt c128_i32_1481 c0_i32_1484
  let v3714 : BitVec 32 := Scalar.extui v3713
  let c0_i32_1485 : BitVec 32 := 0#32
  let v3715 : BitVec 1 := Scalar.cmpi .slt c128_i32_1481 c0_i32_1485
  let v3716 : BitVec 32 := Scalar.extui v3715
  let v3717 : BitVec 32 := Scalar.subi v3714 v3716
  let v3718 : BitVec 1 := Scalar.cmpi .ne v3712 v3717
  let v3719 : BitVec 32 := Scalar.remsi v3706 c128_i32_1481
  let c0_i32_1486 : BitVec 32 := 0#32
  let v3720 : BitVec 1 := Scalar.cmpi .ne v3719 c0_i32_1486
  let v3721 : BitVec 1 := Scalar.andi v3718 v3720
  let v3707 : BitVec 32 := Scalar.divsi v3706 c128_i32_1481
  let c1_i32_1487 : BitVec 32 := 1#32
  let v3722 : BitVec 32 := Scalar.subi v3707 c1_i32_1487
  let v3723 : BitVec 32 := Scalar.select v3721 v3722 v3707
  let c128_i32_1488 : BitVec 32 := 128#32
  let v3724 : BitVec 32 := Scalar.muli v3723 c128_i32_1488
  v3724

def k0_mult187 (v3726 : BitVec 32) : BitVec 32 :=
  let c0_i32_1490 : BitVec 32 := 0#32
  let v3728 : BitVec 1 := Scalar.cmpi .sgt v3726 c0_i32_1490
  let v3729 : BitVec 32 := Scalar.extui v3728
  let c0_i32_1491 : BitVec 32 := 0#32
  let v3730 : BitVec 1 := Scalar.cmpi .slt v3726 c0_i32_1491
  let v3731 : BitVec 32 := Scalar.extui v3730
  let v3732 : BitVec 32 := Scalar.subi v3729 v3731
  let c128_i32_1489 : BitVec 32 := 128#32
  let c0_i32_1492 : BitVec 32 := 0#32
  let v3733 : BitVec 1 := Scalar.cmpi .sgt c128_i32_1489 c0_i32_1492
  let v3734 : BitVec 32 := Scalar.extui v3733
  let c0_i32_1493 : BitVec 32 := 0#32
  let v3735 : BitVec 1 := Scalar.cmpi .slt c128_i32_1489 c0_i32_1493
  let v3736 : BitVec 32 := Scalar.extui v3735
  let v3737 : BitVec 32 := Scalar.subi v3734 v3736
  let v3738 : BitVec 1 := Scalar.cmpi .ne v3732 v3737
  let v3739 : BitVec 32 := Scalar.remsi v3726 c128_i32_1489
  let c0_i32_1494 : BitVec 32 := 0#32
  let v3740 : BitVec 1 := Scalar.cmpi .ne v3739 c0_i32_1494
  let v3741 : BitVec 1 := Scalar.andi v3738 v3740
  let v3727 : BitVec 32 := Scalar.divsi v3726 c128_i32_1489
  let c1_i32_1495 : BitVec 32 := 1#32
  let v3742 : BitVec 32 := Scalar.subi v3727 c1_i32_1495
  let v3743 : BitVec 32 := Scalar.select v3741 v3742 v3727
  let c128_i32_1496 : BitVec 32 := 128#32
  let v3744 : BitVec 32 := Scalar.muli v3743 c128_i32_1496
  v3744

def k0_mult188 (v3746 : BitVec 32) : BitVec 32 :=
  let c0_i32_1498 : BitVec 32 := 0#32
  let v3748 : BitVec 1 := Scalar.cmpi .sgt v3746 c0_i32_1498
  let v3749 : BitVec 32 := Scalar.extui v3748
  let c0_i32_1499 : BitVec 32 := 0#32
  let v3750 : BitVec 1 := Scalar.cmpi .slt v3746 c0_i32_1499
  let v3751 : BitVec 32 := Scalar.extui v3750
  let v3752 : BitVec 32 := Scalar.subi v3749 v3751
  let c128_i32_1497 : BitVec 32 := 128#32
  let c0_i32_1500 : BitVec 32 := 0#32
  let v3753 : BitVec 1 := Scalar.cmpi .sgt c128_i32_1497 c0_i32_1500
  let v3754 : BitVec 32 := Scalar.extui v3753
  let c0_i32_1501 : BitVec 32 := 0#32
  let v3755 : BitVec 1 := Scalar.cmpi .slt c128_i32_1497 c0_i32_1501
  let v3756 : BitVec 32 := Scalar.extui v3755
  let v3757 : BitVec 32 := Scalar.subi v3754 v3756
  let v3758 : BitVec 1 := Scalar.cmpi .ne v3752 v3757
  let v3759 : BitVec 32 := Scalar.remsi v3746 c128_i32_1497
  let c0_i32_1502 : BitVec 32 := 0#32
  let v3760 : BitVec 1 := Scalar.cmpi .ne v3759 c0_i32_1502
  let v3761 : BitVec 1 := Scalar.andi v3758 v3760
  let v3747 : BitVec 32 := Scalar.divsi v3746 c128_i32_1497
  let c1_i32_1503 : BitVec 32 := 1#32
  let v3762 : BitVec 32 := Scalar.subi v3747 c1_i32_1503
  let v3763 : BitVec 32 := Scalar.select v3761 v3762 v3747
  let c128_i32_1504 : BitVec 32 := 128#32
  let v3764 : BitVec 32 := Scalar.muli v3763 c128_i32_1504
  v3764

def k0_mult189 (v3766 : BitVec 32) : BitVec 32 :=
  let c0_i32_1506 : BitVec 32 := 0#32
  let v3768 : BitVec 1 := Scalar.cmpi .sgt v3766 c0_i32_1506
  let v3769 : BitVec 32 := Scalar.extui v3768
  let c0_i32_1507 : BitVec 32 := 0#32
  let v3770 : BitVec 1 := Scalar.cmpi .slt v3766 c0_i32_1507
  let v3771 : BitVec 32 := Scalar.extui v3770
  let v3772 : BitVec 32 := Scalar.subi v3769 v3771
  let c128_i32_1505 : BitVec 32 := 128#32
  let c0_i32_1508 : BitVec 32 := 0#32
  let v3773 : BitVec 1 := Scalar.cmpi .sgt c128_i32_1505 c0_i32_1508
  let v3774 : BitVec 32 := Scalar.extui v3773
  let c0_i32_1509 : BitVec 32 := 0#32
  let v3775 : BitVec 1 := Scalar.cmpi .slt c128_i32_1505 c0_i32_1509
  let v3776 : BitVec 32 := Scalar.extui v3775
  let v3777 : BitVec 32 := Scalar.subi v3774 v3776
  let v3778 : BitVec 1 := Scalar.cmpi .ne v3772 v3777
  let v3779 : BitVec 32 := Scalar.remsi v3766 c128_i32_1505
  let c0_i32_1510 : BitVec 32 := 0#32
  let v3780 : BitVec 1 := Scalar.cmpi .ne v3779 c0_i32_1510
  let v3781 : BitVec 1 := Scalar.andi v3778 v3780
  let v3767 : BitVec 32 := Scalar.divsi v3766 c128_i32_1505
  let c1_i32_1511 : BitVec 32 := 1#32
  let v3782 : BitVec 32 := Scalar.subi v3767 c1_i32_1511
  let v3783 : BitVec 32 := Scalar.select v3781 v3782 v3767
  let c128_i32_1512 : BitVec 32 := 128#32
  let v3784 : BitVec 32 := Scalar.muli v3783 c128_i32_1512
  v3784

def k0_mult190 (v3786 : BitVec 32) : BitVec 32 :=
  let c0_i32_1514 : BitVec 32 := 0#32
  let v3788 : BitVec 1 := Scalar.cmpi .sgt v3786 c0_i32_1514
  let v3789 : BitVec 32 := Scalar.extui v3788
  let c0_i32_1515 : BitVec 32 := 0#32
  let v3790 : BitVec 1 := Scalar.cmpi .slt v3786 c0_i32_1515
  let v3791 : BitVec 32 := Scalar.extui v3790
  let v3792 : BitVec 32 := Scalar.subi v3789 v3791
  let c128_i32_1513 : BitVec 32 := 128#32
  let c0_i32_1516 : BitVec 32 := 0#32
  let v3793 : BitVec 1 := Scalar.cmpi .sgt c128_i32_1513 c0_i32_1516
  let v3794 : BitVec 32 := Scalar.extui v3793
  let c0_i32_1517 : BitVec 32 := 0#32
  let v3795 : BitVec 1 := Scalar.cmpi .slt c128_i32_1513 c0_i32_1517
  let v3796 : BitVec 32 := Scalar.extui v3795
  let v3797 : BitVec 32 := Scalar.subi v3794 v3796
  let v3798 : BitVec 1 := Scalar.cmpi .ne v3792 v3797
  let v3799 : BitVec 32 := Scalar.remsi v3786 c128_i32_1513
  let c0_i32_1518 : BitVec 32 := 0#32
  let v3800 : BitVec 1 := Scalar.cmpi .ne v3799 c0_i32_1518
  let v3801 : BitVec 1 := Scalar.andi v3798 v3800
  let v3787 : BitVec 32 := Scalar.divsi v3786 c128_i32_1513
  let c1_i32_1519 : BitVec 32 := 1#32
  let v3802 : BitVec 32 := Scalar.subi v3787 c1_i32_1519
  let v3803 : BitVec 32 := Scalar.select v3801 v3802 v3787
  let c128_i32_1520 : BitVec 32 := 128#32
  let v3804 : BitVec 32 := Scalar.muli v3803 c128_i32_1520
  v3804

def k0_mult191 (v3806 : BitVec 32) : BitVec 32 :=
  let c0_i32_1522 : BitVec 32 := 0#32
  let v3808 : BitVec 1 := Scalar.cmpi .sgt v3806 c0_i32_1522
  let v3809 : BitVec 32 := Scalar.extui v3808
  let c0_i32_1523 : BitVec 32 := 0#32
  let v3810 : BitVec 1 := Scalar.cmpi .slt v3806 c0_i32_1523
  let v3811 : BitVec 32 := Scalar.extui v3810
  let v3812 : BitVec 32 := Scalar.subi v3809 v3811
  let c128_i32_1521 : BitVec 32 := 128#32
  let c0_i32_1524 : BitVec 32 := 0#32
  let v3813 : BitVec 1 := Scalar.cmpi .sgt c128_i32_1521 c0_i32_1524
  let v3814 : BitVec 32 := Scalar.extui v3813
  let c0_i32_1525 : BitVec 32 := 0#32
  let v3815 : BitVec 1 := Scalar.cmpi .slt c128_i32_1521 c0_i32_1525
  let v3816 : BitVec 32 := Scalar.extui v3815
  let v3817 : BitVec 32 := Scalar.subi v3814 v3816
  let v3818 : BitVec 1 := Scalar.cmpi .ne v3812 v3817
  let v3819 : BitVec 32 := Scalar.remsi v3806 c128_i32_1521
  let c0_i32_1526 : BitVec 32 := 0#32
  let v3820 : BitVec 1 := Scalar.cmpi .ne v3819 c0_i32_1526
  let v3821 : BitVec 1 := Scalar.andi v3818 v3820
  let v3807 : BitVec 32 := Scalar.divsi v3806 c128_i32_1521
  let c1_i32_1527 : BitVec 32 := 1#32
  let v3822 : BitVec 32 := Scalar.subi v3807 c1_i32_1527
  let v3823 : BitVec 32 := Scalar.select v3821 v3822 v3807
  let c128_i32_1528 : BitVec 32 := 128#32
  let v3824 : BitVec 32 := Scalar.muli v3823 c128_i32_1528
  v3824

def k0_mult192 (v3826 : BitVec 32) : BitVec 32 :=
  let c0_i32_1530 : BitVec 32 := 0#32
  let v3828 : BitVec 1 := Scalar.cmpi .sgt v3826 c0_i32_1530
  let v3829 : BitVec 32 := Scalar.extui v3828
  let c0_i32_1531 : BitVec 32 := 0#32
  let v3830 : BitVec 1 := Scalar.cmpi .slt v3826 c0_i32_1531
  let v3831 : BitVec 32 := Scalar.extui v3830
  let v3832 : BitVec 32 := Scalar.subi v3829 v3831
  let c128_i32_1529 : BitVec 32 := 128#32
  let c0_i32_1532 : BitVec 32 := 0#32
  let v3833 : BitVec 1 := Scalar.cmpi .sgt c128_i32_1529 c0_i32_1532
  let v3834 : BitVec 32 := Scalar.extui v3833
  let c0_i32_1533 : BitVec 32 := 0#32
  let v3835 : BitVec 1 := Scalar.cmpi .slt c128_i32_1529 c0_i32_1533
  let v3836 : BitVec 32 := Scalar.extui v3835
  let v3837 : BitVec 32 := Scalar.subi v3834 v3836
  let v3838 : BitVec 1 := Scalar.cmpi .ne v3832 v3837
  let v3839 : BitVec 32 := Scalar.remsi v3826 c128_i32_1529
  let c0_i32_1534 : BitVec 32 := 0#32
  let v3840 : BitVec 1 := Scalar.cmpi .ne v3839 c0_i32_1534
  let v3841 : BitVec 1 := Scalar.andi v3838 v3840
  let v3827 : BitVec 32 := Scalar.divsi v3826 c128_i32_1529
  let c1_i32_1535 : BitVec 32 := 1#32
  let v3842 : BitVec 32 := Scalar.subi v3827 c1_i32_1535
  let v3843 : BitVec 32 := Scalar.select v3841 v3842 v3827
  let c128_i32_1536 : BitVec 32 := 128#32
  let v3844 : BitVec 32 := Scalar.muli v3843 c128_i32_1536
  v3844

def k0_mult193 (v3846 : BitVec 32) : BitVec 32 :=
  let c0_i32_1538 : BitVec 32 := 0#32
  let v3848 : BitVec 1 := Scalar.cmpi .sgt v3846 c0_i32_1538
  let v3849 : BitVec 32 := Scalar.extui v3848
  let c0_i32_1539 : BitVec 32 := 0#32
  let v3850 : BitVec 1 := Scalar.cmpi .slt v3846 c0_i32_1539
  let v3851 : BitVec 32 := Scalar.extui v3850
  let v3852 : BitVec 32 := Scalar.subi v3849 v3851
  let c128_i32_1537 : BitVec 32 := 128#32
  let c0_i32_1540 : BitVec 32 := 0#32
  let v3853 : BitVec 1 := Scalar.cmpi .sgt c128_i32_1537 c0_i32_1540
  let v3854 : BitVec 32 := Scalar.extui v3853
  let c0_i32_1541 : BitVec 32 := 0#32
  let v3855 : BitVec 1 := Scalar.cmpi .slt c128_i32_1537 c0_i32_1541
  let v3856 : BitVec 32 := Scalar.extui v3855
  let v3857 : BitVec 32 := Scalar.subi v3854 v3856
  let v3858 : BitVec 1 := Scalar.cmpi .ne v3852 v3857
  let v3859 : BitVec 32 := Scalar.remsi v3846 c128_i32_1537
  let c0_i32_1542 : BitVec 32 := 0#32
  let v3860 : BitVec 1 := Scalar.cmpi .ne v3859 c0_i32_1542
  let v3861 : BitVec 1 := Scalar.andi v3858 v3860
  let v3847 : BitVec 32 := Scalar.divsi v3846 c128_i32_1537
  let c1_i32_1543 : BitVec 32 := 1#32
  let v3862 : BitVec 32 := Scalar.subi v3847 c1_i32_1543
  let v3863 : BitVec 32 := Scalar.select v3861 v3862 v3847
  let c128_i32_1544 : BitVec 32 := 128#32
  let v3864 : BitVec 32 := Scalar.muli v3863 c128_i32_1544
  v3864

def k0_mult194 (v3866 : BitVec 32) : BitVec 32 :=
  let c0_i32_1546 : BitVec 32 := 0#32
  let v3868 : BitVec 1 := Scalar.cmpi .sgt v3866 c0_i32_1546
  let v3869 : BitVec 32 := Scalar.extui v3868
  let c0_i32_1547 : BitVec 32 := 0#32
  let v3870 : BitVec 1 := Scalar.cmpi .slt v3866 c0_i32_1547
  let v3871 : BitVec 32 := Scalar.extui v3870
  let v3872 : BitVec 32 := Scalar.subi v3869 v3871
  let c128_i32_1545 : BitVec 32 := 128#32
  let c0_i32_1548 : BitVec 32 := 0#32
  let v3873 : BitVec 1 := Scalar.cmpi .sgt c128_i32_1545 c0_i32_1548
  let v3874 : BitVec 32 := Scalar.extui v3873
  let c0_i32_1549 : BitVec 32 := 0#32
  let v3875 : BitVec 1 := Scalar.cmpi .slt c128_i32_1545 c0_i32_1549
  let v3876 : BitVec 32 := Scalar.extui v3875
  let v3877 : BitVec 32 := Scalar.subi v3874 v3876
  let v3878 : BitVec 1 := Scalar.cmpi .ne v3872 v3877
  let v3879 : BitVec 32 := Scalar.remsi v3866 c128_i32_1545
  let c0_i32_1550 : BitVec 32 := 0#32
  let v3880 : BitVec 1 := Scalar.cmpi .ne v3879 c0_i32_1550
  let v3881 : BitVec 1 := Scalar.andi v3878 v3880
  let v3867 : BitVec 32 := Scalar.divsi v3866 c128_i32_1545
  let c1_i32_1551 : BitVec 32 := 1#32
  let v3882 : BitVec 32 := Scalar.subi v3867 c1_i32_1551
  let v3883 : BitVec 32 := Scalar.select v3881 v3882 v3867
  let c128_i32_1552 : BitVec 32 := 128#32
  let v3884 : BitVec 32 := Scalar.muli v3883 c128_i32_1552
  v3884

def k0_mult195 (v3886 : BitVec 32) : BitVec 32 :=
  let c0_i32_1554 : BitVec 32 := 0#32
  let v3888 : BitVec 1 := Scalar.cmpi .sgt v3886 c0_i32_1554
  let v3889 : BitVec 32 := Scalar.extui v3888
  let c0_i32_1555 : BitVec 32 := 0#32
  let v3890 : BitVec 1 := Scalar.cmpi .slt v3886 c0_i32_1555
  let v3891 : BitVec 32 := Scalar.extui v3890
  let v3892 : BitVec 32 := Scalar.subi v3889 v3891
  let c128_i32_1553 : BitVec 32 := 128#32
  let c0_i32_1556 : BitVec 32 := 0#32
  let v3893 : BitVec 1 := Scalar.cmpi .sgt c128_i32_1553 c0_i32_1556
  let v3894 : BitVec 32 := Scalar.extui v3893
  let c0_i32_1557 : BitVec 32 := 0#32
  let v3895 : BitVec 1 := Scalar.cmpi .slt c128_i32_1553 c0_i32_1557
  let v3896 : BitVec 32 := Scalar.extui v3895
  let v3897 : BitVec 32 := Scalar.subi v3894 v3896
  let v3898 : BitVec 1 := Scalar.cmpi .ne v3892 v3897
  let v3899 : BitVec 32 := Scalar.remsi v3886 c128_i32_1553
  let c0_i32_1558 : BitVec 32 := 0#32
  let v3900 : BitVec 1 := Scalar.cmpi .ne v3899 c0_i32_1558
  let v3901 : BitVec 1 := Scalar.andi v3898 v3900
  let v3887 : BitVec 32 := Scalar.divsi v3886 c128_i32_1553
  let c1_i32_1559 : BitVec 32 := 1#32
  let v3902 : BitVec 32 := Scalar.subi v3887 c1_i32_1559
  let v3903 : BitVec 32 := Scalar.select v3901 v3902 v3887
  let c128_i32_1560 : BitVec 32 := 128#32
  let v3904 : BitVec 32 := Scalar.muli v3903 c128_i32_1560
  v3904

def k0_mult196 (v3906 : BitVec 32) : BitVec 32 :=
  let c0_i32_1562 : BitVec 32 := 0#32
  let v3908 : BitVec 1 := Scalar.cmpi .sgt v3906 c0_i32_1562
  let v3909 : BitVec 32 := Scalar.extui v3908
  let c0_i32_1563 : BitVec 32 := 0#32
  let v3910 : BitVec 1 := Scalar.cmpi .slt v3906 c0_i32_1563
  let v3911 : BitVec 32 := Scalar.extui v3910
  let v3912 : BitVec 32 := Scalar.subi v3909 v3911
  let c128_i32_1561 : BitVec 32 := 128#32
  let c0_i32_1564 : BitVec 32 := 0#32
  let v3913 : BitVec 1 := Scalar.cmpi .sgt c128_i32_1561 c0_i32_1564
  let v3914 : BitVec 32 := Scalar.extui v3913
  let c0_i32_1565 : BitVec 32 := 0#32
  let v3915 : BitVec 1 := Scalar.cmpi .slt c128_i32_1561 c0_i32_1565
  let v3916 : BitVec 32 := Scalar.extui v3915
  let v3917 : BitVec 32 := Scalar.subi v3914 v3916
  let v3918 : BitVec 1 := Scalar.cmpi .ne v3912 v3917
  let v3919 : BitVec 32 := Scalar.remsi v3906 c128_i32_1561
  let c0_i32_1566 : BitVec 32 := 0#32
  let v3920 : BitVec 1 := Scalar.cmpi .ne v3919 c0_i32_1566
  let v3921 : BitVec 1 := Scalar.andi v3918 v3920
  let v3907 : BitVec 32 := Scalar.divsi v3906 c128_i32_1561
  let c1_i32_1567 : BitVec 32 := 1#32
  let v3922 : BitVec 32 := Scalar.subi v3907 c1_i32_1567
  let v3923 : BitVec 32 := Scalar.select v3921 v3922 v3907
  let c128_i32_1568 : BitVec 32 := 128#32
  let v3924 : BitVec 32 := Scalar.muli v3923 c128_i32_1568
  v3924

def k0_mult197 (v3926 : BitVec 32) : BitVec 32 :=
  let c0_i32_1570 : BitVec 32 := 0#32
  let v3928 : BitVec 1 := Scalar.cmpi .sgt v3926 c0_i32_1570
  let v3929 : BitVec 32 := Scalar.extui v3928
  let c0_i32_1571 : BitVec 32 := 0#32
  let v3930 : BitVec 1 := Scalar.cmpi .slt v3926 c0_i32_1571
  let v3931 : BitVec 32 := Scalar.extui v3930
  let v3932 : BitVec 32 := Scalar.subi v3929 v3931
  let c128_i32_1569 : BitVec 32 := 128#32
  let c0_i32_1572 : BitVec 32 := 0#32
  let v3933 : BitVec 1 := Scalar.cmpi .sgt c128_i32_1569 c0_i32_1572
  let v3934 : BitVec 32 := Scalar.extui v3933
  let c0_i32_1573 : BitVec 32 := 0#32
  let v3935 : BitVec 1 := Scalar.cmpi .slt c128_i32_1569 c0_i32_1573
  let v3936 : BitVec 32 := Scalar.extui v3935
  let v3937 : BitVec 32 := Scalar.subi v3934 v3936
  let v3938 : BitVec 1 := Scalar.cmpi .ne v3932 v3937
  let v3939 : BitVec 32 := Scalar.remsi v3926 c128_i32_1569
  let c0_i32_1574 : BitVec 32 := 0#32
  let v3940 : BitVec 1 := Scalar.cmpi .ne v3939 c0_i32_1574
  let v3941 : BitVec 1 := Scalar.andi v3938 v3940
  let v3927 : BitVec 32 := Scalar.divsi v3926 c128_i32_1569
  let c1_i32_1575 : BitVec 32 := 1#32
  let v3942 : BitVec 32 := Scalar.subi v3927 c1_i32_1575
  let v3943 : BitVec 32 := Scalar.select v3941 v3942 v3927
  let c128_i32_1576 : BitVec 32 := 128#32
  let v3944 : BitVec 32 := Scalar.muli v3943 c128_i32_1576
  v3944

def k0_mult198 (v3946 : BitVec 32) : BitVec 32 :=
  let c0_i32_1578 : BitVec 32 := 0#32
  let v3948 : BitVec 1 := Scalar.cmpi .sgt v3946 c0_i32_1578
  let v3949 : BitVec 32 := Scalar.extui v3948
  let c0_i32_1579 : BitVec 32 := 0#32
  let v3950 : BitVec 1 := Scalar.cmpi .slt v3946 c0_i32_1579
  let v3951 : BitVec 32 := Scalar.extui v3950
  let v3952 : BitVec 32 := Scalar.subi v3949 v3951
  let c128_i32_1577 : BitVec 32 := 128#32
  let c0_i32_1580 : BitVec 32 := 0#32
  let v3953 : BitVec 1 := Scalar.cmpi .sgt c128_i32_1577 c0_i32_1580
  let v3954 : BitVec 32 := Scalar.extui v3953
  let c0_i32_1581 : BitVec 32 := 0#32
  let v3955 : BitVec 1 := Scalar.cmpi .slt c128_i32_1577 c0_i32_1581
  let v3956 : BitVec 32 := Scalar.extui v3955
  let v3957 : BitVec 32 := Scalar.subi v3954 v3956
  let v3958 : BitVec 1 := Scalar.cmpi .ne v3952 v3957
  let v3959 : BitVec 32 := Scalar.remsi v3946 c128_i32_1577
  let c0_i32_1582 : BitVec 32 := 0#32
  let v3960 : BitVec 1 := Scalar.cmpi .ne v3959 c0_i32_1582
  let v3961 : BitVec 1 := Scalar.andi v3958 v3960
  let v3947 : BitVec 32 := Scalar.divsi v3946 c128_i32_1577
  let c1_i32_1583 : BitVec 32 := 1#32
  let v3962 : BitVec 32 := Scalar.subi v3947 c1_i32_1583
  let v3963 : BitVec 32 := Scalar.select v3961 v3962 v3947
  let c128_i32_1584 : BitVec 32 := 128#32
  let v3964 : BitVec 32 := Scalar.muli v3963 c128_i32_1584
  v3964

def k0_mult199 (v3966 : BitVec 32) : BitVec 32 :=
  let c0_i32_1586 : BitVec 32 := 0#32
  let v3968 : BitVec 1 := Scalar.cmpi .sgt v3966 c0_i32_1586
  let v3969 : BitVec 32 := Scalar.extui v3968
  let c0_i32_1587 : BitVec 32 := 0#32
  let v3970 : BitVec 1 := Scalar.cmpi .slt v3966 c0_i32_1587
  let v3971 : BitVec 32 := Scalar.extui v3970
  let v3972 : BitVec 32 := Scalar.subi v3969 v3971
  let c128_i32_1585 : BitVec 32 := 128#32
  let c0_i32_1588 : BitVec 32 := 0#32
  let v3973 : BitVec 1 := Scalar.cmpi .sgt c128_i32_1585 c0_i32_1588
  let v3974 : BitVec 32 := Scalar.extui v3973
  let c0_i32_1589 : BitVec 32 := 0#32
  let v3975 : BitVec 1 := Scalar.cmpi .slt c128_i32_1585 c0_i32_1589
  let v3976 : BitVec 32 := Scalar.extui v3975
  let v3977 : BitVec 32 := Scalar.subi v3974 v3976
  let v3978 : BitVec 1 := Scalar.cmpi .ne v3972 v3977
  let v3979 : BitVec 32 := Scalar.remsi v3966 c128_i32_1585
  let c0_i32_1590 : BitVec 32 := 0#32
  let v3980 : BitVec 1 := Scalar.cmpi .ne v3979 c0_i32_1590
  let v3981 : BitVec 1 := Scalar.andi v3978 v3980
  let v3967 : BitVec 32 := Scalar.divsi v3966 c128_i32_1585
  let c1_i32_1591 : BitVec 32 := 1#32
  let v3982 : BitVec 32 := Scalar.subi v3967 c1_i32_1591
  let v3983 : BitVec 32 := Scalar.select v3981 v3982 v3967
  let c128_i32_1592 : BitVec 32 := 128#32
  let v3984 : BitVec 32 := Scalar.muli v3983 c128_i32_1592
  v3984

def k0_mult200 (v3986 : BitVec 32) : BitVec 32 :=
  let c0_i32_1594 : BitVec 32 := 0#32
  let v3988 : BitVec 1 := Scalar.cmpi .sgt v3986 c0_i32_1594
  let v3989 : BitVec 32 := Scalar.extui v3988
  let c0_i32_1595 : BitVec 32 := 0#32
  let v3990 : BitVec 1 := Scalar.cmpi .slt v3986 c0_i32_1595
  let v3991 : BitVec 32 := Scalar.extui v3990
  let v3992 : BitVec 32 := Scalar.subi v3989 v3991
  let c128_i32_1593 : BitVec 32 := 128#32
  let c0_i32_1596 : BitVec 32 := 0#32
  let v3993 : BitVec 1 := Scalar.cmpi .sgt c128_i32_1593 c0_i32_1596
  let v3994 : BitVec 32 := Scalar.extui v3993
  let c0_i32_1597 : BitVec 32 := 0#32
  let v3995 : BitVec 1 := Scalar.cmpi .slt c128_i32_1593 c0_i32_1597
  let v3996 : BitVec 32 := Scalar.extui v3995
  let v3997 : BitVec 32 := Scalar.subi v3994 v3996
  let v3998 : BitVec 1 := Scalar.cmpi .ne v3992 v3997
  let v3999 : BitVec 32 := Scalar.remsi v3986 c128_i32_1593
  let c0_i32_1598 : BitVec 32 := 0#32
  let v4000 : BitVec 1 := Scalar.cmpi .ne v3999 c0_i32_1598
  let v4001 : BitVec 1 := Scalar.andi v3998 v4000
  let v3987 : BitVec 32 := Scalar.divsi v3986 c128_i32_1593
  let c1_i32_1599 : BitVec 32 := 1#32
  let v4002 : BitVec 32 := Scalar.subi v3987 c1_i32_1599
  let v4003 : BitVec 32 := Scalar.select v4001 v4002 v3987
  let c128_i32_1600 : BitVec 32 := 128#32
  let v4004 : BitVec 32 := Scalar.muli v4003 c128_i32_1600
  v4004

def k0_off1 (v6 : BitVec 32) : Fin 2 → Nat :=
  let c0_i32_1603 : BitVec 32 := 0#32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c128_i32 : BitVec 32 := 128#32
  let c0_i32_5 : BitVec 32 := 0#32
  let v13 : BitVec 1 := Scalar.cmpi .sgt c128_i32 c0_i32_5
  let v14 : BitVec 32 := Scalar.extui v13
  let c0_i32_6 : BitVec 32 := 0#32
  let v15 : BitVec 1 := Scalar.cmpi .slt c128_i32 c0_i32_6
  let v16 : BitVec 32 := Scalar.extui v15
  let v17 : BitVec 32 := Scalar.subi v14 v16
  let v18 : BitVec 1 := Scalar.cmpi .ne v12 v17
  let v19 : BitVec 32 := Scalar.remsi v6 c128_i32
  let c0_i32_7 : BitVec 32 := 0#32
  let v20 : BitVec 1 := Scalar.cmpi .ne v19 c0_i32_7
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let c128_i32_8 : BitVec 32 := 128#32
  let v24 : BitVec 32 := Scalar.muli v23 c128_i32_8
  let v25 : BitVec 32 := v24
  ![0, v25.toNat]

def k0_chk1 (i : grid0.Coords) (v6 : BitVec 32) : Prop :=
  (∀ (k0_h1 : k0_cond1 i = 1#1), 128 ∣ (k0_mult1 v6).toNat) ∧
  (∀ (k0_h1 : k0_cond1 i = 1#1), ∀ a, (k0_off1 v6) a + S64x128.size a ≤ S64x1000000.size a)
theorem k0_mult1_dvd : ∀ (i : grid0.Coords) (v6 : BitVec 32) (k0_hw1 : k0_chk1 i v6), ∀ (k0_h1 : k0_cond1 i = 1#1), 128 ∣ (k0_mult1 v6).toNat := fun i v6 k0_hw1 k0_h1 => k0_hw1.1 k0_h1
theorem k0_off1_inb : ∀ (i : grid0.Coords) (v6 : BitVec 32) (k0_hw1 : k0_chk1 i v6), ∀ (k0_h1 : k0_cond1 i = 1#1), ∀ a, (k0_off1 v6) a + S64x128.size a ≤ S64x1000000.size a := fun i v6 k0_hw1 k0_h1 => k0_hw1.2 k0_h1

def k0_off2 (v26 : BitVec 32) : Fin 2 → Nat :=
  let c0_i32_1606 : BitVec 32 := 0#32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c128_i32_9 : BitVec 32 := 128#32
  let c0_i32_12 : BitVec 32 := 0#32
  let v33 : BitVec 1 := Scalar.cmpi .sgt c128_i32_9 c0_i32_12
  let v34 : BitVec 32 := Scalar.extui v33
  let c0_i32_13 : BitVec 32 := 0#32
  let v35 : BitVec 1 := Scalar.cmpi .slt c128_i32_9 c0_i32_13
  let v36 : BitVec 32 := Scalar.extui v35
  let v37 : BitVec 32 := Scalar.subi v34 v36
  let v38 : BitVec 1 := Scalar.cmpi .ne v32 v37
  let v39 : BitVec 32 := Scalar.remsi v26 c128_i32_9
  let c0_i32_14 : BitVec 32 := 0#32
  let v40 : BitVec 1 := Scalar.cmpi .ne v39 c0_i32_14
  let v41 : BitVec 1 := Scalar.andi v38 v40
  let v27 : BitVec 32 := Scalar.divsi v26 c128_i32_9
  let c1_i32_15 : BitVec 32 := 1#32
  let v42 : BitVec 32 := Scalar.subi v27 c1_i32_15
  let v43 : BitVec 32 := Scalar.select v41 v42 v27
  let c128_i32_16 : BitVec 32 := 128#32
  let v44 : BitVec 32 := Scalar.muli v43 c128_i32_16
  let v45 : BitVec 32 := v44
  ![0, v45.toNat]

def k0_chk2 (i : grid0.Coords) (v26 : BitVec 32) : Prop :=
  (∀ (k0_h1 : k0_cond1 i = 1#1), 128 ∣ (k0_mult2 v26).toNat) ∧
  (∀ (k0_h1 : k0_cond1 i = 1#1), ∀ a, (k0_off2 v26) a + S64x128.size a ≤ S64x1000000.size a)
theorem k0_mult2_dvd : ∀ (i : grid0.Coords) (v26 : BitVec 32) (k0_hw2 : k0_chk2 i v26), ∀ (k0_h1 : k0_cond1 i = 1#1), 128 ∣ (k0_mult2 v26).toNat := fun i v26 k0_hw2 k0_h1 => k0_hw2.1 k0_h1
theorem k0_off2_inb : ∀ (i : grid0.Coords) (v26 : BitVec 32) (k0_hw2 : k0_chk2 i v26), ∀ (k0_h1 : k0_cond1 i = 1#1), ∀ a, (k0_off2 v26) a + S64x128.size a ≤ S64x1000000.size a := fun i v26 k0_hw2 k0_h1 => k0_hw2.2 k0_h1

def k0_off3 (v46 : BitVec 32) : Fin 2 → Nat :=
  let c0_i32_1608 : BitVec 32 := 0#32
  let c0_i32_18 : BitVec 32 := 0#32
  let v48 : BitVec 1 := Scalar.cmpi .sgt v46 c0_i32_18
  let v49 : BitVec 32 := Scalar.extui v48
  let c0_i32_19 : BitVec 32 := 0#32
  let v50 : BitVec 1 := Scalar.cmpi .slt v46 c0_i32_19
  let v51 : BitVec 32 := Scalar.extui v50
  let v52 : BitVec 32 := Scalar.subi v49 v51
  let c128_i32_17 : BitVec 32 := 128#32
  let c0_i32_20 : BitVec 32 := 0#32
  let v53 : BitVec 1 := Scalar.cmpi .sgt c128_i32_17 c0_i32_20
  let v54 : BitVec 32 := Scalar.extui v53
  let c0_i32_21 : BitVec 32 := 0#32
  let v55 : BitVec 1 := Scalar.cmpi .slt c128_i32_17 c0_i32_21
  let v56 : BitVec 32 := Scalar.extui v55
  let v57 : BitVec 32 := Scalar.subi v54 v56
  let v58 : BitVec 1 := Scalar.cmpi .ne v52 v57
  let v59 : BitVec 32 := Scalar.remsi v46 c128_i32_17
  let c0_i32_22 : BitVec 32 := 0#32
  let v60 : BitVec 1 := Scalar.cmpi .ne v59 c0_i32_22
  let v61 : BitVec 1 := Scalar.andi v58 v60
  let v47 : BitVec 32 := Scalar.divsi v46 c128_i32_17
  let c1_i32_23 : BitVec 32 := 1#32
  let v62 : BitVec 32 := Scalar.subi v47 c1_i32_23
  let v63 : BitVec 32 := Scalar.select v61 v62 v47
  let c128_i32_24 : BitVec 32 := 128#32
  let v64 : BitVec 32 := Scalar.muli v63 c128_i32_24
  let v65 : BitVec 32 := v64
  ![0, v65.toNat]

def k0_chk3 (i : grid0.Coords) (v46 : BitVec 32) : Prop :=
  (∀ (k0_h1 : k0_cond1 i = 1#1), 128 ∣ (k0_mult3 v46).toNat) ∧
  (∀ (k0_h1 : k0_cond1 i = 1#1), ∀ a, (k0_off3 v46) a + S64x128.size a ≤ S64x1000000.size a)
theorem k0_mult3_dvd : ∀ (i : grid0.Coords) (v46 : BitVec 32) (k0_hw3 : k0_chk3 i v46), ∀ (k0_h1 : k0_cond1 i = 1#1), 128 ∣ (k0_mult3 v46).toNat := fun i v46 k0_hw3 k0_h1 => k0_hw3.1 k0_h1
theorem k0_off3_inb : ∀ (i : grid0.Coords) (v46 : BitVec 32) (k0_hw3 : k0_chk3 i v46), ∀ (k0_h1 : k0_cond1 i = 1#1), ∀ a, (k0_off3 v46) a + S64x128.size a ≤ S64x1000000.size a := fun i v46 k0_hw3 k0_h1 => k0_hw3.2 k0_h1

def k0_off4 (v66 : BitVec 32) : Fin 2 → Nat :=
  let c0_i32_1610 : BitVec 32 := 0#32
  let c0_i32_26 : BitVec 32 := 0#32
  let v68 : BitVec 1 := Scalar.cmpi .sgt v66 c0_i32_26
  let v69 : BitVec 32 := Scalar.extui v68
  let c0_i32_27 : BitVec 32 := 0#32
  let v70 : BitVec 1 := Scalar.cmpi .slt v66 c0_i32_27
  let v71 : BitVec 32 := Scalar.extui v70
  let v72 : BitVec 32 := Scalar.subi v69 v71
  let c128_i32_25 : BitVec 32 := 128#32
  let c0_i32_28 : BitVec 32 := 0#32
  let v73 : BitVec 1 := Scalar.cmpi .sgt c128_i32_25 c0_i32_28
  let v74 : BitVec 32 := Scalar.extui v73
  let c0_i32_29 : BitVec 32 := 0#32
  let v75 : BitVec 1 := Scalar.cmpi .slt c128_i32_25 c0_i32_29
  let v76 : BitVec 32 := Scalar.extui v75
  let v77 : BitVec 32 := Scalar.subi v74 v76
  let v78 : BitVec 1 := Scalar.cmpi .ne v72 v77
  let v79 : BitVec 32 := Scalar.remsi v66 c128_i32_25
  let c0_i32_30 : BitVec 32 := 0#32
  let v80 : BitVec 1 := Scalar.cmpi .ne v79 c0_i32_30
  let v81 : BitVec 1 := Scalar.andi v78 v80
  let v67 : BitVec 32 := Scalar.divsi v66 c128_i32_25
  let c1_i32_31 : BitVec 32 := 1#32
  let v82 : BitVec 32 := Scalar.subi v67 c1_i32_31
  let v83 : BitVec 32 := Scalar.select v81 v82 v67
  let c128_i32_32 : BitVec 32 := 128#32
  let v84 : BitVec 32 := Scalar.muli v83 c128_i32_32
  let v85 : BitVec 32 := v84
  ![0, v85.toNat]

def k0_chk4 (i : grid0.Coords) (v66 : BitVec 32) : Prop :=
  (∀ (k0_h1 : k0_cond1 i = 1#1), 128 ∣ (k0_mult4 v66).toNat) ∧
  (∀ (k0_h1 : k0_cond1 i = 1#1), ∀ a, (k0_off4 v66) a + S64x128.size a ≤ S64x1000000.size a)
theorem k0_mult4_dvd : ∀ (i : grid0.Coords) (v66 : BitVec 32) (k0_hw4 : k0_chk4 i v66), ∀ (k0_h1 : k0_cond1 i = 1#1), 128 ∣ (k0_mult4 v66).toNat := fun i v66 k0_hw4 k0_h1 => k0_hw4.1 k0_h1
theorem k0_off4_inb : ∀ (i : grid0.Coords) (v66 : BitVec 32) (k0_hw4 : k0_chk4 i v66), ∀ (k0_h1 : k0_cond1 i = 1#1), ∀ a, (k0_off4 v66) a + S64x128.size a ≤ S64x1000000.size a := fun i v66 k0_hw4 k0_h1 => k0_hw4.2 k0_h1

def k0_off5 (v86 : BitVec 32) : Fin 2 → Nat :=
  let c0_i32_1612 : BitVec 32 := 0#32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c128_i32_33 : BitVec 32 := 128#32
  let c0_i32_36 : BitVec 32 := 0#32
  let v93 : BitVec 1 := Scalar.cmpi .sgt c128_i32_33 c0_i32_36
  let v94 : BitVec 32 := Scalar.extui v93
  let c0_i32_37 : BitVec 32 := 0#32
  let v95 : BitVec 1 := Scalar.cmpi .slt c128_i32_33 c0_i32_37
  let v96 : BitVec 32 := Scalar.extui v95
  let v97 : BitVec 32 := Scalar.subi v94 v96
  let v98 : BitVec 1 := Scalar.cmpi .ne v92 v97
  let v99 : BitVec 32 := Scalar.remsi v86 c128_i32_33
  let c0_i32_38 : BitVec 32 := 0#32
  let v100 : BitVec 1 := Scalar.cmpi .ne v99 c0_i32_38
  let v101 : BitVec 1 := Scalar.andi v98 v100
  let v87 : BitVec 32 := Scalar.divsi v86 c128_i32_33
  let c1_i32_39 : BitVec 32 := 1#32
  let v102 : BitVec 32 := Scalar.subi v87 c1_i32_39
  let v103 : BitVec 32 := Scalar.select v101 v102 v87
  let c128_i32_40 : BitVec 32 := 128#32
  let v104 : BitVec 32 := Scalar.muli v103 c128_i32_40
  let v105 : BitVec 32 := v104
  ![0, v105.toNat]

def k0_chk5 (i : grid0.Coords) (v86 : BitVec 32) : Prop :=
  (∀ (k0_h1 : k0_cond1 i = 1#1), 128 ∣ (k0_mult5 v86).toNat) ∧
  (∀ (k0_h1 : k0_cond1 i = 1#1), ∀ a, (k0_off5 v86) a + S64x128.size a ≤ S64x1000000.size a)
theorem k0_mult5_dvd : ∀ (i : grid0.Coords) (v86 : BitVec 32) (k0_hw5 : k0_chk5 i v86), ∀ (k0_h1 : k0_cond1 i = 1#1), 128 ∣ (k0_mult5 v86).toNat := fun i v86 k0_hw5 k0_h1 => k0_hw5.1 k0_h1
theorem k0_off5_inb : ∀ (i : grid0.Coords) (v86 : BitVec 32) (k0_hw5 : k0_chk5 i v86), ∀ (k0_h1 : k0_cond1 i = 1#1), ∀ a, (k0_off5 v86) a + S64x128.size a ≤ S64x1000000.size a := fun i v86 k0_hw5 k0_h1 => k0_hw5.2 k0_h1

def k0_off6 (v106 : BitVec 32) : Fin 2 → Nat :=
  let c0_i32_1614 : BitVec 32 := 0#32
  let c0_i32_42 : BitVec 32 := 0#32
  let v108 : BitVec 1 := Scalar.cmpi .sgt v106 c0_i32_42
  let v109 : BitVec 32 := Scalar.extui v108
  let c0_i32_43 : BitVec 32 := 0#32
  let v110 : BitVec 1 := Scalar.cmpi .slt v106 c0_i32_43
  let v111 : BitVec 32 := Scalar.extui v110
  let v112 : BitVec 32 := Scalar.subi v109 v111
  let c128_i32_41 : BitVec 32 := 128#32
  let c0_i32_44 : BitVec 32 := 0#32
  let v113 : BitVec 1 := Scalar.cmpi .sgt c128_i32_41 c0_i32_44
  let v114 : BitVec 32 := Scalar.extui v113
  let c0_i32_45 : BitVec 32 := 0#32
  let v115 : BitVec 1 := Scalar.cmpi .slt c128_i32_41 c0_i32_45
  let v116 : BitVec 32 := Scalar.extui v115
  let v117 : BitVec 32 := Scalar.subi v114 v116
  let v118 : BitVec 1 := Scalar.cmpi .ne v112 v117
  let v119 : BitVec 32 := Scalar.remsi v106 c128_i32_41
  let c0_i32_46 : BitVec 32 := 0#32
  let v120 : BitVec 1 := Scalar.cmpi .ne v119 c0_i32_46
  let v121 : BitVec 1 := Scalar.andi v118 v120
  let v107 : BitVec 32 := Scalar.divsi v106 c128_i32_41
  let c1_i32_47 : BitVec 32 := 1#32
  let v122 : BitVec 32 := Scalar.subi v107 c1_i32_47
  let v123 : BitVec 32 := Scalar.select v121 v122 v107
  let c128_i32_48 : BitVec 32 := 128#32
  let v124 : BitVec 32 := Scalar.muli v123 c128_i32_48
  let v125 : BitVec 32 := v124
  ![0, v125.toNat]

def k0_chk6 (i : grid0.Coords) (v106 : BitVec 32) : Prop :=
  (∀ (k0_h1 : k0_cond1 i = 1#1), 128 ∣ (k0_mult6 v106).toNat) ∧
  (∀ (k0_h1 : k0_cond1 i = 1#1), ∀ a, (k0_off6 v106) a + S64x128.size a ≤ S64x1000000.size a)
theorem k0_mult6_dvd : ∀ (i : grid0.Coords) (v106 : BitVec 32) (k0_hw6 : k0_chk6 i v106), ∀ (k0_h1 : k0_cond1 i = 1#1), 128 ∣ (k0_mult6 v106).toNat := fun i v106 k0_hw6 k0_h1 => k0_hw6.1 k0_h1
theorem k0_off6_inb : ∀ (i : grid0.Coords) (v106 : BitVec 32) (k0_hw6 : k0_chk6 i v106), ∀ (k0_h1 : k0_cond1 i = 1#1), ∀ a, (k0_off6 v106) a + S64x128.size a ≤ S64x1000000.size a := fun i v106 k0_hw6 k0_h1 => k0_hw6.2 k0_h1

def k0_off7 (v126 : BitVec 32) : Fin 2 → Nat :=
  let c0_i32_1616 : BitVec 32 := 0#32
  let c0_i32_50 : BitVec 32 := 0#32
  let v128 : BitVec 1 := Scalar.cmpi .sgt v126 c0_i32_50
  let v129 : BitVec 32 := Scalar.extui v128
  let c0_i32_51 : BitVec 32 := 0#32
  let v130 : BitVec 1 := Scalar.cmpi .slt v126 c0_i32_51
  let v131 : BitVec 32 := Scalar.extui v130
  let v132 : BitVec 32 := Scalar.subi v129 v131
  let c128_i32_49 : BitVec 32 := 128#32
  let c0_i32_52 : BitVec 32 := 0#32
  let v133 : BitVec 1 := Scalar.cmpi .sgt c128_i32_49 c0_i32_52
  let v134 : BitVec 32 := Scalar.extui v133
  let c0_i32_53 : BitVec 32 := 0#32
  let v135 : BitVec 1 := Scalar.cmpi .slt c128_i32_49 c0_i32_53
  let v136 : BitVec 32 := Scalar.extui v135
  let v137 : BitVec 32 := Scalar.subi v134 v136
  let v138 : BitVec 1 := Scalar.cmpi .ne v132 v137
  let v139 : BitVec 32 := Scalar.remsi v126 c128_i32_49
  let c0_i32_54 : BitVec 32 := 0#32
  let v140 : BitVec 1 := Scalar.cmpi .ne v139 c0_i32_54
  let v141 : BitVec 1 := Scalar.andi v138 v140
  let v127 : BitVec 32 := Scalar.divsi v126 c128_i32_49
  let c1_i32_55 : BitVec 32 := 1#32
  let v142 : BitVec 32 := Scalar.subi v127 c1_i32_55
  let v143 : BitVec 32 := Scalar.select v141 v142 v127
  let c128_i32_56 : BitVec 32 := 128#32
  let v144 : BitVec 32 := Scalar.muli v143 c128_i32_56
  let v145 : BitVec 32 := v144
  ![0, v145.toNat]

def k0_chk7 (i : grid0.Coords) (v126 : BitVec 32) : Prop :=
  (∀ (k0_h1 : k0_cond1 i = 1#1), 128 ∣ (k0_mult7 v126).toNat) ∧
  (∀ (k0_h1 : k0_cond1 i = 1#1), ∀ a, (k0_off7 v126) a + S64x128.size a ≤ S64x1000000.size a)
theorem k0_mult7_dvd : ∀ (i : grid0.Coords) (v126 : BitVec 32) (k0_hw7 : k0_chk7 i v126), ∀ (k0_h1 : k0_cond1 i = 1#1), 128 ∣ (k0_mult7 v126).toNat := fun i v126 k0_hw7 k0_h1 => k0_hw7.1 k0_h1
theorem k0_off7_inb : ∀ (i : grid0.Coords) (v126 : BitVec 32) (k0_hw7 : k0_chk7 i v126), ∀ (k0_h1 : k0_cond1 i = 1#1), ∀ a, (k0_off7 v126) a + S64x128.size a ≤ S64x1000000.size a := fun i v126 k0_hw7 k0_h1 => k0_hw7.2 k0_h1

def k0_off8 (v146 : BitVec 32) : Fin 2 → Nat :=
  let c0_i32_1618 : BitVec 32 := 0#32
  let c0_i32_58 : BitVec 32 := 0#32
  let v148 : BitVec 1 := Scalar.cmpi .sgt v146 c0_i32_58
  let v149 : BitVec 32 := Scalar.extui v148
  let c0_i32_59 : BitVec 32 := 0#32
  let v150 : BitVec 1 := Scalar.cmpi .slt v146 c0_i32_59
  let v151 : BitVec 32 := Scalar.extui v150
  let v152 : BitVec 32 := Scalar.subi v149 v151
  let c128_i32_57 : BitVec 32 := 128#32
  let c0_i32_60 : BitVec 32 := 0#32
  let v153 : BitVec 1 := Scalar.cmpi .sgt c128_i32_57 c0_i32_60
  let v154 : BitVec 32 := Scalar.extui v153
  let c0_i32_61 : BitVec 32 := 0#32
  let v155 : BitVec 1 := Scalar.cmpi .slt c128_i32_57 c0_i32_61
  let v156 : BitVec 32 := Scalar.extui v155
  let v157 : BitVec 32 := Scalar.subi v154 v156
  let v158 : BitVec 1 := Scalar.cmpi .ne v152 v157
  let v159 : BitVec 32 := Scalar.remsi v146 c128_i32_57
  let c0_i32_62 : BitVec 32 := 0#32
  let v160 : BitVec 1 := Scalar.cmpi .ne v159 c0_i32_62
  let v161 : BitVec 1 := Scalar.andi v158 v160
  let v147 : BitVec 32 := Scalar.divsi v146 c128_i32_57
  let c1_i32_63 : BitVec 32 := 1#32
  let v162 : BitVec 32 := Scalar.subi v147 c1_i32_63
  let v163 : BitVec 32 := Scalar.select v161 v162 v147
  let c128_i32_64 : BitVec 32 := 128#32
  let v164 : BitVec 32 := Scalar.muli v163 c128_i32_64
  let v165 : BitVec 32 := v164
  ![0, v165.toNat]

def k0_chk8 (i : grid0.Coords) (v146 : BitVec 32) : Prop :=
  (∀ (k0_h1 : k0_cond1 i = 1#1), 128 ∣ (k0_mult8 v146).toNat) ∧
  (∀ (k0_h1 : k0_cond1 i = 1#1), ∀ a, (k0_off8 v146) a + S64x128.size a ≤ S64x1000000.size a)
theorem k0_mult8_dvd : ∀ (i : grid0.Coords) (v146 : BitVec 32) (k0_hw8 : k0_chk8 i v146), ∀ (k0_h1 : k0_cond1 i = 1#1), 128 ∣ (k0_mult8 v146).toNat := fun i v146 k0_hw8 k0_h1 => k0_hw8.1 k0_h1
theorem k0_off8_inb : ∀ (i : grid0.Coords) (v146 : BitVec 32) (k0_hw8 : k0_chk8 i v146), ∀ (k0_h1 : k0_cond1 i = 1#1), ∀ a, (k0_off8 v146) a + S64x128.size a ≤ S64x1000000.size a := fun i v146 k0_hw8 k0_h1 => k0_hw8.2 k0_h1

def k0_off9 (v166 : BitVec 32) : Fin 2 → Nat :=
  let c0_i32_1620 : BitVec 32 := 0#32
  let c0_i32_66 : BitVec 32 := 0#32
  let v168 : BitVec 1 := Scalar.cmpi .sgt v166 c0_i32_66
  let v169 : BitVec 32 := Scalar.extui v168
  let c0_i32_67 : BitVec 32 := 0#32
  let v170 : BitVec 1 := Scalar.cmpi .slt v166 c0_i32_67
  let v171 : BitVec 32 := Scalar.extui v170
  let v172 : BitVec 32 := Scalar.subi v169 v171
  let c128_i32_65 : BitVec 32 := 128#32
  let c0_i32_68 : BitVec 32 := 0#32
  let v173 : BitVec 1 := Scalar.cmpi .sgt c128_i32_65 c0_i32_68
  let v174 : BitVec 32 := Scalar.extui v173
  let c0_i32_69 : BitVec 32 := 0#32
  let v175 : BitVec 1 := Scalar.cmpi .slt c128_i32_65 c0_i32_69
  let v176 : BitVec 32 := Scalar.extui v175
  let v177 : BitVec 32 := Scalar.subi v174 v176
  let v178 : BitVec 1 := Scalar.cmpi .ne v172 v177
  let v179 : BitVec 32 := Scalar.remsi v166 c128_i32_65
  let c0_i32_70 : BitVec 32 := 0#32
  let v180 : BitVec 1 := Scalar.cmpi .ne v179 c0_i32_70
  let v181 : BitVec 1 := Scalar.andi v178 v180
  let v167 : BitVec 32 := Scalar.divsi v166 c128_i32_65
  let c1_i32_71 : BitVec 32 := 1#32
  let v182 : BitVec 32 := Scalar.subi v167 c1_i32_71
  let v183 : BitVec 32 := Scalar.select v181 v182 v167
  let c128_i32_72 : BitVec 32 := 128#32
  let v184 : BitVec 32 := Scalar.muli v183 c128_i32_72
  let v185 : BitVec 32 := v184
  ![0, v185.toNat]

def k0_chk9 (i : grid0.Coords) (v166 : BitVec 32) : Prop :=
  (∀ (k0_h1 : k0_cond1 i = 1#1), 128 ∣ (k0_mult9 v166).toNat) ∧
  (∀ (k0_h1 : k0_cond1 i = 1#1), ∀ a, (k0_off9 v166) a + S64x128.size a ≤ S64x1000000.size a)
theorem k0_mult9_dvd : ∀ (i : grid0.Coords) (v166 : BitVec 32) (k0_hw9 : k0_chk9 i v166), ∀ (k0_h1 : k0_cond1 i = 1#1), 128 ∣ (k0_mult9 v166).toNat := fun i v166 k0_hw9 k0_h1 => k0_hw9.1 k0_h1
theorem k0_off9_inb : ∀ (i : grid0.Coords) (v166 : BitVec 32) (k0_hw9 : k0_chk9 i v166), ∀ (k0_h1 : k0_cond1 i = 1#1), ∀ a, (k0_off9 v166) a + S64x128.size a ≤ S64x1000000.size a := fun i v166 k0_hw9 k0_h1 => k0_hw9.2 k0_h1

def k0_off10 (v186 : BitVec 32) : Fin 2 → Nat :=
  let c0_i32_1622 : BitVec 32 := 0#32
  let c0_i32_74 : BitVec 32 := 0#32
  let v188 : BitVec 1 := Scalar.cmpi .sgt v186 c0_i32_74
  let v189 : BitVec 32 := Scalar.extui v188
  let c0_i32_75 : BitVec 32 := 0#32
  let v190 : BitVec 1 := Scalar.cmpi .slt v186 c0_i32_75
  let v191 : BitVec 32 := Scalar.extui v190
  let v192 : BitVec 32 := Scalar.subi v189 v191
  let c128_i32_73 : BitVec 32 := 128#32
  let c0_i32_76 : BitVec 32 := 0#32
  let v193 : BitVec 1 := Scalar.cmpi .sgt c128_i32_73 c0_i32_76
  let v194 : BitVec 32 := Scalar.extui v193
  let c0_i32_77 : BitVec 32 := 0#32
  let v195 : BitVec 1 := Scalar.cmpi .slt c128_i32_73 c0_i32_77
  let v196 : BitVec 32 := Scalar.extui v195
  let v197 : BitVec 32 := Scalar.subi v194 v196
  let v198 : BitVec 1 := Scalar.cmpi .ne v192 v197
  let v199 : BitVec 32 := Scalar.remsi v186 c128_i32_73
  let c0_i32_78 : BitVec 32 := 0#32
  let v200 : BitVec 1 := Scalar.cmpi .ne v199 c0_i32_78
  let v201 : BitVec 1 := Scalar.andi v198 v200
  let v187 : BitVec 32 := Scalar.divsi v186 c128_i32_73
  let c1_i32_79 : BitVec 32 := 1#32
  let v202 : BitVec 32 := Scalar.subi v187 c1_i32_79
  let v203 : BitVec 32 := Scalar.select v201 v202 v187
  let c128_i32_80 : BitVec 32 := 128#32
  let v204 : BitVec 32 := Scalar.muli v203 c128_i32_80
  let v205 : BitVec 32 := v204
  ![0, v205.toNat]

def k0_chk10 (i : grid0.Coords) (v186 : BitVec 32) : Prop :=
  (∀ (k0_h1 : k0_cond1 i = 1#1), 128 ∣ (k0_mult10 v186).toNat) ∧
  (∀ (k0_h1 : k0_cond1 i = 1#1), ∀ a, (k0_off10 v186) a + S64x128.size a ≤ S64x1000000.size a)
theorem k0_mult10_dvd : ∀ (i : grid0.Coords) (v186 : BitVec 32) (k0_hw10 : k0_chk10 i v186), ∀ (k0_h1 : k0_cond1 i = 1#1), 128 ∣ (k0_mult10 v186).toNat := fun i v186 k0_hw10 k0_h1 => k0_hw10.1 k0_h1
theorem k0_off10_inb : ∀ (i : grid0.Coords) (v186 : BitVec 32) (k0_hw10 : k0_chk10 i v186), ∀ (k0_h1 : k0_cond1 i = 1#1), ∀ a, (k0_off10 v186) a + S64x128.size a ≤ S64x1000000.size a := fun i v186 k0_hw10 k0_h1 => k0_hw10.2 k0_h1

def k0_off11 (v206 : BitVec 32) : Fin 2 → Nat :=
  let c0_i32_1624 : BitVec 32 := 0#32
  let c0_i32_82 : BitVec 32 := 0#32
  let v208 : BitVec 1 := Scalar.cmpi .sgt v206 c0_i32_82
  let v209 : BitVec 32 := Scalar.extui v208
  let c0_i32_83 : BitVec 32 := 0#32
  let v210 : BitVec 1 := Scalar.cmpi .slt v206 c0_i32_83
  let v211 : BitVec 32 := Scalar.extui v210
  let v212 : BitVec 32 := Scalar.subi v209 v211
  let c128_i32_81 : BitVec 32 := 128#32
  let c0_i32_84 : BitVec 32 := 0#32
  let v213 : BitVec 1 := Scalar.cmpi .sgt c128_i32_81 c0_i32_84
  let v214 : BitVec 32 := Scalar.extui v213
  let c0_i32_85 : BitVec 32 := 0#32
  let v215 : BitVec 1 := Scalar.cmpi .slt c128_i32_81 c0_i32_85
  let v216 : BitVec 32 := Scalar.extui v215
  let v217 : BitVec 32 := Scalar.subi v214 v216
  let v218 : BitVec 1 := Scalar.cmpi .ne v212 v217
  let v219 : BitVec 32 := Scalar.remsi v206 c128_i32_81
  let c0_i32_86 : BitVec 32 := 0#32
  let v220 : BitVec 1 := Scalar.cmpi .ne v219 c0_i32_86
  let v221 : BitVec 1 := Scalar.andi v218 v220
  let v207 : BitVec 32 := Scalar.divsi v206 c128_i32_81
  let c1_i32_87 : BitVec 32 := 1#32
  let v222 : BitVec 32 := Scalar.subi v207 c1_i32_87
  let v223 : BitVec 32 := Scalar.select v221 v222 v207
  let c128_i32_88 : BitVec 32 := 128#32
  let v224 : BitVec 32 := Scalar.muli v223 c128_i32_88
  let v225 : BitVec 32 := v224
  ![0, v225.toNat]

def k0_chk11 (i : grid0.Coords) (v206 : BitVec 32) : Prop :=
  (∀ (k0_h1 : k0_cond1 i = 1#1), 128 ∣ (k0_mult11 v206).toNat) ∧
  (∀ (k0_h1 : k0_cond1 i = 1#1), ∀ a, (k0_off11 v206) a + S64x128.size a ≤ S64x1000000.size a)
theorem k0_mult11_dvd : ∀ (i : grid0.Coords) (v206 : BitVec 32) (k0_hw11 : k0_chk11 i v206), ∀ (k0_h1 : k0_cond1 i = 1#1), 128 ∣ (k0_mult11 v206).toNat := fun i v206 k0_hw11 k0_h1 => k0_hw11.1 k0_h1
theorem k0_off11_inb : ∀ (i : grid0.Coords) (v206 : BitVec 32) (k0_hw11 : k0_chk11 i v206), ∀ (k0_h1 : k0_cond1 i = 1#1), ∀ a, (k0_off11 v206) a + S64x128.size a ≤ S64x1000000.size a := fun i v206 k0_hw11 k0_h1 => k0_hw11.2 k0_h1

def k0_off12 (v226 : BitVec 32) : Fin 2 → Nat :=
  let c0_i32_1626 : BitVec 32 := 0#32
  let c0_i32_90 : BitVec 32 := 0#32
  let v228 : BitVec 1 := Scalar.cmpi .sgt v226 c0_i32_90
  let v229 : BitVec 32 := Scalar.extui v228
  let c0_i32_91 : BitVec 32 := 0#32
  let v230 : BitVec 1 := Scalar.cmpi .slt v226 c0_i32_91
  let v231 : BitVec 32 := Scalar.extui v230
  let v232 : BitVec 32 := Scalar.subi v229 v231
  let c128_i32_89 : BitVec 32 := 128#32
  let c0_i32_92 : BitVec 32 := 0#32
  let v233 : BitVec 1 := Scalar.cmpi .sgt c128_i32_89 c0_i32_92
  let v234 : BitVec 32 := Scalar.extui v233
  let c0_i32_93 : BitVec 32 := 0#32
  let v235 : BitVec 1 := Scalar.cmpi .slt c128_i32_89 c0_i32_93
  let v236 : BitVec 32 := Scalar.extui v235
  let v237 : BitVec 32 := Scalar.subi v234 v236
  let v238 : BitVec 1 := Scalar.cmpi .ne v232 v237
  let v239 : BitVec 32 := Scalar.remsi v226 c128_i32_89
  let c0_i32_94 : BitVec 32 := 0#32
  let v240 : BitVec 1 := Scalar.cmpi .ne v239 c0_i32_94
  let v241 : BitVec 1 := Scalar.andi v238 v240
  let v227 : BitVec 32 := Scalar.divsi v226 c128_i32_89
  let c1_i32_95 : BitVec 32 := 1#32
  let v242 : BitVec 32 := Scalar.subi v227 c1_i32_95
  let v243 : BitVec 32 := Scalar.select v241 v242 v227
  let c128_i32_96 : BitVec 32 := 128#32
  let v244 : BitVec 32 := Scalar.muli v243 c128_i32_96
  let v245 : BitVec 32 := v244
  ![0, v245.toNat]

def k0_chk12 (i : grid0.Coords) (v226 : BitVec 32) : Prop :=
  (∀ (k0_h1 : k0_cond1 i = 1#1), 128 ∣ (k0_mult12 v226).toNat) ∧
  (∀ (k0_h1 : k0_cond1 i = 1#1), ∀ a, (k0_off12 v226) a + S64x128.size a ≤ S64x1000000.size a)
theorem k0_mult12_dvd : ∀ (i : grid0.Coords) (v226 : BitVec 32) (k0_hw12 : k0_chk12 i v226), ∀ (k0_h1 : k0_cond1 i = 1#1), 128 ∣ (k0_mult12 v226).toNat := fun i v226 k0_hw12 k0_h1 => k0_hw12.1 k0_h1
theorem k0_off12_inb : ∀ (i : grid0.Coords) (v226 : BitVec 32) (k0_hw12 : k0_chk12 i v226), ∀ (k0_h1 : k0_cond1 i = 1#1), ∀ a, (k0_off12 v226) a + S64x128.size a ≤ S64x1000000.size a := fun i v226 k0_hw12 k0_h1 => k0_hw12.2 k0_h1

def k0_off13 (v246 : BitVec 32) : Fin 2 → Nat :=
  let c0_i32_1628 : BitVec 32 := 0#32
  let c0_i32_98 : BitVec 32 := 0#32
  let v248 : BitVec 1 := Scalar.cmpi .sgt v246 c0_i32_98
  let v249 : BitVec 32 := Scalar.extui v248
  let c0_i32_99 : BitVec 32 := 0#32
  let v250 : BitVec 1 := Scalar.cmpi .slt v246 c0_i32_99
  let v251 : BitVec 32 := Scalar.extui v250
  let v252 : BitVec 32 := Scalar.subi v249 v251
  let c128_i32_97 : BitVec 32 := 128#32
  let c0_i32_100 : BitVec 32 := 0#32
  let v253 : BitVec 1 := Scalar.cmpi .sgt c128_i32_97 c0_i32_100
  let v254 : BitVec 32 := Scalar.extui v253
  let c0_i32_101 : BitVec 32 := 0#32
  let v255 : BitVec 1 := Scalar.cmpi .slt c128_i32_97 c0_i32_101
  let v256 : BitVec 32 := Scalar.extui v255
  let v257 : BitVec 32 := Scalar.subi v254 v256
  let v258 : BitVec 1 := Scalar.cmpi .ne v252 v257
  let v259 : BitVec 32 := Scalar.remsi v246 c128_i32_97
  let c0_i32_102 : BitVec 32 := 0#32
  let v260 : BitVec 1 := Scalar.cmpi .ne v259 c0_i32_102
  let v261 : BitVec 1 := Scalar.andi v258 v260
  let v247 : BitVec 32 := Scalar.divsi v246 c128_i32_97
  let c1_i32_103 : BitVec 32 := 1#32
  let v262 : BitVec 32 := Scalar.subi v247 c1_i32_103
  let v263 : BitVec 32 := Scalar.select v261 v262 v247
  let c128_i32_104 : BitVec 32 := 128#32
  let v264 : BitVec 32 := Scalar.muli v263 c128_i32_104
  let v265 : BitVec 32 := v264
  ![0, v265.toNat]

def k0_chk13 (i : grid0.Coords) (v246 : BitVec 32) : Prop :=
  (∀ (k0_h1 : k0_cond1 i = 1#1), 128 ∣ (k0_mult13 v246).toNat) ∧
  (∀ (k0_h1 : k0_cond1 i = 1#1), ∀ a, (k0_off13 v246) a + S64x128.size a ≤ S64x1000000.size a)
theorem k0_mult13_dvd : ∀ (i : grid0.Coords) (v246 : BitVec 32) (k0_hw13 : k0_chk13 i v246), ∀ (k0_h1 : k0_cond1 i = 1#1), 128 ∣ (k0_mult13 v246).toNat := fun i v246 k0_hw13 k0_h1 => k0_hw13.1 k0_h1
theorem k0_off13_inb : ∀ (i : grid0.Coords) (v246 : BitVec 32) (k0_hw13 : k0_chk13 i v246), ∀ (k0_h1 : k0_cond1 i = 1#1), ∀ a, (k0_off13 v246) a + S64x128.size a ≤ S64x1000000.size a := fun i v246 k0_hw13 k0_h1 => k0_hw13.2 k0_h1

def k0_off14 (v266 : BitVec 32) : Fin 2 → Nat :=
  let c0_i32_1630 : BitVec 32 := 0#32
  let c0_i32_106 : BitVec 32 := 0#32
  let v268 : BitVec 1 := Scalar.cmpi .sgt v266 c0_i32_106
  let v269 : BitVec 32 := Scalar.extui v268
  let c0_i32_107 : BitVec 32 := 0#32
  let v270 : BitVec 1 := Scalar.cmpi .slt v266 c0_i32_107
  let v271 : BitVec 32 := Scalar.extui v270
  let v272 : BitVec 32 := Scalar.subi v269 v271
  let c128_i32_105 : BitVec 32 := 128#32
  let c0_i32_108 : BitVec 32 := 0#32
  let v273 : BitVec 1 := Scalar.cmpi .sgt c128_i32_105 c0_i32_108
  let v274 : BitVec 32 := Scalar.extui v273
  let c0_i32_109 : BitVec 32 := 0#32
  let v275 : BitVec 1 := Scalar.cmpi .slt c128_i32_105 c0_i32_109
  let v276 : BitVec 32 := Scalar.extui v275
  let v277 : BitVec 32 := Scalar.subi v274 v276
  let v278 : BitVec 1 := Scalar.cmpi .ne v272 v277
  let v279 : BitVec 32 := Scalar.remsi v266 c128_i32_105
  let c0_i32_110 : BitVec 32 := 0#32
  let v280 : BitVec 1 := Scalar.cmpi .ne v279 c0_i32_110
  let v281 : BitVec 1 := Scalar.andi v278 v280
  let v267 : BitVec 32 := Scalar.divsi v266 c128_i32_105
  let c1_i32_111 : BitVec 32 := 1#32
  let v282 : BitVec 32 := Scalar.subi v267 c1_i32_111
  let v283 : BitVec 32 := Scalar.select v281 v282 v267
  let c128_i32_112 : BitVec 32 := 128#32
  let v284 : BitVec 32 := Scalar.muli v283 c128_i32_112
  let v285 : BitVec 32 := v284
  ![0, v285.toNat]

def k0_chk14 (i : grid0.Coords) (v266 : BitVec 32) : Prop :=
  (∀ (k0_h1 : k0_cond1 i = 1#1), 128 ∣ (k0_mult14 v266).toNat) ∧
  (∀ (k0_h1 : k0_cond1 i = 1#1), ∀ a, (k0_off14 v266) a + S64x128.size a ≤ S64x1000000.size a)
theorem k0_mult14_dvd : ∀ (i : grid0.Coords) (v266 : BitVec 32) (k0_hw14 : k0_chk14 i v266), ∀ (k0_h1 : k0_cond1 i = 1#1), 128 ∣ (k0_mult14 v266).toNat := fun i v266 k0_hw14 k0_h1 => k0_hw14.1 k0_h1
theorem k0_off14_inb : ∀ (i : grid0.Coords) (v266 : BitVec 32) (k0_hw14 : k0_chk14 i v266), ∀ (k0_h1 : k0_cond1 i = 1#1), ∀ a, (k0_off14 v266) a + S64x128.size a ≤ S64x1000000.size a := fun i v266 k0_hw14 k0_h1 => k0_hw14.2 k0_h1

def k0_off15 (v286 : BitVec 32) : Fin 2 → Nat :=
  let c0_i32_1632 : BitVec 32 := 0#32
  let c0_i32_114 : BitVec 32 := 0#32
  let v288 : BitVec 1 := Scalar.cmpi .sgt v286 c0_i32_114
  let v289 : BitVec 32 := Scalar.extui v288
  let c0_i32_115 : BitVec 32 := 0#32
  let v290 : BitVec 1 := Scalar.cmpi .slt v286 c0_i32_115
  let v291 : BitVec 32 := Scalar.extui v290
  let v292 : BitVec 32 := Scalar.subi v289 v291
  let c128_i32_113 : BitVec 32 := 128#32
  let c0_i32_116 : BitVec 32 := 0#32
  let v293 : BitVec 1 := Scalar.cmpi .sgt c128_i32_113 c0_i32_116
  let v294 : BitVec 32 := Scalar.extui v293
  let c0_i32_117 : BitVec 32 := 0#32
  let v295 : BitVec 1 := Scalar.cmpi .slt c128_i32_113 c0_i32_117
  let v296 : BitVec 32 := Scalar.extui v295
  let v297 : BitVec 32 := Scalar.subi v294 v296
  let v298 : BitVec 1 := Scalar.cmpi .ne v292 v297
  let v299 : BitVec 32 := Scalar.remsi v286 c128_i32_113
  let c0_i32_118 : BitVec 32 := 0#32
  let v300 : BitVec 1 := Scalar.cmpi .ne v299 c0_i32_118
  let v301 : BitVec 1 := Scalar.andi v298 v300
  let v287 : BitVec 32 := Scalar.divsi v286 c128_i32_113
  let c1_i32_119 : BitVec 32 := 1#32
  let v302 : BitVec 32 := Scalar.subi v287 c1_i32_119
  let v303 : BitVec 32 := Scalar.select v301 v302 v287
  let c128_i32_120 : BitVec 32 := 128#32
  let v304 : BitVec 32 := Scalar.muli v303 c128_i32_120
  let v305 : BitVec 32 := v304
  ![0, v305.toNat]

def k0_chk15 (i : grid0.Coords) (v286 : BitVec 32) : Prop :=
  (∀ (k0_h1 : k0_cond1 i = 1#1), 128 ∣ (k0_mult15 v286).toNat) ∧
  (∀ (k0_h1 : k0_cond1 i = 1#1), ∀ a, (k0_off15 v286) a + S64x128.size a ≤ S64x1000000.size a)
theorem k0_mult15_dvd : ∀ (i : grid0.Coords) (v286 : BitVec 32) (k0_hw15 : k0_chk15 i v286), ∀ (k0_h1 : k0_cond1 i = 1#1), 128 ∣ (k0_mult15 v286).toNat := fun i v286 k0_hw15 k0_h1 => k0_hw15.1 k0_h1
theorem k0_off15_inb : ∀ (i : grid0.Coords) (v286 : BitVec 32) (k0_hw15 : k0_chk15 i v286), ∀ (k0_h1 : k0_cond1 i = 1#1), ∀ a, (k0_off15 v286) a + S64x128.size a ≤ S64x1000000.size a := fun i v286 k0_hw15 k0_h1 => k0_hw15.2 k0_h1

def k0_off16 (v306 : BitVec 32) : Fin 2 → Nat :=
  let c0_i32_1634 : BitVec 32 := 0#32
  let c0_i32_122 : BitVec 32 := 0#32
  let v308 : BitVec 1 := Scalar.cmpi .sgt v306 c0_i32_122
  let v309 : BitVec 32 := Scalar.extui v308
  let c0_i32_123 : BitVec 32 := 0#32
  let v310 : BitVec 1 := Scalar.cmpi .slt v306 c0_i32_123
  let v311 : BitVec 32 := Scalar.extui v310
  let v312 : BitVec 32 := Scalar.subi v309 v311
  let c128_i32_121 : BitVec 32 := 128#32
  let c0_i32_124 : BitVec 32 := 0#32
  let v313 : BitVec 1 := Scalar.cmpi .sgt c128_i32_121 c0_i32_124
  let v314 : BitVec 32 := Scalar.extui v313
  let c0_i32_125 : BitVec 32 := 0#32
  let v315 : BitVec 1 := Scalar.cmpi .slt c128_i32_121 c0_i32_125
  let v316 : BitVec 32 := Scalar.extui v315
  let v317 : BitVec 32 := Scalar.subi v314 v316
  let v318 : BitVec 1 := Scalar.cmpi .ne v312 v317
  let v319 : BitVec 32 := Scalar.remsi v306 c128_i32_121
  let c0_i32_126 : BitVec 32 := 0#32
  let v320 : BitVec 1 := Scalar.cmpi .ne v319 c0_i32_126
  let v321 : BitVec 1 := Scalar.andi v318 v320
  let v307 : BitVec 32 := Scalar.divsi v306 c128_i32_121
  let c1_i32_127 : BitVec 32 := 1#32
  let v322 : BitVec 32 := Scalar.subi v307 c1_i32_127
  let v323 : BitVec 32 := Scalar.select v321 v322 v307
  let c128_i32_128 : BitVec 32 := 128#32
  let v324 : BitVec 32 := Scalar.muli v323 c128_i32_128
  let v325 : BitVec 32 := v324
  ![0, v325.toNat]

def k0_chk16 (i : grid0.Coords) (v306 : BitVec 32) : Prop :=
  (∀ (k0_h1 : k0_cond1 i = 1#1), 128 ∣ (k0_mult16 v306).toNat) ∧
  (∀ (k0_h1 : k0_cond1 i = 1#1), ∀ a, (k0_off16 v306) a + S64x128.size a ≤ S64x1000000.size a)
theorem k0_mult16_dvd : ∀ (i : grid0.Coords) (v306 : BitVec 32) (k0_hw16 : k0_chk16 i v306), ∀ (k0_h1 : k0_cond1 i = 1#1), 128 ∣ (k0_mult16 v306).toNat := fun i v306 k0_hw16 k0_h1 => k0_hw16.1 k0_h1
theorem k0_off16_inb : ∀ (i : grid0.Coords) (v306 : BitVec 32) (k0_hw16 : k0_chk16 i v306), ∀ (k0_h1 : k0_cond1 i = 1#1), ∀ a, (k0_off16 v306) a + S64x128.size a ≤ S64x1000000.size a := fun i v306 k0_hw16 k0_h1 => k0_hw16.2 k0_h1

def k0_off17 (v326 : BitVec 32) : Fin 2 → Nat :=
  let c0_i32_1636 : BitVec 32 := 0#32
  let c0_i32_130 : BitVec 32 := 0#32
  let v328 : BitVec 1 := Scalar.cmpi .sgt v326 c0_i32_130
  let v329 : BitVec 32 := Scalar.extui v328
  let c0_i32_131 : BitVec 32 := 0#32
  let v330 : BitVec 1 := Scalar.cmpi .slt v326 c0_i32_131
  let v331 : BitVec 32 := Scalar.extui v330
  let v332 : BitVec 32 := Scalar.subi v329 v331
  let c128_i32_129 : BitVec 32 := 128#32
  let c0_i32_132 : BitVec 32 := 0#32
  let v333 : BitVec 1 := Scalar.cmpi .sgt c128_i32_129 c0_i32_132
  let v334 : BitVec 32 := Scalar.extui v333
  let c0_i32_133 : BitVec 32 := 0#32
  let v335 : BitVec 1 := Scalar.cmpi .slt c128_i32_129 c0_i32_133
  let v336 : BitVec 32 := Scalar.extui v335
  let v337 : BitVec 32 := Scalar.subi v334 v336
  let v338 : BitVec 1 := Scalar.cmpi .ne v332 v337
  let v339 : BitVec 32 := Scalar.remsi v326 c128_i32_129
  let c0_i32_134 : BitVec 32 := 0#32
  let v340 : BitVec 1 := Scalar.cmpi .ne v339 c0_i32_134
  let v341 : BitVec 1 := Scalar.andi v338 v340
  let v327 : BitVec 32 := Scalar.divsi v326 c128_i32_129
  let c1_i32_135 : BitVec 32 := 1#32
  let v342 : BitVec 32 := Scalar.subi v327 c1_i32_135
  let v343 : BitVec 32 := Scalar.select v341 v342 v327
  let c128_i32_136 : BitVec 32 := 128#32
  let v344 : BitVec 32 := Scalar.muli v343 c128_i32_136
  let v345 : BitVec 32 := v344
  ![0, v345.toNat]

def k0_chk17 (i : grid0.Coords) (v326 : BitVec 32) : Prop :=
  (∀ (k0_h1 : k0_cond1 i = 1#1), 128 ∣ (k0_mult17 v326).toNat) ∧
  (∀ (k0_h1 : k0_cond1 i = 1#1), ∀ a, (k0_off17 v326) a + S64x128.size a ≤ S64x1000000.size a)
theorem k0_mult17_dvd : ∀ (i : grid0.Coords) (v326 : BitVec 32) (k0_hw17 : k0_chk17 i v326), ∀ (k0_h1 : k0_cond1 i = 1#1), 128 ∣ (k0_mult17 v326).toNat := fun i v326 k0_hw17 k0_h1 => k0_hw17.1 k0_h1
theorem k0_off17_inb : ∀ (i : grid0.Coords) (v326 : BitVec 32) (k0_hw17 : k0_chk17 i v326), ∀ (k0_h1 : k0_cond1 i = 1#1), ∀ a, (k0_off17 v326) a + S64x128.size a ≤ S64x1000000.size a := fun i v326 k0_hw17 k0_h1 => k0_hw17.2 k0_h1

def k0_off18 (v346 : BitVec 32) : Fin 2 → Nat :=
  let c0_i32_1638 : BitVec 32 := 0#32
  let c0_i32_138 : BitVec 32 := 0#32
  let v348 : BitVec 1 := Scalar.cmpi .sgt v346 c0_i32_138
  let v349 : BitVec 32 := Scalar.extui v348
  let c0_i32_139 : BitVec 32 := 0#32
  let v350 : BitVec 1 := Scalar.cmpi .slt v346 c0_i32_139
  let v351 : BitVec 32 := Scalar.extui v350
  let v352 : BitVec 32 := Scalar.subi v349 v351
  let c128_i32_137 : BitVec 32 := 128#32
  let c0_i32_140 : BitVec 32 := 0#32
  let v353 : BitVec 1 := Scalar.cmpi .sgt c128_i32_137 c0_i32_140
  let v354 : BitVec 32 := Scalar.extui v353
  let c0_i32_141 : BitVec 32 := 0#32
  let v355 : BitVec 1 := Scalar.cmpi .slt c128_i32_137 c0_i32_141
  let v356 : BitVec 32 := Scalar.extui v355
  let v357 : BitVec 32 := Scalar.subi v354 v356
  let v358 : BitVec 1 := Scalar.cmpi .ne v352 v357
  let v359 : BitVec 32 := Scalar.remsi v346 c128_i32_137
  let c0_i32_142 : BitVec 32 := 0#32
  let v360 : BitVec 1 := Scalar.cmpi .ne v359 c0_i32_142
  let v361 : BitVec 1 := Scalar.andi v358 v360
  let v347 : BitVec 32 := Scalar.divsi v346 c128_i32_137
  let c1_i32_143 : BitVec 32 := 1#32
  let v362 : BitVec 32 := Scalar.subi v347 c1_i32_143
  let v363 : BitVec 32 := Scalar.select v361 v362 v347
  let c128_i32_144 : BitVec 32 := 128#32
  let v364 : BitVec 32 := Scalar.muli v363 c128_i32_144
  let v365 : BitVec 32 := v364
  ![0, v365.toNat]

def k0_chk18 (i : grid0.Coords) (v346 : BitVec 32) : Prop :=
  (∀ (k0_h1 : k0_cond1 i = 1#1), 128 ∣ (k0_mult18 v346).toNat) ∧
  (∀ (k0_h1 : k0_cond1 i = 1#1), ∀ a, (k0_off18 v346) a + S64x128.size a ≤ S64x1000000.size a)
theorem k0_mult18_dvd : ∀ (i : grid0.Coords) (v346 : BitVec 32) (k0_hw18 : k0_chk18 i v346), ∀ (k0_h1 : k0_cond1 i = 1#1), 128 ∣ (k0_mult18 v346).toNat := fun i v346 k0_hw18 k0_h1 => k0_hw18.1 k0_h1
theorem k0_off18_inb : ∀ (i : grid0.Coords) (v346 : BitVec 32) (k0_hw18 : k0_chk18 i v346), ∀ (k0_h1 : k0_cond1 i = 1#1), ∀ a, (k0_off18 v346) a + S64x128.size a ≤ S64x1000000.size a := fun i v346 k0_hw18 k0_h1 => k0_hw18.2 k0_h1

def k0_off19 (v366 : BitVec 32) : Fin 2 → Nat :=
  let c0_i32_1640 : BitVec 32 := 0#32
  let c0_i32_146 : BitVec 32 := 0#32
  let v368 : BitVec 1 := Scalar.cmpi .sgt v366 c0_i32_146
  let v369 : BitVec 32 := Scalar.extui v368
  let c0_i32_147 : BitVec 32 := 0#32
  let v370 : BitVec 1 := Scalar.cmpi .slt v366 c0_i32_147
  let v371 : BitVec 32 := Scalar.extui v370
  let v372 : BitVec 32 := Scalar.subi v369 v371
  let c128_i32_145 : BitVec 32 := 128#32
  let c0_i32_148 : BitVec 32 := 0#32
  let v373 : BitVec 1 := Scalar.cmpi .sgt c128_i32_145 c0_i32_148
  let v374 : BitVec 32 := Scalar.extui v373
  let c0_i32_149 : BitVec 32 := 0#32
  let v375 : BitVec 1 := Scalar.cmpi .slt c128_i32_145 c0_i32_149
  let v376 : BitVec 32 := Scalar.extui v375
  let v377 : BitVec 32 := Scalar.subi v374 v376
  let v378 : BitVec 1 := Scalar.cmpi .ne v372 v377
  let v379 : BitVec 32 := Scalar.remsi v366 c128_i32_145
  let c0_i32_150 : BitVec 32 := 0#32
  let v380 : BitVec 1 := Scalar.cmpi .ne v379 c0_i32_150
  let v381 : BitVec 1 := Scalar.andi v378 v380
  let v367 : BitVec 32 := Scalar.divsi v366 c128_i32_145
  let c1_i32_151 : BitVec 32 := 1#32
  let v382 : BitVec 32 := Scalar.subi v367 c1_i32_151
  let v383 : BitVec 32 := Scalar.select v381 v382 v367
  let c128_i32_152 : BitVec 32 := 128#32
  let v384 : BitVec 32 := Scalar.muli v383 c128_i32_152
  let v385 : BitVec 32 := v384
  ![0, v385.toNat]

def k0_chk19 (i : grid0.Coords) (v366 : BitVec 32) : Prop :=
  (∀ (k0_h1 : k0_cond1 i = 1#1), 128 ∣ (k0_mult19 v366).toNat) ∧
  (∀ (k0_h1 : k0_cond1 i = 1#1), ∀ a, (k0_off19 v366) a + S64x128.size a ≤ S64x1000000.size a)
theorem k0_mult19_dvd : ∀ (i : grid0.Coords) (v366 : BitVec 32) (k0_hw19 : k0_chk19 i v366), ∀ (k0_h1 : k0_cond1 i = 1#1), 128 ∣ (k0_mult19 v366).toNat := fun i v366 k0_hw19 k0_h1 => k0_hw19.1 k0_h1
theorem k0_off19_inb : ∀ (i : grid0.Coords) (v366 : BitVec 32) (k0_hw19 : k0_chk19 i v366), ∀ (k0_h1 : k0_cond1 i = 1#1), ∀ a, (k0_off19 v366) a + S64x128.size a ≤ S64x1000000.size a := fun i v366 k0_hw19 k0_h1 => k0_hw19.2 k0_h1

def k0_off20 (v386 : BitVec 32) : Fin 2 → Nat :=
  let c0_i32_1642 : BitVec 32 := 0#32
  let c0_i32_154 : BitVec 32 := 0#32
  let v388 : BitVec 1 := Scalar.cmpi .sgt v386 c0_i32_154
  let v389 : BitVec 32 := Scalar.extui v388
  let c0_i32_155 : BitVec 32 := 0#32
  let v390 : BitVec 1 := Scalar.cmpi .slt v386 c0_i32_155
  let v391 : BitVec 32 := Scalar.extui v390
  let v392 : BitVec 32 := Scalar.subi v389 v391
  let c128_i32_153 : BitVec 32 := 128#32
  let c0_i32_156 : BitVec 32 := 0#32
  let v393 : BitVec 1 := Scalar.cmpi .sgt c128_i32_153 c0_i32_156
  let v394 : BitVec 32 := Scalar.extui v393
  let c0_i32_157 : BitVec 32 := 0#32
  let v395 : BitVec 1 := Scalar.cmpi .slt c128_i32_153 c0_i32_157
  let v396 : BitVec 32 := Scalar.extui v395
  let v397 : BitVec 32 := Scalar.subi v394 v396
  let v398 : BitVec 1 := Scalar.cmpi .ne v392 v397
  let v399 : BitVec 32 := Scalar.remsi v386 c128_i32_153
  let c0_i32_158 : BitVec 32 := 0#32
  let v400 : BitVec 1 := Scalar.cmpi .ne v399 c0_i32_158
  let v401 : BitVec 1 := Scalar.andi v398 v400
  let v387 : BitVec 32 := Scalar.divsi v386 c128_i32_153
  let c1_i32_159 : BitVec 32 := 1#32
  let v402 : BitVec 32 := Scalar.subi v387 c1_i32_159
  let v403 : BitVec 32 := Scalar.select v401 v402 v387
  let c128_i32_160 : BitVec 32 := 128#32
  let v404 : BitVec 32 := Scalar.muli v403 c128_i32_160
  let v405 : BitVec 32 := v404
  ![0, v405.toNat]

def k0_chk20 (i : grid0.Coords) (v386 : BitVec 32) : Prop :=
  (∀ (k0_h1 : k0_cond1 i = 1#1), 128 ∣ (k0_mult20 v386).toNat) ∧
  (∀ (k0_h1 : k0_cond1 i = 1#1), ∀ a, (k0_off20 v386) a + S64x128.size a ≤ S64x1000000.size a)
theorem k0_mult20_dvd : ∀ (i : grid0.Coords) (v386 : BitVec 32) (k0_hw20 : k0_chk20 i v386), ∀ (k0_h1 : k0_cond1 i = 1#1), 128 ∣ (k0_mult20 v386).toNat := fun i v386 k0_hw20 k0_h1 => k0_hw20.1 k0_h1
theorem k0_off20_inb : ∀ (i : grid0.Coords) (v386 : BitVec 32) (k0_hw20 : k0_chk20 i v386), ∀ (k0_h1 : k0_cond1 i = 1#1), ∀ a, (k0_off20 v386) a + S64x128.size a ≤ S64x1000000.size a := fun i v386 k0_hw20 k0_h1 => k0_hw20.2 k0_h1

def k0_off21 (v406 : BitVec 32) : Fin 2 → Nat :=
  let c0_i32_1644 : BitVec 32 := 0#32
  let c0_i32_162 : BitVec 32 := 0#32
  let v408 : BitVec 1 := Scalar.cmpi .sgt v406 c0_i32_162
  let v409 : BitVec 32 := Scalar.extui v408
  let c0_i32_163 : BitVec 32 := 0#32
  let v410 : BitVec 1 := Scalar.cmpi .slt v406 c0_i32_163
  let v411 : BitVec 32 := Scalar.extui v410
  let v412 : BitVec 32 := Scalar.subi v409 v411
  let c128_i32_161 : BitVec 32 := 128#32
  let c0_i32_164 : BitVec 32 := 0#32
  let v413 : BitVec 1 := Scalar.cmpi .sgt c128_i32_161 c0_i32_164
  let v414 : BitVec 32 := Scalar.extui v413
  let c0_i32_165 : BitVec 32 := 0#32
  let v415 : BitVec 1 := Scalar.cmpi .slt c128_i32_161 c0_i32_165
  let v416 : BitVec 32 := Scalar.extui v415
  let v417 : BitVec 32 := Scalar.subi v414 v416
  let v418 : BitVec 1 := Scalar.cmpi .ne v412 v417
  let v419 : BitVec 32 := Scalar.remsi v406 c128_i32_161
  let c0_i32_166 : BitVec 32 := 0#32
  let v420 : BitVec 1 := Scalar.cmpi .ne v419 c0_i32_166
  let v421 : BitVec 1 := Scalar.andi v418 v420
  let v407 : BitVec 32 := Scalar.divsi v406 c128_i32_161
  let c1_i32_167 : BitVec 32 := 1#32
  let v422 : BitVec 32 := Scalar.subi v407 c1_i32_167
  let v423 : BitVec 32 := Scalar.select v421 v422 v407
  let c128_i32_168 : BitVec 32 := 128#32
  let v424 : BitVec 32 := Scalar.muli v423 c128_i32_168
  let v425 : BitVec 32 := v424
  ![0, v425.toNat]

def k0_chk21 (i : grid0.Coords) (v406 : BitVec 32) : Prop :=
  (∀ (k0_h1 : k0_cond1 i = 1#1), 128 ∣ (k0_mult21 v406).toNat) ∧
  (∀ (k0_h1 : k0_cond1 i = 1#1), ∀ a, (k0_off21 v406) a + S64x128.size a ≤ S64x1000000.size a)
theorem k0_mult21_dvd : ∀ (i : grid0.Coords) (v406 : BitVec 32) (k0_hw21 : k0_chk21 i v406), ∀ (k0_h1 : k0_cond1 i = 1#1), 128 ∣ (k0_mult21 v406).toNat := fun i v406 k0_hw21 k0_h1 => k0_hw21.1 k0_h1
theorem k0_off21_inb : ∀ (i : grid0.Coords) (v406 : BitVec 32) (k0_hw21 : k0_chk21 i v406), ∀ (k0_h1 : k0_cond1 i = 1#1), ∀ a, (k0_off21 v406) a + S64x128.size a ≤ S64x1000000.size a := fun i v406 k0_hw21 k0_h1 => k0_hw21.2 k0_h1

def k0_off22 (v426 : BitVec 32) : Fin 2 → Nat :=
  let c0_i32_1646 : BitVec 32 := 0#32
  let c0_i32_170 : BitVec 32 := 0#32
  let v428 : BitVec 1 := Scalar.cmpi .sgt v426 c0_i32_170
  let v429 : BitVec 32 := Scalar.extui v428
  let c0_i32_171 : BitVec 32 := 0#32
  let v430 : BitVec 1 := Scalar.cmpi .slt v426 c0_i32_171
  let v431 : BitVec 32 := Scalar.extui v430
  let v432 : BitVec 32 := Scalar.subi v429 v431
  let c128_i32_169 : BitVec 32 := 128#32
  let c0_i32_172 : BitVec 32 := 0#32
  let v433 : BitVec 1 := Scalar.cmpi .sgt c128_i32_169 c0_i32_172
  let v434 : BitVec 32 := Scalar.extui v433
  let c0_i32_173 : BitVec 32 := 0#32
  let v435 : BitVec 1 := Scalar.cmpi .slt c128_i32_169 c0_i32_173
  let v436 : BitVec 32 := Scalar.extui v435
  let v437 : BitVec 32 := Scalar.subi v434 v436
  let v438 : BitVec 1 := Scalar.cmpi .ne v432 v437
  let v439 : BitVec 32 := Scalar.remsi v426 c128_i32_169
  let c0_i32_174 : BitVec 32 := 0#32
  let v440 : BitVec 1 := Scalar.cmpi .ne v439 c0_i32_174
  let v441 : BitVec 1 := Scalar.andi v438 v440
  let v427 : BitVec 32 := Scalar.divsi v426 c128_i32_169
  let c1_i32_175 : BitVec 32 := 1#32
  let v442 : BitVec 32 := Scalar.subi v427 c1_i32_175
  let v443 : BitVec 32 := Scalar.select v441 v442 v427
  let c128_i32_176 : BitVec 32 := 128#32
  let v444 : BitVec 32 := Scalar.muli v443 c128_i32_176
  let v445 : BitVec 32 := v444
  ![0, v445.toNat]

def k0_chk22 (i : grid0.Coords) (v426 : BitVec 32) : Prop :=
  (∀ (k0_h1 : k0_cond1 i = 1#1), 128 ∣ (k0_mult22 v426).toNat) ∧
  (∀ (k0_h1 : k0_cond1 i = 1#1), ∀ a, (k0_off22 v426) a + S64x128.size a ≤ S64x1000000.size a)
theorem k0_mult22_dvd : ∀ (i : grid0.Coords) (v426 : BitVec 32) (k0_hw22 : k0_chk22 i v426), ∀ (k0_h1 : k0_cond1 i = 1#1), 128 ∣ (k0_mult22 v426).toNat := fun i v426 k0_hw22 k0_h1 => k0_hw22.1 k0_h1
theorem k0_off22_inb : ∀ (i : grid0.Coords) (v426 : BitVec 32) (k0_hw22 : k0_chk22 i v426), ∀ (k0_h1 : k0_cond1 i = 1#1), ∀ a, (k0_off22 v426) a + S64x128.size a ≤ S64x1000000.size a := fun i v426 k0_hw22 k0_h1 => k0_hw22.2 k0_h1

def k0_off23 (v446 : BitVec 32) : Fin 2 → Nat :=
  let c0_i32_1648 : BitVec 32 := 0#32
  let c0_i32_178 : BitVec 32 := 0#32
  let v448 : BitVec 1 := Scalar.cmpi .sgt v446 c0_i32_178
  let v449 : BitVec 32 := Scalar.extui v448
  let c0_i32_179 : BitVec 32 := 0#32
  let v450 : BitVec 1 := Scalar.cmpi .slt v446 c0_i32_179
  let v451 : BitVec 32 := Scalar.extui v450
  let v452 : BitVec 32 := Scalar.subi v449 v451
  let c128_i32_177 : BitVec 32 := 128#32
  let c0_i32_180 : BitVec 32 := 0#32
  let v453 : BitVec 1 := Scalar.cmpi .sgt c128_i32_177 c0_i32_180
  let v454 : BitVec 32 := Scalar.extui v453
  let c0_i32_181 : BitVec 32 := 0#32
  let v455 : BitVec 1 := Scalar.cmpi .slt c128_i32_177 c0_i32_181
  let v456 : BitVec 32 := Scalar.extui v455
  let v457 : BitVec 32 := Scalar.subi v454 v456
  let v458 : BitVec 1 := Scalar.cmpi .ne v452 v457
  let v459 : BitVec 32 := Scalar.remsi v446 c128_i32_177
  let c0_i32_182 : BitVec 32 := 0#32
  let v460 : BitVec 1 := Scalar.cmpi .ne v459 c0_i32_182
  let v461 : BitVec 1 := Scalar.andi v458 v460
  let v447 : BitVec 32 := Scalar.divsi v446 c128_i32_177
  let c1_i32_183 : BitVec 32 := 1#32
  let v462 : BitVec 32 := Scalar.subi v447 c1_i32_183
  let v463 : BitVec 32 := Scalar.select v461 v462 v447
  let c128_i32_184 : BitVec 32 := 128#32
  let v464 : BitVec 32 := Scalar.muli v463 c128_i32_184
  let v465 : BitVec 32 := v464
  ![0, v465.toNat]

def k0_chk23 (i : grid0.Coords) (v446 : BitVec 32) : Prop :=
  (∀ (k0_h1 : k0_cond1 i = 1#1), 128 ∣ (k0_mult23 v446).toNat) ∧
  (∀ (k0_h1 : k0_cond1 i = 1#1), ∀ a, (k0_off23 v446) a + S64x128.size a ≤ S64x1000000.size a)
theorem k0_mult23_dvd : ∀ (i : grid0.Coords) (v446 : BitVec 32) (k0_hw23 : k0_chk23 i v446), ∀ (k0_h1 : k0_cond1 i = 1#1), 128 ∣ (k0_mult23 v446).toNat := fun i v446 k0_hw23 k0_h1 => k0_hw23.1 k0_h1
theorem k0_off23_inb : ∀ (i : grid0.Coords) (v446 : BitVec 32) (k0_hw23 : k0_chk23 i v446), ∀ (k0_h1 : k0_cond1 i = 1#1), ∀ a, (k0_off23 v446) a + S64x128.size a ≤ S64x1000000.size a := fun i v446 k0_hw23 k0_h1 => k0_hw23.2 k0_h1

def k0_off24 (v466 : BitVec 32) : Fin 2 → Nat :=
  let c0_i32_1650 : BitVec 32 := 0#32
  let c0_i32_186 : BitVec 32 := 0#32
  let v468 : BitVec 1 := Scalar.cmpi .sgt v466 c0_i32_186
  let v469 : BitVec 32 := Scalar.extui v468
  let c0_i32_187 : BitVec 32 := 0#32
  let v470 : BitVec 1 := Scalar.cmpi .slt v466 c0_i32_187
  let v471 : BitVec 32 := Scalar.extui v470
  let v472 : BitVec 32 := Scalar.subi v469 v471
  let c128_i32_185 : BitVec 32 := 128#32
  let c0_i32_188 : BitVec 32 := 0#32
  let v473 : BitVec 1 := Scalar.cmpi .sgt c128_i32_185 c0_i32_188
  let v474 : BitVec 32 := Scalar.extui v473
  let c0_i32_189 : BitVec 32 := 0#32
  let v475 : BitVec 1 := Scalar.cmpi .slt c128_i32_185 c0_i32_189
  let v476 : BitVec 32 := Scalar.extui v475
  let v477 : BitVec 32 := Scalar.subi v474 v476
  let v478 : BitVec 1 := Scalar.cmpi .ne v472 v477
  let v479 : BitVec 32 := Scalar.remsi v466 c128_i32_185
  let c0_i32_190 : BitVec 32 := 0#32
  let v480 : BitVec 1 := Scalar.cmpi .ne v479 c0_i32_190
  let v481 : BitVec 1 := Scalar.andi v478 v480
  let v467 : BitVec 32 := Scalar.divsi v466 c128_i32_185
  let c1_i32_191 : BitVec 32 := 1#32
  let v482 : BitVec 32 := Scalar.subi v467 c1_i32_191
  let v483 : BitVec 32 := Scalar.select v481 v482 v467
  let c128_i32_192 : BitVec 32 := 128#32
  let v484 : BitVec 32 := Scalar.muli v483 c128_i32_192
  let v485 : BitVec 32 := v484
  ![0, v485.toNat]

def k0_chk24 (i : grid0.Coords) (v466 : BitVec 32) : Prop :=
  (∀ (k0_h1 : k0_cond1 i = 1#1), 128 ∣ (k0_mult24 v466).toNat) ∧
  (∀ (k0_h1 : k0_cond1 i = 1#1), ∀ a, (k0_off24 v466) a + S64x128.size a ≤ S64x1000000.size a)
theorem k0_mult24_dvd : ∀ (i : grid0.Coords) (v466 : BitVec 32) (k0_hw24 : k0_chk24 i v466), ∀ (k0_h1 : k0_cond1 i = 1#1), 128 ∣ (k0_mult24 v466).toNat := fun i v466 k0_hw24 k0_h1 => k0_hw24.1 k0_h1
theorem k0_off24_inb : ∀ (i : grid0.Coords) (v466 : BitVec 32) (k0_hw24 : k0_chk24 i v466), ∀ (k0_h1 : k0_cond1 i = 1#1), ∀ a, (k0_off24 v466) a + S64x128.size a ≤ S64x1000000.size a := fun i v466 k0_hw24 k0_h1 => k0_hw24.2 k0_h1

def k0_off25 (v486 : BitVec 32) : Fin 2 → Nat :=
  let c0_i32_1652 : BitVec 32 := 0#32
  let c0_i32_194 : BitVec 32 := 0#32
  let v488 : BitVec 1 := Scalar.cmpi .sgt v486 c0_i32_194
  let v489 : BitVec 32 := Scalar.extui v488
  let c0_i32_195 : BitVec 32 := 0#32
  let v490 : BitVec 1 := Scalar.cmpi .slt v486 c0_i32_195
  let v491 : BitVec 32 := Scalar.extui v490
  let v492 : BitVec 32 := Scalar.subi v489 v491
  let c128_i32_193 : BitVec 32 := 128#32
  let c0_i32_196 : BitVec 32 := 0#32
  let v493 : BitVec 1 := Scalar.cmpi .sgt c128_i32_193 c0_i32_196
  let v494 : BitVec 32 := Scalar.extui v493
  let c0_i32_197 : BitVec 32 := 0#32
  let v495 : BitVec 1 := Scalar.cmpi .slt c128_i32_193 c0_i32_197
  let v496 : BitVec 32 := Scalar.extui v495
  let v497 : BitVec 32 := Scalar.subi v494 v496
  let v498 : BitVec 1 := Scalar.cmpi .ne v492 v497
  let v499 : BitVec 32 := Scalar.remsi v486 c128_i32_193
  let c0_i32_198 : BitVec 32 := 0#32
  let v500 : BitVec 1 := Scalar.cmpi .ne v499 c0_i32_198
  let v501 : BitVec 1 := Scalar.andi v498 v500
  let v487 : BitVec 32 := Scalar.divsi v486 c128_i32_193
  let c1_i32_199 : BitVec 32 := 1#32
  let v502 : BitVec 32 := Scalar.subi v487 c1_i32_199
  let v503 : BitVec 32 := Scalar.select v501 v502 v487
  let c128_i32_200 : BitVec 32 := 128#32
  let v504 : BitVec 32 := Scalar.muli v503 c128_i32_200
  let v505 : BitVec 32 := v504
  ![0, v505.toNat]

def k0_chk25 (i : grid0.Coords) (v486 : BitVec 32) : Prop :=
  (∀ (k0_h1 : k0_cond1 i = 1#1), 128 ∣ (k0_mult25 v486).toNat) ∧
  (∀ (k0_h1 : k0_cond1 i = 1#1), ∀ a, (k0_off25 v486) a + S64x128.size a ≤ S64x1000000.size a)
theorem k0_mult25_dvd : ∀ (i : grid0.Coords) (v486 : BitVec 32) (k0_hw25 : k0_chk25 i v486), ∀ (k0_h1 : k0_cond1 i = 1#1), 128 ∣ (k0_mult25 v486).toNat := fun i v486 k0_hw25 k0_h1 => k0_hw25.1 k0_h1
theorem k0_off25_inb : ∀ (i : grid0.Coords) (v486 : BitVec 32) (k0_hw25 : k0_chk25 i v486), ∀ (k0_h1 : k0_cond1 i = 1#1), ∀ a, (k0_off25 v486) a + S64x128.size a ≤ S64x1000000.size a := fun i v486 k0_hw25 k0_h1 => k0_hw25.2 k0_h1

def k0_off26 (v506 : BitVec 32) : Fin 2 → Nat :=
  let c0_i32_1654 : BitVec 32 := 0#32
  let c0_i32_202 : BitVec 32 := 0#32
  let v508 : BitVec 1 := Scalar.cmpi .sgt v506 c0_i32_202
  let v509 : BitVec 32 := Scalar.extui v508
  let c0_i32_203 : BitVec 32 := 0#32
  let v510 : BitVec 1 := Scalar.cmpi .slt v506 c0_i32_203
  let v511 : BitVec 32 := Scalar.extui v510
  let v512 : BitVec 32 := Scalar.subi v509 v511
  let c128_i32_201 : BitVec 32 := 128#32
  let c0_i32_204 : BitVec 32 := 0#32
  let v513 : BitVec 1 := Scalar.cmpi .sgt c128_i32_201 c0_i32_204
  let v514 : BitVec 32 := Scalar.extui v513
  let c0_i32_205 : BitVec 32 := 0#32
  let v515 : BitVec 1 := Scalar.cmpi .slt c128_i32_201 c0_i32_205
  let v516 : BitVec 32 := Scalar.extui v515
  let v517 : BitVec 32 := Scalar.subi v514 v516
  let v518 : BitVec 1 := Scalar.cmpi .ne v512 v517
  let v519 : BitVec 32 := Scalar.remsi v506 c128_i32_201
  let c0_i32_206 : BitVec 32 := 0#32
  let v520 : BitVec 1 := Scalar.cmpi .ne v519 c0_i32_206
  let v521 : BitVec 1 := Scalar.andi v518 v520
  let v507 : BitVec 32 := Scalar.divsi v506 c128_i32_201
  let c1_i32_207 : BitVec 32 := 1#32
  let v522 : BitVec 32 := Scalar.subi v507 c1_i32_207
  let v523 : BitVec 32 := Scalar.select v521 v522 v507
  let c128_i32_208 : BitVec 32 := 128#32
  let v524 : BitVec 32 := Scalar.muli v523 c128_i32_208
  let v525 : BitVec 32 := v524
  ![0, v525.toNat]

def k0_chk26 (i : grid0.Coords) (v506 : BitVec 32) : Prop :=
  (∀ (k0_h1 : k0_cond1 i = 1#1), 128 ∣ (k0_mult26 v506).toNat) ∧
  (∀ (k0_h1 : k0_cond1 i = 1#1), ∀ a, (k0_off26 v506) a + S64x128.size a ≤ S64x1000000.size a)
theorem k0_mult26_dvd : ∀ (i : grid0.Coords) (v506 : BitVec 32) (k0_hw26 : k0_chk26 i v506), ∀ (k0_h1 : k0_cond1 i = 1#1), 128 ∣ (k0_mult26 v506).toNat := fun i v506 k0_hw26 k0_h1 => k0_hw26.1 k0_h1
theorem k0_off26_inb : ∀ (i : grid0.Coords) (v506 : BitVec 32) (k0_hw26 : k0_chk26 i v506), ∀ (k0_h1 : k0_cond1 i = 1#1), ∀ a, (k0_off26 v506) a + S64x128.size a ≤ S64x1000000.size a := fun i v506 k0_hw26 k0_h1 => k0_hw26.2 k0_h1

def k0_off27 (v526 : BitVec 32) : Fin 2 → Nat :=
  let c0_i32_1656 : BitVec 32 := 0#32
  let c0_i32_210 : BitVec 32 := 0#32
  let v528 : BitVec 1 := Scalar.cmpi .sgt v526 c0_i32_210
  let v529 : BitVec 32 := Scalar.extui v528
  let c0_i32_211 : BitVec 32 := 0#32
  let v530 : BitVec 1 := Scalar.cmpi .slt v526 c0_i32_211
  let v531 : BitVec 32 := Scalar.extui v530
  let v532 : BitVec 32 := Scalar.subi v529 v531
  let c128_i32_209 : BitVec 32 := 128#32
  let c0_i32_212 : BitVec 32 := 0#32
  let v533 : BitVec 1 := Scalar.cmpi .sgt c128_i32_209 c0_i32_212
  let v534 : BitVec 32 := Scalar.extui v533
  let c0_i32_213 : BitVec 32 := 0#32
  let v535 : BitVec 1 := Scalar.cmpi .slt c128_i32_209 c0_i32_213
  let v536 : BitVec 32 := Scalar.extui v535
  let v537 : BitVec 32 := Scalar.subi v534 v536
  let v538 : BitVec 1 := Scalar.cmpi .ne v532 v537
  let v539 : BitVec 32 := Scalar.remsi v526 c128_i32_209
  let c0_i32_214 : BitVec 32 := 0#32
  let v540 : BitVec 1 := Scalar.cmpi .ne v539 c0_i32_214
  let v541 : BitVec 1 := Scalar.andi v538 v540
  let v527 : BitVec 32 := Scalar.divsi v526 c128_i32_209
  let c1_i32_215 : BitVec 32 := 1#32
  let v542 : BitVec 32 := Scalar.subi v527 c1_i32_215
  let v543 : BitVec 32 := Scalar.select v541 v542 v527
  let c128_i32_216 : BitVec 32 := 128#32
  let v544 : BitVec 32 := Scalar.muli v543 c128_i32_216
  let v545 : BitVec 32 := v544
  ![0, v545.toNat]

def k0_chk27 (i : grid0.Coords) (v526 : BitVec 32) : Prop :=
  (∀ (k0_h1 : k0_cond1 i = 1#1), 128 ∣ (k0_mult27 v526).toNat) ∧
  (∀ (k0_h1 : k0_cond1 i = 1#1), ∀ a, (k0_off27 v526) a + S64x128.size a ≤ S64x1000000.size a)
theorem k0_mult27_dvd : ∀ (i : grid0.Coords) (v526 : BitVec 32) (k0_hw27 : k0_chk27 i v526), ∀ (k0_h1 : k0_cond1 i = 1#1), 128 ∣ (k0_mult27 v526).toNat := fun i v526 k0_hw27 k0_h1 => k0_hw27.1 k0_h1
theorem k0_off27_inb : ∀ (i : grid0.Coords) (v526 : BitVec 32) (k0_hw27 : k0_chk27 i v526), ∀ (k0_h1 : k0_cond1 i = 1#1), ∀ a, (k0_off27 v526) a + S64x128.size a ≤ S64x1000000.size a := fun i v526 k0_hw27 k0_h1 => k0_hw27.2 k0_h1

def k0_off28 (v546 : BitVec 32) : Fin 2 → Nat :=
  let c0_i32_1658 : BitVec 32 := 0#32
  let c0_i32_218 : BitVec 32 := 0#32
  let v548 : BitVec 1 := Scalar.cmpi .sgt v546 c0_i32_218
  let v549 : BitVec 32 := Scalar.extui v548
  let c0_i32_219 : BitVec 32 := 0#32
  let v550 : BitVec 1 := Scalar.cmpi .slt v546 c0_i32_219
  let v551 : BitVec 32 := Scalar.extui v550
  let v552 : BitVec 32 := Scalar.subi v549 v551
  let c128_i32_217 : BitVec 32 := 128#32
  let c0_i32_220 : BitVec 32 := 0#32
  let v553 : BitVec 1 := Scalar.cmpi .sgt c128_i32_217 c0_i32_220
  let v554 : BitVec 32 := Scalar.extui v553
  let c0_i32_221 : BitVec 32 := 0#32
  let v555 : BitVec 1 := Scalar.cmpi .slt c128_i32_217 c0_i32_221
  let v556 : BitVec 32 := Scalar.extui v555
  let v557 : BitVec 32 := Scalar.subi v554 v556
  let v558 : BitVec 1 := Scalar.cmpi .ne v552 v557
  let v559 : BitVec 32 := Scalar.remsi v546 c128_i32_217
  let c0_i32_222 : BitVec 32 := 0#32
  let v560 : BitVec 1 := Scalar.cmpi .ne v559 c0_i32_222
  let v561 : BitVec 1 := Scalar.andi v558 v560
  let v547 : BitVec 32 := Scalar.divsi v546 c128_i32_217
  let c1_i32_223 : BitVec 32 := 1#32
  let v562 : BitVec 32 := Scalar.subi v547 c1_i32_223
  let v563 : BitVec 32 := Scalar.select v561 v562 v547
  let c128_i32_224 : BitVec 32 := 128#32
  let v564 : BitVec 32 := Scalar.muli v563 c128_i32_224
  let v565 : BitVec 32 := v564
  ![0, v565.toNat]

def k0_chk28 (i : grid0.Coords) (v546 : BitVec 32) : Prop :=
  (∀ (k0_h1 : k0_cond1 i = 1#1), 128 ∣ (k0_mult28 v546).toNat) ∧
  (∀ (k0_h1 : k0_cond1 i = 1#1), ∀ a, (k0_off28 v546) a + S64x128.size a ≤ S64x1000000.size a)
theorem k0_mult28_dvd : ∀ (i : grid0.Coords) (v546 : BitVec 32) (k0_hw28 : k0_chk28 i v546), ∀ (k0_h1 : k0_cond1 i = 1#1), 128 ∣ (k0_mult28 v546).toNat := fun i v546 k0_hw28 k0_h1 => k0_hw28.1 k0_h1
theorem k0_off28_inb : ∀ (i : grid0.Coords) (v546 : BitVec 32) (k0_hw28 : k0_chk28 i v546), ∀ (k0_h1 : k0_cond1 i = 1#1), ∀ a, (k0_off28 v546) a + S64x128.size a ≤ S64x1000000.size a := fun i v546 k0_hw28 k0_h1 => k0_hw28.2 k0_h1

def k0_off29 (v566 : BitVec 32) : Fin 2 → Nat :=
  let c0_i32_1660 : BitVec 32 := 0#32
  let c0_i32_226 : BitVec 32 := 0#32
  let v568 : BitVec 1 := Scalar.cmpi .sgt v566 c0_i32_226
  let v569 : BitVec 32 := Scalar.extui v568
  let c0_i32_227 : BitVec 32 := 0#32
  let v570 : BitVec 1 := Scalar.cmpi .slt v566 c0_i32_227
  let v571 : BitVec 32 := Scalar.extui v570
  let v572 : BitVec 32 := Scalar.subi v569 v571
  let c128_i32_225 : BitVec 32 := 128#32
  let c0_i32_228 : BitVec 32 := 0#32
  let v573 : BitVec 1 := Scalar.cmpi .sgt c128_i32_225 c0_i32_228
  let v574 : BitVec 32 := Scalar.extui v573
  let c0_i32_229 : BitVec 32 := 0#32
  let v575 : BitVec 1 := Scalar.cmpi .slt c128_i32_225 c0_i32_229
  let v576 : BitVec 32 := Scalar.extui v575
  let v577 : BitVec 32 := Scalar.subi v574 v576
  let v578 : BitVec 1 := Scalar.cmpi .ne v572 v577
  let v579 : BitVec 32 := Scalar.remsi v566 c128_i32_225
  let c0_i32_230 : BitVec 32 := 0#32
  let v580 : BitVec 1 := Scalar.cmpi .ne v579 c0_i32_230
  let v581 : BitVec 1 := Scalar.andi v578 v580
  let v567 : BitVec 32 := Scalar.divsi v566 c128_i32_225
  let c1_i32_231 : BitVec 32 := 1#32
  let v582 : BitVec 32 := Scalar.subi v567 c1_i32_231
  let v583 : BitVec 32 := Scalar.select v581 v582 v567
  let c128_i32_232 : BitVec 32 := 128#32
  let v584 : BitVec 32 := Scalar.muli v583 c128_i32_232
  let v585 : BitVec 32 := v584
  ![0, v585.toNat]

def k0_chk29 (i : grid0.Coords) (v566 : BitVec 32) : Prop :=
  (∀ (k0_h1 : k0_cond1 i = 1#1), 128 ∣ (k0_mult29 v566).toNat) ∧
  (∀ (k0_h1 : k0_cond1 i = 1#1), ∀ a, (k0_off29 v566) a + S64x128.size a ≤ S64x1000000.size a)
theorem k0_mult29_dvd : ∀ (i : grid0.Coords) (v566 : BitVec 32) (k0_hw29 : k0_chk29 i v566), ∀ (k0_h1 : k0_cond1 i = 1#1), 128 ∣ (k0_mult29 v566).toNat := fun i v566 k0_hw29 k0_h1 => k0_hw29.1 k0_h1
theorem k0_off29_inb : ∀ (i : grid0.Coords) (v566 : BitVec 32) (k0_hw29 : k0_chk29 i v566), ∀ (k0_h1 : k0_cond1 i = 1#1), ∀ a, (k0_off29 v566) a + S64x128.size a ≤ S64x1000000.size a := fun i v566 k0_hw29 k0_h1 => k0_hw29.2 k0_h1

def k0_off30 (v586 : BitVec 32) : Fin 2 → Nat :=
  let c0_i32_1662 : BitVec 32 := 0#32
  let c0_i32_234 : BitVec 32 := 0#32
  let v588 : BitVec 1 := Scalar.cmpi .sgt v586 c0_i32_234
  let v589 : BitVec 32 := Scalar.extui v588
  let c0_i32_235 : BitVec 32 := 0#32
  let v590 : BitVec 1 := Scalar.cmpi .slt v586 c0_i32_235
  let v591 : BitVec 32 := Scalar.extui v590
  let v592 : BitVec 32 := Scalar.subi v589 v591
  let c128_i32_233 : BitVec 32 := 128#32
  let c0_i32_236 : BitVec 32 := 0#32
  let v593 : BitVec 1 := Scalar.cmpi .sgt c128_i32_233 c0_i32_236
  let v594 : BitVec 32 := Scalar.extui v593
  let c0_i32_237 : BitVec 32 := 0#32
  let v595 : BitVec 1 := Scalar.cmpi .slt c128_i32_233 c0_i32_237
  let v596 : BitVec 32 := Scalar.extui v595
  let v597 : BitVec 32 := Scalar.subi v594 v596
  let v598 : BitVec 1 := Scalar.cmpi .ne v592 v597
  let v599 : BitVec 32 := Scalar.remsi v586 c128_i32_233
  let c0_i32_238 : BitVec 32 := 0#32
  let v600 : BitVec 1 := Scalar.cmpi .ne v599 c0_i32_238
  let v601 : BitVec 1 := Scalar.andi v598 v600
  let v587 : BitVec 32 := Scalar.divsi v586 c128_i32_233
  let c1_i32_239 : BitVec 32 := 1#32
  let v602 : BitVec 32 := Scalar.subi v587 c1_i32_239
  let v603 : BitVec 32 := Scalar.select v601 v602 v587
  let c128_i32_240 : BitVec 32 := 128#32
  let v604 : BitVec 32 := Scalar.muli v603 c128_i32_240
  let v605 : BitVec 32 := v604
  ![0, v605.toNat]

def k0_chk30 (i : grid0.Coords) (v586 : BitVec 32) : Prop :=
  (∀ (k0_h1 : k0_cond1 i = 1#1), 128 ∣ (k0_mult30 v586).toNat) ∧
  (∀ (k0_h1 : k0_cond1 i = 1#1), ∀ a, (k0_off30 v586) a + S64x128.size a ≤ S64x1000000.size a)
theorem k0_mult30_dvd : ∀ (i : grid0.Coords) (v586 : BitVec 32) (k0_hw30 : k0_chk30 i v586), ∀ (k0_h1 : k0_cond1 i = 1#1), 128 ∣ (k0_mult30 v586).toNat := fun i v586 k0_hw30 k0_h1 => k0_hw30.1 k0_h1
theorem k0_off30_inb : ∀ (i : grid0.Coords) (v586 : BitVec 32) (k0_hw30 : k0_chk30 i v586), ∀ (k0_h1 : k0_cond1 i = 1#1), ∀ a, (k0_off30 v586) a + S64x128.size a ≤ S64x1000000.size a := fun i v586 k0_hw30 k0_h1 => k0_hw30.2 k0_h1

def k0_off31 (v606 : BitVec 32) : Fin 2 → Nat :=
  let c0_i32_1664 : BitVec 32 := 0#32
  let c0_i32_242 : BitVec 32 := 0#32
  let v608 : BitVec 1 := Scalar.cmpi .sgt v606 c0_i32_242
  let v609 : BitVec 32 := Scalar.extui v608
  let c0_i32_243 : BitVec 32 := 0#32
  let v610 : BitVec 1 := Scalar.cmpi .slt v606 c0_i32_243
  let v611 : BitVec 32 := Scalar.extui v610
  let v612 : BitVec 32 := Scalar.subi v609 v611
  let c128_i32_241 : BitVec 32 := 128#32
  let c0_i32_244 : BitVec 32 := 0#32
  let v613 : BitVec 1 := Scalar.cmpi .sgt c128_i32_241 c0_i32_244
  let v614 : BitVec 32 := Scalar.extui v613
  let c0_i32_245 : BitVec 32 := 0#32
  let v615 : BitVec 1 := Scalar.cmpi .slt c128_i32_241 c0_i32_245
  let v616 : BitVec 32 := Scalar.extui v615
  let v617 : BitVec 32 := Scalar.subi v614 v616
  let v618 : BitVec 1 := Scalar.cmpi .ne v612 v617
  let v619 : BitVec 32 := Scalar.remsi v606 c128_i32_241
  let c0_i32_246 : BitVec 32 := 0#32
  let v620 : BitVec 1 := Scalar.cmpi .ne v619 c0_i32_246
  let v621 : BitVec 1 := Scalar.andi v618 v620
  let v607 : BitVec 32 := Scalar.divsi v606 c128_i32_241
  let c1_i32_247 : BitVec 32 := 1#32
  let v622 : BitVec 32 := Scalar.subi v607 c1_i32_247
  let v623 : BitVec 32 := Scalar.select v621 v622 v607
  let c128_i32_248 : BitVec 32 := 128#32
  let v624 : BitVec 32 := Scalar.muli v623 c128_i32_248
  let v625 : BitVec 32 := v624
  ![0, v625.toNat]

def k0_chk31 (i : grid0.Coords) (v606 : BitVec 32) : Prop :=
  (∀ (k0_h1 : k0_cond1 i = 1#1), 128 ∣ (k0_mult31 v606).toNat) ∧
  (∀ (k0_h1 : k0_cond1 i = 1#1), ∀ a, (k0_off31 v606) a + S64x128.size a ≤ S64x1000000.size a)
theorem k0_mult31_dvd : ∀ (i : grid0.Coords) (v606 : BitVec 32) (k0_hw31 : k0_chk31 i v606), ∀ (k0_h1 : k0_cond1 i = 1#1), 128 ∣ (k0_mult31 v606).toNat := fun i v606 k0_hw31 k0_h1 => k0_hw31.1 k0_h1
theorem k0_off31_inb : ∀ (i : grid0.Coords) (v606 : BitVec 32) (k0_hw31 : k0_chk31 i v606), ∀ (k0_h1 : k0_cond1 i = 1#1), ∀ a, (k0_off31 v606) a + S64x128.size a ≤ S64x1000000.size a := fun i v606 k0_hw31 k0_h1 => k0_hw31.2 k0_h1

def k0_off32 (v626 : BitVec 32) : Fin 2 → Nat :=
  let c0_i32_1666 : BitVec 32 := 0#32
  let c0_i32_250 : BitVec 32 := 0#32
  let v628 : BitVec 1 := Scalar.cmpi .sgt v626 c0_i32_250
  let v629 : BitVec 32 := Scalar.extui v628
  let c0_i32_251 : BitVec 32 := 0#32
  let v630 : BitVec 1 := Scalar.cmpi .slt v626 c0_i32_251
  let v631 : BitVec 32 := Scalar.extui v630
  let v632 : BitVec 32 := Scalar.subi v629 v631
  let c128_i32_249 : BitVec 32 := 128#32
  let c0_i32_252 : BitVec 32 := 0#32
  let v633 : BitVec 1 := Scalar.cmpi .sgt c128_i32_249 c0_i32_252
  let v634 : BitVec 32 := Scalar.extui v633
  let c0_i32_253 : BitVec 32 := 0#32
  let v635 : BitVec 1 := Scalar.cmpi .slt c128_i32_249 c0_i32_253
  let v636 : BitVec 32 := Scalar.extui v635
  let v637 : BitVec 32 := Scalar.subi v634 v636
  let v638 : BitVec 1 := Scalar.cmpi .ne v632 v637
  let v639 : BitVec 32 := Scalar.remsi v626 c128_i32_249
  let c0_i32_254 : BitVec 32 := 0#32
  let v640 : BitVec 1 := Scalar.cmpi .ne v639 c0_i32_254
  let v641 : BitVec 1 := Scalar.andi v638 v640
  let v627 : BitVec 32 := Scalar.divsi v626 c128_i32_249
  let c1_i32_255 : BitVec 32 := 1#32
  let v642 : BitVec 32 := Scalar.subi v627 c1_i32_255
  let v643 : BitVec 32 := Scalar.select v641 v642 v627
  let c128_i32_256 : BitVec 32 := 128#32
  let v644 : BitVec 32 := Scalar.muli v643 c128_i32_256
  let v645 : BitVec 32 := v644
  ![0, v645.toNat]

def k0_chk32 (i : grid0.Coords) (v626 : BitVec 32) : Prop :=
  (∀ (k0_h1 : k0_cond1 i = 1#1), 128 ∣ (k0_mult32 v626).toNat) ∧
  (∀ (k0_h1 : k0_cond1 i = 1#1), ∀ a, (k0_off32 v626) a + S64x128.size a ≤ S64x1000000.size a)
theorem k0_mult32_dvd : ∀ (i : grid0.Coords) (v626 : BitVec 32) (k0_hw32 : k0_chk32 i v626), ∀ (k0_h1 : k0_cond1 i = 1#1), 128 ∣ (k0_mult32 v626).toNat := fun i v626 k0_hw32 k0_h1 => k0_hw32.1 k0_h1
theorem k0_off32_inb : ∀ (i : grid0.Coords) (v626 : BitVec 32) (k0_hw32 : k0_chk32 i v626), ∀ (k0_h1 : k0_cond1 i = 1#1), ∀ a, (k0_off32 v626) a + S64x128.size a ≤ S64x1000000.size a := fun i v626 k0_hw32 k0_h1 => k0_hw32.2 k0_h1

def k0_off33 (v646 : BitVec 32) : Fin 2 → Nat :=
  let c0_i32_1668 : BitVec 32 := 0#32
  let c0_i32_258 : BitVec 32 := 0#32
  let v648 : BitVec 1 := Scalar.cmpi .sgt v646 c0_i32_258
  let v649 : BitVec 32 := Scalar.extui v648
  let c0_i32_259 : BitVec 32 := 0#32
  let v650 : BitVec 1 := Scalar.cmpi .slt v646 c0_i32_259
  let v651 : BitVec 32 := Scalar.extui v650
  let v652 : BitVec 32 := Scalar.subi v649 v651
  let c128_i32_257 : BitVec 32 := 128#32
  let c0_i32_260 : BitVec 32 := 0#32
  let v653 : BitVec 1 := Scalar.cmpi .sgt c128_i32_257 c0_i32_260
  let v654 : BitVec 32 := Scalar.extui v653
  let c0_i32_261 : BitVec 32 := 0#32
  let v655 : BitVec 1 := Scalar.cmpi .slt c128_i32_257 c0_i32_261
  let v656 : BitVec 32 := Scalar.extui v655
  let v657 : BitVec 32 := Scalar.subi v654 v656
  let v658 : BitVec 1 := Scalar.cmpi .ne v652 v657
  let v659 : BitVec 32 := Scalar.remsi v646 c128_i32_257
  let c0_i32_262 : BitVec 32 := 0#32
  let v660 : BitVec 1 := Scalar.cmpi .ne v659 c0_i32_262
  let v661 : BitVec 1 := Scalar.andi v658 v660
  let v647 : BitVec 32 := Scalar.divsi v646 c128_i32_257
  let c1_i32_263 : BitVec 32 := 1#32
  let v662 : BitVec 32 := Scalar.subi v647 c1_i32_263
  let v663 : BitVec 32 := Scalar.select v661 v662 v647
  let c128_i32_264 : BitVec 32 := 128#32
  let v664 : BitVec 32 := Scalar.muli v663 c128_i32_264
  let v665 : BitVec 32 := v664
  ![0, v665.toNat]

def k0_chk33 (i : grid0.Coords) (v646 : BitVec 32) : Prop :=
  (∀ (k0_h1 : k0_cond1 i = 1#1), 128 ∣ (k0_mult33 v646).toNat) ∧
  (∀ (k0_h1 : k0_cond1 i = 1#1), ∀ a, (k0_off33 v646) a + S64x128.size a ≤ S64x1000000.size a)
theorem k0_mult33_dvd : ∀ (i : grid0.Coords) (v646 : BitVec 32) (k0_hw33 : k0_chk33 i v646), ∀ (k0_h1 : k0_cond1 i = 1#1), 128 ∣ (k0_mult33 v646).toNat := fun i v646 k0_hw33 k0_h1 => k0_hw33.1 k0_h1
theorem k0_off33_inb : ∀ (i : grid0.Coords) (v646 : BitVec 32) (k0_hw33 : k0_chk33 i v646), ∀ (k0_h1 : k0_cond1 i = 1#1), ∀ a, (k0_off33 v646) a + S64x128.size a ≤ S64x1000000.size a := fun i v646 k0_hw33 k0_h1 => k0_hw33.2 k0_h1

def k0_off34 (v666 : BitVec 32) : Fin 2 → Nat :=
  let c0_i32_1670 : BitVec 32 := 0#32
  let c0_i32_266 : BitVec 32 := 0#32
  let v668 : BitVec 1 := Scalar.cmpi .sgt v666 c0_i32_266
  let v669 : BitVec 32 := Scalar.extui v668
  let c0_i32_267 : BitVec 32 := 0#32
  let v670 : BitVec 1 := Scalar.cmpi .slt v666 c0_i32_267
  let v671 : BitVec 32 := Scalar.extui v670
  let v672 : BitVec 32 := Scalar.subi v669 v671
  let c128_i32_265 : BitVec 32 := 128#32
  let c0_i32_268 : BitVec 32 := 0#32
  let v673 : BitVec 1 := Scalar.cmpi .sgt c128_i32_265 c0_i32_268
  let v674 : BitVec 32 := Scalar.extui v673
  let c0_i32_269 : BitVec 32 := 0#32
  let v675 : BitVec 1 := Scalar.cmpi .slt c128_i32_265 c0_i32_269
  let v676 : BitVec 32 := Scalar.extui v675
  let v677 : BitVec 32 := Scalar.subi v674 v676
  let v678 : BitVec 1 := Scalar.cmpi .ne v672 v677
  let v679 : BitVec 32 := Scalar.remsi v666 c128_i32_265
  let c0_i32_270 : BitVec 32 := 0#32
  let v680 : BitVec 1 := Scalar.cmpi .ne v679 c0_i32_270
  let v681 : BitVec 1 := Scalar.andi v678 v680
  let v667 : BitVec 32 := Scalar.divsi v666 c128_i32_265
  let c1_i32_271 : BitVec 32 := 1#32
  let v682 : BitVec 32 := Scalar.subi v667 c1_i32_271
  let v683 : BitVec 32 := Scalar.select v681 v682 v667
  let c128_i32_272 : BitVec 32 := 128#32
  let v684 : BitVec 32 := Scalar.muli v683 c128_i32_272
  let v685 : BitVec 32 := v684
  ![0, v685.toNat]

def k0_chk34 (i : grid0.Coords) (v666 : BitVec 32) : Prop :=
  (∀ (k0_h1 : k0_cond1 i = 1#1), 128 ∣ (k0_mult34 v666).toNat) ∧
  (∀ (k0_h1 : k0_cond1 i = 1#1), ∀ a, (k0_off34 v666) a + S64x128.size a ≤ S64x1000000.size a)
theorem k0_mult34_dvd : ∀ (i : grid0.Coords) (v666 : BitVec 32) (k0_hw34 : k0_chk34 i v666), ∀ (k0_h1 : k0_cond1 i = 1#1), 128 ∣ (k0_mult34 v666).toNat := fun i v666 k0_hw34 k0_h1 => k0_hw34.1 k0_h1
theorem k0_off34_inb : ∀ (i : grid0.Coords) (v666 : BitVec 32) (k0_hw34 : k0_chk34 i v666), ∀ (k0_h1 : k0_cond1 i = 1#1), ∀ a, (k0_off34 v666) a + S64x128.size a ≤ S64x1000000.size a := fun i v666 k0_hw34 k0_h1 => k0_hw34.2 k0_h1

def k0_off35 (v686 : BitVec 32) : Fin 2 → Nat :=
  let c0_i32_1672 : BitVec 32 := 0#32
  let c0_i32_274 : BitVec 32 := 0#32
  let v688 : BitVec 1 := Scalar.cmpi .sgt v686 c0_i32_274
  let v689 : BitVec 32 := Scalar.extui v688
  let c0_i32_275 : BitVec 32 := 0#32
  let v690 : BitVec 1 := Scalar.cmpi .slt v686 c0_i32_275
  let v691 : BitVec 32 := Scalar.extui v690
  let v692 : BitVec 32 := Scalar.subi v689 v691
  let c128_i32_273 : BitVec 32 := 128#32
  let c0_i32_276 : BitVec 32 := 0#32
  let v693 : BitVec 1 := Scalar.cmpi .sgt c128_i32_273 c0_i32_276
  let v694 : BitVec 32 := Scalar.extui v693
  let c0_i32_277 : BitVec 32 := 0#32
  let v695 : BitVec 1 := Scalar.cmpi .slt c128_i32_273 c0_i32_277
  let v696 : BitVec 32 := Scalar.extui v695
  let v697 : BitVec 32 := Scalar.subi v694 v696
  let v698 : BitVec 1 := Scalar.cmpi .ne v692 v697
  let v699 : BitVec 32 := Scalar.remsi v686 c128_i32_273
  let c0_i32_278 : BitVec 32 := 0#32
  let v700 : BitVec 1 := Scalar.cmpi .ne v699 c0_i32_278
  let v701 : BitVec 1 := Scalar.andi v698 v700
  let v687 : BitVec 32 := Scalar.divsi v686 c128_i32_273
  let c1_i32_279 : BitVec 32 := 1#32
  let v702 : BitVec 32 := Scalar.subi v687 c1_i32_279
  let v703 : BitVec 32 := Scalar.select v701 v702 v687
  let c128_i32_280 : BitVec 32 := 128#32
  let v704 : BitVec 32 := Scalar.muli v703 c128_i32_280
  let v705 : BitVec 32 := v704
  ![0, v705.toNat]

def k0_chk35 (i : grid0.Coords) (v686 : BitVec 32) : Prop :=
  (∀ (k0_h1 : k0_cond1 i = 1#1), 128 ∣ (k0_mult35 v686).toNat) ∧
  (∀ (k0_h1 : k0_cond1 i = 1#1), ∀ a, (k0_off35 v686) a + S64x128.size a ≤ S64x1000000.size a)
theorem k0_mult35_dvd : ∀ (i : grid0.Coords) (v686 : BitVec 32) (k0_hw35 : k0_chk35 i v686), ∀ (k0_h1 : k0_cond1 i = 1#1), 128 ∣ (k0_mult35 v686).toNat := fun i v686 k0_hw35 k0_h1 => k0_hw35.1 k0_h1
theorem k0_off35_inb : ∀ (i : grid0.Coords) (v686 : BitVec 32) (k0_hw35 : k0_chk35 i v686), ∀ (k0_h1 : k0_cond1 i = 1#1), ∀ a, (k0_off35 v686) a + S64x128.size a ≤ S64x1000000.size a := fun i v686 k0_hw35 k0_h1 => k0_hw35.2 k0_h1

def k0_off36 (v706 : BitVec 32) : Fin 2 → Nat :=
  let c0_i32_1674 : BitVec 32 := 0#32
  let c0_i32_282 : BitVec 32 := 0#32
  let v708 : BitVec 1 := Scalar.cmpi .sgt v706 c0_i32_282
  let v709 : BitVec 32 := Scalar.extui v708
  let c0_i32_283 : BitVec 32 := 0#32
  let v710 : BitVec 1 := Scalar.cmpi .slt v706 c0_i32_283
  let v711 : BitVec 32 := Scalar.extui v710
  let v712 : BitVec 32 := Scalar.subi v709 v711
  let c128_i32_281 : BitVec 32 := 128#32
  let c0_i32_284 : BitVec 32 := 0#32
  let v713 : BitVec 1 := Scalar.cmpi .sgt c128_i32_281 c0_i32_284
  let v714 : BitVec 32 := Scalar.extui v713
  let c0_i32_285 : BitVec 32 := 0#32
  let v715 : BitVec 1 := Scalar.cmpi .slt c128_i32_281 c0_i32_285
  let v716 : BitVec 32 := Scalar.extui v715
  let v717 : BitVec 32 := Scalar.subi v714 v716
  let v718 : BitVec 1 := Scalar.cmpi .ne v712 v717
  let v719 : BitVec 32 := Scalar.remsi v706 c128_i32_281
  let c0_i32_286 : BitVec 32 := 0#32
  let v720 : BitVec 1 := Scalar.cmpi .ne v719 c0_i32_286
  let v721 : BitVec 1 := Scalar.andi v718 v720
  let v707 : BitVec 32 := Scalar.divsi v706 c128_i32_281
  let c1_i32_287 : BitVec 32 := 1#32
  let v722 : BitVec 32 := Scalar.subi v707 c1_i32_287
  let v723 : BitVec 32 := Scalar.select v721 v722 v707
  let c128_i32_288 : BitVec 32 := 128#32
  let v724 : BitVec 32 := Scalar.muli v723 c128_i32_288
  let v725 : BitVec 32 := v724
  ![0, v725.toNat]

def k0_chk36 (i : grid0.Coords) (v706 : BitVec 32) : Prop :=
  (∀ (k0_h1 : k0_cond1 i = 1#1), 128 ∣ (k0_mult36 v706).toNat) ∧
  (∀ (k0_h1 : k0_cond1 i = 1#1), ∀ a, (k0_off36 v706) a + S64x128.size a ≤ S64x1000000.size a)
theorem k0_mult36_dvd : ∀ (i : grid0.Coords) (v706 : BitVec 32) (k0_hw36 : k0_chk36 i v706), ∀ (k0_h1 : k0_cond1 i = 1#1), 128 ∣ (k0_mult36 v706).toNat := fun i v706 k0_hw36 k0_h1 => k0_hw36.1 k0_h1
theorem k0_off36_inb : ∀ (i : grid0.Coords) (v706 : BitVec 32) (k0_hw36 : k0_chk36 i v706), ∀ (k0_h1 : k0_cond1 i = 1#1), ∀ a, (k0_off36 v706) a + S64x128.size a ≤ S64x1000000.size a := fun i v706 k0_hw36 k0_h1 => k0_hw36.2 k0_h1

def k0_off37 (v726 : BitVec 32) : Fin 2 → Nat :=
  let c0_i32_1676 : BitVec 32 := 0#32
  let c0_i32_290 : BitVec 32 := 0#32
  let v728 : BitVec 1 := Scalar.cmpi .sgt v726 c0_i32_290
  let v729 : BitVec 32 := Scalar.extui v728
  let c0_i32_291 : BitVec 32 := 0#32
  let v730 : BitVec 1 := Scalar.cmpi .slt v726 c0_i32_291
  let v731 : BitVec 32 := Scalar.extui v730
  let v732 : BitVec 32 := Scalar.subi v729 v731
  let c128_i32_289 : BitVec 32 := 128#32
  let c0_i32_292 : BitVec 32 := 0#32
  let v733 : BitVec 1 := Scalar.cmpi .sgt c128_i32_289 c0_i32_292
  let v734 : BitVec 32 := Scalar.extui v733
  let c0_i32_293 : BitVec 32 := 0#32
  let v735 : BitVec 1 := Scalar.cmpi .slt c128_i32_289 c0_i32_293
  let v736 : BitVec 32 := Scalar.extui v735
  let v737 : BitVec 32 := Scalar.subi v734 v736
  let v738 : BitVec 1 := Scalar.cmpi .ne v732 v737
  let v739 : BitVec 32 := Scalar.remsi v726 c128_i32_289
  let c0_i32_294 : BitVec 32 := 0#32
  let v740 : BitVec 1 := Scalar.cmpi .ne v739 c0_i32_294
  let v741 : BitVec 1 := Scalar.andi v738 v740
  let v727 : BitVec 32 := Scalar.divsi v726 c128_i32_289
  let c1_i32_295 : BitVec 32 := 1#32
  let v742 : BitVec 32 := Scalar.subi v727 c1_i32_295
  let v743 : BitVec 32 := Scalar.select v741 v742 v727
  let c128_i32_296 : BitVec 32 := 128#32
  let v744 : BitVec 32 := Scalar.muli v743 c128_i32_296
  let v745 : BitVec 32 := v744
  ![0, v745.toNat]

def k0_chk37 (i : grid0.Coords) (v726 : BitVec 32) : Prop :=
  (∀ (k0_h1 : k0_cond1 i = 1#1), 128 ∣ (k0_mult37 v726).toNat) ∧
  (∀ (k0_h1 : k0_cond1 i = 1#1), ∀ a, (k0_off37 v726) a + S64x128.size a ≤ S64x1000000.size a)
theorem k0_mult37_dvd : ∀ (i : grid0.Coords) (v726 : BitVec 32) (k0_hw37 : k0_chk37 i v726), ∀ (k0_h1 : k0_cond1 i = 1#1), 128 ∣ (k0_mult37 v726).toNat := fun i v726 k0_hw37 k0_h1 => k0_hw37.1 k0_h1
theorem k0_off37_inb : ∀ (i : grid0.Coords) (v726 : BitVec 32) (k0_hw37 : k0_chk37 i v726), ∀ (k0_h1 : k0_cond1 i = 1#1), ∀ a, (k0_off37 v726) a + S64x128.size a ≤ S64x1000000.size a := fun i v726 k0_hw37 k0_h1 => k0_hw37.2 k0_h1

def k0_off38 (v746 : BitVec 32) : Fin 2 → Nat :=
  let c0_i32_1678 : BitVec 32 := 0#32
  let c0_i32_298 : BitVec 32 := 0#32
  let v748 : BitVec 1 := Scalar.cmpi .sgt v746 c0_i32_298
  let v749 : BitVec 32 := Scalar.extui v748
  let c0_i32_299 : BitVec 32 := 0#32
  let v750 : BitVec 1 := Scalar.cmpi .slt v746 c0_i32_299
  let v751 : BitVec 32 := Scalar.extui v750
  let v752 : BitVec 32 := Scalar.subi v749 v751
  let c128_i32_297 : BitVec 32 := 128#32
  let c0_i32_300 : BitVec 32 := 0#32
  let v753 : BitVec 1 := Scalar.cmpi .sgt c128_i32_297 c0_i32_300
  let v754 : BitVec 32 := Scalar.extui v753
  let c0_i32_301 : BitVec 32 := 0#32
  let v755 : BitVec 1 := Scalar.cmpi .slt c128_i32_297 c0_i32_301
  let v756 : BitVec 32 := Scalar.extui v755
  let v757 : BitVec 32 := Scalar.subi v754 v756
  let v758 : BitVec 1 := Scalar.cmpi .ne v752 v757
  let v759 : BitVec 32 := Scalar.remsi v746 c128_i32_297
  let c0_i32_302 : BitVec 32 := 0#32
  let v760 : BitVec 1 := Scalar.cmpi .ne v759 c0_i32_302
  let v761 : BitVec 1 := Scalar.andi v758 v760
  let v747 : BitVec 32 := Scalar.divsi v746 c128_i32_297
  let c1_i32_303 : BitVec 32 := 1#32
  let v762 : BitVec 32 := Scalar.subi v747 c1_i32_303
  let v763 : BitVec 32 := Scalar.select v761 v762 v747
  let c128_i32_304 : BitVec 32 := 128#32
  let v764 : BitVec 32 := Scalar.muli v763 c128_i32_304
  let v765 : BitVec 32 := v764
  ![0, v765.toNat]

def k0_chk38 (i : grid0.Coords) (v746 : BitVec 32) : Prop :=
  (∀ (k0_h1 : k0_cond1 i = 1#1), 128 ∣ (k0_mult38 v746).toNat) ∧
  (∀ (k0_h1 : k0_cond1 i = 1#1), ∀ a, (k0_off38 v746) a + S64x128.size a ≤ S64x1000000.size a)
theorem k0_mult38_dvd : ∀ (i : grid0.Coords) (v746 : BitVec 32) (k0_hw38 : k0_chk38 i v746), ∀ (k0_h1 : k0_cond1 i = 1#1), 128 ∣ (k0_mult38 v746).toNat := fun i v746 k0_hw38 k0_h1 => k0_hw38.1 k0_h1
theorem k0_off38_inb : ∀ (i : grid0.Coords) (v746 : BitVec 32) (k0_hw38 : k0_chk38 i v746), ∀ (k0_h1 : k0_cond1 i = 1#1), ∀ a, (k0_off38 v746) a + S64x128.size a ≤ S64x1000000.size a := fun i v746 k0_hw38 k0_h1 => k0_hw38.2 k0_h1

def k0_off39 (v766 : BitVec 32) : Fin 2 → Nat :=
  let c0_i32_1680 : BitVec 32 := 0#32
  let c0_i32_306 : BitVec 32 := 0#32
  let v768 : BitVec 1 := Scalar.cmpi .sgt v766 c0_i32_306
  let v769 : BitVec 32 := Scalar.extui v768
  let c0_i32_307 : BitVec 32 := 0#32
  let v770 : BitVec 1 := Scalar.cmpi .slt v766 c0_i32_307
  let v771 : BitVec 32 := Scalar.extui v770
  let v772 : BitVec 32 := Scalar.subi v769 v771
  let c128_i32_305 : BitVec 32 := 128#32
  let c0_i32_308 : BitVec 32 := 0#32
  let v773 : BitVec 1 := Scalar.cmpi .sgt c128_i32_305 c0_i32_308
  let v774 : BitVec 32 := Scalar.extui v773
  let c0_i32_309 : BitVec 32 := 0#32
  let v775 : BitVec 1 := Scalar.cmpi .slt c128_i32_305 c0_i32_309
  let v776 : BitVec 32 := Scalar.extui v775
  let v777 : BitVec 32 := Scalar.subi v774 v776
  let v778 : BitVec 1 := Scalar.cmpi .ne v772 v777
  let v779 : BitVec 32 := Scalar.remsi v766 c128_i32_305
  let c0_i32_310 : BitVec 32 := 0#32
  let v780 : BitVec 1 := Scalar.cmpi .ne v779 c0_i32_310
  let v781 : BitVec 1 := Scalar.andi v778 v780
  let v767 : BitVec 32 := Scalar.divsi v766 c128_i32_305
  let c1_i32_311 : BitVec 32 := 1#32
  let v782 : BitVec 32 := Scalar.subi v767 c1_i32_311
  let v783 : BitVec 32 := Scalar.select v781 v782 v767
  let c128_i32_312 : BitVec 32 := 128#32
  let v784 : BitVec 32 := Scalar.muli v783 c128_i32_312
  let v785 : BitVec 32 := v784
  ![0, v785.toNat]

def k0_chk39 (i : grid0.Coords) (v766 : BitVec 32) : Prop :=
  (∀ (k0_h1 : k0_cond1 i = 1#1), 128 ∣ (k0_mult39 v766).toNat) ∧
  (∀ (k0_h1 : k0_cond1 i = 1#1), ∀ a, (k0_off39 v766) a + S64x128.size a ≤ S64x1000000.size a)
theorem k0_mult39_dvd : ∀ (i : grid0.Coords) (v766 : BitVec 32) (k0_hw39 : k0_chk39 i v766), ∀ (k0_h1 : k0_cond1 i = 1#1), 128 ∣ (k0_mult39 v766).toNat := fun i v766 k0_hw39 k0_h1 => k0_hw39.1 k0_h1
theorem k0_off39_inb : ∀ (i : grid0.Coords) (v766 : BitVec 32) (k0_hw39 : k0_chk39 i v766), ∀ (k0_h1 : k0_cond1 i = 1#1), ∀ a, (k0_off39 v766) a + S64x128.size a ≤ S64x1000000.size a := fun i v766 k0_hw39 k0_h1 => k0_hw39.2 k0_h1

def k0_off40 (v786 : BitVec 32) : Fin 2 → Nat :=
  let c0_i32_1682 : BitVec 32 := 0#32
  let c0_i32_314 : BitVec 32 := 0#32
  let v788 : BitVec 1 := Scalar.cmpi .sgt v786 c0_i32_314
  let v789 : BitVec 32 := Scalar.extui v788
  let c0_i32_315 : BitVec 32 := 0#32
  let v790 : BitVec 1 := Scalar.cmpi .slt v786 c0_i32_315
  let v791 : BitVec 32 := Scalar.extui v790
  let v792 : BitVec 32 := Scalar.subi v789 v791
  let c128_i32_313 : BitVec 32 := 128#32
  let c0_i32_316 : BitVec 32 := 0#32
  let v793 : BitVec 1 := Scalar.cmpi .sgt c128_i32_313 c0_i32_316
  let v794 : BitVec 32 := Scalar.extui v793
  let c0_i32_317 : BitVec 32 := 0#32
  let v795 : BitVec 1 := Scalar.cmpi .slt c128_i32_313 c0_i32_317
  let v796 : BitVec 32 := Scalar.extui v795
  let v797 : BitVec 32 := Scalar.subi v794 v796
  let v798 : BitVec 1 := Scalar.cmpi .ne v792 v797
  let v799 : BitVec 32 := Scalar.remsi v786 c128_i32_313
  let c0_i32_318 : BitVec 32 := 0#32
  let v800 : BitVec 1 := Scalar.cmpi .ne v799 c0_i32_318
  let v801 : BitVec 1 := Scalar.andi v798 v800
  let v787 : BitVec 32 := Scalar.divsi v786 c128_i32_313
  let c1_i32_319 : BitVec 32 := 1#32
  let v802 : BitVec 32 := Scalar.subi v787 c1_i32_319
  let v803 : BitVec 32 := Scalar.select v801 v802 v787
  let c128_i32_320 : BitVec 32 := 128#32
  let v804 : BitVec 32 := Scalar.muli v803 c128_i32_320
  let v805 : BitVec 32 := v804
  ![0, v805.toNat]

def k0_chk40 (i : grid0.Coords) (v786 : BitVec 32) : Prop :=
  (∀ (k0_h1 : k0_cond1 i = 1#1), 128 ∣ (k0_mult40 v786).toNat) ∧
  (∀ (k0_h1 : k0_cond1 i = 1#1), ∀ a, (k0_off40 v786) a + S64x128.size a ≤ S64x1000000.size a)
theorem k0_mult40_dvd : ∀ (i : grid0.Coords) (v786 : BitVec 32) (k0_hw40 : k0_chk40 i v786), ∀ (k0_h1 : k0_cond1 i = 1#1), 128 ∣ (k0_mult40 v786).toNat := fun i v786 k0_hw40 k0_h1 => k0_hw40.1 k0_h1
theorem k0_off40_inb : ∀ (i : grid0.Coords) (v786 : BitVec 32) (k0_hw40 : k0_chk40 i v786), ∀ (k0_h1 : k0_cond1 i = 1#1), ∀ a, (k0_off40 v786) a + S64x128.size a ≤ S64x1000000.size a := fun i v786 k0_hw40 k0_h1 => k0_hw40.2 k0_h1

def k0_off41 (v806 : BitVec 32) : Fin 2 → Nat :=
  let c0_i32_1684 : BitVec 32 := 0#32
  let c0_i32_322 : BitVec 32 := 0#32
  let v808 : BitVec 1 := Scalar.cmpi .sgt v806 c0_i32_322
  let v809 : BitVec 32 := Scalar.extui v808
  let c0_i32_323 : BitVec 32 := 0#32
  let v810 : BitVec 1 := Scalar.cmpi .slt v806 c0_i32_323
  let v811 : BitVec 32 := Scalar.extui v810
  let v812 : BitVec 32 := Scalar.subi v809 v811
  let c128_i32_321 : BitVec 32 := 128#32
  let c0_i32_324 : BitVec 32 := 0#32
  let v813 : BitVec 1 := Scalar.cmpi .sgt c128_i32_321 c0_i32_324
  let v814 : BitVec 32 := Scalar.extui v813
  let c0_i32_325 : BitVec 32 := 0#32
  let v815 : BitVec 1 := Scalar.cmpi .slt c128_i32_321 c0_i32_325
  let v816 : BitVec 32 := Scalar.extui v815
  let v817 : BitVec 32 := Scalar.subi v814 v816
  let v818 : BitVec 1 := Scalar.cmpi .ne v812 v817
  let v819 : BitVec 32 := Scalar.remsi v806 c128_i32_321
  let c0_i32_326 : BitVec 32 := 0#32
  let v820 : BitVec 1 := Scalar.cmpi .ne v819 c0_i32_326
  let v821 : BitVec 1 := Scalar.andi v818 v820
  let v807 : BitVec 32 := Scalar.divsi v806 c128_i32_321
  let c1_i32_327 : BitVec 32 := 1#32
  let v822 : BitVec 32 := Scalar.subi v807 c1_i32_327
  let v823 : BitVec 32 := Scalar.select v821 v822 v807
  let c128_i32_328 : BitVec 32 := 128#32
  let v824 : BitVec 32 := Scalar.muli v823 c128_i32_328
  let v825 : BitVec 32 := v824
  ![0, v825.toNat]

def k0_chk41 (i : grid0.Coords) (v806 : BitVec 32) : Prop :=
  (∀ (k0_h1 : k0_cond1 i = 1#1), 128 ∣ (k0_mult41 v806).toNat) ∧
  (∀ (k0_h1 : k0_cond1 i = 1#1), ∀ a, (k0_off41 v806) a + S64x128.size a ≤ S64x1000000.size a)
theorem k0_mult41_dvd : ∀ (i : grid0.Coords) (v806 : BitVec 32) (k0_hw41 : k0_chk41 i v806), ∀ (k0_h1 : k0_cond1 i = 1#1), 128 ∣ (k0_mult41 v806).toNat := fun i v806 k0_hw41 k0_h1 => k0_hw41.1 k0_h1
theorem k0_off41_inb : ∀ (i : grid0.Coords) (v806 : BitVec 32) (k0_hw41 : k0_chk41 i v806), ∀ (k0_h1 : k0_cond1 i = 1#1), ∀ a, (k0_off41 v806) a + S64x128.size a ≤ S64x1000000.size a := fun i v806 k0_hw41 k0_h1 => k0_hw41.2 k0_h1

def k0_off42 (v826 : BitVec 32) : Fin 2 → Nat :=
  let c0_i32_1686 : BitVec 32 := 0#32
  let c0_i32_330 : BitVec 32 := 0#32
  let v828 : BitVec 1 := Scalar.cmpi .sgt v826 c0_i32_330
  let v829 : BitVec 32 := Scalar.extui v828
  let c0_i32_331 : BitVec 32 := 0#32
  let v830 : BitVec 1 := Scalar.cmpi .slt v826 c0_i32_331
  let v831 : BitVec 32 := Scalar.extui v830
  let v832 : BitVec 32 := Scalar.subi v829 v831
  let c128_i32_329 : BitVec 32 := 128#32
  let c0_i32_332 : BitVec 32 := 0#32
  let v833 : BitVec 1 := Scalar.cmpi .sgt c128_i32_329 c0_i32_332
  let v834 : BitVec 32 := Scalar.extui v833
  let c0_i32_333 : BitVec 32 := 0#32
  let v835 : BitVec 1 := Scalar.cmpi .slt c128_i32_329 c0_i32_333
  let v836 : BitVec 32 := Scalar.extui v835
  let v837 : BitVec 32 := Scalar.subi v834 v836
  let v838 : BitVec 1 := Scalar.cmpi .ne v832 v837
  let v839 : BitVec 32 := Scalar.remsi v826 c128_i32_329
  let c0_i32_334 : BitVec 32 := 0#32
  let v840 : BitVec 1 := Scalar.cmpi .ne v839 c0_i32_334
  let v841 : BitVec 1 := Scalar.andi v838 v840
  let v827 : BitVec 32 := Scalar.divsi v826 c128_i32_329
  let c1_i32_335 : BitVec 32 := 1#32
  let v842 : BitVec 32 := Scalar.subi v827 c1_i32_335
  let v843 : BitVec 32 := Scalar.select v841 v842 v827
  let c128_i32_336 : BitVec 32 := 128#32
  let v844 : BitVec 32 := Scalar.muli v843 c128_i32_336
  let v845 : BitVec 32 := v844
  ![0, v845.toNat]

def k0_chk42 (i : grid0.Coords) (v826 : BitVec 32) : Prop :=
  (∀ (k0_h1 : k0_cond1 i = 1#1), 128 ∣ (k0_mult42 v826).toNat) ∧
  (∀ (k0_h1 : k0_cond1 i = 1#1), ∀ a, (k0_off42 v826) a + S64x128.size a ≤ S64x1000000.size a)
theorem k0_mult42_dvd : ∀ (i : grid0.Coords) (v826 : BitVec 32) (k0_hw42 : k0_chk42 i v826), ∀ (k0_h1 : k0_cond1 i = 1#1), 128 ∣ (k0_mult42 v826).toNat := fun i v826 k0_hw42 k0_h1 => k0_hw42.1 k0_h1
theorem k0_off42_inb : ∀ (i : grid0.Coords) (v826 : BitVec 32) (k0_hw42 : k0_chk42 i v826), ∀ (k0_h1 : k0_cond1 i = 1#1), ∀ a, (k0_off42 v826) a + S64x128.size a ≤ S64x1000000.size a := fun i v826 k0_hw42 k0_h1 => k0_hw42.2 k0_h1

def k0_off43 (v846 : BitVec 32) : Fin 2 → Nat :=
  let c0_i32_1688 : BitVec 32 := 0#32
  let c0_i32_338 : BitVec 32 := 0#32
  let v848 : BitVec 1 := Scalar.cmpi .sgt v846 c0_i32_338
  let v849 : BitVec 32 := Scalar.extui v848
  let c0_i32_339 : BitVec 32 := 0#32
  let v850 : BitVec 1 := Scalar.cmpi .slt v846 c0_i32_339
  let v851 : BitVec 32 := Scalar.extui v850
  let v852 : BitVec 32 := Scalar.subi v849 v851
  let c128_i32_337 : BitVec 32 := 128#32
  let c0_i32_340 : BitVec 32 := 0#32
  let v853 : BitVec 1 := Scalar.cmpi .sgt c128_i32_337 c0_i32_340
  let v854 : BitVec 32 := Scalar.extui v853
  let c0_i32_341 : BitVec 32 := 0#32
  let v855 : BitVec 1 := Scalar.cmpi .slt c128_i32_337 c0_i32_341
  let v856 : BitVec 32 := Scalar.extui v855
  let v857 : BitVec 32 := Scalar.subi v854 v856
  let v858 : BitVec 1 := Scalar.cmpi .ne v852 v857
  let v859 : BitVec 32 := Scalar.remsi v846 c128_i32_337
  let c0_i32_342 : BitVec 32 := 0#32
  let v860 : BitVec 1 := Scalar.cmpi .ne v859 c0_i32_342
  let v861 : BitVec 1 := Scalar.andi v858 v860
  let v847 : BitVec 32 := Scalar.divsi v846 c128_i32_337
  let c1_i32_343 : BitVec 32 := 1#32
  let v862 : BitVec 32 := Scalar.subi v847 c1_i32_343
  let v863 : BitVec 32 := Scalar.select v861 v862 v847
  let c128_i32_344 : BitVec 32 := 128#32
  let v864 : BitVec 32 := Scalar.muli v863 c128_i32_344
  let v865 : BitVec 32 := v864
  ![0, v865.toNat]

def k0_chk43 (i : grid0.Coords) (v846 : BitVec 32) : Prop :=
  (∀ (k0_h1 : k0_cond1 i = 1#1), 128 ∣ (k0_mult43 v846).toNat) ∧
  (∀ (k0_h1 : k0_cond1 i = 1#1), ∀ a, (k0_off43 v846) a + S64x128.size a ≤ S64x1000000.size a)
theorem k0_mult43_dvd : ∀ (i : grid0.Coords) (v846 : BitVec 32) (k0_hw43 : k0_chk43 i v846), ∀ (k0_h1 : k0_cond1 i = 1#1), 128 ∣ (k0_mult43 v846).toNat := fun i v846 k0_hw43 k0_h1 => k0_hw43.1 k0_h1
theorem k0_off43_inb : ∀ (i : grid0.Coords) (v846 : BitVec 32) (k0_hw43 : k0_chk43 i v846), ∀ (k0_h1 : k0_cond1 i = 1#1), ∀ a, (k0_off43 v846) a + S64x128.size a ≤ S64x1000000.size a := fun i v846 k0_hw43 k0_h1 => k0_hw43.2 k0_h1

def k0_off44 (v866 : BitVec 32) : Fin 2 → Nat :=
  let c0_i32_1690 : BitVec 32 := 0#32
  let c0_i32_346 : BitVec 32 := 0#32
  let v868 : BitVec 1 := Scalar.cmpi .sgt v866 c0_i32_346
  let v869 : BitVec 32 := Scalar.extui v868
  let c0_i32_347 : BitVec 32 := 0#32
  let v870 : BitVec 1 := Scalar.cmpi .slt v866 c0_i32_347
  let v871 : BitVec 32 := Scalar.extui v870
  let v872 : BitVec 32 := Scalar.subi v869 v871
  let c128_i32_345 : BitVec 32 := 128#32
  let c0_i32_348 : BitVec 32 := 0#32
  let v873 : BitVec 1 := Scalar.cmpi .sgt c128_i32_345 c0_i32_348
  let v874 : BitVec 32 := Scalar.extui v873
  let c0_i32_349 : BitVec 32 := 0#32
  let v875 : BitVec 1 := Scalar.cmpi .slt c128_i32_345 c0_i32_349
  let v876 : BitVec 32 := Scalar.extui v875
  let v877 : BitVec 32 := Scalar.subi v874 v876
  let v878 : BitVec 1 := Scalar.cmpi .ne v872 v877
  let v879 : BitVec 32 := Scalar.remsi v866 c128_i32_345
  let c0_i32_350 : BitVec 32 := 0#32
  let v880 : BitVec 1 := Scalar.cmpi .ne v879 c0_i32_350
  let v881 : BitVec 1 := Scalar.andi v878 v880
  let v867 : BitVec 32 := Scalar.divsi v866 c128_i32_345
  let c1_i32_351 : BitVec 32 := 1#32
  let v882 : BitVec 32 := Scalar.subi v867 c1_i32_351
  let v883 : BitVec 32 := Scalar.select v881 v882 v867
  let c128_i32_352 : BitVec 32 := 128#32
  let v884 : BitVec 32 := Scalar.muli v883 c128_i32_352
  let v885 : BitVec 32 := v884
  ![0, v885.toNat]

def k0_chk44 (i : grid0.Coords) (v866 : BitVec 32) : Prop :=
  (∀ (k0_h1 : k0_cond1 i = 1#1), 128 ∣ (k0_mult44 v866).toNat) ∧
  (∀ (k0_h1 : k0_cond1 i = 1#1), ∀ a, (k0_off44 v866) a + S64x128.size a ≤ S64x1000000.size a)
theorem k0_mult44_dvd : ∀ (i : grid0.Coords) (v866 : BitVec 32) (k0_hw44 : k0_chk44 i v866), ∀ (k0_h1 : k0_cond1 i = 1#1), 128 ∣ (k0_mult44 v866).toNat := fun i v866 k0_hw44 k0_h1 => k0_hw44.1 k0_h1
theorem k0_off44_inb : ∀ (i : grid0.Coords) (v866 : BitVec 32) (k0_hw44 : k0_chk44 i v866), ∀ (k0_h1 : k0_cond1 i = 1#1), ∀ a, (k0_off44 v866) a + S64x128.size a ≤ S64x1000000.size a := fun i v866 k0_hw44 k0_h1 => k0_hw44.2 k0_h1

def k0_off45 (v886 : BitVec 32) : Fin 2 → Nat :=
  let c0_i32_1692 : BitVec 32 := 0#32
  let c0_i32_354 : BitVec 32 := 0#32
  let v888 : BitVec 1 := Scalar.cmpi .sgt v886 c0_i32_354
  let v889 : BitVec 32 := Scalar.extui v888
  let c0_i32_355 : BitVec 32 := 0#32
  let v890 : BitVec 1 := Scalar.cmpi .slt v886 c0_i32_355
  let v891 : BitVec 32 := Scalar.extui v890
  let v892 : BitVec 32 := Scalar.subi v889 v891
  let c128_i32_353 : BitVec 32 := 128#32
  let c0_i32_356 : BitVec 32 := 0#32
  let v893 : BitVec 1 := Scalar.cmpi .sgt c128_i32_353 c0_i32_356
  let v894 : BitVec 32 := Scalar.extui v893
  let c0_i32_357 : BitVec 32 := 0#32
  let v895 : BitVec 1 := Scalar.cmpi .slt c128_i32_353 c0_i32_357
  let v896 : BitVec 32 := Scalar.extui v895
  let v897 : BitVec 32 := Scalar.subi v894 v896
  let v898 : BitVec 1 := Scalar.cmpi .ne v892 v897
  let v899 : BitVec 32 := Scalar.remsi v886 c128_i32_353
  let c0_i32_358 : BitVec 32 := 0#32
  let v900 : BitVec 1 := Scalar.cmpi .ne v899 c0_i32_358
  let v901 : BitVec 1 := Scalar.andi v898 v900
  let v887 : BitVec 32 := Scalar.divsi v886 c128_i32_353
  let c1_i32_359 : BitVec 32 := 1#32
  let v902 : BitVec 32 := Scalar.subi v887 c1_i32_359
  let v903 : BitVec 32 := Scalar.select v901 v902 v887
  let c128_i32_360 : BitVec 32 := 128#32
  let v904 : BitVec 32 := Scalar.muli v903 c128_i32_360
  let v905 : BitVec 32 := v904
  ![0, v905.toNat]

def k0_chk45 (i : grid0.Coords) (v886 : BitVec 32) : Prop :=
  (∀ (k0_h1 : k0_cond1 i = 1#1), 128 ∣ (k0_mult45 v886).toNat) ∧
  (∀ (k0_h1 : k0_cond1 i = 1#1), ∀ a, (k0_off45 v886) a + S64x128.size a ≤ S64x1000000.size a)
theorem k0_mult45_dvd : ∀ (i : grid0.Coords) (v886 : BitVec 32) (k0_hw45 : k0_chk45 i v886), ∀ (k0_h1 : k0_cond1 i = 1#1), 128 ∣ (k0_mult45 v886).toNat := fun i v886 k0_hw45 k0_h1 => k0_hw45.1 k0_h1
theorem k0_off45_inb : ∀ (i : grid0.Coords) (v886 : BitVec 32) (k0_hw45 : k0_chk45 i v886), ∀ (k0_h1 : k0_cond1 i = 1#1), ∀ a, (k0_off45 v886) a + S64x128.size a ≤ S64x1000000.size a := fun i v886 k0_hw45 k0_h1 => k0_hw45.2 k0_h1

def k0_off46 (v906 : BitVec 32) : Fin 2 → Nat :=
  let c0_i32_1694 : BitVec 32 := 0#32
  let c0_i32_362 : BitVec 32 := 0#32
  let v908 : BitVec 1 := Scalar.cmpi .sgt v906 c0_i32_362
  let v909 : BitVec 32 := Scalar.extui v908
  let c0_i32_363 : BitVec 32 := 0#32
  let v910 : BitVec 1 := Scalar.cmpi .slt v906 c0_i32_363
  let v911 : BitVec 32 := Scalar.extui v910
  let v912 : BitVec 32 := Scalar.subi v909 v911
  let c128_i32_361 : BitVec 32 := 128#32
  let c0_i32_364 : BitVec 32 := 0#32
  let v913 : BitVec 1 := Scalar.cmpi .sgt c128_i32_361 c0_i32_364
  let v914 : BitVec 32 := Scalar.extui v913
  let c0_i32_365 : BitVec 32 := 0#32
  let v915 : BitVec 1 := Scalar.cmpi .slt c128_i32_361 c0_i32_365
  let v916 : BitVec 32 := Scalar.extui v915
  let v917 : BitVec 32 := Scalar.subi v914 v916
  let v918 : BitVec 1 := Scalar.cmpi .ne v912 v917
  let v919 : BitVec 32 := Scalar.remsi v906 c128_i32_361
  let c0_i32_366 : BitVec 32 := 0#32
  let v920 : BitVec 1 := Scalar.cmpi .ne v919 c0_i32_366
  let v921 : BitVec 1 := Scalar.andi v918 v920
  let v907 : BitVec 32 := Scalar.divsi v906 c128_i32_361
  let c1_i32_367 : BitVec 32 := 1#32
  let v922 : BitVec 32 := Scalar.subi v907 c1_i32_367
  let v923 : BitVec 32 := Scalar.select v921 v922 v907
  let c128_i32_368 : BitVec 32 := 128#32
  let v924 : BitVec 32 := Scalar.muli v923 c128_i32_368
  let v925 : BitVec 32 := v924
  ![0, v925.toNat]

def k0_chk46 (i : grid0.Coords) (v906 : BitVec 32) : Prop :=
  (∀ (k0_h1 : k0_cond1 i = 1#1), 128 ∣ (k0_mult46 v906).toNat) ∧
  (∀ (k0_h1 : k0_cond1 i = 1#1), ∀ a, (k0_off46 v906) a + S64x128.size a ≤ S64x1000000.size a)
theorem k0_mult46_dvd : ∀ (i : grid0.Coords) (v906 : BitVec 32) (k0_hw46 : k0_chk46 i v906), ∀ (k0_h1 : k0_cond1 i = 1#1), 128 ∣ (k0_mult46 v906).toNat := fun i v906 k0_hw46 k0_h1 => k0_hw46.1 k0_h1
theorem k0_off46_inb : ∀ (i : grid0.Coords) (v906 : BitVec 32) (k0_hw46 : k0_chk46 i v906), ∀ (k0_h1 : k0_cond1 i = 1#1), ∀ a, (k0_off46 v906) a + S64x128.size a ≤ S64x1000000.size a := fun i v906 k0_hw46 k0_h1 => k0_hw46.2 k0_h1

def k0_off47 (v926 : BitVec 32) : Fin 2 → Nat :=
  let c0_i32_1696 : BitVec 32 := 0#32
  let c0_i32_370 : BitVec 32 := 0#32
  let v928 : BitVec 1 := Scalar.cmpi .sgt v926 c0_i32_370
  let v929 : BitVec 32 := Scalar.extui v928
  let c0_i32_371 : BitVec 32 := 0#32
  let v930 : BitVec 1 := Scalar.cmpi .slt v926 c0_i32_371
  let v931 : BitVec 32 := Scalar.extui v930
  let v932 : BitVec 32 := Scalar.subi v929 v931
  let c128_i32_369 : BitVec 32 := 128#32
  let c0_i32_372 : BitVec 32 := 0#32
  let v933 : BitVec 1 := Scalar.cmpi .sgt c128_i32_369 c0_i32_372
  let v934 : BitVec 32 := Scalar.extui v933
  let c0_i32_373 : BitVec 32 := 0#32
  let v935 : BitVec 1 := Scalar.cmpi .slt c128_i32_369 c0_i32_373
  let v936 : BitVec 32 := Scalar.extui v935
  let v937 : BitVec 32 := Scalar.subi v934 v936
  let v938 : BitVec 1 := Scalar.cmpi .ne v932 v937
  let v939 : BitVec 32 := Scalar.remsi v926 c128_i32_369
  let c0_i32_374 : BitVec 32 := 0#32
  let v940 : BitVec 1 := Scalar.cmpi .ne v939 c0_i32_374
  let v941 : BitVec 1 := Scalar.andi v938 v940
  let v927 : BitVec 32 := Scalar.divsi v926 c128_i32_369
  let c1_i32_375 : BitVec 32 := 1#32
  let v942 : BitVec 32 := Scalar.subi v927 c1_i32_375
  let v943 : BitVec 32 := Scalar.select v941 v942 v927
  let c128_i32_376 : BitVec 32 := 128#32
  let v944 : BitVec 32 := Scalar.muli v943 c128_i32_376
  let v945 : BitVec 32 := v944
  ![0, v945.toNat]

def k0_chk47 (i : grid0.Coords) (v926 : BitVec 32) : Prop :=
  (∀ (k0_h1 : k0_cond1 i = 1#1), 128 ∣ (k0_mult47 v926).toNat) ∧
  (∀ (k0_h1 : k0_cond1 i = 1#1), ∀ a, (k0_off47 v926) a + S64x128.size a ≤ S64x1000000.size a)
theorem k0_mult47_dvd : ∀ (i : grid0.Coords) (v926 : BitVec 32) (k0_hw47 : k0_chk47 i v926), ∀ (k0_h1 : k0_cond1 i = 1#1), 128 ∣ (k0_mult47 v926).toNat := fun i v926 k0_hw47 k0_h1 => k0_hw47.1 k0_h1
theorem k0_off47_inb : ∀ (i : grid0.Coords) (v926 : BitVec 32) (k0_hw47 : k0_chk47 i v926), ∀ (k0_h1 : k0_cond1 i = 1#1), ∀ a, (k0_off47 v926) a + S64x128.size a ≤ S64x1000000.size a := fun i v926 k0_hw47 k0_h1 => k0_hw47.2 k0_h1

def k0_off48 (v946 : BitVec 32) : Fin 2 → Nat :=
  let c0_i32_1698 : BitVec 32 := 0#32
  let c0_i32_378 : BitVec 32 := 0#32
  let v948 : BitVec 1 := Scalar.cmpi .sgt v946 c0_i32_378
  let v949 : BitVec 32 := Scalar.extui v948
  let c0_i32_379 : BitVec 32 := 0#32
  let v950 : BitVec 1 := Scalar.cmpi .slt v946 c0_i32_379
  let v951 : BitVec 32 := Scalar.extui v950
  let v952 : BitVec 32 := Scalar.subi v949 v951
  let c128_i32_377 : BitVec 32 := 128#32
  let c0_i32_380 : BitVec 32 := 0#32
  let v953 : BitVec 1 := Scalar.cmpi .sgt c128_i32_377 c0_i32_380
  let v954 : BitVec 32 := Scalar.extui v953
  let c0_i32_381 : BitVec 32 := 0#32
  let v955 : BitVec 1 := Scalar.cmpi .slt c128_i32_377 c0_i32_381
  let v956 : BitVec 32 := Scalar.extui v955
  let v957 : BitVec 32 := Scalar.subi v954 v956
  let v958 : BitVec 1 := Scalar.cmpi .ne v952 v957
  let v959 : BitVec 32 := Scalar.remsi v946 c128_i32_377
  let c0_i32_382 : BitVec 32 := 0#32
  let v960 : BitVec 1 := Scalar.cmpi .ne v959 c0_i32_382
  let v961 : BitVec 1 := Scalar.andi v958 v960
  let v947 : BitVec 32 := Scalar.divsi v946 c128_i32_377
  let c1_i32_383 : BitVec 32 := 1#32
  let v962 : BitVec 32 := Scalar.subi v947 c1_i32_383
  let v963 : BitVec 32 := Scalar.select v961 v962 v947
  let c128_i32_384 : BitVec 32 := 128#32
  let v964 : BitVec 32 := Scalar.muli v963 c128_i32_384
  let v965 : BitVec 32 := v964
  ![0, v965.toNat]

def k0_chk48 (i : grid0.Coords) (v946 : BitVec 32) : Prop :=
  (∀ (k0_h1 : k0_cond1 i = 1#1), 128 ∣ (k0_mult48 v946).toNat) ∧
  (∀ (k0_h1 : k0_cond1 i = 1#1), ∀ a, (k0_off48 v946) a + S64x128.size a ≤ S64x1000000.size a)
theorem k0_mult48_dvd : ∀ (i : grid0.Coords) (v946 : BitVec 32) (k0_hw48 : k0_chk48 i v946), ∀ (k0_h1 : k0_cond1 i = 1#1), 128 ∣ (k0_mult48 v946).toNat := fun i v946 k0_hw48 k0_h1 => k0_hw48.1 k0_h1
theorem k0_off48_inb : ∀ (i : grid0.Coords) (v946 : BitVec 32) (k0_hw48 : k0_chk48 i v946), ∀ (k0_h1 : k0_cond1 i = 1#1), ∀ a, (k0_off48 v946) a + S64x128.size a ≤ S64x1000000.size a := fun i v946 k0_hw48 k0_h1 => k0_hw48.2 k0_h1

def k0_off49 (v966 : BitVec 32) : Fin 2 → Nat :=
  let c0_i32_1700 : BitVec 32 := 0#32
  let c0_i32_386 : BitVec 32 := 0#32
  let v968 : BitVec 1 := Scalar.cmpi .sgt v966 c0_i32_386
  let v969 : BitVec 32 := Scalar.extui v968
  let c0_i32_387 : BitVec 32 := 0#32
  let v970 : BitVec 1 := Scalar.cmpi .slt v966 c0_i32_387
  let v971 : BitVec 32 := Scalar.extui v970
  let v972 : BitVec 32 := Scalar.subi v969 v971
  let c128_i32_385 : BitVec 32 := 128#32
  let c0_i32_388 : BitVec 32 := 0#32
  let v973 : BitVec 1 := Scalar.cmpi .sgt c128_i32_385 c0_i32_388
  let v974 : BitVec 32 := Scalar.extui v973
  let c0_i32_389 : BitVec 32 := 0#32
  let v975 : BitVec 1 := Scalar.cmpi .slt c128_i32_385 c0_i32_389
  let v976 : BitVec 32 := Scalar.extui v975
  let v977 : BitVec 32 := Scalar.subi v974 v976
  let v978 : BitVec 1 := Scalar.cmpi .ne v972 v977
  let v979 : BitVec 32 := Scalar.remsi v966 c128_i32_385
  let c0_i32_390 : BitVec 32 := 0#32
  let v980 : BitVec 1 := Scalar.cmpi .ne v979 c0_i32_390
  let v981 : BitVec 1 := Scalar.andi v978 v980
  let v967 : BitVec 32 := Scalar.divsi v966 c128_i32_385
  let c1_i32_391 : BitVec 32 := 1#32
  let v982 : BitVec 32 := Scalar.subi v967 c1_i32_391
  let v983 : BitVec 32 := Scalar.select v981 v982 v967
  let c128_i32_392 : BitVec 32 := 128#32
  let v984 : BitVec 32 := Scalar.muli v983 c128_i32_392
  let v985 : BitVec 32 := v984
  ![0, v985.toNat]

def k0_chk49 (i : grid0.Coords) (v966 : BitVec 32) : Prop :=
  (∀ (k0_h1 : k0_cond1 i = 1#1), 128 ∣ (k0_mult49 v966).toNat) ∧
  (∀ (k0_h1 : k0_cond1 i = 1#1), ∀ a, (k0_off49 v966) a + S64x128.size a ≤ S64x1000000.size a)
theorem k0_mult49_dvd : ∀ (i : grid0.Coords) (v966 : BitVec 32) (k0_hw49 : k0_chk49 i v966), ∀ (k0_h1 : k0_cond1 i = 1#1), 128 ∣ (k0_mult49 v966).toNat := fun i v966 k0_hw49 k0_h1 => k0_hw49.1 k0_h1
theorem k0_off49_inb : ∀ (i : grid0.Coords) (v966 : BitVec 32) (k0_hw49 : k0_chk49 i v966), ∀ (k0_h1 : k0_cond1 i = 1#1), ∀ a, (k0_off49 v966) a + S64x128.size a ≤ S64x1000000.size a := fun i v966 k0_hw49 k0_h1 => k0_hw49.2 k0_h1

def k0_off50 (v986 : BitVec 32) : Fin 2 → Nat :=
  let c0_i32_1702 : BitVec 32 := 0#32
  let c0_i32_394 : BitVec 32 := 0#32
  let v988 : BitVec 1 := Scalar.cmpi .sgt v986 c0_i32_394
  let v989 : BitVec 32 := Scalar.extui v988
  let c0_i32_395 : BitVec 32 := 0#32
  let v990 : BitVec 1 := Scalar.cmpi .slt v986 c0_i32_395
  let v991 : BitVec 32 := Scalar.extui v990
  let v992 : BitVec 32 := Scalar.subi v989 v991
  let c128_i32_393 : BitVec 32 := 128#32
  let c0_i32_396 : BitVec 32 := 0#32
  let v993 : BitVec 1 := Scalar.cmpi .sgt c128_i32_393 c0_i32_396
  let v994 : BitVec 32 := Scalar.extui v993
  let c0_i32_397 : BitVec 32 := 0#32
  let v995 : BitVec 1 := Scalar.cmpi .slt c128_i32_393 c0_i32_397
  let v996 : BitVec 32 := Scalar.extui v995
  let v997 : BitVec 32 := Scalar.subi v994 v996
  let v998 : BitVec 1 := Scalar.cmpi .ne v992 v997
  let v999 : BitVec 32 := Scalar.remsi v986 c128_i32_393
  let c0_i32_398 : BitVec 32 := 0#32
  let v1000 : BitVec 1 := Scalar.cmpi .ne v999 c0_i32_398
  let v1001 : BitVec 1 := Scalar.andi v998 v1000
  let v987 : BitVec 32 := Scalar.divsi v986 c128_i32_393
  let c1_i32_399 : BitVec 32 := 1#32
  let v1002 : BitVec 32 := Scalar.subi v987 c1_i32_399
  let v1003 : BitVec 32 := Scalar.select v1001 v1002 v987
  let c128_i32_400 : BitVec 32 := 128#32
  let v1004 : BitVec 32 := Scalar.muli v1003 c128_i32_400
  let v1005 : BitVec 32 := v1004
  ![0, v1005.toNat]

def k0_chk50 (i : grid0.Coords) (v986 : BitVec 32) : Prop :=
  (∀ (k0_h1 : k0_cond1 i = 1#1), 128 ∣ (k0_mult50 v986).toNat) ∧
  (∀ (k0_h1 : k0_cond1 i = 1#1), ∀ a, (k0_off50 v986) a + S64x128.size a ≤ S64x1000000.size a)
theorem k0_mult50_dvd : ∀ (i : grid0.Coords) (v986 : BitVec 32) (k0_hw50 : k0_chk50 i v986), ∀ (k0_h1 : k0_cond1 i = 1#1), 128 ∣ (k0_mult50 v986).toNat := fun i v986 k0_hw50 k0_h1 => k0_hw50.1 k0_h1
theorem k0_off50_inb : ∀ (i : grid0.Coords) (v986 : BitVec 32) (k0_hw50 : k0_chk50 i v986), ∀ (k0_h1 : k0_cond1 i = 1#1), ∀ a, (k0_off50 v986) a + S64x128.size a ≤ S64x1000000.size a := fun i v986 k0_hw50 k0_h1 => k0_hw50.2 k0_h1

def k0_off51 (v1006 : BitVec 32) : Fin 2 → Nat :=
  let c0_i32_1704 : BitVec 32 := 0#32
  let c0_i32_402 : BitVec 32 := 0#32
  let v1008 : BitVec 1 := Scalar.cmpi .sgt v1006 c0_i32_402
  let v1009 : BitVec 32 := Scalar.extui v1008
  let c0_i32_403 : BitVec 32 := 0#32
  let v1010 : BitVec 1 := Scalar.cmpi .slt v1006 c0_i32_403
  let v1011 : BitVec 32 := Scalar.extui v1010
  let v1012 : BitVec 32 := Scalar.subi v1009 v1011
  let c128_i32_401 : BitVec 32 := 128#32
  let c0_i32_404 : BitVec 32 := 0#32
  let v1013 : BitVec 1 := Scalar.cmpi .sgt c128_i32_401 c0_i32_404
  let v1014 : BitVec 32 := Scalar.extui v1013
  let c0_i32_405 : BitVec 32 := 0#32
  let v1015 : BitVec 1 := Scalar.cmpi .slt c128_i32_401 c0_i32_405
  let v1016 : BitVec 32 := Scalar.extui v1015
  let v1017 : BitVec 32 := Scalar.subi v1014 v1016
  let v1018 : BitVec 1 := Scalar.cmpi .ne v1012 v1017
  let v1019 : BitVec 32 := Scalar.remsi v1006 c128_i32_401
  let c0_i32_406 : BitVec 32 := 0#32
  let v1020 : BitVec 1 := Scalar.cmpi .ne v1019 c0_i32_406
  let v1021 : BitVec 1 := Scalar.andi v1018 v1020
  let v1007 : BitVec 32 := Scalar.divsi v1006 c128_i32_401
  let c1_i32_407 : BitVec 32 := 1#32
  let v1022 : BitVec 32 := Scalar.subi v1007 c1_i32_407
  let v1023 : BitVec 32 := Scalar.select v1021 v1022 v1007
  let c128_i32_408 : BitVec 32 := 128#32
  let v1024 : BitVec 32 := Scalar.muli v1023 c128_i32_408
  let v1025 : BitVec 32 := v1024
  ![0, v1025.toNat]

def k0_chk51 (i : grid0.Coords) (v1006 : BitVec 32) : Prop :=
  (∀ (k0_h1 : k0_cond1 i = 1#1), 128 ∣ (k0_mult51 v1006).toNat) ∧
  (∀ (k0_h1 : k0_cond1 i = 1#1), ∀ a, (k0_off51 v1006) a + S64x128.size a ≤ S64x1000000.size a)
theorem k0_mult51_dvd : ∀ (i : grid0.Coords) (v1006 : BitVec 32) (k0_hw51 : k0_chk51 i v1006), ∀ (k0_h1 : k0_cond1 i = 1#1), 128 ∣ (k0_mult51 v1006).toNat := fun i v1006 k0_hw51 k0_h1 => k0_hw51.1 k0_h1
theorem k0_off51_inb : ∀ (i : grid0.Coords) (v1006 : BitVec 32) (k0_hw51 : k0_chk51 i v1006), ∀ (k0_h1 : k0_cond1 i = 1#1), ∀ a, (k0_off51 v1006) a + S64x128.size a ≤ S64x1000000.size a := fun i v1006 k0_hw51 k0_h1 => k0_hw51.2 k0_h1

def k0_off52 (v1026 : BitVec 32) : Fin 2 → Nat :=
  let c0_i32_1706 : BitVec 32 := 0#32
  let c0_i32_410 : BitVec 32 := 0#32
  let v1028 : BitVec 1 := Scalar.cmpi .sgt v1026 c0_i32_410
  let v1029 : BitVec 32 := Scalar.extui v1028
  let c0_i32_411 : BitVec 32 := 0#32
  let v1030 : BitVec 1 := Scalar.cmpi .slt v1026 c0_i32_411
  let v1031 : BitVec 32 := Scalar.extui v1030
  let v1032 : BitVec 32 := Scalar.subi v1029 v1031
  let c128_i32_409 : BitVec 32 := 128#32
  let c0_i32_412 : BitVec 32 := 0#32
  let v1033 : BitVec 1 := Scalar.cmpi .sgt c128_i32_409 c0_i32_412
  let v1034 : BitVec 32 := Scalar.extui v1033
  let c0_i32_413 : BitVec 32 := 0#32
  let v1035 : BitVec 1 := Scalar.cmpi .slt c128_i32_409 c0_i32_413
  let v1036 : BitVec 32 := Scalar.extui v1035
  let v1037 : BitVec 32 := Scalar.subi v1034 v1036
  let v1038 : BitVec 1 := Scalar.cmpi .ne v1032 v1037
  let v1039 : BitVec 32 := Scalar.remsi v1026 c128_i32_409
  let c0_i32_414 : BitVec 32 := 0#32
  let v1040 : BitVec 1 := Scalar.cmpi .ne v1039 c0_i32_414
  let v1041 : BitVec 1 := Scalar.andi v1038 v1040
  let v1027 : BitVec 32 := Scalar.divsi v1026 c128_i32_409
  let c1_i32_415 : BitVec 32 := 1#32
  let v1042 : BitVec 32 := Scalar.subi v1027 c1_i32_415
  let v1043 : BitVec 32 := Scalar.select v1041 v1042 v1027
  let c128_i32_416 : BitVec 32 := 128#32
  let v1044 : BitVec 32 := Scalar.muli v1043 c128_i32_416
  let v1045 : BitVec 32 := v1044
  ![0, v1045.toNat]

def k0_chk52 (i : grid0.Coords) (v1026 : BitVec 32) : Prop :=
  (∀ (k0_h1 : k0_cond1 i = 1#1), 128 ∣ (k0_mult52 v1026).toNat) ∧
  (∀ (k0_h1 : k0_cond1 i = 1#1), ∀ a, (k0_off52 v1026) a + S64x128.size a ≤ S64x1000000.size a)
theorem k0_mult52_dvd : ∀ (i : grid0.Coords) (v1026 : BitVec 32) (k0_hw52 : k0_chk52 i v1026), ∀ (k0_h1 : k0_cond1 i = 1#1), 128 ∣ (k0_mult52 v1026).toNat := fun i v1026 k0_hw52 k0_h1 => k0_hw52.1 k0_h1
theorem k0_off52_inb : ∀ (i : grid0.Coords) (v1026 : BitVec 32) (k0_hw52 : k0_chk52 i v1026), ∀ (k0_h1 : k0_cond1 i = 1#1), ∀ a, (k0_off52 v1026) a + S64x128.size a ≤ S64x1000000.size a := fun i v1026 k0_hw52 k0_h1 => k0_hw52.2 k0_h1

def k0_off53 (v1046 : BitVec 32) : Fin 2 → Nat :=
  let c0_i32_1708 : BitVec 32 := 0#32
  let c0_i32_418 : BitVec 32 := 0#32
  let v1048 : BitVec 1 := Scalar.cmpi .sgt v1046 c0_i32_418
  let v1049 : BitVec 32 := Scalar.extui v1048
  let c0_i32_419 : BitVec 32 := 0#32
  let v1050 : BitVec 1 := Scalar.cmpi .slt v1046 c0_i32_419
  let v1051 : BitVec 32 := Scalar.extui v1050
  let v1052 : BitVec 32 := Scalar.subi v1049 v1051
  let c128_i32_417 : BitVec 32 := 128#32
  let c0_i32_420 : BitVec 32 := 0#32
  let v1053 : BitVec 1 := Scalar.cmpi .sgt c128_i32_417 c0_i32_420
  let v1054 : BitVec 32 := Scalar.extui v1053
  let c0_i32_421 : BitVec 32 := 0#32
  let v1055 : BitVec 1 := Scalar.cmpi .slt c128_i32_417 c0_i32_421
  let v1056 : BitVec 32 := Scalar.extui v1055
  let v1057 : BitVec 32 := Scalar.subi v1054 v1056
  let v1058 : BitVec 1 := Scalar.cmpi .ne v1052 v1057
  let v1059 : BitVec 32 := Scalar.remsi v1046 c128_i32_417
  let c0_i32_422 : BitVec 32 := 0#32
  let v1060 : BitVec 1 := Scalar.cmpi .ne v1059 c0_i32_422
  let v1061 : BitVec 1 := Scalar.andi v1058 v1060
  let v1047 : BitVec 32 := Scalar.divsi v1046 c128_i32_417
  let c1_i32_423 : BitVec 32 := 1#32
  let v1062 : BitVec 32 := Scalar.subi v1047 c1_i32_423
  let v1063 : BitVec 32 := Scalar.select v1061 v1062 v1047
  let c128_i32_424 : BitVec 32 := 128#32
  let v1064 : BitVec 32 := Scalar.muli v1063 c128_i32_424
  let v1065 : BitVec 32 := v1064
  ![0, v1065.toNat]

def k0_chk53 (i : grid0.Coords) (v1046 : BitVec 32) : Prop :=
  (∀ (k0_h1 : k0_cond1 i = 1#1), 128 ∣ (k0_mult53 v1046).toNat) ∧
  (∀ (k0_h1 : k0_cond1 i = 1#1), ∀ a, (k0_off53 v1046) a + S64x128.size a ≤ S64x1000000.size a)
theorem k0_mult53_dvd : ∀ (i : grid0.Coords) (v1046 : BitVec 32) (k0_hw53 : k0_chk53 i v1046), ∀ (k0_h1 : k0_cond1 i = 1#1), 128 ∣ (k0_mult53 v1046).toNat := fun i v1046 k0_hw53 k0_h1 => k0_hw53.1 k0_h1
theorem k0_off53_inb : ∀ (i : grid0.Coords) (v1046 : BitVec 32) (k0_hw53 : k0_chk53 i v1046), ∀ (k0_h1 : k0_cond1 i = 1#1), ∀ a, (k0_off53 v1046) a + S64x128.size a ≤ S64x1000000.size a := fun i v1046 k0_hw53 k0_h1 => k0_hw53.2 k0_h1

def k0_off54 (v1066 : BitVec 32) : Fin 2 → Nat :=
  let c0_i32_1710 : BitVec 32 := 0#32
  let c0_i32_426 : BitVec 32 := 0#32
  let v1068 : BitVec 1 := Scalar.cmpi .sgt v1066 c0_i32_426
  let v1069 : BitVec 32 := Scalar.extui v1068
  let c0_i32_427 : BitVec 32 := 0#32
  let v1070 : BitVec 1 := Scalar.cmpi .slt v1066 c0_i32_427
  let v1071 : BitVec 32 := Scalar.extui v1070
  let v1072 : BitVec 32 := Scalar.subi v1069 v1071
  let c128_i32_425 : BitVec 32 := 128#32
  let c0_i32_428 : BitVec 32 := 0#32
  let v1073 : BitVec 1 := Scalar.cmpi .sgt c128_i32_425 c0_i32_428
  let v1074 : BitVec 32 := Scalar.extui v1073
  let c0_i32_429 : BitVec 32 := 0#32
  let v1075 : BitVec 1 := Scalar.cmpi .slt c128_i32_425 c0_i32_429
  let v1076 : BitVec 32 := Scalar.extui v1075
  let v1077 : BitVec 32 := Scalar.subi v1074 v1076
  let v1078 : BitVec 1 := Scalar.cmpi .ne v1072 v1077
  let v1079 : BitVec 32 := Scalar.remsi v1066 c128_i32_425
  let c0_i32_430 : BitVec 32 := 0#32
  let v1080 : BitVec 1 := Scalar.cmpi .ne v1079 c0_i32_430
  let v1081 : BitVec 1 := Scalar.andi v1078 v1080
  let v1067 : BitVec 32 := Scalar.divsi v1066 c128_i32_425
  let c1_i32_431 : BitVec 32 := 1#32
  let v1082 : BitVec 32 := Scalar.subi v1067 c1_i32_431
  let v1083 : BitVec 32 := Scalar.select v1081 v1082 v1067
  let c128_i32_432 : BitVec 32 := 128#32
  let v1084 : BitVec 32 := Scalar.muli v1083 c128_i32_432
  let v1085 : BitVec 32 := v1084
  ![0, v1085.toNat]

def k0_chk54 (i : grid0.Coords) (v1066 : BitVec 32) : Prop :=
  (∀ (k0_h1 : k0_cond1 i = 1#1), 128 ∣ (k0_mult54 v1066).toNat) ∧
  (∀ (k0_h1 : k0_cond1 i = 1#1), ∀ a, (k0_off54 v1066) a + S64x128.size a ≤ S64x1000000.size a)
theorem k0_mult54_dvd : ∀ (i : grid0.Coords) (v1066 : BitVec 32) (k0_hw54 : k0_chk54 i v1066), ∀ (k0_h1 : k0_cond1 i = 1#1), 128 ∣ (k0_mult54 v1066).toNat := fun i v1066 k0_hw54 k0_h1 => k0_hw54.1 k0_h1
theorem k0_off54_inb : ∀ (i : grid0.Coords) (v1066 : BitVec 32) (k0_hw54 : k0_chk54 i v1066), ∀ (k0_h1 : k0_cond1 i = 1#1), ∀ a, (k0_off54 v1066) a + S64x128.size a ≤ S64x1000000.size a := fun i v1066 k0_hw54 k0_h1 => k0_hw54.2 k0_h1

def k0_off55 (v1086 : BitVec 32) : Fin 2 → Nat :=
  let c0_i32_1712 : BitVec 32 := 0#32
  let c0_i32_434 : BitVec 32 := 0#32
  let v1088 : BitVec 1 := Scalar.cmpi .sgt v1086 c0_i32_434
  let v1089 : BitVec 32 := Scalar.extui v1088
  let c0_i32_435 : BitVec 32 := 0#32
  let v1090 : BitVec 1 := Scalar.cmpi .slt v1086 c0_i32_435
  let v1091 : BitVec 32 := Scalar.extui v1090
  let v1092 : BitVec 32 := Scalar.subi v1089 v1091
  let c128_i32_433 : BitVec 32 := 128#32
  let c0_i32_436 : BitVec 32 := 0#32
  let v1093 : BitVec 1 := Scalar.cmpi .sgt c128_i32_433 c0_i32_436
  let v1094 : BitVec 32 := Scalar.extui v1093
  let c0_i32_437 : BitVec 32 := 0#32
  let v1095 : BitVec 1 := Scalar.cmpi .slt c128_i32_433 c0_i32_437
  let v1096 : BitVec 32 := Scalar.extui v1095
  let v1097 : BitVec 32 := Scalar.subi v1094 v1096
  let v1098 : BitVec 1 := Scalar.cmpi .ne v1092 v1097
  let v1099 : BitVec 32 := Scalar.remsi v1086 c128_i32_433
  let c0_i32_438 : BitVec 32 := 0#32
  let v1100 : BitVec 1 := Scalar.cmpi .ne v1099 c0_i32_438
  let v1101 : BitVec 1 := Scalar.andi v1098 v1100
  let v1087 : BitVec 32 := Scalar.divsi v1086 c128_i32_433
  let c1_i32_439 : BitVec 32 := 1#32
  let v1102 : BitVec 32 := Scalar.subi v1087 c1_i32_439
  let v1103 : BitVec 32 := Scalar.select v1101 v1102 v1087
  let c128_i32_440 : BitVec 32 := 128#32
  let v1104 : BitVec 32 := Scalar.muli v1103 c128_i32_440
  let v1105 : BitVec 32 := v1104
  ![0, v1105.toNat]

def k0_chk55 (i : grid0.Coords) (v1086 : BitVec 32) : Prop :=
  (∀ (k0_h1 : k0_cond1 i = 1#1), 128 ∣ (k0_mult55 v1086).toNat) ∧
  (∀ (k0_h1 : k0_cond1 i = 1#1), ∀ a, (k0_off55 v1086) a + S64x128.size a ≤ S64x1000000.size a)
theorem k0_mult55_dvd : ∀ (i : grid0.Coords) (v1086 : BitVec 32) (k0_hw55 : k0_chk55 i v1086), ∀ (k0_h1 : k0_cond1 i = 1#1), 128 ∣ (k0_mult55 v1086).toNat := fun i v1086 k0_hw55 k0_h1 => k0_hw55.1 k0_h1
theorem k0_off55_inb : ∀ (i : grid0.Coords) (v1086 : BitVec 32) (k0_hw55 : k0_chk55 i v1086), ∀ (k0_h1 : k0_cond1 i = 1#1), ∀ a, (k0_off55 v1086) a + S64x128.size a ≤ S64x1000000.size a := fun i v1086 k0_hw55 k0_h1 => k0_hw55.2 k0_h1

def k0_off56 (v1106 : BitVec 32) : Fin 2 → Nat :=
  let c0_i32_1714 : BitVec 32 := 0#32
  let c0_i32_442 : BitVec 32 := 0#32
  let v1108 : BitVec 1 := Scalar.cmpi .sgt v1106 c0_i32_442
  let v1109 : BitVec 32 := Scalar.extui v1108
  let c0_i32_443 : BitVec 32 := 0#32
  let v1110 : BitVec 1 := Scalar.cmpi .slt v1106 c0_i32_443
  let v1111 : BitVec 32 := Scalar.extui v1110
  let v1112 : BitVec 32 := Scalar.subi v1109 v1111
  let c128_i32_441 : BitVec 32 := 128#32
  let c0_i32_444 : BitVec 32 := 0#32
  let v1113 : BitVec 1 := Scalar.cmpi .sgt c128_i32_441 c0_i32_444
  let v1114 : BitVec 32 := Scalar.extui v1113
  let c0_i32_445 : BitVec 32 := 0#32
  let v1115 : BitVec 1 := Scalar.cmpi .slt c128_i32_441 c0_i32_445
  let v1116 : BitVec 32 := Scalar.extui v1115
  let v1117 : BitVec 32 := Scalar.subi v1114 v1116
  let v1118 : BitVec 1 := Scalar.cmpi .ne v1112 v1117
  let v1119 : BitVec 32 := Scalar.remsi v1106 c128_i32_441
  let c0_i32_446 : BitVec 32 := 0#32
  let v1120 : BitVec 1 := Scalar.cmpi .ne v1119 c0_i32_446
  let v1121 : BitVec 1 := Scalar.andi v1118 v1120
  let v1107 : BitVec 32 := Scalar.divsi v1106 c128_i32_441
  let c1_i32_447 : BitVec 32 := 1#32
  let v1122 : BitVec 32 := Scalar.subi v1107 c1_i32_447
  let v1123 : BitVec 32 := Scalar.select v1121 v1122 v1107
  let c128_i32_448 : BitVec 32 := 128#32
  let v1124 : BitVec 32 := Scalar.muli v1123 c128_i32_448
  let v1125 : BitVec 32 := v1124
  ![0, v1125.toNat]

def k0_chk56 (i : grid0.Coords) (v1106 : BitVec 32) : Prop :=
  (∀ (k0_h1 : k0_cond1 i = 1#1), 128 ∣ (k0_mult56 v1106).toNat) ∧
  (∀ (k0_h1 : k0_cond1 i = 1#1), ∀ a, (k0_off56 v1106) a + S64x128.size a ≤ S64x1000000.size a)
theorem k0_mult56_dvd : ∀ (i : grid0.Coords) (v1106 : BitVec 32) (k0_hw56 : k0_chk56 i v1106), ∀ (k0_h1 : k0_cond1 i = 1#1), 128 ∣ (k0_mult56 v1106).toNat := fun i v1106 k0_hw56 k0_h1 => k0_hw56.1 k0_h1
theorem k0_off56_inb : ∀ (i : grid0.Coords) (v1106 : BitVec 32) (k0_hw56 : k0_chk56 i v1106), ∀ (k0_h1 : k0_cond1 i = 1#1), ∀ a, (k0_off56 v1106) a + S64x128.size a ≤ S64x1000000.size a := fun i v1106 k0_hw56 k0_h1 => k0_hw56.2 k0_h1

def k0_off57 (v1126 : BitVec 32) : Fin 2 → Nat :=
  let c0_i32_1716 : BitVec 32 := 0#32
  let c0_i32_450 : BitVec 32 := 0#32
  let v1128 : BitVec 1 := Scalar.cmpi .sgt v1126 c0_i32_450
  let v1129 : BitVec 32 := Scalar.extui v1128
  let c0_i32_451 : BitVec 32 := 0#32
  let v1130 : BitVec 1 := Scalar.cmpi .slt v1126 c0_i32_451
  let v1131 : BitVec 32 := Scalar.extui v1130
  let v1132 : BitVec 32 := Scalar.subi v1129 v1131
  let c128_i32_449 : BitVec 32 := 128#32
  let c0_i32_452 : BitVec 32 := 0#32
  let v1133 : BitVec 1 := Scalar.cmpi .sgt c128_i32_449 c0_i32_452
  let v1134 : BitVec 32 := Scalar.extui v1133
  let c0_i32_453 : BitVec 32 := 0#32
  let v1135 : BitVec 1 := Scalar.cmpi .slt c128_i32_449 c0_i32_453
  let v1136 : BitVec 32 := Scalar.extui v1135
  let v1137 : BitVec 32 := Scalar.subi v1134 v1136
  let v1138 : BitVec 1 := Scalar.cmpi .ne v1132 v1137
  let v1139 : BitVec 32 := Scalar.remsi v1126 c128_i32_449
  let c0_i32_454 : BitVec 32 := 0#32
  let v1140 : BitVec 1 := Scalar.cmpi .ne v1139 c0_i32_454
  let v1141 : BitVec 1 := Scalar.andi v1138 v1140
  let v1127 : BitVec 32 := Scalar.divsi v1126 c128_i32_449
  let c1_i32_455 : BitVec 32 := 1#32
  let v1142 : BitVec 32 := Scalar.subi v1127 c1_i32_455
  let v1143 : BitVec 32 := Scalar.select v1141 v1142 v1127
  let c128_i32_456 : BitVec 32 := 128#32
  let v1144 : BitVec 32 := Scalar.muli v1143 c128_i32_456
  let v1145 : BitVec 32 := v1144
  ![0, v1145.toNat]

def k0_chk57 (i : grid0.Coords) (v1126 : BitVec 32) : Prop :=
  (∀ (k0_h1 : k0_cond1 i = 1#1), 128 ∣ (k0_mult57 v1126).toNat) ∧
  (∀ (k0_h1 : k0_cond1 i = 1#1), ∀ a, (k0_off57 v1126) a + S64x128.size a ≤ S64x1000000.size a)
theorem k0_mult57_dvd : ∀ (i : grid0.Coords) (v1126 : BitVec 32) (k0_hw57 : k0_chk57 i v1126), ∀ (k0_h1 : k0_cond1 i = 1#1), 128 ∣ (k0_mult57 v1126).toNat := fun i v1126 k0_hw57 k0_h1 => k0_hw57.1 k0_h1
theorem k0_off57_inb : ∀ (i : grid0.Coords) (v1126 : BitVec 32) (k0_hw57 : k0_chk57 i v1126), ∀ (k0_h1 : k0_cond1 i = 1#1), ∀ a, (k0_off57 v1126) a + S64x128.size a ≤ S64x1000000.size a := fun i v1126 k0_hw57 k0_h1 => k0_hw57.2 k0_h1

def k0_off58 (v1146 : BitVec 32) : Fin 2 → Nat :=
  let c0_i32_1718 : BitVec 32 := 0#32
  let c0_i32_458 : BitVec 32 := 0#32
  let v1148 : BitVec 1 := Scalar.cmpi .sgt v1146 c0_i32_458
  let v1149 : BitVec 32 := Scalar.extui v1148
  let c0_i32_459 : BitVec 32 := 0#32
  let v1150 : BitVec 1 := Scalar.cmpi .slt v1146 c0_i32_459
  let v1151 : BitVec 32 := Scalar.extui v1150
  let v1152 : BitVec 32 := Scalar.subi v1149 v1151
  let c128_i32_457 : BitVec 32 := 128#32
  let c0_i32_460 : BitVec 32 := 0#32
  let v1153 : BitVec 1 := Scalar.cmpi .sgt c128_i32_457 c0_i32_460
  let v1154 : BitVec 32 := Scalar.extui v1153
  let c0_i32_461 : BitVec 32 := 0#32
  let v1155 : BitVec 1 := Scalar.cmpi .slt c128_i32_457 c0_i32_461
  let v1156 : BitVec 32 := Scalar.extui v1155
  let v1157 : BitVec 32 := Scalar.subi v1154 v1156
  let v1158 : BitVec 1 := Scalar.cmpi .ne v1152 v1157
  let v1159 : BitVec 32 := Scalar.remsi v1146 c128_i32_457
  let c0_i32_462 : BitVec 32 := 0#32
  let v1160 : BitVec 1 := Scalar.cmpi .ne v1159 c0_i32_462
  let v1161 : BitVec 1 := Scalar.andi v1158 v1160
  let v1147 : BitVec 32 := Scalar.divsi v1146 c128_i32_457
  let c1_i32_463 : BitVec 32 := 1#32
  let v1162 : BitVec 32 := Scalar.subi v1147 c1_i32_463
  let v1163 : BitVec 32 := Scalar.select v1161 v1162 v1147
  let c128_i32_464 : BitVec 32 := 128#32
  let v1164 : BitVec 32 := Scalar.muli v1163 c128_i32_464
  let v1165 : BitVec 32 := v1164
  ![0, v1165.toNat]

def k0_chk58 (i : grid0.Coords) (v1146 : BitVec 32) : Prop :=
  (∀ (k0_h1 : k0_cond1 i = 1#1), 128 ∣ (k0_mult58 v1146).toNat) ∧
  (∀ (k0_h1 : k0_cond1 i = 1#1), ∀ a, (k0_off58 v1146) a + S64x128.size a ≤ S64x1000000.size a)
theorem k0_mult58_dvd : ∀ (i : grid0.Coords) (v1146 : BitVec 32) (k0_hw58 : k0_chk58 i v1146), ∀ (k0_h1 : k0_cond1 i = 1#1), 128 ∣ (k0_mult58 v1146).toNat := fun i v1146 k0_hw58 k0_h1 => k0_hw58.1 k0_h1
theorem k0_off58_inb : ∀ (i : grid0.Coords) (v1146 : BitVec 32) (k0_hw58 : k0_chk58 i v1146), ∀ (k0_h1 : k0_cond1 i = 1#1), ∀ a, (k0_off58 v1146) a + S64x128.size a ≤ S64x1000000.size a := fun i v1146 k0_hw58 k0_h1 => k0_hw58.2 k0_h1

def k0_off59 (v1166 : BitVec 32) : Fin 2 → Nat :=
  let c0_i32_1720 : BitVec 32 := 0#32
  let c0_i32_466 : BitVec 32 := 0#32
  let v1168 : BitVec 1 := Scalar.cmpi .sgt v1166 c0_i32_466
  let v1169 : BitVec 32 := Scalar.extui v1168
  let c0_i32_467 : BitVec 32 := 0#32
  let v1170 : BitVec 1 := Scalar.cmpi .slt v1166 c0_i32_467
  let v1171 : BitVec 32 := Scalar.extui v1170
  let v1172 : BitVec 32 := Scalar.subi v1169 v1171
  let c128_i32_465 : BitVec 32 := 128#32
  let c0_i32_468 : BitVec 32 := 0#32
  let v1173 : BitVec 1 := Scalar.cmpi .sgt c128_i32_465 c0_i32_468
  let v1174 : BitVec 32 := Scalar.extui v1173
  let c0_i32_469 : BitVec 32 := 0#32
  let v1175 : BitVec 1 := Scalar.cmpi .slt c128_i32_465 c0_i32_469
  let v1176 : BitVec 32 := Scalar.extui v1175
  let v1177 : BitVec 32 := Scalar.subi v1174 v1176
  let v1178 : BitVec 1 := Scalar.cmpi .ne v1172 v1177
  let v1179 : BitVec 32 := Scalar.remsi v1166 c128_i32_465
  let c0_i32_470 : BitVec 32 := 0#32
  let v1180 : BitVec 1 := Scalar.cmpi .ne v1179 c0_i32_470
  let v1181 : BitVec 1 := Scalar.andi v1178 v1180
  let v1167 : BitVec 32 := Scalar.divsi v1166 c128_i32_465
  let c1_i32_471 : BitVec 32 := 1#32
  let v1182 : BitVec 32 := Scalar.subi v1167 c1_i32_471
  let v1183 : BitVec 32 := Scalar.select v1181 v1182 v1167
  let c128_i32_472 : BitVec 32 := 128#32
  let v1184 : BitVec 32 := Scalar.muli v1183 c128_i32_472
  let v1185 : BitVec 32 := v1184
  ![0, v1185.toNat]

def k0_chk59 (i : grid0.Coords) (v1166 : BitVec 32) : Prop :=
  (∀ (k0_h1 : k0_cond1 i = 1#1), 128 ∣ (k0_mult59 v1166).toNat) ∧
  (∀ (k0_h1 : k0_cond1 i = 1#1), ∀ a, (k0_off59 v1166) a + S64x128.size a ≤ S64x1000000.size a)
theorem k0_mult59_dvd : ∀ (i : grid0.Coords) (v1166 : BitVec 32) (k0_hw59 : k0_chk59 i v1166), ∀ (k0_h1 : k0_cond1 i = 1#1), 128 ∣ (k0_mult59 v1166).toNat := fun i v1166 k0_hw59 k0_h1 => k0_hw59.1 k0_h1
theorem k0_off59_inb : ∀ (i : grid0.Coords) (v1166 : BitVec 32) (k0_hw59 : k0_chk59 i v1166), ∀ (k0_h1 : k0_cond1 i = 1#1), ∀ a, (k0_off59 v1166) a + S64x128.size a ≤ S64x1000000.size a := fun i v1166 k0_hw59 k0_h1 => k0_hw59.2 k0_h1

def k0_off60 (v1186 : BitVec 32) : Fin 2 → Nat :=
  let c0_i32_1722 : BitVec 32 := 0#32
  let c0_i32_474 : BitVec 32 := 0#32
  let v1188 : BitVec 1 := Scalar.cmpi .sgt v1186 c0_i32_474
  let v1189 : BitVec 32 := Scalar.extui v1188
  let c0_i32_475 : BitVec 32 := 0#32
  let v1190 : BitVec 1 := Scalar.cmpi .slt v1186 c0_i32_475
  let v1191 : BitVec 32 := Scalar.extui v1190
  let v1192 : BitVec 32 := Scalar.subi v1189 v1191
  let c128_i32_473 : BitVec 32 := 128#32
  let c0_i32_476 : BitVec 32 := 0#32
  let v1193 : BitVec 1 := Scalar.cmpi .sgt c128_i32_473 c0_i32_476
  let v1194 : BitVec 32 := Scalar.extui v1193
  let c0_i32_477 : BitVec 32 := 0#32
  let v1195 : BitVec 1 := Scalar.cmpi .slt c128_i32_473 c0_i32_477
  let v1196 : BitVec 32 := Scalar.extui v1195
  let v1197 : BitVec 32 := Scalar.subi v1194 v1196
  let v1198 : BitVec 1 := Scalar.cmpi .ne v1192 v1197
  let v1199 : BitVec 32 := Scalar.remsi v1186 c128_i32_473
  let c0_i32_478 : BitVec 32 := 0#32
  let v1200 : BitVec 1 := Scalar.cmpi .ne v1199 c0_i32_478
  let v1201 : BitVec 1 := Scalar.andi v1198 v1200
  let v1187 : BitVec 32 := Scalar.divsi v1186 c128_i32_473
  let c1_i32_479 : BitVec 32 := 1#32
  let v1202 : BitVec 32 := Scalar.subi v1187 c1_i32_479
  let v1203 : BitVec 32 := Scalar.select v1201 v1202 v1187
  let c128_i32_480 : BitVec 32 := 128#32
  let v1204 : BitVec 32 := Scalar.muli v1203 c128_i32_480
  let v1205 : BitVec 32 := v1204
  ![0, v1205.toNat]

def k0_chk60 (i : grid0.Coords) (v1186 : BitVec 32) : Prop :=
  (∀ (k0_h1 : k0_cond1 i = 1#1), 128 ∣ (k0_mult60 v1186).toNat) ∧
  (∀ (k0_h1 : k0_cond1 i = 1#1), ∀ a, (k0_off60 v1186) a + S64x128.size a ≤ S64x1000000.size a)
theorem k0_mult60_dvd : ∀ (i : grid0.Coords) (v1186 : BitVec 32) (k0_hw60 : k0_chk60 i v1186), ∀ (k0_h1 : k0_cond1 i = 1#1), 128 ∣ (k0_mult60 v1186).toNat := fun i v1186 k0_hw60 k0_h1 => k0_hw60.1 k0_h1
theorem k0_off60_inb : ∀ (i : grid0.Coords) (v1186 : BitVec 32) (k0_hw60 : k0_chk60 i v1186), ∀ (k0_h1 : k0_cond1 i = 1#1), ∀ a, (k0_off60 v1186) a + S64x128.size a ≤ S64x1000000.size a := fun i v1186 k0_hw60 k0_h1 => k0_hw60.2 k0_h1

def k0_off61 (v1206 : BitVec 32) : Fin 2 → Nat :=
  let c0_i32_1724 : BitVec 32 := 0#32
  let c0_i32_482 : BitVec 32 := 0#32
  let v1208 : BitVec 1 := Scalar.cmpi .sgt v1206 c0_i32_482
  let v1209 : BitVec 32 := Scalar.extui v1208
  let c0_i32_483 : BitVec 32 := 0#32
  let v1210 : BitVec 1 := Scalar.cmpi .slt v1206 c0_i32_483
  let v1211 : BitVec 32 := Scalar.extui v1210
  let v1212 : BitVec 32 := Scalar.subi v1209 v1211
  let c128_i32_481 : BitVec 32 := 128#32
  let c0_i32_484 : BitVec 32 := 0#32
  let v1213 : BitVec 1 := Scalar.cmpi .sgt c128_i32_481 c0_i32_484
  let v1214 : BitVec 32 := Scalar.extui v1213
  let c0_i32_485 : BitVec 32 := 0#32
  let v1215 : BitVec 1 := Scalar.cmpi .slt c128_i32_481 c0_i32_485
  let v1216 : BitVec 32 := Scalar.extui v1215
  let v1217 : BitVec 32 := Scalar.subi v1214 v1216
  let v1218 : BitVec 1 := Scalar.cmpi .ne v1212 v1217
  let v1219 : BitVec 32 := Scalar.remsi v1206 c128_i32_481
  let c0_i32_486 : BitVec 32 := 0#32
  let v1220 : BitVec 1 := Scalar.cmpi .ne v1219 c0_i32_486
  let v1221 : BitVec 1 := Scalar.andi v1218 v1220
  let v1207 : BitVec 32 := Scalar.divsi v1206 c128_i32_481
  let c1_i32_487 : BitVec 32 := 1#32
  let v1222 : BitVec 32 := Scalar.subi v1207 c1_i32_487
  let v1223 : BitVec 32 := Scalar.select v1221 v1222 v1207
  let c128_i32_488 : BitVec 32 := 128#32
  let v1224 : BitVec 32 := Scalar.muli v1223 c128_i32_488
  let v1225 : BitVec 32 := v1224
  ![0, v1225.toNat]

def k0_chk61 (i : grid0.Coords) (v1206 : BitVec 32) : Prop :=
  (∀ (k0_h1 : k0_cond1 i = 1#1), 128 ∣ (k0_mult61 v1206).toNat) ∧
  (∀ (k0_h1 : k0_cond1 i = 1#1), ∀ a, (k0_off61 v1206) a + S64x128.size a ≤ S64x1000000.size a)
theorem k0_mult61_dvd : ∀ (i : grid0.Coords) (v1206 : BitVec 32) (k0_hw61 : k0_chk61 i v1206), ∀ (k0_h1 : k0_cond1 i = 1#1), 128 ∣ (k0_mult61 v1206).toNat := fun i v1206 k0_hw61 k0_h1 => k0_hw61.1 k0_h1
theorem k0_off61_inb : ∀ (i : grid0.Coords) (v1206 : BitVec 32) (k0_hw61 : k0_chk61 i v1206), ∀ (k0_h1 : k0_cond1 i = 1#1), ∀ a, (k0_off61 v1206) a + S64x128.size a ≤ S64x1000000.size a := fun i v1206 k0_hw61 k0_h1 => k0_hw61.2 k0_h1

def k0_off62 (v1226 : BitVec 32) : Fin 2 → Nat :=
  let c0_i32_1726 : BitVec 32 := 0#32
  let c0_i32_490 : BitVec 32 := 0#32
  let v1228 : BitVec 1 := Scalar.cmpi .sgt v1226 c0_i32_490
  let v1229 : BitVec 32 := Scalar.extui v1228
  let c0_i32_491 : BitVec 32 := 0#32
  let v1230 : BitVec 1 := Scalar.cmpi .slt v1226 c0_i32_491
  let v1231 : BitVec 32 := Scalar.extui v1230
  let v1232 : BitVec 32 := Scalar.subi v1229 v1231
  let c128_i32_489 : BitVec 32 := 128#32
  let c0_i32_492 : BitVec 32 := 0#32
  let v1233 : BitVec 1 := Scalar.cmpi .sgt c128_i32_489 c0_i32_492
  let v1234 : BitVec 32 := Scalar.extui v1233
  let c0_i32_493 : BitVec 32 := 0#32
  let v1235 : BitVec 1 := Scalar.cmpi .slt c128_i32_489 c0_i32_493
  let v1236 : BitVec 32 := Scalar.extui v1235
  let v1237 : BitVec 32 := Scalar.subi v1234 v1236
  let v1238 : BitVec 1 := Scalar.cmpi .ne v1232 v1237
  let v1239 : BitVec 32 := Scalar.remsi v1226 c128_i32_489
  let c0_i32_494 : BitVec 32 := 0#32
  let v1240 : BitVec 1 := Scalar.cmpi .ne v1239 c0_i32_494
  let v1241 : BitVec 1 := Scalar.andi v1238 v1240
  let v1227 : BitVec 32 := Scalar.divsi v1226 c128_i32_489
  let c1_i32_495 : BitVec 32 := 1#32
  let v1242 : BitVec 32 := Scalar.subi v1227 c1_i32_495
  let v1243 : BitVec 32 := Scalar.select v1241 v1242 v1227
  let c128_i32_496 : BitVec 32 := 128#32
  let v1244 : BitVec 32 := Scalar.muli v1243 c128_i32_496
  let v1245 : BitVec 32 := v1244
  ![0, v1245.toNat]

def k0_chk62 (i : grid0.Coords) (v1226 : BitVec 32) : Prop :=
  (∀ (k0_h1 : k0_cond1 i = 1#1), 128 ∣ (k0_mult62 v1226).toNat) ∧
  (∀ (k0_h1 : k0_cond1 i = 1#1), ∀ a, (k0_off62 v1226) a + S64x128.size a ≤ S64x1000000.size a)
theorem k0_mult62_dvd : ∀ (i : grid0.Coords) (v1226 : BitVec 32) (k0_hw62 : k0_chk62 i v1226), ∀ (k0_h1 : k0_cond1 i = 1#1), 128 ∣ (k0_mult62 v1226).toNat := fun i v1226 k0_hw62 k0_h1 => k0_hw62.1 k0_h1
theorem k0_off62_inb : ∀ (i : grid0.Coords) (v1226 : BitVec 32) (k0_hw62 : k0_chk62 i v1226), ∀ (k0_h1 : k0_cond1 i = 1#1), ∀ a, (k0_off62 v1226) a + S64x128.size a ≤ S64x1000000.size a := fun i v1226 k0_hw62 k0_h1 => k0_hw62.2 k0_h1

def k0_off63 (v1246 : BitVec 32) : Fin 2 → Nat :=
  let c0_i32_1728 : BitVec 32 := 0#32
  let c0_i32_498 : BitVec 32 := 0#32
  let v1248 : BitVec 1 := Scalar.cmpi .sgt v1246 c0_i32_498
  let v1249 : BitVec 32 := Scalar.extui v1248
  let c0_i32_499 : BitVec 32 := 0#32
  let v1250 : BitVec 1 := Scalar.cmpi .slt v1246 c0_i32_499
  let v1251 : BitVec 32 := Scalar.extui v1250
  let v1252 : BitVec 32 := Scalar.subi v1249 v1251
  let c128_i32_497 : BitVec 32 := 128#32
  let c0_i32_500 : BitVec 32 := 0#32
  let v1253 : BitVec 1 := Scalar.cmpi .sgt c128_i32_497 c0_i32_500
  let v1254 : BitVec 32 := Scalar.extui v1253
  let c0_i32_501 : BitVec 32 := 0#32
  let v1255 : BitVec 1 := Scalar.cmpi .slt c128_i32_497 c0_i32_501
  let v1256 : BitVec 32 := Scalar.extui v1255
  let v1257 : BitVec 32 := Scalar.subi v1254 v1256
  let v1258 : BitVec 1 := Scalar.cmpi .ne v1252 v1257
  let v1259 : BitVec 32 := Scalar.remsi v1246 c128_i32_497
  let c0_i32_502 : BitVec 32 := 0#32
  let v1260 : BitVec 1 := Scalar.cmpi .ne v1259 c0_i32_502
  let v1261 : BitVec 1 := Scalar.andi v1258 v1260
  let v1247 : BitVec 32 := Scalar.divsi v1246 c128_i32_497
  let c1_i32_503 : BitVec 32 := 1#32
  let v1262 : BitVec 32 := Scalar.subi v1247 c1_i32_503
  let v1263 : BitVec 32 := Scalar.select v1261 v1262 v1247
  let c128_i32_504 : BitVec 32 := 128#32
  let v1264 : BitVec 32 := Scalar.muli v1263 c128_i32_504
  let v1265 : BitVec 32 := v1264
  ![0, v1265.toNat]

def k0_chk63 (i : grid0.Coords) (v1246 : BitVec 32) : Prop :=
  (∀ (k0_h1 : k0_cond1 i = 1#1), 128 ∣ (k0_mult63 v1246).toNat) ∧
  (∀ (k0_h1 : k0_cond1 i = 1#1), ∀ a, (k0_off63 v1246) a + S64x128.size a ≤ S64x1000000.size a)
theorem k0_mult63_dvd : ∀ (i : grid0.Coords) (v1246 : BitVec 32) (k0_hw63 : k0_chk63 i v1246), ∀ (k0_h1 : k0_cond1 i = 1#1), 128 ∣ (k0_mult63 v1246).toNat := fun i v1246 k0_hw63 k0_h1 => k0_hw63.1 k0_h1
theorem k0_off63_inb : ∀ (i : grid0.Coords) (v1246 : BitVec 32) (k0_hw63 : k0_chk63 i v1246), ∀ (k0_h1 : k0_cond1 i = 1#1), ∀ a, (k0_off63 v1246) a + S64x128.size a ≤ S64x1000000.size a := fun i v1246 k0_hw63 k0_h1 => k0_hw63.2 k0_h1

def k0_off64 (v1266 : BitVec 32) : Fin 2 → Nat :=
  let c0_i32_1730 : BitVec 32 := 0#32
  let c0_i32_506 : BitVec 32 := 0#32
  let v1268 : BitVec 1 := Scalar.cmpi .sgt v1266 c0_i32_506
  let v1269 : BitVec 32 := Scalar.extui v1268
  let c0_i32_507 : BitVec 32 := 0#32
  let v1270 : BitVec 1 := Scalar.cmpi .slt v1266 c0_i32_507
  let v1271 : BitVec 32 := Scalar.extui v1270
  let v1272 : BitVec 32 := Scalar.subi v1269 v1271
  let c128_i32_505 : BitVec 32 := 128#32
  let c0_i32_508 : BitVec 32 := 0#32
  let v1273 : BitVec 1 := Scalar.cmpi .sgt c128_i32_505 c0_i32_508
  let v1274 : BitVec 32 := Scalar.extui v1273
  let c0_i32_509 : BitVec 32 := 0#32
  let v1275 : BitVec 1 := Scalar.cmpi .slt c128_i32_505 c0_i32_509
  let v1276 : BitVec 32 := Scalar.extui v1275
  let v1277 : BitVec 32 := Scalar.subi v1274 v1276
  let v1278 : BitVec 1 := Scalar.cmpi .ne v1272 v1277
  let v1279 : BitVec 32 := Scalar.remsi v1266 c128_i32_505
  let c0_i32_510 : BitVec 32 := 0#32
  let v1280 : BitVec 1 := Scalar.cmpi .ne v1279 c0_i32_510
  let v1281 : BitVec 1 := Scalar.andi v1278 v1280
  let v1267 : BitVec 32 := Scalar.divsi v1266 c128_i32_505
  let c1_i32_511 : BitVec 32 := 1#32
  let v1282 : BitVec 32 := Scalar.subi v1267 c1_i32_511
  let v1283 : BitVec 32 := Scalar.select v1281 v1282 v1267
  let c128_i32_512 : BitVec 32 := 128#32
  let v1284 : BitVec 32 := Scalar.muli v1283 c128_i32_512
  let v1285 : BitVec 32 := v1284
  ![0, v1285.toNat]

def k0_chk64 (i : grid0.Coords) (v1266 : BitVec 32) : Prop :=
  (∀ (k0_h1 : k0_cond1 i = 1#1), 128 ∣ (k0_mult64 v1266).toNat) ∧
  (∀ (k0_h1 : k0_cond1 i = 1#1), ∀ a, (k0_off64 v1266) a + S64x128.size a ≤ S64x1000000.size a)
theorem k0_mult64_dvd : ∀ (i : grid0.Coords) (v1266 : BitVec 32) (k0_hw64 : k0_chk64 i v1266), ∀ (k0_h1 : k0_cond1 i = 1#1), 128 ∣ (k0_mult64 v1266).toNat := fun i v1266 k0_hw64 k0_h1 => k0_hw64.1 k0_h1
theorem k0_off64_inb : ∀ (i : grid0.Coords) (v1266 : BitVec 32) (k0_hw64 : k0_chk64 i v1266), ∀ (k0_h1 : k0_cond1 i = 1#1), ∀ a, (k0_off64 v1266) a + S64x128.size a ≤ S64x1000000.size a := fun i v1266 k0_hw64 k0_h1 => k0_hw64.2 k0_h1

def k0_off65 (v1286 : BitVec 32) : Fin 2 → Nat :=
  let c0_i32_1732 : BitVec 32 := 0#32
  let c0_i32_514 : BitVec 32 := 0#32
  let v1288 : BitVec 1 := Scalar.cmpi .sgt v1286 c0_i32_514
  let v1289 : BitVec 32 := Scalar.extui v1288
  let c0_i32_515 : BitVec 32 := 0#32
  let v1290 : BitVec 1 := Scalar.cmpi .slt v1286 c0_i32_515
  let v1291 : BitVec 32 := Scalar.extui v1290
  let v1292 : BitVec 32 := Scalar.subi v1289 v1291
  let c128_i32_513 : BitVec 32 := 128#32
  let c0_i32_516 : BitVec 32 := 0#32
  let v1293 : BitVec 1 := Scalar.cmpi .sgt c128_i32_513 c0_i32_516
  let v1294 : BitVec 32 := Scalar.extui v1293
  let c0_i32_517 : BitVec 32 := 0#32
  let v1295 : BitVec 1 := Scalar.cmpi .slt c128_i32_513 c0_i32_517
  let v1296 : BitVec 32 := Scalar.extui v1295
  let v1297 : BitVec 32 := Scalar.subi v1294 v1296
  let v1298 : BitVec 1 := Scalar.cmpi .ne v1292 v1297
  let v1299 : BitVec 32 := Scalar.remsi v1286 c128_i32_513
  let c0_i32_518 : BitVec 32 := 0#32
  let v1300 : BitVec 1 := Scalar.cmpi .ne v1299 c0_i32_518
  let v1301 : BitVec 1 := Scalar.andi v1298 v1300
  let v1287 : BitVec 32 := Scalar.divsi v1286 c128_i32_513
  let c1_i32_519 : BitVec 32 := 1#32
  let v1302 : BitVec 32 := Scalar.subi v1287 c1_i32_519
  let v1303 : BitVec 32 := Scalar.select v1301 v1302 v1287
  let c128_i32_520 : BitVec 32 := 128#32
  let v1304 : BitVec 32 := Scalar.muli v1303 c128_i32_520
  let v1305 : BitVec 32 := v1304
  ![0, v1305.toNat]

def k0_chk65 (i : grid0.Coords) (v1286 : BitVec 32) : Prop :=
  (∀ (k0_h1 : k0_cond1 i = 1#1), 128 ∣ (k0_mult65 v1286).toNat) ∧
  (∀ (k0_h1 : k0_cond1 i = 1#1), ∀ a, (k0_off65 v1286) a + S64x128.size a ≤ S64x1000000.size a)
theorem k0_mult65_dvd : ∀ (i : grid0.Coords) (v1286 : BitVec 32) (k0_hw65 : k0_chk65 i v1286), ∀ (k0_h1 : k0_cond1 i = 1#1), 128 ∣ (k0_mult65 v1286).toNat := fun i v1286 k0_hw65 k0_h1 => k0_hw65.1 k0_h1
theorem k0_off65_inb : ∀ (i : grid0.Coords) (v1286 : BitVec 32) (k0_hw65 : k0_chk65 i v1286), ∀ (k0_h1 : k0_cond1 i = 1#1), ∀ a, (k0_off65 v1286) a + S64x128.size a ≤ S64x1000000.size a := fun i v1286 k0_hw65 k0_h1 => k0_hw65.2 k0_h1

def k0_off66 (v1306 : BitVec 32) : Fin 2 → Nat :=
  let c0_i32_1734 : BitVec 32 := 0#32
  let c0_i32_522 : BitVec 32 := 0#32
  let v1308 : BitVec 1 := Scalar.cmpi .sgt v1306 c0_i32_522
  let v1309 : BitVec 32 := Scalar.extui v1308
  let c0_i32_523 : BitVec 32 := 0#32
  let v1310 : BitVec 1 := Scalar.cmpi .slt v1306 c0_i32_523
  let v1311 : BitVec 32 := Scalar.extui v1310
  let v1312 : BitVec 32 := Scalar.subi v1309 v1311
  let c128_i32_521 : BitVec 32 := 128#32
  let c0_i32_524 : BitVec 32 := 0#32
  let v1313 : BitVec 1 := Scalar.cmpi .sgt c128_i32_521 c0_i32_524
  let v1314 : BitVec 32 := Scalar.extui v1313
  let c0_i32_525 : BitVec 32 := 0#32
  let v1315 : BitVec 1 := Scalar.cmpi .slt c128_i32_521 c0_i32_525
  let v1316 : BitVec 32 := Scalar.extui v1315
  let v1317 : BitVec 32 := Scalar.subi v1314 v1316
  let v1318 : BitVec 1 := Scalar.cmpi .ne v1312 v1317
  let v1319 : BitVec 32 := Scalar.remsi v1306 c128_i32_521
  let c0_i32_526 : BitVec 32 := 0#32
  let v1320 : BitVec 1 := Scalar.cmpi .ne v1319 c0_i32_526
  let v1321 : BitVec 1 := Scalar.andi v1318 v1320
  let v1307 : BitVec 32 := Scalar.divsi v1306 c128_i32_521
  let c1_i32_527 : BitVec 32 := 1#32
  let v1322 : BitVec 32 := Scalar.subi v1307 c1_i32_527
  let v1323 : BitVec 32 := Scalar.select v1321 v1322 v1307
  let c128_i32_528 : BitVec 32 := 128#32
  let v1324 : BitVec 32 := Scalar.muli v1323 c128_i32_528
  let v1325 : BitVec 32 := v1324
  ![0, v1325.toNat]

def k0_chk66 (i : grid0.Coords) (v1306 : BitVec 32) : Prop :=
  (∀ (k0_h1 : k0_cond1 i = 1#1), 128 ∣ (k0_mult66 v1306).toNat) ∧
  (∀ (k0_h1 : k0_cond1 i = 1#1), ∀ a, (k0_off66 v1306) a + S64x128.size a ≤ S64x1000000.size a)
theorem k0_mult66_dvd : ∀ (i : grid0.Coords) (v1306 : BitVec 32) (k0_hw66 : k0_chk66 i v1306), ∀ (k0_h1 : k0_cond1 i = 1#1), 128 ∣ (k0_mult66 v1306).toNat := fun i v1306 k0_hw66 k0_h1 => k0_hw66.1 k0_h1
theorem k0_off66_inb : ∀ (i : grid0.Coords) (v1306 : BitVec 32) (k0_hw66 : k0_chk66 i v1306), ∀ (k0_h1 : k0_cond1 i = 1#1), ∀ a, (k0_off66 v1306) a + S64x128.size a ≤ S64x1000000.size a := fun i v1306 k0_hw66 k0_h1 => k0_hw66.2 k0_h1

def k0_off67 (v1326 : BitVec 32) : Fin 2 → Nat :=
  let c0_i32_1736 : BitVec 32 := 0#32
  let c0_i32_530 : BitVec 32 := 0#32
  let v1328 : BitVec 1 := Scalar.cmpi .sgt v1326 c0_i32_530
  let v1329 : BitVec 32 := Scalar.extui v1328
  let c0_i32_531 : BitVec 32 := 0#32
  let v1330 : BitVec 1 := Scalar.cmpi .slt v1326 c0_i32_531
  let v1331 : BitVec 32 := Scalar.extui v1330
  let v1332 : BitVec 32 := Scalar.subi v1329 v1331
  let c128_i32_529 : BitVec 32 := 128#32
  let c0_i32_532 : BitVec 32 := 0#32
  let v1333 : BitVec 1 := Scalar.cmpi .sgt c128_i32_529 c0_i32_532
  let v1334 : BitVec 32 := Scalar.extui v1333
  let c0_i32_533 : BitVec 32 := 0#32
  let v1335 : BitVec 1 := Scalar.cmpi .slt c128_i32_529 c0_i32_533
  let v1336 : BitVec 32 := Scalar.extui v1335
  let v1337 : BitVec 32 := Scalar.subi v1334 v1336
  let v1338 : BitVec 1 := Scalar.cmpi .ne v1332 v1337
  let v1339 : BitVec 32 := Scalar.remsi v1326 c128_i32_529
  let c0_i32_534 : BitVec 32 := 0#32
  let v1340 : BitVec 1 := Scalar.cmpi .ne v1339 c0_i32_534
  let v1341 : BitVec 1 := Scalar.andi v1338 v1340
  let v1327 : BitVec 32 := Scalar.divsi v1326 c128_i32_529
  let c1_i32_535 : BitVec 32 := 1#32
  let v1342 : BitVec 32 := Scalar.subi v1327 c1_i32_535
  let v1343 : BitVec 32 := Scalar.select v1341 v1342 v1327
  let c128_i32_536 : BitVec 32 := 128#32
  let v1344 : BitVec 32 := Scalar.muli v1343 c128_i32_536
  let v1345 : BitVec 32 := v1344
  ![0, v1345.toNat]

def k0_chk67 (i : grid0.Coords) (v1326 : BitVec 32) : Prop :=
  (∀ (k0_h1 : k0_cond1 i = 1#1), 128 ∣ (k0_mult67 v1326).toNat) ∧
  (∀ (k0_h1 : k0_cond1 i = 1#1), ∀ a, (k0_off67 v1326) a + S64x128.size a ≤ S64x1000000.size a)
theorem k0_mult67_dvd : ∀ (i : grid0.Coords) (v1326 : BitVec 32) (k0_hw67 : k0_chk67 i v1326), ∀ (k0_h1 : k0_cond1 i = 1#1), 128 ∣ (k0_mult67 v1326).toNat := fun i v1326 k0_hw67 k0_h1 => k0_hw67.1 k0_h1
theorem k0_off67_inb : ∀ (i : grid0.Coords) (v1326 : BitVec 32) (k0_hw67 : k0_chk67 i v1326), ∀ (k0_h1 : k0_cond1 i = 1#1), ∀ a, (k0_off67 v1326) a + S64x128.size a ≤ S64x1000000.size a := fun i v1326 k0_hw67 k0_h1 => k0_hw67.2 k0_h1

def k0_off68 (v1346 : BitVec 32) : Fin 2 → Nat :=
  let c0_i32_1738 : BitVec 32 := 0#32
  let c0_i32_538 : BitVec 32 := 0#32
  let v1348 : BitVec 1 := Scalar.cmpi .sgt v1346 c0_i32_538
  let v1349 : BitVec 32 := Scalar.extui v1348
  let c0_i32_539 : BitVec 32 := 0#32
  let v1350 : BitVec 1 := Scalar.cmpi .slt v1346 c0_i32_539
  let v1351 : BitVec 32 := Scalar.extui v1350
  let v1352 : BitVec 32 := Scalar.subi v1349 v1351
  let c128_i32_537 : BitVec 32 := 128#32
  let c0_i32_540 : BitVec 32 := 0#32
  let v1353 : BitVec 1 := Scalar.cmpi .sgt c128_i32_537 c0_i32_540
  let v1354 : BitVec 32 := Scalar.extui v1353
  let c0_i32_541 : BitVec 32 := 0#32
  let v1355 : BitVec 1 := Scalar.cmpi .slt c128_i32_537 c0_i32_541
  let v1356 : BitVec 32 := Scalar.extui v1355
  let v1357 : BitVec 32 := Scalar.subi v1354 v1356
  let v1358 : BitVec 1 := Scalar.cmpi .ne v1352 v1357
  let v1359 : BitVec 32 := Scalar.remsi v1346 c128_i32_537
  let c0_i32_542 : BitVec 32 := 0#32
  let v1360 : BitVec 1 := Scalar.cmpi .ne v1359 c0_i32_542
  let v1361 : BitVec 1 := Scalar.andi v1358 v1360
  let v1347 : BitVec 32 := Scalar.divsi v1346 c128_i32_537
  let c1_i32_543 : BitVec 32 := 1#32
  let v1362 : BitVec 32 := Scalar.subi v1347 c1_i32_543
  let v1363 : BitVec 32 := Scalar.select v1361 v1362 v1347
  let c128_i32_544 : BitVec 32 := 128#32
  let v1364 : BitVec 32 := Scalar.muli v1363 c128_i32_544
  let v1365 : BitVec 32 := v1364
  ![0, v1365.toNat]

def k0_chk68 (i : grid0.Coords) (v1346 : BitVec 32) : Prop :=
  (∀ (k0_h1 : k0_cond1 i = 1#1), 128 ∣ (k0_mult68 v1346).toNat) ∧
  (∀ (k0_h1 : k0_cond1 i = 1#1), ∀ a, (k0_off68 v1346) a + S64x128.size a ≤ S64x1000000.size a)
theorem k0_mult68_dvd : ∀ (i : grid0.Coords) (v1346 : BitVec 32) (k0_hw68 : k0_chk68 i v1346), ∀ (k0_h1 : k0_cond1 i = 1#1), 128 ∣ (k0_mult68 v1346).toNat := fun i v1346 k0_hw68 k0_h1 => k0_hw68.1 k0_h1
theorem k0_off68_inb : ∀ (i : grid0.Coords) (v1346 : BitVec 32) (k0_hw68 : k0_chk68 i v1346), ∀ (k0_h1 : k0_cond1 i = 1#1), ∀ a, (k0_off68 v1346) a + S64x128.size a ≤ S64x1000000.size a := fun i v1346 k0_hw68 k0_h1 => k0_hw68.2 k0_h1

def k0_off69 (v1366 : BitVec 32) : Fin 2 → Nat :=
  let c0_i32_1740 : BitVec 32 := 0#32
  let c0_i32_546 : BitVec 32 := 0#32
  let v1368 : BitVec 1 := Scalar.cmpi .sgt v1366 c0_i32_546
  let v1369 : BitVec 32 := Scalar.extui v1368
  let c0_i32_547 : BitVec 32 := 0#32
  let v1370 : BitVec 1 := Scalar.cmpi .slt v1366 c0_i32_547
  let v1371 : BitVec 32 := Scalar.extui v1370
  let v1372 : BitVec 32 := Scalar.subi v1369 v1371
  let c128_i32_545 : BitVec 32 := 128#32
  let c0_i32_548 : BitVec 32 := 0#32
  let v1373 : BitVec 1 := Scalar.cmpi .sgt c128_i32_545 c0_i32_548
  let v1374 : BitVec 32 := Scalar.extui v1373
  let c0_i32_549 : BitVec 32 := 0#32
  let v1375 : BitVec 1 := Scalar.cmpi .slt c128_i32_545 c0_i32_549
  let v1376 : BitVec 32 := Scalar.extui v1375
  let v1377 : BitVec 32 := Scalar.subi v1374 v1376
  let v1378 : BitVec 1 := Scalar.cmpi .ne v1372 v1377
  let v1379 : BitVec 32 := Scalar.remsi v1366 c128_i32_545
  let c0_i32_550 : BitVec 32 := 0#32
  let v1380 : BitVec 1 := Scalar.cmpi .ne v1379 c0_i32_550
  let v1381 : BitVec 1 := Scalar.andi v1378 v1380
  let v1367 : BitVec 32 := Scalar.divsi v1366 c128_i32_545
  let c1_i32_551 : BitVec 32 := 1#32
  let v1382 : BitVec 32 := Scalar.subi v1367 c1_i32_551
  let v1383 : BitVec 32 := Scalar.select v1381 v1382 v1367
  let c128_i32_552 : BitVec 32 := 128#32
  let v1384 : BitVec 32 := Scalar.muli v1383 c128_i32_552
  let v1385 : BitVec 32 := v1384
  ![0, v1385.toNat]

def k0_chk69 (i : grid0.Coords) (v1366 : BitVec 32) : Prop :=
  (∀ (k0_h1 : k0_cond1 i = 1#1), 128 ∣ (k0_mult69 v1366).toNat) ∧
  (∀ (k0_h1 : k0_cond1 i = 1#1), ∀ a, (k0_off69 v1366) a + S64x128.size a ≤ S64x1000000.size a)
theorem k0_mult69_dvd : ∀ (i : grid0.Coords) (v1366 : BitVec 32) (k0_hw69 : k0_chk69 i v1366), ∀ (k0_h1 : k0_cond1 i = 1#1), 128 ∣ (k0_mult69 v1366).toNat := fun i v1366 k0_hw69 k0_h1 => k0_hw69.1 k0_h1
theorem k0_off69_inb : ∀ (i : grid0.Coords) (v1366 : BitVec 32) (k0_hw69 : k0_chk69 i v1366), ∀ (k0_h1 : k0_cond1 i = 1#1), ∀ a, (k0_off69 v1366) a + S64x128.size a ≤ S64x1000000.size a := fun i v1366 k0_hw69 k0_h1 => k0_hw69.2 k0_h1

def k0_off70 (v1386 : BitVec 32) : Fin 2 → Nat :=
  let c0_i32_1742 : BitVec 32 := 0#32
  let c0_i32_554 : BitVec 32 := 0#32
  let v1388 : BitVec 1 := Scalar.cmpi .sgt v1386 c0_i32_554
  let v1389 : BitVec 32 := Scalar.extui v1388
  let c0_i32_555 : BitVec 32 := 0#32
  let v1390 : BitVec 1 := Scalar.cmpi .slt v1386 c0_i32_555
  let v1391 : BitVec 32 := Scalar.extui v1390
  let v1392 : BitVec 32 := Scalar.subi v1389 v1391
  let c128_i32_553 : BitVec 32 := 128#32
  let c0_i32_556 : BitVec 32 := 0#32
  let v1393 : BitVec 1 := Scalar.cmpi .sgt c128_i32_553 c0_i32_556
  let v1394 : BitVec 32 := Scalar.extui v1393
  let c0_i32_557 : BitVec 32 := 0#32
  let v1395 : BitVec 1 := Scalar.cmpi .slt c128_i32_553 c0_i32_557
  let v1396 : BitVec 32 := Scalar.extui v1395
  let v1397 : BitVec 32 := Scalar.subi v1394 v1396
  let v1398 : BitVec 1 := Scalar.cmpi .ne v1392 v1397
  let v1399 : BitVec 32 := Scalar.remsi v1386 c128_i32_553
  let c0_i32_558 : BitVec 32 := 0#32
  let v1400 : BitVec 1 := Scalar.cmpi .ne v1399 c0_i32_558
  let v1401 : BitVec 1 := Scalar.andi v1398 v1400
  let v1387 : BitVec 32 := Scalar.divsi v1386 c128_i32_553
  let c1_i32_559 : BitVec 32 := 1#32
  let v1402 : BitVec 32 := Scalar.subi v1387 c1_i32_559
  let v1403 : BitVec 32 := Scalar.select v1401 v1402 v1387
  let c128_i32_560 : BitVec 32 := 128#32
  let v1404 : BitVec 32 := Scalar.muli v1403 c128_i32_560
  let v1405 : BitVec 32 := v1404
  ![0, v1405.toNat]

def k0_chk70 (i : grid0.Coords) (v1386 : BitVec 32) : Prop :=
  (∀ (k0_h1 : k0_cond1 i = 1#1), 128 ∣ (k0_mult70 v1386).toNat) ∧
  (∀ (k0_h1 : k0_cond1 i = 1#1), ∀ a, (k0_off70 v1386) a + S64x128.size a ≤ S64x1000000.size a)
theorem k0_mult70_dvd : ∀ (i : grid0.Coords) (v1386 : BitVec 32) (k0_hw70 : k0_chk70 i v1386), ∀ (k0_h1 : k0_cond1 i = 1#1), 128 ∣ (k0_mult70 v1386).toNat := fun i v1386 k0_hw70 k0_h1 => k0_hw70.1 k0_h1
theorem k0_off70_inb : ∀ (i : grid0.Coords) (v1386 : BitVec 32) (k0_hw70 : k0_chk70 i v1386), ∀ (k0_h1 : k0_cond1 i = 1#1), ∀ a, (k0_off70 v1386) a + S64x128.size a ≤ S64x1000000.size a := fun i v1386 k0_hw70 k0_h1 => k0_hw70.2 k0_h1

def k0_off71 (v1406 : BitVec 32) : Fin 2 → Nat :=
  let c0_i32_1744 : BitVec 32 := 0#32
  let c0_i32_562 : BitVec 32 := 0#32
  let v1408 : BitVec 1 := Scalar.cmpi .sgt v1406 c0_i32_562
  let v1409 : BitVec 32 := Scalar.extui v1408
  let c0_i32_563 : BitVec 32 := 0#32
  let v1410 : BitVec 1 := Scalar.cmpi .slt v1406 c0_i32_563
  let v1411 : BitVec 32 := Scalar.extui v1410
  let v1412 : BitVec 32 := Scalar.subi v1409 v1411
  let c128_i32_561 : BitVec 32 := 128#32
  let c0_i32_564 : BitVec 32 := 0#32
  let v1413 : BitVec 1 := Scalar.cmpi .sgt c128_i32_561 c0_i32_564
  let v1414 : BitVec 32 := Scalar.extui v1413
  let c0_i32_565 : BitVec 32 := 0#32
  let v1415 : BitVec 1 := Scalar.cmpi .slt c128_i32_561 c0_i32_565
  let v1416 : BitVec 32 := Scalar.extui v1415
  let v1417 : BitVec 32 := Scalar.subi v1414 v1416
  let v1418 : BitVec 1 := Scalar.cmpi .ne v1412 v1417
  let v1419 : BitVec 32 := Scalar.remsi v1406 c128_i32_561
  let c0_i32_566 : BitVec 32 := 0#32
  let v1420 : BitVec 1 := Scalar.cmpi .ne v1419 c0_i32_566
  let v1421 : BitVec 1 := Scalar.andi v1418 v1420
  let v1407 : BitVec 32 := Scalar.divsi v1406 c128_i32_561
  let c1_i32_567 : BitVec 32 := 1#32
  let v1422 : BitVec 32 := Scalar.subi v1407 c1_i32_567
  let v1423 : BitVec 32 := Scalar.select v1421 v1422 v1407
  let c128_i32_568 : BitVec 32 := 128#32
  let v1424 : BitVec 32 := Scalar.muli v1423 c128_i32_568
  let v1425 : BitVec 32 := v1424
  ![0, v1425.toNat]

def k0_chk71 (i : grid0.Coords) (v1406 : BitVec 32) : Prop :=
  (∀ (k0_h1 : k0_cond1 i = 1#1), 128 ∣ (k0_mult71 v1406).toNat) ∧
  (∀ (k0_h1 : k0_cond1 i = 1#1), ∀ a, (k0_off71 v1406) a + S64x128.size a ≤ S64x1000000.size a)
theorem k0_mult71_dvd : ∀ (i : grid0.Coords) (v1406 : BitVec 32) (k0_hw71 : k0_chk71 i v1406), ∀ (k0_h1 : k0_cond1 i = 1#1), 128 ∣ (k0_mult71 v1406).toNat := fun i v1406 k0_hw71 k0_h1 => k0_hw71.1 k0_h1
theorem k0_off71_inb : ∀ (i : grid0.Coords) (v1406 : BitVec 32) (k0_hw71 : k0_chk71 i v1406), ∀ (k0_h1 : k0_cond1 i = 1#1), ∀ a, (k0_off71 v1406) a + S64x128.size a ≤ S64x1000000.size a := fun i v1406 k0_hw71 k0_h1 => k0_hw71.2 k0_h1

def k0_off72 (v1426 : BitVec 32) : Fin 2 → Nat :=
  let c0_i32_1746 : BitVec 32 := 0#32
  let c0_i32_570 : BitVec 32 := 0#32
  let v1428 : BitVec 1 := Scalar.cmpi .sgt v1426 c0_i32_570
  let v1429 : BitVec 32 := Scalar.extui v1428
  let c0_i32_571 : BitVec 32 := 0#32
  let v1430 : BitVec 1 := Scalar.cmpi .slt v1426 c0_i32_571
  let v1431 : BitVec 32 := Scalar.extui v1430
  let v1432 : BitVec 32 := Scalar.subi v1429 v1431
  let c128_i32_569 : BitVec 32 := 128#32
  let c0_i32_572 : BitVec 32 := 0#32
  let v1433 : BitVec 1 := Scalar.cmpi .sgt c128_i32_569 c0_i32_572
  let v1434 : BitVec 32 := Scalar.extui v1433
  let c0_i32_573 : BitVec 32 := 0#32
  let v1435 : BitVec 1 := Scalar.cmpi .slt c128_i32_569 c0_i32_573
  let v1436 : BitVec 32 := Scalar.extui v1435
  let v1437 : BitVec 32 := Scalar.subi v1434 v1436
  let v1438 : BitVec 1 := Scalar.cmpi .ne v1432 v1437
  let v1439 : BitVec 32 := Scalar.remsi v1426 c128_i32_569
  let c0_i32_574 : BitVec 32 := 0#32
  let v1440 : BitVec 1 := Scalar.cmpi .ne v1439 c0_i32_574
  let v1441 : BitVec 1 := Scalar.andi v1438 v1440
  let v1427 : BitVec 32 := Scalar.divsi v1426 c128_i32_569
  let c1_i32_575 : BitVec 32 := 1#32
  let v1442 : BitVec 32 := Scalar.subi v1427 c1_i32_575
  let v1443 : BitVec 32 := Scalar.select v1441 v1442 v1427
  let c128_i32_576 : BitVec 32 := 128#32
  let v1444 : BitVec 32 := Scalar.muli v1443 c128_i32_576
  let v1445 : BitVec 32 := v1444
  ![0, v1445.toNat]

def k0_chk72 (i : grid0.Coords) (v1426 : BitVec 32) : Prop :=
  (∀ (k0_h1 : k0_cond1 i = 1#1), 128 ∣ (k0_mult72 v1426).toNat) ∧
  (∀ (k0_h1 : k0_cond1 i = 1#1), ∀ a, (k0_off72 v1426) a + S64x128.size a ≤ S64x1000000.size a)
theorem k0_mult72_dvd : ∀ (i : grid0.Coords) (v1426 : BitVec 32) (k0_hw72 : k0_chk72 i v1426), ∀ (k0_h1 : k0_cond1 i = 1#1), 128 ∣ (k0_mult72 v1426).toNat := fun i v1426 k0_hw72 k0_h1 => k0_hw72.1 k0_h1
theorem k0_off72_inb : ∀ (i : grid0.Coords) (v1426 : BitVec 32) (k0_hw72 : k0_chk72 i v1426), ∀ (k0_h1 : k0_cond1 i = 1#1), ∀ a, (k0_off72 v1426) a + S64x128.size a ≤ S64x1000000.size a := fun i v1426 k0_hw72 k0_h1 => k0_hw72.2 k0_h1

def k0_off73 (v1446 : BitVec 32) : Fin 2 → Nat :=
  let c0_i32_1748 : BitVec 32 := 0#32
  let c0_i32_578 : BitVec 32 := 0#32
  let v1448 : BitVec 1 := Scalar.cmpi .sgt v1446 c0_i32_578
  let v1449 : BitVec 32 := Scalar.extui v1448
  let c0_i32_579 : BitVec 32 := 0#32
  let v1450 : BitVec 1 := Scalar.cmpi .slt v1446 c0_i32_579
  let v1451 : BitVec 32 := Scalar.extui v1450
  let v1452 : BitVec 32 := Scalar.subi v1449 v1451
  let c128_i32_577 : BitVec 32 := 128#32
  let c0_i32_580 : BitVec 32 := 0#32
  let v1453 : BitVec 1 := Scalar.cmpi .sgt c128_i32_577 c0_i32_580
  let v1454 : BitVec 32 := Scalar.extui v1453
  let c0_i32_581 : BitVec 32 := 0#32
  let v1455 : BitVec 1 := Scalar.cmpi .slt c128_i32_577 c0_i32_581
  let v1456 : BitVec 32 := Scalar.extui v1455
  let v1457 : BitVec 32 := Scalar.subi v1454 v1456
  let v1458 : BitVec 1 := Scalar.cmpi .ne v1452 v1457
  let v1459 : BitVec 32 := Scalar.remsi v1446 c128_i32_577
  let c0_i32_582 : BitVec 32 := 0#32
  let v1460 : BitVec 1 := Scalar.cmpi .ne v1459 c0_i32_582
  let v1461 : BitVec 1 := Scalar.andi v1458 v1460
  let v1447 : BitVec 32 := Scalar.divsi v1446 c128_i32_577
  let c1_i32_583 : BitVec 32 := 1#32
  let v1462 : BitVec 32 := Scalar.subi v1447 c1_i32_583
  let v1463 : BitVec 32 := Scalar.select v1461 v1462 v1447
  let c128_i32_584 : BitVec 32 := 128#32
  let v1464 : BitVec 32 := Scalar.muli v1463 c128_i32_584
  let v1465 : BitVec 32 := v1464
  ![0, v1465.toNat]

def k0_chk73 (i : grid0.Coords) (v1446 : BitVec 32) : Prop :=
  (∀ (k0_h1 : k0_cond1 i = 1#1), 128 ∣ (k0_mult73 v1446).toNat) ∧
  (∀ (k0_h1 : k0_cond1 i = 1#1), ∀ a, (k0_off73 v1446) a + S64x128.size a ≤ S64x1000000.size a)
theorem k0_mult73_dvd : ∀ (i : grid0.Coords) (v1446 : BitVec 32) (k0_hw73 : k0_chk73 i v1446), ∀ (k0_h1 : k0_cond1 i = 1#1), 128 ∣ (k0_mult73 v1446).toNat := fun i v1446 k0_hw73 k0_h1 => k0_hw73.1 k0_h1
theorem k0_off73_inb : ∀ (i : grid0.Coords) (v1446 : BitVec 32) (k0_hw73 : k0_chk73 i v1446), ∀ (k0_h1 : k0_cond1 i = 1#1), ∀ a, (k0_off73 v1446) a + S64x128.size a ≤ S64x1000000.size a := fun i v1446 k0_hw73 k0_h1 => k0_hw73.2 k0_h1

def k0_off74 (v1466 : BitVec 32) : Fin 2 → Nat :=
  let c0_i32_1750 : BitVec 32 := 0#32
  let c0_i32_586 : BitVec 32 := 0#32
  let v1468 : BitVec 1 := Scalar.cmpi .sgt v1466 c0_i32_586
  let v1469 : BitVec 32 := Scalar.extui v1468
  let c0_i32_587 : BitVec 32 := 0#32
  let v1470 : BitVec 1 := Scalar.cmpi .slt v1466 c0_i32_587
  let v1471 : BitVec 32 := Scalar.extui v1470
  let v1472 : BitVec 32 := Scalar.subi v1469 v1471
  let c128_i32_585 : BitVec 32 := 128#32
  let c0_i32_588 : BitVec 32 := 0#32
  let v1473 : BitVec 1 := Scalar.cmpi .sgt c128_i32_585 c0_i32_588
  let v1474 : BitVec 32 := Scalar.extui v1473
  let c0_i32_589 : BitVec 32 := 0#32
  let v1475 : BitVec 1 := Scalar.cmpi .slt c128_i32_585 c0_i32_589
  let v1476 : BitVec 32 := Scalar.extui v1475
  let v1477 : BitVec 32 := Scalar.subi v1474 v1476
  let v1478 : BitVec 1 := Scalar.cmpi .ne v1472 v1477
  let v1479 : BitVec 32 := Scalar.remsi v1466 c128_i32_585
  let c0_i32_590 : BitVec 32 := 0#32
  let v1480 : BitVec 1 := Scalar.cmpi .ne v1479 c0_i32_590
  let v1481 : BitVec 1 := Scalar.andi v1478 v1480
  let v1467 : BitVec 32 := Scalar.divsi v1466 c128_i32_585
  let c1_i32_591 : BitVec 32 := 1#32
  let v1482 : BitVec 32 := Scalar.subi v1467 c1_i32_591
  let v1483 : BitVec 32 := Scalar.select v1481 v1482 v1467
  let c128_i32_592 : BitVec 32 := 128#32
  let v1484 : BitVec 32 := Scalar.muli v1483 c128_i32_592
  let v1485 : BitVec 32 := v1484
  ![0, v1485.toNat]

def k0_chk74 (i : grid0.Coords) (v1466 : BitVec 32) : Prop :=
  (∀ (k0_h1 : k0_cond1 i = 1#1), 128 ∣ (k0_mult74 v1466).toNat) ∧
  (∀ (k0_h1 : k0_cond1 i = 1#1), ∀ a, (k0_off74 v1466) a + S64x128.size a ≤ S64x1000000.size a)
theorem k0_mult74_dvd : ∀ (i : grid0.Coords) (v1466 : BitVec 32) (k0_hw74 : k0_chk74 i v1466), ∀ (k0_h1 : k0_cond1 i = 1#1), 128 ∣ (k0_mult74 v1466).toNat := fun i v1466 k0_hw74 k0_h1 => k0_hw74.1 k0_h1
theorem k0_off74_inb : ∀ (i : grid0.Coords) (v1466 : BitVec 32) (k0_hw74 : k0_chk74 i v1466), ∀ (k0_h1 : k0_cond1 i = 1#1), ∀ a, (k0_off74 v1466) a + S64x128.size a ≤ S64x1000000.size a := fun i v1466 k0_hw74 k0_h1 => k0_hw74.2 k0_h1

def k0_off75 (v1486 : BitVec 32) : Fin 2 → Nat :=
  let c0_i32_1752 : BitVec 32 := 0#32
  let c0_i32_594 : BitVec 32 := 0#32
  let v1488 : BitVec 1 := Scalar.cmpi .sgt v1486 c0_i32_594
  let v1489 : BitVec 32 := Scalar.extui v1488
  let c0_i32_595 : BitVec 32 := 0#32
  let v1490 : BitVec 1 := Scalar.cmpi .slt v1486 c0_i32_595
  let v1491 : BitVec 32 := Scalar.extui v1490
  let v1492 : BitVec 32 := Scalar.subi v1489 v1491
  let c128_i32_593 : BitVec 32 := 128#32
  let c0_i32_596 : BitVec 32 := 0#32
  let v1493 : BitVec 1 := Scalar.cmpi .sgt c128_i32_593 c0_i32_596
  let v1494 : BitVec 32 := Scalar.extui v1493
  let c0_i32_597 : BitVec 32 := 0#32
  let v1495 : BitVec 1 := Scalar.cmpi .slt c128_i32_593 c0_i32_597
  let v1496 : BitVec 32 := Scalar.extui v1495
  let v1497 : BitVec 32 := Scalar.subi v1494 v1496
  let v1498 : BitVec 1 := Scalar.cmpi .ne v1492 v1497
  let v1499 : BitVec 32 := Scalar.remsi v1486 c128_i32_593
  let c0_i32_598 : BitVec 32 := 0#32
  let v1500 : BitVec 1 := Scalar.cmpi .ne v1499 c0_i32_598
  let v1501 : BitVec 1 := Scalar.andi v1498 v1500
  let v1487 : BitVec 32 := Scalar.divsi v1486 c128_i32_593
  let c1_i32_599 : BitVec 32 := 1#32
  let v1502 : BitVec 32 := Scalar.subi v1487 c1_i32_599
  let v1503 : BitVec 32 := Scalar.select v1501 v1502 v1487
  let c128_i32_600 : BitVec 32 := 128#32
  let v1504 : BitVec 32 := Scalar.muli v1503 c128_i32_600
  let v1505 : BitVec 32 := v1504
  ![0, v1505.toNat]

def k0_chk75 (i : grid0.Coords) (v1486 : BitVec 32) : Prop :=
  (∀ (k0_h1 : k0_cond1 i = 1#1), 128 ∣ (k0_mult75 v1486).toNat) ∧
  (∀ (k0_h1 : k0_cond1 i = 1#1), ∀ a, (k0_off75 v1486) a + S64x128.size a ≤ S64x1000000.size a)
theorem k0_mult75_dvd : ∀ (i : grid0.Coords) (v1486 : BitVec 32) (k0_hw75 : k0_chk75 i v1486), ∀ (k0_h1 : k0_cond1 i = 1#1), 128 ∣ (k0_mult75 v1486).toNat := fun i v1486 k0_hw75 k0_h1 => k0_hw75.1 k0_h1
theorem k0_off75_inb : ∀ (i : grid0.Coords) (v1486 : BitVec 32) (k0_hw75 : k0_chk75 i v1486), ∀ (k0_h1 : k0_cond1 i = 1#1), ∀ a, (k0_off75 v1486) a + S64x128.size a ≤ S64x1000000.size a := fun i v1486 k0_hw75 k0_h1 => k0_hw75.2 k0_h1

def k0_off76 (v1506 : BitVec 32) : Fin 2 → Nat :=
  let c0_i32_1754 : BitVec 32 := 0#32
  let c0_i32_602 : BitVec 32 := 0#32
  let v1508 : BitVec 1 := Scalar.cmpi .sgt v1506 c0_i32_602
  let v1509 : BitVec 32 := Scalar.extui v1508
  let c0_i32_603 : BitVec 32 := 0#32
  let v1510 : BitVec 1 := Scalar.cmpi .slt v1506 c0_i32_603
  let v1511 : BitVec 32 := Scalar.extui v1510
  let v1512 : BitVec 32 := Scalar.subi v1509 v1511
  let c128_i32_601 : BitVec 32 := 128#32
  let c0_i32_604 : BitVec 32 := 0#32
  let v1513 : BitVec 1 := Scalar.cmpi .sgt c128_i32_601 c0_i32_604
  let v1514 : BitVec 32 := Scalar.extui v1513
  let c0_i32_605 : BitVec 32 := 0#32
  let v1515 : BitVec 1 := Scalar.cmpi .slt c128_i32_601 c0_i32_605
  let v1516 : BitVec 32 := Scalar.extui v1515
  let v1517 : BitVec 32 := Scalar.subi v1514 v1516
  let v1518 : BitVec 1 := Scalar.cmpi .ne v1512 v1517
  let v1519 : BitVec 32 := Scalar.remsi v1506 c128_i32_601
  let c0_i32_606 : BitVec 32 := 0#32
  let v1520 : BitVec 1 := Scalar.cmpi .ne v1519 c0_i32_606
  let v1521 : BitVec 1 := Scalar.andi v1518 v1520
  let v1507 : BitVec 32 := Scalar.divsi v1506 c128_i32_601
  let c1_i32_607 : BitVec 32 := 1#32
  let v1522 : BitVec 32 := Scalar.subi v1507 c1_i32_607
  let v1523 : BitVec 32 := Scalar.select v1521 v1522 v1507
  let c128_i32_608 : BitVec 32 := 128#32
  let v1524 : BitVec 32 := Scalar.muli v1523 c128_i32_608
  let v1525 : BitVec 32 := v1524
  ![0, v1525.toNat]

def k0_chk76 (i : grid0.Coords) (v1506 : BitVec 32) : Prop :=
  (∀ (k0_h1 : k0_cond1 i = 1#1), 128 ∣ (k0_mult76 v1506).toNat) ∧
  (∀ (k0_h1 : k0_cond1 i = 1#1), ∀ a, (k0_off76 v1506) a + S64x128.size a ≤ S64x1000000.size a)
theorem k0_mult76_dvd : ∀ (i : grid0.Coords) (v1506 : BitVec 32) (k0_hw76 : k0_chk76 i v1506), ∀ (k0_h1 : k0_cond1 i = 1#1), 128 ∣ (k0_mult76 v1506).toNat := fun i v1506 k0_hw76 k0_h1 => k0_hw76.1 k0_h1
theorem k0_off76_inb : ∀ (i : grid0.Coords) (v1506 : BitVec 32) (k0_hw76 : k0_chk76 i v1506), ∀ (k0_h1 : k0_cond1 i = 1#1), ∀ a, (k0_off76 v1506) a + S64x128.size a ≤ S64x1000000.size a := fun i v1506 k0_hw76 k0_h1 => k0_hw76.2 k0_h1

def k0_off77 (v1526 : BitVec 32) : Fin 2 → Nat :=
  let c0_i32_1756 : BitVec 32 := 0#32
  let c0_i32_610 : BitVec 32 := 0#32
  let v1528 : BitVec 1 := Scalar.cmpi .sgt v1526 c0_i32_610
  let v1529 : BitVec 32 := Scalar.extui v1528
  let c0_i32_611 : BitVec 32 := 0#32
  let v1530 : BitVec 1 := Scalar.cmpi .slt v1526 c0_i32_611
  let v1531 : BitVec 32 := Scalar.extui v1530
  let v1532 : BitVec 32 := Scalar.subi v1529 v1531
  let c128_i32_609 : BitVec 32 := 128#32
  let c0_i32_612 : BitVec 32 := 0#32
  let v1533 : BitVec 1 := Scalar.cmpi .sgt c128_i32_609 c0_i32_612
  let v1534 : BitVec 32 := Scalar.extui v1533
  let c0_i32_613 : BitVec 32 := 0#32
  let v1535 : BitVec 1 := Scalar.cmpi .slt c128_i32_609 c0_i32_613
  let v1536 : BitVec 32 := Scalar.extui v1535
  let v1537 : BitVec 32 := Scalar.subi v1534 v1536
  let v1538 : BitVec 1 := Scalar.cmpi .ne v1532 v1537
  let v1539 : BitVec 32 := Scalar.remsi v1526 c128_i32_609
  let c0_i32_614 : BitVec 32 := 0#32
  let v1540 : BitVec 1 := Scalar.cmpi .ne v1539 c0_i32_614
  let v1541 : BitVec 1 := Scalar.andi v1538 v1540
  let v1527 : BitVec 32 := Scalar.divsi v1526 c128_i32_609
  let c1_i32_615 : BitVec 32 := 1#32
  let v1542 : BitVec 32 := Scalar.subi v1527 c1_i32_615
  let v1543 : BitVec 32 := Scalar.select v1541 v1542 v1527
  let c128_i32_616 : BitVec 32 := 128#32
  let v1544 : BitVec 32 := Scalar.muli v1543 c128_i32_616
  let v1545 : BitVec 32 := v1544
  ![0, v1545.toNat]

def k0_chk77 (i : grid0.Coords) (v1526 : BitVec 32) : Prop :=
  (∀ (k0_h1 : k0_cond1 i = 1#1), 128 ∣ (k0_mult77 v1526).toNat) ∧
  (∀ (k0_h1 : k0_cond1 i = 1#1), ∀ a, (k0_off77 v1526) a + S64x128.size a ≤ S64x1000000.size a)
theorem k0_mult77_dvd : ∀ (i : grid0.Coords) (v1526 : BitVec 32) (k0_hw77 : k0_chk77 i v1526), ∀ (k0_h1 : k0_cond1 i = 1#1), 128 ∣ (k0_mult77 v1526).toNat := fun i v1526 k0_hw77 k0_h1 => k0_hw77.1 k0_h1
theorem k0_off77_inb : ∀ (i : grid0.Coords) (v1526 : BitVec 32) (k0_hw77 : k0_chk77 i v1526), ∀ (k0_h1 : k0_cond1 i = 1#1), ∀ a, (k0_off77 v1526) a + S64x128.size a ≤ S64x1000000.size a := fun i v1526 k0_hw77 k0_h1 => k0_hw77.2 k0_h1

def k0_off78 (v1546 : BitVec 32) : Fin 2 → Nat :=
  let c0_i32_1758 : BitVec 32 := 0#32
  let c0_i32_618 : BitVec 32 := 0#32
  let v1548 : BitVec 1 := Scalar.cmpi .sgt v1546 c0_i32_618
  let v1549 : BitVec 32 := Scalar.extui v1548
  let c0_i32_619 : BitVec 32 := 0#32
  let v1550 : BitVec 1 := Scalar.cmpi .slt v1546 c0_i32_619
  let v1551 : BitVec 32 := Scalar.extui v1550
  let v1552 : BitVec 32 := Scalar.subi v1549 v1551
  let c128_i32_617 : BitVec 32 := 128#32
  let c0_i32_620 : BitVec 32 := 0#32
  let v1553 : BitVec 1 := Scalar.cmpi .sgt c128_i32_617 c0_i32_620
  let v1554 : BitVec 32 := Scalar.extui v1553
  let c0_i32_621 : BitVec 32 := 0#32
  let v1555 : BitVec 1 := Scalar.cmpi .slt c128_i32_617 c0_i32_621
  let v1556 : BitVec 32 := Scalar.extui v1555
  let v1557 : BitVec 32 := Scalar.subi v1554 v1556
  let v1558 : BitVec 1 := Scalar.cmpi .ne v1552 v1557
  let v1559 : BitVec 32 := Scalar.remsi v1546 c128_i32_617
  let c0_i32_622 : BitVec 32 := 0#32
  let v1560 : BitVec 1 := Scalar.cmpi .ne v1559 c0_i32_622
  let v1561 : BitVec 1 := Scalar.andi v1558 v1560
  let v1547 : BitVec 32 := Scalar.divsi v1546 c128_i32_617
  let c1_i32_623 : BitVec 32 := 1#32
  let v1562 : BitVec 32 := Scalar.subi v1547 c1_i32_623
  let v1563 : BitVec 32 := Scalar.select v1561 v1562 v1547
  let c128_i32_624 : BitVec 32 := 128#32
  let v1564 : BitVec 32 := Scalar.muli v1563 c128_i32_624
  let v1565 : BitVec 32 := v1564
  ![0, v1565.toNat]

def k0_chk78 (i : grid0.Coords) (v1546 : BitVec 32) : Prop :=
  (∀ (k0_h1 : k0_cond1 i = 1#1), 128 ∣ (k0_mult78 v1546).toNat) ∧
  (∀ (k0_h1 : k0_cond1 i = 1#1), ∀ a, (k0_off78 v1546) a + S64x128.size a ≤ S64x1000000.size a)
theorem k0_mult78_dvd : ∀ (i : grid0.Coords) (v1546 : BitVec 32) (k0_hw78 : k0_chk78 i v1546), ∀ (k0_h1 : k0_cond1 i = 1#1), 128 ∣ (k0_mult78 v1546).toNat := fun i v1546 k0_hw78 k0_h1 => k0_hw78.1 k0_h1
theorem k0_off78_inb : ∀ (i : grid0.Coords) (v1546 : BitVec 32) (k0_hw78 : k0_chk78 i v1546), ∀ (k0_h1 : k0_cond1 i = 1#1), ∀ a, (k0_off78 v1546) a + S64x128.size a ≤ S64x1000000.size a := fun i v1546 k0_hw78 k0_h1 => k0_hw78.2 k0_h1

def k0_off79 (v1566 : BitVec 32) : Fin 2 → Nat :=
  let c0_i32_1760 : BitVec 32 := 0#32
  let c0_i32_626 : BitVec 32 := 0#32
  let v1568 : BitVec 1 := Scalar.cmpi .sgt v1566 c0_i32_626
  let v1569 : BitVec 32 := Scalar.extui v1568
  let c0_i32_627 : BitVec 32 := 0#32
  let v1570 : BitVec 1 := Scalar.cmpi .slt v1566 c0_i32_627
  let v1571 : BitVec 32 := Scalar.extui v1570
  let v1572 : BitVec 32 := Scalar.subi v1569 v1571
  let c128_i32_625 : BitVec 32 := 128#32
  let c0_i32_628 : BitVec 32 := 0#32
  let v1573 : BitVec 1 := Scalar.cmpi .sgt c128_i32_625 c0_i32_628
  let v1574 : BitVec 32 := Scalar.extui v1573
  let c0_i32_629 : BitVec 32 := 0#32
  let v1575 : BitVec 1 := Scalar.cmpi .slt c128_i32_625 c0_i32_629
  let v1576 : BitVec 32 := Scalar.extui v1575
  let v1577 : BitVec 32 := Scalar.subi v1574 v1576
  let v1578 : BitVec 1 := Scalar.cmpi .ne v1572 v1577
  let v1579 : BitVec 32 := Scalar.remsi v1566 c128_i32_625
  let c0_i32_630 : BitVec 32 := 0#32
  let v1580 : BitVec 1 := Scalar.cmpi .ne v1579 c0_i32_630
  let v1581 : BitVec 1 := Scalar.andi v1578 v1580
  let v1567 : BitVec 32 := Scalar.divsi v1566 c128_i32_625
  let c1_i32_631 : BitVec 32 := 1#32
  let v1582 : BitVec 32 := Scalar.subi v1567 c1_i32_631
  let v1583 : BitVec 32 := Scalar.select v1581 v1582 v1567
  let c128_i32_632 : BitVec 32 := 128#32
  let v1584 : BitVec 32 := Scalar.muli v1583 c128_i32_632
  let v1585 : BitVec 32 := v1584
  ![0, v1585.toNat]

def k0_chk79 (i : grid0.Coords) (v1566 : BitVec 32) : Prop :=
  (∀ (k0_h1 : k0_cond1 i = 1#1), 128 ∣ (k0_mult79 v1566).toNat) ∧
  (∀ (k0_h1 : k0_cond1 i = 1#1), ∀ a, (k0_off79 v1566) a + S64x128.size a ≤ S64x1000000.size a)
theorem k0_mult79_dvd : ∀ (i : grid0.Coords) (v1566 : BitVec 32) (k0_hw79 : k0_chk79 i v1566), ∀ (k0_h1 : k0_cond1 i = 1#1), 128 ∣ (k0_mult79 v1566).toNat := fun i v1566 k0_hw79 k0_h1 => k0_hw79.1 k0_h1
theorem k0_off79_inb : ∀ (i : grid0.Coords) (v1566 : BitVec 32) (k0_hw79 : k0_chk79 i v1566), ∀ (k0_h1 : k0_cond1 i = 1#1), ∀ a, (k0_off79 v1566) a + S64x128.size a ≤ S64x1000000.size a := fun i v1566 k0_hw79 k0_h1 => k0_hw79.2 k0_h1

def k0_off80 (v1586 : BitVec 32) : Fin 2 → Nat :=
  let c0_i32_1762 : BitVec 32 := 0#32
  let c0_i32_634 : BitVec 32 := 0#32
  let v1588 : BitVec 1 := Scalar.cmpi .sgt v1586 c0_i32_634
  let v1589 : BitVec 32 := Scalar.extui v1588
  let c0_i32_635 : BitVec 32 := 0#32
  let v1590 : BitVec 1 := Scalar.cmpi .slt v1586 c0_i32_635
  let v1591 : BitVec 32 := Scalar.extui v1590
  let v1592 : BitVec 32 := Scalar.subi v1589 v1591
  let c128_i32_633 : BitVec 32 := 128#32
  let c0_i32_636 : BitVec 32 := 0#32
  let v1593 : BitVec 1 := Scalar.cmpi .sgt c128_i32_633 c0_i32_636
  let v1594 : BitVec 32 := Scalar.extui v1593
  let c0_i32_637 : BitVec 32 := 0#32
  let v1595 : BitVec 1 := Scalar.cmpi .slt c128_i32_633 c0_i32_637
  let v1596 : BitVec 32 := Scalar.extui v1595
  let v1597 : BitVec 32 := Scalar.subi v1594 v1596
  let v1598 : BitVec 1 := Scalar.cmpi .ne v1592 v1597
  let v1599 : BitVec 32 := Scalar.remsi v1586 c128_i32_633
  let c0_i32_638 : BitVec 32 := 0#32
  let v1600 : BitVec 1 := Scalar.cmpi .ne v1599 c0_i32_638
  let v1601 : BitVec 1 := Scalar.andi v1598 v1600
  let v1587 : BitVec 32 := Scalar.divsi v1586 c128_i32_633
  let c1_i32_639 : BitVec 32 := 1#32
  let v1602 : BitVec 32 := Scalar.subi v1587 c1_i32_639
  let v1603 : BitVec 32 := Scalar.select v1601 v1602 v1587
  let c128_i32_640 : BitVec 32 := 128#32
  let v1604 : BitVec 32 := Scalar.muli v1603 c128_i32_640
  let v1605 : BitVec 32 := v1604
  ![0, v1605.toNat]

def k0_chk80 (i : grid0.Coords) (v1586 : BitVec 32) : Prop :=
  (∀ (k0_h1 : k0_cond1 i = 1#1), 128 ∣ (k0_mult80 v1586).toNat) ∧
  (∀ (k0_h1 : k0_cond1 i = 1#1), ∀ a, (k0_off80 v1586) a + S64x128.size a ≤ S64x1000000.size a)
theorem k0_mult80_dvd : ∀ (i : grid0.Coords) (v1586 : BitVec 32) (k0_hw80 : k0_chk80 i v1586), ∀ (k0_h1 : k0_cond1 i = 1#1), 128 ∣ (k0_mult80 v1586).toNat := fun i v1586 k0_hw80 k0_h1 => k0_hw80.1 k0_h1
theorem k0_off80_inb : ∀ (i : grid0.Coords) (v1586 : BitVec 32) (k0_hw80 : k0_chk80 i v1586), ∀ (k0_h1 : k0_cond1 i = 1#1), ∀ a, (k0_off80 v1586) a + S64x128.size a ≤ S64x1000000.size a := fun i v1586 k0_hw80 k0_h1 => k0_hw80.2 k0_h1

def k0_off81 (v1606 : BitVec 32) : Fin 2 → Nat :=
  let c0_i32_1764 : BitVec 32 := 0#32
  let c0_i32_642 : BitVec 32 := 0#32
  let v1608 : BitVec 1 := Scalar.cmpi .sgt v1606 c0_i32_642
  let v1609 : BitVec 32 := Scalar.extui v1608
  let c0_i32_643 : BitVec 32 := 0#32
  let v1610 : BitVec 1 := Scalar.cmpi .slt v1606 c0_i32_643
  let v1611 : BitVec 32 := Scalar.extui v1610
  let v1612 : BitVec 32 := Scalar.subi v1609 v1611
  let c128_i32_641 : BitVec 32 := 128#32
  let c0_i32_644 : BitVec 32 := 0#32
  let v1613 : BitVec 1 := Scalar.cmpi .sgt c128_i32_641 c0_i32_644
  let v1614 : BitVec 32 := Scalar.extui v1613
  let c0_i32_645 : BitVec 32 := 0#32
  let v1615 : BitVec 1 := Scalar.cmpi .slt c128_i32_641 c0_i32_645
  let v1616 : BitVec 32 := Scalar.extui v1615
  let v1617 : BitVec 32 := Scalar.subi v1614 v1616
  let v1618 : BitVec 1 := Scalar.cmpi .ne v1612 v1617
  let v1619 : BitVec 32 := Scalar.remsi v1606 c128_i32_641
  let c0_i32_646 : BitVec 32 := 0#32
  let v1620 : BitVec 1 := Scalar.cmpi .ne v1619 c0_i32_646
  let v1621 : BitVec 1 := Scalar.andi v1618 v1620
  let v1607 : BitVec 32 := Scalar.divsi v1606 c128_i32_641
  let c1_i32_647 : BitVec 32 := 1#32
  let v1622 : BitVec 32 := Scalar.subi v1607 c1_i32_647
  let v1623 : BitVec 32 := Scalar.select v1621 v1622 v1607
  let c128_i32_648 : BitVec 32 := 128#32
  let v1624 : BitVec 32 := Scalar.muli v1623 c128_i32_648
  let v1625 : BitVec 32 := v1624
  ![0, v1625.toNat]

def k0_chk81 (i : grid0.Coords) (v1606 : BitVec 32) : Prop :=
  (∀ (k0_h1 : k0_cond1 i = 1#1), 128 ∣ (k0_mult81 v1606).toNat) ∧
  (∀ (k0_h1 : k0_cond1 i = 1#1), ∀ a, (k0_off81 v1606) a + S64x128.size a ≤ S64x1000000.size a)
theorem k0_mult81_dvd : ∀ (i : grid0.Coords) (v1606 : BitVec 32) (k0_hw81 : k0_chk81 i v1606), ∀ (k0_h1 : k0_cond1 i = 1#1), 128 ∣ (k0_mult81 v1606).toNat := fun i v1606 k0_hw81 k0_h1 => k0_hw81.1 k0_h1
theorem k0_off81_inb : ∀ (i : grid0.Coords) (v1606 : BitVec 32) (k0_hw81 : k0_chk81 i v1606), ∀ (k0_h1 : k0_cond1 i = 1#1), ∀ a, (k0_off81 v1606) a + S64x128.size a ≤ S64x1000000.size a := fun i v1606 k0_hw81 k0_h1 => k0_hw81.2 k0_h1

def k0_off82 (v1626 : BitVec 32) : Fin 2 → Nat :=
  let c0_i32_1766 : BitVec 32 := 0#32
  let c0_i32_650 : BitVec 32 := 0#32
  let v1628 : BitVec 1 := Scalar.cmpi .sgt v1626 c0_i32_650
  let v1629 : BitVec 32 := Scalar.extui v1628
  let c0_i32_651 : BitVec 32 := 0#32
  let v1630 : BitVec 1 := Scalar.cmpi .slt v1626 c0_i32_651
  let v1631 : BitVec 32 := Scalar.extui v1630
  let v1632 : BitVec 32 := Scalar.subi v1629 v1631
  let c128_i32_649 : BitVec 32 := 128#32
  let c0_i32_652 : BitVec 32 := 0#32
  let v1633 : BitVec 1 := Scalar.cmpi .sgt c128_i32_649 c0_i32_652
  let v1634 : BitVec 32 := Scalar.extui v1633
  let c0_i32_653 : BitVec 32 := 0#32
  let v1635 : BitVec 1 := Scalar.cmpi .slt c128_i32_649 c0_i32_653
  let v1636 : BitVec 32 := Scalar.extui v1635
  let v1637 : BitVec 32 := Scalar.subi v1634 v1636
  let v1638 : BitVec 1 := Scalar.cmpi .ne v1632 v1637
  let v1639 : BitVec 32 := Scalar.remsi v1626 c128_i32_649
  let c0_i32_654 : BitVec 32 := 0#32
  let v1640 : BitVec 1 := Scalar.cmpi .ne v1639 c0_i32_654
  let v1641 : BitVec 1 := Scalar.andi v1638 v1640
  let v1627 : BitVec 32 := Scalar.divsi v1626 c128_i32_649
  let c1_i32_655 : BitVec 32 := 1#32
  let v1642 : BitVec 32 := Scalar.subi v1627 c1_i32_655
  let v1643 : BitVec 32 := Scalar.select v1641 v1642 v1627
  let c128_i32_656 : BitVec 32 := 128#32
  let v1644 : BitVec 32 := Scalar.muli v1643 c128_i32_656
  let v1645 : BitVec 32 := v1644
  ![0, v1645.toNat]

def k0_chk82 (i : grid0.Coords) (v1626 : BitVec 32) : Prop :=
  (∀ (k0_h1 : k0_cond1 i = 1#1), 128 ∣ (k0_mult82 v1626).toNat) ∧
  (∀ (k0_h1 : k0_cond1 i = 1#1), ∀ a, (k0_off82 v1626) a + S64x128.size a ≤ S64x1000000.size a)
theorem k0_mult82_dvd : ∀ (i : grid0.Coords) (v1626 : BitVec 32) (k0_hw82 : k0_chk82 i v1626), ∀ (k0_h1 : k0_cond1 i = 1#1), 128 ∣ (k0_mult82 v1626).toNat := fun i v1626 k0_hw82 k0_h1 => k0_hw82.1 k0_h1
theorem k0_off82_inb : ∀ (i : grid0.Coords) (v1626 : BitVec 32) (k0_hw82 : k0_chk82 i v1626), ∀ (k0_h1 : k0_cond1 i = 1#1), ∀ a, (k0_off82 v1626) a + S64x128.size a ≤ S64x1000000.size a := fun i v1626 k0_hw82 k0_h1 => k0_hw82.2 k0_h1

def k0_off83 (v1646 : BitVec 32) : Fin 2 → Nat :=
  let c0_i32_1768 : BitVec 32 := 0#32
  let c0_i32_658 : BitVec 32 := 0#32
  let v1648 : BitVec 1 := Scalar.cmpi .sgt v1646 c0_i32_658
  let v1649 : BitVec 32 := Scalar.extui v1648
  let c0_i32_659 : BitVec 32 := 0#32
  let v1650 : BitVec 1 := Scalar.cmpi .slt v1646 c0_i32_659
  let v1651 : BitVec 32 := Scalar.extui v1650
  let v1652 : BitVec 32 := Scalar.subi v1649 v1651
  let c128_i32_657 : BitVec 32 := 128#32
  let c0_i32_660 : BitVec 32 := 0#32
  let v1653 : BitVec 1 := Scalar.cmpi .sgt c128_i32_657 c0_i32_660
  let v1654 : BitVec 32 := Scalar.extui v1653
  let c0_i32_661 : BitVec 32 := 0#32
  let v1655 : BitVec 1 := Scalar.cmpi .slt c128_i32_657 c0_i32_661
  let v1656 : BitVec 32 := Scalar.extui v1655
  let v1657 : BitVec 32 := Scalar.subi v1654 v1656
  let v1658 : BitVec 1 := Scalar.cmpi .ne v1652 v1657
  let v1659 : BitVec 32 := Scalar.remsi v1646 c128_i32_657
  let c0_i32_662 : BitVec 32 := 0#32
  let v1660 : BitVec 1 := Scalar.cmpi .ne v1659 c0_i32_662
  let v1661 : BitVec 1 := Scalar.andi v1658 v1660
  let v1647 : BitVec 32 := Scalar.divsi v1646 c128_i32_657
  let c1_i32_663 : BitVec 32 := 1#32
  let v1662 : BitVec 32 := Scalar.subi v1647 c1_i32_663
  let v1663 : BitVec 32 := Scalar.select v1661 v1662 v1647
  let c128_i32_664 : BitVec 32 := 128#32
  let v1664 : BitVec 32 := Scalar.muli v1663 c128_i32_664
  let v1665 : BitVec 32 := v1664
  ![0, v1665.toNat]

def k0_chk83 (i : grid0.Coords) (v1646 : BitVec 32) : Prop :=
  (∀ (k0_h1 : k0_cond1 i = 1#1), 128 ∣ (k0_mult83 v1646).toNat) ∧
  (∀ (k0_h1 : k0_cond1 i = 1#1), ∀ a, (k0_off83 v1646) a + S64x128.size a ≤ S64x1000000.size a)
theorem k0_mult83_dvd : ∀ (i : grid0.Coords) (v1646 : BitVec 32) (k0_hw83 : k0_chk83 i v1646), ∀ (k0_h1 : k0_cond1 i = 1#1), 128 ∣ (k0_mult83 v1646).toNat := fun i v1646 k0_hw83 k0_h1 => k0_hw83.1 k0_h1
theorem k0_off83_inb : ∀ (i : grid0.Coords) (v1646 : BitVec 32) (k0_hw83 : k0_chk83 i v1646), ∀ (k0_h1 : k0_cond1 i = 1#1), ∀ a, (k0_off83 v1646) a + S64x128.size a ≤ S64x1000000.size a := fun i v1646 k0_hw83 k0_h1 => k0_hw83.2 k0_h1

def k0_off84 (v1666 : BitVec 32) : Fin 2 → Nat :=
  let c0_i32_1770 : BitVec 32 := 0#32
  let c0_i32_666 : BitVec 32 := 0#32
  let v1668 : BitVec 1 := Scalar.cmpi .sgt v1666 c0_i32_666
  let v1669 : BitVec 32 := Scalar.extui v1668
  let c0_i32_667 : BitVec 32 := 0#32
  let v1670 : BitVec 1 := Scalar.cmpi .slt v1666 c0_i32_667
  let v1671 : BitVec 32 := Scalar.extui v1670
  let v1672 : BitVec 32 := Scalar.subi v1669 v1671
  let c128_i32_665 : BitVec 32 := 128#32
  let c0_i32_668 : BitVec 32 := 0#32
  let v1673 : BitVec 1 := Scalar.cmpi .sgt c128_i32_665 c0_i32_668
  let v1674 : BitVec 32 := Scalar.extui v1673
  let c0_i32_669 : BitVec 32 := 0#32
  let v1675 : BitVec 1 := Scalar.cmpi .slt c128_i32_665 c0_i32_669
  let v1676 : BitVec 32 := Scalar.extui v1675
  let v1677 : BitVec 32 := Scalar.subi v1674 v1676
  let v1678 : BitVec 1 := Scalar.cmpi .ne v1672 v1677
  let v1679 : BitVec 32 := Scalar.remsi v1666 c128_i32_665
  let c0_i32_670 : BitVec 32 := 0#32
  let v1680 : BitVec 1 := Scalar.cmpi .ne v1679 c0_i32_670
  let v1681 : BitVec 1 := Scalar.andi v1678 v1680
  let v1667 : BitVec 32 := Scalar.divsi v1666 c128_i32_665
  let c1_i32_671 : BitVec 32 := 1#32
  let v1682 : BitVec 32 := Scalar.subi v1667 c1_i32_671
  let v1683 : BitVec 32 := Scalar.select v1681 v1682 v1667
  let c128_i32_672 : BitVec 32 := 128#32
  let v1684 : BitVec 32 := Scalar.muli v1683 c128_i32_672
  let v1685 : BitVec 32 := v1684
  ![0, v1685.toNat]

def k0_chk84 (i : grid0.Coords) (v1666 : BitVec 32) : Prop :=
  (∀ (k0_h1 : k0_cond1 i = 1#1), 128 ∣ (k0_mult84 v1666).toNat) ∧
  (∀ (k0_h1 : k0_cond1 i = 1#1), ∀ a, (k0_off84 v1666) a + S64x128.size a ≤ S64x1000000.size a)
theorem k0_mult84_dvd : ∀ (i : grid0.Coords) (v1666 : BitVec 32) (k0_hw84 : k0_chk84 i v1666), ∀ (k0_h1 : k0_cond1 i = 1#1), 128 ∣ (k0_mult84 v1666).toNat := fun i v1666 k0_hw84 k0_h1 => k0_hw84.1 k0_h1
theorem k0_off84_inb : ∀ (i : grid0.Coords) (v1666 : BitVec 32) (k0_hw84 : k0_chk84 i v1666), ∀ (k0_h1 : k0_cond1 i = 1#1), ∀ a, (k0_off84 v1666) a + S64x128.size a ≤ S64x1000000.size a := fun i v1666 k0_hw84 k0_h1 => k0_hw84.2 k0_h1

def k0_off85 (v1686 : BitVec 32) : Fin 2 → Nat :=
  let c0_i32_1772 : BitVec 32 := 0#32
  let c0_i32_674 : BitVec 32 := 0#32
  let v1688 : BitVec 1 := Scalar.cmpi .sgt v1686 c0_i32_674
  let v1689 : BitVec 32 := Scalar.extui v1688
  let c0_i32_675 : BitVec 32 := 0#32
  let v1690 : BitVec 1 := Scalar.cmpi .slt v1686 c0_i32_675
  let v1691 : BitVec 32 := Scalar.extui v1690
  let v1692 : BitVec 32 := Scalar.subi v1689 v1691
  let c128_i32_673 : BitVec 32 := 128#32
  let c0_i32_676 : BitVec 32 := 0#32
  let v1693 : BitVec 1 := Scalar.cmpi .sgt c128_i32_673 c0_i32_676
  let v1694 : BitVec 32 := Scalar.extui v1693
  let c0_i32_677 : BitVec 32 := 0#32
  let v1695 : BitVec 1 := Scalar.cmpi .slt c128_i32_673 c0_i32_677
  let v1696 : BitVec 32 := Scalar.extui v1695
  let v1697 : BitVec 32 := Scalar.subi v1694 v1696
  let v1698 : BitVec 1 := Scalar.cmpi .ne v1692 v1697
  let v1699 : BitVec 32 := Scalar.remsi v1686 c128_i32_673
  let c0_i32_678 : BitVec 32 := 0#32
  let v1700 : BitVec 1 := Scalar.cmpi .ne v1699 c0_i32_678
  let v1701 : BitVec 1 := Scalar.andi v1698 v1700
  let v1687 : BitVec 32 := Scalar.divsi v1686 c128_i32_673
  let c1_i32_679 : BitVec 32 := 1#32
  let v1702 : BitVec 32 := Scalar.subi v1687 c1_i32_679
  let v1703 : BitVec 32 := Scalar.select v1701 v1702 v1687
  let c128_i32_680 : BitVec 32 := 128#32
  let v1704 : BitVec 32 := Scalar.muli v1703 c128_i32_680
  let v1705 : BitVec 32 := v1704
  ![0, v1705.toNat]

def k0_chk85 (i : grid0.Coords) (v1686 : BitVec 32) : Prop :=
  (∀ (k0_h1 : k0_cond1 i = 1#1), 128 ∣ (k0_mult85 v1686).toNat) ∧
  (∀ (k0_h1 : k0_cond1 i = 1#1), ∀ a, (k0_off85 v1686) a + S64x128.size a ≤ S64x1000000.size a)
theorem k0_mult85_dvd : ∀ (i : grid0.Coords) (v1686 : BitVec 32) (k0_hw85 : k0_chk85 i v1686), ∀ (k0_h1 : k0_cond1 i = 1#1), 128 ∣ (k0_mult85 v1686).toNat := fun i v1686 k0_hw85 k0_h1 => k0_hw85.1 k0_h1
theorem k0_off85_inb : ∀ (i : grid0.Coords) (v1686 : BitVec 32) (k0_hw85 : k0_chk85 i v1686), ∀ (k0_h1 : k0_cond1 i = 1#1), ∀ a, (k0_off85 v1686) a + S64x128.size a ≤ S64x1000000.size a := fun i v1686 k0_hw85 k0_h1 => k0_hw85.2 k0_h1

def k0_off86 (v1706 : BitVec 32) : Fin 2 → Nat :=
  let c0_i32_1774 : BitVec 32 := 0#32
  let c0_i32_682 : BitVec 32 := 0#32
  let v1708 : BitVec 1 := Scalar.cmpi .sgt v1706 c0_i32_682
  let v1709 : BitVec 32 := Scalar.extui v1708
  let c0_i32_683 : BitVec 32 := 0#32
  let v1710 : BitVec 1 := Scalar.cmpi .slt v1706 c0_i32_683
  let v1711 : BitVec 32 := Scalar.extui v1710
  let v1712 : BitVec 32 := Scalar.subi v1709 v1711
  let c128_i32_681 : BitVec 32 := 128#32
  let c0_i32_684 : BitVec 32 := 0#32
  let v1713 : BitVec 1 := Scalar.cmpi .sgt c128_i32_681 c0_i32_684
  let v1714 : BitVec 32 := Scalar.extui v1713
  let c0_i32_685 : BitVec 32 := 0#32
  let v1715 : BitVec 1 := Scalar.cmpi .slt c128_i32_681 c0_i32_685
  let v1716 : BitVec 32 := Scalar.extui v1715
  let v1717 : BitVec 32 := Scalar.subi v1714 v1716
  let v1718 : BitVec 1 := Scalar.cmpi .ne v1712 v1717
  let v1719 : BitVec 32 := Scalar.remsi v1706 c128_i32_681
  let c0_i32_686 : BitVec 32 := 0#32
  let v1720 : BitVec 1 := Scalar.cmpi .ne v1719 c0_i32_686
  let v1721 : BitVec 1 := Scalar.andi v1718 v1720
  let v1707 : BitVec 32 := Scalar.divsi v1706 c128_i32_681
  let c1_i32_687 : BitVec 32 := 1#32
  let v1722 : BitVec 32 := Scalar.subi v1707 c1_i32_687
  let v1723 : BitVec 32 := Scalar.select v1721 v1722 v1707
  let c128_i32_688 : BitVec 32 := 128#32
  let v1724 : BitVec 32 := Scalar.muli v1723 c128_i32_688
  let v1725 : BitVec 32 := v1724
  ![0, v1725.toNat]

def k0_chk86 (i : grid0.Coords) (v1706 : BitVec 32) : Prop :=
  (∀ (k0_h1 : k0_cond1 i = 1#1), 128 ∣ (k0_mult86 v1706).toNat) ∧
  (∀ (k0_h1 : k0_cond1 i = 1#1), ∀ a, (k0_off86 v1706) a + S64x128.size a ≤ S64x1000000.size a)
theorem k0_mult86_dvd : ∀ (i : grid0.Coords) (v1706 : BitVec 32) (k0_hw86 : k0_chk86 i v1706), ∀ (k0_h1 : k0_cond1 i = 1#1), 128 ∣ (k0_mult86 v1706).toNat := fun i v1706 k0_hw86 k0_h1 => k0_hw86.1 k0_h1
theorem k0_off86_inb : ∀ (i : grid0.Coords) (v1706 : BitVec 32) (k0_hw86 : k0_chk86 i v1706), ∀ (k0_h1 : k0_cond1 i = 1#1), ∀ a, (k0_off86 v1706) a + S64x128.size a ≤ S64x1000000.size a := fun i v1706 k0_hw86 k0_h1 => k0_hw86.2 k0_h1

def k0_off87 (v1726 : BitVec 32) : Fin 2 → Nat :=
  let c0_i32_1776 : BitVec 32 := 0#32
  let c0_i32_690 : BitVec 32 := 0#32
  let v1728 : BitVec 1 := Scalar.cmpi .sgt v1726 c0_i32_690
  let v1729 : BitVec 32 := Scalar.extui v1728
  let c0_i32_691 : BitVec 32 := 0#32
  let v1730 : BitVec 1 := Scalar.cmpi .slt v1726 c0_i32_691
  let v1731 : BitVec 32 := Scalar.extui v1730
  let v1732 : BitVec 32 := Scalar.subi v1729 v1731
  let c128_i32_689 : BitVec 32 := 128#32
  let c0_i32_692 : BitVec 32 := 0#32
  let v1733 : BitVec 1 := Scalar.cmpi .sgt c128_i32_689 c0_i32_692
  let v1734 : BitVec 32 := Scalar.extui v1733
  let c0_i32_693 : BitVec 32 := 0#32
  let v1735 : BitVec 1 := Scalar.cmpi .slt c128_i32_689 c0_i32_693
  let v1736 : BitVec 32 := Scalar.extui v1735
  let v1737 : BitVec 32 := Scalar.subi v1734 v1736
  let v1738 : BitVec 1 := Scalar.cmpi .ne v1732 v1737
  let v1739 : BitVec 32 := Scalar.remsi v1726 c128_i32_689
  let c0_i32_694 : BitVec 32 := 0#32
  let v1740 : BitVec 1 := Scalar.cmpi .ne v1739 c0_i32_694
  let v1741 : BitVec 1 := Scalar.andi v1738 v1740
  let v1727 : BitVec 32 := Scalar.divsi v1726 c128_i32_689
  let c1_i32_695 : BitVec 32 := 1#32
  let v1742 : BitVec 32 := Scalar.subi v1727 c1_i32_695
  let v1743 : BitVec 32 := Scalar.select v1741 v1742 v1727
  let c128_i32_696 : BitVec 32 := 128#32
  let v1744 : BitVec 32 := Scalar.muli v1743 c128_i32_696
  let v1745 : BitVec 32 := v1744
  ![0, v1745.toNat]

def k0_chk87 (i : grid0.Coords) (v1726 : BitVec 32) : Prop :=
  (∀ (k0_h1 : k0_cond1 i = 1#1), 128 ∣ (k0_mult87 v1726).toNat) ∧
  (∀ (k0_h1 : k0_cond1 i = 1#1), ∀ a, (k0_off87 v1726) a + S64x128.size a ≤ S64x1000000.size a)
theorem k0_mult87_dvd : ∀ (i : grid0.Coords) (v1726 : BitVec 32) (k0_hw87 : k0_chk87 i v1726), ∀ (k0_h1 : k0_cond1 i = 1#1), 128 ∣ (k0_mult87 v1726).toNat := fun i v1726 k0_hw87 k0_h1 => k0_hw87.1 k0_h1
theorem k0_off87_inb : ∀ (i : grid0.Coords) (v1726 : BitVec 32) (k0_hw87 : k0_chk87 i v1726), ∀ (k0_h1 : k0_cond1 i = 1#1), ∀ a, (k0_off87 v1726) a + S64x128.size a ≤ S64x1000000.size a := fun i v1726 k0_hw87 k0_h1 => k0_hw87.2 k0_h1

def k0_off88 (v1746 : BitVec 32) : Fin 2 → Nat :=
  let c0_i32_1778 : BitVec 32 := 0#32
  let c0_i32_698 : BitVec 32 := 0#32
  let v1748 : BitVec 1 := Scalar.cmpi .sgt v1746 c0_i32_698
  let v1749 : BitVec 32 := Scalar.extui v1748
  let c0_i32_699 : BitVec 32 := 0#32
  let v1750 : BitVec 1 := Scalar.cmpi .slt v1746 c0_i32_699
  let v1751 : BitVec 32 := Scalar.extui v1750
  let v1752 : BitVec 32 := Scalar.subi v1749 v1751
  let c128_i32_697 : BitVec 32 := 128#32
  let c0_i32_700 : BitVec 32 := 0#32
  let v1753 : BitVec 1 := Scalar.cmpi .sgt c128_i32_697 c0_i32_700
  let v1754 : BitVec 32 := Scalar.extui v1753
  let c0_i32_701 : BitVec 32 := 0#32
  let v1755 : BitVec 1 := Scalar.cmpi .slt c128_i32_697 c0_i32_701
  let v1756 : BitVec 32 := Scalar.extui v1755
  let v1757 : BitVec 32 := Scalar.subi v1754 v1756
  let v1758 : BitVec 1 := Scalar.cmpi .ne v1752 v1757
  let v1759 : BitVec 32 := Scalar.remsi v1746 c128_i32_697
  let c0_i32_702 : BitVec 32 := 0#32
  let v1760 : BitVec 1 := Scalar.cmpi .ne v1759 c0_i32_702
  let v1761 : BitVec 1 := Scalar.andi v1758 v1760
  let v1747 : BitVec 32 := Scalar.divsi v1746 c128_i32_697
  let c1_i32_703 : BitVec 32 := 1#32
  let v1762 : BitVec 32 := Scalar.subi v1747 c1_i32_703
  let v1763 : BitVec 32 := Scalar.select v1761 v1762 v1747
  let c128_i32_704 : BitVec 32 := 128#32
  let v1764 : BitVec 32 := Scalar.muli v1763 c128_i32_704
  let v1765 : BitVec 32 := v1764
  ![0, v1765.toNat]

def k0_chk88 (i : grid0.Coords) (v1746 : BitVec 32) : Prop :=
  (∀ (k0_h1 : k0_cond1 i = 1#1), 128 ∣ (k0_mult88 v1746).toNat) ∧
  (∀ (k0_h1 : k0_cond1 i = 1#1), ∀ a, (k0_off88 v1746) a + S64x128.size a ≤ S64x1000000.size a)
theorem k0_mult88_dvd : ∀ (i : grid0.Coords) (v1746 : BitVec 32) (k0_hw88 : k0_chk88 i v1746), ∀ (k0_h1 : k0_cond1 i = 1#1), 128 ∣ (k0_mult88 v1746).toNat := fun i v1746 k0_hw88 k0_h1 => k0_hw88.1 k0_h1
theorem k0_off88_inb : ∀ (i : grid0.Coords) (v1746 : BitVec 32) (k0_hw88 : k0_chk88 i v1746), ∀ (k0_h1 : k0_cond1 i = 1#1), ∀ a, (k0_off88 v1746) a + S64x128.size a ≤ S64x1000000.size a := fun i v1746 k0_hw88 k0_h1 => k0_hw88.2 k0_h1

def k0_off89 (v1766 : BitVec 32) : Fin 2 → Nat :=
  let c0_i32_1780 : BitVec 32 := 0#32
  let c0_i32_706 : BitVec 32 := 0#32
  let v1768 : BitVec 1 := Scalar.cmpi .sgt v1766 c0_i32_706
  let v1769 : BitVec 32 := Scalar.extui v1768
  let c0_i32_707 : BitVec 32 := 0#32
  let v1770 : BitVec 1 := Scalar.cmpi .slt v1766 c0_i32_707
  let v1771 : BitVec 32 := Scalar.extui v1770
  let v1772 : BitVec 32 := Scalar.subi v1769 v1771
  let c128_i32_705 : BitVec 32 := 128#32
  let c0_i32_708 : BitVec 32 := 0#32
  let v1773 : BitVec 1 := Scalar.cmpi .sgt c128_i32_705 c0_i32_708
  let v1774 : BitVec 32 := Scalar.extui v1773
  let c0_i32_709 : BitVec 32 := 0#32
  let v1775 : BitVec 1 := Scalar.cmpi .slt c128_i32_705 c0_i32_709
  let v1776 : BitVec 32 := Scalar.extui v1775
  let v1777 : BitVec 32 := Scalar.subi v1774 v1776
  let v1778 : BitVec 1 := Scalar.cmpi .ne v1772 v1777
  let v1779 : BitVec 32 := Scalar.remsi v1766 c128_i32_705
  let c0_i32_710 : BitVec 32 := 0#32
  let v1780 : BitVec 1 := Scalar.cmpi .ne v1779 c0_i32_710
  let v1781 : BitVec 1 := Scalar.andi v1778 v1780
  let v1767 : BitVec 32 := Scalar.divsi v1766 c128_i32_705
  let c1_i32_711 : BitVec 32 := 1#32
  let v1782 : BitVec 32 := Scalar.subi v1767 c1_i32_711
  let v1783 : BitVec 32 := Scalar.select v1781 v1782 v1767
  let c128_i32_712 : BitVec 32 := 128#32
  let v1784 : BitVec 32 := Scalar.muli v1783 c128_i32_712
  let v1785 : BitVec 32 := v1784
  ![0, v1785.toNat]

def k0_chk89 (i : grid0.Coords) (v1766 : BitVec 32) : Prop :=
  (∀ (k0_h1 : k0_cond1 i = 1#1), 128 ∣ (k0_mult89 v1766).toNat) ∧
  (∀ (k0_h1 : k0_cond1 i = 1#1), ∀ a, (k0_off89 v1766) a + S64x128.size a ≤ S64x1000000.size a)
theorem k0_mult89_dvd : ∀ (i : grid0.Coords) (v1766 : BitVec 32) (k0_hw89 : k0_chk89 i v1766), ∀ (k0_h1 : k0_cond1 i = 1#1), 128 ∣ (k0_mult89 v1766).toNat := fun i v1766 k0_hw89 k0_h1 => k0_hw89.1 k0_h1
theorem k0_off89_inb : ∀ (i : grid0.Coords) (v1766 : BitVec 32) (k0_hw89 : k0_chk89 i v1766), ∀ (k0_h1 : k0_cond1 i = 1#1), ∀ a, (k0_off89 v1766) a + S64x128.size a ≤ S64x1000000.size a := fun i v1766 k0_hw89 k0_h1 => k0_hw89.2 k0_h1

def k0_off90 (v1786 : BitVec 32) : Fin 2 → Nat :=
  let c0_i32_1782 : BitVec 32 := 0#32
  let c0_i32_714 : BitVec 32 := 0#32
  let v1788 : BitVec 1 := Scalar.cmpi .sgt v1786 c0_i32_714
  let v1789 : BitVec 32 := Scalar.extui v1788
  let c0_i32_715 : BitVec 32 := 0#32
  let v1790 : BitVec 1 := Scalar.cmpi .slt v1786 c0_i32_715
  let v1791 : BitVec 32 := Scalar.extui v1790
  let v1792 : BitVec 32 := Scalar.subi v1789 v1791
  let c128_i32_713 : BitVec 32 := 128#32
  let c0_i32_716 : BitVec 32 := 0#32
  let v1793 : BitVec 1 := Scalar.cmpi .sgt c128_i32_713 c0_i32_716
  let v1794 : BitVec 32 := Scalar.extui v1793
  let c0_i32_717 : BitVec 32 := 0#32
  let v1795 : BitVec 1 := Scalar.cmpi .slt c128_i32_713 c0_i32_717
  let v1796 : BitVec 32 := Scalar.extui v1795
  let v1797 : BitVec 32 := Scalar.subi v1794 v1796
  let v1798 : BitVec 1 := Scalar.cmpi .ne v1792 v1797
  let v1799 : BitVec 32 := Scalar.remsi v1786 c128_i32_713
  let c0_i32_718 : BitVec 32 := 0#32
  let v1800 : BitVec 1 := Scalar.cmpi .ne v1799 c0_i32_718
  let v1801 : BitVec 1 := Scalar.andi v1798 v1800
  let v1787 : BitVec 32 := Scalar.divsi v1786 c128_i32_713
  let c1_i32_719 : BitVec 32 := 1#32
  let v1802 : BitVec 32 := Scalar.subi v1787 c1_i32_719
  let v1803 : BitVec 32 := Scalar.select v1801 v1802 v1787
  let c128_i32_720 : BitVec 32 := 128#32
  let v1804 : BitVec 32 := Scalar.muli v1803 c128_i32_720
  let v1805 : BitVec 32 := v1804
  ![0, v1805.toNat]

def k0_chk90 (i : grid0.Coords) (v1786 : BitVec 32) : Prop :=
  (∀ (k0_h1 : k0_cond1 i = 1#1), 128 ∣ (k0_mult90 v1786).toNat) ∧
  (∀ (k0_h1 : k0_cond1 i = 1#1), ∀ a, (k0_off90 v1786) a + S64x128.size a ≤ S64x1000000.size a)
theorem k0_mult90_dvd : ∀ (i : grid0.Coords) (v1786 : BitVec 32) (k0_hw90 : k0_chk90 i v1786), ∀ (k0_h1 : k0_cond1 i = 1#1), 128 ∣ (k0_mult90 v1786).toNat := fun i v1786 k0_hw90 k0_h1 => k0_hw90.1 k0_h1
theorem k0_off90_inb : ∀ (i : grid0.Coords) (v1786 : BitVec 32) (k0_hw90 : k0_chk90 i v1786), ∀ (k0_h1 : k0_cond1 i = 1#1), ∀ a, (k0_off90 v1786) a + S64x128.size a ≤ S64x1000000.size a := fun i v1786 k0_hw90 k0_h1 => k0_hw90.2 k0_h1

def k0_off91 (v1806 : BitVec 32) : Fin 2 → Nat :=
  let c0_i32_1784 : BitVec 32 := 0#32
  let c0_i32_722 : BitVec 32 := 0#32
  let v1808 : BitVec 1 := Scalar.cmpi .sgt v1806 c0_i32_722
  let v1809 : BitVec 32 := Scalar.extui v1808
  let c0_i32_723 : BitVec 32 := 0#32
  let v1810 : BitVec 1 := Scalar.cmpi .slt v1806 c0_i32_723
  let v1811 : BitVec 32 := Scalar.extui v1810
  let v1812 : BitVec 32 := Scalar.subi v1809 v1811
  let c128_i32_721 : BitVec 32 := 128#32
  let c0_i32_724 : BitVec 32 := 0#32
  let v1813 : BitVec 1 := Scalar.cmpi .sgt c128_i32_721 c0_i32_724
  let v1814 : BitVec 32 := Scalar.extui v1813
  let c0_i32_725 : BitVec 32 := 0#32
  let v1815 : BitVec 1 := Scalar.cmpi .slt c128_i32_721 c0_i32_725
  let v1816 : BitVec 32 := Scalar.extui v1815
  let v1817 : BitVec 32 := Scalar.subi v1814 v1816
  let v1818 : BitVec 1 := Scalar.cmpi .ne v1812 v1817
  let v1819 : BitVec 32 := Scalar.remsi v1806 c128_i32_721
  let c0_i32_726 : BitVec 32 := 0#32
  let v1820 : BitVec 1 := Scalar.cmpi .ne v1819 c0_i32_726
  let v1821 : BitVec 1 := Scalar.andi v1818 v1820
  let v1807 : BitVec 32 := Scalar.divsi v1806 c128_i32_721
  let c1_i32_727 : BitVec 32 := 1#32
  let v1822 : BitVec 32 := Scalar.subi v1807 c1_i32_727
  let v1823 : BitVec 32 := Scalar.select v1821 v1822 v1807
  let c128_i32_728 : BitVec 32 := 128#32
  let v1824 : BitVec 32 := Scalar.muli v1823 c128_i32_728
  let v1825 : BitVec 32 := v1824
  ![0, v1825.toNat]

def k0_chk91 (i : grid0.Coords) (v1806 : BitVec 32) : Prop :=
  (∀ (k0_h1 : k0_cond1 i = 1#1), 128 ∣ (k0_mult91 v1806).toNat) ∧
  (∀ (k0_h1 : k0_cond1 i = 1#1), ∀ a, (k0_off91 v1806) a + S64x128.size a ≤ S64x1000000.size a)
theorem k0_mult91_dvd : ∀ (i : grid0.Coords) (v1806 : BitVec 32) (k0_hw91 : k0_chk91 i v1806), ∀ (k0_h1 : k0_cond1 i = 1#1), 128 ∣ (k0_mult91 v1806).toNat := fun i v1806 k0_hw91 k0_h1 => k0_hw91.1 k0_h1
theorem k0_off91_inb : ∀ (i : grid0.Coords) (v1806 : BitVec 32) (k0_hw91 : k0_chk91 i v1806), ∀ (k0_h1 : k0_cond1 i = 1#1), ∀ a, (k0_off91 v1806) a + S64x128.size a ≤ S64x1000000.size a := fun i v1806 k0_hw91 k0_h1 => k0_hw91.2 k0_h1

def k0_off92 (v1826 : BitVec 32) : Fin 2 → Nat :=
  let c0_i32_1786 : BitVec 32 := 0#32
  let c0_i32_730 : BitVec 32 := 0#32
  let v1828 : BitVec 1 := Scalar.cmpi .sgt v1826 c0_i32_730
  let v1829 : BitVec 32 := Scalar.extui v1828
  let c0_i32_731 : BitVec 32 := 0#32
  let v1830 : BitVec 1 := Scalar.cmpi .slt v1826 c0_i32_731
  let v1831 : BitVec 32 := Scalar.extui v1830
  let v1832 : BitVec 32 := Scalar.subi v1829 v1831
  let c128_i32_729 : BitVec 32 := 128#32
  let c0_i32_732 : BitVec 32 := 0#32
  let v1833 : BitVec 1 := Scalar.cmpi .sgt c128_i32_729 c0_i32_732
  let v1834 : BitVec 32 := Scalar.extui v1833
  let c0_i32_733 : BitVec 32 := 0#32
  let v1835 : BitVec 1 := Scalar.cmpi .slt c128_i32_729 c0_i32_733
  let v1836 : BitVec 32 := Scalar.extui v1835
  let v1837 : BitVec 32 := Scalar.subi v1834 v1836
  let v1838 : BitVec 1 := Scalar.cmpi .ne v1832 v1837
  let v1839 : BitVec 32 := Scalar.remsi v1826 c128_i32_729
  let c0_i32_734 : BitVec 32 := 0#32
  let v1840 : BitVec 1 := Scalar.cmpi .ne v1839 c0_i32_734
  let v1841 : BitVec 1 := Scalar.andi v1838 v1840
  let v1827 : BitVec 32 := Scalar.divsi v1826 c128_i32_729
  let c1_i32_735 : BitVec 32 := 1#32
  let v1842 : BitVec 32 := Scalar.subi v1827 c1_i32_735
  let v1843 : BitVec 32 := Scalar.select v1841 v1842 v1827
  let c128_i32_736 : BitVec 32 := 128#32
  let v1844 : BitVec 32 := Scalar.muli v1843 c128_i32_736
  let v1845 : BitVec 32 := v1844
  ![0, v1845.toNat]

def k0_chk92 (i : grid0.Coords) (v1826 : BitVec 32) : Prop :=
  (∀ (k0_h1 : k0_cond1 i = 1#1), 128 ∣ (k0_mult92 v1826).toNat) ∧
  (∀ (k0_h1 : k0_cond1 i = 1#1), ∀ a, (k0_off92 v1826) a + S64x128.size a ≤ S64x1000000.size a)
theorem k0_mult92_dvd : ∀ (i : grid0.Coords) (v1826 : BitVec 32) (k0_hw92 : k0_chk92 i v1826), ∀ (k0_h1 : k0_cond1 i = 1#1), 128 ∣ (k0_mult92 v1826).toNat := fun i v1826 k0_hw92 k0_h1 => k0_hw92.1 k0_h1
theorem k0_off92_inb : ∀ (i : grid0.Coords) (v1826 : BitVec 32) (k0_hw92 : k0_chk92 i v1826), ∀ (k0_h1 : k0_cond1 i = 1#1), ∀ a, (k0_off92 v1826) a + S64x128.size a ≤ S64x1000000.size a := fun i v1826 k0_hw92 k0_h1 => k0_hw92.2 k0_h1

def k0_off93 (v1846 : BitVec 32) : Fin 2 → Nat :=
  let c0_i32_1788 : BitVec 32 := 0#32
  let c0_i32_738 : BitVec 32 := 0#32
  let v1848 : BitVec 1 := Scalar.cmpi .sgt v1846 c0_i32_738
  let v1849 : BitVec 32 := Scalar.extui v1848
  let c0_i32_739 : BitVec 32 := 0#32
  let v1850 : BitVec 1 := Scalar.cmpi .slt v1846 c0_i32_739
  let v1851 : BitVec 32 := Scalar.extui v1850
  let v1852 : BitVec 32 := Scalar.subi v1849 v1851
  let c128_i32_737 : BitVec 32 := 128#32
  let c0_i32_740 : BitVec 32 := 0#32
  let v1853 : BitVec 1 := Scalar.cmpi .sgt c128_i32_737 c0_i32_740
  let v1854 : BitVec 32 := Scalar.extui v1853
  let c0_i32_741 : BitVec 32 := 0#32
  let v1855 : BitVec 1 := Scalar.cmpi .slt c128_i32_737 c0_i32_741
  let v1856 : BitVec 32 := Scalar.extui v1855
  let v1857 : BitVec 32 := Scalar.subi v1854 v1856
  let v1858 : BitVec 1 := Scalar.cmpi .ne v1852 v1857
  let v1859 : BitVec 32 := Scalar.remsi v1846 c128_i32_737
  let c0_i32_742 : BitVec 32 := 0#32
  let v1860 : BitVec 1 := Scalar.cmpi .ne v1859 c0_i32_742
  let v1861 : BitVec 1 := Scalar.andi v1858 v1860
  let v1847 : BitVec 32 := Scalar.divsi v1846 c128_i32_737
  let c1_i32_743 : BitVec 32 := 1#32
  let v1862 : BitVec 32 := Scalar.subi v1847 c1_i32_743
  let v1863 : BitVec 32 := Scalar.select v1861 v1862 v1847
  let c128_i32_744 : BitVec 32 := 128#32
  let v1864 : BitVec 32 := Scalar.muli v1863 c128_i32_744
  let v1865 : BitVec 32 := v1864
  ![0, v1865.toNat]

def k0_chk93 (i : grid0.Coords) (v1846 : BitVec 32) : Prop :=
  (∀ (k0_h1 : k0_cond1 i = 1#1), 128 ∣ (k0_mult93 v1846).toNat) ∧
  (∀ (k0_h1 : k0_cond1 i = 1#1), ∀ a, (k0_off93 v1846) a + S64x128.size a ≤ S64x1000000.size a)
theorem k0_mult93_dvd : ∀ (i : grid0.Coords) (v1846 : BitVec 32) (k0_hw93 : k0_chk93 i v1846), ∀ (k0_h1 : k0_cond1 i = 1#1), 128 ∣ (k0_mult93 v1846).toNat := fun i v1846 k0_hw93 k0_h1 => k0_hw93.1 k0_h1
theorem k0_off93_inb : ∀ (i : grid0.Coords) (v1846 : BitVec 32) (k0_hw93 : k0_chk93 i v1846), ∀ (k0_h1 : k0_cond1 i = 1#1), ∀ a, (k0_off93 v1846) a + S64x128.size a ≤ S64x1000000.size a := fun i v1846 k0_hw93 k0_h1 => k0_hw93.2 k0_h1

def k0_off94 (v1866 : BitVec 32) : Fin 2 → Nat :=
  let c0_i32_1790 : BitVec 32 := 0#32
  let c0_i32_746 : BitVec 32 := 0#32
  let v1868 : BitVec 1 := Scalar.cmpi .sgt v1866 c0_i32_746
  let v1869 : BitVec 32 := Scalar.extui v1868
  let c0_i32_747 : BitVec 32 := 0#32
  let v1870 : BitVec 1 := Scalar.cmpi .slt v1866 c0_i32_747
  let v1871 : BitVec 32 := Scalar.extui v1870
  let v1872 : BitVec 32 := Scalar.subi v1869 v1871
  let c128_i32_745 : BitVec 32 := 128#32
  let c0_i32_748 : BitVec 32 := 0#32
  let v1873 : BitVec 1 := Scalar.cmpi .sgt c128_i32_745 c0_i32_748
  let v1874 : BitVec 32 := Scalar.extui v1873
  let c0_i32_749 : BitVec 32 := 0#32
  let v1875 : BitVec 1 := Scalar.cmpi .slt c128_i32_745 c0_i32_749
  let v1876 : BitVec 32 := Scalar.extui v1875
  let v1877 : BitVec 32 := Scalar.subi v1874 v1876
  let v1878 : BitVec 1 := Scalar.cmpi .ne v1872 v1877
  let v1879 : BitVec 32 := Scalar.remsi v1866 c128_i32_745
  let c0_i32_750 : BitVec 32 := 0#32
  let v1880 : BitVec 1 := Scalar.cmpi .ne v1879 c0_i32_750
  let v1881 : BitVec 1 := Scalar.andi v1878 v1880
  let v1867 : BitVec 32 := Scalar.divsi v1866 c128_i32_745
  let c1_i32_751 : BitVec 32 := 1#32
  let v1882 : BitVec 32 := Scalar.subi v1867 c1_i32_751
  let v1883 : BitVec 32 := Scalar.select v1881 v1882 v1867
  let c128_i32_752 : BitVec 32 := 128#32
  let v1884 : BitVec 32 := Scalar.muli v1883 c128_i32_752
  let v1885 : BitVec 32 := v1884
  ![0, v1885.toNat]

def k0_chk94 (i : grid0.Coords) (v1866 : BitVec 32) : Prop :=
  (∀ (k0_h1 : k0_cond1 i = 1#1), 128 ∣ (k0_mult94 v1866).toNat) ∧
  (∀ (k0_h1 : k0_cond1 i = 1#1), ∀ a, (k0_off94 v1866) a + S64x128.size a ≤ S64x1000000.size a)
theorem k0_mult94_dvd : ∀ (i : grid0.Coords) (v1866 : BitVec 32) (k0_hw94 : k0_chk94 i v1866), ∀ (k0_h1 : k0_cond1 i = 1#1), 128 ∣ (k0_mult94 v1866).toNat := fun i v1866 k0_hw94 k0_h1 => k0_hw94.1 k0_h1
theorem k0_off94_inb : ∀ (i : grid0.Coords) (v1866 : BitVec 32) (k0_hw94 : k0_chk94 i v1866), ∀ (k0_h1 : k0_cond1 i = 1#1), ∀ a, (k0_off94 v1866) a + S64x128.size a ≤ S64x1000000.size a := fun i v1866 k0_hw94 k0_h1 => k0_hw94.2 k0_h1

def k0_off95 (v1886 : BitVec 32) : Fin 2 → Nat :=
  let c0_i32_1792 : BitVec 32 := 0#32
  let c0_i32_754 : BitVec 32 := 0#32
  let v1888 : BitVec 1 := Scalar.cmpi .sgt v1886 c0_i32_754
  let v1889 : BitVec 32 := Scalar.extui v1888
  let c0_i32_755 : BitVec 32 := 0#32
  let v1890 : BitVec 1 := Scalar.cmpi .slt v1886 c0_i32_755
  let v1891 : BitVec 32 := Scalar.extui v1890
  let v1892 : BitVec 32 := Scalar.subi v1889 v1891
  let c128_i32_753 : BitVec 32 := 128#32
  let c0_i32_756 : BitVec 32 := 0#32
  let v1893 : BitVec 1 := Scalar.cmpi .sgt c128_i32_753 c0_i32_756
  let v1894 : BitVec 32 := Scalar.extui v1893
  let c0_i32_757 : BitVec 32 := 0#32
  let v1895 : BitVec 1 := Scalar.cmpi .slt c128_i32_753 c0_i32_757
  let v1896 : BitVec 32 := Scalar.extui v1895
  let v1897 : BitVec 32 := Scalar.subi v1894 v1896
  let v1898 : BitVec 1 := Scalar.cmpi .ne v1892 v1897
  let v1899 : BitVec 32 := Scalar.remsi v1886 c128_i32_753
  let c0_i32_758 : BitVec 32 := 0#32
  let v1900 : BitVec 1 := Scalar.cmpi .ne v1899 c0_i32_758
  let v1901 : BitVec 1 := Scalar.andi v1898 v1900
  let v1887 : BitVec 32 := Scalar.divsi v1886 c128_i32_753
  let c1_i32_759 : BitVec 32 := 1#32
  let v1902 : BitVec 32 := Scalar.subi v1887 c1_i32_759
  let v1903 : BitVec 32 := Scalar.select v1901 v1902 v1887
  let c128_i32_760 : BitVec 32 := 128#32
  let v1904 : BitVec 32 := Scalar.muli v1903 c128_i32_760
  let v1905 : BitVec 32 := v1904
  ![0, v1905.toNat]

def k0_chk95 (i : grid0.Coords) (v1886 : BitVec 32) : Prop :=
  (∀ (k0_h1 : k0_cond1 i = 1#1), 128 ∣ (k0_mult95 v1886).toNat) ∧
  (∀ (k0_h1 : k0_cond1 i = 1#1), ∀ a, (k0_off95 v1886) a + S64x128.size a ≤ S64x1000000.size a)
theorem k0_mult95_dvd : ∀ (i : grid0.Coords) (v1886 : BitVec 32) (k0_hw95 : k0_chk95 i v1886), ∀ (k0_h1 : k0_cond1 i = 1#1), 128 ∣ (k0_mult95 v1886).toNat := fun i v1886 k0_hw95 k0_h1 => k0_hw95.1 k0_h1
theorem k0_off95_inb : ∀ (i : grid0.Coords) (v1886 : BitVec 32) (k0_hw95 : k0_chk95 i v1886), ∀ (k0_h1 : k0_cond1 i = 1#1), ∀ a, (k0_off95 v1886) a + S64x128.size a ≤ S64x1000000.size a := fun i v1886 k0_hw95 k0_h1 => k0_hw95.2 k0_h1

def k0_off96 (v1906 : BitVec 32) : Fin 2 → Nat :=
  let c0_i32_1794 : BitVec 32 := 0#32
  let c0_i32_762 : BitVec 32 := 0#32
  let v1908 : BitVec 1 := Scalar.cmpi .sgt v1906 c0_i32_762
  let v1909 : BitVec 32 := Scalar.extui v1908
  let c0_i32_763 : BitVec 32 := 0#32
  let v1910 : BitVec 1 := Scalar.cmpi .slt v1906 c0_i32_763
  let v1911 : BitVec 32 := Scalar.extui v1910
  let v1912 : BitVec 32 := Scalar.subi v1909 v1911
  let c128_i32_761 : BitVec 32 := 128#32
  let c0_i32_764 : BitVec 32 := 0#32
  let v1913 : BitVec 1 := Scalar.cmpi .sgt c128_i32_761 c0_i32_764
  let v1914 : BitVec 32 := Scalar.extui v1913
  let c0_i32_765 : BitVec 32 := 0#32
  let v1915 : BitVec 1 := Scalar.cmpi .slt c128_i32_761 c0_i32_765
  let v1916 : BitVec 32 := Scalar.extui v1915
  let v1917 : BitVec 32 := Scalar.subi v1914 v1916
  let v1918 : BitVec 1 := Scalar.cmpi .ne v1912 v1917
  let v1919 : BitVec 32 := Scalar.remsi v1906 c128_i32_761
  let c0_i32_766 : BitVec 32 := 0#32
  let v1920 : BitVec 1 := Scalar.cmpi .ne v1919 c0_i32_766
  let v1921 : BitVec 1 := Scalar.andi v1918 v1920
  let v1907 : BitVec 32 := Scalar.divsi v1906 c128_i32_761
  let c1_i32_767 : BitVec 32 := 1#32
  let v1922 : BitVec 32 := Scalar.subi v1907 c1_i32_767
  let v1923 : BitVec 32 := Scalar.select v1921 v1922 v1907
  let c128_i32_768 : BitVec 32 := 128#32
  let v1924 : BitVec 32 := Scalar.muli v1923 c128_i32_768
  let v1925 : BitVec 32 := v1924
  ![0, v1925.toNat]

def k0_chk96 (i : grid0.Coords) (v1906 : BitVec 32) : Prop :=
  (∀ (k0_h1 : k0_cond1 i = 1#1), 128 ∣ (k0_mult96 v1906).toNat) ∧
  (∀ (k0_h1 : k0_cond1 i = 1#1), ∀ a, (k0_off96 v1906) a + S64x128.size a ≤ S64x1000000.size a)
theorem k0_mult96_dvd : ∀ (i : grid0.Coords) (v1906 : BitVec 32) (k0_hw96 : k0_chk96 i v1906), ∀ (k0_h1 : k0_cond1 i = 1#1), 128 ∣ (k0_mult96 v1906).toNat := fun i v1906 k0_hw96 k0_h1 => k0_hw96.1 k0_h1
theorem k0_off96_inb : ∀ (i : grid0.Coords) (v1906 : BitVec 32) (k0_hw96 : k0_chk96 i v1906), ∀ (k0_h1 : k0_cond1 i = 1#1), ∀ a, (k0_off96 v1906) a + S64x128.size a ≤ S64x1000000.size a := fun i v1906 k0_hw96 k0_h1 => k0_hw96.2 k0_h1

def k0_off97 (v1926 : BitVec 32) : Fin 2 → Nat :=
  let c0_i32_1796 : BitVec 32 := 0#32
  let c0_i32_770 : BitVec 32 := 0#32
  let v1928 : BitVec 1 := Scalar.cmpi .sgt v1926 c0_i32_770
  let v1929 : BitVec 32 := Scalar.extui v1928
  let c0_i32_771 : BitVec 32 := 0#32
  let v1930 : BitVec 1 := Scalar.cmpi .slt v1926 c0_i32_771
  let v1931 : BitVec 32 := Scalar.extui v1930
  let v1932 : BitVec 32 := Scalar.subi v1929 v1931
  let c128_i32_769 : BitVec 32 := 128#32
  let c0_i32_772 : BitVec 32 := 0#32
  let v1933 : BitVec 1 := Scalar.cmpi .sgt c128_i32_769 c0_i32_772
  let v1934 : BitVec 32 := Scalar.extui v1933
  let c0_i32_773 : BitVec 32 := 0#32
  let v1935 : BitVec 1 := Scalar.cmpi .slt c128_i32_769 c0_i32_773
  let v1936 : BitVec 32 := Scalar.extui v1935
  let v1937 : BitVec 32 := Scalar.subi v1934 v1936
  let v1938 : BitVec 1 := Scalar.cmpi .ne v1932 v1937
  let v1939 : BitVec 32 := Scalar.remsi v1926 c128_i32_769
  let c0_i32_774 : BitVec 32 := 0#32
  let v1940 : BitVec 1 := Scalar.cmpi .ne v1939 c0_i32_774
  let v1941 : BitVec 1 := Scalar.andi v1938 v1940
  let v1927 : BitVec 32 := Scalar.divsi v1926 c128_i32_769
  let c1_i32_775 : BitVec 32 := 1#32
  let v1942 : BitVec 32 := Scalar.subi v1927 c1_i32_775
  let v1943 : BitVec 32 := Scalar.select v1941 v1942 v1927
  let c128_i32_776 : BitVec 32 := 128#32
  let v1944 : BitVec 32 := Scalar.muli v1943 c128_i32_776
  let v1945 : BitVec 32 := v1944
  ![0, v1945.toNat]

def k0_chk97 (i : grid0.Coords) (v1926 : BitVec 32) : Prop :=
  (∀ (k0_h1 : k0_cond1 i = 1#1), 128 ∣ (k0_mult97 v1926).toNat) ∧
  (∀ (k0_h1 : k0_cond1 i = 1#1), ∀ a, (k0_off97 v1926) a + S64x128.size a ≤ S64x1000000.size a)
theorem k0_mult97_dvd : ∀ (i : grid0.Coords) (v1926 : BitVec 32) (k0_hw97 : k0_chk97 i v1926), ∀ (k0_h1 : k0_cond1 i = 1#1), 128 ∣ (k0_mult97 v1926).toNat := fun i v1926 k0_hw97 k0_h1 => k0_hw97.1 k0_h1
theorem k0_off97_inb : ∀ (i : grid0.Coords) (v1926 : BitVec 32) (k0_hw97 : k0_chk97 i v1926), ∀ (k0_h1 : k0_cond1 i = 1#1), ∀ a, (k0_off97 v1926) a + S64x128.size a ≤ S64x1000000.size a := fun i v1926 k0_hw97 k0_h1 => k0_hw97.2 k0_h1

def k0_off98 (v1946 : BitVec 32) : Fin 2 → Nat :=
  let c0_i32_1798 : BitVec 32 := 0#32
  let c0_i32_778 : BitVec 32 := 0#32
  let v1948 : BitVec 1 := Scalar.cmpi .sgt v1946 c0_i32_778
  let v1949 : BitVec 32 := Scalar.extui v1948
  let c0_i32_779 : BitVec 32 := 0#32
  let v1950 : BitVec 1 := Scalar.cmpi .slt v1946 c0_i32_779
  let v1951 : BitVec 32 := Scalar.extui v1950
  let v1952 : BitVec 32 := Scalar.subi v1949 v1951
  let c128_i32_777 : BitVec 32 := 128#32
  let c0_i32_780 : BitVec 32 := 0#32
  let v1953 : BitVec 1 := Scalar.cmpi .sgt c128_i32_777 c0_i32_780
  let v1954 : BitVec 32 := Scalar.extui v1953
  let c0_i32_781 : BitVec 32 := 0#32
  let v1955 : BitVec 1 := Scalar.cmpi .slt c128_i32_777 c0_i32_781
  let v1956 : BitVec 32 := Scalar.extui v1955
  let v1957 : BitVec 32 := Scalar.subi v1954 v1956
  let v1958 : BitVec 1 := Scalar.cmpi .ne v1952 v1957
  let v1959 : BitVec 32 := Scalar.remsi v1946 c128_i32_777
  let c0_i32_782 : BitVec 32 := 0#32
  let v1960 : BitVec 1 := Scalar.cmpi .ne v1959 c0_i32_782
  let v1961 : BitVec 1 := Scalar.andi v1958 v1960
  let v1947 : BitVec 32 := Scalar.divsi v1946 c128_i32_777
  let c1_i32_783 : BitVec 32 := 1#32
  let v1962 : BitVec 32 := Scalar.subi v1947 c1_i32_783
  let v1963 : BitVec 32 := Scalar.select v1961 v1962 v1947
  let c128_i32_784 : BitVec 32 := 128#32
  let v1964 : BitVec 32 := Scalar.muli v1963 c128_i32_784
  let v1965 : BitVec 32 := v1964
  ![0, v1965.toNat]

def k0_chk98 (i : grid0.Coords) (v1946 : BitVec 32) : Prop :=
  (∀ (k0_h1 : k0_cond1 i = 1#1), 128 ∣ (k0_mult98 v1946).toNat) ∧
  (∀ (k0_h1 : k0_cond1 i = 1#1), ∀ a, (k0_off98 v1946) a + S64x128.size a ≤ S64x1000000.size a)
theorem k0_mult98_dvd : ∀ (i : grid0.Coords) (v1946 : BitVec 32) (k0_hw98 : k0_chk98 i v1946), ∀ (k0_h1 : k0_cond1 i = 1#1), 128 ∣ (k0_mult98 v1946).toNat := fun i v1946 k0_hw98 k0_h1 => k0_hw98.1 k0_h1
theorem k0_off98_inb : ∀ (i : grid0.Coords) (v1946 : BitVec 32) (k0_hw98 : k0_chk98 i v1946), ∀ (k0_h1 : k0_cond1 i = 1#1), ∀ a, (k0_off98 v1946) a + S64x128.size a ≤ S64x1000000.size a := fun i v1946 k0_hw98 k0_h1 => k0_hw98.2 k0_h1

def k0_off99 (v1966 : BitVec 32) : Fin 2 → Nat :=
  let c0_i32_1800 : BitVec 32 := 0#32
  let c0_i32_786 : BitVec 32 := 0#32
  let v1968 : BitVec 1 := Scalar.cmpi .sgt v1966 c0_i32_786
  let v1969 : BitVec 32 := Scalar.extui v1968
  let c0_i32_787 : BitVec 32 := 0#32
  let v1970 : BitVec 1 := Scalar.cmpi .slt v1966 c0_i32_787
  let v1971 : BitVec 32 := Scalar.extui v1970
  let v1972 : BitVec 32 := Scalar.subi v1969 v1971
  let c128_i32_785 : BitVec 32 := 128#32
  let c0_i32_788 : BitVec 32 := 0#32
  let v1973 : BitVec 1 := Scalar.cmpi .sgt c128_i32_785 c0_i32_788
  let v1974 : BitVec 32 := Scalar.extui v1973
  let c0_i32_789 : BitVec 32 := 0#32
  let v1975 : BitVec 1 := Scalar.cmpi .slt c128_i32_785 c0_i32_789
  let v1976 : BitVec 32 := Scalar.extui v1975
  let v1977 : BitVec 32 := Scalar.subi v1974 v1976
  let v1978 : BitVec 1 := Scalar.cmpi .ne v1972 v1977
  let v1979 : BitVec 32 := Scalar.remsi v1966 c128_i32_785
  let c0_i32_790 : BitVec 32 := 0#32
  let v1980 : BitVec 1 := Scalar.cmpi .ne v1979 c0_i32_790
  let v1981 : BitVec 1 := Scalar.andi v1978 v1980
  let v1967 : BitVec 32 := Scalar.divsi v1966 c128_i32_785
  let c1_i32_791 : BitVec 32 := 1#32
  let v1982 : BitVec 32 := Scalar.subi v1967 c1_i32_791
  let v1983 : BitVec 32 := Scalar.select v1981 v1982 v1967
  let c128_i32_792 : BitVec 32 := 128#32
  let v1984 : BitVec 32 := Scalar.muli v1983 c128_i32_792
  let v1985 : BitVec 32 := v1984
  ![0, v1985.toNat]

def k0_chk99 (i : grid0.Coords) (v1966 : BitVec 32) : Prop :=
  (∀ (k0_h1 : k0_cond1 i = 1#1), 128 ∣ (k0_mult99 v1966).toNat) ∧
  (∀ (k0_h1 : k0_cond1 i = 1#1), ∀ a, (k0_off99 v1966) a + S64x128.size a ≤ S64x1000000.size a)
theorem k0_mult99_dvd : ∀ (i : grid0.Coords) (v1966 : BitVec 32) (k0_hw99 : k0_chk99 i v1966), ∀ (k0_h1 : k0_cond1 i = 1#1), 128 ∣ (k0_mult99 v1966).toNat := fun i v1966 k0_hw99 k0_h1 => k0_hw99.1 k0_h1
theorem k0_off99_inb : ∀ (i : grid0.Coords) (v1966 : BitVec 32) (k0_hw99 : k0_chk99 i v1966), ∀ (k0_h1 : k0_cond1 i = 1#1), ∀ a, (k0_off99 v1966) a + S64x128.size a ≤ S64x1000000.size a := fun i v1966 k0_hw99 k0_h1 => k0_hw99.2 k0_h1

def k0_off100 (v1986 : BitVec 32) : Fin 2 → Nat :=
  let c0_i32_1802 : BitVec 32 := 0#32
  let c0_i32_794 : BitVec 32 := 0#32
  let v1988 : BitVec 1 := Scalar.cmpi .sgt v1986 c0_i32_794
  let v1989 : BitVec 32 := Scalar.extui v1988
  let c0_i32_795 : BitVec 32 := 0#32
  let v1990 : BitVec 1 := Scalar.cmpi .slt v1986 c0_i32_795
  let v1991 : BitVec 32 := Scalar.extui v1990
  let v1992 : BitVec 32 := Scalar.subi v1989 v1991
  let c128_i32_793 : BitVec 32 := 128#32
  let c0_i32_796 : BitVec 32 := 0#32
  let v1993 : BitVec 1 := Scalar.cmpi .sgt c128_i32_793 c0_i32_796
  let v1994 : BitVec 32 := Scalar.extui v1993
  let c0_i32_797 : BitVec 32 := 0#32
  let v1995 : BitVec 1 := Scalar.cmpi .slt c128_i32_793 c0_i32_797
  let v1996 : BitVec 32 := Scalar.extui v1995
  let v1997 : BitVec 32 := Scalar.subi v1994 v1996
  let v1998 : BitVec 1 := Scalar.cmpi .ne v1992 v1997
  let v1999 : BitVec 32 := Scalar.remsi v1986 c128_i32_793
  let c0_i32_798 : BitVec 32 := 0#32
  let v2000 : BitVec 1 := Scalar.cmpi .ne v1999 c0_i32_798
  let v2001 : BitVec 1 := Scalar.andi v1998 v2000
  let v1987 : BitVec 32 := Scalar.divsi v1986 c128_i32_793
  let c1_i32_799 : BitVec 32 := 1#32
  let v2002 : BitVec 32 := Scalar.subi v1987 c1_i32_799
  let v2003 : BitVec 32 := Scalar.select v2001 v2002 v1987
  let c128_i32_800 : BitVec 32 := 128#32
  let v2004 : BitVec 32 := Scalar.muli v2003 c128_i32_800
  let v2005 : BitVec 32 := v2004
  ![0, v2005.toNat]

def k0_chk100 (i : grid0.Coords) (v1986 : BitVec 32) : Prop :=
  (∀ (k0_h1 : k0_cond1 i = 1#1), 128 ∣ (k0_mult100 v1986).toNat) ∧
  (∀ (k0_h1 : k0_cond1 i = 1#1), ∀ a, (k0_off100 v1986) a + S64x128.size a ≤ S64x1000000.size a)
theorem k0_mult100_dvd : ∀ (i : grid0.Coords) (v1986 : BitVec 32) (k0_hw100 : k0_chk100 i v1986), ∀ (k0_h1 : k0_cond1 i = 1#1), 128 ∣ (k0_mult100 v1986).toNat := fun i v1986 k0_hw100 k0_h1 => k0_hw100.1 k0_h1
theorem k0_off100_inb : ∀ (i : grid0.Coords) (v1986 : BitVec 32) (k0_hw100 : k0_chk100 i v1986), ∀ (k0_h1 : k0_cond1 i = 1#1), ∀ a, (k0_off100 v1986) a + S64x128.size a ≤ S64x1000000.size a := fun i v1986 k0_hw100 k0_h1 => k0_hw100.2 k0_h1

def k0_off101 (v2006 : BitVec 32) : Fin 2 → Nat :=
  let c0_i32_1804 : BitVec 32 := 0#32
  let c0_i32_802 : BitVec 32 := 0#32
  let v2008 : BitVec 1 := Scalar.cmpi .sgt v2006 c0_i32_802
  let v2009 : BitVec 32 := Scalar.extui v2008
  let c0_i32_803 : BitVec 32 := 0#32
  let v2010 : BitVec 1 := Scalar.cmpi .slt v2006 c0_i32_803
  let v2011 : BitVec 32 := Scalar.extui v2010
  let v2012 : BitVec 32 := Scalar.subi v2009 v2011
  let c128_i32_801 : BitVec 32 := 128#32
  let c0_i32_804 : BitVec 32 := 0#32
  let v2013 : BitVec 1 := Scalar.cmpi .sgt c128_i32_801 c0_i32_804
  let v2014 : BitVec 32 := Scalar.extui v2013
  let c0_i32_805 : BitVec 32 := 0#32
  let v2015 : BitVec 1 := Scalar.cmpi .slt c128_i32_801 c0_i32_805
  let v2016 : BitVec 32 := Scalar.extui v2015
  let v2017 : BitVec 32 := Scalar.subi v2014 v2016
  let v2018 : BitVec 1 := Scalar.cmpi .ne v2012 v2017
  let v2019 : BitVec 32 := Scalar.remsi v2006 c128_i32_801
  let c0_i32_806 : BitVec 32 := 0#32
  let v2020 : BitVec 1 := Scalar.cmpi .ne v2019 c0_i32_806
  let v2021 : BitVec 1 := Scalar.andi v2018 v2020
  let v2007 : BitVec 32 := Scalar.divsi v2006 c128_i32_801
  let c1_i32_807 : BitVec 32 := 1#32
  let v2022 : BitVec 32 := Scalar.subi v2007 c1_i32_807
  let v2023 : BitVec 32 := Scalar.select v2021 v2022 v2007
  let c128_i32_808 : BitVec 32 := 128#32
  let v2024 : BitVec 32 := Scalar.muli v2023 c128_i32_808
  let v2025 : BitVec 32 := v2024
  ![0, v2025.toNat]

def k0_chk101 (i : grid0.Coords) (v2006 : BitVec 32) : Prop :=
  (∀ (k0_h1 : k0_cond1 i = 1#1), 128 ∣ (k0_mult101 v2006).toNat) ∧
  (∀ (k0_h1 : k0_cond1 i = 1#1), ∀ a, (k0_off101 v2006) a + S64x128.size a ≤ S64x1000000.size a)
theorem k0_mult101_dvd : ∀ (i : grid0.Coords) (v2006 : BitVec 32) (k0_hw101 : k0_chk101 i v2006), ∀ (k0_h1 : k0_cond1 i = 1#1), 128 ∣ (k0_mult101 v2006).toNat := fun i v2006 k0_hw101 k0_h1 => k0_hw101.1 k0_h1
theorem k0_off101_inb : ∀ (i : grid0.Coords) (v2006 : BitVec 32) (k0_hw101 : k0_chk101 i v2006), ∀ (k0_h1 : k0_cond1 i = 1#1), ∀ a, (k0_off101 v2006) a + S64x128.size a ≤ S64x1000000.size a := fun i v2006 k0_hw101 k0_h1 => k0_hw101.2 k0_h1

def k0_off102 (v2026 : BitVec 32) : Fin 2 → Nat :=
  let c0_i32_1806 : BitVec 32 := 0#32
  let c0_i32_810 : BitVec 32 := 0#32
  let v2028 : BitVec 1 := Scalar.cmpi .sgt v2026 c0_i32_810
  let v2029 : BitVec 32 := Scalar.extui v2028
  let c0_i32_811 : BitVec 32 := 0#32
  let v2030 : BitVec 1 := Scalar.cmpi .slt v2026 c0_i32_811
  let v2031 : BitVec 32 := Scalar.extui v2030
  let v2032 : BitVec 32 := Scalar.subi v2029 v2031
  let c128_i32_809 : BitVec 32 := 128#32
  let c0_i32_812 : BitVec 32 := 0#32
  let v2033 : BitVec 1 := Scalar.cmpi .sgt c128_i32_809 c0_i32_812
  let v2034 : BitVec 32 := Scalar.extui v2033
  let c0_i32_813 : BitVec 32 := 0#32
  let v2035 : BitVec 1 := Scalar.cmpi .slt c128_i32_809 c0_i32_813
  let v2036 : BitVec 32 := Scalar.extui v2035
  let v2037 : BitVec 32 := Scalar.subi v2034 v2036
  let v2038 : BitVec 1 := Scalar.cmpi .ne v2032 v2037
  let v2039 : BitVec 32 := Scalar.remsi v2026 c128_i32_809
  let c0_i32_814 : BitVec 32 := 0#32
  let v2040 : BitVec 1 := Scalar.cmpi .ne v2039 c0_i32_814
  let v2041 : BitVec 1 := Scalar.andi v2038 v2040
  let v2027 : BitVec 32 := Scalar.divsi v2026 c128_i32_809
  let c1_i32_815 : BitVec 32 := 1#32
  let v2042 : BitVec 32 := Scalar.subi v2027 c1_i32_815
  let v2043 : BitVec 32 := Scalar.select v2041 v2042 v2027
  let c128_i32_816 : BitVec 32 := 128#32
  let v2044 : BitVec 32 := Scalar.muli v2043 c128_i32_816
  let v2045 : BitVec 32 := v2044
  ![0, v2045.toNat]

def k0_chk102 (i : grid0.Coords) (v2026 : BitVec 32) : Prop :=
  (∀ (k0_h1 : k0_cond1 i = 1#1), 128 ∣ (k0_mult102 v2026).toNat) ∧
  (∀ (k0_h1 : k0_cond1 i = 1#1), ∀ a, (k0_off102 v2026) a + S64x128.size a ≤ S64x1000000.size a)
theorem k0_mult102_dvd : ∀ (i : grid0.Coords) (v2026 : BitVec 32) (k0_hw102 : k0_chk102 i v2026), ∀ (k0_h1 : k0_cond1 i = 1#1), 128 ∣ (k0_mult102 v2026).toNat := fun i v2026 k0_hw102 k0_h1 => k0_hw102.1 k0_h1
theorem k0_off102_inb : ∀ (i : grid0.Coords) (v2026 : BitVec 32) (k0_hw102 : k0_chk102 i v2026), ∀ (k0_h1 : k0_cond1 i = 1#1), ∀ a, (k0_off102 v2026) a + S64x128.size a ≤ S64x1000000.size a := fun i v2026 k0_hw102 k0_h1 => k0_hw102.2 k0_h1

def k0_off103 (v2046 : BitVec 32) : Fin 2 → Nat :=
  let c0_i32_1808 : BitVec 32 := 0#32
  let c0_i32_818 : BitVec 32 := 0#32
  let v2048 : BitVec 1 := Scalar.cmpi .sgt v2046 c0_i32_818
  let v2049 : BitVec 32 := Scalar.extui v2048
  let c0_i32_819 : BitVec 32 := 0#32
  let v2050 : BitVec 1 := Scalar.cmpi .slt v2046 c0_i32_819
  let v2051 : BitVec 32 := Scalar.extui v2050
  let v2052 : BitVec 32 := Scalar.subi v2049 v2051
  let c128_i32_817 : BitVec 32 := 128#32
  let c0_i32_820 : BitVec 32 := 0#32
  let v2053 : BitVec 1 := Scalar.cmpi .sgt c128_i32_817 c0_i32_820
  let v2054 : BitVec 32 := Scalar.extui v2053
  let c0_i32_821 : BitVec 32 := 0#32
  let v2055 : BitVec 1 := Scalar.cmpi .slt c128_i32_817 c0_i32_821
  let v2056 : BitVec 32 := Scalar.extui v2055
  let v2057 : BitVec 32 := Scalar.subi v2054 v2056
  let v2058 : BitVec 1 := Scalar.cmpi .ne v2052 v2057
  let v2059 : BitVec 32 := Scalar.remsi v2046 c128_i32_817
  let c0_i32_822 : BitVec 32 := 0#32
  let v2060 : BitVec 1 := Scalar.cmpi .ne v2059 c0_i32_822
  let v2061 : BitVec 1 := Scalar.andi v2058 v2060
  let v2047 : BitVec 32 := Scalar.divsi v2046 c128_i32_817
  let c1_i32_823 : BitVec 32 := 1#32
  let v2062 : BitVec 32 := Scalar.subi v2047 c1_i32_823
  let v2063 : BitVec 32 := Scalar.select v2061 v2062 v2047
  let c128_i32_824 : BitVec 32 := 128#32
  let v2064 : BitVec 32 := Scalar.muli v2063 c128_i32_824
  let v2065 : BitVec 32 := v2064
  ![0, v2065.toNat]

def k0_chk103 (i : grid0.Coords) (v2046 : BitVec 32) : Prop :=
  (∀ (k0_h1 : k0_cond1 i = 1#1), 128 ∣ (k0_mult103 v2046).toNat) ∧
  (∀ (k0_h1 : k0_cond1 i = 1#1), ∀ a, (k0_off103 v2046) a + S64x128.size a ≤ S64x1000000.size a)
theorem k0_mult103_dvd : ∀ (i : grid0.Coords) (v2046 : BitVec 32) (k0_hw103 : k0_chk103 i v2046), ∀ (k0_h1 : k0_cond1 i = 1#1), 128 ∣ (k0_mult103 v2046).toNat := fun i v2046 k0_hw103 k0_h1 => k0_hw103.1 k0_h1
theorem k0_off103_inb : ∀ (i : grid0.Coords) (v2046 : BitVec 32) (k0_hw103 : k0_chk103 i v2046), ∀ (k0_h1 : k0_cond1 i = 1#1), ∀ a, (k0_off103 v2046) a + S64x128.size a ≤ S64x1000000.size a := fun i v2046 k0_hw103 k0_h1 => k0_hw103.2 k0_h1

def k0_off104 (v2066 : BitVec 32) : Fin 2 → Nat :=
  let c0_i32_1810 : BitVec 32 := 0#32
  let c0_i32_826 : BitVec 32 := 0#32
  let v2068 : BitVec 1 := Scalar.cmpi .sgt v2066 c0_i32_826
  let v2069 : BitVec 32 := Scalar.extui v2068
  let c0_i32_827 : BitVec 32 := 0#32
  let v2070 : BitVec 1 := Scalar.cmpi .slt v2066 c0_i32_827
  let v2071 : BitVec 32 := Scalar.extui v2070
  let v2072 : BitVec 32 := Scalar.subi v2069 v2071
  let c128_i32_825 : BitVec 32 := 128#32
  let c0_i32_828 : BitVec 32 := 0#32
  let v2073 : BitVec 1 := Scalar.cmpi .sgt c128_i32_825 c0_i32_828
  let v2074 : BitVec 32 := Scalar.extui v2073
  let c0_i32_829 : BitVec 32 := 0#32
  let v2075 : BitVec 1 := Scalar.cmpi .slt c128_i32_825 c0_i32_829
  let v2076 : BitVec 32 := Scalar.extui v2075
  let v2077 : BitVec 32 := Scalar.subi v2074 v2076
  let v2078 : BitVec 1 := Scalar.cmpi .ne v2072 v2077
  let v2079 : BitVec 32 := Scalar.remsi v2066 c128_i32_825
  let c0_i32_830 : BitVec 32 := 0#32
  let v2080 : BitVec 1 := Scalar.cmpi .ne v2079 c0_i32_830
  let v2081 : BitVec 1 := Scalar.andi v2078 v2080
  let v2067 : BitVec 32 := Scalar.divsi v2066 c128_i32_825
  let c1_i32_831 : BitVec 32 := 1#32
  let v2082 : BitVec 32 := Scalar.subi v2067 c1_i32_831
  let v2083 : BitVec 32 := Scalar.select v2081 v2082 v2067
  let c128_i32_832 : BitVec 32 := 128#32
  let v2084 : BitVec 32 := Scalar.muli v2083 c128_i32_832
  let v2085 : BitVec 32 := v2084
  ![0, v2085.toNat]

def k0_chk104 (i : grid0.Coords) (v2066 : BitVec 32) : Prop :=
  (∀ (k0_h1 : k0_cond1 i = 1#1), 128 ∣ (k0_mult104 v2066).toNat) ∧
  (∀ (k0_h1 : k0_cond1 i = 1#1), ∀ a, (k0_off104 v2066) a + S64x128.size a ≤ S64x1000000.size a)
theorem k0_mult104_dvd : ∀ (i : grid0.Coords) (v2066 : BitVec 32) (k0_hw104 : k0_chk104 i v2066), ∀ (k0_h1 : k0_cond1 i = 1#1), 128 ∣ (k0_mult104 v2066).toNat := fun i v2066 k0_hw104 k0_h1 => k0_hw104.1 k0_h1
theorem k0_off104_inb : ∀ (i : grid0.Coords) (v2066 : BitVec 32) (k0_hw104 : k0_chk104 i v2066), ∀ (k0_h1 : k0_cond1 i = 1#1), ∀ a, (k0_off104 v2066) a + S64x128.size a ≤ S64x1000000.size a := fun i v2066 k0_hw104 k0_h1 => k0_hw104.2 k0_h1

def k0_off105 (v2086 : BitVec 32) : Fin 2 → Nat :=
  let c0_i32_1812 : BitVec 32 := 0#32
  let c0_i32_834 : BitVec 32 := 0#32
  let v2088 : BitVec 1 := Scalar.cmpi .sgt v2086 c0_i32_834
  let v2089 : BitVec 32 := Scalar.extui v2088
  let c0_i32_835 : BitVec 32 := 0#32
  let v2090 : BitVec 1 := Scalar.cmpi .slt v2086 c0_i32_835
  let v2091 : BitVec 32 := Scalar.extui v2090
  let v2092 : BitVec 32 := Scalar.subi v2089 v2091
  let c128_i32_833 : BitVec 32 := 128#32
  let c0_i32_836 : BitVec 32 := 0#32
  let v2093 : BitVec 1 := Scalar.cmpi .sgt c128_i32_833 c0_i32_836
  let v2094 : BitVec 32 := Scalar.extui v2093
  let c0_i32_837 : BitVec 32 := 0#32
  let v2095 : BitVec 1 := Scalar.cmpi .slt c128_i32_833 c0_i32_837
  let v2096 : BitVec 32 := Scalar.extui v2095
  let v2097 : BitVec 32 := Scalar.subi v2094 v2096
  let v2098 : BitVec 1 := Scalar.cmpi .ne v2092 v2097
  let v2099 : BitVec 32 := Scalar.remsi v2086 c128_i32_833
  let c0_i32_838 : BitVec 32 := 0#32
  let v2100 : BitVec 1 := Scalar.cmpi .ne v2099 c0_i32_838
  let v2101 : BitVec 1 := Scalar.andi v2098 v2100
  let v2087 : BitVec 32 := Scalar.divsi v2086 c128_i32_833
  let c1_i32_839 : BitVec 32 := 1#32
  let v2102 : BitVec 32 := Scalar.subi v2087 c1_i32_839
  let v2103 : BitVec 32 := Scalar.select v2101 v2102 v2087
  let c128_i32_840 : BitVec 32 := 128#32
  let v2104 : BitVec 32 := Scalar.muli v2103 c128_i32_840
  let v2105 : BitVec 32 := v2104
  ![0, v2105.toNat]

def k0_chk105 (i : grid0.Coords) (v2086 : BitVec 32) : Prop :=
  (∀ (k0_h1 : k0_cond1 i = 1#1), 128 ∣ (k0_mult105 v2086).toNat) ∧
  (∀ (k0_h1 : k0_cond1 i = 1#1), ∀ a, (k0_off105 v2086) a + S64x128.size a ≤ S64x1000000.size a)
theorem k0_mult105_dvd : ∀ (i : grid0.Coords) (v2086 : BitVec 32) (k0_hw105 : k0_chk105 i v2086), ∀ (k0_h1 : k0_cond1 i = 1#1), 128 ∣ (k0_mult105 v2086).toNat := fun i v2086 k0_hw105 k0_h1 => k0_hw105.1 k0_h1
theorem k0_off105_inb : ∀ (i : grid0.Coords) (v2086 : BitVec 32) (k0_hw105 : k0_chk105 i v2086), ∀ (k0_h1 : k0_cond1 i = 1#1), ∀ a, (k0_off105 v2086) a + S64x128.size a ≤ S64x1000000.size a := fun i v2086 k0_hw105 k0_h1 => k0_hw105.2 k0_h1

def k0_off106 (v2106 : BitVec 32) : Fin 2 → Nat :=
  let c0_i32_1814 : BitVec 32 := 0#32
  let c0_i32_842 : BitVec 32 := 0#32
  let v2108 : BitVec 1 := Scalar.cmpi .sgt v2106 c0_i32_842
  let v2109 : BitVec 32 := Scalar.extui v2108
  let c0_i32_843 : BitVec 32 := 0#32
  let v2110 : BitVec 1 := Scalar.cmpi .slt v2106 c0_i32_843
  let v2111 : BitVec 32 := Scalar.extui v2110
  let v2112 : BitVec 32 := Scalar.subi v2109 v2111
  let c128_i32_841 : BitVec 32 := 128#32
  let c0_i32_844 : BitVec 32 := 0#32
  let v2113 : BitVec 1 := Scalar.cmpi .sgt c128_i32_841 c0_i32_844
  let v2114 : BitVec 32 := Scalar.extui v2113
  let c0_i32_845 : BitVec 32 := 0#32
  let v2115 : BitVec 1 := Scalar.cmpi .slt c128_i32_841 c0_i32_845
  let v2116 : BitVec 32 := Scalar.extui v2115
  let v2117 : BitVec 32 := Scalar.subi v2114 v2116
  let v2118 : BitVec 1 := Scalar.cmpi .ne v2112 v2117
  let v2119 : BitVec 32 := Scalar.remsi v2106 c128_i32_841
  let c0_i32_846 : BitVec 32 := 0#32
  let v2120 : BitVec 1 := Scalar.cmpi .ne v2119 c0_i32_846
  let v2121 : BitVec 1 := Scalar.andi v2118 v2120
  let v2107 : BitVec 32 := Scalar.divsi v2106 c128_i32_841
  let c1_i32_847 : BitVec 32 := 1#32
  let v2122 : BitVec 32 := Scalar.subi v2107 c1_i32_847
  let v2123 : BitVec 32 := Scalar.select v2121 v2122 v2107
  let c128_i32_848 : BitVec 32 := 128#32
  let v2124 : BitVec 32 := Scalar.muli v2123 c128_i32_848
  let v2125 : BitVec 32 := v2124
  ![0, v2125.toNat]

def k0_chk106 (i : grid0.Coords) (v2106 : BitVec 32) : Prop :=
  (∀ (k0_h1 : k0_cond1 i = 1#1), 128 ∣ (k0_mult106 v2106).toNat) ∧
  (∀ (k0_h1 : k0_cond1 i = 1#1), ∀ a, (k0_off106 v2106) a + S64x128.size a ≤ S64x1000000.size a)
theorem k0_mult106_dvd : ∀ (i : grid0.Coords) (v2106 : BitVec 32) (k0_hw106 : k0_chk106 i v2106), ∀ (k0_h1 : k0_cond1 i = 1#1), 128 ∣ (k0_mult106 v2106).toNat := fun i v2106 k0_hw106 k0_h1 => k0_hw106.1 k0_h1
theorem k0_off106_inb : ∀ (i : grid0.Coords) (v2106 : BitVec 32) (k0_hw106 : k0_chk106 i v2106), ∀ (k0_h1 : k0_cond1 i = 1#1), ∀ a, (k0_off106 v2106) a + S64x128.size a ≤ S64x1000000.size a := fun i v2106 k0_hw106 k0_h1 => k0_hw106.2 k0_h1

def k0_off107 (v2126 : BitVec 32) : Fin 2 → Nat :=
  let c0_i32_1816 : BitVec 32 := 0#32
  let c0_i32_850 : BitVec 32 := 0#32
  let v2128 : BitVec 1 := Scalar.cmpi .sgt v2126 c0_i32_850
  let v2129 : BitVec 32 := Scalar.extui v2128
  let c0_i32_851 : BitVec 32 := 0#32
  let v2130 : BitVec 1 := Scalar.cmpi .slt v2126 c0_i32_851
  let v2131 : BitVec 32 := Scalar.extui v2130
  let v2132 : BitVec 32 := Scalar.subi v2129 v2131
  let c128_i32_849 : BitVec 32 := 128#32
  let c0_i32_852 : BitVec 32 := 0#32
  let v2133 : BitVec 1 := Scalar.cmpi .sgt c128_i32_849 c0_i32_852
  let v2134 : BitVec 32 := Scalar.extui v2133
  let c0_i32_853 : BitVec 32 := 0#32
  let v2135 : BitVec 1 := Scalar.cmpi .slt c128_i32_849 c0_i32_853
  let v2136 : BitVec 32 := Scalar.extui v2135
  let v2137 : BitVec 32 := Scalar.subi v2134 v2136
  let v2138 : BitVec 1 := Scalar.cmpi .ne v2132 v2137
  let v2139 : BitVec 32 := Scalar.remsi v2126 c128_i32_849
  let c0_i32_854 : BitVec 32 := 0#32
  let v2140 : BitVec 1 := Scalar.cmpi .ne v2139 c0_i32_854
  let v2141 : BitVec 1 := Scalar.andi v2138 v2140
  let v2127 : BitVec 32 := Scalar.divsi v2126 c128_i32_849
  let c1_i32_855 : BitVec 32 := 1#32
  let v2142 : BitVec 32 := Scalar.subi v2127 c1_i32_855
  let v2143 : BitVec 32 := Scalar.select v2141 v2142 v2127
  let c128_i32_856 : BitVec 32 := 128#32
  let v2144 : BitVec 32 := Scalar.muli v2143 c128_i32_856
  let v2145 : BitVec 32 := v2144
  ![0, v2145.toNat]

def k0_chk107 (i : grid0.Coords) (v2126 : BitVec 32) : Prop :=
  (∀ (k0_h1 : k0_cond1 i = 1#1), 128 ∣ (k0_mult107 v2126).toNat) ∧
  (∀ (k0_h1 : k0_cond1 i = 1#1), ∀ a, (k0_off107 v2126) a + S64x128.size a ≤ S64x1000000.size a)
theorem k0_mult107_dvd : ∀ (i : grid0.Coords) (v2126 : BitVec 32) (k0_hw107 : k0_chk107 i v2126), ∀ (k0_h1 : k0_cond1 i = 1#1), 128 ∣ (k0_mult107 v2126).toNat := fun i v2126 k0_hw107 k0_h1 => k0_hw107.1 k0_h1
theorem k0_off107_inb : ∀ (i : grid0.Coords) (v2126 : BitVec 32) (k0_hw107 : k0_chk107 i v2126), ∀ (k0_h1 : k0_cond1 i = 1#1), ∀ a, (k0_off107 v2126) a + S64x128.size a ≤ S64x1000000.size a := fun i v2126 k0_hw107 k0_h1 => k0_hw107.2 k0_h1

def k0_off108 (v2146 : BitVec 32) : Fin 2 → Nat :=
  let c0_i32_1818 : BitVec 32 := 0#32
  let c0_i32_858 : BitVec 32 := 0#32
  let v2148 : BitVec 1 := Scalar.cmpi .sgt v2146 c0_i32_858
  let v2149 : BitVec 32 := Scalar.extui v2148
  let c0_i32_859 : BitVec 32 := 0#32
  let v2150 : BitVec 1 := Scalar.cmpi .slt v2146 c0_i32_859
  let v2151 : BitVec 32 := Scalar.extui v2150
  let v2152 : BitVec 32 := Scalar.subi v2149 v2151
  let c128_i32_857 : BitVec 32 := 128#32
  let c0_i32_860 : BitVec 32 := 0#32
  let v2153 : BitVec 1 := Scalar.cmpi .sgt c128_i32_857 c0_i32_860
  let v2154 : BitVec 32 := Scalar.extui v2153
  let c0_i32_861 : BitVec 32 := 0#32
  let v2155 : BitVec 1 := Scalar.cmpi .slt c128_i32_857 c0_i32_861
  let v2156 : BitVec 32 := Scalar.extui v2155
  let v2157 : BitVec 32 := Scalar.subi v2154 v2156
  let v2158 : BitVec 1 := Scalar.cmpi .ne v2152 v2157
  let v2159 : BitVec 32 := Scalar.remsi v2146 c128_i32_857
  let c0_i32_862 : BitVec 32 := 0#32
  let v2160 : BitVec 1 := Scalar.cmpi .ne v2159 c0_i32_862
  let v2161 : BitVec 1 := Scalar.andi v2158 v2160
  let v2147 : BitVec 32 := Scalar.divsi v2146 c128_i32_857
  let c1_i32_863 : BitVec 32 := 1#32
  let v2162 : BitVec 32 := Scalar.subi v2147 c1_i32_863
  let v2163 : BitVec 32 := Scalar.select v2161 v2162 v2147
  let c128_i32_864 : BitVec 32 := 128#32
  let v2164 : BitVec 32 := Scalar.muli v2163 c128_i32_864
  let v2165 : BitVec 32 := v2164
  ![0, v2165.toNat]

def k0_chk108 (i : grid0.Coords) (v2146 : BitVec 32) : Prop :=
  (∀ (k0_h1 : k0_cond1 i = 1#1), 128 ∣ (k0_mult108 v2146).toNat) ∧
  (∀ (k0_h1 : k0_cond1 i = 1#1), ∀ a, (k0_off108 v2146) a + S64x128.size a ≤ S64x1000000.size a)
theorem k0_mult108_dvd : ∀ (i : grid0.Coords) (v2146 : BitVec 32) (k0_hw108 : k0_chk108 i v2146), ∀ (k0_h1 : k0_cond1 i = 1#1), 128 ∣ (k0_mult108 v2146).toNat := fun i v2146 k0_hw108 k0_h1 => k0_hw108.1 k0_h1
theorem k0_off108_inb : ∀ (i : grid0.Coords) (v2146 : BitVec 32) (k0_hw108 : k0_chk108 i v2146), ∀ (k0_h1 : k0_cond1 i = 1#1), ∀ a, (k0_off108 v2146) a + S64x128.size a ≤ S64x1000000.size a := fun i v2146 k0_hw108 k0_h1 => k0_hw108.2 k0_h1

def k0_off109 (v2166 : BitVec 32) : Fin 2 → Nat :=
  let c0_i32_1820 : BitVec 32 := 0#32
  let c0_i32_866 : BitVec 32 := 0#32
  let v2168 : BitVec 1 := Scalar.cmpi .sgt v2166 c0_i32_866
  let v2169 : BitVec 32 := Scalar.extui v2168
  let c0_i32_867 : BitVec 32 := 0#32
  let v2170 : BitVec 1 := Scalar.cmpi .slt v2166 c0_i32_867
  let v2171 : BitVec 32 := Scalar.extui v2170
  let v2172 : BitVec 32 := Scalar.subi v2169 v2171
  let c128_i32_865 : BitVec 32 := 128#32
  let c0_i32_868 : BitVec 32 := 0#32
  let v2173 : BitVec 1 := Scalar.cmpi .sgt c128_i32_865 c0_i32_868
  let v2174 : BitVec 32 := Scalar.extui v2173
  let c0_i32_869 : BitVec 32 := 0#32
  let v2175 : BitVec 1 := Scalar.cmpi .slt c128_i32_865 c0_i32_869
  let v2176 : BitVec 32 := Scalar.extui v2175
  let v2177 : BitVec 32 := Scalar.subi v2174 v2176
  let v2178 : BitVec 1 := Scalar.cmpi .ne v2172 v2177
  let v2179 : BitVec 32 := Scalar.remsi v2166 c128_i32_865
  let c0_i32_870 : BitVec 32 := 0#32
  let v2180 : BitVec 1 := Scalar.cmpi .ne v2179 c0_i32_870
  let v2181 : BitVec 1 := Scalar.andi v2178 v2180
  let v2167 : BitVec 32 := Scalar.divsi v2166 c128_i32_865
  let c1_i32_871 : BitVec 32 := 1#32
  let v2182 : BitVec 32 := Scalar.subi v2167 c1_i32_871
  let v2183 : BitVec 32 := Scalar.select v2181 v2182 v2167
  let c128_i32_872 : BitVec 32 := 128#32
  let v2184 : BitVec 32 := Scalar.muli v2183 c128_i32_872
  let v2185 : BitVec 32 := v2184
  ![0, v2185.toNat]

def k0_chk109 (i : grid0.Coords) (v2166 : BitVec 32) : Prop :=
  (∀ (k0_h1 : k0_cond1 i = 1#1), 128 ∣ (k0_mult109 v2166).toNat) ∧
  (∀ (k0_h1 : k0_cond1 i = 1#1), ∀ a, (k0_off109 v2166) a + S64x128.size a ≤ S64x1000000.size a)
theorem k0_mult109_dvd : ∀ (i : grid0.Coords) (v2166 : BitVec 32) (k0_hw109 : k0_chk109 i v2166), ∀ (k0_h1 : k0_cond1 i = 1#1), 128 ∣ (k0_mult109 v2166).toNat := fun i v2166 k0_hw109 k0_h1 => k0_hw109.1 k0_h1
theorem k0_off109_inb : ∀ (i : grid0.Coords) (v2166 : BitVec 32) (k0_hw109 : k0_chk109 i v2166), ∀ (k0_h1 : k0_cond1 i = 1#1), ∀ a, (k0_off109 v2166) a + S64x128.size a ≤ S64x1000000.size a := fun i v2166 k0_hw109 k0_h1 => k0_hw109.2 k0_h1

def k0_off110 (v2186 : BitVec 32) : Fin 2 → Nat :=
  let c0_i32_1822 : BitVec 32 := 0#32
  let c0_i32_874 : BitVec 32 := 0#32
  let v2188 : BitVec 1 := Scalar.cmpi .sgt v2186 c0_i32_874
  let v2189 : BitVec 32 := Scalar.extui v2188
  let c0_i32_875 : BitVec 32 := 0#32
  let v2190 : BitVec 1 := Scalar.cmpi .slt v2186 c0_i32_875
  let v2191 : BitVec 32 := Scalar.extui v2190
  let v2192 : BitVec 32 := Scalar.subi v2189 v2191
  let c128_i32_873 : BitVec 32 := 128#32
  let c0_i32_876 : BitVec 32 := 0#32
  let v2193 : BitVec 1 := Scalar.cmpi .sgt c128_i32_873 c0_i32_876
  let v2194 : BitVec 32 := Scalar.extui v2193
  let c0_i32_877 : BitVec 32 := 0#32
  let v2195 : BitVec 1 := Scalar.cmpi .slt c128_i32_873 c0_i32_877
  let v2196 : BitVec 32 := Scalar.extui v2195
  let v2197 : BitVec 32 := Scalar.subi v2194 v2196
  let v2198 : BitVec 1 := Scalar.cmpi .ne v2192 v2197
  let v2199 : BitVec 32 := Scalar.remsi v2186 c128_i32_873
  let c0_i32_878 : BitVec 32 := 0#32
  let v2200 : BitVec 1 := Scalar.cmpi .ne v2199 c0_i32_878
  let v2201 : BitVec 1 := Scalar.andi v2198 v2200
  let v2187 : BitVec 32 := Scalar.divsi v2186 c128_i32_873
  let c1_i32_879 : BitVec 32 := 1#32
  let v2202 : BitVec 32 := Scalar.subi v2187 c1_i32_879
  let v2203 : BitVec 32 := Scalar.select v2201 v2202 v2187
  let c128_i32_880 : BitVec 32 := 128#32
  let v2204 : BitVec 32 := Scalar.muli v2203 c128_i32_880
  let v2205 : BitVec 32 := v2204
  ![0, v2205.toNat]

def k0_chk110 (i : grid0.Coords) (v2186 : BitVec 32) : Prop :=
  (∀ (k0_h1 : k0_cond1 i = 1#1), 128 ∣ (k0_mult110 v2186).toNat) ∧
  (∀ (k0_h1 : k0_cond1 i = 1#1), ∀ a, (k0_off110 v2186) a + S64x128.size a ≤ S64x1000000.size a)
theorem k0_mult110_dvd : ∀ (i : grid0.Coords) (v2186 : BitVec 32) (k0_hw110 : k0_chk110 i v2186), ∀ (k0_h1 : k0_cond1 i = 1#1), 128 ∣ (k0_mult110 v2186).toNat := fun i v2186 k0_hw110 k0_h1 => k0_hw110.1 k0_h1
theorem k0_off110_inb : ∀ (i : grid0.Coords) (v2186 : BitVec 32) (k0_hw110 : k0_chk110 i v2186), ∀ (k0_h1 : k0_cond1 i = 1#1), ∀ a, (k0_off110 v2186) a + S64x128.size a ≤ S64x1000000.size a := fun i v2186 k0_hw110 k0_h1 => k0_hw110.2 k0_h1

def k0_off111 (v2206 : BitVec 32) : Fin 2 → Nat :=
  let c0_i32_1824 : BitVec 32 := 0#32
  let c0_i32_882 : BitVec 32 := 0#32
  let v2208 : BitVec 1 := Scalar.cmpi .sgt v2206 c0_i32_882
  let v2209 : BitVec 32 := Scalar.extui v2208
  let c0_i32_883 : BitVec 32 := 0#32
  let v2210 : BitVec 1 := Scalar.cmpi .slt v2206 c0_i32_883
  let v2211 : BitVec 32 := Scalar.extui v2210
  let v2212 : BitVec 32 := Scalar.subi v2209 v2211
  let c128_i32_881 : BitVec 32 := 128#32
  let c0_i32_884 : BitVec 32 := 0#32
  let v2213 : BitVec 1 := Scalar.cmpi .sgt c128_i32_881 c0_i32_884
  let v2214 : BitVec 32 := Scalar.extui v2213
  let c0_i32_885 : BitVec 32 := 0#32
  let v2215 : BitVec 1 := Scalar.cmpi .slt c128_i32_881 c0_i32_885
  let v2216 : BitVec 32 := Scalar.extui v2215
  let v2217 : BitVec 32 := Scalar.subi v2214 v2216
  let v2218 : BitVec 1 := Scalar.cmpi .ne v2212 v2217
  let v2219 : BitVec 32 := Scalar.remsi v2206 c128_i32_881
  let c0_i32_886 : BitVec 32 := 0#32
  let v2220 : BitVec 1 := Scalar.cmpi .ne v2219 c0_i32_886
  let v2221 : BitVec 1 := Scalar.andi v2218 v2220
  let v2207 : BitVec 32 := Scalar.divsi v2206 c128_i32_881
  let c1_i32_887 : BitVec 32 := 1#32
  let v2222 : BitVec 32 := Scalar.subi v2207 c1_i32_887
  let v2223 : BitVec 32 := Scalar.select v2221 v2222 v2207
  let c128_i32_888 : BitVec 32 := 128#32
  let v2224 : BitVec 32 := Scalar.muli v2223 c128_i32_888
  let v2225 : BitVec 32 := v2224
  ![0, v2225.toNat]

def k0_chk111 (i : grid0.Coords) (v2206 : BitVec 32) : Prop :=
  (∀ (k0_h1 : k0_cond1 i = 1#1), 128 ∣ (k0_mult111 v2206).toNat) ∧
  (∀ (k0_h1 : k0_cond1 i = 1#1), ∀ a, (k0_off111 v2206) a + S64x128.size a ≤ S64x1000000.size a)
theorem k0_mult111_dvd : ∀ (i : grid0.Coords) (v2206 : BitVec 32) (k0_hw111 : k0_chk111 i v2206), ∀ (k0_h1 : k0_cond1 i = 1#1), 128 ∣ (k0_mult111 v2206).toNat := fun i v2206 k0_hw111 k0_h1 => k0_hw111.1 k0_h1
theorem k0_off111_inb : ∀ (i : grid0.Coords) (v2206 : BitVec 32) (k0_hw111 : k0_chk111 i v2206), ∀ (k0_h1 : k0_cond1 i = 1#1), ∀ a, (k0_off111 v2206) a + S64x128.size a ≤ S64x1000000.size a := fun i v2206 k0_hw111 k0_h1 => k0_hw111.2 k0_h1

def k0_off112 (v2226 : BitVec 32) : Fin 2 → Nat :=
  let c0_i32_1826 : BitVec 32 := 0#32
  let c0_i32_890 : BitVec 32 := 0#32
  let v2228 : BitVec 1 := Scalar.cmpi .sgt v2226 c0_i32_890
  let v2229 : BitVec 32 := Scalar.extui v2228
  let c0_i32_891 : BitVec 32 := 0#32
  let v2230 : BitVec 1 := Scalar.cmpi .slt v2226 c0_i32_891
  let v2231 : BitVec 32 := Scalar.extui v2230
  let v2232 : BitVec 32 := Scalar.subi v2229 v2231
  let c128_i32_889 : BitVec 32 := 128#32
  let c0_i32_892 : BitVec 32 := 0#32
  let v2233 : BitVec 1 := Scalar.cmpi .sgt c128_i32_889 c0_i32_892
  let v2234 : BitVec 32 := Scalar.extui v2233
  let c0_i32_893 : BitVec 32 := 0#32
  let v2235 : BitVec 1 := Scalar.cmpi .slt c128_i32_889 c0_i32_893
  let v2236 : BitVec 32 := Scalar.extui v2235
  let v2237 : BitVec 32 := Scalar.subi v2234 v2236
  let v2238 : BitVec 1 := Scalar.cmpi .ne v2232 v2237
  let v2239 : BitVec 32 := Scalar.remsi v2226 c128_i32_889
  let c0_i32_894 : BitVec 32 := 0#32
  let v2240 : BitVec 1 := Scalar.cmpi .ne v2239 c0_i32_894
  let v2241 : BitVec 1 := Scalar.andi v2238 v2240
  let v2227 : BitVec 32 := Scalar.divsi v2226 c128_i32_889
  let c1_i32_895 : BitVec 32 := 1#32
  let v2242 : BitVec 32 := Scalar.subi v2227 c1_i32_895
  let v2243 : BitVec 32 := Scalar.select v2241 v2242 v2227
  let c128_i32_896 : BitVec 32 := 128#32
  let v2244 : BitVec 32 := Scalar.muli v2243 c128_i32_896
  let v2245 : BitVec 32 := v2244
  ![0, v2245.toNat]

def k0_chk112 (i : grid0.Coords) (v2226 : BitVec 32) : Prop :=
  (∀ (k0_h1 : k0_cond1 i = 1#1), 128 ∣ (k0_mult112 v2226).toNat) ∧
  (∀ (k0_h1 : k0_cond1 i = 1#1), ∀ a, (k0_off112 v2226) a + S64x128.size a ≤ S64x1000000.size a)
theorem k0_mult112_dvd : ∀ (i : grid0.Coords) (v2226 : BitVec 32) (k0_hw112 : k0_chk112 i v2226), ∀ (k0_h1 : k0_cond1 i = 1#1), 128 ∣ (k0_mult112 v2226).toNat := fun i v2226 k0_hw112 k0_h1 => k0_hw112.1 k0_h1
theorem k0_off112_inb : ∀ (i : grid0.Coords) (v2226 : BitVec 32) (k0_hw112 : k0_chk112 i v2226), ∀ (k0_h1 : k0_cond1 i = 1#1), ∀ a, (k0_off112 v2226) a + S64x128.size a ≤ S64x1000000.size a := fun i v2226 k0_hw112 k0_h1 => k0_hw112.2 k0_h1

def k0_off113 (v2246 : BitVec 32) : Fin 2 → Nat :=
  let c0_i32_1828 : BitVec 32 := 0#32
  let c0_i32_898 : BitVec 32 := 0#32
  let v2248 : BitVec 1 := Scalar.cmpi .sgt v2246 c0_i32_898
  let v2249 : BitVec 32 := Scalar.extui v2248
  let c0_i32_899 : BitVec 32 := 0#32
  let v2250 : BitVec 1 := Scalar.cmpi .slt v2246 c0_i32_899
  let v2251 : BitVec 32 := Scalar.extui v2250
  let v2252 : BitVec 32 := Scalar.subi v2249 v2251
  let c128_i32_897 : BitVec 32 := 128#32
  let c0_i32_900 : BitVec 32 := 0#32
  let v2253 : BitVec 1 := Scalar.cmpi .sgt c128_i32_897 c0_i32_900
  let v2254 : BitVec 32 := Scalar.extui v2253
  let c0_i32_901 : BitVec 32 := 0#32
  let v2255 : BitVec 1 := Scalar.cmpi .slt c128_i32_897 c0_i32_901
  let v2256 : BitVec 32 := Scalar.extui v2255
  let v2257 : BitVec 32 := Scalar.subi v2254 v2256
  let v2258 : BitVec 1 := Scalar.cmpi .ne v2252 v2257
  let v2259 : BitVec 32 := Scalar.remsi v2246 c128_i32_897
  let c0_i32_902 : BitVec 32 := 0#32
  let v2260 : BitVec 1 := Scalar.cmpi .ne v2259 c0_i32_902
  let v2261 : BitVec 1 := Scalar.andi v2258 v2260
  let v2247 : BitVec 32 := Scalar.divsi v2246 c128_i32_897
  let c1_i32_903 : BitVec 32 := 1#32
  let v2262 : BitVec 32 := Scalar.subi v2247 c1_i32_903
  let v2263 : BitVec 32 := Scalar.select v2261 v2262 v2247
  let c128_i32_904 : BitVec 32 := 128#32
  let v2264 : BitVec 32 := Scalar.muli v2263 c128_i32_904
  let v2265 : BitVec 32 := v2264
  ![0, v2265.toNat]

def k0_chk113 (i : grid0.Coords) (v2246 : BitVec 32) : Prop :=
  (∀ (k0_h1 : k0_cond1 i = 1#1), 128 ∣ (k0_mult113 v2246).toNat) ∧
  (∀ (k0_h1 : k0_cond1 i = 1#1), ∀ a, (k0_off113 v2246) a + S64x128.size a ≤ S64x1000000.size a)
theorem k0_mult113_dvd : ∀ (i : grid0.Coords) (v2246 : BitVec 32) (k0_hw113 : k0_chk113 i v2246), ∀ (k0_h1 : k0_cond1 i = 1#1), 128 ∣ (k0_mult113 v2246).toNat := fun i v2246 k0_hw113 k0_h1 => k0_hw113.1 k0_h1
theorem k0_off113_inb : ∀ (i : grid0.Coords) (v2246 : BitVec 32) (k0_hw113 : k0_chk113 i v2246), ∀ (k0_h1 : k0_cond1 i = 1#1), ∀ a, (k0_off113 v2246) a + S64x128.size a ≤ S64x1000000.size a := fun i v2246 k0_hw113 k0_h1 => k0_hw113.2 k0_h1

def k0_off114 (v2266 : BitVec 32) : Fin 2 → Nat :=
  let c0_i32_1830 : BitVec 32 := 0#32
  let c0_i32_906 : BitVec 32 := 0#32
  let v2268 : BitVec 1 := Scalar.cmpi .sgt v2266 c0_i32_906
  let v2269 : BitVec 32 := Scalar.extui v2268
  let c0_i32_907 : BitVec 32 := 0#32
  let v2270 : BitVec 1 := Scalar.cmpi .slt v2266 c0_i32_907
  let v2271 : BitVec 32 := Scalar.extui v2270
  let v2272 : BitVec 32 := Scalar.subi v2269 v2271
  let c128_i32_905 : BitVec 32 := 128#32
  let c0_i32_908 : BitVec 32 := 0#32
  let v2273 : BitVec 1 := Scalar.cmpi .sgt c128_i32_905 c0_i32_908
  let v2274 : BitVec 32 := Scalar.extui v2273
  let c0_i32_909 : BitVec 32 := 0#32
  let v2275 : BitVec 1 := Scalar.cmpi .slt c128_i32_905 c0_i32_909
  let v2276 : BitVec 32 := Scalar.extui v2275
  let v2277 : BitVec 32 := Scalar.subi v2274 v2276
  let v2278 : BitVec 1 := Scalar.cmpi .ne v2272 v2277
  let v2279 : BitVec 32 := Scalar.remsi v2266 c128_i32_905
  let c0_i32_910 : BitVec 32 := 0#32
  let v2280 : BitVec 1 := Scalar.cmpi .ne v2279 c0_i32_910
  let v2281 : BitVec 1 := Scalar.andi v2278 v2280
  let v2267 : BitVec 32 := Scalar.divsi v2266 c128_i32_905
  let c1_i32_911 : BitVec 32 := 1#32
  let v2282 : BitVec 32 := Scalar.subi v2267 c1_i32_911
  let v2283 : BitVec 32 := Scalar.select v2281 v2282 v2267
  let c128_i32_912 : BitVec 32 := 128#32
  let v2284 : BitVec 32 := Scalar.muli v2283 c128_i32_912
  let v2285 : BitVec 32 := v2284
  ![0, v2285.toNat]

def k0_chk114 (i : grid0.Coords) (v2266 : BitVec 32) : Prop :=
  (∀ (k0_h1 : k0_cond1 i = 1#1), 128 ∣ (k0_mult114 v2266).toNat) ∧
  (∀ (k0_h1 : k0_cond1 i = 1#1), ∀ a, (k0_off114 v2266) a + S64x128.size a ≤ S64x1000000.size a)
theorem k0_mult114_dvd : ∀ (i : grid0.Coords) (v2266 : BitVec 32) (k0_hw114 : k0_chk114 i v2266), ∀ (k0_h1 : k0_cond1 i = 1#1), 128 ∣ (k0_mult114 v2266).toNat := fun i v2266 k0_hw114 k0_h1 => k0_hw114.1 k0_h1
theorem k0_off114_inb : ∀ (i : grid0.Coords) (v2266 : BitVec 32) (k0_hw114 : k0_chk114 i v2266), ∀ (k0_h1 : k0_cond1 i = 1#1), ∀ a, (k0_off114 v2266) a + S64x128.size a ≤ S64x1000000.size a := fun i v2266 k0_hw114 k0_h1 => k0_hw114.2 k0_h1

def k0_off115 (v2286 : BitVec 32) : Fin 2 → Nat :=
  let c0_i32_1832 : BitVec 32 := 0#32
  let c0_i32_914 : BitVec 32 := 0#32
  let v2288 : BitVec 1 := Scalar.cmpi .sgt v2286 c0_i32_914
  let v2289 : BitVec 32 := Scalar.extui v2288
  let c0_i32_915 : BitVec 32 := 0#32
  let v2290 : BitVec 1 := Scalar.cmpi .slt v2286 c0_i32_915
  let v2291 : BitVec 32 := Scalar.extui v2290
  let v2292 : BitVec 32 := Scalar.subi v2289 v2291
  let c128_i32_913 : BitVec 32 := 128#32
  let c0_i32_916 : BitVec 32 := 0#32
  let v2293 : BitVec 1 := Scalar.cmpi .sgt c128_i32_913 c0_i32_916
  let v2294 : BitVec 32 := Scalar.extui v2293
  let c0_i32_917 : BitVec 32 := 0#32
  let v2295 : BitVec 1 := Scalar.cmpi .slt c128_i32_913 c0_i32_917
  let v2296 : BitVec 32 := Scalar.extui v2295
  let v2297 : BitVec 32 := Scalar.subi v2294 v2296
  let v2298 : BitVec 1 := Scalar.cmpi .ne v2292 v2297
  let v2299 : BitVec 32 := Scalar.remsi v2286 c128_i32_913
  let c0_i32_918 : BitVec 32 := 0#32
  let v2300 : BitVec 1 := Scalar.cmpi .ne v2299 c0_i32_918
  let v2301 : BitVec 1 := Scalar.andi v2298 v2300
  let v2287 : BitVec 32 := Scalar.divsi v2286 c128_i32_913
  let c1_i32_919 : BitVec 32 := 1#32
  let v2302 : BitVec 32 := Scalar.subi v2287 c1_i32_919
  let v2303 : BitVec 32 := Scalar.select v2301 v2302 v2287
  let c128_i32_920 : BitVec 32 := 128#32
  let v2304 : BitVec 32 := Scalar.muli v2303 c128_i32_920
  let v2305 : BitVec 32 := v2304
  ![0, v2305.toNat]

def k0_chk115 (i : grid0.Coords) (v2286 : BitVec 32) : Prop :=
  (∀ (k0_h1 : k0_cond1 i = 1#1), 128 ∣ (k0_mult115 v2286).toNat) ∧
  (∀ (k0_h1 : k0_cond1 i = 1#1), ∀ a, (k0_off115 v2286) a + S64x128.size a ≤ S64x1000000.size a)
theorem k0_mult115_dvd : ∀ (i : grid0.Coords) (v2286 : BitVec 32) (k0_hw115 : k0_chk115 i v2286), ∀ (k0_h1 : k0_cond1 i = 1#1), 128 ∣ (k0_mult115 v2286).toNat := fun i v2286 k0_hw115 k0_h1 => k0_hw115.1 k0_h1
theorem k0_off115_inb : ∀ (i : grid0.Coords) (v2286 : BitVec 32) (k0_hw115 : k0_chk115 i v2286), ∀ (k0_h1 : k0_cond1 i = 1#1), ∀ a, (k0_off115 v2286) a + S64x128.size a ≤ S64x1000000.size a := fun i v2286 k0_hw115 k0_h1 => k0_hw115.2 k0_h1

def k0_off116 (v2306 : BitVec 32) : Fin 2 → Nat :=
  let c0_i32_1834 : BitVec 32 := 0#32
  let c0_i32_922 : BitVec 32 := 0#32
  let v2308 : BitVec 1 := Scalar.cmpi .sgt v2306 c0_i32_922
  let v2309 : BitVec 32 := Scalar.extui v2308
  let c0_i32_923 : BitVec 32 := 0#32
  let v2310 : BitVec 1 := Scalar.cmpi .slt v2306 c0_i32_923
  let v2311 : BitVec 32 := Scalar.extui v2310
  let v2312 : BitVec 32 := Scalar.subi v2309 v2311
  let c128_i32_921 : BitVec 32 := 128#32
  let c0_i32_924 : BitVec 32 := 0#32
  let v2313 : BitVec 1 := Scalar.cmpi .sgt c128_i32_921 c0_i32_924
  let v2314 : BitVec 32 := Scalar.extui v2313
  let c0_i32_925 : BitVec 32 := 0#32
  let v2315 : BitVec 1 := Scalar.cmpi .slt c128_i32_921 c0_i32_925
  let v2316 : BitVec 32 := Scalar.extui v2315
  let v2317 : BitVec 32 := Scalar.subi v2314 v2316
  let v2318 : BitVec 1 := Scalar.cmpi .ne v2312 v2317
  let v2319 : BitVec 32 := Scalar.remsi v2306 c128_i32_921
  let c0_i32_926 : BitVec 32 := 0#32
  let v2320 : BitVec 1 := Scalar.cmpi .ne v2319 c0_i32_926
  let v2321 : BitVec 1 := Scalar.andi v2318 v2320
  let v2307 : BitVec 32 := Scalar.divsi v2306 c128_i32_921
  let c1_i32_927 : BitVec 32 := 1#32
  let v2322 : BitVec 32 := Scalar.subi v2307 c1_i32_927
  let v2323 : BitVec 32 := Scalar.select v2321 v2322 v2307
  let c128_i32_928 : BitVec 32 := 128#32
  let v2324 : BitVec 32 := Scalar.muli v2323 c128_i32_928
  let v2325 : BitVec 32 := v2324
  ![0, v2325.toNat]

def k0_chk116 (i : grid0.Coords) (v2306 : BitVec 32) : Prop :=
  (∀ (k0_h1 : k0_cond1 i = 1#1), 128 ∣ (k0_mult116 v2306).toNat) ∧
  (∀ (k0_h1 : k0_cond1 i = 1#1), ∀ a, (k0_off116 v2306) a + S64x128.size a ≤ S64x1000000.size a)
theorem k0_mult116_dvd : ∀ (i : grid0.Coords) (v2306 : BitVec 32) (k0_hw116 : k0_chk116 i v2306), ∀ (k0_h1 : k0_cond1 i = 1#1), 128 ∣ (k0_mult116 v2306).toNat := fun i v2306 k0_hw116 k0_h1 => k0_hw116.1 k0_h1
theorem k0_off116_inb : ∀ (i : grid0.Coords) (v2306 : BitVec 32) (k0_hw116 : k0_chk116 i v2306), ∀ (k0_h1 : k0_cond1 i = 1#1), ∀ a, (k0_off116 v2306) a + S64x128.size a ≤ S64x1000000.size a := fun i v2306 k0_hw116 k0_h1 => k0_hw116.2 k0_h1

def k0_off117 (v2326 : BitVec 32) : Fin 2 → Nat :=
  let c0_i32_1836 : BitVec 32 := 0#32
  let c0_i32_930 : BitVec 32 := 0#32
  let v2328 : BitVec 1 := Scalar.cmpi .sgt v2326 c0_i32_930
  let v2329 : BitVec 32 := Scalar.extui v2328
  let c0_i32_931 : BitVec 32 := 0#32
  let v2330 : BitVec 1 := Scalar.cmpi .slt v2326 c0_i32_931
  let v2331 : BitVec 32 := Scalar.extui v2330
  let v2332 : BitVec 32 := Scalar.subi v2329 v2331
  let c128_i32_929 : BitVec 32 := 128#32
  let c0_i32_932 : BitVec 32 := 0#32
  let v2333 : BitVec 1 := Scalar.cmpi .sgt c128_i32_929 c0_i32_932
  let v2334 : BitVec 32 := Scalar.extui v2333
  let c0_i32_933 : BitVec 32 := 0#32
  let v2335 : BitVec 1 := Scalar.cmpi .slt c128_i32_929 c0_i32_933
  let v2336 : BitVec 32 := Scalar.extui v2335
  let v2337 : BitVec 32 := Scalar.subi v2334 v2336
  let v2338 : BitVec 1 := Scalar.cmpi .ne v2332 v2337
  let v2339 : BitVec 32 := Scalar.remsi v2326 c128_i32_929
  let c0_i32_934 : BitVec 32 := 0#32
  let v2340 : BitVec 1 := Scalar.cmpi .ne v2339 c0_i32_934
  let v2341 : BitVec 1 := Scalar.andi v2338 v2340
  let v2327 : BitVec 32 := Scalar.divsi v2326 c128_i32_929
  let c1_i32_935 : BitVec 32 := 1#32
  let v2342 : BitVec 32 := Scalar.subi v2327 c1_i32_935
  let v2343 : BitVec 32 := Scalar.select v2341 v2342 v2327
  let c128_i32_936 : BitVec 32 := 128#32
  let v2344 : BitVec 32 := Scalar.muli v2343 c128_i32_936
  let v2345 : BitVec 32 := v2344
  ![0, v2345.toNat]

def k0_chk117 (i : grid0.Coords) (v2326 : BitVec 32) : Prop :=
  (∀ (k0_h1 : k0_cond1 i = 1#1), 128 ∣ (k0_mult117 v2326).toNat) ∧
  (∀ (k0_h1 : k0_cond1 i = 1#1), ∀ a, (k0_off117 v2326) a + S64x128.size a ≤ S64x1000000.size a)
theorem k0_mult117_dvd : ∀ (i : grid0.Coords) (v2326 : BitVec 32) (k0_hw117 : k0_chk117 i v2326), ∀ (k0_h1 : k0_cond1 i = 1#1), 128 ∣ (k0_mult117 v2326).toNat := fun i v2326 k0_hw117 k0_h1 => k0_hw117.1 k0_h1
theorem k0_off117_inb : ∀ (i : grid0.Coords) (v2326 : BitVec 32) (k0_hw117 : k0_chk117 i v2326), ∀ (k0_h1 : k0_cond1 i = 1#1), ∀ a, (k0_off117 v2326) a + S64x128.size a ≤ S64x1000000.size a := fun i v2326 k0_hw117 k0_h1 => k0_hw117.2 k0_h1

def k0_off118 (v2346 : BitVec 32) : Fin 2 → Nat :=
  let c0_i32_1838 : BitVec 32 := 0#32
  let c0_i32_938 : BitVec 32 := 0#32
  let v2348 : BitVec 1 := Scalar.cmpi .sgt v2346 c0_i32_938
  let v2349 : BitVec 32 := Scalar.extui v2348
  let c0_i32_939 : BitVec 32 := 0#32
  let v2350 : BitVec 1 := Scalar.cmpi .slt v2346 c0_i32_939
  let v2351 : BitVec 32 := Scalar.extui v2350
  let v2352 : BitVec 32 := Scalar.subi v2349 v2351
  let c128_i32_937 : BitVec 32 := 128#32
  let c0_i32_940 : BitVec 32 := 0#32
  let v2353 : BitVec 1 := Scalar.cmpi .sgt c128_i32_937 c0_i32_940
  let v2354 : BitVec 32 := Scalar.extui v2353
  let c0_i32_941 : BitVec 32 := 0#32
  let v2355 : BitVec 1 := Scalar.cmpi .slt c128_i32_937 c0_i32_941
  let v2356 : BitVec 32 := Scalar.extui v2355
  let v2357 : BitVec 32 := Scalar.subi v2354 v2356
  let v2358 : BitVec 1 := Scalar.cmpi .ne v2352 v2357
  let v2359 : BitVec 32 := Scalar.remsi v2346 c128_i32_937
  let c0_i32_942 : BitVec 32 := 0#32
  let v2360 : BitVec 1 := Scalar.cmpi .ne v2359 c0_i32_942
  let v2361 : BitVec 1 := Scalar.andi v2358 v2360
  let v2347 : BitVec 32 := Scalar.divsi v2346 c128_i32_937
  let c1_i32_943 : BitVec 32 := 1#32
  let v2362 : BitVec 32 := Scalar.subi v2347 c1_i32_943
  let v2363 : BitVec 32 := Scalar.select v2361 v2362 v2347
  let c128_i32_944 : BitVec 32 := 128#32
  let v2364 : BitVec 32 := Scalar.muli v2363 c128_i32_944
  let v2365 : BitVec 32 := v2364
  ![0, v2365.toNat]

def k0_chk118 (i : grid0.Coords) (v2346 : BitVec 32) : Prop :=
  (∀ (k0_h1 : k0_cond1 i = 1#1), 128 ∣ (k0_mult118 v2346).toNat) ∧
  (∀ (k0_h1 : k0_cond1 i = 1#1), ∀ a, (k0_off118 v2346) a + S64x128.size a ≤ S64x1000000.size a)
theorem k0_mult118_dvd : ∀ (i : grid0.Coords) (v2346 : BitVec 32) (k0_hw118 : k0_chk118 i v2346), ∀ (k0_h1 : k0_cond1 i = 1#1), 128 ∣ (k0_mult118 v2346).toNat := fun i v2346 k0_hw118 k0_h1 => k0_hw118.1 k0_h1
theorem k0_off118_inb : ∀ (i : grid0.Coords) (v2346 : BitVec 32) (k0_hw118 : k0_chk118 i v2346), ∀ (k0_h1 : k0_cond1 i = 1#1), ∀ a, (k0_off118 v2346) a + S64x128.size a ≤ S64x1000000.size a := fun i v2346 k0_hw118 k0_h1 => k0_hw118.2 k0_h1

def k0_off119 (v2366 : BitVec 32) : Fin 2 → Nat :=
  let c0_i32_1840 : BitVec 32 := 0#32
  let c0_i32_946 : BitVec 32 := 0#32
  let v2368 : BitVec 1 := Scalar.cmpi .sgt v2366 c0_i32_946
  let v2369 : BitVec 32 := Scalar.extui v2368
  let c0_i32_947 : BitVec 32 := 0#32
  let v2370 : BitVec 1 := Scalar.cmpi .slt v2366 c0_i32_947
  let v2371 : BitVec 32 := Scalar.extui v2370
  let v2372 : BitVec 32 := Scalar.subi v2369 v2371
  let c128_i32_945 : BitVec 32 := 128#32
  let c0_i32_948 : BitVec 32 := 0#32
  let v2373 : BitVec 1 := Scalar.cmpi .sgt c128_i32_945 c0_i32_948
  let v2374 : BitVec 32 := Scalar.extui v2373
  let c0_i32_949 : BitVec 32 := 0#32
  let v2375 : BitVec 1 := Scalar.cmpi .slt c128_i32_945 c0_i32_949
  let v2376 : BitVec 32 := Scalar.extui v2375
  let v2377 : BitVec 32 := Scalar.subi v2374 v2376
  let v2378 : BitVec 1 := Scalar.cmpi .ne v2372 v2377
  let v2379 : BitVec 32 := Scalar.remsi v2366 c128_i32_945
  let c0_i32_950 : BitVec 32 := 0#32
  let v2380 : BitVec 1 := Scalar.cmpi .ne v2379 c0_i32_950
  let v2381 : BitVec 1 := Scalar.andi v2378 v2380
  let v2367 : BitVec 32 := Scalar.divsi v2366 c128_i32_945
  let c1_i32_951 : BitVec 32 := 1#32
  let v2382 : BitVec 32 := Scalar.subi v2367 c1_i32_951
  let v2383 : BitVec 32 := Scalar.select v2381 v2382 v2367
  let c128_i32_952 : BitVec 32 := 128#32
  let v2384 : BitVec 32 := Scalar.muli v2383 c128_i32_952
  let v2385 : BitVec 32 := v2384
  ![0, v2385.toNat]

def k0_chk119 (i : grid0.Coords) (v2366 : BitVec 32) : Prop :=
  (∀ (k0_h1 : k0_cond1 i = 1#1), 128 ∣ (k0_mult119 v2366).toNat) ∧
  (∀ (k0_h1 : k0_cond1 i = 1#1), ∀ a, (k0_off119 v2366) a + S64x128.size a ≤ S64x1000000.size a)
theorem k0_mult119_dvd : ∀ (i : grid0.Coords) (v2366 : BitVec 32) (k0_hw119 : k0_chk119 i v2366), ∀ (k0_h1 : k0_cond1 i = 1#1), 128 ∣ (k0_mult119 v2366).toNat := fun i v2366 k0_hw119 k0_h1 => k0_hw119.1 k0_h1
theorem k0_off119_inb : ∀ (i : grid0.Coords) (v2366 : BitVec 32) (k0_hw119 : k0_chk119 i v2366), ∀ (k0_h1 : k0_cond1 i = 1#1), ∀ a, (k0_off119 v2366) a + S64x128.size a ≤ S64x1000000.size a := fun i v2366 k0_hw119 k0_h1 => k0_hw119.2 k0_h1

def k0_off120 (v2386 : BitVec 32) : Fin 2 → Nat :=
  let c0_i32_1842 : BitVec 32 := 0#32
  let c0_i32_954 : BitVec 32 := 0#32
  let v2388 : BitVec 1 := Scalar.cmpi .sgt v2386 c0_i32_954
  let v2389 : BitVec 32 := Scalar.extui v2388
  let c0_i32_955 : BitVec 32 := 0#32
  let v2390 : BitVec 1 := Scalar.cmpi .slt v2386 c0_i32_955
  let v2391 : BitVec 32 := Scalar.extui v2390
  let v2392 : BitVec 32 := Scalar.subi v2389 v2391
  let c128_i32_953 : BitVec 32 := 128#32
  let c0_i32_956 : BitVec 32 := 0#32
  let v2393 : BitVec 1 := Scalar.cmpi .sgt c128_i32_953 c0_i32_956
  let v2394 : BitVec 32 := Scalar.extui v2393
  let c0_i32_957 : BitVec 32 := 0#32
  let v2395 : BitVec 1 := Scalar.cmpi .slt c128_i32_953 c0_i32_957
  let v2396 : BitVec 32 := Scalar.extui v2395
  let v2397 : BitVec 32 := Scalar.subi v2394 v2396
  let v2398 : BitVec 1 := Scalar.cmpi .ne v2392 v2397
  let v2399 : BitVec 32 := Scalar.remsi v2386 c128_i32_953
  let c0_i32_958 : BitVec 32 := 0#32
  let v2400 : BitVec 1 := Scalar.cmpi .ne v2399 c0_i32_958
  let v2401 : BitVec 1 := Scalar.andi v2398 v2400
  let v2387 : BitVec 32 := Scalar.divsi v2386 c128_i32_953
  let c1_i32_959 : BitVec 32 := 1#32
  let v2402 : BitVec 32 := Scalar.subi v2387 c1_i32_959
  let v2403 : BitVec 32 := Scalar.select v2401 v2402 v2387
  let c128_i32_960 : BitVec 32 := 128#32
  let v2404 : BitVec 32 := Scalar.muli v2403 c128_i32_960
  let v2405 : BitVec 32 := v2404
  ![0, v2405.toNat]

def k0_chk120 (i : grid0.Coords) (v2386 : BitVec 32) : Prop :=
  (∀ (k0_h1 : k0_cond1 i = 1#1), 128 ∣ (k0_mult120 v2386).toNat) ∧
  (∀ (k0_h1 : k0_cond1 i = 1#1), ∀ a, (k0_off120 v2386) a + S64x128.size a ≤ S64x1000000.size a)
theorem k0_mult120_dvd : ∀ (i : grid0.Coords) (v2386 : BitVec 32) (k0_hw120 : k0_chk120 i v2386), ∀ (k0_h1 : k0_cond1 i = 1#1), 128 ∣ (k0_mult120 v2386).toNat := fun i v2386 k0_hw120 k0_h1 => k0_hw120.1 k0_h1
theorem k0_off120_inb : ∀ (i : grid0.Coords) (v2386 : BitVec 32) (k0_hw120 : k0_chk120 i v2386), ∀ (k0_h1 : k0_cond1 i = 1#1), ∀ a, (k0_off120 v2386) a + S64x128.size a ≤ S64x1000000.size a := fun i v2386 k0_hw120 k0_h1 => k0_hw120.2 k0_h1

def k0_off121 (v2406 : BitVec 32) : Fin 2 → Nat :=
  let c0_i32_1844 : BitVec 32 := 0#32
  let c0_i32_962 : BitVec 32 := 0#32
  let v2408 : BitVec 1 := Scalar.cmpi .sgt v2406 c0_i32_962
  let v2409 : BitVec 32 := Scalar.extui v2408
  let c0_i32_963 : BitVec 32 := 0#32
  let v2410 : BitVec 1 := Scalar.cmpi .slt v2406 c0_i32_963
  let v2411 : BitVec 32 := Scalar.extui v2410
  let v2412 : BitVec 32 := Scalar.subi v2409 v2411
  let c128_i32_961 : BitVec 32 := 128#32
  let c0_i32_964 : BitVec 32 := 0#32
  let v2413 : BitVec 1 := Scalar.cmpi .sgt c128_i32_961 c0_i32_964
  let v2414 : BitVec 32 := Scalar.extui v2413
  let c0_i32_965 : BitVec 32 := 0#32
  let v2415 : BitVec 1 := Scalar.cmpi .slt c128_i32_961 c0_i32_965
  let v2416 : BitVec 32 := Scalar.extui v2415
  let v2417 : BitVec 32 := Scalar.subi v2414 v2416
  let v2418 : BitVec 1 := Scalar.cmpi .ne v2412 v2417
  let v2419 : BitVec 32 := Scalar.remsi v2406 c128_i32_961
  let c0_i32_966 : BitVec 32 := 0#32
  let v2420 : BitVec 1 := Scalar.cmpi .ne v2419 c0_i32_966
  let v2421 : BitVec 1 := Scalar.andi v2418 v2420
  let v2407 : BitVec 32 := Scalar.divsi v2406 c128_i32_961
  let c1_i32_967 : BitVec 32 := 1#32
  let v2422 : BitVec 32 := Scalar.subi v2407 c1_i32_967
  let v2423 : BitVec 32 := Scalar.select v2421 v2422 v2407
  let c128_i32_968 : BitVec 32 := 128#32
  let v2424 : BitVec 32 := Scalar.muli v2423 c128_i32_968
  let v2425 : BitVec 32 := v2424
  ![0, v2425.toNat]

def k0_chk121 (i : grid0.Coords) (v2406 : BitVec 32) : Prop :=
  (∀ (k0_h1 : k0_cond1 i = 1#1), 128 ∣ (k0_mult121 v2406).toNat) ∧
  (∀ (k0_h1 : k0_cond1 i = 1#1), ∀ a, (k0_off121 v2406) a + S64x128.size a ≤ S64x1000000.size a)
theorem k0_mult121_dvd : ∀ (i : grid0.Coords) (v2406 : BitVec 32) (k0_hw121 : k0_chk121 i v2406), ∀ (k0_h1 : k0_cond1 i = 1#1), 128 ∣ (k0_mult121 v2406).toNat := fun i v2406 k0_hw121 k0_h1 => k0_hw121.1 k0_h1
theorem k0_off121_inb : ∀ (i : grid0.Coords) (v2406 : BitVec 32) (k0_hw121 : k0_chk121 i v2406), ∀ (k0_h1 : k0_cond1 i = 1#1), ∀ a, (k0_off121 v2406) a + S64x128.size a ≤ S64x1000000.size a := fun i v2406 k0_hw121 k0_h1 => k0_hw121.2 k0_h1

def k0_off122 (v2426 : BitVec 32) : Fin 2 → Nat :=
  let c0_i32_1846 : BitVec 32 := 0#32
  let c0_i32_970 : BitVec 32 := 0#32
  let v2428 : BitVec 1 := Scalar.cmpi .sgt v2426 c0_i32_970
  let v2429 : BitVec 32 := Scalar.extui v2428
  let c0_i32_971 : BitVec 32 := 0#32
  let v2430 : BitVec 1 := Scalar.cmpi .slt v2426 c0_i32_971
  let v2431 : BitVec 32 := Scalar.extui v2430
  let v2432 : BitVec 32 := Scalar.subi v2429 v2431
  let c128_i32_969 : BitVec 32 := 128#32
  let c0_i32_972 : BitVec 32 := 0#32
  let v2433 : BitVec 1 := Scalar.cmpi .sgt c128_i32_969 c0_i32_972
  let v2434 : BitVec 32 := Scalar.extui v2433
  let c0_i32_973 : BitVec 32 := 0#32
  let v2435 : BitVec 1 := Scalar.cmpi .slt c128_i32_969 c0_i32_973
  let v2436 : BitVec 32 := Scalar.extui v2435
  let v2437 : BitVec 32 := Scalar.subi v2434 v2436
  let v2438 : BitVec 1 := Scalar.cmpi .ne v2432 v2437
  let v2439 : BitVec 32 := Scalar.remsi v2426 c128_i32_969
  let c0_i32_974 : BitVec 32 := 0#32
  let v2440 : BitVec 1 := Scalar.cmpi .ne v2439 c0_i32_974
  let v2441 : BitVec 1 := Scalar.andi v2438 v2440
  let v2427 : BitVec 32 := Scalar.divsi v2426 c128_i32_969
  let c1_i32_975 : BitVec 32 := 1#32
  let v2442 : BitVec 32 := Scalar.subi v2427 c1_i32_975
  let v2443 : BitVec 32 := Scalar.select v2441 v2442 v2427
  let c128_i32_976 : BitVec 32 := 128#32
  let v2444 : BitVec 32 := Scalar.muli v2443 c128_i32_976
  let v2445 : BitVec 32 := v2444
  ![0, v2445.toNat]

def k0_chk122 (i : grid0.Coords) (v2426 : BitVec 32) : Prop :=
  (∀ (k0_h1 : k0_cond1 i = 1#1), 128 ∣ (k0_mult122 v2426).toNat) ∧
  (∀ (k0_h1 : k0_cond1 i = 1#1), ∀ a, (k0_off122 v2426) a + S64x128.size a ≤ S64x1000000.size a)
theorem k0_mult122_dvd : ∀ (i : grid0.Coords) (v2426 : BitVec 32) (k0_hw122 : k0_chk122 i v2426), ∀ (k0_h1 : k0_cond1 i = 1#1), 128 ∣ (k0_mult122 v2426).toNat := fun i v2426 k0_hw122 k0_h1 => k0_hw122.1 k0_h1
theorem k0_off122_inb : ∀ (i : grid0.Coords) (v2426 : BitVec 32) (k0_hw122 : k0_chk122 i v2426), ∀ (k0_h1 : k0_cond1 i = 1#1), ∀ a, (k0_off122 v2426) a + S64x128.size a ≤ S64x1000000.size a := fun i v2426 k0_hw122 k0_h1 => k0_hw122.2 k0_h1

def k0_off123 (v2446 : BitVec 32) : Fin 2 → Nat :=
  let c0_i32_1848 : BitVec 32 := 0#32
  let c0_i32_978 : BitVec 32 := 0#32
  let v2448 : BitVec 1 := Scalar.cmpi .sgt v2446 c0_i32_978
  let v2449 : BitVec 32 := Scalar.extui v2448
  let c0_i32_979 : BitVec 32 := 0#32
  let v2450 : BitVec 1 := Scalar.cmpi .slt v2446 c0_i32_979
  let v2451 : BitVec 32 := Scalar.extui v2450
  let v2452 : BitVec 32 := Scalar.subi v2449 v2451
  let c128_i32_977 : BitVec 32 := 128#32
  let c0_i32_980 : BitVec 32 := 0#32
  let v2453 : BitVec 1 := Scalar.cmpi .sgt c128_i32_977 c0_i32_980
  let v2454 : BitVec 32 := Scalar.extui v2453
  let c0_i32_981 : BitVec 32 := 0#32
  let v2455 : BitVec 1 := Scalar.cmpi .slt c128_i32_977 c0_i32_981
  let v2456 : BitVec 32 := Scalar.extui v2455
  let v2457 : BitVec 32 := Scalar.subi v2454 v2456
  let v2458 : BitVec 1 := Scalar.cmpi .ne v2452 v2457
  let v2459 : BitVec 32 := Scalar.remsi v2446 c128_i32_977
  let c0_i32_982 : BitVec 32 := 0#32
  let v2460 : BitVec 1 := Scalar.cmpi .ne v2459 c0_i32_982
  let v2461 : BitVec 1 := Scalar.andi v2458 v2460
  let v2447 : BitVec 32 := Scalar.divsi v2446 c128_i32_977
  let c1_i32_983 : BitVec 32 := 1#32
  let v2462 : BitVec 32 := Scalar.subi v2447 c1_i32_983
  let v2463 : BitVec 32 := Scalar.select v2461 v2462 v2447
  let c128_i32_984 : BitVec 32 := 128#32
  let v2464 : BitVec 32 := Scalar.muli v2463 c128_i32_984
  let v2465 : BitVec 32 := v2464
  ![0, v2465.toNat]

def k0_chk123 (i : grid0.Coords) (v2446 : BitVec 32) : Prop :=
  (∀ (k0_h1 : k0_cond1 i = 1#1), 128 ∣ (k0_mult123 v2446).toNat) ∧
  (∀ (k0_h1 : k0_cond1 i = 1#1), ∀ a, (k0_off123 v2446) a + S64x128.size a ≤ S64x1000000.size a)
theorem k0_mult123_dvd : ∀ (i : grid0.Coords) (v2446 : BitVec 32) (k0_hw123 : k0_chk123 i v2446), ∀ (k0_h1 : k0_cond1 i = 1#1), 128 ∣ (k0_mult123 v2446).toNat := fun i v2446 k0_hw123 k0_h1 => k0_hw123.1 k0_h1
theorem k0_off123_inb : ∀ (i : grid0.Coords) (v2446 : BitVec 32) (k0_hw123 : k0_chk123 i v2446), ∀ (k0_h1 : k0_cond1 i = 1#1), ∀ a, (k0_off123 v2446) a + S64x128.size a ≤ S64x1000000.size a := fun i v2446 k0_hw123 k0_h1 => k0_hw123.2 k0_h1

def k0_off124 (v2466 : BitVec 32) : Fin 2 → Nat :=
  let c0_i32_1850 : BitVec 32 := 0#32
  let c0_i32_986 : BitVec 32 := 0#32
  let v2468 : BitVec 1 := Scalar.cmpi .sgt v2466 c0_i32_986
  let v2469 : BitVec 32 := Scalar.extui v2468
  let c0_i32_987 : BitVec 32 := 0#32
  let v2470 : BitVec 1 := Scalar.cmpi .slt v2466 c0_i32_987
  let v2471 : BitVec 32 := Scalar.extui v2470
  let v2472 : BitVec 32 := Scalar.subi v2469 v2471
  let c128_i32_985 : BitVec 32 := 128#32
  let c0_i32_988 : BitVec 32 := 0#32
  let v2473 : BitVec 1 := Scalar.cmpi .sgt c128_i32_985 c0_i32_988
  let v2474 : BitVec 32 := Scalar.extui v2473
  let c0_i32_989 : BitVec 32 := 0#32
  let v2475 : BitVec 1 := Scalar.cmpi .slt c128_i32_985 c0_i32_989
  let v2476 : BitVec 32 := Scalar.extui v2475
  let v2477 : BitVec 32 := Scalar.subi v2474 v2476
  let v2478 : BitVec 1 := Scalar.cmpi .ne v2472 v2477
  let v2479 : BitVec 32 := Scalar.remsi v2466 c128_i32_985
  let c0_i32_990 : BitVec 32 := 0#32
  let v2480 : BitVec 1 := Scalar.cmpi .ne v2479 c0_i32_990
  let v2481 : BitVec 1 := Scalar.andi v2478 v2480
  let v2467 : BitVec 32 := Scalar.divsi v2466 c128_i32_985
  let c1_i32_991 : BitVec 32 := 1#32
  let v2482 : BitVec 32 := Scalar.subi v2467 c1_i32_991
  let v2483 : BitVec 32 := Scalar.select v2481 v2482 v2467
  let c128_i32_992 : BitVec 32 := 128#32
  let v2484 : BitVec 32 := Scalar.muli v2483 c128_i32_992
  let v2485 : BitVec 32 := v2484
  ![0, v2485.toNat]

def k0_chk124 (i : grid0.Coords) (v2466 : BitVec 32) : Prop :=
  (∀ (k0_h1 : k0_cond1 i = 1#1), 128 ∣ (k0_mult124 v2466).toNat) ∧
  (∀ (k0_h1 : k0_cond1 i = 1#1), ∀ a, (k0_off124 v2466) a + S64x128.size a ≤ S64x1000000.size a)
theorem k0_mult124_dvd : ∀ (i : grid0.Coords) (v2466 : BitVec 32) (k0_hw124 : k0_chk124 i v2466), ∀ (k0_h1 : k0_cond1 i = 1#1), 128 ∣ (k0_mult124 v2466).toNat := fun i v2466 k0_hw124 k0_h1 => k0_hw124.1 k0_h1
theorem k0_off124_inb : ∀ (i : grid0.Coords) (v2466 : BitVec 32) (k0_hw124 : k0_chk124 i v2466), ∀ (k0_h1 : k0_cond1 i = 1#1), ∀ a, (k0_off124 v2466) a + S64x128.size a ≤ S64x1000000.size a := fun i v2466 k0_hw124 k0_h1 => k0_hw124.2 k0_h1

def k0_off125 (v2486 : BitVec 32) : Fin 2 → Nat :=
  let c0_i32_1852 : BitVec 32 := 0#32
  let c0_i32_994 : BitVec 32 := 0#32
  let v2488 : BitVec 1 := Scalar.cmpi .sgt v2486 c0_i32_994
  let v2489 : BitVec 32 := Scalar.extui v2488
  let c0_i32_995 : BitVec 32 := 0#32
  let v2490 : BitVec 1 := Scalar.cmpi .slt v2486 c0_i32_995
  let v2491 : BitVec 32 := Scalar.extui v2490
  let v2492 : BitVec 32 := Scalar.subi v2489 v2491
  let c128_i32_993 : BitVec 32 := 128#32
  let c0_i32_996 : BitVec 32 := 0#32
  let v2493 : BitVec 1 := Scalar.cmpi .sgt c128_i32_993 c0_i32_996
  let v2494 : BitVec 32 := Scalar.extui v2493
  let c0_i32_997 : BitVec 32 := 0#32
  let v2495 : BitVec 1 := Scalar.cmpi .slt c128_i32_993 c0_i32_997
  let v2496 : BitVec 32 := Scalar.extui v2495
  let v2497 : BitVec 32 := Scalar.subi v2494 v2496
  let v2498 : BitVec 1 := Scalar.cmpi .ne v2492 v2497
  let v2499 : BitVec 32 := Scalar.remsi v2486 c128_i32_993
  let c0_i32_998 : BitVec 32 := 0#32
  let v2500 : BitVec 1 := Scalar.cmpi .ne v2499 c0_i32_998
  let v2501 : BitVec 1 := Scalar.andi v2498 v2500
  let v2487 : BitVec 32 := Scalar.divsi v2486 c128_i32_993
  let c1_i32_999 : BitVec 32 := 1#32
  let v2502 : BitVec 32 := Scalar.subi v2487 c1_i32_999
  let v2503 : BitVec 32 := Scalar.select v2501 v2502 v2487
  let c128_i32_1000 : BitVec 32 := 128#32
  let v2504 : BitVec 32 := Scalar.muli v2503 c128_i32_1000
  let v2505 : BitVec 32 := v2504
  ![0, v2505.toNat]

def k0_chk125 (i : grid0.Coords) (v2486 : BitVec 32) : Prop :=
  (∀ (k0_h1 : k0_cond1 i = 1#1), 128 ∣ (k0_mult125 v2486).toNat) ∧
  (∀ (k0_h1 : k0_cond1 i = 1#1), ∀ a, (k0_off125 v2486) a + S64x128.size a ≤ S64x1000000.size a)
theorem k0_mult125_dvd : ∀ (i : grid0.Coords) (v2486 : BitVec 32) (k0_hw125 : k0_chk125 i v2486), ∀ (k0_h1 : k0_cond1 i = 1#1), 128 ∣ (k0_mult125 v2486).toNat := fun i v2486 k0_hw125 k0_h1 => k0_hw125.1 k0_h1
theorem k0_off125_inb : ∀ (i : grid0.Coords) (v2486 : BitVec 32) (k0_hw125 : k0_chk125 i v2486), ∀ (k0_h1 : k0_cond1 i = 1#1), ∀ a, (k0_off125 v2486) a + S64x128.size a ≤ S64x1000000.size a := fun i v2486 k0_hw125 k0_h1 => k0_hw125.2 k0_h1

def k0_off126 (v2506 : BitVec 32) : Fin 2 → Nat :=
  let c0_i32_1854 : BitVec 32 := 0#32
  let c0_i32_1002 : BitVec 32 := 0#32
  let v2508 : BitVec 1 := Scalar.cmpi .sgt v2506 c0_i32_1002
  let v2509 : BitVec 32 := Scalar.extui v2508
  let c0_i32_1003 : BitVec 32 := 0#32
  let v2510 : BitVec 1 := Scalar.cmpi .slt v2506 c0_i32_1003
  let v2511 : BitVec 32 := Scalar.extui v2510
  let v2512 : BitVec 32 := Scalar.subi v2509 v2511
  let c128_i32_1001 : BitVec 32 := 128#32
  let c0_i32_1004 : BitVec 32 := 0#32
  let v2513 : BitVec 1 := Scalar.cmpi .sgt c128_i32_1001 c0_i32_1004
  let v2514 : BitVec 32 := Scalar.extui v2513
  let c0_i32_1005 : BitVec 32 := 0#32
  let v2515 : BitVec 1 := Scalar.cmpi .slt c128_i32_1001 c0_i32_1005
  let v2516 : BitVec 32 := Scalar.extui v2515
  let v2517 : BitVec 32 := Scalar.subi v2514 v2516
  let v2518 : BitVec 1 := Scalar.cmpi .ne v2512 v2517
  let v2519 : BitVec 32 := Scalar.remsi v2506 c128_i32_1001
  let c0_i32_1006 : BitVec 32 := 0#32
  let v2520 : BitVec 1 := Scalar.cmpi .ne v2519 c0_i32_1006
  let v2521 : BitVec 1 := Scalar.andi v2518 v2520
  let v2507 : BitVec 32 := Scalar.divsi v2506 c128_i32_1001
  let c1_i32_1007 : BitVec 32 := 1#32
  let v2522 : BitVec 32 := Scalar.subi v2507 c1_i32_1007
  let v2523 : BitVec 32 := Scalar.select v2521 v2522 v2507
  let c128_i32_1008 : BitVec 32 := 128#32
  let v2524 : BitVec 32 := Scalar.muli v2523 c128_i32_1008
  let v2525 : BitVec 32 := v2524
  ![0, v2525.toNat]

def k0_chk126 (i : grid0.Coords) (v2506 : BitVec 32) : Prop :=
  (∀ (k0_h1 : k0_cond1 i = 1#1), 128 ∣ (k0_mult126 v2506).toNat) ∧
  (∀ (k0_h1 : k0_cond1 i = 1#1), ∀ a, (k0_off126 v2506) a + S64x128.size a ≤ S64x1000000.size a)
theorem k0_mult126_dvd : ∀ (i : grid0.Coords) (v2506 : BitVec 32) (k0_hw126 : k0_chk126 i v2506), ∀ (k0_h1 : k0_cond1 i = 1#1), 128 ∣ (k0_mult126 v2506).toNat := fun i v2506 k0_hw126 k0_h1 => k0_hw126.1 k0_h1
theorem k0_off126_inb : ∀ (i : grid0.Coords) (v2506 : BitVec 32) (k0_hw126 : k0_chk126 i v2506), ∀ (k0_h1 : k0_cond1 i = 1#1), ∀ a, (k0_off126 v2506) a + S64x128.size a ≤ S64x1000000.size a := fun i v2506 k0_hw126 k0_h1 => k0_hw126.2 k0_h1

def k0_off127 (v2526 : BitVec 32) : Fin 2 → Nat :=
  let c0_i32_1856 : BitVec 32 := 0#32
  let c0_i32_1010 : BitVec 32 := 0#32
  let v2528 : BitVec 1 := Scalar.cmpi .sgt v2526 c0_i32_1010
  let v2529 : BitVec 32 := Scalar.extui v2528
  let c0_i32_1011 : BitVec 32 := 0#32
  let v2530 : BitVec 1 := Scalar.cmpi .slt v2526 c0_i32_1011
  let v2531 : BitVec 32 := Scalar.extui v2530
  let v2532 : BitVec 32 := Scalar.subi v2529 v2531
  let c128_i32_1009 : BitVec 32 := 128#32
  let c0_i32_1012 : BitVec 32 := 0#32
  let v2533 : BitVec 1 := Scalar.cmpi .sgt c128_i32_1009 c0_i32_1012
  let v2534 : BitVec 32 := Scalar.extui v2533
  let c0_i32_1013 : BitVec 32 := 0#32
  let v2535 : BitVec 1 := Scalar.cmpi .slt c128_i32_1009 c0_i32_1013
  let v2536 : BitVec 32 := Scalar.extui v2535
  let v2537 : BitVec 32 := Scalar.subi v2534 v2536
  let v2538 : BitVec 1 := Scalar.cmpi .ne v2532 v2537
  let v2539 : BitVec 32 := Scalar.remsi v2526 c128_i32_1009
  let c0_i32_1014 : BitVec 32 := 0#32
  let v2540 : BitVec 1 := Scalar.cmpi .ne v2539 c0_i32_1014
  let v2541 : BitVec 1 := Scalar.andi v2538 v2540
  let v2527 : BitVec 32 := Scalar.divsi v2526 c128_i32_1009
  let c1_i32_1015 : BitVec 32 := 1#32
  let v2542 : BitVec 32 := Scalar.subi v2527 c1_i32_1015
  let v2543 : BitVec 32 := Scalar.select v2541 v2542 v2527
  let c128_i32_1016 : BitVec 32 := 128#32
  let v2544 : BitVec 32 := Scalar.muli v2543 c128_i32_1016
  let v2545 : BitVec 32 := v2544
  ![0, v2545.toNat]

def k0_chk127 (i : grid0.Coords) (v2526 : BitVec 32) : Prop :=
  (∀ (k0_h1 : k0_cond1 i = 1#1), 128 ∣ (k0_mult127 v2526).toNat) ∧
  (∀ (k0_h1 : k0_cond1 i = 1#1), ∀ a, (k0_off127 v2526) a + S64x128.size a ≤ S64x1000000.size a)
theorem k0_mult127_dvd : ∀ (i : grid0.Coords) (v2526 : BitVec 32) (k0_hw127 : k0_chk127 i v2526), ∀ (k0_h1 : k0_cond1 i = 1#1), 128 ∣ (k0_mult127 v2526).toNat := fun i v2526 k0_hw127 k0_h1 => k0_hw127.1 k0_h1
theorem k0_off127_inb : ∀ (i : grid0.Coords) (v2526 : BitVec 32) (k0_hw127 : k0_chk127 i v2526), ∀ (k0_h1 : k0_cond1 i = 1#1), ∀ a, (k0_off127 v2526) a + S64x128.size a ≤ S64x1000000.size a := fun i v2526 k0_hw127 k0_h1 => k0_hw127.2 k0_h1

def k0_off128 (v2546 : BitVec 32) : Fin 2 → Nat :=
  let c0_i32_1858 : BitVec 32 := 0#32
  let c0_i32_1018 : BitVec 32 := 0#32
  let v2548 : BitVec 1 := Scalar.cmpi .sgt v2546 c0_i32_1018
  let v2549 : BitVec 32 := Scalar.extui v2548
  let c0_i32_1019 : BitVec 32 := 0#32
  let v2550 : BitVec 1 := Scalar.cmpi .slt v2546 c0_i32_1019
  let v2551 : BitVec 32 := Scalar.extui v2550
  let v2552 : BitVec 32 := Scalar.subi v2549 v2551
  let c128_i32_1017 : BitVec 32 := 128#32
  let c0_i32_1020 : BitVec 32 := 0#32
  let v2553 : BitVec 1 := Scalar.cmpi .sgt c128_i32_1017 c0_i32_1020
  let v2554 : BitVec 32 := Scalar.extui v2553
  let c0_i32_1021 : BitVec 32 := 0#32
  let v2555 : BitVec 1 := Scalar.cmpi .slt c128_i32_1017 c0_i32_1021
  let v2556 : BitVec 32 := Scalar.extui v2555
  let v2557 : BitVec 32 := Scalar.subi v2554 v2556
  let v2558 : BitVec 1 := Scalar.cmpi .ne v2552 v2557
  let v2559 : BitVec 32 := Scalar.remsi v2546 c128_i32_1017
  let c0_i32_1022 : BitVec 32 := 0#32
  let v2560 : BitVec 1 := Scalar.cmpi .ne v2559 c0_i32_1022
  let v2561 : BitVec 1 := Scalar.andi v2558 v2560
  let v2547 : BitVec 32 := Scalar.divsi v2546 c128_i32_1017
  let c1_i32_1023 : BitVec 32 := 1#32
  let v2562 : BitVec 32 := Scalar.subi v2547 c1_i32_1023
  let v2563 : BitVec 32 := Scalar.select v2561 v2562 v2547
  let c128_i32_1024 : BitVec 32 := 128#32
  let v2564 : BitVec 32 := Scalar.muli v2563 c128_i32_1024
  let v2565 : BitVec 32 := v2564
  ![0, v2565.toNat]

def k0_chk128 (i : grid0.Coords) (v2546 : BitVec 32) : Prop :=
  (∀ (k0_h1 : k0_cond1 i = 1#1), 128 ∣ (k0_mult128 v2546).toNat) ∧
  (∀ (k0_h1 : k0_cond1 i = 1#1), ∀ a, (k0_off128 v2546) a + S64x128.size a ≤ S64x1000000.size a)
theorem k0_mult128_dvd : ∀ (i : grid0.Coords) (v2546 : BitVec 32) (k0_hw128 : k0_chk128 i v2546), ∀ (k0_h1 : k0_cond1 i = 1#1), 128 ∣ (k0_mult128 v2546).toNat := fun i v2546 k0_hw128 k0_h1 => k0_hw128.1 k0_h1
theorem k0_off128_inb : ∀ (i : grid0.Coords) (v2546 : BitVec 32) (k0_hw128 : k0_chk128 i v2546), ∀ (k0_h1 : k0_cond1 i = 1#1), ∀ a, (k0_off128 v2546) a + S64x128.size a ≤ S64x1000000.size a := fun i v2546 k0_hw128 k0_h1 => k0_hw128.2 k0_h1

def k0_off129 (v2566 : BitVec 32) : Fin 2 → Nat :=
  let c0_i32_1860 : BitVec 32 := 0#32
  let c0_i32_1026 : BitVec 32 := 0#32
  let v2568 : BitVec 1 := Scalar.cmpi .sgt v2566 c0_i32_1026
  let v2569 : BitVec 32 := Scalar.extui v2568
  let c0_i32_1027 : BitVec 32 := 0#32
  let v2570 : BitVec 1 := Scalar.cmpi .slt v2566 c0_i32_1027
  let v2571 : BitVec 32 := Scalar.extui v2570
  let v2572 : BitVec 32 := Scalar.subi v2569 v2571
  let c128_i32_1025 : BitVec 32 := 128#32
  let c0_i32_1028 : BitVec 32 := 0#32
  let v2573 : BitVec 1 := Scalar.cmpi .sgt c128_i32_1025 c0_i32_1028
  let v2574 : BitVec 32 := Scalar.extui v2573
  let c0_i32_1029 : BitVec 32 := 0#32
  let v2575 : BitVec 1 := Scalar.cmpi .slt c128_i32_1025 c0_i32_1029
  let v2576 : BitVec 32 := Scalar.extui v2575
  let v2577 : BitVec 32 := Scalar.subi v2574 v2576
  let v2578 : BitVec 1 := Scalar.cmpi .ne v2572 v2577
  let v2579 : BitVec 32 := Scalar.remsi v2566 c128_i32_1025
  let c0_i32_1030 : BitVec 32 := 0#32
  let v2580 : BitVec 1 := Scalar.cmpi .ne v2579 c0_i32_1030
  let v2581 : BitVec 1 := Scalar.andi v2578 v2580
  let v2567 : BitVec 32 := Scalar.divsi v2566 c128_i32_1025
  let c1_i32_1031 : BitVec 32 := 1#32
  let v2582 : BitVec 32 := Scalar.subi v2567 c1_i32_1031
  let v2583 : BitVec 32 := Scalar.select v2581 v2582 v2567
  let c128_i32_1032 : BitVec 32 := 128#32
  let v2584 : BitVec 32 := Scalar.muli v2583 c128_i32_1032
  let v2585 : BitVec 32 := v2584
  ![0, v2585.toNat]

def k0_chk129 (i : grid0.Coords) (v2566 : BitVec 32) : Prop :=
  (∀ (k0_h1 : k0_cond1 i = 1#1), 128 ∣ (k0_mult129 v2566).toNat) ∧
  (∀ (k0_h1 : k0_cond1 i = 1#1), ∀ a, (k0_off129 v2566) a + S64x128.size a ≤ S64x1000000.size a)
theorem k0_mult129_dvd : ∀ (i : grid0.Coords) (v2566 : BitVec 32) (k0_hw129 : k0_chk129 i v2566), ∀ (k0_h1 : k0_cond1 i = 1#1), 128 ∣ (k0_mult129 v2566).toNat := fun i v2566 k0_hw129 k0_h1 => k0_hw129.1 k0_h1
theorem k0_off129_inb : ∀ (i : grid0.Coords) (v2566 : BitVec 32) (k0_hw129 : k0_chk129 i v2566), ∀ (k0_h1 : k0_cond1 i = 1#1), ∀ a, (k0_off129 v2566) a + S64x128.size a ≤ S64x1000000.size a := fun i v2566 k0_hw129 k0_h1 => k0_hw129.2 k0_h1

def k0_off130 (v2586 : BitVec 32) : Fin 2 → Nat :=
  let c0_i32_1862 : BitVec 32 := 0#32
  let c0_i32_1034 : BitVec 32 := 0#32
  let v2588 : BitVec 1 := Scalar.cmpi .sgt v2586 c0_i32_1034
  let v2589 : BitVec 32 := Scalar.extui v2588
  let c0_i32_1035 : BitVec 32 := 0#32
  let v2590 : BitVec 1 := Scalar.cmpi .slt v2586 c0_i32_1035
  let v2591 : BitVec 32 := Scalar.extui v2590
  let v2592 : BitVec 32 := Scalar.subi v2589 v2591
  let c128_i32_1033 : BitVec 32 := 128#32
  let c0_i32_1036 : BitVec 32 := 0#32
  let v2593 : BitVec 1 := Scalar.cmpi .sgt c128_i32_1033 c0_i32_1036
  let v2594 : BitVec 32 := Scalar.extui v2593
  let c0_i32_1037 : BitVec 32 := 0#32
  let v2595 : BitVec 1 := Scalar.cmpi .slt c128_i32_1033 c0_i32_1037
  let v2596 : BitVec 32 := Scalar.extui v2595
  let v2597 : BitVec 32 := Scalar.subi v2594 v2596
  let v2598 : BitVec 1 := Scalar.cmpi .ne v2592 v2597
  let v2599 : BitVec 32 := Scalar.remsi v2586 c128_i32_1033
  let c0_i32_1038 : BitVec 32 := 0#32
  let v2600 : BitVec 1 := Scalar.cmpi .ne v2599 c0_i32_1038
  let v2601 : BitVec 1 := Scalar.andi v2598 v2600
  let v2587 : BitVec 32 := Scalar.divsi v2586 c128_i32_1033
  let c1_i32_1039 : BitVec 32 := 1#32
  let v2602 : BitVec 32 := Scalar.subi v2587 c1_i32_1039
  let v2603 : BitVec 32 := Scalar.select v2601 v2602 v2587
  let c128_i32_1040 : BitVec 32 := 128#32
  let v2604 : BitVec 32 := Scalar.muli v2603 c128_i32_1040
  let v2605 : BitVec 32 := v2604
  ![0, v2605.toNat]

def k0_chk130 (i : grid0.Coords) (v2586 : BitVec 32) : Prop :=
  (∀ (k0_h1 : k0_cond1 i = 1#1), 128 ∣ (k0_mult130 v2586).toNat) ∧
  (∀ (k0_h1 : k0_cond1 i = 1#1), ∀ a, (k0_off130 v2586) a + S64x128.size a ≤ S64x1000000.size a)
theorem k0_mult130_dvd : ∀ (i : grid0.Coords) (v2586 : BitVec 32) (k0_hw130 : k0_chk130 i v2586), ∀ (k0_h1 : k0_cond1 i = 1#1), 128 ∣ (k0_mult130 v2586).toNat := fun i v2586 k0_hw130 k0_h1 => k0_hw130.1 k0_h1
theorem k0_off130_inb : ∀ (i : grid0.Coords) (v2586 : BitVec 32) (k0_hw130 : k0_chk130 i v2586), ∀ (k0_h1 : k0_cond1 i = 1#1), ∀ a, (k0_off130 v2586) a + S64x128.size a ≤ S64x1000000.size a := fun i v2586 k0_hw130 k0_h1 => k0_hw130.2 k0_h1

def k0_off131 (v2606 : BitVec 32) : Fin 2 → Nat :=
  let c0_i32_1864 : BitVec 32 := 0#32
  let c0_i32_1042 : BitVec 32 := 0#32
  let v2608 : BitVec 1 := Scalar.cmpi .sgt v2606 c0_i32_1042
  let v2609 : BitVec 32 := Scalar.extui v2608
  let c0_i32_1043 : BitVec 32 := 0#32
  let v2610 : BitVec 1 := Scalar.cmpi .slt v2606 c0_i32_1043
  let v2611 : BitVec 32 := Scalar.extui v2610
  let v2612 : BitVec 32 := Scalar.subi v2609 v2611
  let c128_i32_1041 : BitVec 32 := 128#32
  let c0_i32_1044 : BitVec 32 := 0#32
  let v2613 : BitVec 1 := Scalar.cmpi .sgt c128_i32_1041 c0_i32_1044
  let v2614 : BitVec 32 := Scalar.extui v2613
  let c0_i32_1045 : BitVec 32 := 0#32
  let v2615 : BitVec 1 := Scalar.cmpi .slt c128_i32_1041 c0_i32_1045
  let v2616 : BitVec 32 := Scalar.extui v2615
  let v2617 : BitVec 32 := Scalar.subi v2614 v2616
  let v2618 : BitVec 1 := Scalar.cmpi .ne v2612 v2617
  let v2619 : BitVec 32 := Scalar.remsi v2606 c128_i32_1041
  let c0_i32_1046 : BitVec 32 := 0#32
  let v2620 : BitVec 1 := Scalar.cmpi .ne v2619 c0_i32_1046
  let v2621 : BitVec 1 := Scalar.andi v2618 v2620
  let v2607 : BitVec 32 := Scalar.divsi v2606 c128_i32_1041
  let c1_i32_1047 : BitVec 32 := 1#32
  let v2622 : BitVec 32 := Scalar.subi v2607 c1_i32_1047
  let v2623 : BitVec 32 := Scalar.select v2621 v2622 v2607
  let c128_i32_1048 : BitVec 32 := 128#32
  let v2624 : BitVec 32 := Scalar.muli v2623 c128_i32_1048
  let v2625 : BitVec 32 := v2624
  ![0, v2625.toNat]

def k0_chk131 (i : grid0.Coords) (v2606 : BitVec 32) : Prop :=
  (∀ (k0_h1 : k0_cond1 i = 1#1), 128 ∣ (k0_mult131 v2606).toNat) ∧
  (∀ (k0_h1 : k0_cond1 i = 1#1), ∀ a, (k0_off131 v2606) a + S64x128.size a ≤ S64x1000000.size a)
theorem k0_mult131_dvd : ∀ (i : grid0.Coords) (v2606 : BitVec 32) (k0_hw131 : k0_chk131 i v2606), ∀ (k0_h1 : k0_cond1 i = 1#1), 128 ∣ (k0_mult131 v2606).toNat := fun i v2606 k0_hw131 k0_h1 => k0_hw131.1 k0_h1
theorem k0_off131_inb : ∀ (i : grid0.Coords) (v2606 : BitVec 32) (k0_hw131 : k0_chk131 i v2606), ∀ (k0_h1 : k0_cond1 i = 1#1), ∀ a, (k0_off131 v2606) a + S64x128.size a ≤ S64x1000000.size a := fun i v2606 k0_hw131 k0_h1 => k0_hw131.2 k0_h1

def k0_off132 (v2626 : BitVec 32) : Fin 2 → Nat :=
  let c0_i32_1866 : BitVec 32 := 0#32
  let c0_i32_1050 : BitVec 32 := 0#32
  let v2628 : BitVec 1 := Scalar.cmpi .sgt v2626 c0_i32_1050
  let v2629 : BitVec 32 := Scalar.extui v2628
  let c0_i32_1051 : BitVec 32 := 0#32
  let v2630 : BitVec 1 := Scalar.cmpi .slt v2626 c0_i32_1051
  let v2631 : BitVec 32 := Scalar.extui v2630
  let v2632 : BitVec 32 := Scalar.subi v2629 v2631
  let c128_i32_1049 : BitVec 32 := 128#32
  let c0_i32_1052 : BitVec 32 := 0#32
  let v2633 : BitVec 1 := Scalar.cmpi .sgt c128_i32_1049 c0_i32_1052
  let v2634 : BitVec 32 := Scalar.extui v2633
  let c0_i32_1053 : BitVec 32 := 0#32
  let v2635 : BitVec 1 := Scalar.cmpi .slt c128_i32_1049 c0_i32_1053
  let v2636 : BitVec 32 := Scalar.extui v2635
  let v2637 : BitVec 32 := Scalar.subi v2634 v2636
  let v2638 : BitVec 1 := Scalar.cmpi .ne v2632 v2637
  let v2639 : BitVec 32 := Scalar.remsi v2626 c128_i32_1049
  let c0_i32_1054 : BitVec 32 := 0#32
  let v2640 : BitVec 1 := Scalar.cmpi .ne v2639 c0_i32_1054
  let v2641 : BitVec 1 := Scalar.andi v2638 v2640
  let v2627 : BitVec 32 := Scalar.divsi v2626 c128_i32_1049
  let c1_i32_1055 : BitVec 32 := 1#32
  let v2642 : BitVec 32 := Scalar.subi v2627 c1_i32_1055
  let v2643 : BitVec 32 := Scalar.select v2641 v2642 v2627
  let c128_i32_1056 : BitVec 32 := 128#32
  let v2644 : BitVec 32 := Scalar.muli v2643 c128_i32_1056
  let v2645 : BitVec 32 := v2644
  ![0, v2645.toNat]

def k0_chk132 (i : grid0.Coords) (v2626 : BitVec 32) : Prop :=
  (∀ (k0_h1 : k0_cond1 i = 1#1), 128 ∣ (k0_mult132 v2626).toNat) ∧
  (∀ (k0_h1 : k0_cond1 i = 1#1), ∀ a, (k0_off132 v2626) a + S64x128.size a ≤ S64x1000000.size a)
theorem k0_mult132_dvd : ∀ (i : grid0.Coords) (v2626 : BitVec 32) (k0_hw132 : k0_chk132 i v2626), ∀ (k0_h1 : k0_cond1 i = 1#1), 128 ∣ (k0_mult132 v2626).toNat := fun i v2626 k0_hw132 k0_h1 => k0_hw132.1 k0_h1
theorem k0_off132_inb : ∀ (i : grid0.Coords) (v2626 : BitVec 32) (k0_hw132 : k0_chk132 i v2626), ∀ (k0_h1 : k0_cond1 i = 1#1), ∀ a, (k0_off132 v2626) a + S64x128.size a ≤ S64x1000000.size a := fun i v2626 k0_hw132 k0_h1 => k0_hw132.2 k0_h1

def k0_off133 (v2646 : BitVec 32) : Fin 2 → Nat :=
  let c0_i32_1868 : BitVec 32 := 0#32
  let c0_i32_1058 : BitVec 32 := 0#32
  let v2648 : BitVec 1 := Scalar.cmpi .sgt v2646 c0_i32_1058
  let v2649 : BitVec 32 := Scalar.extui v2648
  let c0_i32_1059 : BitVec 32 := 0#32
  let v2650 : BitVec 1 := Scalar.cmpi .slt v2646 c0_i32_1059
  let v2651 : BitVec 32 := Scalar.extui v2650
  let v2652 : BitVec 32 := Scalar.subi v2649 v2651
  let c128_i32_1057 : BitVec 32 := 128#32
  let c0_i32_1060 : BitVec 32 := 0#32
  let v2653 : BitVec 1 := Scalar.cmpi .sgt c128_i32_1057 c0_i32_1060
  let v2654 : BitVec 32 := Scalar.extui v2653
  let c0_i32_1061 : BitVec 32 := 0#32
  let v2655 : BitVec 1 := Scalar.cmpi .slt c128_i32_1057 c0_i32_1061
  let v2656 : BitVec 32 := Scalar.extui v2655
  let v2657 : BitVec 32 := Scalar.subi v2654 v2656
  let v2658 : BitVec 1 := Scalar.cmpi .ne v2652 v2657
  let v2659 : BitVec 32 := Scalar.remsi v2646 c128_i32_1057
  let c0_i32_1062 : BitVec 32 := 0#32
  let v2660 : BitVec 1 := Scalar.cmpi .ne v2659 c0_i32_1062
  let v2661 : BitVec 1 := Scalar.andi v2658 v2660
  let v2647 : BitVec 32 := Scalar.divsi v2646 c128_i32_1057
  let c1_i32_1063 : BitVec 32 := 1#32
  let v2662 : BitVec 32 := Scalar.subi v2647 c1_i32_1063
  let v2663 : BitVec 32 := Scalar.select v2661 v2662 v2647
  let c128_i32_1064 : BitVec 32 := 128#32
  let v2664 : BitVec 32 := Scalar.muli v2663 c128_i32_1064
  let v2665 : BitVec 32 := v2664
  ![0, v2665.toNat]

def k0_chk133 (i : grid0.Coords) (v2646 : BitVec 32) : Prop :=
  (∀ (k0_h1 : k0_cond1 i = 1#1), 128 ∣ (k0_mult133 v2646).toNat) ∧
  (∀ (k0_h1 : k0_cond1 i = 1#1), ∀ a, (k0_off133 v2646) a + S64x128.size a ≤ S64x1000000.size a)
theorem k0_mult133_dvd : ∀ (i : grid0.Coords) (v2646 : BitVec 32) (k0_hw133 : k0_chk133 i v2646), ∀ (k0_h1 : k0_cond1 i = 1#1), 128 ∣ (k0_mult133 v2646).toNat := fun i v2646 k0_hw133 k0_h1 => k0_hw133.1 k0_h1
theorem k0_off133_inb : ∀ (i : grid0.Coords) (v2646 : BitVec 32) (k0_hw133 : k0_chk133 i v2646), ∀ (k0_h1 : k0_cond1 i = 1#1), ∀ a, (k0_off133 v2646) a + S64x128.size a ≤ S64x1000000.size a := fun i v2646 k0_hw133 k0_h1 => k0_hw133.2 k0_h1

def k0_off134 (v2666 : BitVec 32) : Fin 2 → Nat :=
  let c0_i32_1870 : BitVec 32 := 0#32
  let c0_i32_1066 : BitVec 32 := 0#32
  let v2668 : BitVec 1 := Scalar.cmpi .sgt v2666 c0_i32_1066
  let v2669 : BitVec 32 := Scalar.extui v2668
  let c0_i32_1067 : BitVec 32 := 0#32
  let v2670 : BitVec 1 := Scalar.cmpi .slt v2666 c0_i32_1067
  let v2671 : BitVec 32 := Scalar.extui v2670
  let v2672 : BitVec 32 := Scalar.subi v2669 v2671
  let c128_i32_1065 : BitVec 32 := 128#32
  let c0_i32_1068 : BitVec 32 := 0#32
  let v2673 : BitVec 1 := Scalar.cmpi .sgt c128_i32_1065 c0_i32_1068
  let v2674 : BitVec 32 := Scalar.extui v2673
  let c0_i32_1069 : BitVec 32 := 0#32
  let v2675 : BitVec 1 := Scalar.cmpi .slt c128_i32_1065 c0_i32_1069
  let v2676 : BitVec 32 := Scalar.extui v2675
  let v2677 : BitVec 32 := Scalar.subi v2674 v2676
  let v2678 : BitVec 1 := Scalar.cmpi .ne v2672 v2677
  let v2679 : BitVec 32 := Scalar.remsi v2666 c128_i32_1065
  let c0_i32_1070 : BitVec 32 := 0#32
  let v2680 : BitVec 1 := Scalar.cmpi .ne v2679 c0_i32_1070
  let v2681 : BitVec 1 := Scalar.andi v2678 v2680
  let v2667 : BitVec 32 := Scalar.divsi v2666 c128_i32_1065
  let c1_i32_1071 : BitVec 32 := 1#32
  let v2682 : BitVec 32 := Scalar.subi v2667 c1_i32_1071
  let v2683 : BitVec 32 := Scalar.select v2681 v2682 v2667
  let c128_i32_1072 : BitVec 32 := 128#32
  let v2684 : BitVec 32 := Scalar.muli v2683 c128_i32_1072
  let v2685 : BitVec 32 := v2684
  ![0, v2685.toNat]

def k0_chk134 (i : grid0.Coords) (v2666 : BitVec 32) : Prop :=
  (∀ (k0_h1 : k0_cond1 i = 1#1), 128 ∣ (k0_mult134 v2666).toNat) ∧
  (∀ (k0_h1 : k0_cond1 i = 1#1), ∀ a, (k0_off134 v2666) a + S64x128.size a ≤ S64x1000000.size a)
theorem k0_mult134_dvd : ∀ (i : grid0.Coords) (v2666 : BitVec 32) (k0_hw134 : k0_chk134 i v2666), ∀ (k0_h1 : k0_cond1 i = 1#1), 128 ∣ (k0_mult134 v2666).toNat := fun i v2666 k0_hw134 k0_h1 => k0_hw134.1 k0_h1
theorem k0_off134_inb : ∀ (i : grid0.Coords) (v2666 : BitVec 32) (k0_hw134 : k0_chk134 i v2666), ∀ (k0_h1 : k0_cond1 i = 1#1), ∀ a, (k0_off134 v2666) a + S64x128.size a ≤ S64x1000000.size a := fun i v2666 k0_hw134 k0_h1 => k0_hw134.2 k0_h1

def k0_off135 (v2686 : BitVec 32) : Fin 2 → Nat :=
  let c0_i32_1872 : BitVec 32 := 0#32
  let c0_i32_1074 : BitVec 32 := 0#32
  let v2688 : BitVec 1 := Scalar.cmpi .sgt v2686 c0_i32_1074
  let v2689 : BitVec 32 := Scalar.extui v2688
  let c0_i32_1075 : BitVec 32 := 0#32
  let v2690 : BitVec 1 := Scalar.cmpi .slt v2686 c0_i32_1075
  let v2691 : BitVec 32 := Scalar.extui v2690
  let v2692 : BitVec 32 := Scalar.subi v2689 v2691
  let c128_i32_1073 : BitVec 32 := 128#32
  let c0_i32_1076 : BitVec 32 := 0#32
  let v2693 : BitVec 1 := Scalar.cmpi .sgt c128_i32_1073 c0_i32_1076
  let v2694 : BitVec 32 := Scalar.extui v2693
  let c0_i32_1077 : BitVec 32 := 0#32
  let v2695 : BitVec 1 := Scalar.cmpi .slt c128_i32_1073 c0_i32_1077
  let v2696 : BitVec 32 := Scalar.extui v2695
  let v2697 : BitVec 32 := Scalar.subi v2694 v2696
  let v2698 : BitVec 1 := Scalar.cmpi .ne v2692 v2697
  let v2699 : BitVec 32 := Scalar.remsi v2686 c128_i32_1073
  let c0_i32_1078 : BitVec 32 := 0#32
  let v2700 : BitVec 1 := Scalar.cmpi .ne v2699 c0_i32_1078
  let v2701 : BitVec 1 := Scalar.andi v2698 v2700
  let v2687 : BitVec 32 := Scalar.divsi v2686 c128_i32_1073
  let c1_i32_1079 : BitVec 32 := 1#32
  let v2702 : BitVec 32 := Scalar.subi v2687 c1_i32_1079
  let v2703 : BitVec 32 := Scalar.select v2701 v2702 v2687
  let c128_i32_1080 : BitVec 32 := 128#32
  let v2704 : BitVec 32 := Scalar.muli v2703 c128_i32_1080
  let v2705 : BitVec 32 := v2704
  ![0, v2705.toNat]

def k0_chk135 (i : grid0.Coords) (v2686 : BitVec 32) : Prop :=
  (∀ (k0_h1 : k0_cond1 i = 1#1), 128 ∣ (k0_mult135 v2686).toNat) ∧
  (∀ (k0_h1 : k0_cond1 i = 1#1), ∀ a, (k0_off135 v2686) a + S64x128.size a ≤ S64x1000000.size a)
theorem k0_mult135_dvd : ∀ (i : grid0.Coords) (v2686 : BitVec 32) (k0_hw135 : k0_chk135 i v2686), ∀ (k0_h1 : k0_cond1 i = 1#1), 128 ∣ (k0_mult135 v2686).toNat := fun i v2686 k0_hw135 k0_h1 => k0_hw135.1 k0_h1
theorem k0_off135_inb : ∀ (i : grid0.Coords) (v2686 : BitVec 32) (k0_hw135 : k0_chk135 i v2686), ∀ (k0_h1 : k0_cond1 i = 1#1), ∀ a, (k0_off135 v2686) a + S64x128.size a ≤ S64x1000000.size a := fun i v2686 k0_hw135 k0_h1 => k0_hw135.2 k0_h1

def k0_off136 (v2706 : BitVec 32) : Fin 2 → Nat :=
  let c0_i32_1874 : BitVec 32 := 0#32
  let c0_i32_1082 : BitVec 32 := 0#32
  let v2708 : BitVec 1 := Scalar.cmpi .sgt v2706 c0_i32_1082
  let v2709 : BitVec 32 := Scalar.extui v2708
  let c0_i32_1083 : BitVec 32 := 0#32
  let v2710 : BitVec 1 := Scalar.cmpi .slt v2706 c0_i32_1083
  let v2711 : BitVec 32 := Scalar.extui v2710
  let v2712 : BitVec 32 := Scalar.subi v2709 v2711
  let c128_i32_1081 : BitVec 32 := 128#32
  let c0_i32_1084 : BitVec 32 := 0#32
  let v2713 : BitVec 1 := Scalar.cmpi .sgt c128_i32_1081 c0_i32_1084
  let v2714 : BitVec 32 := Scalar.extui v2713
  let c0_i32_1085 : BitVec 32 := 0#32
  let v2715 : BitVec 1 := Scalar.cmpi .slt c128_i32_1081 c0_i32_1085
  let v2716 : BitVec 32 := Scalar.extui v2715
  let v2717 : BitVec 32 := Scalar.subi v2714 v2716
  let v2718 : BitVec 1 := Scalar.cmpi .ne v2712 v2717
  let v2719 : BitVec 32 := Scalar.remsi v2706 c128_i32_1081
  let c0_i32_1086 : BitVec 32 := 0#32
  let v2720 : BitVec 1 := Scalar.cmpi .ne v2719 c0_i32_1086
  let v2721 : BitVec 1 := Scalar.andi v2718 v2720
  let v2707 : BitVec 32 := Scalar.divsi v2706 c128_i32_1081
  let c1_i32_1087 : BitVec 32 := 1#32
  let v2722 : BitVec 32 := Scalar.subi v2707 c1_i32_1087
  let v2723 : BitVec 32 := Scalar.select v2721 v2722 v2707
  let c128_i32_1088 : BitVec 32 := 128#32
  let v2724 : BitVec 32 := Scalar.muli v2723 c128_i32_1088
  let v2725 : BitVec 32 := v2724
  ![0, v2725.toNat]

def k0_chk136 (i : grid0.Coords) (v2706 : BitVec 32) : Prop :=
  (∀ (k0_h1 : k0_cond1 i = 1#1), 128 ∣ (k0_mult136 v2706).toNat) ∧
  (∀ (k0_h1 : k0_cond1 i = 1#1), ∀ a, (k0_off136 v2706) a + S64x128.size a ≤ S64x1000000.size a)
theorem k0_mult136_dvd : ∀ (i : grid0.Coords) (v2706 : BitVec 32) (k0_hw136 : k0_chk136 i v2706), ∀ (k0_h1 : k0_cond1 i = 1#1), 128 ∣ (k0_mult136 v2706).toNat := fun i v2706 k0_hw136 k0_h1 => k0_hw136.1 k0_h1
theorem k0_off136_inb : ∀ (i : grid0.Coords) (v2706 : BitVec 32) (k0_hw136 : k0_chk136 i v2706), ∀ (k0_h1 : k0_cond1 i = 1#1), ∀ a, (k0_off136 v2706) a + S64x128.size a ≤ S64x1000000.size a := fun i v2706 k0_hw136 k0_h1 => k0_hw136.2 k0_h1

def k0_off137 (v2726 : BitVec 32) : Fin 2 → Nat :=
  let c0_i32_1876 : BitVec 32 := 0#32
  let c0_i32_1090 : BitVec 32 := 0#32
  let v2728 : BitVec 1 := Scalar.cmpi .sgt v2726 c0_i32_1090
  let v2729 : BitVec 32 := Scalar.extui v2728
  let c0_i32_1091 : BitVec 32 := 0#32
  let v2730 : BitVec 1 := Scalar.cmpi .slt v2726 c0_i32_1091
  let v2731 : BitVec 32 := Scalar.extui v2730
  let v2732 : BitVec 32 := Scalar.subi v2729 v2731
  let c128_i32_1089 : BitVec 32 := 128#32
  let c0_i32_1092 : BitVec 32 := 0#32
  let v2733 : BitVec 1 := Scalar.cmpi .sgt c128_i32_1089 c0_i32_1092
  let v2734 : BitVec 32 := Scalar.extui v2733
  let c0_i32_1093 : BitVec 32 := 0#32
  let v2735 : BitVec 1 := Scalar.cmpi .slt c128_i32_1089 c0_i32_1093
  let v2736 : BitVec 32 := Scalar.extui v2735
  let v2737 : BitVec 32 := Scalar.subi v2734 v2736
  let v2738 : BitVec 1 := Scalar.cmpi .ne v2732 v2737
  let v2739 : BitVec 32 := Scalar.remsi v2726 c128_i32_1089
  let c0_i32_1094 : BitVec 32 := 0#32
  let v2740 : BitVec 1 := Scalar.cmpi .ne v2739 c0_i32_1094
  let v2741 : BitVec 1 := Scalar.andi v2738 v2740
  let v2727 : BitVec 32 := Scalar.divsi v2726 c128_i32_1089
  let c1_i32_1095 : BitVec 32 := 1#32
  let v2742 : BitVec 32 := Scalar.subi v2727 c1_i32_1095
  let v2743 : BitVec 32 := Scalar.select v2741 v2742 v2727
  let c128_i32_1096 : BitVec 32 := 128#32
  let v2744 : BitVec 32 := Scalar.muli v2743 c128_i32_1096
  let v2745 : BitVec 32 := v2744
  ![0, v2745.toNat]

def k0_chk137 (i : grid0.Coords) (v2726 : BitVec 32) : Prop :=
  (∀ (k0_h1 : k0_cond1 i = 1#1), 128 ∣ (k0_mult137 v2726).toNat) ∧
  (∀ (k0_h1 : k0_cond1 i = 1#1), ∀ a, (k0_off137 v2726) a + S64x128.size a ≤ S64x1000000.size a)
theorem k0_mult137_dvd : ∀ (i : grid0.Coords) (v2726 : BitVec 32) (k0_hw137 : k0_chk137 i v2726), ∀ (k0_h1 : k0_cond1 i = 1#1), 128 ∣ (k0_mult137 v2726).toNat := fun i v2726 k0_hw137 k0_h1 => k0_hw137.1 k0_h1
theorem k0_off137_inb : ∀ (i : grid0.Coords) (v2726 : BitVec 32) (k0_hw137 : k0_chk137 i v2726), ∀ (k0_h1 : k0_cond1 i = 1#1), ∀ a, (k0_off137 v2726) a + S64x128.size a ≤ S64x1000000.size a := fun i v2726 k0_hw137 k0_h1 => k0_hw137.2 k0_h1

def k0_off138 (v2746 : BitVec 32) : Fin 2 → Nat :=
  let c0_i32_1878 : BitVec 32 := 0#32
  let c0_i32_1098 : BitVec 32 := 0#32
  let v2748 : BitVec 1 := Scalar.cmpi .sgt v2746 c0_i32_1098
  let v2749 : BitVec 32 := Scalar.extui v2748
  let c0_i32_1099 : BitVec 32 := 0#32
  let v2750 : BitVec 1 := Scalar.cmpi .slt v2746 c0_i32_1099
  let v2751 : BitVec 32 := Scalar.extui v2750
  let v2752 : BitVec 32 := Scalar.subi v2749 v2751
  let c128_i32_1097 : BitVec 32 := 128#32
  let c0_i32_1100 : BitVec 32 := 0#32
  let v2753 : BitVec 1 := Scalar.cmpi .sgt c128_i32_1097 c0_i32_1100
  let v2754 : BitVec 32 := Scalar.extui v2753
  let c0_i32_1101 : BitVec 32 := 0#32
  let v2755 : BitVec 1 := Scalar.cmpi .slt c128_i32_1097 c0_i32_1101
  let v2756 : BitVec 32 := Scalar.extui v2755
  let v2757 : BitVec 32 := Scalar.subi v2754 v2756
  let v2758 : BitVec 1 := Scalar.cmpi .ne v2752 v2757
  let v2759 : BitVec 32 := Scalar.remsi v2746 c128_i32_1097
  let c0_i32_1102 : BitVec 32 := 0#32
  let v2760 : BitVec 1 := Scalar.cmpi .ne v2759 c0_i32_1102
  let v2761 : BitVec 1 := Scalar.andi v2758 v2760
  let v2747 : BitVec 32 := Scalar.divsi v2746 c128_i32_1097
  let c1_i32_1103 : BitVec 32 := 1#32
  let v2762 : BitVec 32 := Scalar.subi v2747 c1_i32_1103
  let v2763 : BitVec 32 := Scalar.select v2761 v2762 v2747
  let c128_i32_1104 : BitVec 32 := 128#32
  let v2764 : BitVec 32 := Scalar.muli v2763 c128_i32_1104
  let v2765 : BitVec 32 := v2764
  ![0, v2765.toNat]

def k0_chk138 (i : grid0.Coords) (v2746 : BitVec 32) : Prop :=
  (∀ (k0_h1 : k0_cond1 i = 1#1), 128 ∣ (k0_mult138 v2746).toNat) ∧
  (∀ (k0_h1 : k0_cond1 i = 1#1), ∀ a, (k0_off138 v2746) a + S64x128.size a ≤ S64x1000000.size a)
theorem k0_mult138_dvd : ∀ (i : grid0.Coords) (v2746 : BitVec 32) (k0_hw138 : k0_chk138 i v2746), ∀ (k0_h1 : k0_cond1 i = 1#1), 128 ∣ (k0_mult138 v2746).toNat := fun i v2746 k0_hw138 k0_h1 => k0_hw138.1 k0_h1
theorem k0_off138_inb : ∀ (i : grid0.Coords) (v2746 : BitVec 32) (k0_hw138 : k0_chk138 i v2746), ∀ (k0_h1 : k0_cond1 i = 1#1), ∀ a, (k0_off138 v2746) a + S64x128.size a ≤ S64x1000000.size a := fun i v2746 k0_hw138 k0_h1 => k0_hw138.2 k0_h1

def k0_off139 (v2766 : BitVec 32) : Fin 2 → Nat :=
  let c0_i32_1880 : BitVec 32 := 0#32
  let c0_i32_1106 : BitVec 32 := 0#32
  let v2768 : BitVec 1 := Scalar.cmpi .sgt v2766 c0_i32_1106
  let v2769 : BitVec 32 := Scalar.extui v2768
  let c0_i32_1107 : BitVec 32 := 0#32
  let v2770 : BitVec 1 := Scalar.cmpi .slt v2766 c0_i32_1107
  let v2771 : BitVec 32 := Scalar.extui v2770
  let v2772 : BitVec 32 := Scalar.subi v2769 v2771
  let c128_i32_1105 : BitVec 32 := 128#32
  let c0_i32_1108 : BitVec 32 := 0#32
  let v2773 : BitVec 1 := Scalar.cmpi .sgt c128_i32_1105 c0_i32_1108
  let v2774 : BitVec 32 := Scalar.extui v2773
  let c0_i32_1109 : BitVec 32 := 0#32
  let v2775 : BitVec 1 := Scalar.cmpi .slt c128_i32_1105 c0_i32_1109
  let v2776 : BitVec 32 := Scalar.extui v2775
  let v2777 : BitVec 32 := Scalar.subi v2774 v2776
  let v2778 : BitVec 1 := Scalar.cmpi .ne v2772 v2777
  let v2779 : BitVec 32 := Scalar.remsi v2766 c128_i32_1105
  let c0_i32_1110 : BitVec 32 := 0#32
  let v2780 : BitVec 1 := Scalar.cmpi .ne v2779 c0_i32_1110
  let v2781 : BitVec 1 := Scalar.andi v2778 v2780
  let v2767 : BitVec 32 := Scalar.divsi v2766 c128_i32_1105
  let c1_i32_1111 : BitVec 32 := 1#32
  let v2782 : BitVec 32 := Scalar.subi v2767 c1_i32_1111
  let v2783 : BitVec 32 := Scalar.select v2781 v2782 v2767
  let c128_i32_1112 : BitVec 32 := 128#32
  let v2784 : BitVec 32 := Scalar.muli v2783 c128_i32_1112
  let v2785 : BitVec 32 := v2784
  ![0, v2785.toNat]

def k0_chk139 (i : grid0.Coords) (v2766 : BitVec 32) : Prop :=
  (∀ (k0_h1 : k0_cond1 i = 1#1), 128 ∣ (k0_mult139 v2766).toNat) ∧
  (∀ (k0_h1 : k0_cond1 i = 1#1), ∀ a, (k0_off139 v2766) a + S64x128.size a ≤ S64x1000000.size a)
theorem k0_mult139_dvd : ∀ (i : grid0.Coords) (v2766 : BitVec 32) (k0_hw139 : k0_chk139 i v2766), ∀ (k0_h1 : k0_cond1 i = 1#1), 128 ∣ (k0_mult139 v2766).toNat := fun i v2766 k0_hw139 k0_h1 => k0_hw139.1 k0_h1
theorem k0_off139_inb : ∀ (i : grid0.Coords) (v2766 : BitVec 32) (k0_hw139 : k0_chk139 i v2766), ∀ (k0_h1 : k0_cond1 i = 1#1), ∀ a, (k0_off139 v2766) a + S64x128.size a ≤ S64x1000000.size a := fun i v2766 k0_hw139 k0_h1 => k0_hw139.2 k0_h1

def k0_off140 (v2786 : BitVec 32) : Fin 2 → Nat :=
  let c0_i32_1882 : BitVec 32 := 0#32
  let c0_i32_1114 : BitVec 32 := 0#32
  let v2788 : BitVec 1 := Scalar.cmpi .sgt v2786 c0_i32_1114
  let v2789 : BitVec 32 := Scalar.extui v2788
  let c0_i32_1115 : BitVec 32 := 0#32
  let v2790 : BitVec 1 := Scalar.cmpi .slt v2786 c0_i32_1115
  let v2791 : BitVec 32 := Scalar.extui v2790
  let v2792 : BitVec 32 := Scalar.subi v2789 v2791
  let c128_i32_1113 : BitVec 32 := 128#32
  let c0_i32_1116 : BitVec 32 := 0#32
  let v2793 : BitVec 1 := Scalar.cmpi .sgt c128_i32_1113 c0_i32_1116
  let v2794 : BitVec 32 := Scalar.extui v2793
  let c0_i32_1117 : BitVec 32 := 0#32
  let v2795 : BitVec 1 := Scalar.cmpi .slt c128_i32_1113 c0_i32_1117
  let v2796 : BitVec 32 := Scalar.extui v2795
  let v2797 : BitVec 32 := Scalar.subi v2794 v2796
  let v2798 : BitVec 1 := Scalar.cmpi .ne v2792 v2797
  let v2799 : BitVec 32 := Scalar.remsi v2786 c128_i32_1113
  let c0_i32_1118 : BitVec 32 := 0#32
  let v2800 : BitVec 1 := Scalar.cmpi .ne v2799 c0_i32_1118
  let v2801 : BitVec 1 := Scalar.andi v2798 v2800
  let v2787 : BitVec 32 := Scalar.divsi v2786 c128_i32_1113
  let c1_i32_1119 : BitVec 32 := 1#32
  let v2802 : BitVec 32 := Scalar.subi v2787 c1_i32_1119
  let v2803 : BitVec 32 := Scalar.select v2801 v2802 v2787
  let c128_i32_1120 : BitVec 32 := 128#32
  let v2804 : BitVec 32 := Scalar.muli v2803 c128_i32_1120
  let v2805 : BitVec 32 := v2804
  ![0, v2805.toNat]

def k0_chk140 (i : grid0.Coords) (v2786 : BitVec 32) : Prop :=
  (∀ (k0_h1 : k0_cond1 i = 1#1), 128 ∣ (k0_mult140 v2786).toNat) ∧
  (∀ (k0_h1 : k0_cond1 i = 1#1), ∀ a, (k0_off140 v2786) a + S64x128.size a ≤ S64x1000000.size a)
theorem k0_mult140_dvd : ∀ (i : grid0.Coords) (v2786 : BitVec 32) (k0_hw140 : k0_chk140 i v2786), ∀ (k0_h1 : k0_cond1 i = 1#1), 128 ∣ (k0_mult140 v2786).toNat := fun i v2786 k0_hw140 k0_h1 => k0_hw140.1 k0_h1
theorem k0_off140_inb : ∀ (i : grid0.Coords) (v2786 : BitVec 32) (k0_hw140 : k0_chk140 i v2786), ∀ (k0_h1 : k0_cond1 i = 1#1), ∀ a, (k0_off140 v2786) a + S64x128.size a ≤ S64x1000000.size a := fun i v2786 k0_hw140 k0_h1 => k0_hw140.2 k0_h1

def k0_off141 (v2806 : BitVec 32) : Fin 2 → Nat :=
  let c0_i32_1884 : BitVec 32 := 0#32
  let c0_i32_1122 : BitVec 32 := 0#32
  let v2808 : BitVec 1 := Scalar.cmpi .sgt v2806 c0_i32_1122
  let v2809 : BitVec 32 := Scalar.extui v2808
  let c0_i32_1123 : BitVec 32 := 0#32
  let v2810 : BitVec 1 := Scalar.cmpi .slt v2806 c0_i32_1123
  let v2811 : BitVec 32 := Scalar.extui v2810
  let v2812 : BitVec 32 := Scalar.subi v2809 v2811
  let c128_i32_1121 : BitVec 32 := 128#32
  let c0_i32_1124 : BitVec 32 := 0#32
  let v2813 : BitVec 1 := Scalar.cmpi .sgt c128_i32_1121 c0_i32_1124
  let v2814 : BitVec 32 := Scalar.extui v2813
  let c0_i32_1125 : BitVec 32 := 0#32
  let v2815 : BitVec 1 := Scalar.cmpi .slt c128_i32_1121 c0_i32_1125
  let v2816 : BitVec 32 := Scalar.extui v2815
  let v2817 : BitVec 32 := Scalar.subi v2814 v2816
  let v2818 : BitVec 1 := Scalar.cmpi .ne v2812 v2817
  let v2819 : BitVec 32 := Scalar.remsi v2806 c128_i32_1121
  let c0_i32_1126 : BitVec 32 := 0#32
  let v2820 : BitVec 1 := Scalar.cmpi .ne v2819 c0_i32_1126
  let v2821 : BitVec 1 := Scalar.andi v2818 v2820
  let v2807 : BitVec 32 := Scalar.divsi v2806 c128_i32_1121
  let c1_i32_1127 : BitVec 32 := 1#32
  let v2822 : BitVec 32 := Scalar.subi v2807 c1_i32_1127
  let v2823 : BitVec 32 := Scalar.select v2821 v2822 v2807
  let c128_i32_1128 : BitVec 32 := 128#32
  let v2824 : BitVec 32 := Scalar.muli v2823 c128_i32_1128
  let v2825 : BitVec 32 := v2824
  ![0, v2825.toNat]

def k0_chk141 (i : grid0.Coords) (v2806 : BitVec 32) : Prop :=
  (∀ (k0_h1 : k0_cond1 i = 1#1), 128 ∣ (k0_mult141 v2806).toNat) ∧
  (∀ (k0_h1 : k0_cond1 i = 1#1), ∀ a, (k0_off141 v2806) a + S64x128.size a ≤ S64x1000000.size a)
theorem k0_mult141_dvd : ∀ (i : grid0.Coords) (v2806 : BitVec 32) (k0_hw141 : k0_chk141 i v2806), ∀ (k0_h1 : k0_cond1 i = 1#1), 128 ∣ (k0_mult141 v2806).toNat := fun i v2806 k0_hw141 k0_h1 => k0_hw141.1 k0_h1
theorem k0_off141_inb : ∀ (i : grid0.Coords) (v2806 : BitVec 32) (k0_hw141 : k0_chk141 i v2806), ∀ (k0_h1 : k0_cond1 i = 1#1), ∀ a, (k0_off141 v2806) a + S64x128.size a ≤ S64x1000000.size a := fun i v2806 k0_hw141 k0_h1 => k0_hw141.2 k0_h1

def k0_off142 (v2826 : BitVec 32) : Fin 2 → Nat :=
  let c0_i32_1886 : BitVec 32 := 0#32
  let c0_i32_1130 : BitVec 32 := 0#32
  let v2828 : BitVec 1 := Scalar.cmpi .sgt v2826 c0_i32_1130
  let v2829 : BitVec 32 := Scalar.extui v2828
  let c0_i32_1131 : BitVec 32 := 0#32
  let v2830 : BitVec 1 := Scalar.cmpi .slt v2826 c0_i32_1131
  let v2831 : BitVec 32 := Scalar.extui v2830
  let v2832 : BitVec 32 := Scalar.subi v2829 v2831
  let c128_i32_1129 : BitVec 32 := 128#32
  let c0_i32_1132 : BitVec 32 := 0#32
  let v2833 : BitVec 1 := Scalar.cmpi .sgt c128_i32_1129 c0_i32_1132
  let v2834 : BitVec 32 := Scalar.extui v2833
  let c0_i32_1133 : BitVec 32 := 0#32
  let v2835 : BitVec 1 := Scalar.cmpi .slt c128_i32_1129 c0_i32_1133
  let v2836 : BitVec 32 := Scalar.extui v2835
  let v2837 : BitVec 32 := Scalar.subi v2834 v2836
  let v2838 : BitVec 1 := Scalar.cmpi .ne v2832 v2837
  let v2839 : BitVec 32 := Scalar.remsi v2826 c128_i32_1129
  let c0_i32_1134 : BitVec 32 := 0#32
  let v2840 : BitVec 1 := Scalar.cmpi .ne v2839 c0_i32_1134
  let v2841 : BitVec 1 := Scalar.andi v2838 v2840
  let v2827 : BitVec 32 := Scalar.divsi v2826 c128_i32_1129
  let c1_i32_1135 : BitVec 32 := 1#32
  let v2842 : BitVec 32 := Scalar.subi v2827 c1_i32_1135
  let v2843 : BitVec 32 := Scalar.select v2841 v2842 v2827
  let c128_i32_1136 : BitVec 32 := 128#32
  let v2844 : BitVec 32 := Scalar.muli v2843 c128_i32_1136
  let v2845 : BitVec 32 := v2844
  ![0, v2845.toNat]

def k0_chk142 (i : grid0.Coords) (v2826 : BitVec 32) : Prop :=
  (∀ (k0_h1 : k0_cond1 i = 1#1), 128 ∣ (k0_mult142 v2826).toNat) ∧
  (∀ (k0_h1 : k0_cond1 i = 1#1), ∀ a, (k0_off142 v2826) a + S64x128.size a ≤ S64x1000000.size a)
theorem k0_mult142_dvd : ∀ (i : grid0.Coords) (v2826 : BitVec 32) (k0_hw142 : k0_chk142 i v2826), ∀ (k0_h1 : k0_cond1 i = 1#1), 128 ∣ (k0_mult142 v2826).toNat := fun i v2826 k0_hw142 k0_h1 => k0_hw142.1 k0_h1
theorem k0_off142_inb : ∀ (i : grid0.Coords) (v2826 : BitVec 32) (k0_hw142 : k0_chk142 i v2826), ∀ (k0_h1 : k0_cond1 i = 1#1), ∀ a, (k0_off142 v2826) a + S64x128.size a ≤ S64x1000000.size a := fun i v2826 k0_hw142 k0_h1 => k0_hw142.2 k0_h1

def k0_off143 (v2846 : BitVec 32) : Fin 2 → Nat :=
  let c0_i32_1888 : BitVec 32 := 0#32
  let c0_i32_1138 : BitVec 32 := 0#32
  let v2848 : BitVec 1 := Scalar.cmpi .sgt v2846 c0_i32_1138
  let v2849 : BitVec 32 := Scalar.extui v2848
  let c0_i32_1139 : BitVec 32 := 0#32
  let v2850 : BitVec 1 := Scalar.cmpi .slt v2846 c0_i32_1139
  let v2851 : BitVec 32 := Scalar.extui v2850
  let v2852 : BitVec 32 := Scalar.subi v2849 v2851
  let c128_i32_1137 : BitVec 32 := 128#32
  let c0_i32_1140 : BitVec 32 := 0#32
  let v2853 : BitVec 1 := Scalar.cmpi .sgt c128_i32_1137 c0_i32_1140
  let v2854 : BitVec 32 := Scalar.extui v2853
  let c0_i32_1141 : BitVec 32 := 0#32
  let v2855 : BitVec 1 := Scalar.cmpi .slt c128_i32_1137 c0_i32_1141
  let v2856 : BitVec 32 := Scalar.extui v2855
  let v2857 : BitVec 32 := Scalar.subi v2854 v2856
  let v2858 : BitVec 1 := Scalar.cmpi .ne v2852 v2857
  let v2859 : BitVec 32 := Scalar.remsi v2846 c128_i32_1137
  let c0_i32_1142 : BitVec 32 := 0#32
  let v2860 : BitVec 1 := Scalar.cmpi .ne v2859 c0_i32_1142
  let v2861 : BitVec 1 := Scalar.andi v2858 v2860
  let v2847 : BitVec 32 := Scalar.divsi v2846 c128_i32_1137
  let c1_i32_1143 : BitVec 32 := 1#32
  let v2862 : BitVec 32 := Scalar.subi v2847 c1_i32_1143
  let v2863 : BitVec 32 := Scalar.select v2861 v2862 v2847
  let c128_i32_1144 : BitVec 32 := 128#32
  let v2864 : BitVec 32 := Scalar.muli v2863 c128_i32_1144
  let v2865 : BitVec 32 := v2864
  ![0, v2865.toNat]

def k0_chk143 (i : grid0.Coords) (v2846 : BitVec 32) : Prop :=
  (∀ (k0_h1 : k0_cond1 i = 1#1), 128 ∣ (k0_mult143 v2846).toNat) ∧
  (∀ (k0_h1 : k0_cond1 i = 1#1), ∀ a, (k0_off143 v2846) a + S64x128.size a ≤ S64x1000000.size a)
theorem k0_mult143_dvd : ∀ (i : grid0.Coords) (v2846 : BitVec 32) (k0_hw143 : k0_chk143 i v2846), ∀ (k0_h1 : k0_cond1 i = 1#1), 128 ∣ (k0_mult143 v2846).toNat := fun i v2846 k0_hw143 k0_h1 => k0_hw143.1 k0_h1
theorem k0_off143_inb : ∀ (i : grid0.Coords) (v2846 : BitVec 32) (k0_hw143 : k0_chk143 i v2846), ∀ (k0_h1 : k0_cond1 i = 1#1), ∀ a, (k0_off143 v2846) a + S64x128.size a ≤ S64x1000000.size a := fun i v2846 k0_hw143 k0_h1 => k0_hw143.2 k0_h1

def k0_off144 (v2866 : BitVec 32) : Fin 2 → Nat :=
  let c0_i32_1890 : BitVec 32 := 0#32
  let c0_i32_1146 : BitVec 32 := 0#32
  let v2868 : BitVec 1 := Scalar.cmpi .sgt v2866 c0_i32_1146
  let v2869 : BitVec 32 := Scalar.extui v2868
  let c0_i32_1147 : BitVec 32 := 0#32
  let v2870 : BitVec 1 := Scalar.cmpi .slt v2866 c0_i32_1147
  let v2871 : BitVec 32 := Scalar.extui v2870
  let v2872 : BitVec 32 := Scalar.subi v2869 v2871
  let c128_i32_1145 : BitVec 32 := 128#32
  let c0_i32_1148 : BitVec 32 := 0#32
  let v2873 : BitVec 1 := Scalar.cmpi .sgt c128_i32_1145 c0_i32_1148
  let v2874 : BitVec 32 := Scalar.extui v2873
  let c0_i32_1149 : BitVec 32 := 0#32
  let v2875 : BitVec 1 := Scalar.cmpi .slt c128_i32_1145 c0_i32_1149
  let v2876 : BitVec 32 := Scalar.extui v2875
  let v2877 : BitVec 32 := Scalar.subi v2874 v2876
  let v2878 : BitVec 1 := Scalar.cmpi .ne v2872 v2877
  let v2879 : BitVec 32 := Scalar.remsi v2866 c128_i32_1145
  let c0_i32_1150 : BitVec 32 := 0#32
  let v2880 : BitVec 1 := Scalar.cmpi .ne v2879 c0_i32_1150
  let v2881 : BitVec 1 := Scalar.andi v2878 v2880
  let v2867 : BitVec 32 := Scalar.divsi v2866 c128_i32_1145
  let c1_i32_1151 : BitVec 32 := 1#32
  let v2882 : BitVec 32 := Scalar.subi v2867 c1_i32_1151
  let v2883 : BitVec 32 := Scalar.select v2881 v2882 v2867
  let c128_i32_1152 : BitVec 32 := 128#32
  let v2884 : BitVec 32 := Scalar.muli v2883 c128_i32_1152
  let v2885 : BitVec 32 := v2884
  ![0, v2885.toNat]

def k0_chk144 (i : grid0.Coords) (v2866 : BitVec 32) : Prop :=
  (∀ (k0_h1 : k0_cond1 i = 1#1), 128 ∣ (k0_mult144 v2866).toNat) ∧
  (∀ (k0_h1 : k0_cond1 i = 1#1), ∀ a, (k0_off144 v2866) a + S64x128.size a ≤ S64x1000000.size a)
theorem k0_mult144_dvd : ∀ (i : grid0.Coords) (v2866 : BitVec 32) (k0_hw144 : k0_chk144 i v2866), ∀ (k0_h1 : k0_cond1 i = 1#1), 128 ∣ (k0_mult144 v2866).toNat := fun i v2866 k0_hw144 k0_h1 => k0_hw144.1 k0_h1
theorem k0_off144_inb : ∀ (i : grid0.Coords) (v2866 : BitVec 32) (k0_hw144 : k0_chk144 i v2866), ∀ (k0_h1 : k0_cond1 i = 1#1), ∀ a, (k0_off144 v2866) a + S64x128.size a ≤ S64x1000000.size a := fun i v2866 k0_hw144 k0_h1 => k0_hw144.2 k0_h1

def k0_off145 (v2886 : BitVec 32) : Fin 2 → Nat :=
  let c0_i32_1892 : BitVec 32 := 0#32
  let c0_i32_1154 : BitVec 32 := 0#32
  let v2888 : BitVec 1 := Scalar.cmpi .sgt v2886 c0_i32_1154
  let v2889 : BitVec 32 := Scalar.extui v2888
  let c0_i32_1155 : BitVec 32 := 0#32
  let v2890 : BitVec 1 := Scalar.cmpi .slt v2886 c0_i32_1155
  let v2891 : BitVec 32 := Scalar.extui v2890
  let v2892 : BitVec 32 := Scalar.subi v2889 v2891
  let c128_i32_1153 : BitVec 32 := 128#32
  let c0_i32_1156 : BitVec 32 := 0#32
  let v2893 : BitVec 1 := Scalar.cmpi .sgt c128_i32_1153 c0_i32_1156
  let v2894 : BitVec 32 := Scalar.extui v2893
  let c0_i32_1157 : BitVec 32 := 0#32
  let v2895 : BitVec 1 := Scalar.cmpi .slt c128_i32_1153 c0_i32_1157
  let v2896 : BitVec 32 := Scalar.extui v2895
  let v2897 : BitVec 32 := Scalar.subi v2894 v2896
  let v2898 : BitVec 1 := Scalar.cmpi .ne v2892 v2897
  let v2899 : BitVec 32 := Scalar.remsi v2886 c128_i32_1153
  let c0_i32_1158 : BitVec 32 := 0#32
  let v2900 : BitVec 1 := Scalar.cmpi .ne v2899 c0_i32_1158
  let v2901 : BitVec 1 := Scalar.andi v2898 v2900
  let v2887 : BitVec 32 := Scalar.divsi v2886 c128_i32_1153
  let c1_i32_1159 : BitVec 32 := 1#32
  let v2902 : BitVec 32 := Scalar.subi v2887 c1_i32_1159
  let v2903 : BitVec 32 := Scalar.select v2901 v2902 v2887
  let c128_i32_1160 : BitVec 32 := 128#32
  let v2904 : BitVec 32 := Scalar.muli v2903 c128_i32_1160
  let v2905 : BitVec 32 := v2904
  ![0, v2905.toNat]

def k0_chk145 (i : grid0.Coords) (v2886 : BitVec 32) : Prop :=
  (∀ (k0_h1 : k0_cond1 i = 1#1), 128 ∣ (k0_mult145 v2886).toNat) ∧
  (∀ (k0_h1 : k0_cond1 i = 1#1), ∀ a, (k0_off145 v2886) a + S64x128.size a ≤ S64x1000000.size a)
theorem k0_mult145_dvd : ∀ (i : grid0.Coords) (v2886 : BitVec 32) (k0_hw145 : k0_chk145 i v2886), ∀ (k0_h1 : k0_cond1 i = 1#1), 128 ∣ (k0_mult145 v2886).toNat := fun i v2886 k0_hw145 k0_h1 => k0_hw145.1 k0_h1
theorem k0_off145_inb : ∀ (i : grid0.Coords) (v2886 : BitVec 32) (k0_hw145 : k0_chk145 i v2886), ∀ (k0_h1 : k0_cond1 i = 1#1), ∀ a, (k0_off145 v2886) a + S64x128.size a ≤ S64x1000000.size a := fun i v2886 k0_hw145 k0_h1 => k0_hw145.2 k0_h1

def k0_off146 (v2906 : BitVec 32) : Fin 2 → Nat :=
  let c0_i32_1894 : BitVec 32 := 0#32
  let c0_i32_1162 : BitVec 32 := 0#32
  let v2908 : BitVec 1 := Scalar.cmpi .sgt v2906 c0_i32_1162
  let v2909 : BitVec 32 := Scalar.extui v2908
  let c0_i32_1163 : BitVec 32 := 0#32
  let v2910 : BitVec 1 := Scalar.cmpi .slt v2906 c0_i32_1163
  let v2911 : BitVec 32 := Scalar.extui v2910
  let v2912 : BitVec 32 := Scalar.subi v2909 v2911
  let c128_i32_1161 : BitVec 32 := 128#32
  let c0_i32_1164 : BitVec 32 := 0#32
  let v2913 : BitVec 1 := Scalar.cmpi .sgt c128_i32_1161 c0_i32_1164
  let v2914 : BitVec 32 := Scalar.extui v2913
  let c0_i32_1165 : BitVec 32 := 0#32
  let v2915 : BitVec 1 := Scalar.cmpi .slt c128_i32_1161 c0_i32_1165
  let v2916 : BitVec 32 := Scalar.extui v2915
  let v2917 : BitVec 32 := Scalar.subi v2914 v2916
  let v2918 : BitVec 1 := Scalar.cmpi .ne v2912 v2917
  let v2919 : BitVec 32 := Scalar.remsi v2906 c128_i32_1161
  let c0_i32_1166 : BitVec 32 := 0#32
  let v2920 : BitVec 1 := Scalar.cmpi .ne v2919 c0_i32_1166
  let v2921 : BitVec 1 := Scalar.andi v2918 v2920
  let v2907 : BitVec 32 := Scalar.divsi v2906 c128_i32_1161
  let c1_i32_1167 : BitVec 32 := 1#32
  let v2922 : BitVec 32 := Scalar.subi v2907 c1_i32_1167
  let v2923 : BitVec 32 := Scalar.select v2921 v2922 v2907
  let c128_i32_1168 : BitVec 32 := 128#32
  let v2924 : BitVec 32 := Scalar.muli v2923 c128_i32_1168
  let v2925 : BitVec 32 := v2924
  ![0, v2925.toNat]

def k0_chk146 (i : grid0.Coords) (v2906 : BitVec 32) : Prop :=
  (∀ (k0_h1 : k0_cond1 i = 1#1), 128 ∣ (k0_mult146 v2906).toNat) ∧
  (∀ (k0_h1 : k0_cond1 i = 1#1), ∀ a, (k0_off146 v2906) a + S64x128.size a ≤ S64x1000000.size a)
theorem k0_mult146_dvd : ∀ (i : grid0.Coords) (v2906 : BitVec 32) (k0_hw146 : k0_chk146 i v2906), ∀ (k0_h1 : k0_cond1 i = 1#1), 128 ∣ (k0_mult146 v2906).toNat := fun i v2906 k0_hw146 k0_h1 => k0_hw146.1 k0_h1
theorem k0_off146_inb : ∀ (i : grid0.Coords) (v2906 : BitVec 32) (k0_hw146 : k0_chk146 i v2906), ∀ (k0_h1 : k0_cond1 i = 1#1), ∀ a, (k0_off146 v2906) a + S64x128.size a ≤ S64x1000000.size a := fun i v2906 k0_hw146 k0_h1 => k0_hw146.2 k0_h1

def k0_off147 (v2926 : BitVec 32) : Fin 2 → Nat :=
  let c0_i32_1896 : BitVec 32 := 0#32
  let c0_i32_1170 : BitVec 32 := 0#32
  let v2928 : BitVec 1 := Scalar.cmpi .sgt v2926 c0_i32_1170
  let v2929 : BitVec 32 := Scalar.extui v2928
  let c0_i32_1171 : BitVec 32 := 0#32
  let v2930 : BitVec 1 := Scalar.cmpi .slt v2926 c0_i32_1171
  let v2931 : BitVec 32 := Scalar.extui v2930
  let v2932 : BitVec 32 := Scalar.subi v2929 v2931
  let c128_i32_1169 : BitVec 32 := 128#32
  let c0_i32_1172 : BitVec 32 := 0#32
  let v2933 : BitVec 1 := Scalar.cmpi .sgt c128_i32_1169 c0_i32_1172
  let v2934 : BitVec 32 := Scalar.extui v2933
  let c0_i32_1173 : BitVec 32 := 0#32
  let v2935 : BitVec 1 := Scalar.cmpi .slt c128_i32_1169 c0_i32_1173
  let v2936 : BitVec 32 := Scalar.extui v2935
  let v2937 : BitVec 32 := Scalar.subi v2934 v2936
  let v2938 : BitVec 1 := Scalar.cmpi .ne v2932 v2937
  let v2939 : BitVec 32 := Scalar.remsi v2926 c128_i32_1169
  let c0_i32_1174 : BitVec 32 := 0#32
  let v2940 : BitVec 1 := Scalar.cmpi .ne v2939 c0_i32_1174
  let v2941 : BitVec 1 := Scalar.andi v2938 v2940
  let v2927 : BitVec 32 := Scalar.divsi v2926 c128_i32_1169
  let c1_i32_1175 : BitVec 32 := 1#32
  let v2942 : BitVec 32 := Scalar.subi v2927 c1_i32_1175
  let v2943 : BitVec 32 := Scalar.select v2941 v2942 v2927
  let c128_i32_1176 : BitVec 32 := 128#32
  let v2944 : BitVec 32 := Scalar.muli v2943 c128_i32_1176
  let v2945 : BitVec 32 := v2944
  ![0, v2945.toNat]

def k0_chk147 (i : grid0.Coords) (v2926 : BitVec 32) : Prop :=
  (∀ (k0_h1 : k0_cond1 i = 1#1), 128 ∣ (k0_mult147 v2926).toNat) ∧
  (∀ (k0_h1 : k0_cond1 i = 1#1), ∀ a, (k0_off147 v2926) a + S64x128.size a ≤ S64x1000000.size a)
theorem k0_mult147_dvd : ∀ (i : grid0.Coords) (v2926 : BitVec 32) (k0_hw147 : k0_chk147 i v2926), ∀ (k0_h1 : k0_cond1 i = 1#1), 128 ∣ (k0_mult147 v2926).toNat := fun i v2926 k0_hw147 k0_h1 => k0_hw147.1 k0_h1
theorem k0_off147_inb : ∀ (i : grid0.Coords) (v2926 : BitVec 32) (k0_hw147 : k0_chk147 i v2926), ∀ (k0_h1 : k0_cond1 i = 1#1), ∀ a, (k0_off147 v2926) a + S64x128.size a ≤ S64x1000000.size a := fun i v2926 k0_hw147 k0_h1 => k0_hw147.2 k0_h1

def k0_off148 (v2946 : BitVec 32) : Fin 2 → Nat :=
  let c0_i32_1898 : BitVec 32 := 0#32
  let c0_i32_1178 : BitVec 32 := 0#32
  let v2948 : BitVec 1 := Scalar.cmpi .sgt v2946 c0_i32_1178
  let v2949 : BitVec 32 := Scalar.extui v2948
  let c0_i32_1179 : BitVec 32 := 0#32
  let v2950 : BitVec 1 := Scalar.cmpi .slt v2946 c0_i32_1179
  let v2951 : BitVec 32 := Scalar.extui v2950
  let v2952 : BitVec 32 := Scalar.subi v2949 v2951
  let c128_i32_1177 : BitVec 32 := 128#32
  let c0_i32_1180 : BitVec 32 := 0#32
  let v2953 : BitVec 1 := Scalar.cmpi .sgt c128_i32_1177 c0_i32_1180
  let v2954 : BitVec 32 := Scalar.extui v2953
  let c0_i32_1181 : BitVec 32 := 0#32
  let v2955 : BitVec 1 := Scalar.cmpi .slt c128_i32_1177 c0_i32_1181
  let v2956 : BitVec 32 := Scalar.extui v2955
  let v2957 : BitVec 32 := Scalar.subi v2954 v2956
  let v2958 : BitVec 1 := Scalar.cmpi .ne v2952 v2957
  let v2959 : BitVec 32 := Scalar.remsi v2946 c128_i32_1177
  let c0_i32_1182 : BitVec 32 := 0#32
  let v2960 : BitVec 1 := Scalar.cmpi .ne v2959 c0_i32_1182
  let v2961 : BitVec 1 := Scalar.andi v2958 v2960
  let v2947 : BitVec 32 := Scalar.divsi v2946 c128_i32_1177
  let c1_i32_1183 : BitVec 32 := 1#32
  let v2962 : BitVec 32 := Scalar.subi v2947 c1_i32_1183
  let v2963 : BitVec 32 := Scalar.select v2961 v2962 v2947
  let c128_i32_1184 : BitVec 32 := 128#32
  let v2964 : BitVec 32 := Scalar.muli v2963 c128_i32_1184
  let v2965 : BitVec 32 := v2964
  ![0, v2965.toNat]

def k0_chk148 (i : grid0.Coords) (v2946 : BitVec 32) : Prop :=
  (∀ (k0_h1 : k0_cond1 i = 1#1), 128 ∣ (k0_mult148 v2946).toNat) ∧
  (∀ (k0_h1 : k0_cond1 i = 1#1), ∀ a, (k0_off148 v2946) a + S64x128.size a ≤ S64x1000000.size a)
theorem k0_mult148_dvd : ∀ (i : grid0.Coords) (v2946 : BitVec 32) (k0_hw148 : k0_chk148 i v2946), ∀ (k0_h1 : k0_cond1 i = 1#1), 128 ∣ (k0_mult148 v2946).toNat := fun i v2946 k0_hw148 k0_h1 => k0_hw148.1 k0_h1
theorem k0_off148_inb : ∀ (i : grid0.Coords) (v2946 : BitVec 32) (k0_hw148 : k0_chk148 i v2946), ∀ (k0_h1 : k0_cond1 i = 1#1), ∀ a, (k0_off148 v2946) a + S64x128.size a ≤ S64x1000000.size a := fun i v2946 k0_hw148 k0_h1 => k0_hw148.2 k0_h1

def k0_off149 (v2966 : BitVec 32) : Fin 2 → Nat :=
  let c0_i32_1900 : BitVec 32 := 0#32
  let c0_i32_1186 : BitVec 32 := 0#32
  let v2968 : BitVec 1 := Scalar.cmpi .sgt v2966 c0_i32_1186
  let v2969 : BitVec 32 := Scalar.extui v2968
  let c0_i32_1187 : BitVec 32 := 0#32
  let v2970 : BitVec 1 := Scalar.cmpi .slt v2966 c0_i32_1187
  let v2971 : BitVec 32 := Scalar.extui v2970
  let v2972 : BitVec 32 := Scalar.subi v2969 v2971
  let c128_i32_1185 : BitVec 32 := 128#32
  let c0_i32_1188 : BitVec 32 := 0#32
  let v2973 : BitVec 1 := Scalar.cmpi .sgt c128_i32_1185 c0_i32_1188
  let v2974 : BitVec 32 := Scalar.extui v2973
  let c0_i32_1189 : BitVec 32 := 0#32
  let v2975 : BitVec 1 := Scalar.cmpi .slt c128_i32_1185 c0_i32_1189
  let v2976 : BitVec 32 := Scalar.extui v2975
  let v2977 : BitVec 32 := Scalar.subi v2974 v2976
  let v2978 : BitVec 1 := Scalar.cmpi .ne v2972 v2977
  let v2979 : BitVec 32 := Scalar.remsi v2966 c128_i32_1185
  let c0_i32_1190 : BitVec 32 := 0#32
  let v2980 : BitVec 1 := Scalar.cmpi .ne v2979 c0_i32_1190
  let v2981 : BitVec 1 := Scalar.andi v2978 v2980
  let v2967 : BitVec 32 := Scalar.divsi v2966 c128_i32_1185
  let c1_i32_1191 : BitVec 32 := 1#32
  let v2982 : BitVec 32 := Scalar.subi v2967 c1_i32_1191
  let v2983 : BitVec 32 := Scalar.select v2981 v2982 v2967
  let c128_i32_1192 : BitVec 32 := 128#32
  let v2984 : BitVec 32 := Scalar.muli v2983 c128_i32_1192
  let v2985 : BitVec 32 := v2984
  ![0, v2985.toNat]

def k0_chk149 (i : grid0.Coords) (v2966 : BitVec 32) : Prop :=
  (∀ (k0_h1 : k0_cond1 i = 1#1), 128 ∣ (k0_mult149 v2966).toNat) ∧
  (∀ (k0_h1 : k0_cond1 i = 1#1), ∀ a, (k0_off149 v2966) a + S64x128.size a ≤ S64x1000000.size a)
theorem k0_mult149_dvd : ∀ (i : grid0.Coords) (v2966 : BitVec 32) (k0_hw149 : k0_chk149 i v2966), ∀ (k0_h1 : k0_cond1 i = 1#1), 128 ∣ (k0_mult149 v2966).toNat := fun i v2966 k0_hw149 k0_h1 => k0_hw149.1 k0_h1
theorem k0_off149_inb : ∀ (i : grid0.Coords) (v2966 : BitVec 32) (k0_hw149 : k0_chk149 i v2966), ∀ (k0_h1 : k0_cond1 i = 1#1), ∀ a, (k0_off149 v2966) a + S64x128.size a ≤ S64x1000000.size a := fun i v2966 k0_hw149 k0_h1 => k0_hw149.2 k0_h1

def k0_off150 (v2986 : BitVec 32) : Fin 2 → Nat :=
  let c0_i32_1902 : BitVec 32 := 0#32
  let c0_i32_1194 : BitVec 32 := 0#32
  let v2988 : BitVec 1 := Scalar.cmpi .sgt v2986 c0_i32_1194
  let v2989 : BitVec 32 := Scalar.extui v2988
  let c0_i32_1195 : BitVec 32 := 0#32
  let v2990 : BitVec 1 := Scalar.cmpi .slt v2986 c0_i32_1195
  let v2991 : BitVec 32 := Scalar.extui v2990
  let v2992 : BitVec 32 := Scalar.subi v2989 v2991
  let c128_i32_1193 : BitVec 32 := 128#32
  let c0_i32_1196 : BitVec 32 := 0#32
  let v2993 : BitVec 1 := Scalar.cmpi .sgt c128_i32_1193 c0_i32_1196
  let v2994 : BitVec 32 := Scalar.extui v2993
  let c0_i32_1197 : BitVec 32 := 0#32
  let v2995 : BitVec 1 := Scalar.cmpi .slt c128_i32_1193 c0_i32_1197
  let v2996 : BitVec 32 := Scalar.extui v2995
  let v2997 : BitVec 32 := Scalar.subi v2994 v2996
  let v2998 : BitVec 1 := Scalar.cmpi .ne v2992 v2997
  let v2999 : BitVec 32 := Scalar.remsi v2986 c128_i32_1193
  let c0_i32_1198 : BitVec 32 := 0#32
  let v3000 : BitVec 1 := Scalar.cmpi .ne v2999 c0_i32_1198
  let v3001 : BitVec 1 := Scalar.andi v2998 v3000
  let v2987 : BitVec 32 := Scalar.divsi v2986 c128_i32_1193
  let c1_i32_1199 : BitVec 32 := 1#32
  let v3002 : BitVec 32 := Scalar.subi v2987 c1_i32_1199
  let v3003 : BitVec 32 := Scalar.select v3001 v3002 v2987
  let c128_i32_1200 : BitVec 32 := 128#32
  let v3004 : BitVec 32 := Scalar.muli v3003 c128_i32_1200
  let v3005 : BitVec 32 := v3004
  ![0, v3005.toNat]

def k0_chk150 (i : grid0.Coords) (v2986 : BitVec 32) : Prop :=
  (∀ (k0_h1 : k0_cond1 i = 1#1), 128 ∣ (k0_mult150 v2986).toNat) ∧
  (∀ (k0_h1 : k0_cond1 i = 1#1), ∀ a, (k0_off150 v2986) a + S64x128.size a ≤ S64x1000000.size a)
theorem k0_mult150_dvd : ∀ (i : grid0.Coords) (v2986 : BitVec 32) (k0_hw150 : k0_chk150 i v2986), ∀ (k0_h1 : k0_cond1 i = 1#1), 128 ∣ (k0_mult150 v2986).toNat := fun i v2986 k0_hw150 k0_h1 => k0_hw150.1 k0_h1
theorem k0_off150_inb : ∀ (i : grid0.Coords) (v2986 : BitVec 32) (k0_hw150 : k0_chk150 i v2986), ∀ (k0_h1 : k0_cond1 i = 1#1), ∀ a, (k0_off150 v2986) a + S64x128.size a ≤ S64x1000000.size a := fun i v2986 k0_hw150 k0_h1 => k0_hw150.2 k0_h1

def k0_off151 (v3006 : BitVec 32) : Fin 2 → Nat :=
  let c0_i32_1904 : BitVec 32 := 0#32
  let c0_i32_1202 : BitVec 32 := 0#32
  let v3008 : BitVec 1 := Scalar.cmpi .sgt v3006 c0_i32_1202
  let v3009 : BitVec 32 := Scalar.extui v3008
  let c0_i32_1203 : BitVec 32 := 0#32
  let v3010 : BitVec 1 := Scalar.cmpi .slt v3006 c0_i32_1203
  let v3011 : BitVec 32 := Scalar.extui v3010
  let v3012 : BitVec 32 := Scalar.subi v3009 v3011
  let c128_i32_1201 : BitVec 32 := 128#32
  let c0_i32_1204 : BitVec 32 := 0#32
  let v3013 : BitVec 1 := Scalar.cmpi .sgt c128_i32_1201 c0_i32_1204
  let v3014 : BitVec 32 := Scalar.extui v3013
  let c0_i32_1205 : BitVec 32 := 0#32
  let v3015 : BitVec 1 := Scalar.cmpi .slt c128_i32_1201 c0_i32_1205
  let v3016 : BitVec 32 := Scalar.extui v3015
  let v3017 : BitVec 32 := Scalar.subi v3014 v3016
  let v3018 : BitVec 1 := Scalar.cmpi .ne v3012 v3017
  let v3019 : BitVec 32 := Scalar.remsi v3006 c128_i32_1201
  let c0_i32_1206 : BitVec 32 := 0#32
  let v3020 : BitVec 1 := Scalar.cmpi .ne v3019 c0_i32_1206
  let v3021 : BitVec 1 := Scalar.andi v3018 v3020
  let v3007 : BitVec 32 := Scalar.divsi v3006 c128_i32_1201
  let c1_i32_1207 : BitVec 32 := 1#32
  let v3022 : BitVec 32 := Scalar.subi v3007 c1_i32_1207
  let v3023 : BitVec 32 := Scalar.select v3021 v3022 v3007
  let c128_i32_1208 : BitVec 32 := 128#32
  let v3024 : BitVec 32 := Scalar.muli v3023 c128_i32_1208
  let v3025 : BitVec 32 := v3024
  ![0, v3025.toNat]

def k0_chk151 (i : grid0.Coords) (v3006 : BitVec 32) : Prop :=
  (∀ (k0_h1 : k0_cond1 i = 1#1), 128 ∣ (k0_mult151 v3006).toNat) ∧
  (∀ (k0_h1 : k0_cond1 i = 1#1), ∀ a, (k0_off151 v3006) a + S64x128.size a ≤ S64x1000000.size a)
theorem k0_mult151_dvd : ∀ (i : grid0.Coords) (v3006 : BitVec 32) (k0_hw151 : k0_chk151 i v3006), ∀ (k0_h1 : k0_cond1 i = 1#1), 128 ∣ (k0_mult151 v3006).toNat := fun i v3006 k0_hw151 k0_h1 => k0_hw151.1 k0_h1
theorem k0_off151_inb : ∀ (i : grid0.Coords) (v3006 : BitVec 32) (k0_hw151 : k0_chk151 i v3006), ∀ (k0_h1 : k0_cond1 i = 1#1), ∀ a, (k0_off151 v3006) a + S64x128.size a ≤ S64x1000000.size a := fun i v3006 k0_hw151 k0_h1 => k0_hw151.2 k0_h1

def k0_off152 (v3026 : BitVec 32) : Fin 2 → Nat :=
  let c0_i32_1906 : BitVec 32 := 0#32
  let c0_i32_1210 : BitVec 32 := 0#32
  let v3028 : BitVec 1 := Scalar.cmpi .sgt v3026 c0_i32_1210
  let v3029 : BitVec 32 := Scalar.extui v3028
  let c0_i32_1211 : BitVec 32 := 0#32
  let v3030 : BitVec 1 := Scalar.cmpi .slt v3026 c0_i32_1211
  let v3031 : BitVec 32 := Scalar.extui v3030
  let v3032 : BitVec 32 := Scalar.subi v3029 v3031
  let c128_i32_1209 : BitVec 32 := 128#32
  let c0_i32_1212 : BitVec 32 := 0#32
  let v3033 : BitVec 1 := Scalar.cmpi .sgt c128_i32_1209 c0_i32_1212
  let v3034 : BitVec 32 := Scalar.extui v3033
  let c0_i32_1213 : BitVec 32 := 0#32
  let v3035 : BitVec 1 := Scalar.cmpi .slt c128_i32_1209 c0_i32_1213
  let v3036 : BitVec 32 := Scalar.extui v3035
  let v3037 : BitVec 32 := Scalar.subi v3034 v3036
  let v3038 : BitVec 1 := Scalar.cmpi .ne v3032 v3037
  let v3039 : BitVec 32 := Scalar.remsi v3026 c128_i32_1209
  let c0_i32_1214 : BitVec 32 := 0#32
  let v3040 : BitVec 1 := Scalar.cmpi .ne v3039 c0_i32_1214
  let v3041 : BitVec 1 := Scalar.andi v3038 v3040
  let v3027 : BitVec 32 := Scalar.divsi v3026 c128_i32_1209
  let c1_i32_1215 : BitVec 32 := 1#32
  let v3042 : BitVec 32 := Scalar.subi v3027 c1_i32_1215
  let v3043 : BitVec 32 := Scalar.select v3041 v3042 v3027
  let c128_i32_1216 : BitVec 32 := 128#32
  let v3044 : BitVec 32 := Scalar.muli v3043 c128_i32_1216
  let v3045 : BitVec 32 := v3044
  ![0, v3045.toNat]

def k0_chk152 (i : grid0.Coords) (v3026 : BitVec 32) : Prop :=
  (∀ (k0_h1 : k0_cond1 i = 1#1), 128 ∣ (k0_mult152 v3026).toNat) ∧
  (∀ (k0_h1 : k0_cond1 i = 1#1), ∀ a, (k0_off152 v3026) a + S64x128.size a ≤ S64x1000000.size a)
theorem k0_mult152_dvd : ∀ (i : grid0.Coords) (v3026 : BitVec 32) (k0_hw152 : k0_chk152 i v3026), ∀ (k0_h1 : k0_cond1 i = 1#1), 128 ∣ (k0_mult152 v3026).toNat := fun i v3026 k0_hw152 k0_h1 => k0_hw152.1 k0_h1
theorem k0_off152_inb : ∀ (i : grid0.Coords) (v3026 : BitVec 32) (k0_hw152 : k0_chk152 i v3026), ∀ (k0_h1 : k0_cond1 i = 1#1), ∀ a, (k0_off152 v3026) a + S64x128.size a ≤ S64x1000000.size a := fun i v3026 k0_hw152 k0_h1 => k0_hw152.2 k0_h1

def k0_off153 (v3046 : BitVec 32) : Fin 2 → Nat :=
  let c0_i32_1908 : BitVec 32 := 0#32
  let c0_i32_1218 : BitVec 32 := 0#32
  let v3048 : BitVec 1 := Scalar.cmpi .sgt v3046 c0_i32_1218
  let v3049 : BitVec 32 := Scalar.extui v3048
  let c0_i32_1219 : BitVec 32 := 0#32
  let v3050 : BitVec 1 := Scalar.cmpi .slt v3046 c0_i32_1219
  let v3051 : BitVec 32 := Scalar.extui v3050
  let v3052 : BitVec 32 := Scalar.subi v3049 v3051
  let c128_i32_1217 : BitVec 32 := 128#32
  let c0_i32_1220 : BitVec 32 := 0#32
  let v3053 : BitVec 1 := Scalar.cmpi .sgt c128_i32_1217 c0_i32_1220
  let v3054 : BitVec 32 := Scalar.extui v3053
  let c0_i32_1221 : BitVec 32 := 0#32
  let v3055 : BitVec 1 := Scalar.cmpi .slt c128_i32_1217 c0_i32_1221
  let v3056 : BitVec 32 := Scalar.extui v3055
  let v3057 : BitVec 32 := Scalar.subi v3054 v3056
  let v3058 : BitVec 1 := Scalar.cmpi .ne v3052 v3057
  let v3059 : BitVec 32 := Scalar.remsi v3046 c128_i32_1217
  let c0_i32_1222 : BitVec 32 := 0#32
  let v3060 : BitVec 1 := Scalar.cmpi .ne v3059 c0_i32_1222
  let v3061 : BitVec 1 := Scalar.andi v3058 v3060
  let v3047 : BitVec 32 := Scalar.divsi v3046 c128_i32_1217
  let c1_i32_1223 : BitVec 32 := 1#32
  let v3062 : BitVec 32 := Scalar.subi v3047 c1_i32_1223
  let v3063 : BitVec 32 := Scalar.select v3061 v3062 v3047
  let c128_i32_1224 : BitVec 32 := 128#32
  let v3064 : BitVec 32 := Scalar.muli v3063 c128_i32_1224
  let v3065 : BitVec 32 := v3064
  ![0, v3065.toNat]

def k0_chk153 (i : grid0.Coords) (v3046 : BitVec 32) : Prop :=
  (∀ (k0_h1 : k0_cond1 i = 1#1), 128 ∣ (k0_mult153 v3046).toNat) ∧
  (∀ (k0_h1 : k0_cond1 i = 1#1), ∀ a, (k0_off153 v3046) a + S64x128.size a ≤ S64x1000000.size a)
theorem k0_mult153_dvd : ∀ (i : grid0.Coords) (v3046 : BitVec 32) (k0_hw153 : k0_chk153 i v3046), ∀ (k0_h1 : k0_cond1 i = 1#1), 128 ∣ (k0_mult153 v3046).toNat := fun i v3046 k0_hw153 k0_h1 => k0_hw153.1 k0_h1
theorem k0_off153_inb : ∀ (i : grid0.Coords) (v3046 : BitVec 32) (k0_hw153 : k0_chk153 i v3046), ∀ (k0_h1 : k0_cond1 i = 1#1), ∀ a, (k0_off153 v3046) a + S64x128.size a ≤ S64x1000000.size a := fun i v3046 k0_hw153 k0_h1 => k0_hw153.2 k0_h1

def k0_off154 (v3066 : BitVec 32) : Fin 2 → Nat :=
  let c0_i32_1910 : BitVec 32 := 0#32
  let c0_i32_1226 : BitVec 32 := 0#32
  let v3068 : BitVec 1 := Scalar.cmpi .sgt v3066 c0_i32_1226
  let v3069 : BitVec 32 := Scalar.extui v3068
  let c0_i32_1227 : BitVec 32 := 0#32
  let v3070 : BitVec 1 := Scalar.cmpi .slt v3066 c0_i32_1227
  let v3071 : BitVec 32 := Scalar.extui v3070
  let v3072 : BitVec 32 := Scalar.subi v3069 v3071
  let c128_i32_1225 : BitVec 32 := 128#32
  let c0_i32_1228 : BitVec 32 := 0#32
  let v3073 : BitVec 1 := Scalar.cmpi .sgt c128_i32_1225 c0_i32_1228
  let v3074 : BitVec 32 := Scalar.extui v3073
  let c0_i32_1229 : BitVec 32 := 0#32
  let v3075 : BitVec 1 := Scalar.cmpi .slt c128_i32_1225 c0_i32_1229
  let v3076 : BitVec 32 := Scalar.extui v3075
  let v3077 : BitVec 32 := Scalar.subi v3074 v3076
  let v3078 : BitVec 1 := Scalar.cmpi .ne v3072 v3077
  let v3079 : BitVec 32 := Scalar.remsi v3066 c128_i32_1225
  let c0_i32_1230 : BitVec 32 := 0#32
  let v3080 : BitVec 1 := Scalar.cmpi .ne v3079 c0_i32_1230
  let v3081 : BitVec 1 := Scalar.andi v3078 v3080
  let v3067 : BitVec 32 := Scalar.divsi v3066 c128_i32_1225
  let c1_i32_1231 : BitVec 32 := 1#32
  let v3082 : BitVec 32 := Scalar.subi v3067 c1_i32_1231
  let v3083 : BitVec 32 := Scalar.select v3081 v3082 v3067
  let c128_i32_1232 : BitVec 32 := 128#32
  let v3084 : BitVec 32 := Scalar.muli v3083 c128_i32_1232
  let v3085 : BitVec 32 := v3084
  ![0, v3085.toNat]

def k0_chk154 (i : grid0.Coords) (v3066 : BitVec 32) : Prop :=
  (∀ (k0_h1 : k0_cond1 i = 1#1), 128 ∣ (k0_mult154 v3066).toNat) ∧
  (∀ (k0_h1 : k0_cond1 i = 1#1), ∀ a, (k0_off154 v3066) a + S64x128.size a ≤ S64x1000000.size a)
theorem k0_mult154_dvd : ∀ (i : grid0.Coords) (v3066 : BitVec 32) (k0_hw154 : k0_chk154 i v3066), ∀ (k0_h1 : k0_cond1 i = 1#1), 128 ∣ (k0_mult154 v3066).toNat := fun i v3066 k0_hw154 k0_h1 => k0_hw154.1 k0_h1
theorem k0_off154_inb : ∀ (i : grid0.Coords) (v3066 : BitVec 32) (k0_hw154 : k0_chk154 i v3066), ∀ (k0_h1 : k0_cond1 i = 1#1), ∀ a, (k0_off154 v3066) a + S64x128.size a ≤ S64x1000000.size a := fun i v3066 k0_hw154 k0_h1 => k0_hw154.2 k0_h1

def k0_off155 (v3086 : BitVec 32) : Fin 2 → Nat :=
  let c0_i32_1912 : BitVec 32 := 0#32
  let c0_i32_1234 : BitVec 32 := 0#32
  let v3088 : BitVec 1 := Scalar.cmpi .sgt v3086 c0_i32_1234
  let v3089 : BitVec 32 := Scalar.extui v3088
  let c0_i32_1235 : BitVec 32 := 0#32
  let v3090 : BitVec 1 := Scalar.cmpi .slt v3086 c0_i32_1235
  let v3091 : BitVec 32 := Scalar.extui v3090
  let v3092 : BitVec 32 := Scalar.subi v3089 v3091
  let c128_i32_1233 : BitVec 32 := 128#32
  let c0_i32_1236 : BitVec 32 := 0#32
  let v3093 : BitVec 1 := Scalar.cmpi .sgt c128_i32_1233 c0_i32_1236
  let v3094 : BitVec 32 := Scalar.extui v3093
  let c0_i32_1237 : BitVec 32 := 0#32
  let v3095 : BitVec 1 := Scalar.cmpi .slt c128_i32_1233 c0_i32_1237
  let v3096 : BitVec 32 := Scalar.extui v3095
  let v3097 : BitVec 32 := Scalar.subi v3094 v3096
  let v3098 : BitVec 1 := Scalar.cmpi .ne v3092 v3097
  let v3099 : BitVec 32 := Scalar.remsi v3086 c128_i32_1233
  let c0_i32_1238 : BitVec 32 := 0#32
  let v3100 : BitVec 1 := Scalar.cmpi .ne v3099 c0_i32_1238
  let v3101 : BitVec 1 := Scalar.andi v3098 v3100
  let v3087 : BitVec 32 := Scalar.divsi v3086 c128_i32_1233
  let c1_i32_1239 : BitVec 32 := 1#32
  let v3102 : BitVec 32 := Scalar.subi v3087 c1_i32_1239
  let v3103 : BitVec 32 := Scalar.select v3101 v3102 v3087
  let c128_i32_1240 : BitVec 32 := 128#32
  let v3104 : BitVec 32 := Scalar.muli v3103 c128_i32_1240
  let v3105 : BitVec 32 := v3104
  ![0, v3105.toNat]

def k0_chk155 (i : grid0.Coords) (v3086 : BitVec 32) : Prop :=
  (∀ (k0_h1 : k0_cond1 i = 1#1), 128 ∣ (k0_mult155 v3086).toNat) ∧
  (∀ (k0_h1 : k0_cond1 i = 1#1), ∀ a, (k0_off155 v3086) a + S64x128.size a ≤ S64x1000000.size a)
theorem k0_mult155_dvd : ∀ (i : grid0.Coords) (v3086 : BitVec 32) (k0_hw155 : k0_chk155 i v3086), ∀ (k0_h1 : k0_cond1 i = 1#1), 128 ∣ (k0_mult155 v3086).toNat := fun i v3086 k0_hw155 k0_h1 => k0_hw155.1 k0_h1
theorem k0_off155_inb : ∀ (i : grid0.Coords) (v3086 : BitVec 32) (k0_hw155 : k0_chk155 i v3086), ∀ (k0_h1 : k0_cond1 i = 1#1), ∀ a, (k0_off155 v3086) a + S64x128.size a ≤ S64x1000000.size a := fun i v3086 k0_hw155 k0_h1 => k0_hw155.2 k0_h1

def k0_off156 (v3106 : BitVec 32) : Fin 2 → Nat :=
  let c0_i32_1914 : BitVec 32 := 0#32
  let c0_i32_1242 : BitVec 32 := 0#32
  let v3108 : BitVec 1 := Scalar.cmpi .sgt v3106 c0_i32_1242
  let v3109 : BitVec 32 := Scalar.extui v3108
  let c0_i32_1243 : BitVec 32 := 0#32
  let v3110 : BitVec 1 := Scalar.cmpi .slt v3106 c0_i32_1243
  let v3111 : BitVec 32 := Scalar.extui v3110
  let v3112 : BitVec 32 := Scalar.subi v3109 v3111
  let c128_i32_1241 : BitVec 32 := 128#32
  let c0_i32_1244 : BitVec 32 := 0#32
  let v3113 : BitVec 1 := Scalar.cmpi .sgt c128_i32_1241 c0_i32_1244
  let v3114 : BitVec 32 := Scalar.extui v3113
  let c0_i32_1245 : BitVec 32 := 0#32
  let v3115 : BitVec 1 := Scalar.cmpi .slt c128_i32_1241 c0_i32_1245
  let v3116 : BitVec 32 := Scalar.extui v3115
  let v3117 : BitVec 32 := Scalar.subi v3114 v3116
  let v3118 : BitVec 1 := Scalar.cmpi .ne v3112 v3117
  let v3119 : BitVec 32 := Scalar.remsi v3106 c128_i32_1241
  let c0_i32_1246 : BitVec 32 := 0#32
  let v3120 : BitVec 1 := Scalar.cmpi .ne v3119 c0_i32_1246
  let v3121 : BitVec 1 := Scalar.andi v3118 v3120
  let v3107 : BitVec 32 := Scalar.divsi v3106 c128_i32_1241
  let c1_i32_1247 : BitVec 32 := 1#32
  let v3122 : BitVec 32 := Scalar.subi v3107 c1_i32_1247
  let v3123 : BitVec 32 := Scalar.select v3121 v3122 v3107
  let c128_i32_1248 : BitVec 32 := 128#32
  let v3124 : BitVec 32 := Scalar.muli v3123 c128_i32_1248
  let v3125 : BitVec 32 := v3124
  ![0, v3125.toNat]

def k0_chk156 (i : grid0.Coords) (v3106 : BitVec 32) : Prop :=
  (∀ (k0_h1 : k0_cond1 i = 1#1), 128 ∣ (k0_mult156 v3106).toNat) ∧
  (∀ (k0_h1 : k0_cond1 i = 1#1), ∀ a, (k0_off156 v3106) a + S64x128.size a ≤ S64x1000000.size a)
theorem k0_mult156_dvd : ∀ (i : grid0.Coords) (v3106 : BitVec 32) (k0_hw156 : k0_chk156 i v3106), ∀ (k0_h1 : k0_cond1 i = 1#1), 128 ∣ (k0_mult156 v3106).toNat := fun i v3106 k0_hw156 k0_h1 => k0_hw156.1 k0_h1
theorem k0_off156_inb : ∀ (i : grid0.Coords) (v3106 : BitVec 32) (k0_hw156 : k0_chk156 i v3106), ∀ (k0_h1 : k0_cond1 i = 1#1), ∀ a, (k0_off156 v3106) a + S64x128.size a ≤ S64x1000000.size a := fun i v3106 k0_hw156 k0_h1 => k0_hw156.2 k0_h1

def k0_off157 (v3126 : BitVec 32) : Fin 2 → Nat :=
  let c0_i32_1916 : BitVec 32 := 0#32
  let c0_i32_1250 : BitVec 32 := 0#32
  let v3128 : BitVec 1 := Scalar.cmpi .sgt v3126 c0_i32_1250
  let v3129 : BitVec 32 := Scalar.extui v3128
  let c0_i32_1251 : BitVec 32 := 0#32
  let v3130 : BitVec 1 := Scalar.cmpi .slt v3126 c0_i32_1251
  let v3131 : BitVec 32 := Scalar.extui v3130
  let v3132 : BitVec 32 := Scalar.subi v3129 v3131
  let c128_i32_1249 : BitVec 32 := 128#32
  let c0_i32_1252 : BitVec 32 := 0#32
  let v3133 : BitVec 1 := Scalar.cmpi .sgt c128_i32_1249 c0_i32_1252
  let v3134 : BitVec 32 := Scalar.extui v3133
  let c0_i32_1253 : BitVec 32 := 0#32
  let v3135 : BitVec 1 := Scalar.cmpi .slt c128_i32_1249 c0_i32_1253
  let v3136 : BitVec 32 := Scalar.extui v3135
  let v3137 : BitVec 32 := Scalar.subi v3134 v3136
  let v3138 : BitVec 1 := Scalar.cmpi .ne v3132 v3137
  let v3139 : BitVec 32 := Scalar.remsi v3126 c128_i32_1249
  let c0_i32_1254 : BitVec 32 := 0#32
  let v3140 : BitVec 1 := Scalar.cmpi .ne v3139 c0_i32_1254
  let v3141 : BitVec 1 := Scalar.andi v3138 v3140
  let v3127 : BitVec 32 := Scalar.divsi v3126 c128_i32_1249
  let c1_i32_1255 : BitVec 32 := 1#32
  let v3142 : BitVec 32 := Scalar.subi v3127 c1_i32_1255
  let v3143 : BitVec 32 := Scalar.select v3141 v3142 v3127
  let c128_i32_1256 : BitVec 32 := 128#32
  let v3144 : BitVec 32 := Scalar.muli v3143 c128_i32_1256
  let v3145 : BitVec 32 := v3144
  ![0, v3145.toNat]

def k0_chk157 (i : grid0.Coords) (v3126 : BitVec 32) : Prop :=
  (∀ (k0_h1 : k0_cond1 i = 1#1), 128 ∣ (k0_mult157 v3126).toNat) ∧
  (∀ (k0_h1 : k0_cond1 i = 1#1), ∀ a, (k0_off157 v3126) a + S64x128.size a ≤ S64x1000000.size a)
theorem k0_mult157_dvd : ∀ (i : grid0.Coords) (v3126 : BitVec 32) (k0_hw157 : k0_chk157 i v3126), ∀ (k0_h1 : k0_cond1 i = 1#1), 128 ∣ (k0_mult157 v3126).toNat := fun i v3126 k0_hw157 k0_h1 => k0_hw157.1 k0_h1
theorem k0_off157_inb : ∀ (i : grid0.Coords) (v3126 : BitVec 32) (k0_hw157 : k0_chk157 i v3126), ∀ (k0_h1 : k0_cond1 i = 1#1), ∀ a, (k0_off157 v3126) a + S64x128.size a ≤ S64x1000000.size a := fun i v3126 k0_hw157 k0_h1 => k0_hw157.2 k0_h1

def k0_off158 (v3146 : BitVec 32) : Fin 2 → Nat :=
  let c0_i32_1918 : BitVec 32 := 0#32
  let c0_i32_1258 : BitVec 32 := 0#32
  let v3148 : BitVec 1 := Scalar.cmpi .sgt v3146 c0_i32_1258
  let v3149 : BitVec 32 := Scalar.extui v3148
  let c0_i32_1259 : BitVec 32 := 0#32
  let v3150 : BitVec 1 := Scalar.cmpi .slt v3146 c0_i32_1259
  let v3151 : BitVec 32 := Scalar.extui v3150
  let v3152 : BitVec 32 := Scalar.subi v3149 v3151
  let c128_i32_1257 : BitVec 32 := 128#32
  let c0_i32_1260 : BitVec 32 := 0#32
  let v3153 : BitVec 1 := Scalar.cmpi .sgt c128_i32_1257 c0_i32_1260
  let v3154 : BitVec 32 := Scalar.extui v3153
  let c0_i32_1261 : BitVec 32 := 0#32
  let v3155 : BitVec 1 := Scalar.cmpi .slt c128_i32_1257 c0_i32_1261
  let v3156 : BitVec 32 := Scalar.extui v3155
  let v3157 : BitVec 32 := Scalar.subi v3154 v3156
  let v3158 : BitVec 1 := Scalar.cmpi .ne v3152 v3157
  let v3159 : BitVec 32 := Scalar.remsi v3146 c128_i32_1257
  let c0_i32_1262 : BitVec 32 := 0#32
  let v3160 : BitVec 1 := Scalar.cmpi .ne v3159 c0_i32_1262
  let v3161 : BitVec 1 := Scalar.andi v3158 v3160
  let v3147 : BitVec 32 := Scalar.divsi v3146 c128_i32_1257
  let c1_i32_1263 : BitVec 32 := 1#32
  let v3162 : BitVec 32 := Scalar.subi v3147 c1_i32_1263
  let v3163 : BitVec 32 := Scalar.select v3161 v3162 v3147
  let c128_i32_1264 : BitVec 32 := 128#32
  let v3164 : BitVec 32 := Scalar.muli v3163 c128_i32_1264
  let v3165 : BitVec 32 := v3164
  ![0, v3165.toNat]

def k0_chk158 (i : grid0.Coords) (v3146 : BitVec 32) : Prop :=
  (∀ (k0_h1 : k0_cond1 i = 1#1), 128 ∣ (k0_mult158 v3146).toNat) ∧
  (∀ (k0_h1 : k0_cond1 i = 1#1), ∀ a, (k0_off158 v3146) a + S64x128.size a ≤ S64x1000000.size a)
theorem k0_mult158_dvd : ∀ (i : grid0.Coords) (v3146 : BitVec 32) (k0_hw158 : k0_chk158 i v3146), ∀ (k0_h1 : k0_cond1 i = 1#1), 128 ∣ (k0_mult158 v3146).toNat := fun i v3146 k0_hw158 k0_h1 => k0_hw158.1 k0_h1
theorem k0_off158_inb : ∀ (i : grid0.Coords) (v3146 : BitVec 32) (k0_hw158 : k0_chk158 i v3146), ∀ (k0_h1 : k0_cond1 i = 1#1), ∀ a, (k0_off158 v3146) a + S64x128.size a ≤ S64x1000000.size a := fun i v3146 k0_hw158 k0_h1 => k0_hw158.2 k0_h1

def k0_off159 (v3166 : BitVec 32) : Fin 2 → Nat :=
  let c0_i32_1920 : BitVec 32 := 0#32
  let c0_i32_1266 : BitVec 32 := 0#32
  let v3168 : BitVec 1 := Scalar.cmpi .sgt v3166 c0_i32_1266
  let v3169 : BitVec 32 := Scalar.extui v3168
  let c0_i32_1267 : BitVec 32 := 0#32
  let v3170 : BitVec 1 := Scalar.cmpi .slt v3166 c0_i32_1267
  let v3171 : BitVec 32 := Scalar.extui v3170
  let v3172 : BitVec 32 := Scalar.subi v3169 v3171
  let c128_i32_1265 : BitVec 32 := 128#32
  let c0_i32_1268 : BitVec 32 := 0#32
  let v3173 : BitVec 1 := Scalar.cmpi .sgt c128_i32_1265 c0_i32_1268
  let v3174 : BitVec 32 := Scalar.extui v3173
  let c0_i32_1269 : BitVec 32 := 0#32
  let v3175 : BitVec 1 := Scalar.cmpi .slt c128_i32_1265 c0_i32_1269
  let v3176 : BitVec 32 := Scalar.extui v3175
  let v3177 : BitVec 32 := Scalar.subi v3174 v3176
  let v3178 : BitVec 1 := Scalar.cmpi .ne v3172 v3177
  let v3179 : BitVec 32 := Scalar.remsi v3166 c128_i32_1265
  let c0_i32_1270 : BitVec 32 := 0#32
  let v3180 : BitVec 1 := Scalar.cmpi .ne v3179 c0_i32_1270
  let v3181 : BitVec 1 := Scalar.andi v3178 v3180
  let v3167 : BitVec 32 := Scalar.divsi v3166 c128_i32_1265
  let c1_i32_1271 : BitVec 32 := 1#32
  let v3182 : BitVec 32 := Scalar.subi v3167 c1_i32_1271
  let v3183 : BitVec 32 := Scalar.select v3181 v3182 v3167
  let c128_i32_1272 : BitVec 32 := 128#32
  let v3184 : BitVec 32 := Scalar.muli v3183 c128_i32_1272
  let v3185 : BitVec 32 := v3184
  ![0, v3185.toNat]

def k0_chk159 (i : grid0.Coords) (v3166 : BitVec 32) : Prop :=
  (∀ (k0_h1 : k0_cond1 i = 1#1), 128 ∣ (k0_mult159 v3166).toNat) ∧
  (∀ (k0_h1 : k0_cond1 i = 1#1), ∀ a, (k0_off159 v3166) a + S64x128.size a ≤ S64x1000000.size a)
theorem k0_mult159_dvd : ∀ (i : grid0.Coords) (v3166 : BitVec 32) (k0_hw159 : k0_chk159 i v3166), ∀ (k0_h1 : k0_cond1 i = 1#1), 128 ∣ (k0_mult159 v3166).toNat := fun i v3166 k0_hw159 k0_h1 => k0_hw159.1 k0_h1
theorem k0_off159_inb : ∀ (i : grid0.Coords) (v3166 : BitVec 32) (k0_hw159 : k0_chk159 i v3166), ∀ (k0_h1 : k0_cond1 i = 1#1), ∀ a, (k0_off159 v3166) a + S64x128.size a ≤ S64x1000000.size a := fun i v3166 k0_hw159 k0_h1 => k0_hw159.2 k0_h1

def k0_off160 (v3186 : BitVec 32) : Fin 2 → Nat :=
  let c0_i32_1922 : BitVec 32 := 0#32
  let c0_i32_1274 : BitVec 32 := 0#32
  let v3188 : BitVec 1 := Scalar.cmpi .sgt v3186 c0_i32_1274
  let v3189 : BitVec 32 := Scalar.extui v3188
  let c0_i32_1275 : BitVec 32 := 0#32
  let v3190 : BitVec 1 := Scalar.cmpi .slt v3186 c0_i32_1275
  let v3191 : BitVec 32 := Scalar.extui v3190
  let v3192 : BitVec 32 := Scalar.subi v3189 v3191
  let c128_i32_1273 : BitVec 32 := 128#32
  let c0_i32_1276 : BitVec 32 := 0#32
  let v3193 : BitVec 1 := Scalar.cmpi .sgt c128_i32_1273 c0_i32_1276
  let v3194 : BitVec 32 := Scalar.extui v3193
  let c0_i32_1277 : BitVec 32 := 0#32
  let v3195 : BitVec 1 := Scalar.cmpi .slt c128_i32_1273 c0_i32_1277
  let v3196 : BitVec 32 := Scalar.extui v3195
  let v3197 : BitVec 32 := Scalar.subi v3194 v3196
  let v3198 : BitVec 1 := Scalar.cmpi .ne v3192 v3197
  let v3199 : BitVec 32 := Scalar.remsi v3186 c128_i32_1273
  let c0_i32_1278 : BitVec 32 := 0#32
  let v3200 : BitVec 1 := Scalar.cmpi .ne v3199 c0_i32_1278
  let v3201 : BitVec 1 := Scalar.andi v3198 v3200
  let v3187 : BitVec 32 := Scalar.divsi v3186 c128_i32_1273
  let c1_i32_1279 : BitVec 32 := 1#32
  let v3202 : BitVec 32 := Scalar.subi v3187 c1_i32_1279
  let v3203 : BitVec 32 := Scalar.select v3201 v3202 v3187
  let c128_i32_1280 : BitVec 32 := 128#32
  let v3204 : BitVec 32 := Scalar.muli v3203 c128_i32_1280
  let v3205 : BitVec 32 := v3204
  ![0, v3205.toNat]

def k0_chk160 (i : grid0.Coords) (v3186 : BitVec 32) : Prop :=
  (∀ (k0_h1 : k0_cond1 i = 1#1), 128 ∣ (k0_mult160 v3186).toNat) ∧
  (∀ (k0_h1 : k0_cond1 i = 1#1), ∀ a, (k0_off160 v3186) a + S64x128.size a ≤ S64x1000000.size a)
theorem k0_mult160_dvd : ∀ (i : grid0.Coords) (v3186 : BitVec 32) (k0_hw160 : k0_chk160 i v3186), ∀ (k0_h1 : k0_cond1 i = 1#1), 128 ∣ (k0_mult160 v3186).toNat := fun i v3186 k0_hw160 k0_h1 => k0_hw160.1 k0_h1
theorem k0_off160_inb : ∀ (i : grid0.Coords) (v3186 : BitVec 32) (k0_hw160 : k0_chk160 i v3186), ∀ (k0_h1 : k0_cond1 i = 1#1), ∀ a, (k0_off160 v3186) a + S64x128.size a ≤ S64x1000000.size a := fun i v3186 k0_hw160 k0_h1 => k0_hw160.2 k0_h1

def k0_off161 (v3206 : BitVec 32) : Fin 2 → Nat :=
  let c0_i32_1924 : BitVec 32 := 0#32
  let c0_i32_1282 : BitVec 32 := 0#32
  let v3208 : BitVec 1 := Scalar.cmpi .sgt v3206 c0_i32_1282
  let v3209 : BitVec 32 := Scalar.extui v3208
  let c0_i32_1283 : BitVec 32 := 0#32
  let v3210 : BitVec 1 := Scalar.cmpi .slt v3206 c0_i32_1283
  let v3211 : BitVec 32 := Scalar.extui v3210
  let v3212 : BitVec 32 := Scalar.subi v3209 v3211
  let c128_i32_1281 : BitVec 32 := 128#32
  let c0_i32_1284 : BitVec 32 := 0#32
  let v3213 : BitVec 1 := Scalar.cmpi .sgt c128_i32_1281 c0_i32_1284
  let v3214 : BitVec 32 := Scalar.extui v3213
  let c0_i32_1285 : BitVec 32 := 0#32
  let v3215 : BitVec 1 := Scalar.cmpi .slt c128_i32_1281 c0_i32_1285
  let v3216 : BitVec 32 := Scalar.extui v3215
  let v3217 : BitVec 32 := Scalar.subi v3214 v3216
  let v3218 : BitVec 1 := Scalar.cmpi .ne v3212 v3217
  let v3219 : BitVec 32 := Scalar.remsi v3206 c128_i32_1281
  let c0_i32_1286 : BitVec 32 := 0#32
  let v3220 : BitVec 1 := Scalar.cmpi .ne v3219 c0_i32_1286
  let v3221 : BitVec 1 := Scalar.andi v3218 v3220
  let v3207 : BitVec 32 := Scalar.divsi v3206 c128_i32_1281
  let c1_i32_1287 : BitVec 32 := 1#32
  let v3222 : BitVec 32 := Scalar.subi v3207 c1_i32_1287
  let v3223 : BitVec 32 := Scalar.select v3221 v3222 v3207
  let c128_i32_1288 : BitVec 32 := 128#32
  let v3224 : BitVec 32 := Scalar.muli v3223 c128_i32_1288
  let v3225 : BitVec 32 := v3224
  ![0, v3225.toNat]

def k0_chk161 (i : grid0.Coords) (v3206 : BitVec 32) : Prop :=
  (∀ (k0_h1 : k0_cond1 i = 1#1), 128 ∣ (k0_mult161 v3206).toNat) ∧
  (∀ (k0_h1 : k0_cond1 i = 1#1), ∀ a, (k0_off161 v3206) a + S64x128.size a ≤ S64x1000000.size a)
theorem k0_mult161_dvd : ∀ (i : grid0.Coords) (v3206 : BitVec 32) (k0_hw161 : k0_chk161 i v3206), ∀ (k0_h1 : k0_cond1 i = 1#1), 128 ∣ (k0_mult161 v3206).toNat := fun i v3206 k0_hw161 k0_h1 => k0_hw161.1 k0_h1
theorem k0_off161_inb : ∀ (i : grid0.Coords) (v3206 : BitVec 32) (k0_hw161 : k0_chk161 i v3206), ∀ (k0_h1 : k0_cond1 i = 1#1), ∀ a, (k0_off161 v3206) a + S64x128.size a ≤ S64x1000000.size a := fun i v3206 k0_hw161 k0_h1 => k0_hw161.2 k0_h1

def k0_off162 (v3226 : BitVec 32) : Fin 2 → Nat :=
  let c0_i32_1926 : BitVec 32 := 0#32
  let c0_i32_1290 : BitVec 32 := 0#32
  let v3228 : BitVec 1 := Scalar.cmpi .sgt v3226 c0_i32_1290
  let v3229 : BitVec 32 := Scalar.extui v3228
  let c0_i32_1291 : BitVec 32 := 0#32
  let v3230 : BitVec 1 := Scalar.cmpi .slt v3226 c0_i32_1291
  let v3231 : BitVec 32 := Scalar.extui v3230
  let v3232 : BitVec 32 := Scalar.subi v3229 v3231
  let c128_i32_1289 : BitVec 32 := 128#32
  let c0_i32_1292 : BitVec 32 := 0#32
  let v3233 : BitVec 1 := Scalar.cmpi .sgt c128_i32_1289 c0_i32_1292
  let v3234 : BitVec 32 := Scalar.extui v3233
  let c0_i32_1293 : BitVec 32 := 0#32
  let v3235 : BitVec 1 := Scalar.cmpi .slt c128_i32_1289 c0_i32_1293
  let v3236 : BitVec 32 := Scalar.extui v3235
  let v3237 : BitVec 32 := Scalar.subi v3234 v3236
  let v3238 : BitVec 1 := Scalar.cmpi .ne v3232 v3237
  let v3239 : BitVec 32 := Scalar.remsi v3226 c128_i32_1289
  let c0_i32_1294 : BitVec 32 := 0#32
  let v3240 : BitVec 1 := Scalar.cmpi .ne v3239 c0_i32_1294
  let v3241 : BitVec 1 := Scalar.andi v3238 v3240
  let v3227 : BitVec 32 := Scalar.divsi v3226 c128_i32_1289
  let c1_i32_1295 : BitVec 32 := 1#32
  let v3242 : BitVec 32 := Scalar.subi v3227 c1_i32_1295
  let v3243 : BitVec 32 := Scalar.select v3241 v3242 v3227
  let c128_i32_1296 : BitVec 32 := 128#32
  let v3244 : BitVec 32 := Scalar.muli v3243 c128_i32_1296
  let v3245 : BitVec 32 := v3244
  ![0, v3245.toNat]

def k0_chk162 (i : grid0.Coords) (v3226 : BitVec 32) : Prop :=
  (∀ (k0_h1 : k0_cond1 i = 1#1), 128 ∣ (k0_mult162 v3226).toNat) ∧
  (∀ (k0_h1 : k0_cond1 i = 1#1), ∀ a, (k0_off162 v3226) a + S64x128.size a ≤ S64x1000000.size a)
theorem k0_mult162_dvd : ∀ (i : grid0.Coords) (v3226 : BitVec 32) (k0_hw162 : k0_chk162 i v3226), ∀ (k0_h1 : k0_cond1 i = 1#1), 128 ∣ (k0_mult162 v3226).toNat := fun i v3226 k0_hw162 k0_h1 => k0_hw162.1 k0_h1
theorem k0_off162_inb : ∀ (i : grid0.Coords) (v3226 : BitVec 32) (k0_hw162 : k0_chk162 i v3226), ∀ (k0_h1 : k0_cond1 i = 1#1), ∀ a, (k0_off162 v3226) a + S64x128.size a ≤ S64x1000000.size a := fun i v3226 k0_hw162 k0_h1 => k0_hw162.2 k0_h1

def k0_off163 (v3246 : BitVec 32) : Fin 2 → Nat :=
  let c0_i32_1928 : BitVec 32 := 0#32
  let c0_i32_1298 : BitVec 32 := 0#32
  let v3248 : BitVec 1 := Scalar.cmpi .sgt v3246 c0_i32_1298
  let v3249 : BitVec 32 := Scalar.extui v3248
  let c0_i32_1299 : BitVec 32 := 0#32
  let v3250 : BitVec 1 := Scalar.cmpi .slt v3246 c0_i32_1299
  let v3251 : BitVec 32 := Scalar.extui v3250
  let v3252 : BitVec 32 := Scalar.subi v3249 v3251
  let c128_i32_1297 : BitVec 32 := 128#32
  let c0_i32_1300 : BitVec 32 := 0#32
  let v3253 : BitVec 1 := Scalar.cmpi .sgt c128_i32_1297 c0_i32_1300
  let v3254 : BitVec 32 := Scalar.extui v3253
  let c0_i32_1301 : BitVec 32 := 0#32
  let v3255 : BitVec 1 := Scalar.cmpi .slt c128_i32_1297 c0_i32_1301
  let v3256 : BitVec 32 := Scalar.extui v3255
  let v3257 : BitVec 32 := Scalar.subi v3254 v3256
  let v3258 : BitVec 1 := Scalar.cmpi .ne v3252 v3257
  let v3259 : BitVec 32 := Scalar.remsi v3246 c128_i32_1297
  let c0_i32_1302 : BitVec 32 := 0#32
  let v3260 : BitVec 1 := Scalar.cmpi .ne v3259 c0_i32_1302
  let v3261 : BitVec 1 := Scalar.andi v3258 v3260
  let v3247 : BitVec 32 := Scalar.divsi v3246 c128_i32_1297
  let c1_i32_1303 : BitVec 32 := 1#32
  let v3262 : BitVec 32 := Scalar.subi v3247 c1_i32_1303
  let v3263 : BitVec 32 := Scalar.select v3261 v3262 v3247
  let c128_i32_1304 : BitVec 32 := 128#32
  let v3264 : BitVec 32 := Scalar.muli v3263 c128_i32_1304
  let v3265 : BitVec 32 := v3264
  ![0, v3265.toNat]

def k0_chk163 (i : grid0.Coords) (v3246 : BitVec 32) : Prop :=
  (∀ (k0_h1 : k0_cond1 i = 1#1), 128 ∣ (k0_mult163 v3246).toNat) ∧
  (∀ (k0_h1 : k0_cond1 i = 1#1), ∀ a, (k0_off163 v3246) a + S64x128.size a ≤ S64x1000000.size a)
theorem k0_mult163_dvd : ∀ (i : grid0.Coords) (v3246 : BitVec 32) (k0_hw163 : k0_chk163 i v3246), ∀ (k0_h1 : k0_cond1 i = 1#1), 128 ∣ (k0_mult163 v3246).toNat := fun i v3246 k0_hw163 k0_h1 => k0_hw163.1 k0_h1
theorem k0_off163_inb : ∀ (i : grid0.Coords) (v3246 : BitVec 32) (k0_hw163 : k0_chk163 i v3246), ∀ (k0_h1 : k0_cond1 i = 1#1), ∀ a, (k0_off163 v3246) a + S64x128.size a ≤ S64x1000000.size a := fun i v3246 k0_hw163 k0_h1 => k0_hw163.2 k0_h1

def k0_off164 (v3266 : BitVec 32) : Fin 2 → Nat :=
  let c0_i32_1930 : BitVec 32 := 0#32
  let c0_i32_1306 : BitVec 32 := 0#32
  let v3268 : BitVec 1 := Scalar.cmpi .sgt v3266 c0_i32_1306
  let v3269 : BitVec 32 := Scalar.extui v3268
  let c0_i32_1307 : BitVec 32 := 0#32
  let v3270 : BitVec 1 := Scalar.cmpi .slt v3266 c0_i32_1307
  let v3271 : BitVec 32 := Scalar.extui v3270
  let v3272 : BitVec 32 := Scalar.subi v3269 v3271
  let c128_i32_1305 : BitVec 32 := 128#32
  let c0_i32_1308 : BitVec 32 := 0#32
  let v3273 : BitVec 1 := Scalar.cmpi .sgt c128_i32_1305 c0_i32_1308
  let v3274 : BitVec 32 := Scalar.extui v3273
  let c0_i32_1309 : BitVec 32 := 0#32
  let v3275 : BitVec 1 := Scalar.cmpi .slt c128_i32_1305 c0_i32_1309
  let v3276 : BitVec 32 := Scalar.extui v3275
  let v3277 : BitVec 32 := Scalar.subi v3274 v3276
  let v3278 : BitVec 1 := Scalar.cmpi .ne v3272 v3277
  let v3279 : BitVec 32 := Scalar.remsi v3266 c128_i32_1305
  let c0_i32_1310 : BitVec 32 := 0#32
  let v3280 : BitVec 1 := Scalar.cmpi .ne v3279 c0_i32_1310
  let v3281 : BitVec 1 := Scalar.andi v3278 v3280
  let v3267 : BitVec 32 := Scalar.divsi v3266 c128_i32_1305
  let c1_i32_1311 : BitVec 32 := 1#32
  let v3282 : BitVec 32 := Scalar.subi v3267 c1_i32_1311
  let v3283 : BitVec 32 := Scalar.select v3281 v3282 v3267
  let c128_i32_1312 : BitVec 32 := 128#32
  let v3284 : BitVec 32 := Scalar.muli v3283 c128_i32_1312
  let v3285 : BitVec 32 := v3284
  ![0, v3285.toNat]

def k0_chk164 (i : grid0.Coords) (v3266 : BitVec 32) : Prop :=
  (∀ (k0_h1 : k0_cond1 i = 1#1), 128 ∣ (k0_mult164 v3266).toNat) ∧
  (∀ (k0_h1 : k0_cond1 i = 1#1), ∀ a, (k0_off164 v3266) a + S64x128.size a ≤ S64x1000000.size a)
theorem k0_mult164_dvd : ∀ (i : grid0.Coords) (v3266 : BitVec 32) (k0_hw164 : k0_chk164 i v3266), ∀ (k0_h1 : k0_cond1 i = 1#1), 128 ∣ (k0_mult164 v3266).toNat := fun i v3266 k0_hw164 k0_h1 => k0_hw164.1 k0_h1
theorem k0_off164_inb : ∀ (i : grid0.Coords) (v3266 : BitVec 32) (k0_hw164 : k0_chk164 i v3266), ∀ (k0_h1 : k0_cond1 i = 1#1), ∀ a, (k0_off164 v3266) a + S64x128.size a ≤ S64x1000000.size a := fun i v3266 k0_hw164 k0_h1 => k0_hw164.2 k0_h1

def k0_off165 (v3286 : BitVec 32) : Fin 2 → Nat :=
  let c0_i32_1932 : BitVec 32 := 0#32
  let c0_i32_1314 : BitVec 32 := 0#32
  let v3288 : BitVec 1 := Scalar.cmpi .sgt v3286 c0_i32_1314
  let v3289 : BitVec 32 := Scalar.extui v3288
  let c0_i32_1315 : BitVec 32 := 0#32
  let v3290 : BitVec 1 := Scalar.cmpi .slt v3286 c0_i32_1315
  let v3291 : BitVec 32 := Scalar.extui v3290
  let v3292 : BitVec 32 := Scalar.subi v3289 v3291
  let c128_i32_1313 : BitVec 32 := 128#32
  let c0_i32_1316 : BitVec 32 := 0#32
  let v3293 : BitVec 1 := Scalar.cmpi .sgt c128_i32_1313 c0_i32_1316
  let v3294 : BitVec 32 := Scalar.extui v3293
  let c0_i32_1317 : BitVec 32 := 0#32
  let v3295 : BitVec 1 := Scalar.cmpi .slt c128_i32_1313 c0_i32_1317
  let v3296 : BitVec 32 := Scalar.extui v3295
  let v3297 : BitVec 32 := Scalar.subi v3294 v3296
  let v3298 : BitVec 1 := Scalar.cmpi .ne v3292 v3297
  let v3299 : BitVec 32 := Scalar.remsi v3286 c128_i32_1313
  let c0_i32_1318 : BitVec 32 := 0#32
  let v3300 : BitVec 1 := Scalar.cmpi .ne v3299 c0_i32_1318
  let v3301 : BitVec 1 := Scalar.andi v3298 v3300
  let v3287 : BitVec 32 := Scalar.divsi v3286 c128_i32_1313
  let c1_i32_1319 : BitVec 32 := 1#32
  let v3302 : BitVec 32 := Scalar.subi v3287 c1_i32_1319
  let v3303 : BitVec 32 := Scalar.select v3301 v3302 v3287
  let c128_i32_1320 : BitVec 32 := 128#32
  let v3304 : BitVec 32 := Scalar.muli v3303 c128_i32_1320
  let v3305 : BitVec 32 := v3304
  ![0, v3305.toNat]

def k0_chk165 (i : grid0.Coords) (v3286 : BitVec 32) : Prop :=
  (∀ (k0_h1 : k0_cond1 i = 1#1), 128 ∣ (k0_mult165 v3286).toNat) ∧
  (∀ (k0_h1 : k0_cond1 i = 1#1), ∀ a, (k0_off165 v3286) a + S64x128.size a ≤ S64x1000000.size a)
theorem k0_mult165_dvd : ∀ (i : grid0.Coords) (v3286 : BitVec 32) (k0_hw165 : k0_chk165 i v3286), ∀ (k0_h1 : k0_cond1 i = 1#1), 128 ∣ (k0_mult165 v3286).toNat := fun i v3286 k0_hw165 k0_h1 => k0_hw165.1 k0_h1
theorem k0_off165_inb : ∀ (i : grid0.Coords) (v3286 : BitVec 32) (k0_hw165 : k0_chk165 i v3286), ∀ (k0_h1 : k0_cond1 i = 1#1), ∀ a, (k0_off165 v3286) a + S64x128.size a ≤ S64x1000000.size a := fun i v3286 k0_hw165 k0_h1 => k0_hw165.2 k0_h1

def k0_off166 (v3306 : BitVec 32) : Fin 2 → Nat :=
  let c0_i32_1934 : BitVec 32 := 0#32
  let c0_i32_1322 : BitVec 32 := 0#32
  let v3308 : BitVec 1 := Scalar.cmpi .sgt v3306 c0_i32_1322
  let v3309 : BitVec 32 := Scalar.extui v3308
  let c0_i32_1323 : BitVec 32 := 0#32
  let v3310 : BitVec 1 := Scalar.cmpi .slt v3306 c0_i32_1323
  let v3311 : BitVec 32 := Scalar.extui v3310
  let v3312 : BitVec 32 := Scalar.subi v3309 v3311
  let c128_i32_1321 : BitVec 32 := 128#32
  let c0_i32_1324 : BitVec 32 := 0#32
  let v3313 : BitVec 1 := Scalar.cmpi .sgt c128_i32_1321 c0_i32_1324
  let v3314 : BitVec 32 := Scalar.extui v3313
  let c0_i32_1325 : BitVec 32 := 0#32
  let v3315 : BitVec 1 := Scalar.cmpi .slt c128_i32_1321 c0_i32_1325
  let v3316 : BitVec 32 := Scalar.extui v3315
  let v3317 : BitVec 32 := Scalar.subi v3314 v3316
  let v3318 : BitVec 1 := Scalar.cmpi .ne v3312 v3317
  let v3319 : BitVec 32 := Scalar.remsi v3306 c128_i32_1321
  let c0_i32_1326 : BitVec 32 := 0#32
  let v3320 : BitVec 1 := Scalar.cmpi .ne v3319 c0_i32_1326
  let v3321 : BitVec 1 := Scalar.andi v3318 v3320
  let v3307 : BitVec 32 := Scalar.divsi v3306 c128_i32_1321
  let c1_i32_1327 : BitVec 32 := 1#32
  let v3322 : BitVec 32 := Scalar.subi v3307 c1_i32_1327
  let v3323 : BitVec 32 := Scalar.select v3321 v3322 v3307
  let c128_i32_1328 : BitVec 32 := 128#32
  let v3324 : BitVec 32 := Scalar.muli v3323 c128_i32_1328
  let v3325 : BitVec 32 := v3324
  ![0, v3325.toNat]

def k0_chk166 (i : grid0.Coords) (v3306 : BitVec 32) : Prop :=
  (∀ (k0_h1 : k0_cond1 i = 1#1), 128 ∣ (k0_mult166 v3306).toNat) ∧
  (∀ (k0_h1 : k0_cond1 i = 1#1), ∀ a, (k0_off166 v3306) a + S64x128.size a ≤ S64x1000000.size a)
theorem k0_mult166_dvd : ∀ (i : grid0.Coords) (v3306 : BitVec 32) (k0_hw166 : k0_chk166 i v3306), ∀ (k0_h1 : k0_cond1 i = 1#1), 128 ∣ (k0_mult166 v3306).toNat := fun i v3306 k0_hw166 k0_h1 => k0_hw166.1 k0_h1
theorem k0_off166_inb : ∀ (i : grid0.Coords) (v3306 : BitVec 32) (k0_hw166 : k0_chk166 i v3306), ∀ (k0_h1 : k0_cond1 i = 1#1), ∀ a, (k0_off166 v3306) a + S64x128.size a ≤ S64x1000000.size a := fun i v3306 k0_hw166 k0_h1 => k0_hw166.2 k0_h1

def k0_off167 (v3326 : BitVec 32) : Fin 2 → Nat :=
  let c0_i32_1936 : BitVec 32 := 0#32
  let c0_i32_1330 : BitVec 32 := 0#32
  let v3328 : BitVec 1 := Scalar.cmpi .sgt v3326 c0_i32_1330
  let v3329 : BitVec 32 := Scalar.extui v3328
  let c0_i32_1331 : BitVec 32 := 0#32
  let v3330 : BitVec 1 := Scalar.cmpi .slt v3326 c0_i32_1331
  let v3331 : BitVec 32 := Scalar.extui v3330
  let v3332 : BitVec 32 := Scalar.subi v3329 v3331
  let c128_i32_1329 : BitVec 32 := 128#32
  let c0_i32_1332 : BitVec 32 := 0#32
  let v3333 : BitVec 1 := Scalar.cmpi .sgt c128_i32_1329 c0_i32_1332
  let v3334 : BitVec 32 := Scalar.extui v3333
  let c0_i32_1333 : BitVec 32 := 0#32
  let v3335 : BitVec 1 := Scalar.cmpi .slt c128_i32_1329 c0_i32_1333
  let v3336 : BitVec 32 := Scalar.extui v3335
  let v3337 : BitVec 32 := Scalar.subi v3334 v3336
  let v3338 : BitVec 1 := Scalar.cmpi .ne v3332 v3337
  let v3339 : BitVec 32 := Scalar.remsi v3326 c128_i32_1329
  let c0_i32_1334 : BitVec 32 := 0#32
  let v3340 : BitVec 1 := Scalar.cmpi .ne v3339 c0_i32_1334
  let v3341 : BitVec 1 := Scalar.andi v3338 v3340
  let v3327 : BitVec 32 := Scalar.divsi v3326 c128_i32_1329
  let c1_i32_1335 : BitVec 32 := 1#32
  let v3342 : BitVec 32 := Scalar.subi v3327 c1_i32_1335
  let v3343 : BitVec 32 := Scalar.select v3341 v3342 v3327
  let c128_i32_1336 : BitVec 32 := 128#32
  let v3344 : BitVec 32 := Scalar.muli v3343 c128_i32_1336
  let v3345 : BitVec 32 := v3344
  ![0, v3345.toNat]

def k0_chk167 (i : grid0.Coords) (v3326 : BitVec 32) : Prop :=
  (∀ (k0_h1 : k0_cond1 i = 1#1), 128 ∣ (k0_mult167 v3326).toNat) ∧
  (∀ (k0_h1 : k0_cond1 i = 1#1), ∀ a, (k0_off167 v3326) a + S64x128.size a ≤ S64x1000000.size a)
theorem k0_mult167_dvd : ∀ (i : grid0.Coords) (v3326 : BitVec 32) (k0_hw167 : k0_chk167 i v3326), ∀ (k0_h1 : k0_cond1 i = 1#1), 128 ∣ (k0_mult167 v3326).toNat := fun i v3326 k0_hw167 k0_h1 => k0_hw167.1 k0_h1
theorem k0_off167_inb : ∀ (i : grid0.Coords) (v3326 : BitVec 32) (k0_hw167 : k0_chk167 i v3326), ∀ (k0_h1 : k0_cond1 i = 1#1), ∀ a, (k0_off167 v3326) a + S64x128.size a ≤ S64x1000000.size a := fun i v3326 k0_hw167 k0_h1 => k0_hw167.2 k0_h1

def k0_off168 (v3346 : BitVec 32) : Fin 2 → Nat :=
  let c0_i32_1938 : BitVec 32 := 0#32
  let c0_i32_1338 : BitVec 32 := 0#32
  let v3348 : BitVec 1 := Scalar.cmpi .sgt v3346 c0_i32_1338
  let v3349 : BitVec 32 := Scalar.extui v3348
  let c0_i32_1339 : BitVec 32 := 0#32
  let v3350 : BitVec 1 := Scalar.cmpi .slt v3346 c0_i32_1339
  let v3351 : BitVec 32 := Scalar.extui v3350
  let v3352 : BitVec 32 := Scalar.subi v3349 v3351
  let c128_i32_1337 : BitVec 32 := 128#32
  let c0_i32_1340 : BitVec 32 := 0#32
  let v3353 : BitVec 1 := Scalar.cmpi .sgt c128_i32_1337 c0_i32_1340
  let v3354 : BitVec 32 := Scalar.extui v3353
  let c0_i32_1341 : BitVec 32 := 0#32
  let v3355 : BitVec 1 := Scalar.cmpi .slt c128_i32_1337 c0_i32_1341
  let v3356 : BitVec 32 := Scalar.extui v3355
  let v3357 : BitVec 32 := Scalar.subi v3354 v3356
  let v3358 : BitVec 1 := Scalar.cmpi .ne v3352 v3357
  let v3359 : BitVec 32 := Scalar.remsi v3346 c128_i32_1337
  let c0_i32_1342 : BitVec 32 := 0#32
  let v3360 : BitVec 1 := Scalar.cmpi .ne v3359 c0_i32_1342
  let v3361 : BitVec 1 := Scalar.andi v3358 v3360
  let v3347 : BitVec 32 := Scalar.divsi v3346 c128_i32_1337
  let c1_i32_1343 : BitVec 32 := 1#32
  let v3362 : BitVec 32 := Scalar.subi v3347 c1_i32_1343
  let v3363 : BitVec 32 := Scalar.select v3361 v3362 v3347
  let c128_i32_1344 : BitVec 32 := 128#32
  let v3364 : BitVec 32 := Scalar.muli v3363 c128_i32_1344
  let v3365 : BitVec 32 := v3364
  ![0, v3365.toNat]

def k0_chk168 (i : grid0.Coords) (v3346 : BitVec 32) : Prop :=
  (∀ (k0_h1 : k0_cond1 i = 1#1), 128 ∣ (k0_mult168 v3346).toNat) ∧
  (∀ (k0_h1 : k0_cond1 i = 1#1), ∀ a, (k0_off168 v3346) a + S64x128.size a ≤ S64x1000000.size a)
theorem k0_mult168_dvd : ∀ (i : grid0.Coords) (v3346 : BitVec 32) (k0_hw168 : k0_chk168 i v3346), ∀ (k0_h1 : k0_cond1 i = 1#1), 128 ∣ (k0_mult168 v3346).toNat := fun i v3346 k0_hw168 k0_h1 => k0_hw168.1 k0_h1
theorem k0_off168_inb : ∀ (i : grid0.Coords) (v3346 : BitVec 32) (k0_hw168 : k0_chk168 i v3346), ∀ (k0_h1 : k0_cond1 i = 1#1), ∀ a, (k0_off168 v3346) a + S64x128.size a ≤ S64x1000000.size a := fun i v3346 k0_hw168 k0_h1 => k0_hw168.2 k0_h1

def k0_off169 (v3366 : BitVec 32) : Fin 2 → Nat :=
  let c0_i32_1940 : BitVec 32 := 0#32
  let c0_i32_1346 : BitVec 32 := 0#32
  let v3368 : BitVec 1 := Scalar.cmpi .sgt v3366 c0_i32_1346
  let v3369 : BitVec 32 := Scalar.extui v3368
  let c0_i32_1347 : BitVec 32 := 0#32
  let v3370 : BitVec 1 := Scalar.cmpi .slt v3366 c0_i32_1347
  let v3371 : BitVec 32 := Scalar.extui v3370
  let v3372 : BitVec 32 := Scalar.subi v3369 v3371
  let c128_i32_1345 : BitVec 32 := 128#32
  let c0_i32_1348 : BitVec 32 := 0#32
  let v3373 : BitVec 1 := Scalar.cmpi .sgt c128_i32_1345 c0_i32_1348
  let v3374 : BitVec 32 := Scalar.extui v3373
  let c0_i32_1349 : BitVec 32 := 0#32
  let v3375 : BitVec 1 := Scalar.cmpi .slt c128_i32_1345 c0_i32_1349
  let v3376 : BitVec 32 := Scalar.extui v3375
  let v3377 : BitVec 32 := Scalar.subi v3374 v3376
  let v3378 : BitVec 1 := Scalar.cmpi .ne v3372 v3377
  let v3379 : BitVec 32 := Scalar.remsi v3366 c128_i32_1345
  let c0_i32_1350 : BitVec 32 := 0#32
  let v3380 : BitVec 1 := Scalar.cmpi .ne v3379 c0_i32_1350
  let v3381 : BitVec 1 := Scalar.andi v3378 v3380
  let v3367 : BitVec 32 := Scalar.divsi v3366 c128_i32_1345
  let c1_i32_1351 : BitVec 32 := 1#32
  let v3382 : BitVec 32 := Scalar.subi v3367 c1_i32_1351
  let v3383 : BitVec 32 := Scalar.select v3381 v3382 v3367
  let c128_i32_1352 : BitVec 32 := 128#32
  let v3384 : BitVec 32 := Scalar.muli v3383 c128_i32_1352
  let v3385 : BitVec 32 := v3384
  ![0, v3385.toNat]

def k0_chk169 (i : grid0.Coords) (v3366 : BitVec 32) : Prop :=
  (∀ (k0_h1 : k0_cond1 i = 1#1), 128 ∣ (k0_mult169 v3366).toNat) ∧
  (∀ (k0_h1 : k0_cond1 i = 1#1), ∀ a, (k0_off169 v3366) a + S64x128.size a ≤ S64x1000000.size a)
theorem k0_mult169_dvd : ∀ (i : grid0.Coords) (v3366 : BitVec 32) (k0_hw169 : k0_chk169 i v3366), ∀ (k0_h1 : k0_cond1 i = 1#1), 128 ∣ (k0_mult169 v3366).toNat := fun i v3366 k0_hw169 k0_h1 => k0_hw169.1 k0_h1
theorem k0_off169_inb : ∀ (i : grid0.Coords) (v3366 : BitVec 32) (k0_hw169 : k0_chk169 i v3366), ∀ (k0_h1 : k0_cond1 i = 1#1), ∀ a, (k0_off169 v3366) a + S64x128.size a ≤ S64x1000000.size a := fun i v3366 k0_hw169 k0_h1 => k0_hw169.2 k0_h1

def k0_off170 (v3386 : BitVec 32) : Fin 2 → Nat :=
  let c0_i32_1942 : BitVec 32 := 0#32
  let c0_i32_1354 : BitVec 32 := 0#32
  let v3388 : BitVec 1 := Scalar.cmpi .sgt v3386 c0_i32_1354
  let v3389 : BitVec 32 := Scalar.extui v3388
  let c0_i32_1355 : BitVec 32 := 0#32
  let v3390 : BitVec 1 := Scalar.cmpi .slt v3386 c0_i32_1355
  let v3391 : BitVec 32 := Scalar.extui v3390
  let v3392 : BitVec 32 := Scalar.subi v3389 v3391
  let c128_i32_1353 : BitVec 32 := 128#32
  let c0_i32_1356 : BitVec 32 := 0#32
  let v3393 : BitVec 1 := Scalar.cmpi .sgt c128_i32_1353 c0_i32_1356
  let v3394 : BitVec 32 := Scalar.extui v3393
  let c0_i32_1357 : BitVec 32 := 0#32
  let v3395 : BitVec 1 := Scalar.cmpi .slt c128_i32_1353 c0_i32_1357
  let v3396 : BitVec 32 := Scalar.extui v3395
  let v3397 : BitVec 32 := Scalar.subi v3394 v3396
  let v3398 : BitVec 1 := Scalar.cmpi .ne v3392 v3397
  let v3399 : BitVec 32 := Scalar.remsi v3386 c128_i32_1353
  let c0_i32_1358 : BitVec 32 := 0#32
  let v3400 : BitVec 1 := Scalar.cmpi .ne v3399 c0_i32_1358
  let v3401 : BitVec 1 := Scalar.andi v3398 v3400
  let v3387 : BitVec 32 := Scalar.divsi v3386 c128_i32_1353
  let c1_i32_1359 : BitVec 32 := 1#32
  let v3402 : BitVec 32 := Scalar.subi v3387 c1_i32_1359
  let v3403 : BitVec 32 := Scalar.select v3401 v3402 v3387
  let c128_i32_1360 : BitVec 32 := 128#32
  let v3404 : BitVec 32 := Scalar.muli v3403 c128_i32_1360
  let v3405 : BitVec 32 := v3404
  ![0, v3405.toNat]

def k0_chk170 (i : grid0.Coords) (v3386 : BitVec 32) : Prop :=
  (∀ (k0_h1 : k0_cond1 i = 1#1), 128 ∣ (k0_mult170 v3386).toNat) ∧
  (∀ (k0_h1 : k0_cond1 i = 1#1), ∀ a, (k0_off170 v3386) a + S64x128.size a ≤ S64x1000000.size a)
theorem k0_mult170_dvd : ∀ (i : grid0.Coords) (v3386 : BitVec 32) (k0_hw170 : k0_chk170 i v3386), ∀ (k0_h1 : k0_cond1 i = 1#1), 128 ∣ (k0_mult170 v3386).toNat := fun i v3386 k0_hw170 k0_h1 => k0_hw170.1 k0_h1
theorem k0_off170_inb : ∀ (i : grid0.Coords) (v3386 : BitVec 32) (k0_hw170 : k0_chk170 i v3386), ∀ (k0_h1 : k0_cond1 i = 1#1), ∀ a, (k0_off170 v3386) a + S64x128.size a ≤ S64x1000000.size a := fun i v3386 k0_hw170 k0_h1 => k0_hw170.2 k0_h1

def k0_off171 (v3406 : BitVec 32) : Fin 2 → Nat :=
  let c0_i32_1944 : BitVec 32 := 0#32
  let c0_i32_1362 : BitVec 32 := 0#32
  let v3408 : BitVec 1 := Scalar.cmpi .sgt v3406 c0_i32_1362
  let v3409 : BitVec 32 := Scalar.extui v3408
  let c0_i32_1363 : BitVec 32 := 0#32
  let v3410 : BitVec 1 := Scalar.cmpi .slt v3406 c0_i32_1363
  let v3411 : BitVec 32 := Scalar.extui v3410
  let v3412 : BitVec 32 := Scalar.subi v3409 v3411
  let c128_i32_1361 : BitVec 32 := 128#32
  let c0_i32_1364 : BitVec 32 := 0#32
  let v3413 : BitVec 1 := Scalar.cmpi .sgt c128_i32_1361 c0_i32_1364
  let v3414 : BitVec 32 := Scalar.extui v3413
  let c0_i32_1365 : BitVec 32 := 0#32
  let v3415 : BitVec 1 := Scalar.cmpi .slt c128_i32_1361 c0_i32_1365
  let v3416 : BitVec 32 := Scalar.extui v3415
  let v3417 : BitVec 32 := Scalar.subi v3414 v3416
  let v3418 : BitVec 1 := Scalar.cmpi .ne v3412 v3417
  let v3419 : BitVec 32 := Scalar.remsi v3406 c128_i32_1361
  let c0_i32_1366 : BitVec 32 := 0#32
  let v3420 : BitVec 1 := Scalar.cmpi .ne v3419 c0_i32_1366
  let v3421 : BitVec 1 := Scalar.andi v3418 v3420
  let v3407 : BitVec 32 := Scalar.divsi v3406 c128_i32_1361
  let c1_i32_1367 : BitVec 32 := 1#32
  let v3422 : BitVec 32 := Scalar.subi v3407 c1_i32_1367
  let v3423 : BitVec 32 := Scalar.select v3421 v3422 v3407
  let c128_i32_1368 : BitVec 32 := 128#32
  let v3424 : BitVec 32 := Scalar.muli v3423 c128_i32_1368
  let v3425 : BitVec 32 := v3424
  ![0, v3425.toNat]

def k0_chk171 (i : grid0.Coords) (v3406 : BitVec 32) : Prop :=
  (∀ (k0_h1 : k0_cond1 i = 1#1), 128 ∣ (k0_mult171 v3406).toNat) ∧
  (∀ (k0_h1 : k0_cond1 i = 1#1), ∀ a, (k0_off171 v3406) a + S64x128.size a ≤ S64x1000000.size a)
theorem k0_mult171_dvd : ∀ (i : grid0.Coords) (v3406 : BitVec 32) (k0_hw171 : k0_chk171 i v3406), ∀ (k0_h1 : k0_cond1 i = 1#1), 128 ∣ (k0_mult171 v3406).toNat := fun i v3406 k0_hw171 k0_h1 => k0_hw171.1 k0_h1
theorem k0_off171_inb : ∀ (i : grid0.Coords) (v3406 : BitVec 32) (k0_hw171 : k0_chk171 i v3406), ∀ (k0_h1 : k0_cond1 i = 1#1), ∀ a, (k0_off171 v3406) a + S64x128.size a ≤ S64x1000000.size a := fun i v3406 k0_hw171 k0_h1 => k0_hw171.2 k0_h1

def k0_off172 (v3426 : BitVec 32) : Fin 2 → Nat :=
  let c0_i32_1946 : BitVec 32 := 0#32
  let c0_i32_1370 : BitVec 32 := 0#32
  let v3428 : BitVec 1 := Scalar.cmpi .sgt v3426 c0_i32_1370
  let v3429 : BitVec 32 := Scalar.extui v3428
  let c0_i32_1371 : BitVec 32 := 0#32
  let v3430 : BitVec 1 := Scalar.cmpi .slt v3426 c0_i32_1371
  let v3431 : BitVec 32 := Scalar.extui v3430
  let v3432 : BitVec 32 := Scalar.subi v3429 v3431
  let c128_i32_1369 : BitVec 32 := 128#32
  let c0_i32_1372 : BitVec 32 := 0#32
  let v3433 : BitVec 1 := Scalar.cmpi .sgt c128_i32_1369 c0_i32_1372
  let v3434 : BitVec 32 := Scalar.extui v3433
  let c0_i32_1373 : BitVec 32 := 0#32
  let v3435 : BitVec 1 := Scalar.cmpi .slt c128_i32_1369 c0_i32_1373
  let v3436 : BitVec 32 := Scalar.extui v3435
  let v3437 : BitVec 32 := Scalar.subi v3434 v3436
  let v3438 : BitVec 1 := Scalar.cmpi .ne v3432 v3437
  let v3439 : BitVec 32 := Scalar.remsi v3426 c128_i32_1369
  let c0_i32_1374 : BitVec 32 := 0#32
  let v3440 : BitVec 1 := Scalar.cmpi .ne v3439 c0_i32_1374
  let v3441 : BitVec 1 := Scalar.andi v3438 v3440
  let v3427 : BitVec 32 := Scalar.divsi v3426 c128_i32_1369
  let c1_i32_1375 : BitVec 32 := 1#32
  let v3442 : BitVec 32 := Scalar.subi v3427 c1_i32_1375
  let v3443 : BitVec 32 := Scalar.select v3441 v3442 v3427
  let c128_i32_1376 : BitVec 32 := 128#32
  let v3444 : BitVec 32 := Scalar.muli v3443 c128_i32_1376
  let v3445 : BitVec 32 := v3444
  ![0, v3445.toNat]

def k0_chk172 (i : grid0.Coords) (v3426 : BitVec 32) : Prop :=
  (∀ (k0_h1 : k0_cond1 i = 1#1), 128 ∣ (k0_mult172 v3426).toNat) ∧
  (∀ (k0_h1 : k0_cond1 i = 1#1), ∀ a, (k0_off172 v3426) a + S64x128.size a ≤ S64x1000000.size a)
theorem k0_mult172_dvd : ∀ (i : grid0.Coords) (v3426 : BitVec 32) (k0_hw172 : k0_chk172 i v3426), ∀ (k0_h1 : k0_cond1 i = 1#1), 128 ∣ (k0_mult172 v3426).toNat := fun i v3426 k0_hw172 k0_h1 => k0_hw172.1 k0_h1
theorem k0_off172_inb : ∀ (i : grid0.Coords) (v3426 : BitVec 32) (k0_hw172 : k0_chk172 i v3426), ∀ (k0_h1 : k0_cond1 i = 1#1), ∀ a, (k0_off172 v3426) a + S64x128.size a ≤ S64x1000000.size a := fun i v3426 k0_hw172 k0_h1 => k0_hw172.2 k0_h1

def k0_off173 (v3446 : BitVec 32) : Fin 2 → Nat :=
  let c0_i32_1948 : BitVec 32 := 0#32
  let c0_i32_1378 : BitVec 32 := 0#32
  let v3448 : BitVec 1 := Scalar.cmpi .sgt v3446 c0_i32_1378
  let v3449 : BitVec 32 := Scalar.extui v3448
  let c0_i32_1379 : BitVec 32 := 0#32
  let v3450 : BitVec 1 := Scalar.cmpi .slt v3446 c0_i32_1379
  let v3451 : BitVec 32 := Scalar.extui v3450
  let v3452 : BitVec 32 := Scalar.subi v3449 v3451
  let c128_i32_1377 : BitVec 32 := 128#32
  let c0_i32_1380 : BitVec 32 := 0#32
  let v3453 : BitVec 1 := Scalar.cmpi .sgt c128_i32_1377 c0_i32_1380
  let v3454 : BitVec 32 := Scalar.extui v3453
  let c0_i32_1381 : BitVec 32 := 0#32
  let v3455 : BitVec 1 := Scalar.cmpi .slt c128_i32_1377 c0_i32_1381
  let v3456 : BitVec 32 := Scalar.extui v3455
  let v3457 : BitVec 32 := Scalar.subi v3454 v3456
  let v3458 : BitVec 1 := Scalar.cmpi .ne v3452 v3457
  let v3459 : BitVec 32 := Scalar.remsi v3446 c128_i32_1377
  let c0_i32_1382 : BitVec 32 := 0#32
  let v3460 : BitVec 1 := Scalar.cmpi .ne v3459 c0_i32_1382
  let v3461 : BitVec 1 := Scalar.andi v3458 v3460
  let v3447 : BitVec 32 := Scalar.divsi v3446 c128_i32_1377
  let c1_i32_1383 : BitVec 32 := 1#32
  let v3462 : BitVec 32 := Scalar.subi v3447 c1_i32_1383
  let v3463 : BitVec 32 := Scalar.select v3461 v3462 v3447
  let c128_i32_1384 : BitVec 32 := 128#32
  let v3464 : BitVec 32 := Scalar.muli v3463 c128_i32_1384
  let v3465 : BitVec 32 := v3464
  ![0, v3465.toNat]

def k0_chk173 (i : grid0.Coords) (v3446 : BitVec 32) : Prop :=
  (∀ (k0_h1 : k0_cond1 i = 1#1), 128 ∣ (k0_mult173 v3446).toNat) ∧
  (∀ (k0_h1 : k0_cond1 i = 1#1), ∀ a, (k0_off173 v3446) a + S64x128.size a ≤ S64x1000000.size a)
theorem k0_mult173_dvd : ∀ (i : grid0.Coords) (v3446 : BitVec 32) (k0_hw173 : k0_chk173 i v3446), ∀ (k0_h1 : k0_cond1 i = 1#1), 128 ∣ (k0_mult173 v3446).toNat := fun i v3446 k0_hw173 k0_h1 => k0_hw173.1 k0_h1
theorem k0_off173_inb : ∀ (i : grid0.Coords) (v3446 : BitVec 32) (k0_hw173 : k0_chk173 i v3446), ∀ (k0_h1 : k0_cond1 i = 1#1), ∀ a, (k0_off173 v3446) a + S64x128.size a ≤ S64x1000000.size a := fun i v3446 k0_hw173 k0_h1 => k0_hw173.2 k0_h1

def k0_off174 (v3466 : BitVec 32) : Fin 2 → Nat :=
  let c0_i32_1950 : BitVec 32 := 0#32
  let c0_i32_1386 : BitVec 32 := 0#32
  let v3468 : BitVec 1 := Scalar.cmpi .sgt v3466 c0_i32_1386
  let v3469 : BitVec 32 := Scalar.extui v3468
  let c0_i32_1387 : BitVec 32 := 0#32
  let v3470 : BitVec 1 := Scalar.cmpi .slt v3466 c0_i32_1387
  let v3471 : BitVec 32 := Scalar.extui v3470
  let v3472 : BitVec 32 := Scalar.subi v3469 v3471
  let c128_i32_1385 : BitVec 32 := 128#32
  let c0_i32_1388 : BitVec 32 := 0#32
  let v3473 : BitVec 1 := Scalar.cmpi .sgt c128_i32_1385 c0_i32_1388
  let v3474 : BitVec 32 := Scalar.extui v3473
  let c0_i32_1389 : BitVec 32 := 0#32
  let v3475 : BitVec 1 := Scalar.cmpi .slt c128_i32_1385 c0_i32_1389
  let v3476 : BitVec 32 := Scalar.extui v3475
  let v3477 : BitVec 32 := Scalar.subi v3474 v3476
  let v3478 : BitVec 1 := Scalar.cmpi .ne v3472 v3477
  let v3479 : BitVec 32 := Scalar.remsi v3466 c128_i32_1385
  let c0_i32_1390 : BitVec 32 := 0#32
  let v3480 : BitVec 1 := Scalar.cmpi .ne v3479 c0_i32_1390
  let v3481 : BitVec 1 := Scalar.andi v3478 v3480
  let v3467 : BitVec 32 := Scalar.divsi v3466 c128_i32_1385
  let c1_i32_1391 : BitVec 32 := 1#32
  let v3482 : BitVec 32 := Scalar.subi v3467 c1_i32_1391
  let v3483 : BitVec 32 := Scalar.select v3481 v3482 v3467
  let c128_i32_1392 : BitVec 32 := 128#32
  let v3484 : BitVec 32 := Scalar.muli v3483 c128_i32_1392
  let v3485 : BitVec 32 := v3484
  ![0, v3485.toNat]

def k0_chk174 (i : grid0.Coords) (v3466 : BitVec 32) : Prop :=
  (∀ (k0_h1 : k0_cond1 i = 1#1), 128 ∣ (k0_mult174 v3466).toNat) ∧
  (∀ (k0_h1 : k0_cond1 i = 1#1), ∀ a, (k0_off174 v3466) a + S64x128.size a ≤ S64x1000000.size a)
theorem k0_mult174_dvd : ∀ (i : grid0.Coords) (v3466 : BitVec 32) (k0_hw174 : k0_chk174 i v3466), ∀ (k0_h1 : k0_cond1 i = 1#1), 128 ∣ (k0_mult174 v3466).toNat := fun i v3466 k0_hw174 k0_h1 => k0_hw174.1 k0_h1
theorem k0_off174_inb : ∀ (i : grid0.Coords) (v3466 : BitVec 32) (k0_hw174 : k0_chk174 i v3466), ∀ (k0_h1 : k0_cond1 i = 1#1), ∀ a, (k0_off174 v3466) a + S64x128.size a ≤ S64x1000000.size a := fun i v3466 k0_hw174 k0_h1 => k0_hw174.2 k0_h1

def k0_off175 (v3486 : BitVec 32) : Fin 2 → Nat :=
  let c0_i32_1952 : BitVec 32 := 0#32
  let c0_i32_1394 : BitVec 32 := 0#32
  let v3488 : BitVec 1 := Scalar.cmpi .sgt v3486 c0_i32_1394
  let v3489 : BitVec 32 := Scalar.extui v3488
  let c0_i32_1395 : BitVec 32 := 0#32
  let v3490 : BitVec 1 := Scalar.cmpi .slt v3486 c0_i32_1395
  let v3491 : BitVec 32 := Scalar.extui v3490
  let v3492 : BitVec 32 := Scalar.subi v3489 v3491
  let c128_i32_1393 : BitVec 32 := 128#32
  let c0_i32_1396 : BitVec 32 := 0#32
  let v3493 : BitVec 1 := Scalar.cmpi .sgt c128_i32_1393 c0_i32_1396
  let v3494 : BitVec 32 := Scalar.extui v3493
  let c0_i32_1397 : BitVec 32 := 0#32
  let v3495 : BitVec 1 := Scalar.cmpi .slt c128_i32_1393 c0_i32_1397
  let v3496 : BitVec 32 := Scalar.extui v3495
  let v3497 : BitVec 32 := Scalar.subi v3494 v3496
  let v3498 : BitVec 1 := Scalar.cmpi .ne v3492 v3497
  let v3499 : BitVec 32 := Scalar.remsi v3486 c128_i32_1393
  let c0_i32_1398 : BitVec 32 := 0#32
  let v3500 : BitVec 1 := Scalar.cmpi .ne v3499 c0_i32_1398
  let v3501 : BitVec 1 := Scalar.andi v3498 v3500
  let v3487 : BitVec 32 := Scalar.divsi v3486 c128_i32_1393
  let c1_i32_1399 : BitVec 32 := 1#32
  let v3502 : BitVec 32 := Scalar.subi v3487 c1_i32_1399
  let v3503 : BitVec 32 := Scalar.select v3501 v3502 v3487
  let c128_i32_1400 : BitVec 32 := 128#32
  let v3504 : BitVec 32 := Scalar.muli v3503 c128_i32_1400
  let v3505 : BitVec 32 := v3504
  ![0, v3505.toNat]

def k0_chk175 (i : grid0.Coords) (v3486 : BitVec 32) : Prop :=
  (∀ (k0_h1 : k0_cond1 i = 1#1), 128 ∣ (k0_mult175 v3486).toNat) ∧
  (∀ (k0_h1 : k0_cond1 i = 1#1), ∀ a, (k0_off175 v3486) a + S64x128.size a ≤ S64x1000000.size a)
theorem k0_mult175_dvd : ∀ (i : grid0.Coords) (v3486 : BitVec 32) (k0_hw175 : k0_chk175 i v3486), ∀ (k0_h1 : k0_cond1 i = 1#1), 128 ∣ (k0_mult175 v3486).toNat := fun i v3486 k0_hw175 k0_h1 => k0_hw175.1 k0_h1
theorem k0_off175_inb : ∀ (i : grid0.Coords) (v3486 : BitVec 32) (k0_hw175 : k0_chk175 i v3486), ∀ (k0_h1 : k0_cond1 i = 1#1), ∀ a, (k0_off175 v3486) a + S64x128.size a ≤ S64x1000000.size a := fun i v3486 k0_hw175 k0_h1 => k0_hw175.2 k0_h1

def k0_off176 (v3506 : BitVec 32) : Fin 2 → Nat :=
  let c0_i32_1954 : BitVec 32 := 0#32
  let c0_i32_1402 : BitVec 32 := 0#32
  let v3508 : BitVec 1 := Scalar.cmpi .sgt v3506 c0_i32_1402
  let v3509 : BitVec 32 := Scalar.extui v3508
  let c0_i32_1403 : BitVec 32 := 0#32
  let v3510 : BitVec 1 := Scalar.cmpi .slt v3506 c0_i32_1403
  let v3511 : BitVec 32 := Scalar.extui v3510
  let v3512 : BitVec 32 := Scalar.subi v3509 v3511
  let c128_i32_1401 : BitVec 32 := 128#32
  let c0_i32_1404 : BitVec 32 := 0#32
  let v3513 : BitVec 1 := Scalar.cmpi .sgt c128_i32_1401 c0_i32_1404
  let v3514 : BitVec 32 := Scalar.extui v3513
  let c0_i32_1405 : BitVec 32 := 0#32
  let v3515 : BitVec 1 := Scalar.cmpi .slt c128_i32_1401 c0_i32_1405
  let v3516 : BitVec 32 := Scalar.extui v3515
  let v3517 : BitVec 32 := Scalar.subi v3514 v3516
  let v3518 : BitVec 1 := Scalar.cmpi .ne v3512 v3517
  let v3519 : BitVec 32 := Scalar.remsi v3506 c128_i32_1401
  let c0_i32_1406 : BitVec 32 := 0#32
  let v3520 : BitVec 1 := Scalar.cmpi .ne v3519 c0_i32_1406
  let v3521 : BitVec 1 := Scalar.andi v3518 v3520
  let v3507 : BitVec 32 := Scalar.divsi v3506 c128_i32_1401
  let c1_i32_1407 : BitVec 32 := 1#32
  let v3522 : BitVec 32 := Scalar.subi v3507 c1_i32_1407
  let v3523 : BitVec 32 := Scalar.select v3521 v3522 v3507
  let c128_i32_1408 : BitVec 32 := 128#32
  let v3524 : BitVec 32 := Scalar.muli v3523 c128_i32_1408
  let v3525 : BitVec 32 := v3524
  ![0, v3525.toNat]

def k0_chk176 (i : grid0.Coords) (v3506 : BitVec 32) : Prop :=
  (∀ (k0_h1 : k0_cond1 i = 1#1), 128 ∣ (k0_mult176 v3506).toNat) ∧
  (∀ (k0_h1 : k0_cond1 i = 1#1), ∀ a, (k0_off176 v3506) a + S64x128.size a ≤ S64x1000000.size a)
theorem k0_mult176_dvd : ∀ (i : grid0.Coords) (v3506 : BitVec 32) (k0_hw176 : k0_chk176 i v3506), ∀ (k0_h1 : k0_cond1 i = 1#1), 128 ∣ (k0_mult176 v3506).toNat := fun i v3506 k0_hw176 k0_h1 => k0_hw176.1 k0_h1
theorem k0_off176_inb : ∀ (i : grid0.Coords) (v3506 : BitVec 32) (k0_hw176 : k0_chk176 i v3506), ∀ (k0_h1 : k0_cond1 i = 1#1), ∀ a, (k0_off176 v3506) a + S64x128.size a ≤ S64x1000000.size a := fun i v3506 k0_hw176 k0_h1 => k0_hw176.2 k0_h1

def k0_off177 (v3526 : BitVec 32) : Fin 2 → Nat :=
  let c0_i32_1956 : BitVec 32 := 0#32
  let c0_i32_1410 : BitVec 32 := 0#32
  let v3528 : BitVec 1 := Scalar.cmpi .sgt v3526 c0_i32_1410
  let v3529 : BitVec 32 := Scalar.extui v3528
  let c0_i32_1411 : BitVec 32 := 0#32
  let v3530 : BitVec 1 := Scalar.cmpi .slt v3526 c0_i32_1411
  let v3531 : BitVec 32 := Scalar.extui v3530
  let v3532 : BitVec 32 := Scalar.subi v3529 v3531
  let c128_i32_1409 : BitVec 32 := 128#32
  let c0_i32_1412 : BitVec 32 := 0#32
  let v3533 : BitVec 1 := Scalar.cmpi .sgt c128_i32_1409 c0_i32_1412
  let v3534 : BitVec 32 := Scalar.extui v3533
  let c0_i32_1413 : BitVec 32 := 0#32
  let v3535 : BitVec 1 := Scalar.cmpi .slt c128_i32_1409 c0_i32_1413
  let v3536 : BitVec 32 := Scalar.extui v3535
  let v3537 : BitVec 32 := Scalar.subi v3534 v3536
  let v3538 : BitVec 1 := Scalar.cmpi .ne v3532 v3537
  let v3539 : BitVec 32 := Scalar.remsi v3526 c128_i32_1409
  let c0_i32_1414 : BitVec 32 := 0#32
  let v3540 : BitVec 1 := Scalar.cmpi .ne v3539 c0_i32_1414
  let v3541 : BitVec 1 := Scalar.andi v3538 v3540
  let v3527 : BitVec 32 := Scalar.divsi v3526 c128_i32_1409
  let c1_i32_1415 : BitVec 32 := 1#32
  let v3542 : BitVec 32 := Scalar.subi v3527 c1_i32_1415
  let v3543 : BitVec 32 := Scalar.select v3541 v3542 v3527
  let c128_i32_1416 : BitVec 32 := 128#32
  let v3544 : BitVec 32 := Scalar.muli v3543 c128_i32_1416
  let v3545 : BitVec 32 := v3544
  ![0, v3545.toNat]

def k0_chk177 (i : grid0.Coords) (v3526 : BitVec 32) : Prop :=
  (∀ (k0_h1 : k0_cond1 i = 1#1), 128 ∣ (k0_mult177 v3526).toNat) ∧
  (∀ (k0_h1 : k0_cond1 i = 1#1), ∀ a, (k0_off177 v3526) a + S64x128.size a ≤ S64x1000000.size a)
theorem k0_mult177_dvd : ∀ (i : grid0.Coords) (v3526 : BitVec 32) (k0_hw177 : k0_chk177 i v3526), ∀ (k0_h1 : k0_cond1 i = 1#1), 128 ∣ (k0_mult177 v3526).toNat := fun i v3526 k0_hw177 k0_h1 => k0_hw177.1 k0_h1
theorem k0_off177_inb : ∀ (i : grid0.Coords) (v3526 : BitVec 32) (k0_hw177 : k0_chk177 i v3526), ∀ (k0_h1 : k0_cond1 i = 1#1), ∀ a, (k0_off177 v3526) a + S64x128.size a ≤ S64x1000000.size a := fun i v3526 k0_hw177 k0_h1 => k0_hw177.2 k0_h1

def k0_off178 (v3546 : BitVec 32) : Fin 2 → Nat :=
  let c0_i32_1958 : BitVec 32 := 0#32
  let c0_i32_1418 : BitVec 32 := 0#32
  let v3548 : BitVec 1 := Scalar.cmpi .sgt v3546 c0_i32_1418
  let v3549 : BitVec 32 := Scalar.extui v3548
  let c0_i32_1419 : BitVec 32 := 0#32
  let v3550 : BitVec 1 := Scalar.cmpi .slt v3546 c0_i32_1419
  let v3551 : BitVec 32 := Scalar.extui v3550
  let v3552 : BitVec 32 := Scalar.subi v3549 v3551
  let c128_i32_1417 : BitVec 32 := 128#32
  let c0_i32_1420 : BitVec 32 := 0#32
  let v3553 : BitVec 1 := Scalar.cmpi .sgt c128_i32_1417 c0_i32_1420
  let v3554 : BitVec 32 := Scalar.extui v3553
  let c0_i32_1421 : BitVec 32 := 0#32
  let v3555 : BitVec 1 := Scalar.cmpi .slt c128_i32_1417 c0_i32_1421
  let v3556 : BitVec 32 := Scalar.extui v3555
  let v3557 : BitVec 32 := Scalar.subi v3554 v3556
  let v3558 : BitVec 1 := Scalar.cmpi .ne v3552 v3557
  let v3559 : BitVec 32 := Scalar.remsi v3546 c128_i32_1417
  let c0_i32_1422 : BitVec 32 := 0#32
  let v3560 : BitVec 1 := Scalar.cmpi .ne v3559 c0_i32_1422
  let v3561 : BitVec 1 := Scalar.andi v3558 v3560
  let v3547 : BitVec 32 := Scalar.divsi v3546 c128_i32_1417
  let c1_i32_1423 : BitVec 32 := 1#32
  let v3562 : BitVec 32 := Scalar.subi v3547 c1_i32_1423
  let v3563 : BitVec 32 := Scalar.select v3561 v3562 v3547
  let c128_i32_1424 : BitVec 32 := 128#32
  let v3564 : BitVec 32 := Scalar.muli v3563 c128_i32_1424
  let v3565 : BitVec 32 := v3564
  ![0, v3565.toNat]

def k0_chk178 (i : grid0.Coords) (v3546 : BitVec 32) : Prop :=
  (∀ (k0_h1 : k0_cond1 i = 1#1), 128 ∣ (k0_mult178 v3546).toNat) ∧
  (∀ (k0_h1 : k0_cond1 i = 1#1), ∀ a, (k0_off178 v3546) a + S64x128.size a ≤ S64x1000000.size a)
theorem k0_mult178_dvd : ∀ (i : grid0.Coords) (v3546 : BitVec 32) (k0_hw178 : k0_chk178 i v3546), ∀ (k0_h1 : k0_cond1 i = 1#1), 128 ∣ (k0_mult178 v3546).toNat := fun i v3546 k0_hw178 k0_h1 => k0_hw178.1 k0_h1
theorem k0_off178_inb : ∀ (i : grid0.Coords) (v3546 : BitVec 32) (k0_hw178 : k0_chk178 i v3546), ∀ (k0_h1 : k0_cond1 i = 1#1), ∀ a, (k0_off178 v3546) a + S64x128.size a ≤ S64x1000000.size a := fun i v3546 k0_hw178 k0_h1 => k0_hw178.2 k0_h1

def k0_off179 (v3566 : BitVec 32) : Fin 2 → Nat :=
  let c0_i32_1960 : BitVec 32 := 0#32
  let c0_i32_1426 : BitVec 32 := 0#32
  let v3568 : BitVec 1 := Scalar.cmpi .sgt v3566 c0_i32_1426
  let v3569 : BitVec 32 := Scalar.extui v3568
  let c0_i32_1427 : BitVec 32 := 0#32
  let v3570 : BitVec 1 := Scalar.cmpi .slt v3566 c0_i32_1427
  let v3571 : BitVec 32 := Scalar.extui v3570
  let v3572 : BitVec 32 := Scalar.subi v3569 v3571
  let c128_i32_1425 : BitVec 32 := 128#32
  let c0_i32_1428 : BitVec 32 := 0#32
  let v3573 : BitVec 1 := Scalar.cmpi .sgt c128_i32_1425 c0_i32_1428
  let v3574 : BitVec 32 := Scalar.extui v3573
  let c0_i32_1429 : BitVec 32 := 0#32
  let v3575 : BitVec 1 := Scalar.cmpi .slt c128_i32_1425 c0_i32_1429
  let v3576 : BitVec 32 := Scalar.extui v3575
  let v3577 : BitVec 32 := Scalar.subi v3574 v3576
  let v3578 : BitVec 1 := Scalar.cmpi .ne v3572 v3577
  let v3579 : BitVec 32 := Scalar.remsi v3566 c128_i32_1425
  let c0_i32_1430 : BitVec 32 := 0#32
  let v3580 : BitVec 1 := Scalar.cmpi .ne v3579 c0_i32_1430
  let v3581 : BitVec 1 := Scalar.andi v3578 v3580
  let v3567 : BitVec 32 := Scalar.divsi v3566 c128_i32_1425
  let c1_i32_1431 : BitVec 32 := 1#32
  let v3582 : BitVec 32 := Scalar.subi v3567 c1_i32_1431
  let v3583 : BitVec 32 := Scalar.select v3581 v3582 v3567
  let c128_i32_1432 : BitVec 32 := 128#32
  let v3584 : BitVec 32 := Scalar.muli v3583 c128_i32_1432
  let v3585 : BitVec 32 := v3584
  ![0, v3585.toNat]

def k0_chk179 (i : grid0.Coords) (v3566 : BitVec 32) : Prop :=
  (∀ (k0_h1 : k0_cond1 i = 1#1), 128 ∣ (k0_mult179 v3566).toNat) ∧
  (∀ (k0_h1 : k0_cond1 i = 1#1), ∀ a, (k0_off179 v3566) a + S64x128.size a ≤ S64x1000000.size a)
theorem k0_mult179_dvd : ∀ (i : grid0.Coords) (v3566 : BitVec 32) (k0_hw179 : k0_chk179 i v3566), ∀ (k0_h1 : k0_cond1 i = 1#1), 128 ∣ (k0_mult179 v3566).toNat := fun i v3566 k0_hw179 k0_h1 => k0_hw179.1 k0_h1
theorem k0_off179_inb : ∀ (i : grid0.Coords) (v3566 : BitVec 32) (k0_hw179 : k0_chk179 i v3566), ∀ (k0_h1 : k0_cond1 i = 1#1), ∀ a, (k0_off179 v3566) a + S64x128.size a ≤ S64x1000000.size a := fun i v3566 k0_hw179 k0_h1 => k0_hw179.2 k0_h1

def k0_off180 (v3586 : BitVec 32) : Fin 2 → Nat :=
  let c0_i32_1962 : BitVec 32 := 0#32
  let c0_i32_1434 : BitVec 32 := 0#32
  let v3588 : BitVec 1 := Scalar.cmpi .sgt v3586 c0_i32_1434
  let v3589 : BitVec 32 := Scalar.extui v3588
  let c0_i32_1435 : BitVec 32 := 0#32
  let v3590 : BitVec 1 := Scalar.cmpi .slt v3586 c0_i32_1435
  let v3591 : BitVec 32 := Scalar.extui v3590
  let v3592 : BitVec 32 := Scalar.subi v3589 v3591
  let c128_i32_1433 : BitVec 32 := 128#32
  let c0_i32_1436 : BitVec 32 := 0#32
  let v3593 : BitVec 1 := Scalar.cmpi .sgt c128_i32_1433 c0_i32_1436
  let v3594 : BitVec 32 := Scalar.extui v3593
  let c0_i32_1437 : BitVec 32 := 0#32
  let v3595 : BitVec 1 := Scalar.cmpi .slt c128_i32_1433 c0_i32_1437
  let v3596 : BitVec 32 := Scalar.extui v3595
  let v3597 : BitVec 32 := Scalar.subi v3594 v3596
  let v3598 : BitVec 1 := Scalar.cmpi .ne v3592 v3597
  let v3599 : BitVec 32 := Scalar.remsi v3586 c128_i32_1433
  let c0_i32_1438 : BitVec 32 := 0#32
  let v3600 : BitVec 1 := Scalar.cmpi .ne v3599 c0_i32_1438
  let v3601 : BitVec 1 := Scalar.andi v3598 v3600
  let v3587 : BitVec 32 := Scalar.divsi v3586 c128_i32_1433
  let c1_i32_1439 : BitVec 32 := 1#32
  let v3602 : BitVec 32 := Scalar.subi v3587 c1_i32_1439
  let v3603 : BitVec 32 := Scalar.select v3601 v3602 v3587
  let c128_i32_1440 : BitVec 32 := 128#32
  let v3604 : BitVec 32 := Scalar.muli v3603 c128_i32_1440
  let v3605 : BitVec 32 := v3604
  ![0, v3605.toNat]

def k0_chk180 (i : grid0.Coords) (v3586 : BitVec 32) : Prop :=
  (∀ (k0_h1 : k0_cond1 i = 1#1), 128 ∣ (k0_mult180 v3586).toNat) ∧
  (∀ (k0_h1 : k0_cond1 i = 1#1), ∀ a, (k0_off180 v3586) a + S64x128.size a ≤ S64x1000000.size a)
theorem k0_mult180_dvd : ∀ (i : grid0.Coords) (v3586 : BitVec 32) (k0_hw180 : k0_chk180 i v3586), ∀ (k0_h1 : k0_cond1 i = 1#1), 128 ∣ (k0_mult180 v3586).toNat := fun i v3586 k0_hw180 k0_h1 => k0_hw180.1 k0_h1
theorem k0_off180_inb : ∀ (i : grid0.Coords) (v3586 : BitVec 32) (k0_hw180 : k0_chk180 i v3586), ∀ (k0_h1 : k0_cond1 i = 1#1), ∀ a, (k0_off180 v3586) a + S64x128.size a ≤ S64x1000000.size a := fun i v3586 k0_hw180 k0_h1 => k0_hw180.2 k0_h1

def k0_off181 (v3606 : BitVec 32) : Fin 2 → Nat :=
  let c0_i32_1964 : BitVec 32 := 0#32
  let c0_i32_1442 : BitVec 32 := 0#32
  let v3608 : BitVec 1 := Scalar.cmpi .sgt v3606 c0_i32_1442
  let v3609 : BitVec 32 := Scalar.extui v3608
  let c0_i32_1443 : BitVec 32 := 0#32
  let v3610 : BitVec 1 := Scalar.cmpi .slt v3606 c0_i32_1443
  let v3611 : BitVec 32 := Scalar.extui v3610
  let v3612 : BitVec 32 := Scalar.subi v3609 v3611
  let c128_i32_1441 : BitVec 32 := 128#32
  let c0_i32_1444 : BitVec 32 := 0#32
  let v3613 : BitVec 1 := Scalar.cmpi .sgt c128_i32_1441 c0_i32_1444
  let v3614 : BitVec 32 := Scalar.extui v3613
  let c0_i32_1445 : BitVec 32 := 0#32
  let v3615 : BitVec 1 := Scalar.cmpi .slt c128_i32_1441 c0_i32_1445
  let v3616 : BitVec 32 := Scalar.extui v3615
  let v3617 : BitVec 32 := Scalar.subi v3614 v3616
  let v3618 : BitVec 1 := Scalar.cmpi .ne v3612 v3617
  let v3619 : BitVec 32 := Scalar.remsi v3606 c128_i32_1441
  let c0_i32_1446 : BitVec 32 := 0#32
  let v3620 : BitVec 1 := Scalar.cmpi .ne v3619 c0_i32_1446
  let v3621 : BitVec 1 := Scalar.andi v3618 v3620
  let v3607 : BitVec 32 := Scalar.divsi v3606 c128_i32_1441
  let c1_i32_1447 : BitVec 32 := 1#32
  let v3622 : BitVec 32 := Scalar.subi v3607 c1_i32_1447
  let v3623 : BitVec 32 := Scalar.select v3621 v3622 v3607
  let c128_i32_1448 : BitVec 32 := 128#32
  let v3624 : BitVec 32 := Scalar.muli v3623 c128_i32_1448
  let v3625 : BitVec 32 := v3624
  ![0, v3625.toNat]

def k0_chk181 (i : grid0.Coords) (v3606 : BitVec 32) : Prop :=
  (∀ (k0_h1 : k0_cond1 i = 1#1), 128 ∣ (k0_mult181 v3606).toNat) ∧
  (∀ (k0_h1 : k0_cond1 i = 1#1), ∀ a, (k0_off181 v3606) a + S64x128.size a ≤ S64x1000000.size a)
theorem k0_mult181_dvd : ∀ (i : grid0.Coords) (v3606 : BitVec 32) (k0_hw181 : k0_chk181 i v3606), ∀ (k0_h1 : k0_cond1 i = 1#1), 128 ∣ (k0_mult181 v3606).toNat := fun i v3606 k0_hw181 k0_h1 => k0_hw181.1 k0_h1
theorem k0_off181_inb : ∀ (i : grid0.Coords) (v3606 : BitVec 32) (k0_hw181 : k0_chk181 i v3606), ∀ (k0_h1 : k0_cond1 i = 1#1), ∀ a, (k0_off181 v3606) a + S64x128.size a ≤ S64x1000000.size a := fun i v3606 k0_hw181 k0_h1 => k0_hw181.2 k0_h1

def k0_off182 (v3626 : BitVec 32) : Fin 2 → Nat :=
  let c0_i32_1966 : BitVec 32 := 0#32
  let c0_i32_1450 : BitVec 32 := 0#32
  let v3628 : BitVec 1 := Scalar.cmpi .sgt v3626 c0_i32_1450
  let v3629 : BitVec 32 := Scalar.extui v3628
  let c0_i32_1451 : BitVec 32 := 0#32
  let v3630 : BitVec 1 := Scalar.cmpi .slt v3626 c0_i32_1451
  let v3631 : BitVec 32 := Scalar.extui v3630
  let v3632 : BitVec 32 := Scalar.subi v3629 v3631
  let c128_i32_1449 : BitVec 32 := 128#32
  let c0_i32_1452 : BitVec 32 := 0#32
  let v3633 : BitVec 1 := Scalar.cmpi .sgt c128_i32_1449 c0_i32_1452
  let v3634 : BitVec 32 := Scalar.extui v3633
  let c0_i32_1453 : BitVec 32 := 0#32
  let v3635 : BitVec 1 := Scalar.cmpi .slt c128_i32_1449 c0_i32_1453
  let v3636 : BitVec 32 := Scalar.extui v3635
  let v3637 : BitVec 32 := Scalar.subi v3634 v3636
  let v3638 : BitVec 1 := Scalar.cmpi .ne v3632 v3637
  let v3639 : BitVec 32 := Scalar.remsi v3626 c128_i32_1449
  let c0_i32_1454 : BitVec 32 := 0#32
  let v3640 : BitVec 1 := Scalar.cmpi .ne v3639 c0_i32_1454
  let v3641 : BitVec 1 := Scalar.andi v3638 v3640
  let v3627 : BitVec 32 := Scalar.divsi v3626 c128_i32_1449
  let c1_i32_1455 : BitVec 32 := 1#32
  let v3642 : BitVec 32 := Scalar.subi v3627 c1_i32_1455
  let v3643 : BitVec 32 := Scalar.select v3641 v3642 v3627
  let c128_i32_1456 : BitVec 32 := 128#32
  let v3644 : BitVec 32 := Scalar.muli v3643 c128_i32_1456
  let v3645 : BitVec 32 := v3644
  ![0, v3645.toNat]

def k0_chk182 (i : grid0.Coords) (v3626 : BitVec 32) : Prop :=
  (∀ (k0_h1 : k0_cond1 i = 1#1), 128 ∣ (k0_mult182 v3626).toNat) ∧
  (∀ (k0_h1 : k0_cond1 i = 1#1), ∀ a, (k0_off182 v3626) a + S64x128.size a ≤ S64x1000000.size a)
theorem k0_mult182_dvd : ∀ (i : grid0.Coords) (v3626 : BitVec 32) (k0_hw182 : k0_chk182 i v3626), ∀ (k0_h1 : k0_cond1 i = 1#1), 128 ∣ (k0_mult182 v3626).toNat := fun i v3626 k0_hw182 k0_h1 => k0_hw182.1 k0_h1
theorem k0_off182_inb : ∀ (i : grid0.Coords) (v3626 : BitVec 32) (k0_hw182 : k0_chk182 i v3626), ∀ (k0_h1 : k0_cond1 i = 1#1), ∀ a, (k0_off182 v3626) a + S64x128.size a ≤ S64x1000000.size a := fun i v3626 k0_hw182 k0_h1 => k0_hw182.2 k0_h1

def k0_off183 (v3646 : BitVec 32) : Fin 2 → Nat :=
  let c0_i32_1968 : BitVec 32 := 0#32
  let c0_i32_1458 : BitVec 32 := 0#32
  let v3648 : BitVec 1 := Scalar.cmpi .sgt v3646 c0_i32_1458
  let v3649 : BitVec 32 := Scalar.extui v3648
  let c0_i32_1459 : BitVec 32 := 0#32
  let v3650 : BitVec 1 := Scalar.cmpi .slt v3646 c0_i32_1459
  let v3651 : BitVec 32 := Scalar.extui v3650
  let v3652 : BitVec 32 := Scalar.subi v3649 v3651
  let c128_i32_1457 : BitVec 32 := 128#32
  let c0_i32_1460 : BitVec 32 := 0#32
  let v3653 : BitVec 1 := Scalar.cmpi .sgt c128_i32_1457 c0_i32_1460
  let v3654 : BitVec 32 := Scalar.extui v3653
  let c0_i32_1461 : BitVec 32 := 0#32
  let v3655 : BitVec 1 := Scalar.cmpi .slt c128_i32_1457 c0_i32_1461
  let v3656 : BitVec 32 := Scalar.extui v3655
  let v3657 : BitVec 32 := Scalar.subi v3654 v3656
  let v3658 : BitVec 1 := Scalar.cmpi .ne v3652 v3657
  let v3659 : BitVec 32 := Scalar.remsi v3646 c128_i32_1457
  let c0_i32_1462 : BitVec 32 := 0#32
  let v3660 : BitVec 1 := Scalar.cmpi .ne v3659 c0_i32_1462
  let v3661 : BitVec 1 := Scalar.andi v3658 v3660
  let v3647 : BitVec 32 := Scalar.divsi v3646 c128_i32_1457
  let c1_i32_1463 : BitVec 32 := 1#32
  let v3662 : BitVec 32 := Scalar.subi v3647 c1_i32_1463
  let v3663 : BitVec 32 := Scalar.select v3661 v3662 v3647
  let c128_i32_1464 : BitVec 32 := 128#32
  let v3664 : BitVec 32 := Scalar.muli v3663 c128_i32_1464
  let v3665 : BitVec 32 := v3664
  ![0, v3665.toNat]

def k0_chk183 (i : grid0.Coords) (v3646 : BitVec 32) : Prop :=
  (∀ (k0_h1 : k0_cond1 i = 1#1), 128 ∣ (k0_mult183 v3646).toNat) ∧
  (∀ (k0_h1 : k0_cond1 i = 1#1), ∀ a, (k0_off183 v3646) a + S64x128.size a ≤ S64x1000000.size a)
theorem k0_mult183_dvd : ∀ (i : grid0.Coords) (v3646 : BitVec 32) (k0_hw183 : k0_chk183 i v3646), ∀ (k0_h1 : k0_cond1 i = 1#1), 128 ∣ (k0_mult183 v3646).toNat := fun i v3646 k0_hw183 k0_h1 => k0_hw183.1 k0_h1
theorem k0_off183_inb : ∀ (i : grid0.Coords) (v3646 : BitVec 32) (k0_hw183 : k0_chk183 i v3646), ∀ (k0_h1 : k0_cond1 i = 1#1), ∀ a, (k0_off183 v3646) a + S64x128.size a ≤ S64x1000000.size a := fun i v3646 k0_hw183 k0_h1 => k0_hw183.2 k0_h1

def k0_off184 (v3666 : BitVec 32) : Fin 2 → Nat :=
  let c0_i32_1970 : BitVec 32 := 0#32
  let c0_i32_1466 : BitVec 32 := 0#32
  let v3668 : BitVec 1 := Scalar.cmpi .sgt v3666 c0_i32_1466
  let v3669 : BitVec 32 := Scalar.extui v3668
  let c0_i32_1467 : BitVec 32 := 0#32
  let v3670 : BitVec 1 := Scalar.cmpi .slt v3666 c0_i32_1467
  let v3671 : BitVec 32 := Scalar.extui v3670
  let v3672 : BitVec 32 := Scalar.subi v3669 v3671
  let c128_i32_1465 : BitVec 32 := 128#32
  let c0_i32_1468 : BitVec 32 := 0#32
  let v3673 : BitVec 1 := Scalar.cmpi .sgt c128_i32_1465 c0_i32_1468
  let v3674 : BitVec 32 := Scalar.extui v3673
  let c0_i32_1469 : BitVec 32 := 0#32
  let v3675 : BitVec 1 := Scalar.cmpi .slt c128_i32_1465 c0_i32_1469
  let v3676 : BitVec 32 := Scalar.extui v3675
  let v3677 : BitVec 32 := Scalar.subi v3674 v3676
  let v3678 : BitVec 1 := Scalar.cmpi .ne v3672 v3677
  let v3679 : BitVec 32 := Scalar.remsi v3666 c128_i32_1465
  let c0_i32_1470 : BitVec 32 := 0#32
  let v3680 : BitVec 1 := Scalar.cmpi .ne v3679 c0_i32_1470
  let v3681 : BitVec 1 := Scalar.andi v3678 v3680
  let v3667 : BitVec 32 := Scalar.divsi v3666 c128_i32_1465
  let c1_i32_1471 : BitVec 32 := 1#32
  let v3682 : BitVec 32 := Scalar.subi v3667 c1_i32_1471
  let v3683 : BitVec 32 := Scalar.select v3681 v3682 v3667
  let c128_i32_1472 : BitVec 32 := 128#32
  let v3684 : BitVec 32 := Scalar.muli v3683 c128_i32_1472
  let v3685 : BitVec 32 := v3684
  ![0, v3685.toNat]

def k0_chk184 (i : grid0.Coords) (v3666 : BitVec 32) : Prop :=
  (∀ (k0_h1 : k0_cond1 i = 1#1), 128 ∣ (k0_mult184 v3666).toNat) ∧
  (∀ (k0_h1 : k0_cond1 i = 1#1), ∀ a, (k0_off184 v3666) a + S64x128.size a ≤ S64x1000000.size a)
theorem k0_mult184_dvd : ∀ (i : grid0.Coords) (v3666 : BitVec 32) (k0_hw184 : k0_chk184 i v3666), ∀ (k0_h1 : k0_cond1 i = 1#1), 128 ∣ (k0_mult184 v3666).toNat := fun i v3666 k0_hw184 k0_h1 => k0_hw184.1 k0_h1
theorem k0_off184_inb : ∀ (i : grid0.Coords) (v3666 : BitVec 32) (k0_hw184 : k0_chk184 i v3666), ∀ (k0_h1 : k0_cond1 i = 1#1), ∀ a, (k0_off184 v3666) a + S64x128.size a ≤ S64x1000000.size a := fun i v3666 k0_hw184 k0_h1 => k0_hw184.2 k0_h1

def k0_off185 (v3686 : BitVec 32) : Fin 2 → Nat :=
  let c0_i32_1972 : BitVec 32 := 0#32
  let c0_i32_1474 : BitVec 32 := 0#32
  let v3688 : BitVec 1 := Scalar.cmpi .sgt v3686 c0_i32_1474
  let v3689 : BitVec 32 := Scalar.extui v3688
  let c0_i32_1475 : BitVec 32 := 0#32
  let v3690 : BitVec 1 := Scalar.cmpi .slt v3686 c0_i32_1475
  let v3691 : BitVec 32 := Scalar.extui v3690
  let v3692 : BitVec 32 := Scalar.subi v3689 v3691
  let c128_i32_1473 : BitVec 32 := 128#32
  let c0_i32_1476 : BitVec 32 := 0#32
  let v3693 : BitVec 1 := Scalar.cmpi .sgt c128_i32_1473 c0_i32_1476
  let v3694 : BitVec 32 := Scalar.extui v3693
  let c0_i32_1477 : BitVec 32 := 0#32
  let v3695 : BitVec 1 := Scalar.cmpi .slt c128_i32_1473 c0_i32_1477
  let v3696 : BitVec 32 := Scalar.extui v3695
  let v3697 : BitVec 32 := Scalar.subi v3694 v3696
  let v3698 : BitVec 1 := Scalar.cmpi .ne v3692 v3697
  let v3699 : BitVec 32 := Scalar.remsi v3686 c128_i32_1473
  let c0_i32_1478 : BitVec 32 := 0#32
  let v3700 : BitVec 1 := Scalar.cmpi .ne v3699 c0_i32_1478
  let v3701 : BitVec 1 := Scalar.andi v3698 v3700
  let v3687 : BitVec 32 := Scalar.divsi v3686 c128_i32_1473
  let c1_i32_1479 : BitVec 32 := 1#32
  let v3702 : BitVec 32 := Scalar.subi v3687 c1_i32_1479
  let v3703 : BitVec 32 := Scalar.select v3701 v3702 v3687
  let c128_i32_1480 : BitVec 32 := 128#32
  let v3704 : BitVec 32 := Scalar.muli v3703 c128_i32_1480
  let v3705 : BitVec 32 := v3704
  ![0, v3705.toNat]

def k0_chk185 (i : grid0.Coords) (v3686 : BitVec 32) : Prop :=
  (∀ (k0_h1 : k0_cond1 i = 1#1), 128 ∣ (k0_mult185 v3686).toNat) ∧
  (∀ (k0_h1 : k0_cond1 i = 1#1), ∀ a, (k0_off185 v3686) a + S64x128.size a ≤ S64x1000000.size a)
theorem k0_mult185_dvd : ∀ (i : grid0.Coords) (v3686 : BitVec 32) (k0_hw185 : k0_chk185 i v3686), ∀ (k0_h1 : k0_cond1 i = 1#1), 128 ∣ (k0_mult185 v3686).toNat := fun i v3686 k0_hw185 k0_h1 => k0_hw185.1 k0_h1
theorem k0_off185_inb : ∀ (i : grid0.Coords) (v3686 : BitVec 32) (k0_hw185 : k0_chk185 i v3686), ∀ (k0_h1 : k0_cond1 i = 1#1), ∀ a, (k0_off185 v3686) a + S64x128.size a ≤ S64x1000000.size a := fun i v3686 k0_hw185 k0_h1 => k0_hw185.2 k0_h1

def k0_off186 (v3706 : BitVec 32) : Fin 2 → Nat :=
  let c0_i32_1974 : BitVec 32 := 0#32
  let c0_i32_1482 : BitVec 32 := 0#32
  let v3708 : BitVec 1 := Scalar.cmpi .sgt v3706 c0_i32_1482
  let v3709 : BitVec 32 := Scalar.extui v3708
  let c0_i32_1483 : BitVec 32 := 0#32
  let v3710 : BitVec 1 := Scalar.cmpi .slt v3706 c0_i32_1483
  let v3711 : BitVec 32 := Scalar.extui v3710
  let v3712 : BitVec 32 := Scalar.subi v3709 v3711
  let c128_i32_1481 : BitVec 32 := 128#32
  let c0_i32_1484 : BitVec 32 := 0#32
  let v3713 : BitVec 1 := Scalar.cmpi .sgt c128_i32_1481 c0_i32_1484
  let v3714 : BitVec 32 := Scalar.extui v3713
  let c0_i32_1485 : BitVec 32 := 0#32
  let v3715 : BitVec 1 := Scalar.cmpi .slt c128_i32_1481 c0_i32_1485
  let v3716 : BitVec 32 := Scalar.extui v3715
  let v3717 : BitVec 32 := Scalar.subi v3714 v3716
  let v3718 : BitVec 1 := Scalar.cmpi .ne v3712 v3717
  let v3719 : BitVec 32 := Scalar.remsi v3706 c128_i32_1481
  let c0_i32_1486 : BitVec 32 := 0#32
  let v3720 : BitVec 1 := Scalar.cmpi .ne v3719 c0_i32_1486
  let v3721 : BitVec 1 := Scalar.andi v3718 v3720
  let v3707 : BitVec 32 := Scalar.divsi v3706 c128_i32_1481
  let c1_i32_1487 : BitVec 32 := 1#32
  let v3722 : BitVec 32 := Scalar.subi v3707 c1_i32_1487
  let v3723 : BitVec 32 := Scalar.select v3721 v3722 v3707
  let c128_i32_1488 : BitVec 32 := 128#32
  let v3724 : BitVec 32 := Scalar.muli v3723 c128_i32_1488
  let v3725 : BitVec 32 := v3724
  ![0, v3725.toNat]

def k0_chk186 (i : grid0.Coords) (v3706 : BitVec 32) : Prop :=
  (∀ (k0_h1 : k0_cond1 i = 1#1), 128 ∣ (k0_mult186 v3706).toNat) ∧
  (∀ (k0_h1 : k0_cond1 i = 1#1), ∀ a, (k0_off186 v3706) a + S64x128.size a ≤ S64x1000000.size a)
theorem k0_mult186_dvd : ∀ (i : grid0.Coords) (v3706 : BitVec 32) (k0_hw186 : k0_chk186 i v3706), ∀ (k0_h1 : k0_cond1 i = 1#1), 128 ∣ (k0_mult186 v3706).toNat := fun i v3706 k0_hw186 k0_h1 => k0_hw186.1 k0_h1
theorem k0_off186_inb : ∀ (i : grid0.Coords) (v3706 : BitVec 32) (k0_hw186 : k0_chk186 i v3706), ∀ (k0_h1 : k0_cond1 i = 1#1), ∀ a, (k0_off186 v3706) a + S64x128.size a ≤ S64x1000000.size a := fun i v3706 k0_hw186 k0_h1 => k0_hw186.2 k0_h1

def k0_off187 (v3726 : BitVec 32) : Fin 2 → Nat :=
  let c0_i32_1976 : BitVec 32 := 0#32
  let c0_i32_1490 : BitVec 32 := 0#32
  let v3728 : BitVec 1 := Scalar.cmpi .sgt v3726 c0_i32_1490
  let v3729 : BitVec 32 := Scalar.extui v3728
  let c0_i32_1491 : BitVec 32 := 0#32
  let v3730 : BitVec 1 := Scalar.cmpi .slt v3726 c0_i32_1491
  let v3731 : BitVec 32 := Scalar.extui v3730
  let v3732 : BitVec 32 := Scalar.subi v3729 v3731
  let c128_i32_1489 : BitVec 32 := 128#32
  let c0_i32_1492 : BitVec 32 := 0#32
  let v3733 : BitVec 1 := Scalar.cmpi .sgt c128_i32_1489 c0_i32_1492
  let v3734 : BitVec 32 := Scalar.extui v3733
  let c0_i32_1493 : BitVec 32 := 0#32
  let v3735 : BitVec 1 := Scalar.cmpi .slt c128_i32_1489 c0_i32_1493
  let v3736 : BitVec 32 := Scalar.extui v3735
  let v3737 : BitVec 32 := Scalar.subi v3734 v3736
  let v3738 : BitVec 1 := Scalar.cmpi .ne v3732 v3737
  let v3739 : BitVec 32 := Scalar.remsi v3726 c128_i32_1489
  let c0_i32_1494 : BitVec 32 := 0#32
  let v3740 : BitVec 1 := Scalar.cmpi .ne v3739 c0_i32_1494
  let v3741 : BitVec 1 := Scalar.andi v3738 v3740
  let v3727 : BitVec 32 := Scalar.divsi v3726 c128_i32_1489
  let c1_i32_1495 : BitVec 32 := 1#32
  let v3742 : BitVec 32 := Scalar.subi v3727 c1_i32_1495
  let v3743 : BitVec 32 := Scalar.select v3741 v3742 v3727
  let c128_i32_1496 : BitVec 32 := 128#32
  let v3744 : BitVec 32 := Scalar.muli v3743 c128_i32_1496
  let v3745 : BitVec 32 := v3744
  ![0, v3745.toNat]

def k0_chk187 (i : grid0.Coords) (v3726 : BitVec 32) : Prop :=
  (∀ (k0_h1 : k0_cond1 i = 1#1), 128 ∣ (k0_mult187 v3726).toNat) ∧
  (∀ (k0_h1 : k0_cond1 i = 1#1), ∀ a, (k0_off187 v3726) a + S64x128.size a ≤ S64x1000000.size a)
theorem k0_mult187_dvd : ∀ (i : grid0.Coords) (v3726 : BitVec 32) (k0_hw187 : k0_chk187 i v3726), ∀ (k0_h1 : k0_cond1 i = 1#1), 128 ∣ (k0_mult187 v3726).toNat := fun i v3726 k0_hw187 k0_h1 => k0_hw187.1 k0_h1
theorem k0_off187_inb : ∀ (i : grid0.Coords) (v3726 : BitVec 32) (k0_hw187 : k0_chk187 i v3726), ∀ (k0_h1 : k0_cond1 i = 1#1), ∀ a, (k0_off187 v3726) a + S64x128.size a ≤ S64x1000000.size a := fun i v3726 k0_hw187 k0_h1 => k0_hw187.2 k0_h1

def k0_off188 (v3746 : BitVec 32) : Fin 2 → Nat :=
  let c0_i32_1978 : BitVec 32 := 0#32
  let c0_i32_1498 : BitVec 32 := 0#32
  let v3748 : BitVec 1 := Scalar.cmpi .sgt v3746 c0_i32_1498
  let v3749 : BitVec 32 := Scalar.extui v3748
  let c0_i32_1499 : BitVec 32 := 0#32
  let v3750 : BitVec 1 := Scalar.cmpi .slt v3746 c0_i32_1499
  let v3751 : BitVec 32 := Scalar.extui v3750
  let v3752 : BitVec 32 := Scalar.subi v3749 v3751
  let c128_i32_1497 : BitVec 32 := 128#32
  let c0_i32_1500 : BitVec 32 := 0#32
  let v3753 : BitVec 1 := Scalar.cmpi .sgt c128_i32_1497 c0_i32_1500
  let v3754 : BitVec 32 := Scalar.extui v3753
  let c0_i32_1501 : BitVec 32 := 0#32
  let v3755 : BitVec 1 := Scalar.cmpi .slt c128_i32_1497 c0_i32_1501
  let v3756 : BitVec 32 := Scalar.extui v3755
  let v3757 : BitVec 32 := Scalar.subi v3754 v3756
  let v3758 : BitVec 1 := Scalar.cmpi .ne v3752 v3757
  let v3759 : BitVec 32 := Scalar.remsi v3746 c128_i32_1497
  let c0_i32_1502 : BitVec 32 := 0#32
  let v3760 : BitVec 1 := Scalar.cmpi .ne v3759 c0_i32_1502
  let v3761 : BitVec 1 := Scalar.andi v3758 v3760
  let v3747 : BitVec 32 := Scalar.divsi v3746 c128_i32_1497
  let c1_i32_1503 : BitVec 32 := 1#32
  let v3762 : BitVec 32 := Scalar.subi v3747 c1_i32_1503
  let v3763 : BitVec 32 := Scalar.select v3761 v3762 v3747
  let c128_i32_1504 : BitVec 32 := 128#32
  let v3764 : BitVec 32 := Scalar.muli v3763 c128_i32_1504
  let v3765 : BitVec 32 := v3764
  ![0, v3765.toNat]

def k0_chk188 (i : grid0.Coords) (v3746 : BitVec 32) : Prop :=
  (∀ (k0_h1 : k0_cond1 i = 1#1), 128 ∣ (k0_mult188 v3746).toNat) ∧
  (∀ (k0_h1 : k0_cond1 i = 1#1), ∀ a, (k0_off188 v3746) a + S64x128.size a ≤ S64x1000000.size a)
theorem k0_mult188_dvd : ∀ (i : grid0.Coords) (v3746 : BitVec 32) (k0_hw188 : k0_chk188 i v3746), ∀ (k0_h1 : k0_cond1 i = 1#1), 128 ∣ (k0_mult188 v3746).toNat := fun i v3746 k0_hw188 k0_h1 => k0_hw188.1 k0_h1
theorem k0_off188_inb : ∀ (i : grid0.Coords) (v3746 : BitVec 32) (k0_hw188 : k0_chk188 i v3746), ∀ (k0_h1 : k0_cond1 i = 1#1), ∀ a, (k0_off188 v3746) a + S64x128.size a ≤ S64x1000000.size a := fun i v3746 k0_hw188 k0_h1 => k0_hw188.2 k0_h1

def k0_off189 (v3766 : BitVec 32) : Fin 2 → Nat :=
  let c0_i32_1980 : BitVec 32 := 0#32
  let c0_i32_1506 : BitVec 32 := 0#32
  let v3768 : BitVec 1 := Scalar.cmpi .sgt v3766 c0_i32_1506
  let v3769 : BitVec 32 := Scalar.extui v3768
  let c0_i32_1507 : BitVec 32 := 0#32
  let v3770 : BitVec 1 := Scalar.cmpi .slt v3766 c0_i32_1507
  let v3771 : BitVec 32 := Scalar.extui v3770
  let v3772 : BitVec 32 := Scalar.subi v3769 v3771
  let c128_i32_1505 : BitVec 32 := 128#32
  let c0_i32_1508 : BitVec 32 := 0#32
  let v3773 : BitVec 1 := Scalar.cmpi .sgt c128_i32_1505 c0_i32_1508
  let v3774 : BitVec 32 := Scalar.extui v3773
  let c0_i32_1509 : BitVec 32 := 0#32
  let v3775 : BitVec 1 := Scalar.cmpi .slt c128_i32_1505 c0_i32_1509
  let v3776 : BitVec 32 := Scalar.extui v3775
  let v3777 : BitVec 32 := Scalar.subi v3774 v3776
  let v3778 : BitVec 1 := Scalar.cmpi .ne v3772 v3777
  let v3779 : BitVec 32 := Scalar.remsi v3766 c128_i32_1505
  let c0_i32_1510 : BitVec 32 := 0#32
  let v3780 : BitVec 1 := Scalar.cmpi .ne v3779 c0_i32_1510
  let v3781 : BitVec 1 := Scalar.andi v3778 v3780
  let v3767 : BitVec 32 := Scalar.divsi v3766 c128_i32_1505
  let c1_i32_1511 : BitVec 32 := 1#32
  let v3782 : BitVec 32 := Scalar.subi v3767 c1_i32_1511
  let v3783 : BitVec 32 := Scalar.select v3781 v3782 v3767
  let c128_i32_1512 : BitVec 32 := 128#32
  let v3784 : BitVec 32 := Scalar.muli v3783 c128_i32_1512
  let v3785 : BitVec 32 := v3784
  ![0, v3785.toNat]

def k0_chk189 (i : grid0.Coords) (v3766 : BitVec 32) : Prop :=
  (∀ (k0_h1 : k0_cond1 i = 1#1), 128 ∣ (k0_mult189 v3766).toNat) ∧
  (∀ (k0_h1 : k0_cond1 i = 1#1), ∀ a, (k0_off189 v3766) a + S64x128.size a ≤ S64x1000000.size a)
theorem k0_mult189_dvd : ∀ (i : grid0.Coords) (v3766 : BitVec 32) (k0_hw189 : k0_chk189 i v3766), ∀ (k0_h1 : k0_cond1 i = 1#1), 128 ∣ (k0_mult189 v3766).toNat := fun i v3766 k0_hw189 k0_h1 => k0_hw189.1 k0_h1
theorem k0_off189_inb : ∀ (i : grid0.Coords) (v3766 : BitVec 32) (k0_hw189 : k0_chk189 i v3766), ∀ (k0_h1 : k0_cond1 i = 1#1), ∀ a, (k0_off189 v3766) a + S64x128.size a ≤ S64x1000000.size a := fun i v3766 k0_hw189 k0_h1 => k0_hw189.2 k0_h1

def k0_off190 (v3786 : BitVec 32) : Fin 2 → Nat :=
  let c0_i32_1982 : BitVec 32 := 0#32
  let c0_i32_1514 : BitVec 32 := 0#32
  let v3788 : BitVec 1 := Scalar.cmpi .sgt v3786 c0_i32_1514
  let v3789 : BitVec 32 := Scalar.extui v3788
  let c0_i32_1515 : BitVec 32 := 0#32
  let v3790 : BitVec 1 := Scalar.cmpi .slt v3786 c0_i32_1515
  let v3791 : BitVec 32 := Scalar.extui v3790
  let v3792 : BitVec 32 := Scalar.subi v3789 v3791
  let c128_i32_1513 : BitVec 32 := 128#32
  let c0_i32_1516 : BitVec 32 := 0#32
  let v3793 : BitVec 1 := Scalar.cmpi .sgt c128_i32_1513 c0_i32_1516
  let v3794 : BitVec 32 := Scalar.extui v3793
  let c0_i32_1517 : BitVec 32 := 0#32
  let v3795 : BitVec 1 := Scalar.cmpi .slt c128_i32_1513 c0_i32_1517
  let v3796 : BitVec 32 := Scalar.extui v3795
  let v3797 : BitVec 32 := Scalar.subi v3794 v3796
  let v3798 : BitVec 1 := Scalar.cmpi .ne v3792 v3797
  let v3799 : BitVec 32 := Scalar.remsi v3786 c128_i32_1513
  let c0_i32_1518 : BitVec 32 := 0#32
  let v3800 : BitVec 1 := Scalar.cmpi .ne v3799 c0_i32_1518
  let v3801 : BitVec 1 := Scalar.andi v3798 v3800
  let v3787 : BitVec 32 := Scalar.divsi v3786 c128_i32_1513
  let c1_i32_1519 : BitVec 32 := 1#32
  let v3802 : BitVec 32 := Scalar.subi v3787 c1_i32_1519
  let v3803 : BitVec 32 := Scalar.select v3801 v3802 v3787
  let c128_i32_1520 : BitVec 32 := 128#32
  let v3804 : BitVec 32 := Scalar.muli v3803 c128_i32_1520
  let v3805 : BitVec 32 := v3804
  ![0, v3805.toNat]

def k0_chk190 (i : grid0.Coords) (v3786 : BitVec 32) : Prop :=
  (∀ (k0_h1 : k0_cond1 i = 1#1), 128 ∣ (k0_mult190 v3786).toNat) ∧
  (∀ (k0_h1 : k0_cond1 i = 1#1), ∀ a, (k0_off190 v3786) a + S64x128.size a ≤ S64x1000000.size a)
theorem k0_mult190_dvd : ∀ (i : grid0.Coords) (v3786 : BitVec 32) (k0_hw190 : k0_chk190 i v3786), ∀ (k0_h1 : k0_cond1 i = 1#1), 128 ∣ (k0_mult190 v3786).toNat := fun i v3786 k0_hw190 k0_h1 => k0_hw190.1 k0_h1
theorem k0_off190_inb : ∀ (i : grid0.Coords) (v3786 : BitVec 32) (k0_hw190 : k0_chk190 i v3786), ∀ (k0_h1 : k0_cond1 i = 1#1), ∀ a, (k0_off190 v3786) a + S64x128.size a ≤ S64x1000000.size a := fun i v3786 k0_hw190 k0_h1 => k0_hw190.2 k0_h1

def k0_off191 (v3806 : BitVec 32) : Fin 2 → Nat :=
  let c0_i32_1984 : BitVec 32 := 0#32
  let c0_i32_1522 : BitVec 32 := 0#32
  let v3808 : BitVec 1 := Scalar.cmpi .sgt v3806 c0_i32_1522
  let v3809 : BitVec 32 := Scalar.extui v3808
  let c0_i32_1523 : BitVec 32 := 0#32
  let v3810 : BitVec 1 := Scalar.cmpi .slt v3806 c0_i32_1523
  let v3811 : BitVec 32 := Scalar.extui v3810
  let v3812 : BitVec 32 := Scalar.subi v3809 v3811
  let c128_i32_1521 : BitVec 32 := 128#32
  let c0_i32_1524 : BitVec 32 := 0#32
  let v3813 : BitVec 1 := Scalar.cmpi .sgt c128_i32_1521 c0_i32_1524
  let v3814 : BitVec 32 := Scalar.extui v3813
  let c0_i32_1525 : BitVec 32 := 0#32
  let v3815 : BitVec 1 := Scalar.cmpi .slt c128_i32_1521 c0_i32_1525
  let v3816 : BitVec 32 := Scalar.extui v3815
  let v3817 : BitVec 32 := Scalar.subi v3814 v3816
  let v3818 : BitVec 1 := Scalar.cmpi .ne v3812 v3817
  let v3819 : BitVec 32 := Scalar.remsi v3806 c128_i32_1521
  let c0_i32_1526 : BitVec 32 := 0#32
  let v3820 : BitVec 1 := Scalar.cmpi .ne v3819 c0_i32_1526
  let v3821 : BitVec 1 := Scalar.andi v3818 v3820
  let v3807 : BitVec 32 := Scalar.divsi v3806 c128_i32_1521
  let c1_i32_1527 : BitVec 32 := 1#32
  let v3822 : BitVec 32 := Scalar.subi v3807 c1_i32_1527
  let v3823 : BitVec 32 := Scalar.select v3821 v3822 v3807
  let c128_i32_1528 : BitVec 32 := 128#32
  let v3824 : BitVec 32 := Scalar.muli v3823 c128_i32_1528
  let v3825 : BitVec 32 := v3824
  ![0, v3825.toNat]

def k0_chk191 (i : grid0.Coords) (v3806 : BitVec 32) : Prop :=
  (∀ (k0_h1 : k0_cond1 i = 1#1), 128 ∣ (k0_mult191 v3806).toNat) ∧
  (∀ (k0_h1 : k0_cond1 i = 1#1), ∀ a, (k0_off191 v3806) a + S64x128.size a ≤ S64x1000000.size a)
theorem k0_mult191_dvd : ∀ (i : grid0.Coords) (v3806 : BitVec 32) (k0_hw191 : k0_chk191 i v3806), ∀ (k0_h1 : k0_cond1 i = 1#1), 128 ∣ (k0_mult191 v3806).toNat := fun i v3806 k0_hw191 k0_h1 => k0_hw191.1 k0_h1
theorem k0_off191_inb : ∀ (i : grid0.Coords) (v3806 : BitVec 32) (k0_hw191 : k0_chk191 i v3806), ∀ (k0_h1 : k0_cond1 i = 1#1), ∀ a, (k0_off191 v3806) a + S64x128.size a ≤ S64x1000000.size a := fun i v3806 k0_hw191 k0_h1 => k0_hw191.2 k0_h1

def k0_off192 (v3826 : BitVec 32) : Fin 2 → Nat :=
  let c0_i32_1986 : BitVec 32 := 0#32
  let c0_i32_1530 : BitVec 32 := 0#32
  let v3828 : BitVec 1 := Scalar.cmpi .sgt v3826 c0_i32_1530
  let v3829 : BitVec 32 := Scalar.extui v3828
  let c0_i32_1531 : BitVec 32 := 0#32
  let v3830 : BitVec 1 := Scalar.cmpi .slt v3826 c0_i32_1531
  let v3831 : BitVec 32 := Scalar.extui v3830
  let v3832 : BitVec 32 := Scalar.subi v3829 v3831
  let c128_i32_1529 : BitVec 32 := 128#32
  let c0_i32_1532 : BitVec 32 := 0#32
  let v3833 : BitVec 1 := Scalar.cmpi .sgt c128_i32_1529 c0_i32_1532
  let v3834 : BitVec 32 := Scalar.extui v3833
  let c0_i32_1533 : BitVec 32 := 0#32
  let v3835 : BitVec 1 := Scalar.cmpi .slt c128_i32_1529 c0_i32_1533
  let v3836 : BitVec 32 := Scalar.extui v3835
  let v3837 : BitVec 32 := Scalar.subi v3834 v3836
  let v3838 : BitVec 1 := Scalar.cmpi .ne v3832 v3837
  let v3839 : BitVec 32 := Scalar.remsi v3826 c128_i32_1529
  let c0_i32_1534 : BitVec 32 := 0#32
  let v3840 : BitVec 1 := Scalar.cmpi .ne v3839 c0_i32_1534
  let v3841 : BitVec 1 := Scalar.andi v3838 v3840
  let v3827 : BitVec 32 := Scalar.divsi v3826 c128_i32_1529
  let c1_i32_1535 : BitVec 32 := 1#32
  let v3842 : BitVec 32 := Scalar.subi v3827 c1_i32_1535
  let v3843 : BitVec 32 := Scalar.select v3841 v3842 v3827
  let c128_i32_1536 : BitVec 32 := 128#32
  let v3844 : BitVec 32 := Scalar.muli v3843 c128_i32_1536
  let v3845 : BitVec 32 := v3844
  ![0, v3845.toNat]

def k0_chk192 (i : grid0.Coords) (v3826 : BitVec 32) : Prop :=
  (∀ (k0_h1 : k0_cond1 i = 1#1), 128 ∣ (k0_mult192 v3826).toNat) ∧
  (∀ (k0_h1 : k0_cond1 i = 1#1), ∀ a, (k0_off192 v3826) a + S64x128.size a ≤ S64x1000000.size a)
theorem k0_mult192_dvd : ∀ (i : grid0.Coords) (v3826 : BitVec 32) (k0_hw192 : k0_chk192 i v3826), ∀ (k0_h1 : k0_cond1 i = 1#1), 128 ∣ (k0_mult192 v3826).toNat := fun i v3826 k0_hw192 k0_h1 => k0_hw192.1 k0_h1
theorem k0_off192_inb : ∀ (i : grid0.Coords) (v3826 : BitVec 32) (k0_hw192 : k0_chk192 i v3826), ∀ (k0_h1 : k0_cond1 i = 1#1), ∀ a, (k0_off192 v3826) a + S64x128.size a ≤ S64x1000000.size a := fun i v3826 k0_hw192 k0_h1 => k0_hw192.2 k0_h1

def k0_off193 (v3846 : BitVec 32) : Fin 2 → Nat :=
  let c0_i32_1988 : BitVec 32 := 0#32
  let c0_i32_1538 : BitVec 32 := 0#32
  let v3848 : BitVec 1 := Scalar.cmpi .sgt v3846 c0_i32_1538
  let v3849 : BitVec 32 := Scalar.extui v3848
  let c0_i32_1539 : BitVec 32 := 0#32
  let v3850 : BitVec 1 := Scalar.cmpi .slt v3846 c0_i32_1539
  let v3851 : BitVec 32 := Scalar.extui v3850
  let v3852 : BitVec 32 := Scalar.subi v3849 v3851
  let c128_i32_1537 : BitVec 32 := 128#32
  let c0_i32_1540 : BitVec 32 := 0#32
  let v3853 : BitVec 1 := Scalar.cmpi .sgt c128_i32_1537 c0_i32_1540
  let v3854 : BitVec 32 := Scalar.extui v3853
  let c0_i32_1541 : BitVec 32 := 0#32
  let v3855 : BitVec 1 := Scalar.cmpi .slt c128_i32_1537 c0_i32_1541
  let v3856 : BitVec 32 := Scalar.extui v3855
  let v3857 : BitVec 32 := Scalar.subi v3854 v3856
  let v3858 : BitVec 1 := Scalar.cmpi .ne v3852 v3857
  let v3859 : BitVec 32 := Scalar.remsi v3846 c128_i32_1537
  let c0_i32_1542 : BitVec 32 := 0#32
  let v3860 : BitVec 1 := Scalar.cmpi .ne v3859 c0_i32_1542
  let v3861 : BitVec 1 := Scalar.andi v3858 v3860
  let v3847 : BitVec 32 := Scalar.divsi v3846 c128_i32_1537
  let c1_i32_1543 : BitVec 32 := 1#32
  let v3862 : BitVec 32 := Scalar.subi v3847 c1_i32_1543
  let v3863 : BitVec 32 := Scalar.select v3861 v3862 v3847
  let c128_i32_1544 : BitVec 32 := 128#32
  let v3864 : BitVec 32 := Scalar.muli v3863 c128_i32_1544
  let v3865 : BitVec 32 := v3864
  ![0, v3865.toNat]

def k0_chk193 (i : grid0.Coords) (v3846 : BitVec 32) : Prop :=
  (∀ (k0_h1 : k0_cond1 i = 1#1), 128 ∣ (k0_mult193 v3846).toNat) ∧
  (∀ (k0_h1 : k0_cond1 i = 1#1), ∀ a, (k0_off193 v3846) a + S64x128.size a ≤ S64x1000000.size a)
theorem k0_mult193_dvd : ∀ (i : grid0.Coords) (v3846 : BitVec 32) (k0_hw193 : k0_chk193 i v3846), ∀ (k0_h1 : k0_cond1 i = 1#1), 128 ∣ (k0_mult193 v3846).toNat := fun i v3846 k0_hw193 k0_h1 => k0_hw193.1 k0_h1
theorem k0_off193_inb : ∀ (i : grid0.Coords) (v3846 : BitVec 32) (k0_hw193 : k0_chk193 i v3846), ∀ (k0_h1 : k0_cond1 i = 1#1), ∀ a, (k0_off193 v3846) a + S64x128.size a ≤ S64x1000000.size a := fun i v3846 k0_hw193 k0_h1 => k0_hw193.2 k0_h1

def k0_off194 (v3866 : BitVec 32) : Fin 2 → Nat :=
  let c0_i32_1990 : BitVec 32 := 0#32
  let c0_i32_1546 : BitVec 32 := 0#32
  let v3868 : BitVec 1 := Scalar.cmpi .sgt v3866 c0_i32_1546
  let v3869 : BitVec 32 := Scalar.extui v3868
  let c0_i32_1547 : BitVec 32 := 0#32
  let v3870 : BitVec 1 := Scalar.cmpi .slt v3866 c0_i32_1547
  let v3871 : BitVec 32 := Scalar.extui v3870
  let v3872 : BitVec 32 := Scalar.subi v3869 v3871
  let c128_i32_1545 : BitVec 32 := 128#32
  let c0_i32_1548 : BitVec 32 := 0#32
  let v3873 : BitVec 1 := Scalar.cmpi .sgt c128_i32_1545 c0_i32_1548
  let v3874 : BitVec 32 := Scalar.extui v3873
  let c0_i32_1549 : BitVec 32 := 0#32
  let v3875 : BitVec 1 := Scalar.cmpi .slt c128_i32_1545 c0_i32_1549
  let v3876 : BitVec 32 := Scalar.extui v3875
  let v3877 : BitVec 32 := Scalar.subi v3874 v3876
  let v3878 : BitVec 1 := Scalar.cmpi .ne v3872 v3877
  let v3879 : BitVec 32 := Scalar.remsi v3866 c128_i32_1545
  let c0_i32_1550 : BitVec 32 := 0#32
  let v3880 : BitVec 1 := Scalar.cmpi .ne v3879 c0_i32_1550
  let v3881 : BitVec 1 := Scalar.andi v3878 v3880
  let v3867 : BitVec 32 := Scalar.divsi v3866 c128_i32_1545
  let c1_i32_1551 : BitVec 32 := 1#32
  let v3882 : BitVec 32 := Scalar.subi v3867 c1_i32_1551
  let v3883 : BitVec 32 := Scalar.select v3881 v3882 v3867
  let c128_i32_1552 : BitVec 32 := 128#32
  let v3884 : BitVec 32 := Scalar.muli v3883 c128_i32_1552
  let v3885 : BitVec 32 := v3884
  ![0, v3885.toNat]

def k0_chk194 (i : grid0.Coords) (v3866 : BitVec 32) : Prop :=
  (∀ (k0_h1 : k0_cond1 i = 1#1), 128 ∣ (k0_mult194 v3866).toNat) ∧
  (∀ (k0_h1 : k0_cond1 i = 1#1), ∀ a, (k0_off194 v3866) a + S64x128.size a ≤ S64x1000000.size a)
theorem k0_mult194_dvd : ∀ (i : grid0.Coords) (v3866 : BitVec 32) (k0_hw194 : k0_chk194 i v3866), ∀ (k0_h1 : k0_cond1 i = 1#1), 128 ∣ (k0_mult194 v3866).toNat := fun i v3866 k0_hw194 k0_h1 => k0_hw194.1 k0_h1
theorem k0_off194_inb : ∀ (i : grid0.Coords) (v3866 : BitVec 32) (k0_hw194 : k0_chk194 i v3866), ∀ (k0_h1 : k0_cond1 i = 1#1), ∀ a, (k0_off194 v3866) a + S64x128.size a ≤ S64x1000000.size a := fun i v3866 k0_hw194 k0_h1 => k0_hw194.2 k0_h1

def k0_off195 (v3886 : BitVec 32) : Fin 2 → Nat :=
  let c0_i32_1992 : BitVec 32 := 0#32
  let c0_i32_1554 : BitVec 32 := 0#32
  let v3888 : BitVec 1 := Scalar.cmpi .sgt v3886 c0_i32_1554
  let v3889 : BitVec 32 := Scalar.extui v3888
  let c0_i32_1555 : BitVec 32 := 0#32
  let v3890 : BitVec 1 := Scalar.cmpi .slt v3886 c0_i32_1555
  let v3891 : BitVec 32 := Scalar.extui v3890
  let v3892 : BitVec 32 := Scalar.subi v3889 v3891
  let c128_i32_1553 : BitVec 32 := 128#32
  let c0_i32_1556 : BitVec 32 := 0#32
  let v3893 : BitVec 1 := Scalar.cmpi .sgt c128_i32_1553 c0_i32_1556
  let v3894 : BitVec 32 := Scalar.extui v3893
  let c0_i32_1557 : BitVec 32 := 0#32
  let v3895 : BitVec 1 := Scalar.cmpi .slt c128_i32_1553 c0_i32_1557
  let v3896 : BitVec 32 := Scalar.extui v3895
  let v3897 : BitVec 32 := Scalar.subi v3894 v3896
  let v3898 : BitVec 1 := Scalar.cmpi .ne v3892 v3897
  let v3899 : BitVec 32 := Scalar.remsi v3886 c128_i32_1553
  let c0_i32_1558 : BitVec 32 := 0#32
  let v3900 : BitVec 1 := Scalar.cmpi .ne v3899 c0_i32_1558
  let v3901 : BitVec 1 := Scalar.andi v3898 v3900
  let v3887 : BitVec 32 := Scalar.divsi v3886 c128_i32_1553
  let c1_i32_1559 : BitVec 32 := 1#32
  let v3902 : BitVec 32 := Scalar.subi v3887 c1_i32_1559
  let v3903 : BitVec 32 := Scalar.select v3901 v3902 v3887
  let c128_i32_1560 : BitVec 32 := 128#32
  let v3904 : BitVec 32 := Scalar.muli v3903 c128_i32_1560
  let v3905 : BitVec 32 := v3904
  ![0, v3905.toNat]

def k0_chk195 (i : grid0.Coords) (v3886 : BitVec 32) : Prop :=
  (∀ (k0_h1 : k0_cond1 i = 1#1), 128 ∣ (k0_mult195 v3886).toNat) ∧
  (∀ (k0_h1 : k0_cond1 i = 1#1), ∀ a, (k0_off195 v3886) a + S64x128.size a ≤ S64x1000000.size a)
theorem k0_mult195_dvd : ∀ (i : grid0.Coords) (v3886 : BitVec 32) (k0_hw195 : k0_chk195 i v3886), ∀ (k0_h1 : k0_cond1 i = 1#1), 128 ∣ (k0_mult195 v3886).toNat := fun i v3886 k0_hw195 k0_h1 => k0_hw195.1 k0_h1
theorem k0_off195_inb : ∀ (i : grid0.Coords) (v3886 : BitVec 32) (k0_hw195 : k0_chk195 i v3886), ∀ (k0_h1 : k0_cond1 i = 1#1), ∀ a, (k0_off195 v3886) a + S64x128.size a ≤ S64x1000000.size a := fun i v3886 k0_hw195 k0_h1 => k0_hw195.2 k0_h1

def k0_off196 (v3906 : BitVec 32) : Fin 2 → Nat :=
  let c0_i32_1994 : BitVec 32 := 0#32
  let c0_i32_1562 : BitVec 32 := 0#32
  let v3908 : BitVec 1 := Scalar.cmpi .sgt v3906 c0_i32_1562
  let v3909 : BitVec 32 := Scalar.extui v3908
  let c0_i32_1563 : BitVec 32 := 0#32
  let v3910 : BitVec 1 := Scalar.cmpi .slt v3906 c0_i32_1563
  let v3911 : BitVec 32 := Scalar.extui v3910
  let v3912 : BitVec 32 := Scalar.subi v3909 v3911
  let c128_i32_1561 : BitVec 32 := 128#32
  let c0_i32_1564 : BitVec 32 := 0#32
  let v3913 : BitVec 1 := Scalar.cmpi .sgt c128_i32_1561 c0_i32_1564
  let v3914 : BitVec 32 := Scalar.extui v3913
  let c0_i32_1565 : BitVec 32 := 0#32
  let v3915 : BitVec 1 := Scalar.cmpi .slt c128_i32_1561 c0_i32_1565
  let v3916 : BitVec 32 := Scalar.extui v3915
  let v3917 : BitVec 32 := Scalar.subi v3914 v3916
  let v3918 : BitVec 1 := Scalar.cmpi .ne v3912 v3917
  let v3919 : BitVec 32 := Scalar.remsi v3906 c128_i32_1561
  let c0_i32_1566 : BitVec 32 := 0#32
  let v3920 : BitVec 1 := Scalar.cmpi .ne v3919 c0_i32_1566
  let v3921 : BitVec 1 := Scalar.andi v3918 v3920
  let v3907 : BitVec 32 := Scalar.divsi v3906 c128_i32_1561
  let c1_i32_1567 : BitVec 32 := 1#32
  let v3922 : BitVec 32 := Scalar.subi v3907 c1_i32_1567
  let v3923 : BitVec 32 := Scalar.select v3921 v3922 v3907
  let c128_i32_1568 : BitVec 32 := 128#32
  let v3924 : BitVec 32 := Scalar.muli v3923 c128_i32_1568
  let v3925 : BitVec 32 := v3924
  ![0, v3925.toNat]

def k0_chk196 (i : grid0.Coords) (v3906 : BitVec 32) : Prop :=
  (∀ (k0_h1 : k0_cond1 i = 1#1), 128 ∣ (k0_mult196 v3906).toNat) ∧
  (∀ (k0_h1 : k0_cond1 i = 1#1), ∀ a, (k0_off196 v3906) a + S64x128.size a ≤ S64x1000000.size a)
theorem k0_mult196_dvd : ∀ (i : grid0.Coords) (v3906 : BitVec 32) (k0_hw196 : k0_chk196 i v3906), ∀ (k0_h1 : k0_cond1 i = 1#1), 128 ∣ (k0_mult196 v3906).toNat := fun i v3906 k0_hw196 k0_h1 => k0_hw196.1 k0_h1
theorem k0_off196_inb : ∀ (i : grid0.Coords) (v3906 : BitVec 32) (k0_hw196 : k0_chk196 i v3906), ∀ (k0_h1 : k0_cond1 i = 1#1), ∀ a, (k0_off196 v3906) a + S64x128.size a ≤ S64x1000000.size a := fun i v3906 k0_hw196 k0_h1 => k0_hw196.2 k0_h1

def k0_off197 (v3926 : BitVec 32) : Fin 2 → Nat :=
  let c0_i32_1996 : BitVec 32 := 0#32
  let c0_i32_1570 : BitVec 32 := 0#32
  let v3928 : BitVec 1 := Scalar.cmpi .sgt v3926 c0_i32_1570
  let v3929 : BitVec 32 := Scalar.extui v3928
  let c0_i32_1571 : BitVec 32 := 0#32
  let v3930 : BitVec 1 := Scalar.cmpi .slt v3926 c0_i32_1571
  let v3931 : BitVec 32 := Scalar.extui v3930
  let v3932 : BitVec 32 := Scalar.subi v3929 v3931
  let c128_i32_1569 : BitVec 32 := 128#32
  let c0_i32_1572 : BitVec 32 := 0#32
  let v3933 : BitVec 1 := Scalar.cmpi .sgt c128_i32_1569 c0_i32_1572
  let v3934 : BitVec 32 := Scalar.extui v3933
  let c0_i32_1573 : BitVec 32 := 0#32
  let v3935 : BitVec 1 := Scalar.cmpi .slt c128_i32_1569 c0_i32_1573
  let v3936 : BitVec 32 := Scalar.extui v3935
  let v3937 : BitVec 32 := Scalar.subi v3934 v3936
  let v3938 : BitVec 1 := Scalar.cmpi .ne v3932 v3937
  let v3939 : BitVec 32 := Scalar.remsi v3926 c128_i32_1569
  let c0_i32_1574 : BitVec 32 := 0#32
  let v3940 : BitVec 1 := Scalar.cmpi .ne v3939 c0_i32_1574
  let v3941 : BitVec 1 := Scalar.andi v3938 v3940
  let v3927 : BitVec 32 := Scalar.divsi v3926 c128_i32_1569
  let c1_i32_1575 : BitVec 32 := 1#32
  let v3942 : BitVec 32 := Scalar.subi v3927 c1_i32_1575
  let v3943 : BitVec 32 := Scalar.select v3941 v3942 v3927
  let c128_i32_1576 : BitVec 32 := 128#32
  let v3944 : BitVec 32 := Scalar.muli v3943 c128_i32_1576
  let v3945 : BitVec 32 := v3944
  ![0, v3945.toNat]

def k0_chk197 (i : grid0.Coords) (v3926 : BitVec 32) : Prop :=
  (∀ (k0_h1 : k0_cond1 i = 1#1), 128 ∣ (k0_mult197 v3926).toNat) ∧
  (∀ (k0_h1 : k0_cond1 i = 1#1), ∀ a, (k0_off197 v3926) a + S64x128.size a ≤ S64x1000000.size a)
theorem k0_mult197_dvd : ∀ (i : grid0.Coords) (v3926 : BitVec 32) (k0_hw197 : k0_chk197 i v3926), ∀ (k0_h1 : k0_cond1 i = 1#1), 128 ∣ (k0_mult197 v3926).toNat := fun i v3926 k0_hw197 k0_h1 => k0_hw197.1 k0_h1
theorem k0_off197_inb : ∀ (i : grid0.Coords) (v3926 : BitVec 32) (k0_hw197 : k0_chk197 i v3926), ∀ (k0_h1 : k0_cond1 i = 1#1), ∀ a, (k0_off197 v3926) a + S64x128.size a ≤ S64x1000000.size a := fun i v3926 k0_hw197 k0_h1 => k0_hw197.2 k0_h1

def k0_off198 (v3946 : BitVec 32) : Fin 2 → Nat :=
  let c0_i32_1998 : BitVec 32 := 0#32
  let c0_i32_1578 : BitVec 32 := 0#32
  let v3948 : BitVec 1 := Scalar.cmpi .sgt v3946 c0_i32_1578
  let v3949 : BitVec 32 := Scalar.extui v3948
  let c0_i32_1579 : BitVec 32 := 0#32
  let v3950 : BitVec 1 := Scalar.cmpi .slt v3946 c0_i32_1579
  let v3951 : BitVec 32 := Scalar.extui v3950
  let v3952 : BitVec 32 := Scalar.subi v3949 v3951
  let c128_i32_1577 : BitVec 32 := 128#32
  let c0_i32_1580 : BitVec 32 := 0#32
  let v3953 : BitVec 1 := Scalar.cmpi .sgt c128_i32_1577 c0_i32_1580
  let v3954 : BitVec 32 := Scalar.extui v3953
  let c0_i32_1581 : BitVec 32 := 0#32
  let v3955 : BitVec 1 := Scalar.cmpi .slt c128_i32_1577 c0_i32_1581
  let v3956 : BitVec 32 := Scalar.extui v3955
  let v3957 : BitVec 32 := Scalar.subi v3954 v3956
  let v3958 : BitVec 1 := Scalar.cmpi .ne v3952 v3957
  let v3959 : BitVec 32 := Scalar.remsi v3946 c128_i32_1577
  let c0_i32_1582 : BitVec 32 := 0#32
  let v3960 : BitVec 1 := Scalar.cmpi .ne v3959 c0_i32_1582
  let v3961 : BitVec 1 := Scalar.andi v3958 v3960
  let v3947 : BitVec 32 := Scalar.divsi v3946 c128_i32_1577
  let c1_i32_1583 : BitVec 32 := 1#32
  let v3962 : BitVec 32 := Scalar.subi v3947 c1_i32_1583
  let v3963 : BitVec 32 := Scalar.select v3961 v3962 v3947
  let c128_i32_1584 : BitVec 32 := 128#32
  let v3964 : BitVec 32 := Scalar.muli v3963 c128_i32_1584
  let v3965 : BitVec 32 := v3964
  ![0, v3965.toNat]

def k0_chk198 (i : grid0.Coords) (v3946 : BitVec 32) : Prop :=
  (∀ (k0_h1 : k0_cond1 i = 1#1), 128 ∣ (k0_mult198 v3946).toNat) ∧
  (∀ (k0_h1 : k0_cond1 i = 1#1), ∀ a, (k0_off198 v3946) a + S64x128.size a ≤ S64x1000000.size a)
theorem k0_mult198_dvd : ∀ (i : grid0.Coords) (v3946 : BitVec 32) (k0_hw198 : k0_chk198 i v3946), ∀ (k0_h1 : k0_cond1 i = 1#1), 128 ∣ (k0_mult198 v3946).toNat := fun i v3946 k0_hw198 k0_h1 => k0_hw198.1 k0_h1
theorem k0_off198_inb : ∀ (i : grid0.Coords) (v3946 : BitVec 32) (k0_hw198 : k0_chk198 i v3946), ∀ (k0_h1 : k0_cond1 i = 1#1), ∀ a, (k0_off198 v3946) a + S64x128.size a ≤ S64x1000000.size a := fun i v3946 k0_hw198 k0_h1 => k0_hw198.2 k0_h1

def k0_off199 (v3966 : BitVec 32) : Fin 2 → Nat :=
  let c0_i32_2000 : BitVec 32 := 0#32
  let c0_i32_1586 : BitVec 32 := 0#32
  let v3968 : BitVec 1 := Scalar.cmpi .sgt v3966 c0_i32_1586
  let v3969 : BitVec 32 := Scalar.extui v3968
  let c0_i32_1587 : BitVec 32 := 0#32
  let v3970 : BitVec 1 := Scalar.cmpi .slt v3966 c0_i32_1587
  let v3971 : BitVec 32 := Scalar.extui v3970
  let v3972 : BitVec 32 := Scalar.subi v3969 v3971
  let c128_i32_1585 : BitVec 32 := 128#32
  let c0_i32_1588 : BitVec 32 := 0#32
  let v3973 : BitVec 1 := Scalar.cmpi .sgt c128_i32_1585 c0_i32_1588
  let v3974 : BitVec 32 := Scalar.extui v3973
  let c0_i32_1589 : BitVec 32 := 0#32
  let v3975 : BitVec 1 := Scalar.cmpi .slt c128_i32_1585 c0_i32_1589
  let v3976 : BitVec 32 := Scalar.extui v3975
  let v3977 : BitVec 32 := Scalar.subi v3974 v3976
  let v3978 : BitVec 1 := Scalar.cmpi .ne v3972 v3977
  let v3979 : BitVec 32 := Scalar.remsi v3966 c128_i32_1585
  let c0_i32_1590 : BitVec 32 := 0#32
  let v3980 : BitVec 1 := Scalar.cmpi .ne v3979 c0_i32_1590
  let v3981 : BitVec 1 := Scalar.andi v3978 v3980
  let v3967 : BitVec 32 := Scalar.divsi v3966 c128_i32_1585
  let c1_i32_1591 : BitVec 32 := 1#32
  let v3982 : BitVec 32 := Scalar.subi v3967 c1_i32_1591
  let v3983 : BitVec 32 := Scalar.select v3981 v3982 v3967
  let c128_i32_1592 : BitVec 32 := 128#32
  let v3984 : BitVec 32 := Scalar.muli v3983 c128_i32_1592
  let v3985 : BitVec 32 := v3984
  ![0, v3985.toNat]

def k0_chk199 (i : grid0.Coords) (v3966 : BitVec 32) : Prop :=
  (∀ (k0_h1 : k0_cond1 i = 1#1), 128 ∣ (k0_mult199 v3966).toNat) ∧
  (∀ (k0_h1 : k0_cond1 i = 1#1), ∀ a, (k0_off199 v3966) a + S64x128.size a ≤ S64x1000000.size a)
theorem k0_mult199_dvd : ∀ (i : grid0.Coords) (v3966 : BitVec 32) (k0_hw199 : k0_chk199 i v3966), ∀ (k0_h1 : k0_cond1 i = 1#1), 128 ∣ (k0_mult199 v3966).toNat := fun i v3966 k0_hw199 k0_h1 => k0_hw199.1 k0_h1
theorem k0_off199_inb : ∀ (i : grid0.Coords) (v3966 : BitVec 32) (k0_hw199 : k0_chk199 i v3966), ∀ (k0_h1 : k0_cond1 i = 1#1), ∀ a, (k0_off199 v3966) a + S64x128.size a ≤ S64x1000000.size a := fun i v3966 k0_hw199 k0_h1 => k0_hw199.2 k0_h1

def k0_off200 (v3986 : BitVec 32) : Fin 2 → Nat :=
  let c0_i32_2002 : BitVec 32 := 0#32
  let c0_i32_1594 : BitVec 32 := 0#32
  let v3988 : BitVec 1 := Scalar.cmpi .sgt v3986 c0_i32_1594
  let v3989 : BitVec 32 := Scalar.extui v3988
  let c0_i32_1595 : BitVec 32 := 0#32
  let v3990 : BitVec 1 := Scalar.cmpi .slt v3986 c0_i32_1595
  let v3991 : BitVec 32 := Scalar.extui v3990
  let v3992 : BitVec 32 := Scalar.subi v3989 v3991
  let c128_i32_1593 : BitVec 32 := 128#32
  let c0_i32_1596 : BitVec 32 := 0#32
  let v3993 : BitVec 1 := Scalar.cmpi .sgt c128_i32_1593 c0_i32_1596
  let v3994 : BitVec 32 := Scalar.extui v3993
  let c0_i32_1597 : BitVec 32 := 0#32
  let v3995 : BitVec 1 := Scalar.cmpi .slt c128_i32_1593 c0_i32_1597
  let v3996 : BitVec 32 := Scalar.extui v3995
  let v3997 : BitVec 32 := Scalar.subi v3994 v3996
  let v3998 : BitVec 1 := Scalar.cmpi .ne v3992 v3997
  let v3999 : BitVec 32 := Scalar.remsi v3986 c128_i32_1593
  let c0_i32_1598 : BitVec 32 := 0#32
  let v4000 : BitVec 1 := Scalar.cmpi .ne v3999 c0_i32_1598
  let v4001 : BitVec 1 := Scalar.andi v3998 v4000
  let v3987 : BitVec 32 := Scalar.divsi v3986 c128_i32_1593
  let c1_i32_1599 : BitVec 32 := 1#32
  let v4002 : BitVec 32 := Scalar.subi v3987 c1_i32_1599
  let v4003 : BitVec 32 := Scalar.select v4001 v4002 v3987
  let c128_i32_1600 : BitVec 32 := 128#32
  let v4004 : BitVec 32 := Scalar.muli v4003 c128_i32_1600
  let v4005 : BitVec 32 := v4004
  ![0, v4005.toNat]

def k0_chk200 (i : grid0.Coords) (v3986 : BitVec 32) : Prop :=
  (∀ (k0_h1 : k0_cond1 i = 1#1), 128 ∣ (k0_mult200 v3986).toNat) ∧
  (∀ (k0_h1 : k0_cond1 i = 1#1), ∀ a, (k0_off200 v3986) a + S64x128.size a ≤ S64x1000000.size a)
theorem k0_mult200_dvd : ∀ (i : grid0.Coords) (v3986 : BitVec 32) (k0_hw200 : k0_chk200 i v3986), ∀ (k0_h1 : k0_cond1 i = 1#1), 128 ∣ (k0_mult200 v3986).toNat := fun i v3986 k0_hw200 k0_h1 => k0_hw200.1 k0_h1
theorem k0_off200_inb : ∀ (i : grid0.Coords) (v3986 : BitVec 32) (k0_hw200 : k0_chk200 i v3986), ∀ (k0_h1 : k0_cond1 i = 1#1), ∀ a, (k0_off200 v3986) a + S64x128.size a ≤ S64x1000000.size a := fun i v3986 k0_hw200 k0_h1 => k0_hw200.2 k0_h1

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off201 (i : grid0.Coords) : Fin 1 → Nat :=
  let arg0 : BitVec 32 := BitVec.ofNat 32 (i 0).val
  let c1_i32 : BitVec 32 := 1#32
  let v10 : BitVec 32 := Scalar.subi arg0 c1_i32
  let c32768_i32 : BitVec 32 := 32768#32
  let v11 : BitVec 32 := Scalar.muli v10 c32768_i32
  let v12 : Index := Scalar.indexCast v11
  ![v12.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S1x25600 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S200 : Shape := ⟨1, ![200]⟩
abbrev S1000000x64 : Shape := ⟨2, ![1000000, 64]⟩
abbrev S1000000 : Shape := ⟨1, ![1000000]⟩
abbrev S_ : Shape := ⟨0, ![]⟩
abbrev S200x1 : Shape := ⟨2, ![200, 1]⟩
abbrev S1 : Shape := ⟨1, ![1]⟩
abbrev S1x1 : Shape := ⟨2, ![1, 1]⟩
abbrev S200x64 : Shape := ⟨2, ![200, 64]⟩
abbrev S64 : Shape := ⟨1, ![64]⟩
abbrev S1x64 : Shape := ⟨2, ![1, 64]⟩
abbrev S64x1000000 : Shape := ⟨2, ![64, 1000000]⟩
abbrev S1x1000000 : Shape := ⟨2, ![1, 1000000]⟩

abbrev nBuf : Space → Nat
  | .hbm => 34
  | .vmem => 0
  | .smem => 0
  | _ => 0

abbrev bufTy : (tb : Table) → Fin (tcTables nBuf tb) → BufTy
  | .hbm, ⟨0, _⟩ => ⟨S200, .i32⟩
  | .hbm, ⟨1, _⟩ => ⟨S1000000x64, .f32⟩
  | .hbm, ⟨2, _⟩ => ⟨S1000000x64, .f32⟩
  | .hbm, ⟨3, _⟩ => ⟨S1000000, .f32⟩
  | .hbm, ⟨4, _⟩ => ⟨S_, .i32⟩
  | .hbm, ⟨5, _⟩ => ⟨S200, .i32⟩
  | .hbm, ⟨6, _⟩ => ⟨S200, .i1⟩
  | .hbm, ⟨7, _⟩ => ⟨S_, .i32⟩
  | .hbm, ⟨8, _⟩ => ⟨S200, .i32⟩
  | .hbm, ⟨9, _⟩ => ⟨S200, .i32⟩
  | .hbm, ⟨10, _⟩ => ⟨S200, .i32⟩
  | .hbm, ⟨11, _⟩ => ⟨S200x1, .i32⟩
  | .hbm, ⟨12, _⟩ => ⟨S1, .i32⟩
  | .hbm, ⟨13, _⟩ => ⟨S_, .i32⟩
  | .hbm, ⟨14, _⟩ => ⟨S200x1, .i32⟩
  | .hbm, ⟨15, _⟩ => ⟨S200x1, .i1⟩
  | .hbm, ⟨16, _⟩ => ⟨S1x1, .i32⟩
  | .hbm, ⟨17, _⟩ => ⟨S200x1, .i32⟩
  | .hbm, ⟨18, _⟩ => ⟨S200x1, .i1⟩
  | .hbm, ⟨19, _⟩ => ⟨S200x1, .i1⟩
  | .hbm, ⟨20, _⟩ => ⟨S_, .i1⟩
  | .hbm, ⟨21, _⟩ => ⟨S200, .i1⟩
  | .hbm, ⟨22, _⟩ => ⟨S200x64, .f32⟩
  | .hbm, ⟨23, _⟩ => ⟨S200x64, .i1⟩
  | .hbm, ⟨24, _⟩ => ⟨S_, .f32⟩
  | .hbm, ⟨25, _⟩ => ⟨S200x64, .f32⟩
  | .hbm, ⟨26, _⟩ => ⟨S200x64, .f32⟩
  | .hbm, ⟨27, _⟩ => ⟨S_, .f32⟩
  | .hbm, ⟨28, _⟩ => ⟨S64, .f32⟩
  | .hbm, ⟨29, _⟩ => ⟨S1x64, .f32⟩
  | .hbm, ⟨30, _⟩ => ⟨S64x1000000, .f32⟩
  | .hbm, ⟨31, _⟩ => ⟨S1x1000000, .f32⟩
  | .hbm, ⟨32, _⟩ => ⟨S1x1000000, .f32⟩
  | .hbm, ⟨33, _⟩ => ⟨S1x1000000, .f32⟩
  | _, _ => ⟨S200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩

abbrev nD : Nat := 1
abbrev τ : Topo := Topo.v7x

variable {F : FTy → Type} [FloatOps F]
-- ==== Proof.Loops.lean ====
/- The kernel's body, rolled up. The printed body at the first grid point is a straight line: 200 reads of the word
   table, 200 copies started, 200 waits. Here the three runs are written as recursions, so that each has one proof by
   induction, and the rolled form is shown to be the printed one. -/
module

public import proofs.«01_k».proof.Proof.Gen.Kernel
public import Idealize.ShloMosaic.Lib.Pipeline.Regions

@[expose] public section

noncomputable section

namespace Cert.Kernel

open Idealize.ShloMosaic Idealize.SL.Sem

variable {F : FTy → Type} [FloatOps F]
variable [Facts]
open Facts₀ Facts

/-- Programs of the kernel's body. -/
abbrev BodyProg (F : FTy → Type) [FloatOps F] (α : Type) := Prog (TpuEff nD τ sig (Elt F) Λ₀ .tc) α

/-- A word of the table together with the evidence that its block of 128 columns lies inside the embedding table. -/
abbrev CheckedWord (i : grid0.Coords) := {v : BitVec 32 // k0_chk1 i v}

/-- One entry of a table of 200 words is inside it. -/
theorem word_inb (j : Nat) (hj : j < 200) : ∀ a, (![j] : Fin 1 → Nat) a + S1.size a ≤ S200.size a := by
  intro a; fin_cases a; show j + 1 ≤ 200; omega

/-- The 128 columns of the gathered block that word `j` fills are inside it. -/
theorem piece_inb (j : Nat) (hj : j < 200) :
    ∀ a, (![0, 128 * j] : Fin 2 → Nat) a + S64x128.size a ≤ S64x25600.size a := by
  intro a; fin_cases a
  · show 0 + 64 ≤ 64; omega
  · show 128 * j + 128 ≤ 25600; omega

/-- Read `m` words of the table from entry `j` on, each checked, and go on with them. -/
def readWords (i : grid0.Coords) (arg1 : Memref sig .tc .smem S200 .i32) {α : Type} (m : Nat) :
    (j : Nat) → j + m = 200 → ((ws : List (CheckedWord i)) → ws.length = m → BodyProg F α) → BodyProg F α :=
  Nat.rec (motive := fun m => (j : Nat) → j + m = 200 →
      ((ws : List (CheckedWord i)) → ws.length = m → BodyProg F α) → BodyProg F α)
    (fun _ _ K => K [] rfl)
    (fun m ih j h K =>
      smemLoad arg1 (Rect.unit (s := S200) ![j] S1.size (word_inb j (by omega))) numel1_S1 rfl >>= fun v =>
      Prog.lift (TpuEff.assume (k0_chk1 i v) (k0_chk1.dec i v)) >>= fun hw =>
      ih (j + 1) (by omega) fun ws hl => K (⟨v, hw.down⟩ :: ws) (congrArg Nat.succ hl)) m

/-- The block of 128 columns of the embedding table that holds column `w`. -/
abbrev srcBlock (i : grid0.Coords) (h1 : k0_cond1 i = 1#1) (arg3 : Memref sig .tc .hbm S64x1000000 .f32)
    (w : CheckedWord i) : Memref sig .tc .hbm S64x128 .f32 :=
  arg3.slice (Rect.unit (s := S64x1000000) (k0_off1 w.1) S64x128.size (k0_off1_inb i w.1 w.2 h1)) (fun _ => rfl)

/-- The 128 columns of the gathered block that word `j` fills. -/
abbrev dstPiece (arg7 : Memref sig .tc .vmem S64x25600 .f32) (j : Nat) (hj : j < 200) :
    Memref sig .tc .vmem S64x128 .f32 :=
  arg7.slice (Rect.unit (s := S64x25600) ![0, 128 * j] S64x128.size (piece_inb j hj)) (fun _ => rfl)

/-- Start the copies of the words `ws`, the first of them into piece `j`. -/
def startCopies (i : grid0.Coords) (h1 : k0_cond1 i = 1#1) (arg3 : Memref sig .tc .hbm S64x1000000 .f32)
    (arg7 : Memref sig .tc .vmem S64x25600 .f32) (arg10 : DmaSems sig S_) {α : Type} (ws : List (CheckedWord i)) :
    (j : Nat) → (∀ n, n < ws.length → j + n < 200) → BodyProg F α → BodyProg F α :=
  List.rec (motive := fun ws => (j : Nat) → (∀ n, n < ws.length → j + n < 200) → BodyProg F α → BodyProg F α)
    (fun _ _ K => K)
    (fun w ws ih j h K =>
      Prog.lift (.enqueueDma (srcBlock i h1 arg3 w) (.here (dstPiece arg7 j (h 0 (Nat.succ_pos _)))) (.dma arg10.sem)
        (View.wordExact_bits rfl) (View.wordExact_bits rfl) ⟨Or.inl rfl, trivial⟩) >>= fun _ =>
      ih (j + 1) (fun n hn => by have := h (n + 1) (Nat.succ_lt_succ hn); omega) K) ws

/-- Wait once for each of the words `ws`, the first of them for piece `j`. -/
def waitCopies (i : grid0.Coords) (h1 : k0_cond1 i = 1#1) (arg3 : Memref sig .tc .hbm S64x1000000 .f32)
    (arg7 : Memref sig .tc .vmem S64x25600 .f32) (arg10 : DmaSems sig S_) {α : Type} (ws : List (CheckedWord i)) :
    (j : Nat) → (∀ n, n < ws.length → j + n < 200) → BodyProg F α → BodyProg F α :=
  List.rec (motive := fun ws => (j : Nat) → (∀ n, n < ws.length → j + n < 200) → BodyProg F α → BodyProg F α)
    (fun _ _ K => K)
    (fun w ws ih j h K =>
      Prog.lift (.waitDma2 arg10.sem (srcBlock i h1 arg3 w) (dstPiece arg7 j (h 0 (Nat.succ_pos _)))
        (View.wordExact_bits rfl) (View.wordExact_bits rfl)) >>= fun _ =>
      ih (j + 1) (fun n hn => by have := h (n + 1) (Nat.succ_lt_succ hn); omega) K) ws

/-- What the first grid point does once the gathered block is filled: multiply, keep the sum, wait for the bias. -/
def firstTail (arg2 : Memref sig .tc .vmem S1x25600 .f32) (arg5 : Memref sig .tc .hbm S1015808 .f32)
    (harg5 : arg5.IsWhole) (arg7 : Memref sig .tc .vmem S64x25600 .f32) (arg8 : Memref sig .tc .vmem S1x64 .f32)
    (arg9 : Memref sig .tc .vmem S1015808 .f32) (harg9 : arg9.IsWhole) (arg11 : DmaSems sig S_) : BodyProg F PUnit := do
  let u : Vec F S1x25600 .f32 ← Prog.lift (.load arg2 (Rect.unit (s := S1x25600) ![0, 0] S1x25600.size
    inb_S1x25600_S1x25600_0_0).toLoadRect (View.loadsAt_vmem h_S1x25600))
  let g : Vec F S64x25600 .f32 ← Prog.lift (.load arg7 (Rect.unit (s := S64x25600) ![0, 0] S64x25600.size
    inb_S64x25600_S64x25600_0_0).toLoadRect (View.loadsAt_vmem h_S64x25600))
  let _ : Vec F S1x64 .f32 ← Prog.lift (.load arg8 (Rect.unit (s := S1x64) ![0, 0] S1x64.size
    inb_S1x64_S1x64_0_0).toLoadRect (View.loadsAt_vmem h_S1x64))
  Prog.lift (.store arg8 (Rect.unit (s := S1x64) ![0, 0] S1x64.size inb_S1x64_S1x64_0_0)
    (shapeCast S1x64 (matmul dot_S1x25600_S64x25600_S1x64_1_1_0_0_n_n none
      (shapeCast S1x25600 u shapeCasts_S1x25600_S1x25600 : FVec F S1x25600 .f32) (g : FVec F S64x25600 .f32)
      (constant S1x64 .f32 0x00000000#32) : FVec F S1x64 .f32) shapeCasts_S1x64_S1x64)
    Finset.univ (View.stores_vmem_bits_univ h_S1x64 rfl) (.inl rfl))
  Prog.lift (.waitDma2 arg11.sem arg5 arg9 harg5.wordExact harg9.wordExact)

/-- What the first grid point does with the words it has read: gather their columns, and the rest. -/
def withWords (i : grid0.Coords) (h1 : k0_cond1 i = 1#1)
    (arg2 : Memref sig .tc .vmem S1x25600 .f32) (arg3 : Memref sig .tc .hbm S64x1000000 .f32)
    (arg5 : Memref sig .tc .hbm S1015808 .f32) (harg5 : arg5.IsWhole) (arg7 : Memref sig .tc .vmem S64x25600 .f32)
    (arg8 : Memref sig .tc .vmem S1x64 .f32) (arg9 : Memref sig .tc .vmem S1015808 .f32) (harg9 : arg9.IsWhole)
    (arg10 : DmaSems sig S_) (arg11 : DmaSems sig S_) (ws : List (CheckedWord i)) (hl : ws.length = 200) :
    BodyProg F PUnit :=
  startCopies i h1 arg3 arg7 arg10 ws 0 (fun n hn => by omega) <|
  waitCopies i h1 arg3 arg7 arg10 ws 0 (fun n hn => by omega) <|
  firstTail arg2 arg5 harg5 arg7 arg8 arg9 harg9 arg11

/-- The body at the first grid point. -/
def firstPoint (i : grid0.Coords) (h1 : k0_cond1 i = 1#1) (arg1 : Memref sig .tc .smem S200 .i32)
    (arg2 : Memref sig .tc .vmem S1x25600 .f32) (arg3 : Memref sig .tc .hbm S64x1000000 .f32)
    (arg5 : Memref sig .tc .hbm S1015808 .f32) (harg5 : arg5.IsWhole) (arg7 : Memref sig .tc .vmem S64x25600 .f32)
    (arg8 : Memref sig .tc .vmem S1x64 .f32) (arg9 : Memref sig .tc .vmem S1015808 .f32) (harg9 : arg9.IsWhole)
    (arg10 : DmaSems sig S_) (arg11 : DmaSems sig S_) : BodyProg F PUnit :=
  Prog.lift (.enqueueDma arg5 (.here arg9) (.dma arg11.sem) harg5.wordExact harg9.wordExact ⟨Or.inl rfl, trivial⟩)
    >>= fun _ =>
  readWords i arg1 200 0 rfl (withWords i h1 arg2 arg3 arg5 harg5 arg7 arg8 arg9 harg9 arg10 arg11)

/-- The body at a later grid point: one block of the result. -/
def laterPoint (i : grid0.Coords) (h2 : k0_cond2 i = 1#1) (arg4 : Memref sig .tc .vmem S64x32768 .f32)
    (arg6 : Memref sig .tc .vmem S1x32768 .f32) (arg8 : Memref sig .tc .vmem S1x64 .f32)
    (arg9 : Memref sig .tc .vmem S1015808 .f32) : BodyProg F PUnit := do
  let s : Vec F S1x64 .f32 ← Prog.lift (.load arg8 (Rect.unit (s := S1x64) ![0, 0] S1x64.size
    inb_S1x64_S1x64_0_0).toLoadRect (View.loadsAt_vmem h_S1x64))
  let w : Vec F S64x32768 .f32 ← Prog.lift (.load arg4 (Rect.unit (s := S64x32768) ![0, 0] S64x32768.size
    inb_S64x32768_S64x32768_0_0).toLoadRect (View.loadsAt_vmem h_S64x32768))
  let b : Vec F S32768 .f32 ← Prog.lift (.load arg9 (Rect.unit (s := S1015808) (k0_off201 i) S32768.size
    (k0_off201_inb i h2)).toLoadRect (View.loadsAt_vmem h_S32768))
  let _ : Vec F S1x32768 .f32 ← Prog.lift (.load arg6 (Rect.unit (s := S1x32768) ![0, 0] S1x32768.size
    inb_S1x32768_S1x32768_0_0).toLoadRect (View.loadsAt_vmem h_S1x32768))
  Prog.lift (.store arg6 (Rect.unit (s := S1x32768) ![0, 0] S1x32768.size inb_S1x32768_S1x32768_0_0)
    (addf (matmul dot_S1x64_S64x32768_S1x32768_1_0_0_1_n_n none (s : FVec F S1x64 .f32)
      (shapeCast S64x32768 w shapeCasts_S64x32768_S64x32768 : FVec F S64x32768 .f32)
      (constant S1x32768 .f32 0x00000000#32) : FVec F S1x32768 .f32)
      (shapeCast S1x32768 b shapeCasts_S32768_S1x32768 : FVec F S1x32768 .f32))
    Finset.univ (View.stores_vmem_bits_univ h_S1x32768 rfl) (.inl rfl))

/-- The body, rolled up. -/
def rolledBody (i : grid0.Coords) (arg1 : Memref sig .tc .smem S200 .i32) (harg1 : arg1.IsWhole) (arg2 : Memref sig .tc .vmem S1x25600 .f32) (harg2 : arg2.IsWhole) (arg3 : Memref sig .tc .hbm S64x1000000 .f32) (harg3 : arg3.IsWhole) (arg4 : Memref sig .tc .vmem S64x32768 .f32) (harg4 : arg4.IsWhole) (arg5 : Memref sig .tc .hbm S1015808 .f32) (harg5 : arg5.IsWhole) (arg6 : Memref sig .tc .vmem S1x32768 .f32) (harg6 : arg6.IsWhole) (arg7 : Memref sig .tc .vmem S64x25600 .f32) (harg7 : arg7.IsWhole) (arg8 : Memref sig .tc .vmem S1x64 .f32) (harg8 : arg8.IsWhole) (arg9 : Memref sig .tc .vmem S1015808 .f32) (harg9 : arg9.IsWhole) (arg10 : DmaSems sig S_) (arg11 : DmaSems sig S_) :
    BodyProg F PUnit := do
  if h1 : k0_cond1 i = 1#1 then do
    firstPoint i h1 arg1 arg2 arg3 arg5 harg5 arg7 arg8 arg9 harg9 arg10 arg11
  else do
    pure ⟨⟩
  if h2 : k0_cond2 i = 1#1 then do
    laterPoint i h2 arg4 arg6 arg8 arg9
  else do
    pure ⟨⟩

set_option maxRecDepth 1000000 in
/-- The printed body is the rolled one. -/
theorem body_eq_rolled : cc0__body (F := F) = rolledBody (F := F) := by chain_rfl

end Cert.Kernel

end
-- ==== Proof.Copies.lean ====
/- The three runs of the first grid point — the words read, the copies started, the copies waited for — each by
   induction over the rolled form. The 200 copies complete on one semaphore; nothing touches their sources or their
   destinations between the first start and the last wait, so they are one batch: its deliveries are fixed before the first
   start and all come back at the last wait. -/
module

public import proofs.«01_k».proof.Proof.Loops
public import Idealize.ShloMosaic.Lib.Batch
public import Idealize.ShloMosaic.Lib.Tactic
public import Idealize.ShloMosaic.Lib.Pipeline.Frame

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable [Facts]
open Facts₀ Facts

local notation "𝕄" => MT nD τ sig Unit (Elt F) ℕ (Pipeline.UD sig nD τ) ℕ

/-- Where the counters of the copies live in the ghost state. -/
abbrev EC : UEmb Counters (MT nD τ sig Unit (Elt F) ℕ (Pipeline.UD sig nD τ) ℕ) :=
  countersEmb (U := Pipeline.UD sig nD τ)

/-- The words `f j`, `f (j + 1)`, …, `m` of them. -/
abbrev wordsFrom {i : grid0.Coords} (f : Nat → CheckedWord i) (j m : Nat) : List (CheckedWord i) :=
  (List.range' j m).map f

/-- Entry `j` of the word table, as the body reads it. -/
abbrev tableWord (arg1 : Memref sig .tc .smem S200 .i32) (c : Dev nD) (T : Buf (Elt F) (arg1.view.loc (c : Thread nD τ)))
    (j : Nat) (hj : j < 200) : BitVec 32 :=
  (arg1.access (Rect.unit (s := S200) ![j] S1.size (word_inb j hj))).read (Elt F) T
    (Shape.Idx.first (s := (Rect.unit (s := S200) ![j] S1.size (word_inb j hj)).shape) (numel1_S1.symm ▸ Nat.one_pos))

/-- One read of a checked word, and the rest. -/
theorem readWords_succ (i : grid0.Coords) (arg1 : Memref sig .tc .smem S200 .i32) {α : Type} (m j : Nat) (h : j + (m + 1) = 200)
    (K : (ws : List (CheckedWord i)) → ws.length = m + 1 → BodyProg F α) :
    readWords i arg1 (m + 1) j h K
      = smemLoadElt (Val := Elt F) arg1 (Rect.unit (s := S200) ![j] S1.size (word_inb j (by omega))) (View.loads_smem_one rfl numel1_S1)
          (Shape.Idx.first (numel1_S1.symm ▸ Nat.one_pos)) fun (v : BitVec 32) =>
        (.op (TpuEff.assume (k0_chk1 i v) (k0_chk1.dec i v)) fun hw =>
        readWords i arg1 m (j + 1) (by omega) fun ws hl => K (⟨v, hw.down⟩ :: ws) (congrArg Nat.succ hl) : BodyProg F α) := rfl

/-- One copy started, and the rest. -/
theorem startCopies_cons (i : grid0.Coords) (h1 : k0_cond1 i = 1#1) (arg3 : Memref sig .tc .hbm S64x1000000 .f32)
    (arg7 : Memref sig .tc .vmem S64x25600 .f32) (arg10 : DmaSems sig S_) {α : Type} (w : CheckedWord i)
    (ws : List (CheckedWord i)) (j : Nat) (h : ∀ n, n < (w :: ws).length → j + n < 200) (K : BodyProg F α) :
    startCopies i h1 arg3 arg7 arg10 (w :: ws) j h K
      = .op (.enqueueDma (srcBlock i h1 arg3 w) (.here (dstPiece arg7 j (h 0 (Nat.succ_pos _)))) (.dma arg10.sem)
          (View.wordExact_bits rfl) (View.wordExact_bits rfl) ⟨Or.inl rfl, trivial⟩) fun _ =>
        startCopies i h1 arg3 arg7 arg10 ws (j + 1)
          (fun n hn => by have := h (n + 1) (Nat.succ_lt_succ hn); omega) K := rfl

/-- One wait, and the rest. -/
theorem waitCopies_cons (i : grid0.Coords) (h1 : k0_cond1 i = 1#1) (arg3 : Memref sig .tc .hbm S64x1000000 .f32)
    (arg7 : Memref sig .tc .vmem S64x25600 .f32) (arg10 : DmaSems sig S_) {α : Type} (w : CheckedWord i)
    (ws : List (CheckedWord i)) (j : Nat) (h : ∀ n, n < (w :: ws).length → j + n < 200) (K : BodyProg F α) :
    waitCopies i h1 arg3 arg7 arg10 (w :: ws) j h K
      = .op (.waitDma2 arg10.sem (srcBlock i h1 arg3 w) (dstPiece arg7 j (h 0 (Nat.succ_pos _)))
          (View.wordExact_bits rfl) (View.wordExact_bits rfl)) fun _ =>
        waitCopies i h1 arg3 arg7 arg10 ws (j + 1)
          (fun n hn => by have := h (n + 1) (Nat.succ_lt_succ hn); omega) K := rfl

/-- Reading `m` words of the table from entry `j` on: the table is lent and comes back. -/
theorem wp_readWords (c : Dev nD) (i : grid0.Coords) (arg1 : Memref sig .tc .smem S200 .i32) {α : Type}
    (Q : α → sProp 𝕄) (q : PosShare TreeShare) (T : Buf (Elt F) (arg1.view.loc (c : Thread nD τ)))
    (f : Nat → CheckedWord i) (hf : ∀ j (hj : j < 200), (f j).1 = tableWord arg1 c T j hj) (m : Nat) :
    ∀ (j : Nat) (h : j + m = 200) (K : (ws : List (CheckedWord i)) → ws.length = m → BodyProg F α),
      (arg1.view.loc (c : Thread nD τ) ↦{q} T : sProp 𝕄)
        ⊢ iprop(((arg1.view.loc (c : Thread nD τ) ↦{q} T)
            -∗ wp frame (wpE (defs₀ (F := F)) Variants.none (c : Thread nD τ) none) Set.univ
                (K (wordsFrom f j m) (by simp)) Q)
          -∗ wp frame (wpE (defs₀ (F := F)) Variants.none (c : Thread nD τ) none) Set.univ
                (readWords i arg1 m j h K) Q) := by
  induction m with
  | zero =>
    intro j h K
    iintro HT Hk
    iapply Hk
    iexact HT
  | succ m ih =>
    intro j h K
    have hj : j < 200 := by omega
    have hc : k0_chk1 i (tableWord arg1 c T j hj) := hf j hj ▸ (f j).2
    rw [readWords_succ]
    iintro HT Hk
    iapply (wp_smemLoadElt Variants.none (c : Thread nD τ) none Set.univ (m := arg1)
      (r := Rect.unit (s := S200) ![j] S1.size (word_inb j hj)) (hw := View.loads_smem_one rfl numel1_S1)
      (x := Shape.Idx.first (numel1_S1.symm ▸ Nat.one_pos)) (S := Finset.univ) (Finset.subset_univ _)) $$ HT
    iintro HT
    iapply (wp_assume Variants.none (c : Thread nD τ) none Set.univ hc)
    have e : (⟨tableWord arg1 c T j hj, hc⟩ : CheckedWord i) = f j := Subtype.ext (hf j hj).symm
    iapply (ih (j + 1) ((Nat.add_right_comm j 1 m).trans h) fun ws hl => K (⟨tableWord arg1 c T j hj, hc⟩ :: ws) (congrArg Nat.succ hl)) $$ HT
    iintro HT
    ihave H := Hk $$ HT
    rw [show K (⟨tableWord arg1 c T j hj, hc⟩ :: wordsFrom f (j + 1) m) (by simp) = K (wordsFrom f j (m + 1)) (by simp) from by
      simp only [e]; rfl]
    iexact H

section Batch

variable (c : Dev nD) (i : grid0.Coords) (h1 : k0_cond1 i = 1#1) (arg3 : Memref sig .tc .hbm S64x1000000 .f32)
  (arg7 : Memref sig .tc .vmem S64x25600 .f32) (arg10 : DmaSems sig S_)
  (f : Nat → CheckedWord i)
  (fe : Buf (Elt F) (arg3.view.loc (c : Thread nD τ))) (fc : Buf (Elt F) (arg7.view.loc (c : Thread nD τ)))

/-- What copy `t` takes: a read share of its source block, and its piece of the destination. -/
def taken (t : Fin 200) : sProp 𝕄 :=
  iprop((arg3.view.loc (c : Thread nD τ) ↦[(srcBlock i h1 arg3 (f t)).view.set]{Transfers.shareTok fullShare 200 t} fe)
    ∗ (arg7.view.loc (c : Thread nD τ) ↦[(dstPiece arg7 t t.2).view.set]{fullShare} fc))

/-- What copy `t` delivers: its piece with the source block written into it, and the read share back. -/
def delivered (t : Fin 200) : sProp 𝕄 :=
  iprop((arg7.view.loc (c : Thread nD τ) ↦[(dstPiece arg7 t t.2).view.set]{fullShare}
        ((dstPiece arg7 t t.2).view.write (Elt F) fc ((srcBlock i h1 arg3 (f t)).view.read (Elt F) fe) Finset.univ))
    ∗ (arg3.view.loc (c : Thread nD τ) ↦[(srcBlock i h1 arg3 (f t)).view.set]{Transfers.shareTok fullShare 200 t} fe))

instance delivered_storable (t : Fin 200) : Storable (upEmb : UEmb _ 𝕄) (delivered c i h1 arg3 arg7 f fe fc t) := by
  unfold delivered; infer_instance

/-- One copy's credit. -/
abbrev copyUnits : Nat := (dstPiece arg7 0 (by decide)).view.dmaCredit

/-- Starting the copies from piece `j` on, each against its delivery. -/
theorem wp_startCopies {α : Type} (Q : α → sProp 𝕄) (K : BodyProg F α) (N : Nat)
    (hN : ∀ j (hj : j < 200), (dstPiece arg7 j hj).view.amount (SemLoc.dma arg10.sem) = N) (m : Nat) :
    ∀ (j : Nat) (h : j + m = 200) (h' : ∀ n, n < (wordsFrom f j m).length → j + n < 200),
      iprop(bigSep (Transfers.pending j) (taken c i h1 arg3 arg7 f fe fc)
          ∗ Transfers.Batch EC (c : Thread nD τ) (.dma arg10.sem) () N (delivered c i h1 arg3 arg7 f fe fc) j 0)
        ⊢ iprop((Transfers.Batch EC (c : Thread nD τ) (.dma arg10.sem) () N (delivered c i h1 arg3 arg7 f fe fc) 200 0
              -∗ wp frame (wpE (defs₀ (F := F)) Variants.none (c : Thread nD τ) none) Set.univ K Q)
          -∗ wp frame (wpE (defs₀ (F := F)) Variants.none (c : Thread nD τ) none) Set.univ
                (startCopies i h1 arg3 arg7 arg10 (wordsFrom f j m) j h' K) Q) := by
  induction m with
  | zero =>
    intro j h h'
    obtain rfl : j = 200 := by omega
    iintro ⟨-, HB⟩ Hk
    iapply Hk
    iexact HB
  | succ m ih =>
    intro j h h'
    have hj : j < 200 := by omega
    rw [Transfers.bigSep_pending_step _ j hj]
    unfold taken
    rw [show startCopies i h1 arg3 arg7 arg10 (wordsFrom f j (m + 1)) j h' K = _ from
      startCopies_cons i h1 arg3 arg7 arg10 (f j) (wordsFrom f (j + 1) m) j h' K]
    iintro ⟨⟨⟨Hs, Hd⟩, Hrest⟩, HB⟩ Hk
    iapply (Transfers.wp_dmaBatch EC Variants.none (c : Thread nD τ) none (src := srcBlock i h1 arg3 (f j))
      (dst := dstPiece arg7 j hj) () N (hN j hj) subset_rfl (D := delivered c i h1 arg3 arg7 f fe fc) (j := j) (u := 0) hj
      (Nat.zero_le _) (by unfold delivered; exact .rfl)) $$ [Hs Hd HB]
    · isplitl [Hs]; · iexact Hs
      isplitl [Hd]; · iexact Hd
      iexact HB
    iintro HB
    iapply (ih (j + 1) (by omega) (fun n hn => by have := h' (n + 1) (by simpa using hn); omega)) $$ [Hrest HB]
    · isplitl [Hrest]; · unfold taken; iexact Hrest
      iexact HB
    iexact Hk

/-- Waiting for the copies from piece `j` on, `u` units already taken: the last wait brings every delivery and the
    semaphore back at zero. -/
theorem wp_waitCopies {α : Type} (Q : α → sProp 𝕄) (K : BodyProg F α) (N : Nat) (hN0 : 0 < N)
    (hN : ∀ j (hj : j < 200), (dstPiece arg7 j hj).view.dmaCredit = N) (m : Nat) :
    ∀ (j : Nat) (h : j + (m + 1) = 200) (h' : ∀ n, n < (wordsFrom f j (m + 1)).length → j + n < 200) (W : Waits sig Unit),
      iprop(Transfers.Batch EC (c : Thread nD τ) (.dma arg10.sem) () N (delivered c i h1 arg3 arg7 f fe fc) 200 (N * j)
          ∗ owes (c : Thread nD τ) 0 W)
        ⊢ iprop((iprop(bigSep Finset.univ (delivered c i h1 arg3 arg7 f fe fc) ∗ semVal ((c : Thread nD τ), .dma arg10.sem) 0
                ∗ (∃ W', owes (c : Thread nD τ) 0 W'))
              -∗ wp frame (wpE (defs₀ (F := F)) Variants.none (c : Thread nD τ) none) Set.univ K Q)
          -∗ wp frame (wpE (defs₀ (F := F)) Variants.none (c : Thread nD τ) none) Set.univ
                (waitCopies i h1 arg3 arg7 arg10 (wordsFrom f j (m + 1)) j h' K) Q) := by
  induction m with
  | zero =>
    intro j h h' W
    have hj : j < 200 := by omega
    rw [show waitCopies i h1 arg3 arg7 arg10 (wordsFrom f j (0 + 1)) j h' K = _ from
      waitCopies_cons i h1 arg3 arg7 arg10 (f j) [] j h' K]
    iintro ⟨HB, HO⟩ Hk
    iapply (Transfers.wp_waitBatchLast EC Variants.none (c : Thread nD τ) none (srcw := srcBlock i h1 arg3 (f j))
      (dstw := dstPiece arg7 j hj) () (hN j hj) hN0 (D := delivered c i h1 arg3 arg7 f fe fc) (u := N * j)
      (by rw [← Nat.mul_succ]; congr 1)) $$ [HB HO]
    · isplitl [HB] <;> iassumption
    iintro ⟨HD, Hv, HO⟩
    iapply Hk
    isplitl [HD]; · iexact HD
    isplitl [Hv]; · iexact Hv
    iexists _; iexact HO
  | succ m ih =>
    intro j h h' W
    have hj : j < 200 := by omega
    rw [show waitCopies i h1 arg3 arg7 arg10 (wordsFrom f j (m + 1 + 1)) j h' K = _ from
      waitCopies_cons i h1 arg3 arg7 arg10 (f j) (wordsFrom f (j + 1) (m + 1)) j h' K]
    iintro ⟨HB, HO⟩ Hk
    iapply (Transfers.wp_waitBatch EC Variants.none (c : Thread nD τ) none (srcw := srcBlock i h1 arg3 (f j))
      (dstw := dstPiece arg7 j hj) () (hN j hj) (D := delivered c i h1 arg3 arg7 f fe fc) (u := N * j)
      (by rw [← Nat.mul_succ]; exact Nat.mul_lt_mul_of_pos_left (by omega) hN0)) $$ [HB HO]
    · isplitl [HB] <;> iassumption
    iintro ⟨HB, HO⟩
    iapply (ih (j + 1) (by omega) (fun n hn => by have := h' (n + 1) (by simpa using hn); omega)) $$ [HB HO]
    · isplitl [HB]
      · rw [Nat.mul_succ]; iexact HB
      iexact HO
    iexact Hk

end Batch

end Cert.Kernel

end
-- ==== Proof.Pieces.lean ====
/- Dealing the embedding table and the gathered block out to the 200 copies, and putting them together again. -/
module

public import proofs.«01_k».proof.Proof.Copies

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable [Facts]
open Facts₀ Facts

local notation "𝕄" => MT nD τ sig Unit (Elt F) ℕ (Pipeline.UD sig nD τ) ℕ

variable (c : Dev nD) (i : grid0.Coords) (h1 : k0_cond1 i = 1#1) (arg3 : Memref sig .tc .hbm S64x1000000 .f32)
  (arg7 : Memref sig .tc .vmem S64x25600 .f32) (f : Nat → CheckedWord i)
  (fe : Buf (Elt F) (arg3.view.loc (c : Thread nD τ))) (fc g : Buf (Elt F) (arg7.view.loc (c : Thread nD τ)))

/-- A block `g` gathers the words' columns: read through piece `t` it shows the block of the table that holds column
    `f t`. -/
def Gathered : Prop :=
  ∀ t : Fin 200, (dstPiece arg7 t t.2).view.read (Elt F) g = (srcBlock i h1 arg3 (f t)).view.read (Elt F) fe

/-- The elements of piece `t`. -/
abbrev pieceSet (t : Fin 200) : Finset (Idx (arg7.view.loc (c : Thread nD τ))) := (dstPiece arg7 t t.2).view.set

/-- The elements of the block that word `t` names. -/
abbrev blockSet (t : Fin 200) : Finset (Idx (arg3.view.loc (c : Thread nD τ))) := (srcBlock i h1 arg3 (f t)).view.set

/-- Two pieces have no element in common. -/
theorem pieceSet_disjoint (t t' : Fin 200) (h : t ≠ t') :
    Disjoint (pieceSet c arg7 t) (pieceSet c arg7 t') := by
  have hv : t.val ≠ t'.val := fun e => h (Fin.ext e)
  have hs (j : Nat) (hj : j < 200) : (dstPiece arg7 j hj).view.set
      = (Rect.unit (s := S64x25600) ![0, 128 * j] S64x128.size (piece_inb j hj)).set.map arg7.view.emb :=
    View.set_slice arg7.view _
  unfold pieceSet
  rw [hs, hs, Finset.disjoint_map]
  refine Rect.unit_disjoint 1 ?_
  show 128 * t.val + 128 ≤ 128 * t'.val ∨ 128 * t'.val + 128 ≤ 128 * t.val
  omega

/-- What stays behind while the copies are under way. -/
def kept : sProp 𝕄 :=
  iprop((arg3.view.loc (c : Thread nD τ) ↦{Transfers.shareDrop fullShare 200} fe)
    ∗ (bigSep Finset.univ fun t : Fin 200 => arg3.view.loc (c : Thread nD τ)
        ↦[Finset.univ \ blockSet c i h1 arg3 f t]{Transfers.shareTok fullShare 200 t} fe)
    ∗ (arg7.view.loc (c : Thread nD τ) ↦[Finset.univ \ Finset.univ.biUnion (pieceSet c arg7)]{fullShare} fc))

/-- Dealing out. -/
theorem taken_split :
    iprop((arg3.view.loc (c : Thread nD τ) ↦{fullShare} fe) ∗ (arg7.view.loc (c : Thread nD τ) ↦{fullShare} fc))
      ⊢ (iprop(bigSep Finset.univ (taken c i h1 arg3 arg7 f fe fc) ∗ kept c i h1 arg3 arg7 f fe fc) : sProp 𝕄) := by
  have hsrc : (bigSep Finset.univ fun t : Fin 200 => (arg3.view.loc (c : Thread nD τ)
        ↦{Transfers.shareTok fullShare 200 t} fe : sProp 𝕄))
      ⊢ iprop((bigSep Finset.univ fun t : Fin 200 => (arg3.view.loc (c : Thread nD τ)
            ↦[blockSet c i h1 arg3 f t]{Transfers.shareTok fullShare 200 t} fe : sProp 𝕄))
          ∗ (bigSep Finset.univ fun t : Fin 200 => (arg3.view.loc (c : Thread nD τ)
            ↦[Finset.univ \ blockSet c i h1 arg3 f t]{Transfers.shareTok fullShare 200 t} fe : sProp 𝕄))) := by
    rw [← bigSep_sep']
    exact bigSep_mono fun t _ => (pointsTo_split_subset (Finset.subset_univ _)).1
  unfold taken kept
  rw [bigSep_sep']
  iintro ⟨He, Hc⟩
  ihave He := (Transfers.pointsTo_toks_split fullShare 200) $$ He
  icases He with ⟨Hd, Ht⟩
  ihave Ht := hsrc $$ Ht
  icases Ht with ⟨Hb, Hr⟩
  ihave Hc := (pointsTo_split_subset (Finset.subset_univ (Finset.univ.biUnion (pieceSet c arg7)))).1 $$ Hc
  icases Hc with ⟨Hp, Ho⟩
  ihave Hp := (Entails.of_eq (pointsTo_biUnion Finset.univ (pieceSet c arg7)
    fun t _ t' _ h => pieceSet_disjoint c arg7 t t' h)) $$ Hp
  isplitl [Hb Hp]
  · isplitl [Hb]
    · iexact Hb
    · iexact Hp
  · isplitl [Hd]
    · iexact Hd
    · isplitl [Hr]
      · iexact Hr
      · iexact Ho

/-- Putting together: the table is whole again, and the block is one that gathers the words' columns. -/
theorem delivered_join :
    iprop(bigSep Finset.univ (delivered c i h1 arg3 arg7 f fe fc) ∗ kept c i h1 arg3 arg7 f fe fc)
      ⊢ (iprop((arg3.view.loc (c : Thread nD τ) ↦{fullShare} fe)
          ∗ ∃ g : Buf (Elt F) (arg7.view.loc (c : Thread nD τ)), ⌜Gathered c i h1 arg3 arg7 f fe g⌝
              ∗ (arg7.view.loc (c : Thread nD τ) ↦{fullShare} g)) : sProp 𝕄) := by
  have hsrc : iprop((bigSep Finset.univ fun t : Fin 200 => (arg3.view.loc (c : Thread nD τ)
            ↦[blockSet c i h1 arg3 f t]{Transfers.shareTok fullShare 200 t} fe : sProp 𝕄))
          ∗ (bigSep Finset.univ fun t : Fin 200 => (arg3.view.loc (c : Thread nD τ)
            ↦[Finset.univ \ blockSet c i h1 arg3 f t]{Transfers.shareTok fullShare 200 t} fe : sProp 𝕄)))
      ⊢ (bigSep Finset.univ fun t : Fin 200 => (arg3.view.loc (c : Thread nD τ)
        ↦{Transfers.shareTok fullShare 200 t} fe : sProp 𝕄)) := by
    rw [← bigSep_sep']
    exact bigSep_mono fun t _ => (pointsTo_split_subset (Finset.subset_univ _)).2
  unfold delivered kept
  rw [bigSep_sep']
  iintro ⟨⟨Hp, Hb⟩, Hd, Hr, Ho⟩
  ihave Ht := hsrc $$ [Hb Hr]
  · isplitl [Hb]
    · iexact Hb
    · iexact Hr
  ihave He := (Transfers.pointsTo_toks_join fullShare 200) $$ [Hd Ht]
  · isplitl [Hd]
    · iexact Hd
    · iexact Ht
  ihave Hp := (pointsTo_biUnion_join Finset.univ (pieceSet c arg7)
    (fun t => (dstPiece arg7 t t.2).view.write (Elt F) fc ((srcBlock i h1 arg3 (f t)).view.read (Elt F) fe) Finset.univ)
    fc fun t _ t' _ h => pieceSet_disjoint c arg7 t t' h) $$ Hp
  icases Hp with ⟨%g, %hg, Hp⟩
  ihave Hc := (pointsTo_join_subset (Finset.subset_univ (Finset.univ.biUnion (pieceSet c arg7)))) $$ [Hp Ho]
  · isplitl [Hp]
    · iexact Hp
    · iexact Ho
  isplitl [He]
  · iexact He
  · iexists ((Finset.univ.biUnion (pieceSet c arg7)).piecewise g fc)
    isplitr
    · ipureintro
      intro t
      funext x
      have hm : (dstPiece arg7 t t.2).view.emb x ∈ pieceSet c arg7 t := Finset.mem_map_of_mem _ (Finset.mem_univ x)
      have hb : (dstPiece arg7 t t.2).view.emb x ∈ Finset.univ.biUnion (pieceSet c arg7) :=
        Finset.mem_biUnion.2 ⟨t, Finset.mem_univ _, hm⟩
      rw [View.read_apply, Finset.piecewise_eq_of_mem _ _ _ hb, hg t (Finset.mem_univ _) _ hm]
      rw [View.write_emb_of_mem _ _ (Finset.mem_univ x)]
      exact cast_cast _ _ _
    · iexact Hc

end Cert.Kernel
-- ==== Proof.FirstPoint.lean ====
/- The body at the first grid point: the bias is copied in, the block of the words' columns is gathered, and the product of the
   word counts with it is kept for the later points. -/
module

public import proofs.«01_k».proof.Proof.Pieces

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable [Facts]
open Facts₀ Facts

local notation "𝕄" => MT nD τ sig Unit (Elt F) ℕ (Pipeline.UD sig nD τ) ℕ

/-! ## Accesses to a whole operand -/

/-- The rectangle that starts at zero and has the array's own extents places every index at itself. -/
theorem full_emb {s : Shape} (off : Fin s.rank → Nat) (h0 : ∀ a, off a = 0) (inb : ∀ a, off a + s.size a ≤ s.size a)
    (x : s.Idx) : (Rect.unit off s.size inb).emb x = x :=
  funext fun a => Fin.ext (by rw [Rect.emb_apply, Rect.off_unit, Rect.stride_unit, h0]; omega)

/-- The offsets of a two-axis access that starts at zero. -/
theorem zeros2 : ∀ a, (![0, 0] : Fin 2 → Nat) a = 0 := by decide

/-- A load through that rectangle reads the whole operand. -/
theorem full_read {sp : Space} {s : Shape} {e : EltTy} (m : Memref sig .tc sp s e) (off : Fin s.rank → Nat)
    (h0 : ∀ a, off a = 0) (inb : ∀ a, off a + s.size a ≤ s.size a) (f : m.view.ty.Contents (Elt F)) :
    (m.access (Rect.unit off s.size inb)).read (Elt F) f = m.view.read (Elt F) f :=
  funext fun x => by
    show m.view.read (Elt F) f ((Rect.unit off s.size inb).emb x) = _
    rw [full_emb off h0 inb x]

/-- A store through that rectangle, read back, is what was stored. -/
theorem full_write {sp : Space} {s : Shape} {e : EltTy} (m : Memref sig .tc sp s e) (off : Fin s.rank → Nat)
    (h0 : ∀ a, off a = 0) (inb : ∀ a, off a + s.size a ≤ s.size a) (f : m.view.ty.Contents (Elt F)) (w : s.Idx → Elt F e) :
    m.view.read (Elt F) ((m.access (Rect.unit off s.size inb)).write (Elt F) f w Finset.univ) = w := by
  rw [← full_read m off h0 inb]
  exact View.read_write_univ _ _

/-! ## The operands that stay where they are -/

abbrev tabM : Memref sig .tc .smem S200 .i32 := Memref.whole main_arg0
abbrev embM : Memref sig .tc .hbm S64x1000000 .f32 := Memref.whole main_v15
abbrev padM : Memref sig .tc .hbm S1015808 .f32 := Memref.whole main_v17
abbrev colsM : Memref sig .tc .vmem S64x25600 .f32 := Memref.whole cc0_scratch0
abbrev sumM : Memref sig .tc .vmem S1x64 .f32 := Memref.whole cc0_scratch1
abbrev biasM : Memref sig .tc .vmem S1015808 .f32 := Memref.whole cc0_scratch2

/-- An operand held whole on core `c`. -/
abbrev held (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The product of the word counts `u` with the gathered columns `g`: one number for each of the 64 coordinates. -/
def countsTimes (u : Vec F S1x25600 .f32) (g : Vec F S64x25600 .f32) : Vec F S1x64 .f32 :=
  shapeCast S1x64 (matmul dot_S1x25600_S64x25600_S1x64_1_1_0_0_n_n none
      (shapeCast S1x25600 u shapeCasts_S1x25600_S1x25600 : FVec F S1x25600 .f32) (g : FVec F S64x25600 .f32)
      (constant S1x64 .f32 0x00000000#32) : FVec F S1x64 .f32) shapeCasts_S1x64_S1x64

/-- What the copy of the bias delivers. -/
def biasIn (c : Dev nD) (fb : Buf (Elt F) (padM.view.loc (c : Thread nD τ)))
    (fd : Buf (Elt F) (biasM.view.loc (c : Thread nD τ))) (_ : Fin 1) : sProp 𝕄 :=
  iprop((biasM.view.loc (c : Thread nD τ) ↦{fullShare}
        (biasM.view.write (Elt F) fd (padM.view.read (Elt F) fb) Finset.univ))
    ∗ (padM.view.loc (c : Thread nD τ) ↦[padM.view.set]{fullShare} fb))

instance biasIn_storable (c : Dev nD) (fb : Buf (Elt F) (padM.view.loc (c : Thread nD τ)))
    (fd : Buf (Elt F) (biasM.view.loc (c : Thread nD τ))) (t : Fin 1) :
    Storable (upEmb : UEmb _ 𝕄) (biasIn c fb fd t) := by
  unfold biasIn; infer_instance

/-- The bias has elements. -/
theorem pad_numel : 0 < S1015808.numel := by decide

/-- The multiplication and the wait for the bias. -/
theorem wp_firstTail (c : Dev nD) (arg2 : Memref sig .tc .vmem S1x25600 .f32) (U : Vec F S1x25600 .f32)
    (g : Buf (Elt F) (colsM.view.loc (c : Thread nD τ))) (fs : Buf (Elt F) (sumM.view.loc (c : Thread nD τ)))
    (fb : Buf (Elt F) (padM.view.loc (c : Thread nD τ))) (fd : Buf (Elt F) (biasM.view.loc (c : Thread nD τ)))
    (W : Waits sig Unit) (Q : PUnit → sProp 𝕄) :
    iprop(owns (c : Thread nD τ) arg2 fullShare U ∗ held c colsM g ∗ held c sumM fs
        ∗ Transfers.Batch EC (c : Thread nD τ) (.dma cc0_scratch4.sem) () biasM.view.dmaCredit (biasIn c fb fd) 1 0
        ∗ owes (c : Thread nD τ) 0 W)
      ⊢ iprop((iprop(owns (c : Thread nD τ) arg2 fullShare U ∗ held c colsM g ∗ held c sumM (countsTimes U g)
            ∗ held c padM fb ∗ held c biasM fb ∗ semVal ((c : Thread nD τ), .dma cc0_scratch4.sem) 0
            ∗ (∃ W', owes (c : Thread nD τ) 0 W')) -∗ Q ⟨⟩)
          -∗ wp frame (wpE (defs₀ (F := F)) Variants.none (c : Thread nD τ) none) Set.univ
              (firstTail arg2 padM (Memref.isWhole_whole _) colsM sumM biasM (Memref.isWhole_whole _) cc0_scratch4) Q) := by
  unfold firstTail owns
  iintro ⟨⟨%fu, %hu, Hu⟩, Hg, Hs, HB, HO⟩ Hk
  iapply (wp_load_rect Variants.none (c : Thread nD τ) none Set.univ (m := arg2)
    (r := Rect.unit (s := S1x25600) ![0, 0] S1x25600.size inb_S1x25600_S1x25600_0_0)
    (hl := View.loadsAt_vmem h_S1x25600) (View.set_slice_subset _ _)) $$ Hu
  iintro Hu
  iapply (wp_load_rect Variants.none (c : Thread nD τ) none Set.univ (m := colsM)
    (r := Rect.unit (s := S64x25600) ![0, 0] S64x25600.size inb_S64x25600_S64x25600_0_0)
    (hl := View.loadsAt_vmem h_S64x25600) (S := Finset.univ) (Finset.subset_univ _)) $$ Hg
  iintro Hg
  iapply (wp_load_rect Variants.none (c : Thread nD τ) none Set.univ (m := sumM)
    (r := Rect.unit (s := S1x64) ![0, 0] S1x64.size inb_S1x64_S1x64_0_0)
    (hl := View.loadsAt_vmem h_S1x64) (S := Finset.univ) (Finset.subset_univ _)) $$ Hs
  iintro Hs
  iapply (wp_store Variants.none (c : Thread nD τ) none Set.univ (m := sumM)
    (r := Rect.unit (s := S1x64) ![0, 0] S1x64.size inb_S1x64_S1x64_0_0)
    (hx := View.stores_vmem_bits_univ h_S1x64 rfl) (S := Finset.univ) (Finset.subset_univ _)) $$ Hs
  iintro Hs
  iapply (Transfers.wp_waitBatchLast EC Variants.none (c : Thread nD τ) none (srcw := padM) (dstw := biasM) () rfl
    (View.dmaCredit_pos _ pad_numel) (D := biasIn c fb fd) (u := 0) (by omega)) $$ [HB HO]
  · isplitl [HB] <;> iassumption
  iintro ⟨HD, Hv, HO⟩
  have hU : (arg2.access (Rect.unit (s := S1x25600) ![0, 0] S1x25600.size inb_S1x25600_S1x25600_0_0)).read (Elt F) fu = U :=
    (full_read arg2 ![0, 0] zeros2 inb_S1x25600_S1x25600_0_0 fu).trans hu
  have hg : (colsM.access (Rect.unit (s := S64x25600) ![0, 0] S64x25600.size inb_S64x25600_S64x25600_0_0)).read (Elt F) g = g :=
    full_read colsM ![0, 0] zeros2 inb_S64x25600_S64x25600_0_0 g
  have hs : (sumM.access (Rect.unit (s := S1x64) ![0, 0] S1x64.size inb_S1x64_S1x64_0_0)).write (Elt F) fs
      (countsTimes
        ((arg2.access (Rect.unit (s := S1x25600) ![0, 0] S1x25600.size inb_S1x25600_S1x25600_0_0)).read (Elt F) fu)
        ((colsM.access (Rect.unit (s := S64x25600) ![0, 0] S64x25600.size inb_S64x25600_S64x25600_0_0)).read (Elt F) g))
      Finset.univ = countsTimes U g :=
    (full_write sumM ![0, 0] zeros2 inb_S1x64_S1x64_0_0 fs _).trans (by rw [hU, hg])
  have hb : biasM.view.write (Elt F) fd (padM.view.read (Elt F) fb) Finset.univ = fb := View.write_whole_univ _ _ _
  ihave HD := (Entails.of_eq (show bigSep Finset.univ (biasIn (F := F) c fb fd) = biasIn c fb fd 0 from bigSep_singleton)) $$ HD
  unfold biasIn
  icases HD with ⟨Hd, Hp⟩
  rw [wp_ret]
  imodintro
  iapply Hk
  isplitl [Hu]
  · iexists fu
    isplitr
    · ipureintro; exact hu
    iexact Hu
  isplitl [Hg]; · iexact Hg
  isplitl [Hs]; · rw [← hs]; iexact Hs
  isplitl [Hp]; · rw [View.set_whole]; iexact Hp
  isplitl [Hd]
  · rw [show held (F := F) c biasM fb = held c biasM (biasM.view.write (Elt F) fd (padM.view.read (Elt F) fb) Finset.univ) from
      congrArg (fun X => held (F := F) c biasM X) hb.symm]
    iexact Hd
  isplitl [Hv]; · iexact Hv
  iexists _; iexact HO

end Cert.Kernel
-- ==== Proof.GatherPoint.lean ====
/- The body at the first grid point, from its start to its end. -/
module

public import proofs.«01_k».proof.Proof.FirstPoint

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable [Facts]
open Facts₀ Facts

local notation "𝕄" => MT nD τ sig Unit (Elt F) ℕ (Pipeline.UD sig nD τ) ℕ

/-- A block of 128 columns has elements. -/
theorem piece_numel : 0 < S64x128.numel := by decide

/-- The first point is the bias's copy started, and the rest. -/
theorem firstPoint_eq (i : grid0.Coords) (h1 : k0_cond1 i = 1#1) (arg1 : Memref sig .tc .smem S200 .i32)
    (arg2 : Memref sig .tc .vmem S1x25600 .f32) (arg3 : Memref sig .tc .hbm S64x1000000 .f32)
    (arg5 : Memref sig .tc .hbm S1015808 .f32) (harg5 : arg5.IsWhole) (arg7 : Memref sig .tc .vmem S64x25600 .f32)
    (arg8 : Memref sig .tc .vmem S1x64 .f32) (arg9 : Memref sig .tc .vmem S1015808 .f32) (harg9 : arg9.IsWhole)
    (arg10 : DmaSems sig S_) (arg11 : DmaSems sig S_) :
    firstPoint (F := F) i h1 arg1 arg2 arg3 arg5 harg5 arg7 arg8 arg9 harg9 arg10 arg11
      = .op (.enqueueDma arg5 (.here arg9) (.dma arg11.sem) harg5.wordExact harg9.wordExact ⟨Or.inl rfl, trivial⟩) fun _ =>
        readWords i arg1 200 0 rfl (withWords i h1 arg2 arg3 arg5 harg5 arg7 arg8 arg9 harg9 arg10 arg11) := rfl

attribute [local irreducible] readWords startCopies waitCopies firstTail

/-- From the scratch buffers at anything and both semaphores at zero, the first point leaves the bias in its buffer and,
    for a block that gathers the words' columns, the product of the counts with it in the buffer of the sum. -/
theorem wp_firstPoint (c : Dev nD) (i : grid0.Coords) (h1 : k0_cond1 i = 1#1)
    (arg2 : Memref sig .tc .vmem S1x25600 .f32) (U : Vec F S1x25600 .f32)
    (q : PosShare TreeShare) (T : Buf (Elt F) (tabM.view.loc (c : Thread nD τ)))
    (f : Nat → CheckedWord i) (hf : ∀ j (hj : j < 200), (f j).1 = tableWord tabM c T j hj)
    (fe : Buf (Elt F) (embM.view.loc (c : Thread nD τ))) (fb : Buf (Elt F) (padM.view.loc (c : Thread nD τ)))
    (fc : Buf (Elt F) (colsM.view.loc (c : Thread nD τ))) (fs : Buf (Elt F) (sumM.view.loc (c : Thread nD τ)))
    (fd : Buf (Elt F) (biasM.view.loc (c : Thread nD τ))) (W : Waits sig Unit) (Q : PUnit → sProp 𝕄) :
    iprop((tabM.view.loc (c : Thread nD τ) ↦{q} T) ∗ owns (c : Thread nD τ) arg2 fullShare U ∗ held c embM fe ∗ held c padM fb
        ∗ held c colsM fc ∗ held c sumM fs ∗ held c biasM fd
        ∗ semVal ((c : Thread nD τ), .dma cc0_scratch3.sem) 0 ∗ semVal ((c : Thread nD τ), .dma cc0_scratch4.sem) 0
        ∗ owes (c : Thread nD τ) 0 W)
      ⊢ iprop((iprop((tabM.view.loc (c : Thread nD τ) ↦{q} T) ∗ owns (c : Thread nD τ) arg2 fullShare U ∗ held c embM fe
            ∗ held c padM fb
            ∗ (∃ g : Buf (Elt F) (colsM.view.loc (c : Thread nD τ)), ⌜Gathered c i h1 embM colsM f fe g⌝
                ∗ held c colsM g ∗ held c sumM (countsTimes U g))
            ∗ held c biasM fb
            ∗ semVal ((c : Thread nD τ), .dma cc0_scratch3.sem) 0 ∗ semVal ((c : Thread nD τ), .dma cc0_scratch4.sem) 0
            ∗ (∃ W', owes (c : Thread nD τ) 0 W')) -∗ Q ⟨⟩)
          -∗ wp frame (wpE (defs₀ (F := F)) Variants.none (c : Thread nD τ) none) Set.univ
              (firstPoint i h1 tabM arg2 embM padM (Memref.isWhole_whole _) colsM sumM biasM (Memref.isWhole_whole _)
                cc0_scratch3 cc0_scratch4) Q) := by
  rw [firstPoint_eq]
  iintro ⟨HT, Hu, He, Hp, Hc, Hs, Hb, Hq, Hr, HO⟩ Hk
  imod (Transfers.batch_alloc' (Lvl := ℕ) EC (c : Thread nD τ) () biasM.view.dmaCredit (biasIn c fb fd)
    (sm := .dma cc0_scratch4.sem) (E := Set.univ)) $$ Hr with HB
  iapply (Transfers.wp_dmaBatch EC Variants.none (c : Thread nD τ) none (src := padM) (dst := biasM) (Sd := Finset.univ) ()
    biasM.view.dmaCredit rfl (Finset.subset_univ _) (D := biasIn c fb fd) (j := 0) (u := 0) (by decide) (Nat.zero_le _)
    (by unfold biasIn; exact .rfl)) $$ [Hp Hb HB]
  · isplitl [Hp]; · rw [View.set_whole]; iexact Hp
    isplitl [Hb]; · iexact Hb
    iexact HB
  iintro HB
  iapply (wp_readWords c i tabM Q q T f hf 200 0 rfl
    (withWords i h1 arg2 embM padM (Memref.isWhole_whole _) colsM sumM biasM (Memref.isWhole_whole _)
      cc0_scratch3 cc0_scratch4)) $$ HT
  iintro HT
  ihave Hd := (taken_split c i h1 embM colsM f fe fc) $$ [He Hc]
  · isplitl [He] <;> iassumption
  icases Hd with ⟨Ht, Hkept⟩
  unfold withWords
  imod (Transfers.batch_alloc' (Lvl := ℕ) EC (c : Thread nD τ) () (copyUnits colsM)
    (delivered c i h1 embM colsM f fe fc) (sm := .dma cc0_scratch3.sem) (E := Set.univ)) $$ Hq with HC
  iapply (wp_startCopies c i h1 embM colsM cc0_scratch3 f fe fc Q _ (copyUnits colsM) (fun j hj => rfl) 200 0 rfl _) $$ [Ht HC]
  · isplitl [Ht]; · rw [← Transfers.bigSep_pending_zero]; iexact Ht
    iexact HC
  iintro HC
  iapply (wp_waitCopies c i h1 embM colsM cc0_scratch3 f fe fc Q _ (copyUnits colsM) (View.dmaCredit_pos _ piece_numel)
    (fun j hj => rfl) 199 0 rfl _ W) $$ [HC HO]
  · isplitl [HC]; · rw [Nat.mul_zero]; iexact HC
    iexact HO
  iintro ⟨HD, Hq, ⟨%W', HO⟩⟩
  ihave Hj := (delivered_join c i h1 embM colsM f fe fc) $$ [HD Hkept]
  · isplitl [HD] <;> iassumption
  icases Hj with ⟨He, ⟨%g, %hg, Hc⟩⟩
  iapply (wp_firstTail c arg2 U g fs fb fd W' Q) $$ [Hu Hc Hs HB HO]
  · isplitl [Hu]; · iexact Hu
    isplitl [Hc]; · iexact Hc
    isplitl [Hs]; · iexact Hs
    isplitl [HB]; · iexact HB
    iexact HO
  iintro ⟨Hu, Hc, Hs, Hp, Hb, Hr, HO⟩
  iapply Hk
  isplitl [HT]; · iexact HT
  isplitl [Hu]; · iexact Hu
  isplitl [He]; · iexact He
  isplitl [Hp]; · iexact Hp
  isplitl [Hc Hs]
  · iexists g
    isplitr; · ipureintro; exact hg
    isplitl [Hc]; · iexact Hc
    iexact Hs
  isplitl [Hb]; · iexact Hb
  isplitl [Hq]; · iexact Hq
  isplitl [Hr]; · iexact Hr
  iexact HO

end Cert.Kernel
-- ==== Proof.LaterPoint.lean ====
/- The body at a later grid point: one block of the result. -/
module

public import proofs.«01_k».proof.Proof.FirstPoint

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable [Facts]
open Facts₀ Facts

local notation "𝕄" => MT nD τ sig Unit (Elt F) ℕ (Pipeline.UD sig nD τ) ℕ

/-- One block of the result: the kept sum times the block of weights, and the block's biases on top. -/
def resultBlock (s : Vec F S1x64 .f32) (w : Vec F S64x32768 .f32) (b : Vec F S32768 .f32) : Vec F S1x32768 .f32 :=
  addf (matmul dot_S1x64_S64x32768_S1x32768_1_0_0_1_n_n none (s : FVec F S1x64 .f32)
      (shapeCast S64x32768 w shapeCasts_S64x32768_S64x32768 : FVec F S64x32768 .f32)
      (constant S1x32768 .f32 0x00000000#32) : FVec F S1x32768 .f32)
    (shapeCast S1x32768 b shapeCasts_S32768_S1x32768 : FVec F S1x32768 .f32)

/-- The biases of the point's block. -/
def biasBlock (i : grid0.Coords) (h2 : k0_cond2 i = 1#1) (fb : Vec F S1015808 .f32) : Vec F S32768 .f32 :=
  (biasM.access (Rect.unit (s := S1015808) (k0_off201 i) S32768.size (k0_off201_inb i h2))).read (Elt F) fb

/-- The point's block of the result is written, and everything read is as it was. -/
theorem wp_laterPoint (c : Dev nD) (i : grid0.Coords) (h2 : k0_cond2 i = 1#1)
    (arg4 : Memref sig .tc .vmem S64x32768 .f32) (arg6 : Memref sig .tc .vmem S1x32768 .f32)
    (s : Vec F S1x64 .f32) (X : Vec F S64x32768 .f32) (fb : Vec F S1015808 .f32) (Y : Vec F S1x32768 .f32)
    (Q : PUnit → sProp 𝕄) :
    iprop(held c sumM s ∗ owns (c : Thread nD τ) arg4 fullShare X ∗ held c biasM fb ∗ owns (c : Thread nD τ) arg6 fullShare Y)
      ⊢ iprop((iprop(held c sumM s ∗ owns (c : Thread nD τ) arg4 fullShare X ∗ held c biasM fb
            ∗ owns (c : Thread nD τ) arg6 fullShare (resultBlock s X (biasBlock i h2 fb))) -∗ Q ⟨⟩)
          -∗ wp frame (wpE (defs₀ (F := F)) Variants.none (c : Thread nD τ) none) Set.univ
              (laterPoint i h2 arg4 arg6 sumM biasM) Q) := by
  unfold laterPoint owns
  iintro ⟨Hs, ⟨%fx, %hx, Hx⟩, Hb, ⟨%fy, -, Hy⟩⟩ Hk
  iapply (wp_load_rect Variants.none (c : Thread nD τ) none Set.univ (m := sumM)
    (r := Rect.unit (s := S1x64) ![0, 0] S1x64.size inb_S1x64_S1x64_0_0)
    (hl := View.loadsAt_vmem h_S1x64) (S := Finset.univ) (Finset.subset_univ _)) $$ Hs
  iintro Hs
  iapply (wp_load_rect Variants.none (c : Thread nD τ) none Set.univ (m := arg4)
    (r := Rect.unit (s := S64x32768) ![0, 0] S64x32768.size inb_S64x32768_S64x32768_0_0)
    (hl := View.loadsAt_vmem h_S64x32768) (View.set_slice_subset _ _)) $$ Hx
  iintro Hx
  iapply (wp_load_rect Variants.none (c : Thread nD τ) none Set.univ (m := biasM)
    (r := Rect.unit (s := S1015808) (k0_off201 i) S32768.size (k0_off201_inb i h2))
    (hl := View.loadsAt_vmem h_S32768) (S := Finset.univ) (Finset.subset_univ _)) $$ Hb
  iintro Hb
  iapply (wp_load_rect Variants.none (c : Thread nD τ) none Set.univ (m := arg6)
    (r := Rect.unit (s := S1x32768) ![0, 0] S1x32768.size inb_S1x32768_S1x32768_0_0)
    (hl := View.loadsAt_vmem h_S1x32768) (View.set_slice_subset _ _)) $$ Hy
  iintro Hy
  iapply (wp_store Variants.none (c : Thread nD τ) none Set.univ (m := arg6)
    (r := Rect.unit (s := S1x32768) ![0, 0] S1x32768.size inb_S1x32768_S1x32768_0_0)
    (hx := View.stores_vmem_bits_univ h_S1x32768 rfl) (View.set_slice_subset _ _)) $$ Hy
  iintro Hy
  have hs : (sumM.access (Rect.unit (s := S1x64) ![0, 0] S1x64.size inb_S1x64_S1x64_0_0)).read (Elt F) s = s :=
    full_read sumM ![0, 0] zeros2 inb_S1x64_S1x64_0_0 s
  have hX : (arg4.access (Rect.unit (s := S64x32768) ![0, 0] S64x32768.size inb_S64x32768_S64x32768_0_0)).read (Elt F) fx = X :=
    (full_read arg4 ![0, 0] zeros2 inb_S64x32768_S64x32768_0_0 fx).trans hx
  rw [wp_ret]
  imodintro
  iapply Hk
  isplitl [Hs]; · iexact Hs
  isplitl [Hx]
  · iexists fx
    isplitr
    · ipureintro; exact hx
    iexact Hx
  isplitl [Hb]; · iexact Hb
  iexists _
  isplitr; swap
  · iexact Hy
  ipureintro
  refine (full_write arg6 ![0, 0] zeros2 inb_S1x32768_S1x32768_0_0 fy _).trans ?_
  rw [hs, hX]
  rfl

end Cert.Kernel
-- ==== Proof.Region.lean ====
/- The launch: what the pipeline's proof says before every grid point, and of what each point leaves in its staging buffers. -/
module

public import proofs.«01_k».proof.Proof.GatherPoint
public import proofs.«01_k».proof.Proof.LaterPoint
public import Idealize.ShloMosaic.PureOps.Ideal
public import proofs.«01_k».proof.Proof.Gen.Kernel.Launch

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Pipeline (RDat)

variable {F : FTy → Type} [FloatOps F]

local notation "𝕄" => MT nD τ sig Unit (Elt F) ℕ (Pipeline.UD sig nD τ) ℕ

variable (m : (ℓ : Loc nD τ sig) → Buf (Elt F) ℓ)

/-- The operations of @main before the pipeline. -/
abbrev hostStretches : List (List (HloOp τ sig (Elt F))) := [hostOps0, hostOps0_1, hostOps0_2, hostOps0_3]

/-- What every buffer holds when the pipeline starts. -/
def V (c : Dev nD) (b : Ref sig .tc) : Buf (Elt F) ((c.tc : Thread nD τ).loc b) :=
  StableHlo.after (hostStretches (F := F)).flatten (fun b => m (c, b)) b

/-- The word table at the start, as the pipeline's prefetched contents. -/
def tables : (pcfg0 (F := F)).Adm := ⟨fun k => V m 0 (pre0.ref k), trivial⟩

/-- Contents of the tables that nothing depends on: the windows' index maps read no table. -/
def noTables : (pcfg0 (F := Ideal)).Adm := ⟨fun | 0 => fun _ => (0#32 : BitVec 32) | ⟨_ + 1, h⟩ => absurd h (Nat.not_lt.2 (Nat.le_add_left _ _)), trivial⟩

/-- The windows are the same whatever the tables hold. -/
theorem win_eq (w : Fin 3) : win0 (tables m) w = win0 noTables w := rfl

/-- The block of weights is fetched at every point but the second, which shares the first one's. -/
theorem weights_fetch (t : Fin 32) (h : t.val ≠ 1) : (win0 noTables 1).fetch t = true := by
  have hall : (List.finRange 32).all (fun t => (win0 noTables 1).fetch t || t.val == 1) = true := by decide +kernel
  have := List.all_eq_true.1 hall t (List.mem_finRange t)
  simpa [h] using this
theorem weights_fetch_one : (win0 noTables 1).fetch (1 : Fin 32) = false := by decide +kernel
theorem counts_fetch : (win0 noTables 0).fetch (0 : Fin 32) = true := by decide +kernel
/-- A block of the result goes out after every point but the first. -/
theorem result_flush (t : Fin 32) : (win0 noTables 2).flush t = (t.val != 0) := by
  have hall : (List.finRange 32).all (fun t => (win0 noTables 2).flush t == (t.val != 0)) = true := by decide +kernel
  exact beq_iff_eq.1 (List.all_eq_true.1 hall t (List.mem_finRange t))

end Cert.Kernel
-- ==== Proof.Words.lean ====
/- A word of the table below 999 936 names a block of 128 columns that lies inside the embedding table: the block starts at
   the word rounded down to a multiple of 128. -/
module

public import proofs.«01_k».proof.Proof.Loops

@[expose] public section

noncomputable section

namespace Cert.Kernel

open Idealize.ShloMosaic

/-- The word rounded down to a multiple of 128, as the body computes it. -/
theorem mult_toNat (v : BitVec 32) (h : v.toNat < 999936) : (k0_mult1 v).toNat = v.toNat / 128 * 128 := by
  have hm : v.msb = false := by rw [BitVec.msb_eq_decide]; simp; omega
  have hq : Scalar.divsi v 128#32 = v / 128#32 := by
    show IntOp.divsi .scalar v 128#32 = _
    unfold IntOp.divsi
    rw [if_neg (by unfold IntOp.SDivCorner; simp)]
    rw [BitVec.sdiv_eq, hm]
    rfl
  have hmul : (v / 128#32 * 128#32).toNat = v.toNat / 128 * 128 := by
    rw [BitVec.toNat_mul, BitVec.toNat_udiv]
    show v.toNat / 128 * 128 % 4294967296 = _
    omega
  by_cases h0 : v = 0#32
  · subst h0; unfold k0_mult1; simp only [hq]; decide
  · have hpos : BitVec.slt 0#32 v = true := by
      rw [BitVec.slt_eq_decide, BitVec.toInt_eq_toNat_of_msb hm]
      have : v.toNat ≠ 0 := fun e => h0 (BitVec.eq_of_toNat_eq e)
      simp; omega
    have hneg : BitVec.slt v 0#32 = false := by
      rw [BitVec.slt_eq_decide, BitVec.toInt_eq_toNat_of_msb hm]; simp
    have hsg : Scalar.cmpi .sgt v 0#32 = 1#1 := by
      show BitVec.ofBool (BitVec.slt 0#32 v) = _; rw [hpos]; rfl
    have hsl : Scalar.cmpi .slt v 0#32 = 0#1 := by
      show BitVec.ofBool (BitVec.slt v 0#32) = _; rw [hneg]; rfl
    unfold k0_mult1
    simp only [hsg, hsl, hq]
    rw [← hmul]
    have hz (y : BitVec 1) : Scalar.andi (Scalar.cmpi .ne (Scalar.subi (Scalar.extui (1#1 : BitVec 1)) (Scalar.extui (0#1 : BitVec 1)) : BitVec 32)
        (Scalar.subi (Scalar.extui (Scalar.cmpi .sgt (128#32) 0#32)) (Scalar.extui (Scalar.cmpi .slt (128#32) 0#32)))) y = 0#1 := by
      revert y; decide
    rw [hz]
    rfl

/-- So is the offset of its block. -/
theorem off_eq (v : BitVec 32) (h : v.toNat < 999936) : k0_off1 v = ![0, v.toNat / 128 * 128] := by
  rw [← mult_toNat v h]; rfl

/-- What the body asks of each word it reads. -/
theorem chk_of_lt (i : grid0.Coords) (v : BitVec 32) (h : v.toNat < 999936) : k0_chk1 i v := by
  refine ⟨fun _ => ?_, fun _ a => ?_⟩
  · rw [mult_toNat v h]; exact Nat.dvd_mul_left _ _
  · rw [off_eq v h]
    fin_cases a
    · show 0 + 64 ≤ 64; omega
    · show v.toNat / 128 * 128 + 128 ≤ 1000000; omega

end Cert.Kernel
-- ==== Proof.State.lean ====
/- What the launch's proof says before every grid point, and of what each point leaves in the staging buffers. The first point
   forms the sum of the named columns and fetches the bias; every later point reads both and leaves one block of the result. -/
module

public import proofs.«01_k».proof.Proof.Region
public import proofs.«01_k».proof.Proof.Words

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Pipeline (RDat)

variable {F : FTy → Type} [FloatOps F]

local notation "𝕄" => MT nD τ sig Unit (Elt F) ℕ (Pipeline.UD sig nD τ) ℕ

variable (m : (ℓ : Loc nD τ sig) → Buf (Elt F) ℓ)

/-- The first point of the grid. -/
abbrev firstPt : Fin grid0.N := ⟨0, by decide⟩
abbrev first : grid0.Coords := grid0.coords firstPt
theorem first_cond1 : k0_cond1 first = 1#1 := by decide
theorem first_cond2 : ¬k0_cond2 first = 1#1 := by decide
theorem later_conds (t : Fin grid0.N) (h : t.val ≠ 0) : ¬k0_cond1 (grid0.coords t) = 1#1 ∧ k0_cond2 (grid0.coords t) = 1#1 := by
  have hall : (List.finRange grid0.N).all (fun t => t.val == 0 ||
      (!(decide (k0_cond1 (grid0.coords t) = 1#1)) && decide (k0_cond2 (grid0.coords t) = 1#1))) = true := by decide +kernel
  have := List.all_eq_true.1 hall t (List.mem_finRange t)
  simpa [h] using this

/-- Word `j` of the table. -/
def wordAt (c : Dev nD) (j : Nat) : BitVec 32 :=
  if h : j < 200 then tableWord (F := F) tabM c (V m c main_arg0) j h else 0#32

/-- Every word names a block inside the embedding table. -/
abbrev WordsOk : Prop := ∀ c j, (wordAt m c j).toNat < 999936

variable {m} in
/-- The words as the body at `i` reads them. -/
def words (hw : WordsOk m) (c : Dev nD) (i : grid0.Coords) : Nat → CheckedWord i :=
  fun j => ⟨wordAt m c j, chk_of_lt i _ (hw c j)⟩

/-- The counts as the first point finds them, over any earlier contents `d` of their buffer. -/
def countsAt (c : Dev nD) (d : Vec F S1x25600 .f32) : Vec F S1x25600 .f32 :=
  (win0 (tables m) 0).fill first d (((win0 (tables m) 0).blk firstPt).view.read (Elt F) (V m c main_v14))

/-- The block of weights at point `t`, over any earlier contents `d` of its buffer. -/
def weightsAt (c : Dev nD) (t : Fin grid0.N) (d : Vec F S64x32768 .f32) : Vec F S64x32768 .f32 :=
  (win0 (tables m) 1).fill (grid0.coords t) d (((win0 (tables m) 1).blk t).view.read (Elt F) (V m c main_v16))

variable {m} in
/-- `s` is the product of the counts with 200 columns blocks gathered as the words say. -/
def IsSum (hw : WordsOk m) (c : Dev nD) (s : Vec F S1x64 .f32) : Prop :=
  ∃ (g : Vec F S64x25600 .f32) (d : Vec F S1x25600 .f32),
    Gathered c first first_cond1 embM colsM (words hw c first) (V m c main_v15) g ∧ s = countsTimes (countsAt m c d) g

variable {m} in
/-- `X` is the block of the result that point `t` leaves. -/
def IsBlock (hw : WordsOk m) (c : Dev nD) (t : Fin grid0.N) (X : Vec F S1x32768 .f32) : Prop :=
  ∃ (s : Vec F S1x64 .f32) (d : Vec F S64x32768 .f32) (h2 : k0_cond2 (grid0.coords t) = 1#1), IsSum hw c s
    ∧ X = resultBlock s (weightsAt m c t d) (biasBlock (grid0.coords t) h2 (V m c main_v17))

variable {m} in
/-- What the body has and keeps between points: before the first point anything in the scratch buffers, afterwards the sum in
    the second and the padded bias in the third. -/
def Inv (hw : WordsOk m) (c : Dev nD) (n : Nat) : sProp 𝕄 :=
  iprop((∃ g : Vec F S64x25600 .f32, held c colsM g)
    ∗ (∃ s : Vec F S1x64 .f32, ⌜n ≠ 0 → IsSum hw c s⌝ ∗ held c sumM s)
    ∗ (∃ b : Vec F S1015808 .f32, ⌜n ≠ 0 → b = V m c main_v17⌝ ∗ held c biasM b)
    ∗ (∃ r, prngReg c r)
    ∗ (semVal ((c : Thread nD τ), .dma cc0_scratch3.sem) 0 ∗ semVal ((c : Thread nD τ), .dma cc0_scratch4.sem) 0)
    ∗ (held c embM (V m c main_v15) ∗ held c padM (V m c main_v17))
    ∗ (tabM.view.loc (c : Thread nD τ) ↦{fullShare.right} V m c main_arg0))

variable {m} in
/-- The proof data on core `c`: the two inputs' buffers are left as found; the result's buffer holds, after each point but the
    first, the point's block. -/
def dat (hw : WordsOk m) (c : Dev nD) : RDat τ (Elt F) Unit ℕ (Pipeline.UD sig nD τ) ℕ (cfg0 (tables m)) c where
  A w := V m c (Pipeline.arrRef spec0 w)
  after := fun
    | 0 => fun _ Y X => X = Y
    | 1 => fun _ Y X => X = Y
    | 2 => fun t _ X => t.val = 0 ∨ IsBlock hw c t X
    | ⟨_ + 3, h⟩ => absurd h (Nat.not_lt.2 (Nat.le_add_left _ _))
  Φ t := Inv hw c t.val
  q _ := fullShare
  owed _ := 0

/-- What the first point finds of the counts. -/
theorem counts_found (hw : WordsOk m) (c : Dev nD) (X : Vec F S1x25600 .f32)
    (h : (dat hw c).Finds 0 firstPt X) : ∃ d, X = countsAt m c d :=
  ((dat hw c).finds_of_fetch counts_fetch X).1 h

/-- The second point's block of weights is the first one's. -/
theorem weights_index : (win0 noTables 1).index (0 : Fin 32) = (win0 noTables 1).index (1 : Fin 32) := by decide +kernel
theorem weights_clip : (win0 noTables 1).clip (grid0.coords (0 : Fin 32)) = (win0 noTables 1).clip (grid0.coords (1 : Fin 32)) := by
  decide +kernel
theorem weights_flush_zero : ¬(win0 noTables 1).flush (0 : Fin 32) = true := by decide +kernel
theorem second_ne_first : ((1 : Fin 32) : Fin 32).val ≠ 0 := by decide

/-- What any point finds of the weights. -/
theorem weights_found (hw : WordsOk m) (c : Dev nD) (t : Fin grid0.N) (X : Vec F S64x32768 .f32)
    (h : (dat hw c).Finds 1 t X) : ∃ d, X = weightsAt m c t d := by
  by_cases ht : t.val = 1
  · obtain rfl : t = (1 : Fin 32) := Fin.ext ht
    rcases ((dat hw c).finds_of_pos weights_fetch_one second_ne_first X).1 h with h | ⟨Y, hY, hX⟩
    · exact absurd h weights_flush_zero
    · obtain ⟨d, hd⟩ := ((dat hw c).finds_of_fetch (weights_fetch 0 (by decide)) Y).1 hY
      refine ⟨d, ?_⟩
      rw [show X = Y from hX, hd]
      exact (dat hw c).fetched_congr 1 (t := (0 : Fin 32)) (t' := (1 : Fin 32)) weights_index weights_clip d
  · exact ((dat hw c).finds_of_fetch (weights_fetch t ht) X).1 h

end Cert.Kernel
-- ==== Proof.Body.lean ====
/- The body at every grid point: from what it finds to what it leaves. -/
module

public import proofs.«01_k».proof.Proof.State
public import Idealize.ShloMosaic.Lib.Pipeline.FrameBody

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Pipeline (RDat)

variable {F : FTy → Type} [FloatOps F]

local notation "𝕄" => MT nD τ sig Unit (Elt F) ℕ (Pipeline.UD sig nD τ) ℕ

variable (m : (ℓ : Loc nD τ sig) → Buf (Elt F) ℓ)
variable {m}

/-- The pipeline's call of the body at point `t` is the rolled body. -/
theorem defs_row (t : Fin grid0.N) (s : ∀ w, Fin (win0 (tables m) w).nbuf) :
    defs₀ (F := F) .tc (cfg0 (tables m)).body ((cfg0 (tables m)).bodyArgs t s)
      = rolledBody (grid0.coords t) tabM (Memref.isWhole_whole _) ((win0 (tables m) 0).stage (s 0)) (hstage0_0 ((s 0).cast nbuf0_0))
          embM (Memref.isWhole_whole _) ((win0 (tables m) 1).stage (s 1)) (hstage0_1 ((s 1).cast nbuf0_1))
          padM (Memref.isWhole_whole _) ((win0 (tables m) 2).stage (s 2)) (hstage0_2 ((s 2).cast nbuf0_2))
          colsM (Memref.isWhole_whole _) sumM (Memref.isWhole_whole _) biasM (Memref.isWhole_whole _) cc0_scratch3 cc0_scratch4 := by
  rw [← body_eq_rolled]; unfold defs₀; rw [Defs.onTc_tc]

/-- At the first point the body runs its first half only. -/
theorem rolled_first (arg2 : Memref sig .tc .vmem S1x25600 .f32) (h2) (arg4 : Memref sig .tc .vmem S64x32768 .f32) (h4)
    (arg6 : Memref sig .tc .vmem S1x32768 .f32) (h6) :
    rolledBody (F := F) first tabM (Memref.isWhole_whole _) arg2 h2 embM (Memref.isWhole_whole _) arg4 h4 padM (Memref.isWhole_whole _)
        arg6 h6 colsM (Memref.isWhole_whole _) sumM (Memref.isWhole_whole _) biasM (Memref.isWhole_whole _) cc0_scratch3 cc0_scratch4
      = firstPoint first first_cond1 tabM arg2 embM padM (Memref.isWhole_whole _) colsM sumM biasM (Memref.isWhole_whole _)
          cc0_scratch3 cc0_scratch4 := by
  unfold rolledBody
  rw [dif_pos first_cond1, dif_neg first_cond2]
  exact bind_pure _

/-- At any later point it runs its second half only. -/
theorem rolled_later (i : grid0.Coords) (n1 : ¬k0_cond1 i = 1#1) (p2 : k0_cond2 i = 1#1)
    (arg2 : Memref sig .tc .vmem S1x25600 .f32) (h2) (arg4 : Memref sig .tc .vmem S64x32768 .f32) (h4)
    (arg6 : Memref sig .tc .vmem S1x32768 .f32) (h6) :
    rolledBody (F := F) i tabM (Memref.isWhole_whole _) arg2 h2 embM (Memref.isWhole_whole _) arg4 h4 padM (Memref.isWhole_whole _)
        arg6 h6 colsM (Memref.isWhole_whole _) sumM (Memref.isWhole_whole _) biasM (Memref.isWhole_whole _) cc0_scratch3 cc0_scratch4
      = laterPoint i p2 arg4 arg6 sumM biasM := by
  unfold rolledBody
  rw [dif_neg n1, dif_pos p2]

/-- The first point: the sum is formed and the bias fetched. -/
theorem body_first (hw : WordsOk m) (c : Dev nD) (arg2 : Memref sig .tc .vmem S1x25600 .f32) (d : Vec F S1x25600 .f32)
    (W : Waits sig Unit) (Q : PUnit → sProp 𝕄) :
    iprop(Inv hw c 0 ∗ owes (c : Thread nD τ) 0 W ∗ owns (c : Thread nD τ) arg2 fullShare (countsAt m c d))
      ⊢ iprop((iprop(Inv hw c 1 ∗ (∃ W', owes (c : Thread nD τ) 0 W') ∗ owns (c : Thread nD τ) arg2 fullShare (countsAt m c d)) -∗ Q ⟨⟩)
          -∗ wp frame (wpE (defs₀ (F := F)) Variants.none (c : Thread nD τ) none) Set.univ
              (firstPoint first first_cond1 tabM arg2 embM padM (Memref.isWhole_whole _) colsM sumM biasM (Memref.isWhole_whole _)
                cc0_scratch3 cc0_scratch4) Q) := by
  unfold Inv
  iintro ⟨⟨⟨%g, Hc⟩, ⟨%s, -, Hs⟩, ⟨%b, -, Hb⟩, Hr, ⟨Hq, Hq'⟩, ⟨He, Hp⟩, Ht⟩, HO, Hu⟩ Hk
  iapply (wp_firstPoint c first first_cond1 arg2 (countsAt m c d) fullShare.right (V m c main_arg0) (words hw c first)
    (fun j hj => by show wordAt m c j = _; unfold wordAt; rw [dif_pos hj]) (V m c main_v15) (V m c main_v17) g s b W Q)
    $$ [Ht Hu He Hp Hc Hs Hb Hq Hq' HO]
  · isplitl [Ht]; · iexact Ht
    isplitl [Hu]; · iexact Hu
    isplitl [He]; · iexact He
    isplitl [Hp]; · iexact Hp
    isplitl [Hc]; · iexact Hc
    isplitl [Hs]; · iexact Hs
    isplitl [Hb]; · iexact Hb
    isplitl [Hq]; · iexact Hq
    isplitl [Hq']; · iexact Hq'
    iexact HO
  iintro ⟨Ht, Hu, He, Hp, ⟨%g', %hg, Hc, Hs⟩, Hb, Hq, Hq', HO⟩
  iapply Hk
  isplitl [Ht He Hp Hc Hs Hb Hq Hq' Hr]
  · isplitl [Hc]; · iexists g'; iexact Hc
    isplitl [Hs]
    · iexists (countsTimes (countsAt m c d) g'); isplitr
      · ipureintro; exact fun _ => ⟨g', d, hg, rfl⟩
      iexact Hs
    isplitl [Hb]
    · iexists (V m c main_v17); isplitr
      · ipureintro; exact fun _ => rfl
      iexact Hb
    isplitl [Hr]; · iexact Hr
    isplitl [Hq Hq']
    · isplitl [Hq]; · iexact Hq
      iexact Hq'
    isplitl [He Hp]
    · isplitl [He]; · iexact He
      iexact Hp
    iexact Ht
  isplitl [HO]; · iexact HO
  iexact Hu

/-- A later point: one block of the result. -/
theorem body_later (hw : WordsOk m) (c : Dev nD) (t : Fin grid0.N) (ht : t.val ≠ 0) (p2 : k0_cond2 (grid0.coords t) = 1#1)
    (arg4 : Memref sig .tc .vmem S64x32768 .f32) (arg6 : Memref sig .tc .vmem S1x32768 .f32)
    (d : Vec F S64x32768 .f32) (Y : Vec F S1x32768 .f32) (Q : PUnit → sProp 𝕄) :
    iprop(Inv hw c t.val ∗ owns (c : Thread nD τ) arg4 fullShare (weightsAt m c t d) ∗ owns (c : Thread nD τ) arg6 fullShare Y)
      ⊢ iprop((iprop(Inv hw c (t.val + 1) ∗ owns (c : Thread nD τ) arg4 fullShare (weightsAt m c t d)
            ∗ (∃ X : Vec F S1x32768 .f32, ⌜IsBlock hw c t X⌝ ∗ owns (c : Thread nD τ) arg6 fullShare X)) -∗ Q ⟨⟩)
          -∗ wp frame (wpE (defs₀ (F := F)) Variants.none (c : Thread nD τ) none) Set.univ
              (laterPoint (grid0.coords t) p2 arg4 arg6 sumM biasM) Q) := by
  unfold Inv
  iintro ⟨⟨Hc, ⟨%s, %hs, Hs⟩, ⟨%b, %hb, Hb⟩, Hr, Hq, He, Ht⟩, Hx, Hy⟩ Hk
  obtain rfl := hb ht
  iapply (wp_laterPoint c (grid0.coords t) p2 arg4 arg6 s (weightsAt m c t d) (V m c main_v17) Y Q) $$ [Hs Hx Hb Hy]
  · isplitl [Hs]; · iexact Hs
    isplitl [Hx]; · iexact Hx
    isplitl [Hb]; · iexact Hb
    iexact Hy
  iintro ⟨Hs, Hx, Hb, Hy⟩
  iapply Hk
  isplitl [Hc Hs Hb Hr Hq He Ht]
  · isplitl [Hc]; · iexact Hc
    isplitl [Hs]
    · iexists s; isplitr
      · ipureintro; exact fun _ => hs ht
      iexact Hs
    isplitl [Hb]
    · iexists (V m c main_v17); isplitr
      · ipureintro; exact fun _ => rfl
      iexact Hb
    isplitl [Hr]; · iexact Hr
    isplitl [Hq]; · iexact Hq
    isplitl [He]; · iexact He
    iexact Ht
  isplitl [Hx]; · iexact Hx
  iexists _; isplitr
  · ipureintro; exact ⟨s, d, p2, hs ht, rfl⟩
  iexact Hy

/-- The body at any point, from what the loop hands it to what it hands back. -/
theorem body_point (hw : WordsOk m) (c : Dev nD) : (dat hw c).BodyObligation (defs₀ (F := F)) Variants.none () Set.univ := by
  intro t Y hY
  rw [bigSep_W0, bigSep_W0, defs_row, show (dat hw c).Φ t.castSucc = Inv hw c t.val from rfl,
    show (dat hw c).Φ t.succ = Inv hw c (t.val + 1) from rfl]
  unfold RDat.owesAt Pipeline.owesWithin
  iintro ⟨HI, ⟨%W, %hW, HO⟩, H0, H1, H2⟩
  by_cases ht : t.val = 0
  · obtain rfl : t = firstPt := Fin.ext ht
    obtain ⟨d, hd⟩ := counts_found m hw c (Y 0) (hY 0)
    rw [hd]
    rw [show grid0.coords firstPt = first from rfl, rolled_first]
    iapply (body_first hw c _ d W _) $$ [HI HO H0]
    · isplitl [HI]; · iexact HI
      isplitl [HO]; · iexact HO
      iexact H0
    iintro ⟨HI, ⟨%W', HO⟩, H0⟩
    isplitl [HI]; · iexact HI
    isplitl [HO]
    · iexists W'; isplitr
      · ipureintro; exact fun _ _ => Or.inl trivial
      iexact HO
    isplitl [H0]
    · iexists _; isplitr; swap; · iexact H0
      ipureintro; rfl
    isplitl [H1]
    · iexists _; isplitr; swap; · iexact H1
      ipureintro; rfl
    iexists _; isplitr; swap; · iexact H2
    ipureintro; exact Or.inl rfl
  · obtain ⟨n1, p2⟩ := later_conds t ht
    obtain ⟨d, hd⟩ := weights_found m hw c t (Y 1) (hY 1)
    rw [hd, rolled_later _ n1 p2]
    iapply (body_later hw c t ht p2 _ _ d (Y 2) _) $$ [HI H1 H2]
    · isplitl [HI]; · iexact HI
      isplitl [H1]; · iexact H1
      iexact H2
    iintro ⟨HI, H1, ⟨%X, %hX, H2⟩⟩
    isplitl [HI]; · iexact HI
    isplitl [HO]
    · iexists W; isplitr
      · ipureintro; exact fun _ _ => Or.inl trivial
      iexact HO
    isplitl [H0]
    · iexists _; isplitr; swap; · iexact H0
      ipureintro; rfl
    isplitl [H1]
    · iexists _; isplitr; swap; · iexact H1
      ipureintro; rfl
    iexists X; isplitr; swap; · iexact H2
    ipureintro; exact Or.inr hX

end Cert.Kernel
-- ==== Proof.Run.lean ====
/- The launch of the kernel: from a memory whose words are in range it runs to its end, each argument as it was, and the result's
   array as the write-backs leave it. -/
module

public import proofs.«01_k».proof.Proof.Body
public import Idealize.ShloMosaic.Lib.Pipeline.Frame

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Pipeline (RDat)

variable {F : FTy → Type} [FloatOps F]

local notation "𝕄" => MT nD τ sig Unit (Elt F) ℕ (Pipeline.UD sig nD τ) ℕ

variable (m : (ℓ : Loc nD τ sig) → Buf (Elt F) ℓ)
variable (ρ : Dev nD → PrngReg)

/-! ## What the launch hands the proof -/

/-- The body's own two semaphores. -/
abbrev bodySems : Fin 2 → SemLoc sig := fun j => (![.dma cc0_scratch3.sem, .dma cc0_scratch4.sem] : Fin 2 → SemLoc sig) j
theorem bodySems_own : Pipeline.OwnSemFacts spec0 bodySems := by decide
theorem bodySems_eq (c : Dev nD) :
    (Pipeline.ownSems0 (Ix := Unit) (Name := ℕ) (U := Pipeline.UD sig nD τ) (Lvl := ℕ) (Val := Elt F) (τ := τ) bodySems c : sProp 𝕄)
      = iprop(semVal ((c : Thread nD τ), SemLoc.dma cc0_scratch3.sem) 0 ∗ semVal ((c : Thread nD τ), SemLoc.dma cc0_scratch4.sem) 0) := by
  rw [Pipeline.ownSems0_eq_of_list c bodySems [0, 1] (by decide) (by decide)]; rfl

/-- The two arrays the body reads by its own copies. -/
def copied : Finset (Ref sig .tc) := {main_v15, main_v17}
theorem copied_sub : copied ⊆ Pipeline.restRefsP sig pre0 spec0 := by decide
theorem copied_eq (c : Dev nD) :
    (bigSep copied (fun b => ((c : Thread nD τ).loc b) ↦{fullShare} V m c b) : sProp 𝕄)
      = iprop(held c embM (V m c main_v15) ∗ held c padM (V m c main_v17)) := by
  rw [BI.bigSep_eq_bigSepL_of_eq [main_v15, main_v17] (by decide) (by decide)]; rfl

/-- The launch's resources, piece by piece. -/
theorem launch_eq (c : Dev nD) :
    (Pipeline.ΦD bodySems spec0 copied (V m) c : sProp 𝕄)
      = iprop(iprop((∃ f : Vec F S64x25600 .f32, held c colsM f) ∗ (∃ f : Vec F S1x64 .f32, held c sumM f)
            ∗ (∃ f : Vec F S1015808 .f32, held c biasM f)) ∗ (∃ r, prngReg c r)
          ∗ iprop(semVal ((c : Thread nD τ), SemLoc.dma cc0_scratch3.sem) 0 ∗ semVal ((c : Thread nD τ), SemLoc.dma cc0_scratch4.sem) 0)
          ∗ iprop(held c embM (V m c main_v15) ∗ held c padM (V m c main_v17))) := by
  rw [Pipeline.ΦD_eq, scopedRest0_eq, bodySems_eq, copied_eq]; rfl

/-- The word table's half, as the launch hands it. -/
theorem table_eq (c : Dev nD) :
    (Pipeline.ΦT pre0 (tables m).1 c : sProp 𝕄)
      = iprop(tabM.view.loc (c : Thread nD τ) ↦{fullShare.right} V m 0 main_arg0) := by
  show (bigSep Finset.univ fun k : Fin 1 => _) = _
  rw [BI.bigSep_eq_bigSepL_of_eq [(0 : Fin 1)] (by decide) (by decide)]; rfl

variable {m}

theorem inv_start (hw : WordsOk m) (c : Dev nD) :
    iprop(Pipeline.ΦD bodySems spec0 copied (V m) c ∗ Pipeline.ΦT pre0 (tables m).1 c) ⊢ Inv hw c 0 := by
  obtain rfl : c = 0 := Subsingleton.elim _ _
  rw [launch_eq, table_eq]; unfold Inv
  iintro ⟨⟨⟨Hc, ⟨%s, Hs⟩, ⟨%b, Hb⟩⟩, Hr, Hq, He⟩, Ht⟩
  isplitl [Hc]; · iexact Hc
  isplitl [Hs]
  · iexists s; isplitr
    · ipureintro; exact fun h => absurd rfl h
    iexact Hs
  isplitl [Hb]
  · iexists b; isplitr
    · ipureintro; exact fun h => absurd rfl h
    iexact Hb
  isplitl [Hr]; · iexact Hr
  isplitl [Hq]; · iexact Hq
  isplitl [He]; · iexact He
  iexact Ht

theorem inv_end (hw : WordsOk m) (c : Dev nD) (n : Nat) : Inv hw c n ⊢ Pipeline.ΦD bodySems spec0 copied (V m) c := by
  rw [launch_eq]; unfold Inv
  iintro ⟨Hc, ⟨%s, -, Hs⟩, ⟨%b, -, Hb⟩, Hr, Hq, He, Ht⟩
  isplitl [Hc Hs Hb]
  · isplitl [Hc]; · iexact Hc
    isplitl [Hs]; · iexists s; iexact Hs
    iexists b; iexact Hb
  isplitl [Hr]; · iexact Hr
  isplitl [Hq]; · iexact Hq
  iexact He

/-- The operations before the pipeline, then the pipeline. -/
theorem launch_main (m : (ℓ : Loc nD τ sig) → Buf (Elt F) ℓ) :
    Pipeline.HMainP (Ix := Unit) (Name := ℕ) (U := Pipeline.UD sig nD τ) (Lvl := ℕ) (pcfgs (F := F)) 0 defs₀ Variants.none m
      (main (F := F)) (V m) :=
  Pipeline.hmainP_prefixes pcfgs 0 defs₀ Variants.none m main hostStretches
    ⟨hostOps0_sub, hostOps0_1_sub, hostOps0_2_sub, hostOps0_3_sub⟩
    ⟨by repeat' constructor, by repeat' constructor, by repeat' constructor, by repeat' constructor⟩
    (fun c => (main_chain c).trans rfl)

/-- The contents of the tables of each pipeline. -/
def allTables (m : (ℓ : Loc nD τ sig) → Buf (Elt F) ℓ) : (p : Fin 1) → (pcfgs (F := F) p).Adm := fun _ => tables m

set_option backward.isDefEq.respectTransparency.types false in
/-- The launch runs to its end: the result's array as the write-backs leave it, every other buffer as the pipeline found it. -/
theorem run_kernel (hw : WordsOk m) :
    θ_run (defs (F := F)) (onTc (τ := τ) (main (F := F))) (s₀ m ρ)
      (fun r => RDat.FramePost (cfg0 (tables m)) (dat hw) (V m) r ∧ r.2.sem = fun _ => 0) :=
  RDat.θ_run_frameP_dma (Q' := _) pcfgs (allTables m) (0 : Fin 1) launch0 bodySems defs₀ Variants.none (dat hw) bodySems_own
    copied copied_sub m ρ main (hbody := body_point hw) (hshare := fun c w => by fin_cases w <;> rfl)
    (howed := fun _ _ => rfl) (V := V m) (hmain := launch_main m) (hA := fun _ _ => rfl)
    (hpf := fun c k => by obtain rfl : c = 0 := Subsingleton.elim _ _; rfl)
    (hin := inv_start hw) (hout := fun c => inv_end hw c _)

end Cert.Kernel
-- ==== Proof.HostOps.lean ====
/- What the operations before the pipeline leave: the arguments as they were, both tables transposed, the bias padded,
and the counts: for each word one row of 128 lanes, with a one at the word's own lane. -/
module

public import proofs.«01_k».proof.Proof.Region
public import Idealize.ShloMosaic.Lib.StableHlo.Run
public import Idealize.ShloMosaic.Lib.Claim

@[expose] public section

noncomputable section

namespace Cert.Kernel

open Idealize.ShloMosaic Idealize.ShloMosaic.TcCoe Idealize.ShloMosaic.Tactic
open Idealize.SL.Sem
open Cert.Kernel.Gen

variable {F : FTy → Type} [FloatOps F]

variable (m : (ℓ : Loc nD τ sig) → Buf (Elt F) ℓ) (c : Dev nD)

theorem V_words : V m c main_arg0 = m (c, main_arg0) := by
  unfold V; simp only [List.flatten_cons, List.flatten_nil, List.cons_append, List.nil_append]; after_results_simp
theorem V_table : V m c main_arg1 = m (c, main_arg1) := by
  unfold V; simp only [List.flatten_cons, List.flatten_nil, List.cons_append, List.nil_append]; after_results_simp
theorem V_weight : V m c main_arg2 = m (c, main_arg2) := by
  unfold V; simp only [List.flatten_cons, List.flatten_nil, List.cons_append, List.nil_append]; after_results_simp
theorem V_bias : V m c main_arg3 = m (c, main_arg3) := by
  unfold V; simp only [List.flatten_cons, List.flatten_nil, List.cons_append, List.nil_append]; after_results_simp

/-- The embedding table, transposed. -/
theorem V_emb : V m c main_v15
    = transpose S64x1000000 [1, 0] (m (c, main_arg1) : Vec F S1000000x64 .f32) Facts₀.transposes_S1000000x64_S64x1000000_1_0 := by
  unfold V; simp only [List.flatten_cons, List.flatten_nil, List.cons_append, List.nil_append]; after_results_simp
/-- The weights, transposed. -/
theorem V_weights : V m c main_v16
    = transpose S64x1000000 [1, 0] (m (c, main_arg2) : Vec F S1000000x64 .f32) Facts₀.transposes_S1000000x64_S64x1000000_1_0 := by
  unfold V; simp only [List.flatten_cons, List.flatten_nil, List.cons_append, List.nil_append]; after_results_simp

/-- The bias, followed by 15 808 zeros. -/
theorem V_pad : V m c main_v17
    = pad S1015808 ![0] ![15808] ![0] (m (c, main_arg3) : Vec F S1000000 .f32) (sitofp .f32 (constantI S_ 32 0#32))
        Facts₀.pads_S1000000_S1015808_0158080 Facts₀.h_S_ := by
  unfold V; simp only [List.flatten_cons, List.flatten_nil, List.cons_append, List.nil_append]; after_results_simp
  rfl

/-- One 32-bit number at every one of the 200 positions. -/
abbrev splat200 (v : IVec S_ 32) : IVec S200 32 := broadcastInDim S200 ![] Facts₀.bcast_S_S200 v

/-- The divisor of the remainder: 128, unless it were zero. -/
def divisor : IVec S_ 32 := select (cmpi .eq (constantI S_ 32 128#32) (constantI S_ 32 0#32)) (constantI S_ 32 1#32) (constantI S_ 32 128#32)

/-- The truncated remainder of every word. -/
def truncRem (a : IVec S200 32) : IVec S200 32 := Host.remsi a (splat200 divisor)

/-- The remainder of every word, with the divisor's sign. -/
def floorRem (a : IVec S200 32) : IVec S200 32 :=
  select (andi (cmpi .ne (cmpi .slt (truncRem a) (splat200 (constantI S_ 32 0#32)))
        (broadcastInDim S200 ![] Facts₀.bcast_S_S200 (cmpi .slt divisor (constantI S_ 32 0#32))))
      (cmpi .ne (truncRem a) (splat200 (constantI S_ 32 0#32))))
    (addi (truncRem a) (splat200 divisor)) (truncRem a)

/-- The lane of every word's column among the gathered columns: 128 lanes to a word. -/
def lanes (a : IVec S200 32) : IVec S200 32 := addi (muli (iotaInDim S200 32 0) (splat200 (constantI S_ 32 128#32))) (floorRem a)

/-- The same, a negative lane wrapped around. -/
def lanesWrapped (a : IVec S200 32) : IVec S200 32 :=
  select (cmpi .slt (lanes a) (splat200 (constantI S_ 32 0#32))) (addi (lanes a) (splat200 (constantI S_ 32 25600#32))) (lanes a)

/-- One added at each word's lane of a vector of zeros. -/
def countsOf (a : IVec S200 32) : Vec F S25600 .f32 :=
  Host.scatterAdd scatter_S25600_S200x1_S200_n_0_0_1
    (broadcastInDim S25600 ![] Facts₀.bcast_S_S25600 (constant S_ .f32 0x00000000#32))
    (broadcastInDim S200x1 ![0] Facts₀.bcast_S200_S200x1_0 (lanesWrapped a))
    (broadcastInDim S200 ![] Facts₀.bcast_S_S200 (constant S_ .f32 0x3F800000#32))

/-- The counts. -/
theorem V_counts : V m c main_v14
    = shapeCast S1x25600 (countsOf (F := F) (m (c, main_arg0) : IVec S200 32)) Facts₀.shapeCasts_S25600_S1x25600 := by
  unfold V
  simp only [List.flatten_cons, List.flatten_nil, List.cons_append, List.nil_append]; after_results_simp
  rfl

end Cert.Kernel
-- ==== Proof.Range.lean ====
/- The precondition read: every word is below 999 936, so every block of columns the body fetches lies inside the table. -/
module

public import proofs.«01_k».proof.Proof.State
public import proofs.«01_k».proof.Proof.HostOps
public import proofs.«01_k».proof.Proof.Gen.Pre_words_in_range
public import Idealize.ShloMosaic.Lib.ReduceAll
public import Idealize.ShloMosaic.Lib.Affine

@[expose] public section

noncomputable section

namespace Cert.Kernel

open Idealize.ShloMosaic Idealize.ShloMosaic.TcCoe
open Cert.Kernel.Gen

variable {F : FTy → Type} [FloatOps F]

instance : Subsingleton (Cert.Pre_words_in_range.S_).Idx := ⟨fun a b => funext fun k => k.elim0⟩

/-- The precondition, word by word. -/
theorem word_below (a0 : IVec Cert.Pre_words_in_range.S200 32) (a1 a2 : FVec F Cert.Pre_words_in_range.S1000000x64 .f32)
    (a3 : FVec F Cert.Pre_words_in_range.S1000000 .f32)
    (h : Cert.Pre_words_in_range.fn (F := F) a0 a1 a2 a3 = fun _ => 1#1) (k : Cert.Pre_words_in_range.S200.Idx) :
    (a0 k).toNat < 999936 := by
  have h0 := congrFun h (fun a => a.elim0)
  dsimp only [Cert.Pre_words_in_range.fn] at h0
  have hk := Host.reduce_andi_all _ _ _ _ _ h0 k
  have hk' : IntOp.andi (IntOp.cmpi .sge (a0 k) 0#32) (IntOp.cmpi .slt (a0 k) 999936#32) = 1#1 := hk
  rw [IntOp.andi_eq_one, IntOp.cmpi_sge, IntOp.cmpi_slt] at hk'
  obtain ⟨h1, h2⟩ := hk'
  rw [show (0#32 : BitVec 32).toInt = 0 by decide] at h1
  rw [show (999936#32 : BitVec 32).toInt = 999936 by decide] at h2
  have h3 := BitVec.toInt_eq_toNat_cond (a0 k)
  have h4 := (a0 k).isLt
  split at h3 <;> omega

/-- The index of entry `j` of the table. -/
abbrev wordIdx (j : Nat) (hj : j < 200) : S200.Idx := fun | ⟨0, _⟩ => ⟨j, hj⟩

variable (m : (ℓ : Loc nD τ sig) → Buf (Elt F) ℓ)

/-- Word `j` is the argument's entry `j`. -/
theorem wordAt_eq (c : Dev nD) (j : Nat) (hj : j < 200) :
    wordAt m c j = (m (c, main_arg0) : IVec S200 32) (wordIdx j hj) := by
  unfold wordAt; rw [dif_pos hj, V_words]
  show (m (c, main_arg0) : IVec S200 32) _ = _
  congr 1
  funext a
  match a with
  | ⟨0, _⟩ => apply Fin.ext; show j + 1 * 0 = j; omega

theorem words_ok (h : ∀ c : Dev nD, Cert.Pre_words_in_range.fn (F := F) (m (c, main_arg0)) (m (c, main_arg1)) (m (c, main_arg2))
    (m (c, main_arg3)) = fun _ => 1#1) : WordsOk m := by
  intro c j
  by_cases hj : j < 200
  · rw [wordAt_eq m c j hj]; exact word_below _ _ _ _ (h c) (wordIdx j hj)
  · unfold wordAt; rw [dif_neg hj]; decide

end Cert.Kernel
-- ==== Proof.Frames.lean ====
/- The kernel's frame at any float instance: from words in range it runs to its end, its arguments as they were and its
   semaphores at zero. -/
module

public import proofs.«01_k».proof.Proof.Run
public import proofs.«01_k».proof.Proof.Range

@[expose] public section

noncomputable section

namespace Cert.Kernel

open Idealize.ShloMosaic Idealize.ShloMosaic.TcCoe
open Idealize.SL.Sem
open Cert.Kernel.Gen
open Idealize.ShloMosaic.Pipeline (RDat)

variable {F : FTy → Type} [FloatOps F]

/-- An argument is as it was at the end of the launch. -/
theorem args_kept {m : (ℓ : Loc nD τ sig) → Buf (Elt F) ℓ} {hw : WordsOk m} {r : PUnit × MemSt nD τ sig (Elt F)}
    (h : RDat.FramePost (cfg0 (tables m)) (dat hw) (V m) r) (c : Dev nD) :
    r.2.mem (c, main_arg0) = m (c, main_arg0) ∧ r.2.mem (c, main_arg1) = m (c, main_arg1)
      ∧ r.2.mem (c, main_arg2) = m (c, main_arg2) ∧ r.2.mem (c, main_arg3) = m (c, main_arg3) :=
  ⟨((h c).2 main_arg0 (Pipeline.mem_restRefs_of main_arg0 (by decide) (show ∀ w : Fin 3, (spec0 w).arr.view.ref ≠ main_arg0 by decide))).trans (V_words m c),
    ((h c).2 main_arg1 (Pipeline.mem_restRefs_of main_arg1 (by decide) (show ∀ w : Fin 3, (spec0 w).arr.view.ref ≠ main_arg1 by decide))).trans (V_table m c),
    ((h c).2 main_arg2 (Pipeline.mem_restRefs_of main_arg2 (by decide) (show ∀ w : Fin 3, (spec0 w).arr.view.ref ≠ main_arg2 by decide))).trans (V_weight m c),
    ((h c).2 main_arg3 (Pipeline.mem_restRefs_of main_arg3 (by decide) (show ∀ w : Fin 3, (spec0 w).arr.view.ref ≠ main_arg3 by decide))).trans (V_bias m c)⟩

/-- The kernel's frame. -/
theorem frame_any (m : (ℓ : Loc nD τ sig) → Buf (Elt F) ℓ) (ρ : Dev nD → PrngReg)
    (h : ∀ c : Dev nD, Cert.Pre_words_in_range.fn (F := F) (m (c, main_arg0)) (m (c, main_arg1)) (m (c, main_arg2))
      (m (c, main_arg3)) = fun _ => 1#1) :
    θ_run (defs (F := F)) (onTc (τ := τ) (main (F := F))) ⟨m, fun _ => 0, ρ⟩ (fun r => (∀ c : Dev nD,
      r.2.mem (c, main_arg0) = m (c, main_arg0) ∧ r.2.mem (c, main_arg1) = m (c, main_arg1)
        ∧ r.2.mem (c, main_arg2) = m (c, main_arg2) ∧ r.2.mem (c, main_arg3) = m (c, main_arg3)) ∧ r.2.sem = fun _ => 0) :=
  (θ_run defs _ _).mono (fun _ hr => ⟨args_kept hr.1, hr.2⟩) (run_kernel ρ (words_ok m h))

end Cert.Kernel
-- ==== Proof.Transfer.lean ====
/- The idealized kernel is the kernel's own text, so what is proved of the kernel at exact numbers is proved of it. -/
module

public import proofs.«01_k».proof.Defs
public import proofs.«01_k».proof.Proof.Frames
public import proofs.«01_k».proof.Proof.Gen.KernelIdeal
public import Idealize.ShloMosaic.Lib.Pipeline.Regions

@[expose] public section

noncomputable section

namespace Cert

open Idealize.ShloMosaic Idealize.ShloMosaic.TcCoe Idealize.SL.Sem Cert.Kernel

/-- The frame of the kernel at exact numbers. -/
def FrameExact : Prop :=
  ∀ (m : (ℓ : Loc nD τ sig) → Buf (Elt Ideal) ℓ) (g : Dev nD → PrngReg),
    (∀ c : Dev nD, Cert.Pre_words_in_range.fn (F := Ideal) (m ((c.tc : Thread nD τ).loc main_arg0)) (m ((c.tc : Thread nD τ).loc main_arg1))
      (m ((c.tc : Thread nD τ).loc main_arg2)) (m ((c.tc : Thread nD τ).loc main_arg3)) = (fun _ => 1#1)) →
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

set_option maxRecDepth 1000000 in
theorem frameExact_eq : FrameExact = @quiescent_KernelIdeal Cert.KernelIdeal.Gen.facts Cert.Pre_words_in_range.Gen.facts := by chain_rfl

theorem frame_kernel : @quiescent_Kernel Cert.Kernel.Gen.facts Cert.Pre_words_in_range.Gen.facts :=
  fun m g h => frame_any m g h

theorem frame_ideal : @quiescent_KernelIdeal Cert.KernelIdeal.Gen.facts Cert.Pre_words_in_range.Gen.facts :=
  frameExact_eq ▸ fun m g h => frame_any m g h

end Cert
-- ==== Proof.Blocks.lean ====
/- The windows' blocks, element by element: the counts whole, the weights and the result 32 768 lanes to a point, from the
   second point on, the last block cut at the array's end. -/
module

public import proofs.«01_k».proof.Proof.State
public import Idealize.ShloMosaic.Lib.Pointwise

@[expose] public section

noncomputable section

namespace Cert.Kernel

open Idealize.ShloMosaic Idealize.ShloMosaic.TcCoe
open Cert.Kernel.Gen

variable {F : FTy → Type} [FloatOps F]
variable (m : (ℓ : Loc nD τ sig) → Buf (Elt F) ℓ) (c : Dev nD)

theorem counts_index : (win0 noTables 0).index (0 : Fin 32) 0 = 0 ∧ (win0 noTables 0).index (0 : Fin 32) 1 = 0
    ∧ (win0 noTables 0).xsize (grid0.coords (0 : Fin 32)) 0 = 1 ∧ (win0 noTables 0).xsize (grid0.coords (0 : Fin 32)) 1 = 25600 := by
  decide +kernel

/-- Window `w`'s blocks have `h` rows, and 32 768 lanes but for those past the array's end. -/
abbrev BlocksOf (w : Fin 3) (r0 r1 : Fin (win0 noTables w).shape.rank) (h : Nat) : Prop := ∀ t : Fin 32, t.val ≠ 0 →
  (win0 noTables w).index t r0 = 0 ∧ (win0 noTables w).index t r1 = t.val - 1
    ∧ (win0 noTables w).xsize (grid0.coords t) r0 = h
    ∧ (win0 noTables w).xsize (grid0.coords t) r1 = min 32768 (1000000 - 32768 * (t.val - 1))

theorem weights_blocks : BlocksOf 1 (0 : Fin 2) (1 : Fin 2) 64 := by unfold BlocksOf; decide +kernel
theorem result_blocks : BlocksOf 2 (0 : Fin 2) (1 : Fin 2) 1 := by unfold BlocksOf; decide +kernel

/-- The counts found are all of the counts. -/
theorem countsAt_at (d : Vec F S1x25600 .f32) (l : Fin 25600) :
    countsAt m c d (ix2 0 l) = (V m c main_v14 : Vec F S1x25600 .f32) (ix2 0 l) := by
  obtain ⟨h0, h1, hx0, hx1⟩ := counts_index
  unfold countsAt Pipeline.Window.fill
  rw [dif_pos (((win0 (tables m) 0).moved_iff _ _).2 fun a => by
    match a with
    | ⟨0, _⟩ => show 0 < (win0 noTables 0).xsize (grid0.coords (0 : Fin 32)) 0; omega
    | ⟨1, _⟩ => show l.val < (win0 noTables 0).xsize (grid0.coords (0 : Fin 32)) 1; have := l.isLt; omega)]
  rw [View.read_apply]
  show (V m c main_v14 : Vec F S1x25600 .f32) _ = _
  congr 1
  funext a
  apply Fin.ext
  match a with
  | ⟨0, _⟩ => show (win0 noTables 0).index (0 : Fin 32) 0 * 1 + 1 * 0 = 0; omega
  | ⟨1, _⟩ => show (win0 noTables 0).index (0 : Fin 32) 1 * 25600 + 1 * l.val = l.val; omega

/-- The weights found at point `t`, at a lane inside the array. -/
theorem weightsAt_at (t : Fin 32) (ht : t.val ≠ 0) (d : Vec F S64x32768 .f32) (e : Fin 64) (l : Fin 32768)
    (hv : 32768 * (t.val - 1) + l.val < 1000000) :
    weightsAt m c t d (ix2 e l) = (V m c main_v16 : Vec F S64x1000000 .f32) (ix2 e ⟨32768 * (t.val - 1) + l.val, hv⟩) := by
  obtain ⟨h0, h1, hx0, hx1⟩ := weights_blocks t ht
  unfold weightsAt Pipeline.Window.fill
  rw [dif_pos (((win0 (tables m) 1).moved_iff _ _).2 fun a => by
    match a with
    | ⟨0, _⟩ => show e.val < (win0 noTables 1).xsize (grid0.coords t) 0; exact lt_of_lt_of_eq e.isLt hx0.symm
    | ⟨1, _⟩ => show l.val < (win0 noTables 1).xsize (grid0.coords t) 1; have := l.isLt; refine lt_of_lt_of_eq ?_ hx1.symm; omega)]
  rw [View.read_apply]
  show (V m c main_v16 : Vec F S64x1000000 .f32) _ = _
  congr 1
  funext a
  apply Fin.ext
  match a with
  | ⟨0, _⟩ => show (win0 noTables 1).index t 0 * 64 + 1 * e.val = e.val; refine (congrArg (· * 64 + 1 * e.val) h0).trans ?_; omega
  | ⟨1, _⟩ =>
    show (win0 noTables 1).index t 1 * 32768 + 1 * l.val = 32768 * (t.val - 1) + l.val
    refine (congrArg (· * 32768 + 1 * l.val) h1).trans ?_; omega

end Cert.Kernel
-- ==== Proof.Columns.lean ====
/- The gathered columns, element by element: at word `j`'s lane stands the column of the table that the word names. -/
module

public import proofs.«01_k».proof.Proof.State
public import Idealize.ShloMosaic.Lib.Pointwise

@[expose] public section

noncomputable section

namespace Cert.Kernel

open Idealize.ShloMosaic Idealize.ShloMosaic.TcCoe
open Cert.Kernel.Gen

variable {F : FTy → Type} [FloatOps F]
variable {m : (ℓ : Loc nD τ sig) → Buf (Elt F) ℓ} (hw : WordsOk m) (c : Dev nD)

/-- Lane `r` of piece `j` holds lane `r` of the block that word `j` names. -/
theorem gathered_at {fe : Vec F S64x1000000 .f32} {g : Vec F S64x25600 .f32}
    (hG : Gathered c first first_cond1 embM colsM (words hw c first) fe g) (j : Fin 200) (e : Fin 64) (r : Fin 128)
    (hl : 128 * j.val + r.val < 25600) (hv : (wordAt m c j).toNat / 128 * 128 + r.val < 1000000) :
    g (ix2 e ⟨128 * j.val + r.val, hl⟩) = fe (ix2 e ⟨(wordAt m c j).toNat / 128 * 128 + r.val, hv⟩) := by
  have h := congrFun (hG j) (ix2 e r)
  rw [View.read_apply, View.read_apply] at h
  have hoff := off_eq (wordAt m c j) (hw c j)
  have hd : (dstPiece colsM j j.2).view.emb (ix2 e r) = (ix2 e ⟨128 * j.val + r.val, hl⟩ : S64x25600.Idx) := by
    funext a
    apply Fin.ext
    match a with
    | ⟨0, _⟩ => show 0 + 1 * e.val = e.val; omega
    | ⟨1, _⟩ => show 128 * j.val + 1 * r.val = 128 * j.val + r.val; omega
  have hs : (srcBlock first first_cond1 embM (words hw c first j)).view.emb (ix2 e r)
      = (ix2 e ⟨(wordAt m c j).toNat / 128 * 128 + r.val, hv⟩ : S64x1000000.Idx) := by
    funext a
    apply Fin.ext
    match a with
    | ⟨0, _⟩ => show k0_off1 (wordAt m c j) 0 + 1 * e.val = e.val; rw [hoff]; show 0 + 1 * e.val = e.val; omega
    | ⟨1, _⟩ =>
      show k0_off1 (wordAt m c j) 1 + 1 * r.val = _
      rw [hoff]; show (wordAt m c j).toNat / 128 * 128 + 1 * r.val = (wordAt m c j).toNat / 128 * 128 + r.val; omega
  rw [hd, hs] at h
  exact h

end Cert.Kernel
-- ==== Proof.Lanes.lean ====
/- The lane of each word's column among the gathered columns, as a number: word `j` is at lane `128 j` plus the word's
   remainder by 128. -/
module

public import proofs.«01_k».proof.Proof.HostOps
public import Idealize.ShloMosaic.Lib.Pointwise
public import Idealize.ShloMosaic.Lib.Affine
public import Idealize.ShloMosaic.Lib.Routing.OpsPair

@[expose] public section

noncomputable section

namespace Cert.Kernel

open Idealize.ShloMosaic Idealize.ShloMosaic.TcCoe
open Cert.Kernel.Gen

theorem divisor_eq (k : S_.Idx) : divisor k = 128#32 := by
  show Scalar.select (IntOp.cmpi .eq 128#32 0#32) 1#32 128#32 = 128#32
  decide

variable (a : IVec S200 32) (j : Fin 200)

theorem truncRem_at (h : (a (ix1 j)).toNat < 2 ^ 31) : (truncRem a (ix1 j)).toNat = (a (ix1 j)).toNat % 128 := by
  have e : truncRem a (ix1 j) = IntOp.remsi .host (a (ix1 j)) 128#32 := by
    unfold truncRem splat200; pointwise; rw [divisor_eq]
  rw [e]
  exact IntOp.toNat_remsi .host (by omega) 128 (by decide) (by decide)

/-- No remainder is negative, so none is corrected. -/
theorem floorRem_at (h : (a (ix1 j)).toNat < 2 ^ 31) : floorRem a (ix1 j) = truncRem a (ix1 j) := by
  have hr := truncRem_at a j h
  have hs : IntOp.cmpi .slt (truncRem a (ix1 j)) 0#32 = 0#1 := by
    rw [WordCmp.cmpi_slt_of_lt (by omega) (by decide)]; rfl
  unfold floorRem splat200; pointwise
  rw [divisor_eq, hs, show IntOp.cmpi .slt 128#32 0#32 = 0#1 by decide, show IntOp.cmpi .ne 0#1 0#1 = 0#1 by decide]
  show Scalar.select (IntOp.andi 0#1 _) _ _ = _
  rw [show ∀ b : BitVec 1, IntOp.andi 0#1 b = 0#1 by decide]
  rfl

theorem lanes_at (h : (a (ix1 j)).toNat < 2 ^ 31) : (lanes a (ix1 j)).toNat = 128 * j.val + (a (ix1 j)).toNat % 128 := by
  have hr := truncRem_at a j h
  have hj := j.isLt
  have e : lanes a (ix1 j) = BitVec.ofNat 32 j.val * 128#32 + truncRem a (ix1 j) := by
    unfold lanes splat200; pointwise; rw [floorRem_at a j h]; rfl
  rw [e, BitVec.toNat_add, BitVec.toNat_mul, hr, BitVec.toNat_ofNat, show (128#32 : BitVec 32).toNat = 128 by decide]
  omega

/-- No lane is negative, so none is wrapped. -/
theorem lanesWrapped_at (h : (a (ix1 j)).toNat < 2 ^ 31) :
    (lanesWrapped a (ix1 j)).toNat = 128 * j.val + (a (ix1 j)).toNat % 128 := by
  have hl := lanes_at a j h
  have hj := j.isLt
  have e : lanesWrapped a (ix1 j) = lanes a (ix1 j) := by
    unfold lanesWrapped splat200; pointwise
    exact Routing.wrap_of_lt _ _ (by show _ < 2147483648; omega)
  rw [e, hl]

end Cert.Kernel
-- ==== Proof.Counts.lean ====
/- The counts in exact arithmetic: at each lane, the number of words whose column lies there. -/
module

public import proofs.«01_k».proof.Proof.Lanes

@[expose] public section

noncomputable section

namespace Cert.Kernel

open Idealize.ShloMosaic Idealize.ShloMosaic.TcCoe
open Cert.Kernel.Gen

/-- The lane of word `j`'s column. -/
def laneOf (a : IVec S200 32) (j : Fin 200) : Nat := 128 * j.val + (a (ix1 j)).toNat % 128

theorem laneOf_lt (a : IVec S200 32) (j : Fin 200) : laneOf a j < 25600 := by
  have := j.isLt; unfold laneOf; omega

/-- Update `j` of the scatter lands at lane `l` exactly when its index, read signed, is `l`. -/
theorem update_lands (idx : IVec S200x1 32) (j : Fin 200) (l : Fin 25600) :
    scatter_S25600_S200x1_S200_n_0_0_1.resultIdx? (ix1 j) idx = some (ix1 l) ↔ (idx (ix2 j 0)).toInt = (l.val : Int) := by
  rw [Routing.resultIdx?_eq_some]
  have hs : scatter_S25600_S200x1_S200_n_0_0_1.start (ix1 j) idx 0 = (idx (ix2 j 0)).toInt := by
    unfold ScatterDims.start
    rw [dif_pos (by decide)]
    congr 2
    funext b
    match b with
    | ⟨0, _⟩ => rfl
    | ⟨1, _⟩ => rfl
  have hw : scatter_S25600_S200x1_S200_n_0_0_1.window (ix1 j) 0 = 0 := rfl
  constructor
  · intro h
    have := h 0
    rw [hs, hw] at this
    simpa using this
  · intro h a
    match a with
    | ⟨0, _⟩ =>
      show scatter_S25600_S200x1_S200_n_0_0_1.start (ix1 j) idx 0 + (scatter_S25600_S200x1_S200_n_0_0_1.window (ix1 j) 0 : Int) = (l.val : Int)
      rw [hs, hw, h]; simp

/-- The counts, lane by lane. -/
theorem countsOf_at (a : IVec S200 32) (h : ∀ j : Fin 200, (a (ix1 j)).toNat < 2 ^ 31) (l : Fin 25600) :
    countsOf (F := Ideal) a (ix1 l) = ∑ j : Fin 200, if laneOf a j = l.val then (1 : EReal) else 0 := by
  unfold countsOf
  show Ideal.hostScatterAdd _ _ _ _ _ = _
  unfold Ideal.hostScatterAdd
  have hz : (broadcastInDim S25600 ![] Facts₀.bcast_S_S25600 (constant (F := Ideal) S_ .f32 0x00000000#32)) (ix1 l) = (0 : EReal) := by
    pointwise
  rw [hz, zero_add, Finset.sum_filter, sum_idx1]
  refine Finset.sum_congr rfl fun j _ => ?_
  have ho : (broadcastInDim S200 ![] Facts₀.bcast_S_S200 (constant (F := Ideal) S_ .f32 0x3F800000#32)) (ix1 j) = (1 : EReal) := by
    pointwise
  have hi : (broadcastInDim S200x1 ![0] Facts₀.bcast_S200_S200x1_0 (lanesWrapped a)) (ix2 j 0) = lanesWrapped a (ix1 j) := by
    pointwise
  rw [ho]
  refine if_congr ?_ rfl rfl
  rw [update_lands, hi]
  have hl := lanesWrapped_at a j (h j)
  have hj := j.isLt
  rw [WordCmp.toInt_eq_toNat_of_lt_half (by show _ < 2147483648; omega), hl]
  unfold laneOf
  omega

end Cert.Kernel
-- ==== Proof.Sum.lean ====
/- The sum the first point forms, in exact arithmetic: the counts times the gathered columns is the sum, over the 200 words, of
   the table's row that the word names. -/
module

public import proofs.«01_k».proof.Proof.Blocks
public import proofs.«01_k».proof.Proof.Columns
public import proofs.«01_k».proof.Proof.Counts
public import proofs.«01_k».proof.Proof.Range

@[expose] public section

noncomputable section

namespace Cert.Kernel

open Idealize.ShloMosaic Idealize.ShloMosaic.TcCoe
open Cert.Kernel.Gen

/-- A count times a number is that number, once for each thing counted. -/
theorem count_mul {k : Nat} (p : Fin k → Prop) [DecidablePred p] (x : EReal) :
    (∑ j, if p j then (1 : EReal) else 0) * x = ∑ j, if p j then x else 0 := by
  suffices h : ∀ S : Finset (Fin k), 0 ≤ (∑ j ∈ S, if p j then (1 : EReal) else 0)
      ∧ (∑ j ∈ S, if p j then (1 : EReal) else 0) * x = ∑ j ∈ S, if p j then x else 0 from (h _).2
  intro S
  induction S using Finset.induction_on with
  | empty => simp
  | insert j S hj ih =>
    have h1 : (0 : EReal) ≤ if p j then 1 else 0 := by split <;> simp
    rw [Finset.sum_insert hj, Finset.sum_insert hj]
    refine ⟨add_nonneg h1 ih.1, ?_⟩
    rw [EReal.right_distrib_of_nonneg h1 ih.1, ih.2]
    split <;> simp

/-- A sum weighted by how often each place is picked is the sum over the picks. -/
theorem sum_picked {n k : Nat} (p : Fin k → Nat) (hp : ∀ j, p j < n) (x : Fin n → EReal) :
    ∑ l : Fin n, (∑ j, if p j = l.val then (1 : EReal) else 0) * x l = ∑ j, x ⟨p j, hp j⟩ := by
  simp only [count_mul]
  rw [Finset.sum_comm]
  refine Finset.sum_congr rfl fun j _ => ?_
  rw [Finset.sum_eq_single ⟨p j, hp j⟩ (fun l _ hl => if_neg fun e => hl (Fin.ext e.symm)) (fun h => absurd (Finset.mem_univ _) h)]
  exact if_pos rfl

/-- The product of the counts with the columns, at one entry. -/
theorem countsTimes_at (u : Vec Ideal S1x25600 .f32) (g : Vec Ideal S64x25600 .f32) (e : Fin 64) :
    countsTimes u g (ix2 0 e) = ∑ l : Fin 25600, u (ix2 0 l) * g (ix2 e l) := by
  unfold countsTimes
  pointwise

variable (m : (ℓ : Loc nD τ sig) → Buf (Elt Ideal) ℓ) (c : Dev nD)

/-- The table's entry at row `v` and column `e`. -/
def tableAt (v : Fin 1000000) (e : Fin 64) : EReal := (m (c, main_arg1) : Vec Ideal S1000000x64 .f32) (ix2 v e)

/-- Word `j` of the argument. -/
theorem word_at (j : Fin 200) : (m (c, main_arg0) : IVec S200 32) (ix1 j) = wordAt m c j := by
  rw [wordAt_eq m c j j.2]; congr 1
  funext a
  match a with
  | ⟨0, _⟩ => rfl

variable {m} (hw : WordsOk m)

/-- The row of the table that word `j` names. -/
def rowOf (j : Fin 200) : Fin 1000000 := ⟨(wordAt m c j).toNat, by have := hw c j; omega⟩

/-- The sum of the rows that the words name. -/
theorem sum_at {s : Vec Ideal S1x64 .f32} (hs : IsSum hw c s) (e : Fin 64) :
    s (ix2 0 e) = ∑ j : Fin 200, tableAt m c (rowOf c hw j) e := by
  obtain ⟨g, d, hG, rfl⟩ := hs
  have hlt (j : Fin 200) : ((m (c, main_arg0) : IVec S200 32) (ix1 j)).toNat < 2 ^ 31 := by
    rw [word_at m c j]; have := hw c j; omega
  have hu (l : Fin 25600) : countsAt m c d (ix2 0 l)
      = ∑ j : Fin 200, if laneOf (m (c, main_arg0) : IVec S200 32) j = l.val then (1 : EReal) else 0 := by
    rw [countsAt_at, V_counts, ← countsOf_at _ hlt]
    pointwise
  rw [countsTimes_at]
  simp only [hu]
  rw [sum_picked _ (laneOf_lt _)]
  refine Finset.sum_congr rfl fun j _ => ?_
  have hj := hw c j
  have := gathered_at hw c hG j e ⟨(wordAt m c j).toNat % 128, by omega⟩ (by have := j.isLt; dsimp only; omega) (by dsimp only; omega)
  have hl : (⟨laneOf (m (c, main_arg0) : IVec S200 32) j, laneOf_lt _ j⟩ : Fin 25600)
      = ⟨128 * j.val + (wordAt m c j).toNat % 128, by have := j.isLt; omega⟩ := by
    apply Fin.ext; show laneOf _ j = _; unfold laneOf; rw [word_at m c j]
  rw [hl]
  refine this.trans ?_
  rw [V_emb]
  pointwise
  congr 2
  apply Fin.ext
  show (wordAt m c j).toNat / 128 * 128 + (wordAt m c j).toNat % 128 = (wordAt m c j).toNat
  omega

end Cert.Kernel
-- ==== Proof.Block.lean ====
/- The result in exact arithmetic: at every lane the inner product of the words' sum with the lane's weights, plus the lane's
   bias; and the block that each point leaves, which holds it wherever the block lies inside the array. -/
module

public import proofs.«01_k».proof.Proof.Sum

@[expose] public section

noncomputable section

namespace Cert.Kernel

open Idealize.ShloMosaic Idealize.ShloMosaic.TcCoe
open Cert.Kernel.Gen

theorem bias_offset : ∀ t : Fin 32, t.val ≠ 0 → k0_off201 (grid0.coords t) 0 = 32768 * (t.val - 1) := by decide +kernel

/-- The padded vector, at a lane of the vector itself. -/
theorem pad_at (x : Vec Ideal S1000000 .f32) (z : Vec Ideal S_ .f32) (v : Fin 1000000) (hv : v.val < 1015808) :
    pad S1015808 ![0] ![15808] ![0] x z Facts₀.pads_S1000000_S1015808_0158080 Facts₀.h_S_ (ix1 ⟨v.val, hv⟩) = x (ix1 v) := by
  pointwise

variable (m : (ℓ : Loc nD τ sig) → Buf (Elt Ideal) ℓ) (c : Dev nD)

/-- The weight of row `v` and column `e`. -/
def weightOf (v : Fin 1000000) (e : Fin 64) : EReal := (m (c, main_arg2) : Vec Ideal S1000000x64 .f32) (ix2 v e)

/-- The bias of row `v`. -/
def biasOf (v : Fin 1000000) : EReal := (m (c, main_arg3) : Vec Ideal S1000000 .f32) (ix1 v)

/-- The biases read at point `t`, at a lane inside the array. -/
theorem biasBlock_at (t : Fin 32) (ht : t.val ≠ 0) (h2 : k0_cond2 (grid0.coords t) = 1#1) (l : Fin 32768)
    (hv : 32768 * (t.val - 1) + l.val < 1000000) :
    biasBlock (grid0.coords t) h2 (V m c main_v17) (ix1 l) = biasOf m c ⟨32768 * (t.val - 1) + l.val, hv⟩ := by
  have hoff := bias_offset t ht
  unfold biasBlock
  rw [View.read_apply]
  have he : (biasM.access (Rect.unit (s := S1015808) (k0_off201 (grid0.coords t)) S32768.size (k0_off201_inb _ h2))).emb (ix1 l)
      = (ix1 ⟨32768 * (t.val - 1) + l.val, by omega⟩ : S1015808.Idx) := by
    funext a
    apply Fin.ext
    match a with
    | ⟨0, _⟩ =>
      show k0_off201 (grid0.coords t) 0 + 1 * l.val = 32768 * (t.val - 1) + l.val
      rw [hoff]; omega
  rw [he, V_pad]
  exact (cast_eq _ _).trans (pad_at (m (c, main_arg3)) _ ⟨32768 * (t.val - 1) + l.val, hv⟩ (by dsimp only; omega))

variable {m} (hw : WordsOk m)

/-- The result at lane `v`. -/
def resultAt (v : Fin 1000000) : EReal :=
  (∑ e : Fin 64, (∑ j : Fin 200, tableAt m c (rowOf c hw j) e) * weightOf m c v e) + biasOf m c v

/-- A block of the result, at one lane. -/
theorem resultBlock_at (s : Vec Ideal S1x64 .f32) (w : Vec Ideal S64x32768 .f32) (b : Vec Ideal S32768 .f32) (l : Fin 32768) :
    resultBlock s w b (ix2 0 l) = (∑ e : Fin 64, s (ix2 0 e) * w (ix2 e l)) + b (ix1 l) := by
  unfold resultBlock
  pointwise

/-- The block that point `t` leaves holds the result, inside the array. -/
theorem block_at (t : Fin 32) (ht : t.val ≠ 0) {X : Vec Ideal S1x32768 .f32} (hX : IsBlock hw c t X) (l : Fin 32768)
    (hv : 32768 * (t.val - 1) + l.val < 1000000) :
    X (ix2 0 l) = resultAt c hw ⟨32768 * (t.val - 1) + l.val, hv⟩ := by
  obtain ⟨s, d, h2, hs, rfl⟩ := hX
  rw [resultBlock_at, biasBlock_at m c t ht h2 l hv]
  unfold resultAt
  congr 1
  refine Finset.sum_congr rfl fun e _ => ?_
  rw [sum_at c hw hs e, weightsAt_at m c t ht d e l hv, V_weights]
  congr 1
  unfold weightOf
  pointwise

end Cert.Kernel
-- ==== Proof.Result.lean ====
/- What the launch leaves: the points from the second on write the result block after block, so after the last every lane of it
   is written. -/
module

public import proofs.«01_k».proof.Proof.Block
public import proofs.«01_k».proof.Proof.Frames

@[expose] public section

noncomputable section

namespace Cert.Kernel

open Idealize.ShloMosaic Idealize.ShloMosaic.TcCoe
open Idealize.SL.Sem
open Cert.Kernel.Gen
open Idealize.ShloMosaic.Pipeline (RDat)

variable {m : (ℓ : Loc nD τ sig) → Buf (Elt Ideal) ℓ} (c : Dev nD) (hw : WordsOk m)

/-- The lanes below `n` hold the result. -/
def DoneTo (n : Nat) (G : Vec Ideal S1x1000000 .f32) : Prop := ∀ v : Fin 1000000, v.val < n → G (ix2 0 v) = resultAt c hw v

/-- One block more. -/
theorem done_step (t : Fin 32) (ht : t.val ≠ 0) {G₀ : Vec Ideal S1x1000000 .f32} {X : Vec Ideal S1x32768 .f32}
    (hG : DoneTo c hw (32768 * (t.val - 1)) G₀) (hX : IsBlock hw c t X) :
    DoneTo c hw (32768 * t.val) (((win0 (tables m) 2).blk t).view.write (Elt Ideal) G₀
      ((win0 (tables m) 2).cut (grid0.coords t) X) Finset.univ) := by
  obtain ⟨h0, h1, hx0, hx1⟩ := result_blocks t ht
  have hlt := t.isLt
  have hemb (y : ((win0 (tables m) 2).xblock (grid0.coords t)).Idx) :
      (((win0 (tables m) 2).blk t).view.emb y (1 : Fin 2)).val = 32768 * (t.val - 1) + (y (1 : Fin 2)).val := by
    show (win0 noTables 2).index t (1 : Fin 2) * 32768 + 1 * (y (1 : Fin 2)).val = _
    refine (congrArg (· * 32768 + 1 * (y (1 : Fin 2)).val) h1).trans ?_; omega
  intro v hv
  by_cases hb : v.val < 32768 * (t.val - 1)
  · refine Eq.trans (View.write_of_not_mem _ _ _ fun hm => ?_) (hG v hb)
    obtain ⟨y, hy, e⟩ := Finset.mem_map.1 hm
    have := hemb y
    rw [e] at this
    have e' : v.val = 32768 * (t.val - 1) + (y (1 : Fin 2)).val := this
    omega
  · have hl : v.val - 32768 * (t.val - 1) < 32768 := by omega
    have hvlt := v.isLt
    let y : ((win0 (tables m) 2).xblock (grid0.coords t)).Idx := fun
      | ⟨0, _⟩ => ⟨0, lt_of_lt_of_eq Nat.zero_lt_one hx0.symm⟩
      | ⟨1, _⟩ => ⟨v.val - 32768 * (t.val - 1), lt_of_lt_of_eq (by omega) hx1.symm⟩
    have e : ((win0 (tables m) 2).blk t).view.emb y = (ix2 0 v : S1x1000000.Idx) := by
      funext a
      apply Fin.ext
      match a with
      | ⟨0, _⟩ =>
        show (win0 noTables 2).index t (0 : Fin 2) * 1 + 1 * 0 = 0
        refine (congrArg (· * 1 + 1 * 0) h0).trans ?_; omega
      | ⟨1, _⟩ => refine (hemb y).trans ?_; show 32768 * (t.val - 1) + (v.val - 32768 * (t.val - 1)) = v.val; omega
    rw [← e, View.write_emb_of_mem _ _ (Finset.mem_univ y)]
    have hX' := block_at c hw t ht hX ⟨v.val - 32768 * (t.val - 1), hl⟩ (by dsimp only; omega)
    have hy : (win0 (tables m) 2).xinj (grid0.coords t) y = (ix2 0 ⟨v.val - 32768 * (t.val - 1), hl⟩ : S1x32768.Idx) := by
      funext a
      apply Fin.ext
      match a with
      | ⟨0, _⟩ => rfl
      | ⟨1, _⟩ => rfl
    refine (congrArg X hy).trans (hX'.trans (congrArg (resultAt c hw) (Fin.ext ?_)))
    show 32768 * (t.val - 1) + (v.val - 32768 * (t.val - 1)) = v.val
    omega

/-- After the first `n` points the blocks of all but the first of them are written. -/
theorem done_at (n : Nat) (hn : n ≤ 32) (G : Vec Ideal S1x1000000 .f32) (hG : (dat hw c).ArrAt 2 n G) :
    DoneTo c hw (32768 * (n - 1)) G := by
  induction n generalizing G with
  | zero => intro v hv; omega
  | succ n ih =>
    have hlt : n < 32 := by omega
    have hf := result_flush ⟨n, hlt⟩
    by_cases h0 : n = 0
    · subst h0; intro v hv; omega
    · have hG' : (dat hw c).ArrStep 2 ⟨n, hlt⟩ ((dat hw c).ArrAt 2 n) G := by
        have hs := congrFun ((dat hw c).ArrAt_succ 2 ⟨n, hlt⟩) G
        exact cast (hs.trans (congrFun (if_pos (hf.trans (by simpa using h0))) G)) hG
      obtain ⟨G₀, X, hG₀, ⟨Y, hY, hX⟩, rfl⟩ := hG'
      have hX' : n = 0 ∨ IsBlock hw c ⟨n, hlt⟩ X := hX
      exact done_step c hw ⟨n, hlt⟩ h0 (ih (by omega) G₀ hG₀) (hX'.resolve_left h0)

/-- After the launch the result stands at every lane. -/
theorem result_done {r : PUnit × MemSt nD τ sig (Elt Ideal)}
    (h : RDat.FramePost (cfg0 (tables m)) (dat hw) (V m) r) :
    r.2.mem (c, main_v18) = fun k : S1x1000000.Idx => resultAt c hw (k (1 : Fin 2)) := by
  have hd := done_at c hw 32 le_rfl (r.2.mem (c, main_v18)) ((h c).1 2)
  funext k
  obtain ⟨a, v, rfl⟩ : ∃ (a : Fin 1) (v : Fin 1000000), k = ix2 a v := ⟨k 0, k 1, eq_ix2 k⟩
  obtain rfl : a = 0 := Subsingleton.elim _ _
  exact hd v (by have := v.isLt; omega)

end Cert.Kernel
-- ==== Proof.Reference.lean ====
/- The reference in exact arithmetic, for words that name rows of the table: at every lane the inner product of the words' sum
   with the lane's weights, plus the lane's bias. -/
module

public import proofs.«01_k».proof.Proof.Gen.ReferenceIdeal.Run
public import Idealize.ShloMosaic.Lib.Pointwise
public import Idealize.ShloMosaic.Lib.Pointwise.IndexBridge
public import Idealize.ShloMosaic.Lib.ReduceAll
public import Idealize.ShloMosaic.Lib.Routing.Ops
public import Idealize.ShloMosaic.Lib.Routing.OpsPair

@[expose] public section

noncomputable section

namespace Cert.ReferenceIdeal

open Idealize.ShloMosaic Idealize.ShloMosaic.TcCoe Idealize.SL.Sem
open Cert.ReferenceIdeal.Gen

/-- The words, a negative one wrapped around, as a column. -/
def rowWords (a0 : IVec S200 32) : IVec S200x1 32 :=
  broadcastInDim S200x1 ![0] Facts₀.bcast_S200_S200x1_0
    (select (cmpi .slt a0 (broadcastInDim S200 ![] Facts₀.bcast_S_S200 (constantI S_ 32 0#32)))
      (addi a0 (broadcastInDim S200 ![] Facts₀.bcast_S_S200 (constantI S_ 32 1000000#32))) a0)

/-- Which words name a row of the table. -/
def rowMask (a0 : IVec S200 32) : IVec S200 1 :=
  Host.reduce IntOp.andi (andi (cmpi .sge (rowWords a0) (broadcastInDim S200x1 ![] Facts₀.bcast_S_S200x1 (constantI S_ 32 0#32)))
      (cmpi .sle (rowWords a0) (broadcastInDim S200x1 ![0, 1] Facts₀.bcast_S1x1_S200x1_0_1
        (broadcastInDim S1x1 ![1] Facts₀.bcast_S1_S1x1_1 (constantI S1 32 999999#32)))))
    (constantI S_ 1 1#1) Facts₀.reducesTo_S200x1_S200_d1 Facts₀.h_S_

/-- The rows taken, a NaN where a word names none. -/
def rowsTaken (a0 : IVec S200 32) (a1 : FVec Ideal S1000000x64 .f32) : FVec Ideal S200x64 .f32 :=
  select (broadcastInDim S200x64 ![0] Facts₀.bcast_S200_S200x64_0 (rowMask a0))
    (Host.gather gather_S1000000x64_S200x1_S200x64_1_0_n_n_0_1_164 a1 (rowWords a0))
    (broadcastInDim S200x64 ![] Facts₀.bcast_S_S200x64 (constant (F := Ideal) S_ .f32 0x7FC00000#32))

/-- The reference's result. -/
def output (a0 : IVec S200 32) (a1 a2 : FVec Ideal S1000000x64 .f32) (a3 : FVec Ideal S1000000 .f32) : FVec Ideal S1x1000000 .f32 :=
  addf (Host.dotGeneral dot_S1x64_S64x1000000_S1x1000000_1_0_0_1_n_n none
      (shapeCast S1x64 (Host.reduceAdd (rowsTaken a0 a1) (constant (F := Ideal) S_ .f32 0x00000000#32) Facts₀.reducesTo_S200x64_S64_d0 Facts₀.h_S_)
        Facts₀.shapeCasts_S64_S1x64)
      (transpose S64x1000000 [1, 0] a2 Facts₀.transposes_S1000000x64_S64x1000000_1_0))
    (broadcastInDim S1x1000000 ![1] Facts₀.bcast_S1000000_S1x1000000_1 a3)

/-- The reference runs to its end and leaves that. -/
theorem run_output (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c, main_v6) = output (m (c, main_arg0)) (m (c, main_arg1)) (m (c, main_arg2)) (m (c, main_arg3))
      ∧ r.2.mem (c, main_arg0) = m (c, main_arg0) ∧ r.2.mem (c, main_arg1) = m (c, main_arg1)
      ∧ r.2.mem (c, main_arg2) = m (c, main_arg2) ∧ r.2.mem (c, main_arg3) = m (c, main_arg3) :=
  Value.run (F := Ideal) m ρ

variable (a0 : IVec S200 32) (h : ∀ j : Fin 200, (a0 (ix1 j)).toNat < 1000000)

include h

theorem rowWords_at (j : Fin 200) : rowWords a0 (ix2 j 0) = a0 (ix1 j) := by
  unfold rowWords; pointwise
  exact Routing.wrap_of_lt _ _ (by have := h j; show _ < 2147483648; omega)

theorem rowMask_at (j : Fin 200) : rowMask a0 (ix1 j) = 1#1 := by
  unfold rowMask
  refine Host.reduce_andi_one _ _ _ _ _ rfl fun k => ?_
  obtain ⟨j', z, rfl⟩ : ∃ (j' : Fin 200) (z : Fin 1), k = ix2 j' z := ⟨k 0, k 1, eq_ix2 k⟩
  obtain rfl : z = 0 := Subsingleton.elim _ _
  have hj := h j'
  pointwise
  rw [rowWords_at a0 h, IntOp.andi_eq_one, IntOp.cmpi_sge, IntOp.cmpi_sle, WordCmp.toInt_eq_toNat_of_lt_half (x := a0 (ix1 j')) (by show _ < 2147483648; omega)]
  rw [show (0#32 : BitVec 32).toInt = 0 by decide, show (999999#32 : BitVec 32).toInt = 999999 by decide]
  omega

theorem rowsTaken_at (a1 : FVec Ideal S1000000x64 .f32) (j : Fin 200) (e : Fin 64) :
    rowsTaken a0 a1 (ix2 j e) = a1 (ix2 ⟨(a0 (ix1 j)).toNat, h j⟩ e) := by
  have hm : broadcastInDim S200x64 ![0] Facts₀.bcast_S200_S200x64_0 (rowMask a0) (ix2 j e) = 1#1 := by
    pointwise; exact rowMask_at a0 h j
  unfold rowsTaken
  show Scalar.select (broadcastInDim S200x64 ![0] Facts₀.bcast_S200_S200x64_0 (rowMask a0) (ix2 j e)) _ _ = _
  rw [hm]
  show Host.gather gather_S1000000x64_S200x1_S200x64_1_0_n_n_0_1_164 a1 (rowWords a0) (ix2 j e) = _
  rw [ix2_eq_valueIdx, ix2_eq_valueIdx]
  refine Routing.gather_row _ rfl rfl rfl rfl rfl a1 (rowWords a0) j e ⟨(a0 (ix1 j)).toNat, h j⟩ ?_ (by decide)
  rw [← ix2_eq_valueIdx, rowWords_at a0 h]
  simp

/-- The reference's result, lane by lane. -/
theorem output_at (a1 a2 : FVec Ideal S1000000x64 .f32) (a3 : FVec Ideal S1000000 .f32) (v : Fin 1000000) :
    output a0 a1 a2 a3 (ix2 0 v)
      = (∑ e : Fin 64, (∑ j : Fin 200, (a1 (ix2 ⟨(a0 (ix1 j)).toNat, h j⟩ e) : EReal)) * a2 (ix2 v e)) + a3 (ix1 v) := by
  unfold output
  pointwise
  simp only [rowsTaken_at a0 h]

end Cert.ReferenceIdeal
-- ==== Proof.Value.lean ====
/- The kernel in exact arithmetic and the reference end in the same array, lane by lane. -/
module

public import proofs.«01_k».proof.Proof.Result
public import proofs.«01_k».proof.Proof.Reference
public import proofs.«01_k».proof.Proof.Transfer

@[expose] public section

noncomputable section

namespace Cert

open Idealize.ShloMosaic Idealize.ShloMosaic.TcCoe Idealize.SL.Sem

/-- The kernel's lanes are the reference's, from the same arguments. -/
theorem lanes_agree {m : (ℓ : Loc Kernel.nD Kernel.τ Kernel.sig) → Buf (Elt Ideal) ℓ} (c : Dev Kernel.nD) (hw : Kernel.WordsOk m) :
    ReferenceIdeal.output (m (c, Kernel.main_arg0)) (m (c, Kernel.main_arg1)) (m (c, Kernel.main_arg2)) (m (c, Kernel.main_arg3))
      = fun k : Kernel.S1x1000000.Idx => Kernel.resultAt c hw (k (1 : Fin 2)) := by
  have h (j : Fin 200) : ((m (c, Kernel.main_arg0) : IVec Kernel.S200 32) (ix1 j)).toNat < 1000000 := by
    rw [Kernel.word_at m c j]; have := hw c j; omega
  funext k
  obtain ⟨z, v, rfl⟩ : ∃ (z : Fin 1) (v : Fin 1000000), k = ix2 z v := ⟨k 0, k 1, eq_ix2 k⟩
  obtain rfl : z = 0 := Subsingleton.elim _ _
  refine (ReferenceIdeal.output_at _ h _ _ _ v).trans (congrArg₂ (· + ·) (Finset.sum_congr rfl fun e _ => congrArg₂ (· * ·)
    (Finset.sum_congr rfl fun j _ => ?_) rfl) rfl)
  have hr : (⟨((m (c, Kernel.main_arg0) : IVec Kernel.S200 32) (ix1 j)).toNat, h j⟩ : Fin 1000000) = Kernel.rowOf c hw j := by
    apply Fin.ext
    show BitVec.toNat _ = (Kernel.wordAt m c j).toNat
    exact congrArg BitVec.toNat (Kernel.word_at m c j)
  exact congrArg (fun w => Kernel.tableAt m c w e) hr

/-- The kernel and the reference at exact numbers, from words in range and the same arguments. -/
def SameExact : Prop :=
  ∀ (m : (ℓ : Loc Kernel.nD Kernel.τ Kernel.sig) → Buf (Elt Ideal) ℓ) (g : Dev Kernel.nD → PrngReg)
    (m' : (ℓ : Loc ReferenceIdeal.nD ReferenceIdeal.τ ReferenceIdeal.sig) → Buf (Elt Ideal) ℓ) (g' : Dev ReferenceIdeal.nD → PrngReg),
    (∀ c : Dev Kernel.nD, Cert.Pre_words_in_range.fn (F := Ideal) (m ((c.tc : Thread Kernel.nD Kernel.τ).loc Kernel.main_arg0))
      (m ((c.tc : Thread Kernel.nD Kernel.τ).loc Kernel.main_arg1)) (m ((c.tc : Thread Kernel.nD Kernel.τ).loc Kernel.main_arg2))
      (m ((c.tc : Thread Kernel.nD Kernel.τ).loc Kernel.main_arg3)) = (fun _ => 1#1)) →
    (∀ c : Dev Kernel.nD,
      m' ((c.tc : Thread ReferenceIdeal.nD ReferenceIdeal.τ).loc ReferenceIdeal.main_arg0) = m ((c.tc : Thread Kernel.nD Kernel.τ).loc Kernel.main_arg0)
      ∧ m' ((c.tc : Thread ReferenceIdeal.nD ReferenceIdeal.τ).loc ReferenceIdeal.main_arg1) = m ((c.tc : Thread Kernel.nD Kernel.τ).loc Kernel.main_arg1)
      ∧ m' ((c.tc : Thread ReferenceIdeal.nD ReferenceIdeal.τ).loc ReferenceIdeal.main_arg2) = m ((c.tc : Thread Kernel.nD Kernel.τ).loc Kernel.main_arg2)
      ∧ m' ((c.tc : Thread ReferenceIdeal.nD ReferenceIdeal.τ).loc ReferenceIdeal.main_arg3) = m ((c.tc : Thread Kernel.nD Kernel.τ).loc Kernel.main_arg3)) →
    ∃ (v0 : (c : Dev Kernel.nD) → Buf (Elt Ideal) ((c.tc : Thread Kernel.nD Kernel.τ).loc Kernel.main_v18)),
      θ_run (Kernel.defs (F := Ideal)) (onTc (τ := Kernel.τ) (Kernel.main (F := Ideal))) ⟨m, fun _ => 0, g⟩ (fun r => ∀ c : Dev Kernel.nD,
          r.2.mem ((c.tc : Thread Kernel.nD Kernel.τ).loc Kernel.main_v18) = v0 c
          ∧ r.2.mem ((c.tc : Thread Kernel.nD Kernel.τ).loc Kernel.main_arg0) = m ((c.tc : Thread Kernel.nD Kernel.τ).loc Kernel.main_arg0)
          ∧ r.2.mem ((c.tc : Thread Kernel.nD Kernel.τ).loc Kernel.main_arg1) = m ((c.tc : Thread Kernel.nD Kernel.τ).loc Kernel.main_arg1)
          ∧ r.2.mem ((c.tc : Thread Kernel.nD Kernel.τ).loc Kernel.main_arg2) = m ((c.tc : Thread Kernel.nD Kernel.τ).loc Kernel.main_arg2)
          ∧ r.2.mem ((c.tc : Thread Kernel.nD Kernel.τ).loc Kernel.main_arg3) = m ((c.tc : Thread Kernel.nD Kernel.τ).loc Kernel.main_arg3))
      ∧ θ_run (ReferenceIdeal.defs (F := Ideal)) (onTc (τ := ReferenceIdeal.τ) (ReferenceIdeal.main (F := Ideal))) ⟨m', fun _ => 0, g'⟩ (fun r => ∀ c : Dev ReferenceIdeal.nD,
          r.2.mem ((c.tc : Thread ReferenceIdeal.nD ReferenceIdeal.τ).loc ReferenceIdeal.main_v6) = v0 c
          ∧ r.2.mem ((c.tc : Thread ReferenceIdeal.nD ReferenceIdeal.τ).loc ReferenceIdeal.main_arg0) = m' ((c.tc : Thread ReferenceIdeal.nD ReferenceIdeal.τ).loc ReferenceIdeal.main_arg0)
          ∧ r.2.mem ((c.tc : Thread ReferenceIdeal.nD ReferenceIdeal.τ).loc ReferenceIdeal.main_arg1) = m' ((c.tc : Thread ReferenceIdeal.nD ReferenceIdeal.τ).loc ReferenceIdeal.main_arg1)
          ∧ r.2.mem ((c.tc : Thread ReferenceIdeal.nD ReferenceIdeal.τ).loc ReferenceIdeal.main_arg2) = m' ((c.tc : Thread ReferenceIdeal.nD ReferenceIdeal.τ).loc ReferenceIdeal.main_arg2)
          ∧ r.2.mem ((c.tc : Thread ReferenceIdeal.nD ReferenceIdeal.τ).loc ReferenceIdeal.main_arg3) = m' ((c.tc : Thread ReferenceIdeal.nD ReferenceIdeal.τ).loc ReferenceIdeal.main_arg3))

set_option maxRecDepth 1000000 in
theorem sameExact_eq : SameExact = @algebraic_KernelIdeal_ReferenceIdeal Cert.KernelIdeal.Gen.facts Cert.ReferenceIdeal.Gen.facts
    Cert.Pre_words_in_range.Gen.facts := by chain_rfl

theorem same_exact : SameExact := by
  intro m g m' g' hpre hargs
  have hw := Kernel.words_ok m hpre
  refine ⟨fun c => fun k : Kernel.S1x1000000.Idx => Kernel.resultAt c hw (k (1 : Fin 2)), ?_, ?_⟩
  · exact (θ_run Kernel.defs _ _).mono (fun r hr c => ⟨Kernel.result_done c hw hr.1, Kernel.args_kept hr.1 c⟩) (Kernel.run_kernel g hw)
  · refine (θ_run ReferenceIdeal.defs _ _).mono (fun r hr c => ⟨(hr c).1.trans ?_, (hr c).2⟩) (ReferenceIdeal.run_output m' g')
    obtain ⟨h0, h1, h2, h3⟩ := hargs c
    refine Eq.trans ?_ (lanes_agree c hw)
    exact congr (congr (congr (congrArg ReferenceIdeal.output h0) h1) h2) h3

theorem algebraic_proved : @algebraic_KernelIdeal_ReferenceIdeal Cert.KernelIdeal.Gen.facts Cert.ReferenceIdeal.Gen.facts
    Cert.Pre_words_in_range.Gen.facts := sameExact_eq ▸ same_exact

end Cert
-- ==== Proof.lean ====
module

public import proofs.«01_k».proof.Defs
public import proofs.«01_k».proof.Proof.Transfer
public import proofs.«01_k».proof.Proof.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference's frame: it launches nothing and has no semaphore. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_words_in_range.Gen.facts,
  frame_kernel, frame_ideal, frame_reference, fun m g _ => frame_reference m g trivial, trivial, algebraic_proved⟩

end Cert.Proof

end
